-- ==== Defs.lean ====
def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdRefIdeal (m : (ℓ : Loc Cert.ScBwdRefIdeal.nD Cert.ScBwdRefIdeal.τ Cert.ScBwdRefIdeal.sig) → Buf (Elt Ideal) ℓ) : Prop :=
  True

def Pre_SsdInBwd (m : (ℓ : Loc Cert.SsdInBwd.nD Cert.SsdInBwd.τ Cert.SsdInBwd.sig) → Buf (Elt Bits) ℓ) : Prop :=
  True

def Pre_SsdInBwdIdeal (m : (ℓ : Loc Cert.SsdInBwdIdeal.nD Cert.SsdInBwdIdeal.τ Cert.SsdInBwdIdeal.sig) → Buf (Elt Ideal) ℓ) : Prop :=
  True

def Pre_SsdInBwdRefIdeal (m : (ℓ : Loc Cert.SsdInBwdRefIdeal.nD Cert.SsdInBwdRefIdeal.τ Cert.SsdInBwdRefIdeal.sig) → Buf (Elt Ideal) ℓ) : Prop :=
  True

def Pre_SsdOutBwd (m : (ℓ : Loc Cert.SsdOutBwd.nD Cert.SsdOutBwd.τ Cert.SsdOutBwd.sig) → Buf (Elt Bits) ℓ) : Prop :=
  True

def Pre_SsdOutBwdIdeal (m : (ℓ : Loc Cert.SsdOutBwdIdeal.nD Cert.SsdOutBwdIdeal.τ Cert.SsdOutBwdIdeal.sig) → Buf (Elt Ideal) ℓ) : Prop :=
  True

def Pre_SsdOutBwdRefIdeal (m : (ℓ : Loc Cert.SsdOutBwdRefIdeal.nD Cert.SsdOutBwdRefIdeal.τ Cert.SsdOutBwdRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_SsdInFwd (m : (ℓ : Loc Cert.SsdInFwd.nD Cert.SsdInFwd.τ Cert.SsdInFwd.sig) → Buf (Elt Bits) ℓ) : Prop :=
  True

def Pre_SsdInFwdIdeal (m : (ℓ : Loc Cert.SsdInFwdIdeal.nD Cert.SsdInFwdIdeal.τ Cert.SsdInFwdIdeal.sig) → Buf (Elt Ideal) ℓ) : Prop :=
  True

def Pre_SsdInFwdRefIdeal (m : (ℓ : Loc Cert.SsdInFwdRefIdeal.nD Cert.SsdInFwdRefIdeal.τ Cert.SsdInFwdRefIdeal.sig) → Buf (Elt Ideal) ℓ) : Prop :=
  True

def Pre_SsdOutFwd (m : (ℓ : Loc Cert.SsdOutFwd.nD Cert.SsdOutFwd.τ Cert.SsdOutFwd.sig) → Buf (Elt Bits) ℓ) : Prop :=
  True

def Pre_SsdOutFwdIdeal (m : (ℓ : Loc Cert.SsdOutFwdIdeal.nD Cert.SsdOutFwdIdeal.τ Cert.SsdOutFwdIdeal.sig) → Buf (Elt Ideal) ℓ) : Prop :=
  True

def Pre_SsdOutFwdRefIdeal (m : (ℓ : Loc Cert.SsdOutFwdRefIdeal.nD Cert.SsdOutFwdRefIdeal.τ Cert.SsdOutFwdRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamMat (m : (ℓ : Loc Cert.AdamMat.nD Cert.AdamMat.τ Cert.AdamMat.sig) → Buf (Elt Bits) ℓ) : Prop :=
  True

def Pre_AdamMatIdeal (m : (ℓ : Loc Cert.AdamMatIdeal.nD Cert.AdamMatIdeal.τ Cert.AdamMatIdeal.sig) → Buf (Elt Ideal) ℓ) : Prop :=
  True

def Pre_AdamMatRefIdeal (m : (ℓ : Loc Cert.AdamMatRefIdeal.nD Cert.AdamMatRefIdeal.τ Cert.AdamMatRefIdeal.sig) → Buf (Elt Ideal) ℓ) : Prop :=
  True

def Pre_AdamSsdIn (m : (ℓ : Loc Cert.AdamSsdIn.nD Cert.AdamSsdIn.τ Cert.AdamSsdIn.sig) → Buf (Elt Bits) ℓ) : Prop :=
  True

def Pre_AdamSsdInIdeal (m : (ℓ : Loc Cert.AdamSsdInIdeal.nD Cert.AdamSsdInIdeal.τ Cert.AdamSsdInIdeal.sig) → Buf (Elt Ideal) ℓ) : Prop :=
  True

def Pre_AdamSsdInRefIdeal (m : (ℓ : Loc Cert.AdamSsdInRefIdeal.nD Cert.AdamSsdInRefIdeal.τ Cert.AdamSsdInRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2)
      ∧ r.2.mem ((c.tc : Thread Cert.ScBwd.nD Cert.ScBwd.τ).loc Cert.ScBwd.main_arg3) = m ((c.tc : Thread Cert.ScBwd.nD Cert.ScBwd.τ).loc Cert.ScBwd.main_arg3)
      ∧ r.2.mem ((c.tc : Thread Cert.ScBwd.nD Cert.ScBwd.τ).loc Cert.ScBwd.main_arg4) = m ((c.tc : Thread Cert.ScBwd.nD Cert.ScBwd.τ).loc Cert.ScBwd.main_arg4))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
      ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3)
      ∧ r.2.mem ((c.tc : Thread Cert.ScBwdIdeal.nD Cert.ScBwdIdeal.τ).loc Cert.ScBwdIdeal.main_arg4) = m ((c.tc : Thread Cert.ScBwdIdeal.nD Cert.ScBwdIdeal.τ).loc Cert.ScBwdIdeal.main_arg4))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2)
      ∧ r.2.mem ((c.tc : Thread Cert.ScBwdRefIdeal.nD Cert.ScBwdRefIdeal.τ).loc Cert.ScBwdRefIdeal.main_arg3) = m ((c.tc : Thread Cert.ScBwdRefIdeal.nD Cert.ScBwdRefIdeal.τ).loc Cert.ScBwdRefIdeal.main_arg3)
      ∧ r.2.mem ((c.tc : Thread Cert.ScBwdRefIdeal.nD Cert.ScBwdRefIdeal.τ).loc Cert.ScBwdRefIdeal.main_arg4) = m ((c.tc : Thread Cert.ScBwdRefIdeal.nD Cert.ScBwdRefIdeal.τ).loc Cert.ScBwdRefIdeal.main_arg4))
      ∧ r.2.sem = fun _ => 0)

def quiescent_SsdInBwd [hSsdInBwd : Cert.SsdInBwd.Facts] : Prop :=
  ∀ (m : (ℓ : Loc Cert.SsdInBwd.nD Cert.SsdInBwd.τ Cert.SsdInBwd.sig) → Buf (Elt Bits) ℓ) (g : Dev Cert.SsdInBwd.nD → PrngReg), Pre_SsdInBwd m →
    θ_run (Cert.SsdInBwd.defs (F := Bits)) (onTc (τ := Cert.SsdInBwd.τ) (Cert.SsdInBwd.main (F := Bits))) ⟨m, fun _ => 0, g⟩ (fun r => (∀ c : Dev Cert.SsdInBwd.nD,
      r.2.mem ((c.tc : Thread Cert.SsdInBwd.nD Cert.SsdInBwd.τ).loc Cert.SsdInBwd.main_arg0) = m ((c.tc : Thread Cert.SsdInBwd.nD Cert.SsdInBwd.τ).loc Cert.SsdInBwd.main_arg0)
      ∧ r.2.mem ((c.tc : Thread Cert.SsdInBwd.nD Cert.SsdInBwd.τ).loc Cert.SsdInBwd.main_arg1) = m ((c.tc : Thread Cert.SsdInBwd.nD Cert.SsdInBwd.τ).loc Cert.SsdInBwd.main_arg1)
      ∧ r.2.mem ((c.tc : Thread Cert.SsdInBwd.nD Cert.SsdInBwd.τ).loc Cert.SsdInBwd.main_arg2) = m ((c.tc : Thread Cert.SsdInBwd.nD Cert.SsdInBwd.τ).loc Cert.SsdInBwd.main_arg2)
      ∧ r.2.mem ((c.tc : Thread Cert.SsdInBwd.nD Cert.SsdInBwd.τ).loc Cert.SsdInBwd.main_arg3) = m ((c.tc : Thread Cert.SsdInBwd.nD Cert.SsdInBwd.τ).loc Cert.SsdInBwd.main_arg3))
      ∧ r.2.sem = fun _ => 0)

def quiescent_SsdInBwdIdeal [hSsdInBwdIdeal : Cert.SsdInBwdIdeal.Facts] : Prop :=
  ∀ (m : (ℓ : Loc Cert.SsdInBwdIdeal.nD Cert.SsdInBwdIdeal.τ Cert.SsdInBwdIdeal.sig) → Buf (Elt Ideal) ℓ) (g : Dev Cert.SsdInBwdIdeal.nD → PrngReg), Pre_SsdInBwdIdeal m →
    θ_run (Cert.SsdInBwdIdeal.defs (F := Ideal)) (onTc (τ := Cert.SsdInBwdIdeal.τ) (Cert.SsdInBwdIdeal.main (F := Ideal))) ⟨m, fun _ => 0, g⟩ (fun r => (∀ c : Dev Cert.SsdInBwdIdeal.nD,
      r.2.mem ((c.tc : Thread Cert.SsdInBwdIdeal.nD Cert.SsdInBwdIdeal.τ).loc Cert.SsdInBwdIdeal.main_arg0) = m ((c.tc : Thread Cert.SsdInBwdIdeal.nD Cert.SsdInBwdIdeal.τ).loc Cert.SsdInBwdIdeal.main_arg0)
      ∧ r.2.mem ((c.tc : Thread Cert.SsdInBwdIdeal.nD Cert.SsdInBwdIdeal.τ).loc Cert.SsdInBwdIdeal.main_arg1) = m ((c.tc : Thread Cert.SsdInBwdIdeal.nD Cert.SsdInBwdIdeal.τ).loc Cert.SsdInBwdIdeal.main_arg1)
      ∧ r.2.mem ((c.tc : Thread Cert.SsdInBwdIdeal.nD Cert.SsdInBwdIdeal.τ).loc Cert.SsdInBwdIdeal.main_arg2) = m ((c.tc : Thread Cert.SsdInBwdIdeal.nD Cert.SsdInBwdIdeal.τ).loc Cert.SsdInBwdIdeal.main_arg2)
      ∧ r.2.mem ((c.tc : Thread Cert.SsdInBwdIdeal.nD Cert.SsdInBwdIdeal.τ).loc Cert.SsdInBwdIdeal.main_arg3) = m ((c.tc : Thread Cert.SsdInBwdIdeal.nD Cert.SsdInBwdIdeal.τ).loc Cert.SsdInBwdIdeal.main_arg3))
      ∧ r.2.sem = fun _ => 0)

def quiescent_SsdInBwdRefIdeal [hSsdInBwdRefIdeal : Cert.SsdInBwdRefIdeal.Facts] : Prop :=
  ∀ (m : (ℓ : Loc Cert.SsdInBwdRefIdeal.nD Cert.SsdInBwdRefIdeal.τ Cert.SsdInBwdRefIdeal.sig) → Buf (Elt Ideal) ℓ) (g : Dev Cert.SsdInBwdRefIdeal.nD → PrngReg), Pre_SsdInBwdRefIdeal m →
    θ_run (Cert.SsdInBwdRefIdeal.defs (F := Ideal)) (onTc (τ := Cert.SsdInBwdRefIdeal.τ) (Cert.SsdInBwdRefIdeal.main (F := Ideal))) ⟨m, fun _ => 0, g⟩ (fun r => (∀ c : Dev Cert.SsdInBwdRefIdeal.nD,
      r.2.mem ((c.tc : Thread Cert.SsdInBwdRefIdeal.nD Cert.SsdInBwdRefIdeal.τ).loc Cert.SsdInBwdRefIdeal.main_arg0) = m ((c.tc : Thread Cert.SsdInBwdRefIdeal.nD Cert.SsdInBwdRefIdeal.τ).loc Cert.SsdInBwdRefIdeal.main_arg0)
      ∧ r.2.mem ((c.tc : Thread Cert.SsdInBwdRefIdeal.nD Cert.SsdInBwdRefIdeal.τ).loc Cert.SsdInBwdRefIdeal.main_arg1) = m ((c.tc : Thread Cert.SsdInBwdRefIdeal.nD Cert.SsdInBwdRefIdeal.τ).loc Cert.SsdInBwdRefIdeal.main_arg1)
      ∧ r.2.mem ((c.tc : Thread Cert.SsdInBwdRefIdeal.nD Cert.SsdInBwdRefIdeal.τ).loc Cert.SsdInBwdRefIdeal.main_arg2) = m ((c.tc : Thread Cert.SsdInBwdRefIdeal.nD Cert.SsdInBwdRefIdeal.τ).loc Cert.SsdInBwdRefIdeal.main_arg2)
      ∧ r.2.mem ((c.tc : Thread Cert.SsdInBwdRefIdeal.nD Cert.SsdInBwdRefIdeal.τ).loc Cert.SsdInBwdRefIdeal.main_arg3) = m ((c.tc : Thread Cert.SsdInBwdRefIdeal.nD Cert.SsdInBwdRefIdeal.τ).loc Cert.SsdInBwdRefIdeal.main_arg3))
      ∧ r.2.sem = fun _ => 0)

def quiescent_SsdOutBwd [hSsdOutBwd : Cert.SsdOutBwd.Facts] : Prop :=
  ∀ (m : (ℓ : Loc Cert.SsdOutBwd.nD Cert.SsdOutBwd.τ Cert.SsdOutBwd.sig) → Buf (Elt Bits) ℓ) (g : Dev Cert.SsdOutBwd.nD → PrngReg), Pre_SsdOutBwd m →
    θ_run (Cert.SsdOutBwd.defs (F := Bits)) (onTc (τ := Cert.SsdOutBwd.τ) (Cert.SsdOutBwd.main (F := Bits))) ⟨m, fun _ => 0, g⟩ (fun r => (∀ c : Dev Cert.SsdOutBwd.nD,
      r.2.mem ((c.tc : Thread Cert.SsdOutBwd.nD Cert.SsdOutBwd.τ).loc Cert.SsdOutBwd.main_arg0) = m ((c.tc : Thread Cert.SsdOutBwd.nD Cert.SsdOutBwd.τ).loc Cert.SsdOutBwd.main_arg0)
      ∧ r.2.mem ((c.tc : Thread Cert.SsdOutBwd.nD Cert.SsdOutBwd.τ).loc Cert.SsdOutBwd.main_arg1) = m ((c.tc : Thread Cert.SsdOutBwd.nD Cert.SsdOutBwd.τ).loc Cert.SsdOutBwd.main_arg1)
      ∧ r.2.mem ((c.tc : Thread Cert.SsdOutBwd.nD Cert.SsdOutBwd.τ).loc Cert.SsdOutBwd.main_arg2) = m ((c.tc : Thread Cert.SsdOutBwd.nD Cert.SsdOutBwd.τ).loc Cert.SsdOutBwd.main_arg2))
      ∧ r.2.sem = fun _ => 0)

def quiescent_SsdOutBwdIdeal [hSsdOutBwdIdeal : Cert.SsdOutBwdIdeal.Facts] : Prop :=
  ∀ (m : (ℓ : Loc Cert.SsdOutBwdIdeal.nD Cert.SsdOutBwdIdeal.τ Cert.SsdOutBwdIdeal.sig) → Buf (Elt Ideal) ℓ) (g : Dev Cert.SsdOutBwdIdeal.nD → PrngReg), Pre_SsdOutBwdIdeal m →
    θ_run (Cert.SsdOutBwdIdeal.defs (F := Ideal)) (onTc (τ := Cert.SsdOutBwdIdeal.τ) (Cert.SsdOutBwdIdeal.main (F := Ideal))) ⟨m, fun _ => 0, g⟩ (fun r => (∀ c : Dev Cert.SsdOutBwdIdeal.nD,
      r.2.mem ((c.tc : Thread Cert.SsdOutBwdIdeal.nD Cert.SsdOutBwdIdeal.τ).loc Cert.SsdOutBwdIdeal.main_arg0) = m ((c.tc : Thread Cert.SsdOutBwdIdeal.nD Cert.SsdOutBwdIdeal.τ).loc Cert.SsdOutBwdIdeal.main_arg0)
      ∧ r.2.mem ((c.tc : Thread Cert.SsdOutBwdIdeal.nD Cert.SsdOutBwdIdeal.τ).loc Cert.SsdOutBwdIdeal.main_arg1) = m ((c.tc : Thread Cert.SsdOutBwdIdeal.nD Cert.SsdOutBwdIdeal.τ).loc Cert.SsdOutBwdIdeal.main_arg1)
      ∧ r.2.mem ((c.tc : Thread Cert.SsdOutBwdIdeal.nD Cert.SsdOutBwdIdeal.τ).loc Cert.SsdOutBwdIdeal.main_arg2) = m ((c.tc : Thread Cert.SsdOutBwdIdeal.nD Cert.SsdOutBwdIdeal.τ).loc Cert.SsdOutBwdIdeal.main_arg2))
      ∧ r.2.sem = fun _ => 0)

def quiescent_SsdOutBwdRefIdeal [hSsdOutBwdRefIdeal : Cert.SsdOutBwdRefIdeal.Facts] : Prop :=
  ∀ (m : (ℓ : Loc Cert.SsdOutBwdRefIdeal.nD Cert.SsdOutBwdRefIdeal.τ Cert.SsdOutBwdRefIdeal.sig) → Buf (Elt Ideal) ℓ) (g : Dev Cert.SsdOutBwdRefIdeal.nD → PrngReg), Pre_SsdOutBwdRefIdeal m →
    θ_run (Cert.SsdOutBwdRefIdeal.defs (F := Ideal)) (onTc (τ := Cert.SsdOutBwdRefIdeal.τ) (Cert.SsdOutBwdRefIdeal.main (F := Ideal))) ⟨m, fun _ => 0, g⟩ (fun r => (∀ c : Dev Cert.SsdOutBwdRefIdeal.nD,
      r.2.mem ((c.tc : Thread Cert.SsdOutBwdRefIdeal.nD Cert.SsdOutBwdRefIdeal.τ).loc Cert.SsdOutBwdRefIdeal.main_arg0) = m ((c.tc : Thread Cert.SsdOutBwdRefIdeal.nD Cert.SsdOutBwdRefIdeal.τ).loc Cert.SsdOutBwdRefIdeal.main_arg0)
      ∧ r.2.mem ((c.tc : Thread Cert.SsdOutBwdRefIdeal.nD Cert.SsdOutBwdRefIdeal.τ).loc Cert.SsdOutBwdRefIdeal.main_arg1) = m ((c.tc : Thread Cert.SsdOutBwdRefIdeal.nD Cert.SsdOutBwdRefIdeal.τ).loc Cert.SsdOutBwdRefIdeal.main_arg1)
      ∧ r.2.mem ((c.tc : Thread Cert.SsdOutBwdRefIdeal.nD Cert.SsdOutBwdRefIdeal.τ).loc Cert.SsdOutBwdRefIdeal.main_arg2) = m ((c.tc : Thread Cert.SsdOutBwdRefIdeal.nD Cert.SsdOutBwdRefIdeal.τ).loc Cert.SsdOutBwdRefIdeal.main_arg2))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1)
      ∧ r.2.mem ((c.tc : Thread Cert.ScFwd.nD Cert.ScFwd.τ).loc Cert.ScFwd.main_arg2) = m ((c.tc : Thread Cert.ScFwd.nD Cert.ScFwd.τ).loc Cert.ScFwd.main_arg2)
      ∧ r.2.mem ((c.tc : Thread Cert.ScFwd.nD Cert.ScFwd.τ).loc Cert.ScFwd.main_arg3) = m ((c.tc : Thread Cert.ScFwd.nD Cert.ScFwd.τ).loc Cert.ScFwd.main_arg3)
      ∧ r.2.mem ((c.tc : Thread Cert.ScFwd.nD Cert.ScFwd.τ).loc Cert.ScFwd.main_arg4) = m ((c.tc : Thread Cert.ScFwd.nD Cert.ScFwd.τ).loc Cert.ScFwd.main_arg4)
      ∧ r.2.mem ((c.tc : Thread Cert.ScFwd.nD Cert.ScFwd.τ).loc Cert.ScFwd.main_arg5) = m ((c.tc : Thread Cert.ScFwd.nD Cert.ScFwd.τ).loc Cert.ScFwd.main_arg5))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
      ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2)
      ∧ r.2.mem ((c.tc : Thread Cert.ScFwdIdeal.nD Cert.ScFwdIdeal.τ).loc Cert.ScFwdIdeal.main_arg3) = m ((c.tc : Thread Cert.ScFwdIdeal.nD Cert.ScFwdIdeal.τ).loc Cert.ScFwdIdeal.main_arg3)
      ∧ r.2.mem ((c.tc : Thread Cert.ScFwdIdeal.nD Cert.ScFwdIdeal.τ).loc Cert.ScFwdIdeal.main_arg4) = m ((c.tc : Thread Cert.ScFwdIdeal.nD Cert.ScFwdIdeal.τ).loc Cert.ScFwdIdeal.main_arg4)
      ∧ r.2.mem ((c.tc : Thread Cert.ScFwdIdeal.nD Cert.ScFwdIdeal.τ).loc Cert.ScFwdIdeal.main_arg5) = m ((c.tc : Thread Cert.ScFwdIdeal.nD Cert.ScFwdIdeal.τ).loc Cert.ScFwdIdeal.main_arg5))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1)
      ∧ r.2.mem ((c.tc : Thread Cert.ScFwdRefIdeal.nD Cert.ScFwdRefIdeal.τ).loc Cert.ScFwdRefIdeal.main_arg2) = m ((c.tc : Thread Cert.ScFwdRefIdeal.nD Cert.ScFwdRefIdeal.τ).loc Cert.ScFwdRefIdeal.main_arg2)
      ∧ r.2.mem ((c.tc : Thread Cert.ScFwdRefIdeal.nD Cert.ScFwdRefIdeal.τ).loc Cert.ScFwdRefIdeal.main_arg3) = m ((c.tc : Thread Cert.ScFwdRefIdeal.nD Cert.ScFwdRefIdeal.τ).loc Cert.ScFwdRefIdeal.main_arg3)
      ∧ r.2.mem ((c.tc : Thread Cert.ScFwdRefIdeal.nD Cert.ScFwdRefIdeal.τ).loc Cert.ScFwdRefIdeal.main_arg4) = m ((c.tc : Thread Cert.ScFwdRefIdeal.nD Cert.ScFwdRefIdeal.τ).loc Cert.ScFwdRefIdeal.main_arg4)
      ∧ r.2.mem ((c.tc : Thread Cert.ScFwdRefIdeal.nD Cert.ScFwdRefIdeal.τ).loc Cert.ScFwdRefIdeal.main_arg5) = m ((c.tc : Thread Cert.ScFwdRefIdeal.nD Cert.ScFwdRefIdeal.τ).loc Cert.ScFwdRefIdeal.main_arg5))
      ∧ r.2.sem = fun _ => 0)

def quiescent_SsdInFwd [hSsdInFwd : Cert.SsdInFwd.Facts] : Prop :=
  ∀ (m : (ℓ : Loc Cert.SsdInFwd.nD Cert.SsdInFwd.τ Cert.SsdInFwd.sig) → Buf (Elt Bits) ℓ) (g : Dev Cert.SsdInFwd.nD → PrngReg), Pre_SsdInFwd m →
    θ_run (Cert.SsdInFwd.defs (F := Bits)) (onTc (τ := Cert.SsdInFwd.τ) (Cert.SsdInFwd.main (F := Bits))) ⟨m, fun _ => 0, g⟩ (fun r => (∀ c : Dev Cert.SsdInFwd.nD,
      r.2.mem ((c.tc : Thread Cert.SsdInFwd.nD Cert.SsdInFwd.τ).loc Cert.SsdInFwd.main_arg0) = m ((c.tc : Thread Cert.SsdInFwd.nD Cert.SsdInFwd.τ).loc Cert.SsdInFwd.main_arg0)
      ∧ r.2.mem ((c.tc : Thread Cert.SsdInFwd.nD Cert.SsdInFwd.τ).loc Cert.SsdInFwd.main_arg1) = m ((c.tc : Thread Cert.SsdInFwd.nD Cert.SsdInFwd.τ).loc Cert.SsdInFwd.main_arg1))
      ∧ r.2.sem = fun _ => 0)

def quiescent_SsdInFwdIdeal [hSsdInFwdIdeal : Cert.SsdInFwdIdeal.Facts] : Prop :=
  ∀ (m : (ℓ : Loc Cert.SsdInFwdIdeal.nD Cert.SsdInFwdIdeal.τ Cert.SsdInFwdIdeal.sig) → Buf (Elt Ideal) ℓ) (g : Dev Cert.SsdInFwdIdeal.nD → PrngReg), Pre_SsdInFwdIdeal m →
    θ_run (Cert.SsdInFwdIdeal.defs (F := Ideal)) (onTc (τ := Cert.SsdInFwdIdeal.τ) (Cert.SsdInFwdIdeal.main (F := Ideal))) ⟨m, fun _ => 0, g⟩ (fun r => (∀ c : Dev Cert.SsdInFwdIdeal.nD,
      r.2.mem ((c.tc : Thread Cert.SsdInFwdIdeal.nD Cert.SsdInFwdIdeal.τ).loc Cert.SsdInFwdIdeal.main_arg0) = m ((c.tc : Thread Cert.SsdInFwdIdeal.nD Cert.SsdInFwdIdeal.τ).loc Cert.SsdInFwdIdeal.main_arg0)
      ∧ r.2.mem ((c.tc : Thread Cert.SsdInFwdIdeal.nD Cert.SsdInFwdIdeal.τ).loc Cert.SsdInFwdIdeal.main_arg1) = m ((c.tc : Thread Cert.SsdInFwdIdeal.nD Cert.SsdInFwdIdeal.τ).loc Cert.SsdInFwdIdeal.main_arg1))
      ∧ r.2.sem = fun _ => 0)

def quiescent_SsdInFwdRefIdeal [hSsdInFwdRefIdeal : Cert.SsdInFwdRefIdeal.Facts] : Prop :=
  ∀ (m : (ℓ : Loc Cert.SsdInFwdRefIdeal.nD Cert.SsdInFwdRefIdeal.τ Cert.SsdInFwdRefIdeal.sig) → Buf (Elt Ideal) ℓ) (g : Dev Cert.SsdInFwdRefIdeal.nD → PrngReg), Pre_SsdInFwdRefIdeal m →
    θ_run (Cert.SsdInFwdRefIdeal.defs (F := Ideal)) (onTc (τ := Cert.SsdInFwdRefIdeal.τ) (Cert.SsdInFwdRefIdeal.main (F := Ideal))) ⟨m, fun _ => 0, g⟩ (fun r => (∀ c : Dev Cert.SsdInFwdRefIdeal.nD,
      r.2.mem ((c.tc : Thread Cert.SsdInFwdRefIdeal.nD Cert.SsdInFwdRefIdeal.τ).loc Cert.SsdInFwdRefIdeal.main_arg0) = m ((c.tc : Thread Cert.SsdInFwdRefIdeal.nD Cert.SsdInFwdRefIdeal.τ).loc Cert.SsdInFwdRefIdeal.main_arg0)
      ∧ r.2.mem ((c.tc : Thread Cert.SsdInFwdRefIdeal.nD Cert.SsdInFwdRefIdeal.τ).loc Cert.SsdInFwdRefIdeal.main_arg1) = m ((c.tc : Thread Cert.SsdInFwdRefIdeal.nD Cert.SsdInFwdRefIdeal.τ).loc Cert.SsdInFwdRefIdeal.main_arg1))
      ∧ r.2.sem = fun _ => 0)

def quiescent_SsdOutFwd [hSsdOutFwd : Cert.SsdOutFwd.Facts] : Prop :=
  ∀ (m : (ℓ : Loc Cert.SsdOutFwd.nD Cert.SsdOutFwd.τ Cert.SsdOutFwd.sig) → Buf (Elt Bits) ℓ) (g : Dev Cert.SsdOutFwd.nD → PrngReg), Pre_SsdOutFwd m →
    θ_run (Cert.SsdOutFwd.defs (F := Bits)) (onTc (τ := Cert.SsdOutFwd.τ) (Cert.SsdOutFwd.main (F := Bits))) ⟨m, fun _ => 0, g⟩ (fun r => (∀ c : Dev Cert.SsdOutFwd.nD,
      r.2.mem ((c.tc : Thread Cert.SsdOutFwd.nD Cert.SsdOutFwd.τ).loc Cert.SsdOutFwd.main_arg0) = m ((c.tc : Thread Cert.SsdOutFwd.nD Cert.SsdOutFwd.τ).loc Cert.SsdOutFwd.main_arg0)
      ∧ r.2.mem ((c.tc : Thread Cert.SsdOutFwd.nD Cert.SsdOutFwd.τ).loc Cert.SsdOutFwd.main_arg1) = m ((c.tc : Thread Cert.SsdOutFwd.nD Cert.SsdOutFwd.τ).loc Cert.SsdOutFwd.main_arg1)
      ∧ r.2.mem ((c.tc : Thread Cert.SsdOutFwd.nD Cert.SsdOutFwd.τ).loc Cert.SsdOutFwd.main_arg2) = m ((c.tc : Thread Cert.SsdOutFwd.nD Cert.SsdOutFwd.τ).loc Cert.SsdOutFwd.main_arg2)
      ∧ r.2.mem ((c.tc : Thread Cert.SsdOutFwd.nD Cert.SsdOutFwd.τ).loc Cert.SsdOutFwd.main_arg3) = m ((c.tc : Thread Cert.SsdOutFwd.nD Cert.SsdOutFwd.τ).loc Cert.SsdOutFwd.main_arg3))
      ∧ r.2.sem = fun _ => 0)

def quiescent_SsdOutFwdIdeal [hSsdOutFwdIdeal : Cert.SsdOutFwdIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg), Pre_SsdOutFwdIdeal m →
    θ_run (Cert.SsdOutFwdIdeal.defs (F := Ideal)) (onTc (τ := Cert.SsdOutFwdIdeal.τ) (Cert.SsdOutFwdIdeal.main (F := Ideal))) ⟨m, fun _ => 0, g⟩ (fun r => (∀ c : Dev Cert.SsdOutFwdIdeal.nD,
      r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
      ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1)
      ∧ r.2.mem ((c.tc : Thread Cert.SsdOutFwdIdeal.nD Cert.SsdOutFwdIdeal.τ).loc Cert.SsdOutFwdIdeal.main_arg2) = m ((c.tc : Thread Cert.SsdOutFwdIdeal.nD Cert.SsdOutFwdIdeal.τ).loc Cert.SsdOutFwdIdeal.main_arg2)
      ∧ r.2.mem ((c.tc : Thread Cert.SsdOutFwdIdeal.nD Cert.SsdOutFwdIdeal.τ).loc Cert.SsdOutFwdIdeal.main_arg3) = m ((c.tc : Thread Cert.SsdOutFwdIdeal.nD Cert.SsdOutFwdIdeal.τ).loc Cert.SsdOutFwdIdeal.main_arg3))
      ∧ r.2.sem = fun _ => 0)

def quiescent_SsdOutFwdRefIdeal [hSsdOutFwdRefIdeal : Cert.SsdOutFwdRefIdeal.Facts] : Prop :=
  ∀ (m : (ℓ : Loc Cert.SsdOutFwdRefIdeal.nD Cert.SsdOutFwdRefIdeal.τ Cert.SsdOutFwdRefIdeal.sig) → Buf (Elt Ideal) ℓ) (g : Dev Cert.SsdOutFwdRefIdeal.nD → PrngReg), Pre_SsdOutFwdRefIdeal m →
    θ_run (Cert.SsdOutFwdRefIdeal.defs (F := Ideal)) (onTc (τ := Cert.SsdOutFwdRefIdeal.τ) (Cert.SsdOutFwdRefIdeal.main (F := Ideal))) ⟨m, fun _ => 0, g⟩ (fun r => (∀ c : Dev Cert.SsdOutFwdRefIdeal.nD,
      r.2.mem ((c.tc : Thread Cert.SsdOutFwdRefIdeal.nD Cert.SsdOutFwdRefIdeal.τ).loc Cert.SsdOutFwdRefIdeal.main_arg0) = m ((c.tc : Thread Cert.SsdOutFwdRefIdeal.nD Cert.SsdOutFwdRefIdeal.τ).loc Cert.SsdOutFwdRefIdeal.main_arg0)
      ∧ r.2.mem ((c.tc : Thread Cert.SsdOutFwdRefIdeal.nD Cert.SsdOutFwdRefIdeal.τ).loc Cert.SsdOutFwdRefIdeal.main_arg1) = m ((c.tc : Thread Cert.SsdOutFwdRefIdeal.nD Cert.SsdOutFwdRefIdeal.τ).loc Cert.SsdOutFwdRefIdeal.main_arg1)
      ∧ r.2.mem ((c.tc : Thread Cert.SsdOutFwdRefIdeal.nD Cert.SsdOutFwdRefIdeal.τ).loc Cert.SsdOutFwdRefIdeal.main_arg2) = m ((c.tc : Thread Cert.SsdOutFwdRefIdeal.nD Cert.SsdOutFwdRefIdeal.τ).loc Cert.SsdOutFwdRefIdeal.main_arg2)
      ∧ r.2.mem ((c.tc : Thread Cert.SsdOutFwdRefIdeal.nD Cert.SsdOutFwdRefIdeal.τ).loc Cert.SsdOutFwdRefIdeal.main_arg3) = m ((c.tc : Thread Cert.SsdOutFwdRefIdeal.nD Cert.SsdOutFwdRefIdeal.τ).loc Cert.SsdOutFwdRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3)
      ∧ r.2.mem ((c.tc : Thread Cert.AdamVec.nD Cert.AdamVec.τ).loc Cert.AdamVec.main_arg4) = m ((c.tc : Thread Cert.AdamVec.nD Cert.AdamVec.τ).loc Cert.AdamVec.main_arg4)
      ∧ r.2.mem ((c.tc : Thread Cert.AdamVec.nD Cert.AdamVec.τ).loc Cert.AdamVec.main_arg5) = m ((c.tc : Thread Cert.AdamVec.nD Cert.AdamVec.τ).loc Cert.AdamVec.main_arg5)
      ∧ r.2.mem ((c.tc : Thread Cert.AdamVec.nD Cert.AdamVec.τ).loc Cert.AdamVec.main_arg6) = m ((c.tc : Thread Cert.AdamVec.nD Cert.AdamVec.τ).loc Cert.AdamVec.main_arg6)
      ∧ r.2.mem ((c.tc : Thread Cert.AdamVec.nD Cert.AdamVec.τ).loc Cert.AdamVec.main_arg7) = m ((c.tc : Thread Cert.AdamVec.nD Cert.AdamVec.τ).loc Cert.AdamVec.main_arg7)
      ∧ r.2.mem ((c.tc : Thread Cert.AdamVec.nD Cert.AdamVec.τ).loc Cert.AdamVec.main_arg8) = m ((c.tc : Thread Cert.AdamVec.nD Cert.AdamVec.τ).loc Cert.AdamVec.main_arg8)
      ∧ r.2.mem ((c.tc : Thread Cert.AdamVec.nD Cert.AdamVec.τ).loc Cert.AdamVec.main_arg9) = m ((c.tc : Thread Cert.AdamVec.nD Cert.AdamVec.τ).loc Cert.AdamVec.main_arg9)
      ∧ r.2.mem ((c.tc : Thread Cert.AdamVec.nD Cert.AdamVec.τ).loc Cert.AdamVec.main_arg10) = m ((c.tc : Thread Cert.AdamVec.nD Cert.AdamVec.τ).loc Cert.AdamVec.main_arg10)
      ∧ r.2.mem ((c.tc : Thread Cert.AdamVec.nD Cert.AdamVec.τ).loc Cert.AdamVec.main_arg11) = m ((c.tc : Thread Cert.AdamVec.nD Cert.AdamVec.τ).loc Cert.AdamVec.main_arg11)
      ∧ r.2.mem ((c.tc : Thread Cert.AdamVec.nD Cert.AdamVec.τ).loc Cert.AdamVec.main_arg12) = m ((c.tc : Thread Cert.AdamVec.nD Cert.AdamVec.τ).loc Cert.AdamVec.main_arg12)
      ∧ r.2.mem ((c.tc : Thread Cert.AdamVec.nD Cert.AdamVec.τ).loc Cert.AdamVec.main_arg13) = m ((c.tc : Thread Cert.AdamVec.nD Cert.AdamVec.τ).loc Cert.AdamVec.main_arg13)
      ∧ r.2.mem ((c.tc : Thread Cert.AdamVec.nD Cert.AdamVec.τ).loc Cert.AdamVec.main_arg14) = m ((c.tc : Thread Cert.AdamVec.nD Cert.AdamVec.τ).loc Cert.AdamVec.main_arg14)
      ∧ r.2.mem ((c.tc : Thread Cert.AdamVec.nD Cert.AdamVec.τ).loc Cert.AdamVec.main_arg15) = m ((c.tc : Thread Cert.AdamVec.nD Cert.AdamVec.τ).loc Cert.AdamVec.main_arg15)
      ∧ r.2.mem ((c.tc : Thread Cert.AdamVec.nD Cert.AdamVec.τ).loc Cert.AdamVec.main_arg16) = m ((c.tc : Thread Cert.AdamVec.nD Cert.AdamVec.τ).loc Cert.AdamVec.main_arg16)
      ∧ r.2.mem ((c.tc : Thread Cert.AdamVec.nD Cert.AdamVec.τ).loc Cert.AdamVec.main_arg17) = m ((c.tc : Thread Cert.AdamVec.nD Cert.AdamVec.τ).loc Cert.AdamVec.main_arg17)
      ∧ r.2.mem ((c.tc : Thread Cert.AdamVec.nD Cert.AdamVec.τ).loc Cert.AdamVec.main_arg18) = m ((c.tc : Thread Cert.AdamVec.nD Cert.AdamVec.τ).loc Cert.AdamVec.main_arg18)
      ∧ r.2.mem ((c.tc : Thread Cert.AdamVec.nD Cert.AdamVec.τ).loc Cert.AdamVec.main_arg19) = m ((c.tc : Thread Cert.AdamVec.nD Cert.AdamVec.τ).loc Cert.AdamVec.main_arg19)
      ∧ r.2.mem ((c.tc : Thread Cert.AdamVec.nD Cert.AdamVec.τ).loc Cert.AdamVec.main_arg20) = m ((c.tc : Thread Cert.AdamVec.nD Cert.AdamVec.τ).loc Cert.AdamVec.main_arg20)
      ∧ r.2.mem ((c.tc : Thread Cert.AdamVec.nD Cert.AdamVec.τ).loc Cert.AdamVec.main_arg21) = m ((c.tc : Thread Cert.AdamVec.nD Cert.AdamVec.τ).loc Cert.AdamVec.main_arg21)
      ∧ r.2.mem ((c.tc : Thread Cert.AdamVec.nD Cert.AdamVec.τ).loc Cert.AdamVec.main_arg22) = m ((c.tc : Thread Cert.AdamVec.nD Cert.AdamVec.τ).loc Cert.AdamVec.main_arg22)
      ∧ r.2.mem ((c.tc : Thread Cert.AdamVec.nD Cert.AdamVec.τ).loc Cert.AdamVec.main_arg23) = m ((c.tc : Thread Cert.AdamVec.nD Cert.AdamVec.τ).loc Cert.AdamVec.main_arg23)
      ∧ r.2.mem ((c.tc : Thread Cert.AdamVec.nD Cert.AdamVec.τ).loc Cert.AdamVec.main_arg24) = m ((c.tc : Thread Cert.AdamVec.nD Cert.AdamVec.τ).loc Cert.AdamVec.main_arg24)
      ∧ r.2.mem ((c.tc : Thread Cert.AdamVec.nD Cert.AdamVec.τ).loc Cert.AdamVec.main_arg25) = m ((c.tc : Thread Cert.AdamVec.nD Cert.AdamVec.τ).loc Cert.AdamVec.main_arg25)
      ∧ r.2.mem ((c.tc : Thread Cert.AdamVec.nD Cert.AdamVec.τ).loc Cert.AdamVec.main_arg26) = m ((c.tc : Thread Cert.AdamVec.nD Cert.AdamVec.τ).loc Cert.AdamVec.main_arg26)
      ∧ r.2.mem ((c.tc : Thread Cert.AdamVec.nD Cert.AdamVec.τ).loc Cert.AdamVec.main_arg27) = m ((c.tc : Thread Cert.AdamVec.nD Cert.AdamVec.τ).loc Cert.AdamVec.main_arg27)
      ∧ r.2.mem ((c.tc : Thread Cert.AdamVec.nD Cert.AdamVec.τ).loc Cert.AdamVec.main_arg28) = m ((c.tc : Thread Cert.AdamVec.nD Cert.AdamVec.τ).loc Cert.AdamVec.main_arg28)
      ∧ r.2.mem ((c.tc : Thread Cert.AdamVec.nD Cert.AdamVec.τ).loc Cert.AdamVec.main_arg29) = m ((c.tc : Thread Cert.AdamVec.nD Cert.AdamVec.τ).loc Cert.AdamVec.main_arg29)
      ∧ r.2.mem ((c.tc : Thread Cert.AdamVec.nD Cert.AdamVec.τ).loc Cert.AdamVec.main_arg30) = m ((c.tc : Thread Cert.AdamVec.nD Cert.AdamVec.τ).loc Cert.AdamVec.main_arg30)
      ∧ r.2.mem ((c.tc : Thread Cert.AdamVec.nD Cert.AdamVec.τ).loc Cert.AdamVec.main_arg31) = m ((c.tc : Thread Cert.AdamVec.nD Cert.AdamVec.τ).loc Cert.AdamVec.main_arg31))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3)
      ∧ r.2.mem ((c.tc : Thread Cert.AdamVecIdeal.nD Cert.AdamVecIdeal.τ).loc Cert.AdamVecIdeal.main_arg4) = m ((c.tc : Thread Cert.AdamVecIdeal.nD Cert.AdamVecIdeal.τ).loc Cert.AdamVecIdeal.main_arg4)
      ∧ r.2.mem ((c.tc : Thread Cert.AdamVecIdeal.nD Cert.AdamVecIdeal.τ).loc Cert.AdamVecIdeal.main_arg5) = m ((c.tc : Thread Cert.AdamVecIdeal.nD Cert.AdamVecIdeal.τ).loc Cert.AdamVecIdeal.main_arg5)
      ∧ r.2.mem ((c.tc : Thread Cert.AdamVecIdeal.nD Cert.AdamVecIdeal.τ).loc Cert.AdamVecIdeal.main_arg6) = m ((c.tc : Thread Cert.AdamVecIdeal.nD Cert.AdamVecIdeal.τ).loc Cert.AdamVecIdeal.main_arg6)
      ∧ r.2.mem ((c.tc : Thread Cert.AdamVecIdeal.nD Cert.AdamVecIdeal.τ).loc Cert.AdamVecIdeal.main_arg7) = m ((c.tc : Thread Cert.AdamVecIdeal.nD Cert.AdamVecIdeal.τ).loc Cert.AdamVecIdeal.main_arg7)
      ∧ r.2.mem ((c.tc : Thread Cert.AdamVecIdeal.nD Cert.AdamVecIdeal.τ).loc Cert.AdamVecIdeal.main_arg8) = m ((c.tc : Thread Cert.AdamVecIdeal.nD Cert.AdamVecIdeal.τ).loc Cert.AdamVecIdeal.main_arg8)
      ∧ r.2.mem ((c.tc : Thread Cert.AdamVecIdeal.nD Cert.AdamVecIdeal.τ).loc Cert.AdamVecIdeal.main_arg9) = m ((c.tc : Thread Cert.AdamVecIdeal.nD Cert.AdamVecIdeal.τ).loc Cert.AdamVecIdeal.main_arg9)
      ∧ r.2.mem ((c.tc : Thread Cert.AdamVecIdeal.nD Cert.AdamVecIdeal.τ).loc Cert.AdamVecIdeal.main_arg10) = m ((c.tc : Thread Cert.AdamVecIdeal.nD Cert.AdamVecIdeal.τ).loc Cert.AdamVecIdeal.main_arg10)
      ∧ r.2.mem ((c.tc : Thread Cert.AdamVecIdeal.nD Cert.AdamVecIdeal.τ).loc Cert.AdamVecIdeal.main_arg11) = m ((c.tc : Thread Cert.AdamVecIdeal.nD Cert.AdamVecIdeal.τ).loc Cert.AdamVecIdeal.main_arg11)
      ∧ r.2.mem ((c.tc : Thread Cert.AdamVecIdeal.nD Cert.AdamVecIdeal.τ).loc Cert.AdamVecIdeal.main_arg12) = m ((c.tc : Thread Cert.AdamVecIdeal.nD Cert.AdamVecIdeal.τ).loc Cert.AdamVecIdeal.main_arg12)
      ∧ r.2.mem ((c.tc : Thread Cert.AdamVecIdeal.nD Cert.AdamVecIdeal.τ).loc Cert.AdamVecIdeal.main_arg13) = m ((c.tc : Thread Cert.AdamVecIdeal.nD Cert.AdamVecIdeal.τ).loc Cert.AdamVecIdeal.main_arg13)
      ∧ r.2.mem ((c.tc : Thread Cert.AdamVecIdeal.nD Cert.AdamVecIdeal.τ).loc Cert.AdamVecIdeal.main_arg14) = m ((c.tc : Thread Cert.AdamVecIdeal.nD Cert.AdamVecIdeal.τ).loc Cert.AdamVecIdeal.main_arg14)
      ∧ r.2.mem ((c.tc : Thread Cert.AdamVecIdeal.nD Cert.AdamVecIdeal.τ).loc Cert.AdamVecIdeal.main_arg15) = m ((c.tc : Thread Cert.AdamVecIdeal.nD Cert.AdamVecIdeal.τ).loc Cert.AdamVecIdeal.main_arg15)
      ∧ r.2.mem ((c.tc : Thread Cert.AdamVecIdeal.nD Cert.AdamVecIdeal.τ).loc Cert.AdamVecIdeal.main_arg16) = m ((c.tc : Thread Cert.AdamVecIdeal.nD Cert.AdamVecIdeal.τ).loc Cert.AdamVecIdeal.main_arg16)
      ∧ r.2.mem ((c.tc : Thread Cert.AdamVecIdeal.nD Cert.AdamVecIdeal.τ).loc Cert.AdamVecIdeal.main_arg17) = m ((c.tc : Thread Cert.AdamVecIdeal.nD Cert.AdamVecIdeal.τ).loc Cert.AdamVecIdeal.main_arg17)
      ∧ r.2.mem ((c.tc : Thread Cert.AdamVecIdeal.nD Cert.AdamVecIdeal.τ).loc Cert.AdamVecIdeal.main_arg18) = m ((c.tc : Thread Cert.AdamVecIdeal.nD Cert.AdamVecIdeal.τ).loc Cert.AdamVecIdeal.main_arg18)
      ∧ r.2.mem ((c.tc : Thread Cert.AdamVecIdeal.nD Cert.AdamVecIdeal.τ).loc Cert.AdamVecIdeal.main_arg19) = m ((c.tc : Thread Cert.AdamVecIdeal.nD Cert.AdamVecIdeal.τ).loc Cert.AdamVecIdeal.main_arg19)
      ∧ r.2.mem ((c.tc : Thread Cert.AdamVecIdeal.nD Cert.AdamVecIdeal.τ).loc Cert.AdamVecIdeal.main_arg20) = m ((c.tc : Thread Cert.AdamVecIdeal.nD Cert.AdamVecIdeal.τ).loc Cert.AdamVecIdeal.main_arg20)
      ∧ r.2.mem ((c.tc : Thread Cert.AdamVecIdeal.nD Cert.AdamVecIdeal.τ).loc Cert.AdamVecIdeal.main_arg21) = m ((c.tc : Thread Cert.AdamVecIdeal.nD Cert.AdamVecIdeal.τ).loc Cert.AdamVecIdeal.main_arg21)
      ∧ r.2.mem ((c.tc : Thread Cert.AdamVecIdeal.nD Cert.AdamVecIdeal.τ).loc Cert.AdamVecIdeal.main_arg22) = m ((c.tc : Thread Cert.AdamVecIdeal.nD Cert.AdamVecIdeal.τ).loc Cert.AdamVecIdeal.main_arg22)
      ∧ r.2.mem ((c.tc : Thread Cert.AdamVecIdeal.nD Cert.AdamVecIdeal.τ).loc Cert.AdamVecIdeal.main_arg23) = m ((c.tc : Thread Cert.AdamVecIdeal.nD Cert.AdamVecIdeal.τ).loc Cert.AdamVecIdeal.main_arg23)
      ∧ r.2.mem ((c.tc : Thread Cert.AdamVecIdeal.nD Cert.AdamVecIdeal.τ).loc Cert.AdamVecIdeal.main_arg24) = m ((c.tc : Thread Cert.AdamVecIdeal.nD Cert.AdamVecIdeal.τ).loc Cert.AdamVecIdeal.main_arg24)
      ∧ r.2.mem ((c.tc : Thread Cert.AdamVecIdeal.nD Cert.AdamVecIdeal.τ).loc Cert.AdamVecIdeal.main_arg25) = m ((c.tc : Thread Cert.AdamVecIdeal.nD Cert.AdamVecIdeal.τ).loc Cert.AdamVecIdeal.main_arg25)
      ∧ r.2.mem ((c.tc : Thread Cert.AdamVecIdeal.nD Cert.AdamVecIdeal.τ).loc Cert.AdamVecIdeal.main_arg26) = m ((c.tc : Thread Cert.AdamVecIdeal.nD Cert.AdamVecIdeal.τ).loc Cert.AdamVecIdeal.main_arg26)
      ∧ r.2.mem ((c.tc : Thread Cert.AdamVecIdeal.nD Cert.AdamVecIdeal.τ).loc Cert.AdamVecIdeal.main_arg27) = m ((c.tc : Thread Cert.AdamVecIdeal.nD Cert.AdamVecIdeal.τ).loc Cert.AdamVecIdeal.main_arg27)
      ∧ r.2.mem ((c.tc : Thread Cert.AdamVecIdeal.nD Cert.AdamVecIdeal.τ).loc Cert.AdamVecIdeal.main_arg28) = m ((c.tc : Thread Cert.AdamVecIdeal.nD Cert.AdamVecIdeal.τ).loc Cert.AdamVecIdeal.main_arg28)
      ∧ r.2.mem ((c.tc : Thread Cert.AdamVecIdeal.nD Cert.AdamVecIdeal.τ).loc Cert.AdamVecIdeal.main_arg29) = m ((c.tc : Thread Cert.AdamVecIdeal.nD Cert.AdamVecIdeal.τ).loc Cert.AdamVecIdeal.main_arg29)
      ∧ r.2.mem ((c.tc : Thread Cert.AdamVecIdeal.nD Cert.AdamVecIdeal.τ).loc Cert.AdamVecIdeal.main_arg30) = m ((c.tc : Thread Cert.AdamVecIdeal.nD Cert.AdamVecIdeal.τ).loc Cert.AdamVecIdeal.main_arg30)
      ∧ r.2.mem ((c.tc : Thread Cert.AdamVecIdeal.nD Cert.AdamVecIdeal.τ).loc Cert.AdamVecIdeal.main_arg31) = m ((c.tc : Thread Cert.AdamVecIdeal.nD Cert.AdamVecIdeal.τ).loc Cert.AdamVecIdeal.main_arg31))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3)
      ∧ r.2.mem ((c.tc : Thread Cert.AdamVecRefIdeal.nD Cert.AdamVecRefIdeal.τ).loc Cert.AdamVecRefIdeal.main_arg4) = m ((c.tc : Thread Cert.AdamVecRefIdeal.nD Cert.AdamVecRefIdeal.τ).loc Cert.AdamVecRefIdeal.main_arg4)
      ∧ r.2.mem ((c.tc : Thread Cert.AdamVecRefIdeal.nD Cert.AdamVecRefIdeal.τ).loc Cert.AdamVecRefIdeal.main_arg5) = m ((c.tc : Thread Cert.AdamVecRefIdeal.nD Cert.AdamVecRefIdeal.τ).loc Cert.AdamVecRefIdeal.main_arg5)
      ∧ r.2.mem ((c.tc : Thread Cert.AdamVecRefIdeal.nD Cert.AdamVecRefIdeal.τ).loc Cert.AdamVecRefIdeal.main_arg6) = m ((c.tc : Thread Cert.AdamVecRefIdeal.nD Cert.AdamVecRefIdeal.τ).loc Cert.AdamVecRefIdeal.main_arg6)
      ∧ r.2.mem ((c.tc : Thread Cert.AdamVecRefIdeal.nD Cert.AdamVecRefIdeal.τ).loc Cert.AdamVecRefIdeal.main_arg7) = m ((c.tc : Thread Cert.AdamVecRefIdeal.nD Cert.AdamVecRefIdeal.τ).loc Cert.AdamVecRefIdeal.main_arg7)
      ∧ r.2.mem ((c.tc : Thread Cert.AdamVecRefIdeal.nD Cert.AdamVecRefIdeal.τ).loc Cert.AdamVecRefIdeal.main_arg8) = m ((c.tc : Thread Cert.AdamVecRefIdeal.nD Cert.AdamVecRefIdeal.τ).loc Cert.AdamVecRefIdeal.main_arg8)
      ∧ r.2.mem ((c.tc : Thread Cert.AdamVecRefIdeal.nD Cert.AdamVecRefIdeal.τ).loc Cert.AdamVecRefIdeal.main_arg9) = m ((c.tc : Thread Cert.AdamVecRefIdeal.nD Cert.AdamVecRefIdeal.τ).loc Cert.AdamVecRefIdeal.main_arg9)
      ∧ r.2.mem ((c.tc : Thread Cert.AdamVecRefIdeal.nD Cert.AdamVecRefIdeal.τ).loc Cert.AdamVecRefIdeal.main_arg10) = m ((c.tc : Thread Cert.AdamVecRefIdeal.nD Cert.AdamVecRefIdeal.τ).loc Cert.AdamVecRefIdeal.main_arg10)
      ∧ r.2.mem ((c.tc : Thread Cert.AdamVecRefIdeal.nD Cert.AdamVecRefIdeal.τ).loc Cert.AdamVecRefIdeal.main_arg11) = m ((c.tc : Thread Cert.AdamVecRefIdeal.nD Cert.AdamVecRefIdeal.τ).loc Cert.AdamVecRefIdeal.main_arg11)
      ∧ r.2.mem ((c.tc : Thread Cert.AdamVecRefIdeal.nD Cert.AdamVecRefIdeal.τ).loc Cert.AdamVecRefIdeal.main_arg12) = m ((c.tc : Thread Cert.AdamVecRefIdeal.nD Cert.AdamVecRefIdeal.τ).loc Cert.AdamVecRefIdeal.main_arg12)
      ∧ r.2.mem ((c.tc : Thread Cert.AdamVecRefIdeal.nD Cert.AdamVecRefIdeal.τ).loc Cert.AdamVecRefIdeal.main_arg13) = m ((c.tc : Thread Cert.AdamVecRefIdeal.nD Cert.AdamVecRefIdeal.τ).loc Cert.AdamVecRefIdeal.main_arg13)
      ∧ r.2.mem ((c.tc : Thread Cert.AdamVecRefIdeal.nD Cert.AdamVecRefIdeal.τ).loc Cert.AdamVecRefIdeal.main_arg14) = m ((c.tc : Thread Cert.AdamVecRefIdeal.nD Cert.AdamVecRefIdeal.τ).loc Cert.AdamVecRefIdeal.main_arg14)
      ∧ r.2.mem ((c.tc : Thread Cert.AdamVecRefIdeal.nD Cert.AdamVecRefIdeal.τ).loc Cert.AdamVecRefIdeal.main_arg15) = m ((c.tc : Thread Cert.AdamVecRefIdeal.nD Cert.AdamVecRefIdeal.τ).loc Cert.AdamVecRefIdeal.main_arg15)
      ∧ r.2.mem ((c.tc : Thread Cert.AdamVecRefIdeal.nD Cert.AdamVecRefIdeal.τ).loc Cert.AdamVecRefIdeal.main_arg16) = m ((c.tc : Thread Cert.AdamVecRefIdeal.nD Cert.AdamVecRefIdeal.τ).loc Cert.AdamVecRefIdeal.main_arg16)
      ∧ r.2.mem ((c.tc : Thread Cert.AdamVecRefIdeal.nD Cert.AdamVecRefIdeal.τ).loc Cert.AdamVecRefIdeal.main_arg17) = m ((c.tc : Thread Cert.AdamVecRefIdeal.nD Cert.AdamVecRefIdeal.τ).loc Cert.AdamVecRefIdeal.main_arg17)
      ∧ r.2.mem ((c.tc : Thread Cert.AdamVecRefIdeal.nD Cert.AdamVecRefIdeal.τ).loc Cert.AdamVecRefIdeal.main_arg18) = m ((c.tc : Thread Cert.AdamVecRefIdeal.nD Cert.AdamVecRefIdeal.τ).loc Cert.AdamVecRefIdeal.main_arg18)
      ∧ r.2.mem ((c.tc : Thread Cert.AdamVecRefIdeal.nD Cert.AdamVecRefIdeal.τ).loc Cert.AdamVecRefIdeal.main_arg19) = m ((c.tc : Thread Cert.AdamVecRefIdeal.nD Cert.AdamVecRefIdeal.τ).loc Cert.AdamVecRefIdeal.main_arg19)
      ∧ r.2.mem ((c.tc : Thread Cert.AdamVecRefIdeal.nD Cert.AdamVecRefIdeal.τ).loc Cert.AdamVecRefIdeal.main_arg20) = m ((c.tc : Thread Cert.AdamVecRefIdeal.nD Cert.AdamVecRefIdeal.τ).loc Cert.AdamVecRefIdeal.main_arg20)
      ∧ r.2.mem ((c.tc : Thread Cert.AdamVecRefIdeal.nD Cert.AdamVecRefIdeal.τ).loc Cert.AdamVecRefIdeal.main_arg21) = m ((c.tc : Thread Cert.AdamVecRefIdeal.nD Cert.AdamVecRefIdeal.τ).loc Cert.AdamVecRefIdeal.main_arg21)
      ∧ r.2.mem ((c.tc : Thread Cert.AdamVecRefIdeal.nD Cert.AdamVecRefIdeal.τ).loc Cert.AdamVecRefIdeal.main_arg22) = m ((c.tc : Thread Cert.AdamVecRefIdeal.nD Cert.AdamVecRefIdeal.τ).loc Cert.AdamVecRefIdeal.main_arg22)
      ∧ r.2.mem ((c.tc : Thread Cert.AdamVecRefIdeal.nD Cert.AdamVecRefIdeal.τ).loc Cert.AdamVecRefIdeal.main_arg23) = m ((c.tc : Thread Cert.AdamVecRefIdeal.nD Cert.AdamVecRefIdeal.τ).loc Cert.AdamVecRefIdeal.main_arg23)
      ∧ r.2.mem ((c.tc : Thread Cert.AdamVecRefIdeal.nD Cert.AdamVecRefIdeal.τ).loc Cert.AdamVecRefIdeal.main_arg24) = m ((c.tc : Thread Cert.AdamVecRefIdeal.nD Cert.AdamVecRefIdeal.τ).loc Cert.AdamVecRefIdeal.main_arg24)
      ∧ r.2.mem ((c.tc : Thread Cert.AdamVecRefIdeal.nD Cert.AdamVecRefIdeal.τ).loc Cert.AdamVecRefIdeal.main_arg25) = m ((c.tc : Thread Cert.AdamVecRefIdeal.nD Cert.AdamVecRefIdeal.τ).loc Cert.AdamVecRefIdeal.main_arg25)
      ∧ r.2.mem ((c.tc : Thread Cert.AdamVecRefIdeal.nD Cert.AdamVecRefIdeal.τ).loc Cert.AdamVecRefIdeal.main_arg26) = m ((c.tc : Thread Cert.AdamVecRefIdeal.nD Cert.AdamVecRefIdeal.τ).loc Cert.AdamVecRefIdeal.main_arg26)
      ∧ r.2.mem ((c.tc : Thread Cert.AdamVecRefIdeal.nD Cert.AdamVecRefIdeal.τ).loc Cert.AdamVecRefIdeal.main_arg27) = m ((c.tc : Thread Cert.AdamVecRefIdeal.nD Cert.AdamVecRefIdeal.τ).loc Cert.AdamVecRefIdeal.main_arg27)
      ∧ r.2.mem ((c.tc : Thread Cert.AdamVecRefIdeal.nD Cert.AdamVecRefIdeal.τ).loc Cert.AdamVecRefIdeal.main_arg28) = m ((c.tc : Thread Cert.AdamVecRefIdeal.nD Cert.AdamVecRefIdeal.τ).loc Cert.AdamVecRefIdeal.main_arg28)
      ∧ r.2.mem ((c.tc : Thread Cert.AdamVecRefIdeal.nD Cert.AdamVecRefIdeal.τ).loc Cert.AdamVecRefIdeal.main_arg29) = m ((c.tc : Thread Cert.AdamVecRefIdeal.nD Cert.AdamVecRefIdeal.τ).loc Cert.AdamVecRefIdeal.main_arg29)
      ∧ r.2.mem ((c.tc : Thread Cert.AdamVecRefIdeal.nD Cert.AdamVecRefIdeal.τ).loc Cert.AdamVecRefIdeal.main_arg30) = m ((c.tc : Thread Cert.AdamVecRefIdeal.nD Cert.AdamVecRefIdeal.τ).loc Cert.AdamVecRefIdeal.main_arg30)
      ∧ r.2.mem ((c.tc : Thread Cert.AdamVecRefIdeal.nD Cert.AdamVecRefIdeal.τ).loc Cert.AdamVecRefIdeal.main_arg31) = m ((c.tc : Thread Cert.AdamVecRefIdeal.nD Cert.AdamVecRefIdeal.τ).loc Cert.AdamVecRefIdeal.main_arg31))
      ∧ r.2.sem = fun _ => 0)

def quiescent_AdamMat [hAdamMat : Cert.AdamMat.Facts] : Prop :=
  ∀ (m : (ℓ : Loc Cert.AdamMat.nD Cert.AdamMat.τ Cert.AdamMat.sig) → Buf (Elt Bits) ℓ) (g : Dev Cert.AdamMat.nD → PrngReg), Pre_AdamMat m →
    θ_run (Cert.AdamMat.defs (F := Bits)) (onTc (τ := Cert.AdamMat.τ) (Cert.AdamMat.main (F := Bits))) ⟨m, fun _ => 0, g⟩ (fun r => (∀ c : Dev Cert.AdamMat.nD,
      r.2.mem ((c.tc : Thread Cert.AdamMat.nD Cert.AdamMat.τ).loc Cert.AdamMat.main_arg0) = m ((c.tc : Thread Cert.AdamMat.nD Cert.AdamMat.τ).loc Cert.AdamMat.main_arg0)
      ∧ r.2.mem ((c.tc : Thread Cert.AdamMat.nD Cert.AdamMat.τ).loc Cert.AdamMat.main_arg1) = m ((c.tc : Thread Cert.AdamMat.nD Cert.AdamMat.τ).loc Cert.AdamMat.main_arg1)
      ∧ r.2.mem ((c.tc : Thread Cert.AdamMat.nD Cert.AdamMat.τ).loc Cert.AdamMat.main_arg2) = m ((c.tc : Thread Cert.AdamMat.nD Cert.AdamMat.τ).loc Cert.AdamMat.main_arg2)
      ∧ r.2.mem ((c.tc : Thread Cert.AdamMat.nD Cert.AdamMat.τ).loc Cert.AdamMat.main_arg3) = m ((c.tc : Thread Cert.AdamMat.nD Cert.AdamMat.τ).loc Cert.AdamMat.main_arg3)
      ∧ r.2.mem ((c.tc : Thread Cert.AdamMat.nD Cert.AdamMat.τ).loc Cert.AdamMat.main_arg4) = m ((c.tc : Thread Cert.AdamMat.nD Cert.AdamMat.τ).loc Cert.AdamMat.main_arg4)
      ∧ r.2.mem ((c.tc : Thread Cert.AdamMat.nD Cert.AdamMat.τ).loc Cert.AdamMat.main_arg5) = m ((c.tc : Thread Cert.AdamMat.nD Cert.AdamMat.τ).loc Cert.AdamMat.main_arg5)
      ∧ r.2.mem ((c.tc : Thread Cert.AdamMat.nD Cert.AdamMat.τ).loc Cert.AdamMat.main_arg6) = m ((c.tc : Thread Cert.AdamMat.nD Cert.AdamMat.τ).loc Cert.AdamMat.main_arg6)
      ∧ r.2.mem ((c.tc : Thread Cert.AdamMat.nD Cert.AdamMat.τ).loc Cert.AdamMat.main_arg7) = m ((c.tc : Thread Cert.AdamMat.nD Cert.AdamMat.τ).loc Cert.AdamMat.main_arg7)
      ∧ r.2.mem ((c.tc : Thread Cert.AdamMat.nD Cert.AdamMat.τ).loc Cert.AdamMat.main_arg8) = m ((c.tc : Thread Cert.AdamMat.nD Cert.AdamMat.τ).loc Cert.AdamMat.main_arg8)
      ∧ r.2.mem ((c.tc : Thread Cert.AdamMat.nD Cert.AdamMat.τ).loc Cert.AdamMat.main_arg9) = m ((c.tc : Thread Cert.AdamMat.nD Cert.AdamMat.τ).loc Cert.AdamMat.main_arg9)
      ∧ r.2.mem ((c.tc : Thread Cert.AdamMat.nD Cert.AdamMat.τ).loc Cert.AdamMat.main_arg10) = m ((c.tc : Thread Cert.AdamMat.nD Cert.AdamMat.τ).loc Cert.AdamMat.main_arg10)
      ∧ r.2.mem ((c.tc : Thread Cert.AdamMat.nD Cert.AdamMat.τ).loc Cert.AdamMat.main_arg11) = m ((c.tc : Thread Cert.AdamMat.nD Cert.AdamMat.τ).loc Cert.AdamMat.main_arg11))
      ∧ r.2.sem = fun _ => 0)

def quiescent_AdamMatIdeal [hAdamMatIdeal : Cert.AdamMatIdeal.Facts] : Prop :=
  ∀ (m : (ℓ : Loc Cert.AdamMatIdeal.nD Cert.AdamMatIdeal.τ Cert.AdamMatIdeal.sig) → Buf (Elt Ideal) ℓ) (g : Dev Cert.AdamMatIdeal.nD → PrngReg), Pre_AdamMatIdeal m →
    θ_run (Cert.AdamMatIdeal.defs (F := Ideal)) (onTc (τ := Cert.AdamMatIdeal.τ) (Cert.AdamMatIdeal.main (F := Ideal))) ⟨m, fun _ => 0, g⟩ (fun r => (∀ c : Dev Cert.AdamMatIdeal.nD,
      r.2.mem ((c.tc : Thread Cert.AdamMatIdeal.nD Cert.AdamMatIdeal.τ).loc Cert.AdamMatIdeal.main_arg0) = m ((c.tc : Thread Cert.AdamMatIdeal.nD Cert.AdamMatIdeal.τ).loc Cert.AdamMatIdeal.main_arg0)
      ∧ r.2.mem ((c.tc : Thread Cert.AdamMatIdeal.nD Cert.AdamMatIdeal.τ).loc Cert.AdamMatIdeal.main_arg1) = m ((c.tc : Thread Cert.AdamMatIdeal.nD Cert.AdamMatIdeal.τ).loc Cert.AdamMatIdeal.main_arg1)
      ∧ r.2.mem ((c.tc : Thread Cert.AdamMatIdeal.nD Cert.AdamMatIdeal.τ).loc Cert.AdamMatIdeal.main_arg2) = m ((c.tc : Thread Cert.AdamMatIdeal.nD Cert.AdamMatIdeal.τ).loc Cert.AdamMatIdeal.main_arg2)
      ∧ r.2.mem ((c.tc : Thread Cert.AdamMatIdeal.nD Cert.AdamMatIdeal.τ).loc Cert.AdamMatIdeal.main_arg3) = m ((c.tc : Thread Cert.AdamMatIdeal.nD Cert.AdamMatIdeal.τ).loc Cert.AdamMatIdeal.main_arg3)
      ∧ r.2.mem ((c.tc : Thread Cert.AdamMatIdeal.nD Cert.AdamMatIdeal.τ).loc Cert.AdamMatIdeal.main_arg4) = m ((c.tc : Thread Cert.AdamMatIdeal.nD Cert.AdamMatIdeal.τ).loc Cert.AdamMatIdeal.main_arg4)
      ∧ r.2.mem ((c.tc : Thread Cert.AdamMatIdeal.nD Cert.AdamMatIdeal.τ).loc Cert.AdamMatIdeal.main_arg5) = m ((c.tc : Thread Cert.AdamMatIdeal.nD Cert.AdamMatIdeal.τ).loc Cert.AdamMatIdeal.main_arg5)
      ∧ r.2.mem ((c.tc : Thread Cert.AdamMatIdeal.nD Cert.AdamMatIdeal.τ).loc Cert.AdamMatIdeal.main_arg6) = m ((c.tc : Thread Cert.AdamMatIdeal.nD Cert.AdamMatIdeal.τ).loc Cert.AdamMatIdeal.main_arg6)
      ∧ r.2.mem ((c.tc : Thread Cert.AdamMatIdeal.nD Cert.AdamMatIdeal.τ).loc Cert.AdamMatIdeal.main_arg7) = m ((c.tc : Thread Cert.AdamMatIdeal.nD Cert.AdamMatIdeal.τ).loc Cert.AdamMatIdeal.main_arg7)
      ∧ r.2.mem ((c.tc : Thread Cert.AdamMatIdeal.nD Cert.AdamMatIdeal.τ).loc Cert.AdamMatIdeal.main_arg8) = m ((c.tc : Thread Cert.AdamMatIdeal.nD Cert.AdamMatIdeal.τ).loc Cert.AdamMatIdeal.main_arg8)
      ∧ r.2.mem ((c.tc : Thread Cert.AdamMatIdeal.nD Cert.AdamMatIdeal.τ).loc Cert.AdamMatIdeal.main_arg9) = m ((c.tc : Thread Cert.AdamMatIdeal.nD Cert.AdamMatIdeal.τ).loc Cert.AdamMatIdeal.main_arg9)
      ∧ r.2.mem ((c.tc : Thread Cert.AdamMatIdeal.nD Cert.AdamMatIdeal.τ).loc Cert.AdamMatIdeal.main_arg10) = m ((c.tc : Thread Cert.AdamMatIdeal.nD Cert.AdamMatIdeal.τ).loc Cert.AdamMatIdeal.main_arg10)
      ∧ r.2.mem ((c.tc : Thread Cert.AdamMatIdeal.nD Cert.AdamMatIdeal.τ).loc Cert.AdamMatIdeal.main_arg11) = m ((c.tc : Thread Cert.AdamMatIdeal.nD Cert.AdamMatIdeal.τ).loc Cert.AdamMatIdeal.main_arg11))
      ∧ r.2.sem = fun _ => 0)

def quiescent_AdamMatRefIdeal [hAdamMatRefIdeal : Cert.AdamMatRefIdeal.Facts] : Prop :=
  ∀ (m : (ℓ : Loc Cert.AdamMatRefIdeal.nD Cert.AdamMatRefIdeal.τ Cert.AdamMatRefIdeal.sig) → Buf (Elt Ideal) ℓ) (g : Dev Cert.AdamMatRefIdeal.nD → PrngReg), Pre_AdamMatRefIdeal m →
    θ_run (Cert.AdamMatRefIdeal.defs (F := Ideal)) (onTc (τ := Cert.AdamMatRefIdeal.τ) (Cert.AdamMatRefIdeal.main (F := Ideal))) ⟨m, fun _ => 0, g⟩ (fun r => (∀ c : Dev Cert.AdamMatRefIdeal.nD,
      r.2.mem ((c.tc : Thread Cert.AdamMatRefIdeal.nD Cert.AdamMatRefIdeal.τ).loc Cert.AdamMatRefIdeal.main_arg0) = m ((c.tc : Thread Cert.AdamMatRefIdeal.nD Cert.AdamMatRefIdeal.τ).loc Cert.AdamMatRefIdeal.main_arg0)
      ∧ r.2.mem ((c.tc : Thread Cert.AdamMatRefIdeal.nD Cert.AdamMatRefIdeal.τ).loc Cert.AdamMatRefIdeal.main_arg1) = m ((c.tc : Thread Cert.AdamMatRefIdeal.nD Cert.AdamMatRefIdeal.τ).loc Cert.AdamMatRefIdeal.main_arg1)
      ∧ r.2.mem ((c.tc : Thread Cert.AdamMatRefIdeal.nD Cert.AdamMatRefIdeal.τ).loc Cert.AdamMatRefIdeal.main_arg2) = m ((c.tc : Thread Cert.AdamMatRefIdeal.nD Cert.AdamMatRefIdeal.τ).loc Cert.AdamMatRefIdeal.main_arg2)
      ∧ r.2.mem ((c.tc : Thread Cert.AdamMatRefIdeal.nD Cert.AdamMatRefIdeal.τ).loc Cert.AdamMatRefIdeal.main_arg3) = m ((c.tc : Thread Cert.AdamMatRefIdeal.nD Cert.AdamMatRefIdeal.τ).loc Cert.AdamMatRefIdeal.main_arg3)
      ∧ r.2.mem ((c.tc : Thread Cert.AdamMatRefIdeal.nD Cert.AdamMatRefIdeal.τ).loc Cert.AdamMatRefIdeal.main_arg4) = m ((c.tc : Thread Cert.AdamMatRefIdeal.nD Cert.AdamMatRefIdeal.τ).loc Cert.AdamMatRefIdeal.main_arg4)
      ∧ r.2.mem ((c.tc : Thread Cert.AdamMatRefIdeal.nD Cert.AdamMatRefIdeal.τ).loc Cert.AdamMatRefIdeal.main_arg5) = m ((c.tc : Thread Cert.AdamMatRefIdeal.nD Cert.AdamMatRefIdeal.τ).loc Cert.AdamMatRefIdeal.main_arg5)
      ∧ r.2.mem ((c.tc : Thread Cert.AdamMatRefIdeal.nD Cert.AdamMatRefIdeal.τ).loc Cert.AdamMatRefIdeal.main_arg6) = m ((c.tc : Thread Cert.AdamMatRefIdeal.nD Cert.AdamMatRefIdeal.τ).loc Cert.AdamMatRefIdeal.main_arg6)
      ∧ r.2.mem ((c.tc : Thread Cert.AdamMatRefIdeal.nD Cert.AdamMatRefIdeal.τ).loc Cert.AdamMatRefIdeal.main_arg7) = m ((c.tc : Thread Cert.AdamMatRefIdeal.nD Cert.AdamMatRefIdeal.τ).loc Cert.AdamMatRefIdeal.main_arg7)
      ∧ r.2.mem ((c.tc : Thread Cert.AdamMatRefIdeal.nD Cert.AdamMatRefIdeal.τ).loc Cert.AdamMatRefIdeal.main_arg8) = m ((c.tc : Thread Cert.AdamMatRefIdeal.nD Cert.AdamMatRefIdeal.τ).loc Cert.AdamMatRefIdeal.main_arg8)
      ∧ r.2.mem ((c.tc : Thread Cert.AdamMatRefIdeal.nD Cert.AdamMatRefIdeal.τ).loc Cert.AdamMatRefIdeal.main_arg9) = m ((c.tc : Thread Cert.AdamMatRefIdeal.nD Cert.AdamMatRefIdeal.τ).loc Cert.AdamMatRefIdeal.main_arg9)
      ∧ r.2.mem ((c.tc : Thread Cert.AdamMatRefIdeal.nD Cert.AdamMatRefIdeal.τ).loc Cert.AdamMatRefIdeal.main_arg10) = m ((c.tc : Thread Cert.AdamMatRefIdeal.nD Cert.AdamMatRefIdeal.τ).loc Cert.AdamMatRefIdeal.main_arg10)
      ∧ r.2.mem ((c.tc : Thread Cert.AdamMatRefIdeal.nD Cert.AdamMatRefIdeal.τ).loc Cert.AdamMatRefIdeal.main_arg11) = m ((c.tc : Thread Cert.AdamMatRefIdeal.nD Cert.AdamMatRefIdeal.τ).loc Cert.AdamMatRefIdeal.main_arg11))
      ∧ r.2.sem = fun _ => 0)

def quiescent_AdamSsdIn [hAdamSsdIn : Cert.AdamSsdIn.Facts] : Prop :=
  ∀ (m : (ℓ : Loc Cert.AdamSsdIn.nD Cert.AdamSsdIn.τ Cert.AdamSsdIn.sig) → Buf (Elt Bits) ℓ) (g : Dev Cert.AdamSsdIn.nD → PrngReg), Pre_AdamSsdIn m →
    θ_run (Cert.AdamSsdIn.defs (F := Bits)) (onTc (τ := Cert.AdamSsdIn.τ) (Cert.AdamSsdIn.main (F := Bits))) ⟨m, fun _ => 0, g⟩ (fun r => (∀ c : Dev Cert.AdamSsdIn.nD,
      r.2.mem ((c.tc : Thread Cert.AdamSsdIn.nD Cert.AdamSsdIn.τ).loc Cert.AdamSsdIn.main_arg0) = m ((c.tc : Thread Cert.AdamSsdIn.nD Cert.AdamSsdIn.τ).loc Cert.AdamSsdIn.main_arg0)
      ∧ r.2.mem ((c.tc : Thread Cert.AdamSsdIn.nD Cert.AdamSsdIn.τ).loc Cert.AdamSsdIn.main_arg1) = m ((c.tc : Thread Cert.AdamSsdIn.nD Cert.AdamSsdIn.τ).loc Cert.AdamSsdIn.main_arg1)
      ∧ r.2.mem ((c.tc : Thread Cert.AdamSsdIn.nD Cert.AdamSsdIn.τ).loc Cert.AdamSsdIn.main_arg2) = m ((c.tc : Thread Cert.AdamSsdIn.nD Cert.AdamSsdIn.τ).loc Cert.AdamSsdIn.main_arg2)
      ∧ r.2.mem ((c.tc : Thread Cert.AdamSsdIn.nD Cert.AdamSsdIn.τ).loc Cert.AdamSsdIn.main_arg3) = m ((c.tc : Thread Cert.AdamSsdIn.nD Cert.AdamSsdIn.τ).loc Cert.AdamSsdIn.main_arg3))
      ∧ r.2.sem = fun _ => 0)

def quiescent_AdamSsdInIdeal [hAdamSsdInIdeal : Cert.AdamSsdInIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg), Pre_AdamSsdInIdeal m →
    θ_run (Cert.AdamSsdInIdeal.defs (F := Ideal)) (onTc (τ := Cert.AdamSsdInIdeal.τ) (Cert.AdamSsdInIdeal.main (F := Ideal))) ⟨m, fun _ => 0, g⟩ (fun r => (∀ c : Dev Cert.AdamSsdInIdeal.nD,
      r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
      ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
      ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
      ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3))
      ∧ r.2.sem = fun _ => 0)

def quiescent_AdamSsdInRefIdeal [hAdamSsdInRefIdeal : Cert.AdamSsdInRefIdeal.Facts] : Prop :=
  ∀ (m : (ℓ : Loc Cert.AdamSsdInRefIdeal.nD Cert.AdamSsdInRefIdeal.τ Cert.AdamSsdInRefIdeal.sig) → Buf (Elt Ideal) ℓ) (g : Dev Cert.AdamSsdInRefIdeal.nD → PrngReg), Pre_AdamSsdInRefIdeal m →
    θ_run (Cert.AdamSsdInRefIdeal.defs (F := Ideal)) (onTc (τ := Cert.AdamSsdInRefIdeal.τ) (Cert.AdamSsdInRefIdeal.main (F := Ideal))) ⟨m, fun _ => 0, g⟩ (fun r => (∀ c : Dev Cert.AdamSsdInRefIdeal.nD,
      r.2.mem ((c.tc : Thread Cert.AdamSsdInRefIdeal.nD Cert.AdamSsdInRefIdeal.τ).loc Cert.AdamSsdInRefIdeal.main_arg0) = m ((c.tc : Thread Cert.AdamSsdInRefIdeal.nD Cert.AdamSsdInRefIdeal.τ).loc Cert.AdamSsdInRefIdeal.main_arg0)
      ∧ r.2.mem ((c.tc : Thread Cert.AdamSsdInRefIdeal.nD Cert.AdamSsdInRefIdeal.τ).loc Cert.AdamSsdInRefIdeal.main_arg1) = m ((c.tc : Thread Cert.AdamSsdInRefIdeal.nD Cert.AdamSsdInRefIdeal.τ).loc Cert.AdamSsdInRefIdeal.main_arg1)
      ∧ r.2.mem ((c.tc : Thread Cert.AdamSsdInRefIdeal.nD Cert.AdamSsdInRefIdeal.τ).loc Cert.AdamSsdInRefIdeal.main_arg2) = m ((c.tc : Thread Cert.AdamSsdInRefIdeal.nD Cert.AdamSsdInRefIdeal.τ).loc Cert.AdamSsdInRefIdeal.main_arg2)
      ∧ r.2.mem ((c.tc : Thread Cert.AdamSsdInRefIdeal.nD Cert.AdamSsdInRefIdeal.τ).loc Cert.AdamSsdInRefIdeal.main_arg3) = m ((c.tc : Thread Cert.AdamSsdInRefIdeal.nD Cert.AdamSsdInRefIdeal.τ).loc Cert.AdamSsdInRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v27) = v0 c
          ∧ r.2.mem ((c.tc : Thread Cert.ConvFwdRefIdeal.nD Cert.ConvFwdRefIdeal.τ).loc Cert.ConvFwdRefIdeal.main_v47) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v24_0)) (v1 : (c : Dev Cert.ConvBwdIdeal.nD) → Buf (Elt Ideal) ((c.tc : Thread Cert.ConvBwdIdeal.nD Cert.ConvBwdIdeal.τ).loc Cert.ConvBwdIdeal.main_v24_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v24_0) = v0 c
          ∧ r.2.mem ((c.tc : Thread Cert.ConvBwdIdeal.nD Cert.ConvBwdIdeal.τ).loc Cert.ConvBwdIdeal.main_v24_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v65) = v0 c
          ∧ r.2.mem ((c.tc : Thread Cert.ConvBwdRefIdeal.nD Cert.ConvBwdRefIdeal.τ).loc Cert.ConvBwdRefIdeal.main_v66) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)) →
    ∃ (v0 : (c : Dev Cert.MlpBwdIdeal.nD) → Buf (Elt Ideal) ((c.tc : Thread Cert.MlpBwdIdeal.nD Cert.MlpBwdIdeal.τ).loc Cert.MlpBwdIdeal.main_v11)) (v1 : (c : Dev Cert.MlpBwdIdeal.nD) → Buf (Elt Ideal) ((c.tc : Thread Cert.MlpBwdIdeal.nD Cert.MlpBwdIdeal.τ).loc Cert.MlpBwdIdeal.main_v12)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v11) = v0 c
          ∧ r.2.mem ((c.tc : Thread Cert.MlpBwdIdeal.nD Cert.MlpBwdIdeal.τ).loc Cert.MlpBwdIdeal.main_v12) = v1 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v20) = v0 c
          ∧ r.2.mem ((c.tc : Thread Cert.MlpBwdRefIdeal.nD Cert.MlpBwdRefIdeal.τ).loc Cert.MlpBwdRefIdeal.main_v25) = v1 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)) →
    ∃ (v0 : (c : Dev Cert.MlpFwdIdeal.nD) → Buf (Elt Ideal) ((c.tc : Thread Cert.MlpFwdIdeal.nD Cert.MlpFwdIdeal.τ).loc Cert.MlpFwdIdeal.main_v6_0)) (v1 : (c : Dev Cert.MlpFwdIdeal.nD) → Buf (Elt Ideal) ((c.tc : Thread Cert.MlpFwdIdeal.nD Cert.MlpFwdIdeal.τ).loc Cert.MlpFwdIdeal.main_v6_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v6_0) = v0 c
          ∧ r.2.mem ((c.tc : Thread Cert.MlpFwdIdeal.nD Cert.MlpFwdIdeal.τ).loc Cert.MlpFwdIdeal.main_v6_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v7) = v0 c
          ∧ r.2.mem ((c.tc : Thread Cert.MlpFwdRefIdeal.nD Cert.MlpFwdRefIdeal.τ).loc Cert.MlpFwdRefIdeal.main_v8) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4))

def preserves_ScBwd_ScBwdIdeal : Prop :=
  True

def algebraic_ScBwdIdeal_ScBwdRefIdeal [hScBwdIdeal : Cert.ScBwdIdeal.Facts] [hScBwdRefIdeal : Cert.ScBwdRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)
      ∧ m' ((c.tc : Thread Cert.ScBwdRefIdeal.nD Cert.ScBwdRefIdeal.τ).loc Cert.ScBwdRefIdeal.main_arg3) = m ((c.tc : Thread Cert.ScBwdIdeal.nD Cert.ScBwdIdeal.τ).loc Cert.ScBwdIdeal.main_arg3)
      ∧ m' ((c.tc : Thread Cert.ScBwdRefIdeal.nD Cert.ScBwdRefIdeal.τ).loc Cert.ScBwdRefIdeal.main_arg4) = m ((c.tc : Thread Cert.ScBwdIdeal.nD Cert.ScBwdIdeal.τ).loc Cert.ScBwdIdeal.main_arg4)) →
    ∃ (v0 : (c : Dev Cert.ScBwdIdeal.nD) → Buf (Elt Ideal) ((c.tc : Thread Cert.ScBwdIdeal.nD Cert.ScBwdIdeal.τ).loc Cert.ScBwdIdeal.main_v38)) (v1 : (c : Dev Cert.ScBwdIdeal.nD) → Buf (Elt Ideal) ((c.tc : Thread Cert.ScBwdIdeal.nD Cert.ScBwdIdeal.τ).loc Cert.ScBwdIdeal.main_v39)) (v2 : (c : Dev Cert.ScBwdIdeal.nD) → Buf (Elt Ideal) ((c.tc : Thread Cert.ScBwdIdeal.nD Cert.ScBwdIdeal.τ).loc Cert.ScBwdIdeal.main_v37_1)) (v3 : (c : Dev Cert.ScBwdIdeal.nD) → Buf (Elt Ideal) ((c.tc : Thread Cert.ScBwdIdeal.nD Cert.ScBwdIdeal.τ).loc Cert.ScBwdIdeal.main_v36)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v38) = v0 c
          ∧ r.2.mem ((c.tc : Thread Cert.ScBwdIdeal.nD Cert.ScBwdIdeal.τ).loc Cert.ScBwdIdeal.main_v39) = v1 c
          ∧ r.2.mem ((c.tc : Thread Cert.ScBwdIdeal.nD Cert.ScBwdIdeal.τ).loc Cert.ScBwdIdeal.main_v37_1) = v2 c
          ∧ r.2.mem ((c.tc : Thread Cert.ScBwdIdeal.nD Cert.ScBwdIdeal.τ).loc Cert.ScBwdIdeal.main_v36) = v3 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
          ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3)
          ∧ r.2.mem ((c.tc : Thread Cert.ScBwdIdeal.nD Cert.ScBwdIdeal.τ).loc Cert.ScBwdIdeal.main_arg4) = m ((c.tc : Thread Cert.ScBwdIdeal.nD Cert.ScBwdIdeal.τ).loc Cert.ScBwdIdeal.main_arg4))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v66) = v0 c
          ∧ r.2.mem ((c.tc : Thread Cert.ScBwdRefIdeal.nD Cert.ScBwdRefIdeal.τ).loc Cert.ScBwdRefIdeal.main_v69) = v1 c
          ∧ r.2.mem ((c.tc : Thread Cert.ScBwdRefIdeal.nD Cert.ScBwdRefIdeal.τ).loc Cert.ScBwdRefIdeal.main_v70) = v2 c
          ∧ r.2.mem ((c.tc : Thread Cert.ScBwdRefIdeal.nD Cert.ScBwdRefIdeal.τ).loc Cert.ScBwdRefIdeal.main_v72) = v3 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2)
          ∧ r.2.mem ((c.tc : Thread Cert.ScBwdRefIdeal.nD Cert.ScBwdRefIdeal.τ).loc Cert.ScBwdRefIdeal.main_arg3) = m' ((c.tc : Thread Cert.ScBwdRefIdeal.nD Cert.ScBwdRefIdeal.τ).loc Cert.ScBwdRefIdeal.main_arg3)
          ∧ r.2.mem ((c.tc : Thread Cert.ScBwdRefIdeal.nD Cert.ScBwdRefIdeal.τ).loc Cert.ScBwdRefIdeal.main_arg4) = m' ((c.tc : Thread Cert.ScBwdRefIdeal.nD Cert.ScBwdRefIdeal.τ).loc Cert.ScBwdRefIdeal.main_arg4))

def preserves_SsdInBwd_SsdInBwdIdeal : Prop :=
  True

def algebraic_SsdInBwdIdeal_SsdInBwdRefIdeal [hSsdInBwdIdeal : Cert.SsdInBwdIdeal.Facts] [hSsdInBwdRefIdeal : Cert.SsdInBwdRefIdeal.Facts] : Prop :=
  ∀ (m : (ℓ : Loc Cert.SsdInBwdIdeal.nD Cert.SsdInBwdIdeal.τ Cert.SsdInBwdIdeal.sig) → Buf (Elt Ideal) ℓ) (g : Dev Cert.SsdInBwdIdeal.nD → PrngReg)
    (m' : (ℓ : Loc Cert.SsdInBwdRefIdeal.nD Cert.SsdInBwdRefIdeal.τ Cert.SsdInBwdRefIdeal.sig) → Buf (Elt Ideal) ℓ) (g' : Dev Cert.SsdInBwdRefIdeal.nD → PrngReg), Pre_SsdInBwdIdeal m →
    (∀ c : Dev Cert.SsdInBwdIdeal.nD,
      m' ((c.tc : Thread Cert.SsdInBwdRefIdeal.nD Cert.SsdInBwdRefIdeal.τ).loc Cert.SsdInBwdRefIdeal.main_arg0) = m ((c.tc : Thread Cert.SsdInBwdIdeal.nD Cert.SsdInBwdIdeal.τ).loc Cert.SsdInBwdIdeal.main_arg0)
      ∧ m' ((c.tc : Thread Cert.SsdInBwdRefIdeal.nD Cert.SsdInBwdRefIdeal.τ).loc Cert.SsdInBwdRefIdeal.main_arg1) = m ((c.tc : Thread Cert.SsdInBwdIdeal.nD Cert.SsdInBwdIdeal.τ).loc Cert.SsdInBwdIdeal.main_arg1)
      ∧ m' ((c.tc : Thread Cert.SsdInBwdRefIdeal.nD Cert.SsdInBwdRefIdeal.τ).loc Cert.SsdInBwdRefIdeal.main_arg2) = m ((c.tc : Thread Cert.SsdInBwdIdeal.nD Cert.SsdInBwdIdeal.τ).loc Cert.SsdInBwdIdeal.main_arg2)
      ∧ m' ((c.tc : Thread Cert.SsdInBwdRefIdeal.nD Cert.SsdInBwdRefIdeal.τ).loc Cert.SsdInBwdRefIdeal.main_arg3) = m ((c.tc : Thread Cert.SsdInBwdIdeal.nD Cert.SsdInBwdIdeal.τ).loc Cert.SsdInBwdIdeal.main_arg3)) →
    ∃ (v0 : (c : Dev Cert.SsdInBwdIdeal.nD) → Buf (Elt Ideal) ((c.tc : Thread Cert.SsdInBwdIdeal.nD Cert.SsdInBwdIdeal.τ).loc Cert.SsdInBwdIdeal.main_v7)) (v1 : (c : Dev Cert.SsdInBwdIdeal.nD) → Buf (Elt Ideal) ((c.tc : Thread Cert.SsdInBwdIdeal.nD Cert.SsdInBwdIdeal.τ).loc Cert.SsdInBwdIdeal.main_v12)),
      θ_run (Cert.SsdInBwdIdeal.defs (F := Ideal)) (onTc (τ := Cert.SsdInBwdIdeal.τ) (Cert.SsdInBwdIdeal.main (F := Ideal))) ⟨m, fun _ => 0, g⟩ (fun r => ∀ c : Dev Cert.SsdInBwdIdeal.nD,
          r.2.mem ((c.tc : Thread Cert.SsdInBwdIdeal.nD Cert.SsdInBwdIdeal.τ).loc Cert.SsdInBwdIdeal.main_v7) = v0 c
          ∧ r.2.mem ((c.tc : Thread Cert.SsdInBwdIdeal.nD Cert.SsdInBwdIdeal.τ).loc Cert.SsdInBwdIdeal.main_v12) = v1 c
          ∧ r.2.mem ((c.tc : Thread Cert.SsdInBwdIdeal.nD Cert.SsdInBwdIdeal.τ).loc Cert.SsdInBwdIdeal.main_arg0) = m ((c.tc : Thread Cert.SsdInBwdIdeal.nD Cert.SsdInBwdIdeal.τ).loc Cert.SsdInBwdIdeal.main_arg0)
          ∧ r.2.mem ((c.tc : Thread Cert.SsdInBwdIdeal.nD Cert.SsdInBwdIdeal.τ).loc Cert.SsdInBwdIdeal.main_arg1) = m ((c.tc : Thread Cert.SsdInBwdIdeal.nD Cert.SsdInBwdIdeal.τ).loc Cert.SsdInBwdIdeal.main_arg1)
          ∧ r.2.mem ((c.tc : Thread Cert.SsdInBwdIdeal.nD Cert.SsdInBwdIdeal.τ).loc Cert.SsdInBwdIdeal.main_arg2) = m ((c.tc : Thread Cert.SsdInBwdIdeal.nD Cert.SsdInBwdIdeal.τ).loc Cert.SsdInBwdIdeal.main_arg2)
          ∧ r.2.mem ((c.tc : Thread Cert.SsdInBwdIdeal.nD Cert.SsdInBwdIdeal.τ).loc Cert.SsdInBwdIdeal.main_arg3) = m ((c.tc : Thread Cert.SsdInBwdIdeal.nD Cert.SsdInBwdIdeal.τ).loc Cert.SsdInBwdIdeal.main_arg3))
      ∧ θ_run (Cert.SsdInBwdRefIdeal.defs (F := Ideal)) (onTc (τ := Cert.SsdInBwdRefIdeal.τ) (Cert.SsdInBwdRefIdeal.main (F := Ideal))) ⟨m', fun _ => 0, g'⟩ (fun r => ∀ c : Dev Cert.SsdInBwdRefIdeal.nD,
          r.2.mem ((c.tc : Thread Cert.SsdInBwdRefIdeal.nD Cert.SsdInBwdRefIdeal.τ).loc Cert.SsdInBwdRefIdeal.main_v11) = v0 c
          ∧ r.2.mem ((c.tc : Thread Cert.SsdInBwdRefIdeal.nD Cert.SsdInBwdRefIdeal.τ).loc Cert.SsdInBwdRefIdeal.main_v12) = v1 c
          ∧ r.2.mem ((c.tc : Thread Cert.SsdInBwdRefIdeal.nD Cert.SsdInBwdRefIdeal.τ).loc Cert.SsdInBwdRefIdeal.main_arg0) = m' ((c.tc : Thread Cert.SsdInBwdRefIdeal.nD Cert.SsdInBwdRefIdeal.τ).loc Cert.SsdInBwdRefIdeal.main_arg0)
          ∧ r.2.mem ((c.tc : Thread Cert.SsdInBwdRefIdeal.nD Cert.SsdInBwdRefIdeal.τ).loc Cert.SsdInBwdRefIdeal.main_arg1) = m' ((c.tc : Thread Cert.SsdInBwdRefIdeal.nD Cert.SsdInBwdRefIdeal.τ).loc Cert.SsdInBwdRefIdeal.main_arg1)
          ∧ r.2.mem ((c.tc : Thread Cert.SsdInBwdRefIdeal.nD Cert.SsdInBwdRefIdeal.τ).loc Cert.SsdInBwdRefIdeal.main_arg2) = m' ((c.tc : Thread Cert.SsdInBwdRefIdeal.nD Cert.SsdInBwdRefIdeal.τ).loc Cert.SsdInBwdRefIdeal.main_arg2)
          ∧ r.2.mem ((c.tc : Thread Cert.SsdInBwdRefIdeal.nD Cert.SsdInBwdRefIdeal.τ).loc Cert.SsdInBwdRefIdeal.main_arg3) = m' ((c.tc : Thread Cert.SsdInBwdRefIdeal.nD Cert.SsdInBwdRefIdeal.τ).loc Cert.SsdInBwdRefIdeal.main_arg3))

def preserves_SsdOutBwd_SsdOutBwdIdeal : Prop :=
  True

def algebraic_SsdOutBwdIdeal_SsdOutBwdRefIdeal [hSsdOutBwdIdeal : Cert.SsdOutBwdIdeal.Facts] [hSsdOutBwdRefIdeal : Cert.SsdOutBwdRefIdeal.Facts] : Prop :=
  ∀ (m : (ℓ : Loc Cert.SsdOutBwdIdeal.nD Cert.SsdOutBwdIdeal.τ Cert.SsdOutBwdIdeal.sig) → Buf (Elt Ideal) ℓ) (g : Dev Cert.SsdOutBwdIdeal.nD → PrngReg)
    (m' : (ℓ : Loc Cert.SsdOutBwdRefIdeal.nD Cert.SsdOutBwdRefIdeal.τ Cert.SsdOutBwdRefIdeal.sig) → Buf (Elt Ideal) ℓ) (g' : Dev Cert.SsdOutBwdRefIdeal.nD → PrngReg), Pre_SsdOutBwdIdeal m →
    (∀ c : Dev Cert.SsdOutBwdIdeal.nD,
      m' ((c.tc : Thread Cert.SsdOutBwdRefIdeal.nD Cert.SsdOutBwdRefIdeal.τ).loc Cert.SsdOutBwdRefIdeal.main_arg0) = m ((c.tc : Thread Cert.SsdOutBwdIdeal.nD Cert.SsdOutBwdIdeal.τ).loc Cert.SsdOutBwdIdeal.main_arg0)
      ∧ m' ((c.tc : Thread Cert.SsdOutBwdRefIdeal.nD Cert.SsdOutBwdRefIdeal.τ).loc Cert.SsdOutBwdRefIdeal.main_arg1) = m ((c.tc : Thread Cert.SsdOutBwdIdeal.nD Cert.SsdOutBwdIdeal.τ).loc Cert.SsdOutBwdIdeal.main_arg1)
      ∧ m' ((c.tc : Thread Cert.SsdOutBwdRefIdeal.nD Cert.SsdOutBwdRefIdeal.τ).loc Cert.SsdOutBwdRefIdeal.main_arg2) = m ((c.tc : Thread Cert.SsdOutBwdIdeal.nD Cert.SsdOutBwdIdeal.τ).loc Cert.SsdOutBwdIdeal.main_arg2)) →
    ∃ (v0 : (c : Dev Cert.SsdOutBwdIdeal.nD) → Buf (Elt Ideal) ((c.tc : Thread Cert.SsdOutBwdIdeal.nD Cert.SsdOutBwdIdeal.τ).loc Cert.SsdOutBwdIdeal.main_v5)) (v1 : (c : Dev Cert.SsdOutBwdIdeal.nD) → Buf (Elt Ideal) ((c.tc : Thread Cert.SsdOutBwdIdeal.nD Cert.SsdOutBwdIdeal.τ).loc Cert.SsdOutBwdIdeal.main_v6)),
      θ_run (Cert.SsdOutBwdIdeal.defs (F := Ideal)) (onTc (τ := Cert.SsdOutBwdIdeal.τ) (Cert.SsdOutBwdIdeal.main (F := Ideal))) ⟨m, fun _ => 0, g⟩ (fun r => ∀ c : Dev Cert.SsdOutBwdIdeal.nD,
          r.2.mem ((c.tc : Thread Cert.SsdOutBwdIdeal.nD Cert.SsdOutBwdIdeal.τ).loc Cert.SsdOutBwdIdeal.main_v5) = v0 c
          ∧ r.2.mem ((c.tc : Thread Cert.SsdOutBwdIdeal.nD Cert.SsdOutBwdIdeal.τ).loc Cert.SsdOutBwdIdeal.main_v6) = v1 c
          ∧ r.2.mem ((c.tc : Thread Cert.SsdOutBwdIdeal.nD Cert.SsdOutBwdIdeal.τ).loc Cert.SsdOutBwdIdeal.main_arg0) = m ((c.tc : Thread Cert.SsdOutBwdIdeal.nD Cert.SsdOutBwdIdeal.τ).loc Cert.SsdOutBwdIdeal.main_arg0)
          ∧ r.2.mem ((c.tc : Thread Cert.SsdOutBwdIdeal.nD Cert.SsdOutBwdIdeal.τ).loc Cert.SsdOutBwdIdeal.main_arg1) = m ((c.tc : Thread Cert.SsdOutBwdIdeal.nD Cert.SsdOutBwdIdeal.τ).loc Cert.SsdOutBwdIdeal.main_arg1)
          ∧ r.2.mem ((c.tc : Thread Cert.SsdOutBwdIdeal.nD Cert.SsdOutBwdIdeal.τ).loc Cert.SsdOutBwdIdeal.main_arg2) = m ((c.tc : Thread Cert.SsdOutBwdIdeal.nD Cert.SsdOutBwdIdeal.τ).loc Cert.SsdOutBwdIdeal.main_arg2))
      ∧ θ_run (Cert.SsdOutBwdRefIdeal.defs (F := Ideal)) (onTc (τ := Cert.SsdOutBwdRefIdeal.τ) (Cert.SsdOutBwdRefIdeal.main (F := Ideal))) ⟨m', fun _ => 0, g'⟩ (fun r => ∀ c : Dev Cert.SsdOutBwdRefIdeal.nD,
          r.2.mem ((c.tc : Thread Cert.SsdOutBwdRefIdeal.nD Cert.SsdOutBwdRefIdeal.τ).loc Cert.SsdOutBwdRefIdeal.main_v6) = v0 c
          ∧ r.2.mem ((c.tc : Thread Cert.SsdOutBwdRefIdeal.nD Cert.SsdOutBwdRefIdeal.τ).loc Cert.SsdOutBwdRefIdeal.main_v8) = v1 c
          ∧ r.2.mem ((c.tc : Thread Cert.SsdOutBwdRefIdeal.nD Cert.SsdOutBwdRefIdeal.τ).loc Cert.SsdOutBwdRefIdeal.main_arg0) = m' ((c.tc : Thread Cert.SsdOutBwdRefIdeal.nD Cert.SsdOutBwdRefIdeal.τ).loc Cert.SsdOutBwdRefIdeal.main_arg0)
          ∧ r.2.mem ((c.tc : Thread Cert.SsdOutBwdRefIdeal.nD Cert.SsdOutBwdRefIdeal.τ).loc Cert.SsdOutBwdRefIdeal.main_arg1) = m' ((c.tc : Thread Cert.SsdOutBwdRefIdeal.nD Cert.SsdOutBwdRefIdeal.τ).loc Cert.SsdOutBwdRefIdeal.main_arg1)
          ∧ r.2.mem ((c.tc : Thread Cert.SsdOutBwdRefIdeal.nD Cert.SsdOutBwdRefIdeal.τ).loc Cert.SsdOutBwdRefIdeal.main_arg2) = m' ((c.tc : Thread Cert.SsdOutBwdRefIdeal.nD Cert.SsdOutBwdRefIdeal.τ).loc Cert.SsdOutBwdRefIdeal.main_arg2))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)
      ∧ m' ((c.tc : Thread Cert.ScFwdRefIdeal.nD Cert.ScFwdRefIdeal.τ).loc Cert.ScFwdRefIdeal.main_arg2) = m ((c.tc : Thread Cert.ScFwdIdeal.nD Cert.ScFwdIdeal.τ).loc Cert.ScFwdIdeal.main_arg2)
      ∧ m' ((c.tc : Thread Cert.ScFwdRefIdeal.nD Cert.ScFwdRefIdeal.τ).loc Cert.ScFwdRefIdeal.main_arg3) = m ((c.tc : Thread Cert.ScFwdIdeal.nD Cert.ScFwdIdeal.τ).loc Cert.ScFwdIdeal.main_arg3)
      ∧ m' ((c.tc : Thread Cert.ScFwdRefIdeal.nD Cert.ScFwdRefIdeal.τ).loc Cert.ScFwdRefIdeal.main_arg4) = m ((c.tc : Thread Cert.ScFwdIdeal.nD Cert.ScFwdIdeal.τ).loc Cert.ScFwdIdeal.main_arg4)
      ∧ m' ((c.tc : Thread Cert.ScFwdRefIdeal.nD Cert.ScFwdRefIdeal.τ).loc Cert.ScFwdRefIdeal.main_arg5) = m ((c.tc : Thread Cert.ScFwdIdeal.nD Cert.ScFwdIdeal.τ).loc Cert.ScFwdIdeal.main_arg5)) →
    ∃ (v0 : (c : Dev Cert.ScFwdIdeal.nD) → Buf (Elt Ideal) ((c.tc : Thread Cert.ScFwdIdeal.nD Cert.ScFwdIdeal.τ).loc Cert.ScFwdIdeal.main_v7_0)) (v1 : (c : Dev Cert.ScFwdIdeal.nD) → Buf (Elt Ideal) ((c.tc : Thread Cert.ScFwdIdeal.nD Cert.ScFwdIdeal.τ).loc Cert.ScFwdIdeal.main_v7_1)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v7_0) = v0 c
          ∧ r.2.mem ((c.tc : Thread Cert.ScFwdIdeal.nD Cert.ScFwdIdeal.τ).loc Cert.ScFwdIdeal.main_v7_1) = v1 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
          ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2)
          ∧ r.2.mem ((c.tc : Thread Cert.ScFwdIdeal.nD Cert.ScFwdIdeal.τ).loc Cert.ScFwdIdeal.main_arg3) = m ((c.tc : Thread Cert.ScFwdIdeal.nD Cert.ScFwdIdeal.τ).loc Cert.ScFwdIdeal.main_arg3)
          ∧ r.2.mem ((c.tc : Thread Cert.ScFwdIdeal.nD Cert.ScFwdIdeal.τ).loc Cert.ScFwdIdeal.main_arg4) = m ((c.tc : Thread Cert.ScFwdIdeal.nD Cert.ScFwdIdeal.τ).loc Cert.ScFwdIdeal.main_arg4)
          ∧ r.2.mem ((c.tc : Thread Cert.ScFwdIdeal.nD Cert.ScFwdIdeal.τ).loc Cert.ScFwdIdeal.main_arg5) = m ((c.tc : Thread Cert.ScFwdIdeal.nD Cert.ScFwdIdeal.τ).loc Cert.ScFwdIdeal.main_arg5))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v28) = v0 c
          ∧ r.2.mem ((c.tc : Thread Cert.ScFwdRefIdeal.nD Cert.ScFwdRefIdeal.τ).loc Cert.ScFwdRefIdeal.main_v29) = v1 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1)
          ∧ r.2.mem ((c.tc : Thread Cert.ScFwdRefIdeal.nD Cert.ScFwdRefIdeal.τ).loc Cert.ScFwdRefIdeal.main_arg2) = m' ((c.tc : Thread Cert.ScFwdRefIdeal.nD Cert.ScFwdRefIdeal.τ).loc Cert.ScFwdRefIdeal.main_arg2)
          ∧ r.2.mem ((c.tc : Thread Cert.ScFwdRefIdeal.nD Cert.ScFwdRefIdeal.τ).loc Cert.ScFwdRefIdeal.main_arg3) = m' ((c.tc : Thread Cert.ScFwdRefIdeal.nD Cert.ScFwdRefIdeal.τ).loc Cert.ScFwdRefIdeal.main_arg3)
          ∧ r.2.mem ((c.tc : Thread Cert.ScFwdRefIdeal.nD Cert.ScFwdRefIdeal.τ).loc Cert.ScFwdRefIdeal.main_arg4) = m' ((c.tc : Thread Cert.ScFwdRefIdeal.nD Cert.ScFwdRefIdeal.τ).loc Cert.ScFwdRefIdeal.main_arg4)
          ∧ r.2.mem ((c.tc : Thread Cert.ScFwdRefIdeal.nD Cert.ScFwdRefIdeal.τ).loc Cert.ScFwdRefIdeal.main_arg5) = m' ((c.tc : Thread Cert.ScFwdRefIdeal.nD Cert.ScFwdRefIdeal.τ).loc Cert.ScFwdRefIdeal.main_arg5))

def preserves_SsdInFwd_SsdInFwdIdeal : Prop :=
  True

def algebraic_SsdInFwdIdeal_SsdInFwdRefIdeal [hSsdInFwdIdeal : Cert.SsdInFwdIdeal.Facts] [hSsdInFwdRefIdeal : Cert.SsdInFwdRefIdeal.Facts] : Prop :=
  ∀ (m : (ℓ : Loc Cert.SsdInFwdIdeal.nD Cert.SsdInFwdIdeal.τ Cert.SsdInFwdIdeal.sig) → Buf (Elt Ideal) ℓ) (g : Dev Cert.SsdInFwdIdeal.nD → PrngReg)
    (m' : (ℓ : Loc Cert.SsdInFwdRefIdeal.nD Cert.SsdInFwdRefIdeal.τ Cert.SsdInFwdRefIdeal.sig) → Buf (Elt Ideal) ℓ) (g' : Dev Cert.SsdInFwdRefIdeal.nD → PrngReg), Pre_SsdInFwdIdeal m →
    (∀ c : Dev Cert.SsdInFwdIdeal.nD,
      m' ((c.tc : Thread Cert.SsdInFwdRefIdeal.nD Cert.SsdInFwdRefIdeal.τ).loc Cert.SsdInFwdRefIdeal.main_arg0) = m ((c.tc : Thread Cert.SsdInFwdIdeal.nD Cert.SsdInFwdIdeal.τ).loc Cert.SsdInFwdIdeal.main_arg0)
      ∧ m' ((c.tc : Thread Cert.SsdInFwdRefIdeal.nD Cert.SsdInFwdRefIdeal.τ).loc Cert.SsdInFwdRefIdeal.main_arg1) = m ((c.tc : Thread Cert.SsdInFwdIdeal.nD Cert.SsdInFwdIdeal.τ).loc Cert.SsdInFwdIdeal.main_arg1)) →
    ∃ (v0 : (c : Dev Cert.SsdInFwdIdeal.nD) → Buf (Elt Ideal) ((c.tc : Thread Cert.SsdInFwdIdeal.nD Cert.SsdInFwdIdeal.τ).loc Cert.SsdInFwdIdeal.main_v5)) (v1 : (c : Dev Cert.SsdInFwdIdeal.nD) → Buf (Elt Ideal) ((c.tc : Thread Cert.SsdInFwdIdeal.nD Cert.SsdInFwdIdeal.τ).loc Cert.SsdInFwdIdeal.main_v7)),
      θ_run (Cert.SsdInFwdIdeal.defs (F := Ideal)) (onTc (τ := Cert.SsdInFwdIdeal.τ) (Cert.SsdInFwdIdeal.main (F := Ideal))) ⟨m, fun _ => 0, g⟩ (fun r => ∀ c : Dev Cert.SsdInFwdIdeal.nD,
          r.2.mem ((c.tc : Thread Cert.SsdInFwdIdeal.nD Cert.SsdInFwdIdeal.τ).loc Cert.SsdInFwdIdeal.main_v5) = v0 c
          ∧ r.2.mem ((c.tc : Thread Cert.SsdInFwdIdeal.nD Cert.SsdInFwdIdeal.τ).loc Cert.SsdInFwdIdeal.main_v7) = v1 c
          ∧ r.2.mem ((c.tc : Thread Cert.SsdInFwdIdeal.nD Cert.SsdInFwdIdeal.τ).loc Cert.SsdInFwdIdeal.main_arg0) = m ((c.tc : Thread Cert.SsdInFwdIdeal.nD Cert.SsdInFwdIdeal.τ).loc Cert.SsdInFwdIdeal.main_arg0)
          ∧ r.2.mem ((c.tc : Thread Cert.SsdInFwdIdeal.nD Cert.SsdInFwdIdeal.τ).loc Cert.SsdInFwdIdeal.main_arg1) = m ((c.tc : Thread Cert.SsdInFwdIdeal.nD Cert.SsdInFwdIdeal.τ).loc Cert.SsdInFwdIdeal.main_arg1))
      ∧ θ_run (Cert.SsdInFwdRefIdeal.defs (F := Ideal)) (onTc (τ := Cert.SsdInFwdRefIdeal.τ) (Cert.SsdInFwdRefIdeal.main (F := Ideal))) ⟨m', fun _ => 0, g'⟩ (fun r => ∀ c : Dev Cert.SsdInFwdRefIdeal.nD,
          r.2.mem ((c.tc : Thread Cert.SsdInFwdRefIdeal.nD Cert.SsdInFwdRefIdeal.τ).loc Cert.SsdInFwdRefIdeal.main_v4) = v0 c
          ∧ r.2.mem ((c.tc : Thread Cert.SsdInFwdRefIdeal.nD Cert.SsdInFwdRefIdeal.τ).loc Cert.SsdInFwdRefIdeal.main_v3) = v1 c
          ∧ r.2.mem ((c.tc : Thread Cert.SsdInFwdRefIdeal.nD Cert.SsdInFwdRefIdeal.τ).loc Cert.SsdInFwdRefIdeal.main_arg0) = m' ((c.tc : Thread Cert.SsdInFwdRefIdeal.nD Cert.SsdInFwdRefIdeal.τ).loc Cert.SsdInFwdRefIdeal.main_arg0)
          ∧ r.2.mem ((c.tc : Thread Cert.SsdInFwdRefIdeal.nD Cert.SsdInFwdRefIdeal.τ).loc Cert.SsdInFwdRefIdeal.main_arg1) = m' ((c.tc : Thread Cert.SsdInFwdRefIdeal.nD Cert.SsdInFwdRefIdeal.τ).loc Cert.SsdInFwdRefIdeal.main_arg1))

def preserves_SsdOutFwd_SsdOutFwdIdeal : Prop :=
  True

def algebraic_SsdOutFwdIdeal_SsdOutFwdRefIdeal [hSsdOutFwdIdeal : Cert.SsdOutFwdIdeal.Facts] [hSsdOutFwdRefIdeal : Cert.SsdOutFwdRefIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg)
    (m' : (ℓ : Loc Cert.SsdOutFwdRefIdeal.nD Cert.SsdOutFwdRefIdeal.τ Cert.SsdOutFwdRefIdeal.sig) → Buf (Elt Ideal) ℓ) (g' : Dev Cert.SsdOutFwdRefIdeal.nD → PrngReg), Pre_SsdOutFwdIdeal m →
    (∀ c : Dev Cert.SsdOutFwdIdeal.nD,
      m' ((c.tc : Thread Cert.SsdOutFwdRefIdeal.nD Cert.SsdOutFwdRefIdeal.τ).loc Cert.SsdOutFwdRefIdeal.main_arg0) = m ((c.tc : Thread Cert.SsdOutFwdIdeal.nD Cert.SsdOutFwdIdeal.τ).loc Cert.SsdOutFwdIdeal.main_arg0)
      ∧ m' ((c.tc : Thread Cert.SsdOutFwdRefIdeal.nD Cert.SsdOutFwdRefIdeal.τ).loc Cert.SsdOutFwdRefIdeal.main_arg1) = m ((c.tc : Thread Cert.SsdOutFwdIdeal.nD Cert.SsdOutFwdIdeal.τ).loc Cert.SsdOutFwdIdeal.main_arg1)
      ∧ m' ((c.tc : Thread Cert.SsdOutFwdRefIdeal.nD Cert.SsdOutFwdRefIdeal.τ).loc Cert.SsdOutFwdRefIdeal.main_arg2) = m ((c.tc : Thread Cert.SsdOutFwdIdeal.nD Cert.SsdOutFwdIdeal.τ).loc Cert.SsdOutFwdIdeal.main_arg2)
      ∧ m' ((c.tc : Thread Cert.SsdOutFwdRefIdeal.nD Cert.SsdOutFwdRefIdeal.τ).loc Cert.SsdOutFwdRefIdeal.main_arg3) = m ((c.tc : Thread Cert.SsdOutFwdIdeal.nD Cert.SsdOutFwdIdeal.τ).loc Cert.SsdOutFwdIdeal.main_arg3)) →
    ∃ (v0 : (c : Dev Cert.SsdOutFwdIdeal.nD) → Buf (Elt Ideal) ((c.tc : Thread Cert.SsdOutFwdIdeal.nD Cert.SsdOutFwdIdeal.τ).loc Cert.SsdOutFwdIdeal.main_v2_0)) (v1 : (c : Dev Cert.SsdOutFwdIdeal.nD) → Buf (Elt Ideal) ((c.tc : Thread Cert.SsdOutFwdIdeal.nD Cert.SsdOutFwdIdeal.τ).loc Cert.SsdOutFwdIdeal.main_v2_1)),
      θ_run (Cert.SsdOutFwdIdeal.defs (F := Ideal)) (onTc (τ := Cert.SsdOutFwdIdeal.τ) (Cert.SsdOutFwdIdeal.main (F := Ideal))) ⟨m, fun _ => 0, g⟩ (fun r => ∀ c : Dev Cert.SsdOutFwdIdeal.nD,
          r.2.mem ((c.tc : Thread Cert.SsdOutFwdIdeal.nD Cert.SsdOutFwdIdeal.τ).loc Cert.SsdOutFwdIdeal.main_v2_0) = v0 c
          ∧ r.2.mem ((c.tc : Thread Cert.SsdOutFwdIdeal.nD Cert.SsdOutFwdIdeal.τ).loc Cert.SsdOutFwdIdeal.main_v2_1) = v1 c
          ∧ r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
          ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1)
          ∧ r.2.mem ((c.tc : Thread Cert.SsdOutFwdIdeal.nD Cert.SsdOutFwdIdeal.τ).loc Cert.SsdOutFwdIdeal.main_arg2) = m ((c.tc : Thread Cert.SsdOutFwdIdeal.nD Cert.SsdOutFwdIdeal.τ).loc Cert.SsdOutFwdIdeal.main_arg2)
          ∧ r.2.mem ((c.tc : Thread Cert.SsdOutFwdIdeal.nD Cert.SsdOutFwdIdeal.τ).loc Cert.SsdOutFwdIdeal.main_arg3) = m ((c.tc : Thread Cert.SsdOutFwdIdeal.nD Cert.SsdOutFwdIdeal.τ).loc Cert.SsdOutFwdIdeal.main_arg3))
      ∧ θ_run (Cert.SsdOutFwdRefIdeal.defs (F := Ideal)) (onTc (τ := Cert.SsdOutFwdRefIdeal.τ) (Cert.SsdOutFwdRefIdeal.main (F := Ideal))) ⟨m', fun _ => 0, g'⟩ (fun r => ∀ c : Dev Cert.SsdOutFwdRefIdeal.nD,
          r.2.mem ((c.tc : Thread Cert.SsdOutFwdRefIdeal.nD Cert.SsdOutFwdRefIdeal.τ).loc Cert.SsdOutFwdRefIdeal.main_v4) = v0 c
          ∧ r.2.mem ((c.tc : Thread Cert.SsdOutFwdRefIdeal.nD Cert.SsdOutFwdRefIdeal.τ).loc Cert.SsdOutFwdRefIdeal.main_v5) = v1 c
          ∧ r.2.mem ((c.tc : Thread Cert.SsdOutFwdRefIdeal.nD Cert.SsdOutFwdRefIdeal.τ).loc Cert.SsdOutFwdRefIdeal.main_arg0) = m' ((c.tc : Thread Cert.SsdOutFwdRefIdeal.nD Cert.SsdOutFwdRefIdeal.τ).loc Cert.SsdOutFwdRefIdeal.main_arg0)
          ∧ r.2.mem ((c.tc : Thread Cert.SsdOutFwdRefIdeal.nD Cert.SsdOutFwdRefIdeal.τ).loc Cert.SsdOutFwdRefIdeal.main_arg1) = m' ((c.tc : Thread Cert.SsdOutFwdRefIdeal.nD Cert.SsdOutFwdRefIdeal.τ).loc Cert.SsdOutFwdRefIdeal.main_arg1)
          ∧ r.2.mem ((c.tc : Thread Cert.SsdOutFwdRefIdeal.nD Cert.SsdOutFwdRefIdeal.τ).loc Cert.SsdOutFwdRefIdeal.main_arg2) = m' ((c.tc : Thread Cert.SsdOutFwdRefIdeal.nD Cert.SsdOutFwdRefIdeal.τ).loc Cert.SsdOutFwdRefIdeal.main_arg2)
          ∧ r.2.mem ((c.tc : Thread Cert.SsdOutFwdRefIdeal.nD Cert.SsdOutFwdRefIdeal.τ).loc Cert.SsdOutFwdRefIdeal.main_arg3) = m' ((c.tc : Thread Cert.SsdOutFwdRefIdeal.nD Cert.SsdOutFwdRefIdeal.τ).loc Cert.SsdOutFwdRefIdeal.main_arg3))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)
      ∧ m' ((c.tc : Thread Cert.AdamVecRefIdeal.nD Cert.AdamVecRefIdeal.τ).loc Cert.AdamVecRefIdeal.main_arg4) = m ((c.tc : Thread Cert.AdamVecIdeal.nD Cert.AdamVecIdeal.τ).loc Cert.AdamVecIdeal.main_arg4)
      ∧ m' ((c.tc : Thread Cert.AdamVecRefIdeal.nD Cert.AdamVecRefIdeal.τ).loc Cert.AdamVecRefIdeal.main_arg5) = m ((c.tc : Thread Cert.AdamVecIdeal.nD Cert.AdamVecIdeal.τ).loc Cert.AdamVecIdeal.main_arg5)
      ∧ m' ((c.tc : Thread Cert.AdamVecRefIdeal.nD Cert.AdamVecRefIdeal.τ).loc Cert.AdamVecRefIdeal.main_arg6) = m ((c.tc : Thread Cert.AdamVecIdeal.nD Cert.AdamVecIdeal.τ).loc Cert.AdamVecIdeal.main_arg6)
      ∧ m' ((c.tc : Thread Cert.AdamVecRefIdeal.nD Cert.AdamVecRefIdeal.τ).loc Cert.AdamVecRefIdeal.main_arg7) = m ((c.tc : Thread Cert.AdamVecIdeal.nD Cert.AdamVecIdeal.τ).loc Cert.AdamVecIdeal.main_arg7)
      ∧ m' ((c.tc : Thread Cert.AdamVecRefIdeal.nD Cert.AdamVecRefIdeal.τ).loc Cert.AdamVecRefIdeal.main_arg8) = m ((c.tc : Thread Cert.AdamVecIdeal.nD Cert.AdamVecIdeal.τ).loc Cert.AdamVecIdeal.main_arg8)
      ∧ m' ((c.tc : Thread Cert.AdamVecRefIdeal.nD Cert.AdamVecRefIdeal.τ).loc Cert.AdamVecRefIdeal.main_arg9) = m ((c.tc : Thread Cert.AdamVecIdeal.nD Cert.AdamVecIdeal.τ).loc Cert.AdamVecIdeal.main_arg9)
      ∧ m' ((c.tc : Thread Cert.AdamVecRefIdeal.nD Cert.AdamVecRefIdeal.τ).loc Cert.AdamVecRefIdeal.main_arg10) = m ((c.tc : Thread Cert.AdamVecIdeal.nD Cert.AdamVecIdeal.τ).loc Cert.AdamVecIdeal.main_arg10)
      ∧ m' ((c.tc : Thread Cert.AdamVecRefIdeal.nD Cert.AdamVecRefIdeal.τ).loc Cert.AdamVecRefIdeal.main_arg11) = m ((c.tc : Thread Cert.AdamVecIdeal.nD Cert.AdamVecIdeal.τ).loc Cert.AdamVecIdeal.main_arg11)
      ∧ m' ((c.tc : Thread Cert.AdamVecRefIdeal.nD Cert.AdamVecRefIdeal.τ).loc Cert.AdamVecRefIdeal.main_arg12) = m ((c.tc : Thread Cert.AdamVecIdeal.nD Cert.AdamVecIdeal.τ).loc Cert.AdamVecIdeal.main_arg12)
      ∧ m' ((c.tc : Thread Cert.AdamVecRefIdeal.nD Cert.AdamVecRefIdeal.τ).loc Cert.AdamVecRefIdeal.main_arg13) = m ((c.tc : Thread Cert.AdamVecIdeal.nD Cert.AdamVecIdeal.τ).loc Cert.AdamVecIdeal.main_arg13)
      ∧ m' ((c.tc : Thread Cert.AdamVecRefIdeal.nD Cert.AdamVecRefIdeal.τ).loc Cert.AdamVecRefIdeal.main_arg14) = m ((c.tc : Thread Cert.AdamVecIdeal.nD Cert.AdamVecIdeal.τ).loc Cert.AdamVecIdeal.main_arg14)
      ∧ m' ((c.tc : Thread Cert.AdamVecRefIdeal.nD Cert.AdamVecRefIdeal.τ).loc Cert.AdamVecRefIdeal.main_arg15) = m ((c.tc : Thread Cert.AdamVecIdeal.nD Cert.AdamVecIdeal.τ).loc Cert.AdamVecIdeal.main_arg15)
      ∧ m' ((c.tc : Thread Cert.AdamVecRefIdeal.nD Cert.AdamVecRefIdeal.τ).loc Cert.AdamVecRefIdeal.main_arg16) = m ((c.tc : Thread Cert.AdamVecIdeal.nD Cert.AdamVecIdeal.τ).loc Cert.AdamVecIdeal.main_arg16)
      ∧ m' ((c.tc : Thread Cert.AdamVecRefIdeal.nD Cert.AdamVecRefIdeal.τ).loc Cert.AdamVecRefIdeal.main_arg17) = m ((c.tc : Thread Cert.AdamVecIdeal.nD Cert.AdamVecIdeal.τ).loc Cert.AdamVecIdeal.main_arg17)
      ∧ m' ((c.tc : Thread Cert.AdamVecRefIdeal.nD Cert.AdamVecRefIdeal.τ).loc Cert.AdamVecRefIdeal.main_arg18) = m ((c.tc : Thread Cert.AdamVecIdeal.nD Cert.AdamVecIdeal.τ).loc Cert.AdamVecIdeal.main_arg18)
      ∧ m' ((c.tc : Thread Cert.AdamVecRefIdeal.nD Cert.AdamVecRefIdeal.τ).loc Cert.AdamVecRefIdeal.main_arg19) = m ((c.tc : Thread Cert.AdamVecIdeal.nD Cert.AdamVecIdeal.τ).loc Cert.AdamVecIdeal.main_arg19)
      ∧ m' ((c.tc : Thread Cert.AdamVecRefIdeal.nD Cert.AdamVecRefIdeal.τ).loc Cert.AdamVecRefIdeal.main_arg20) = m ((c.tc : Thread Cert.AdamVecIdeal.nD Cert.AdamVecIdeal.τ).loc Cert.AdamVecIdeal.main_arg20)
      ∧ m' ((c.tc : Thread Cert.AdamVecRefIdeal.nD Cert.AdamVecRefIdeal.τ).loc Cert.AdamVecRefIdeal.main_arg21) = m ((c.tc : Thread Cert.AdamVecIdeal.nD Cert.AdamVecIdeal.τ).loc Cert.AdamVecIdeal.main_arg21)
      ∧ m' ((c.tc : Thread Cert.AdamVecRefIdeal.nD Cert.AdamVecRefIdeal.τ).loc Cert.AdamVecRefIdeal.main_arg22) = m ((c.tc : Thread Cert.AdamVecIdeal.nD Cert.AdamVecIdeal.τ).loc Cert.AdamVecIdeal.main_arg22)
      ∧ m' ((c.tc : Thread Cert.AdamVecRefIdeal.nD Cert.AdamVecRefIdeal.τ).loc Cert.AdamVecRefIdeal.main_arg23) = m ((c.tc : Thread Cert.AdamVecIdeal.nD Cert.AdamVecIdeal.τ).loc Cert.AdamVecIdeal.main_arg23)
      ∧ m' ((c.tc : Thread Cert.AdamVecRefIdeal.nD Cert.AdamVecRefIdeal.τ).loc Cert.AdamVecRefIdeal.main_arg24) = m ((c.tc : Thread Cert.AdamVecIdeal.nD Cert.AdamVecIdeal.τ).loc Cert.AdamVecIdeal.main_arg24)
      ∧ m' ((c.tc : Thread Cert.AdamVecRefIdeal.nD Cert.AdamVecRefIdeal.τ).loc Cert.AdamVecRefIdeal.main_arg25) = m ((c.tc : Thread Cert.AdamVecIdeal.nD Cert.AdamVecIdeal.τ).loc Cert.AdamVecIdeal.main_arg25)
      ∧ m' ((c.tc : Thread Cert.AdamVecRefIdeal.nD Cert.AdamVecRefIdeal.τ).loc Cert.AdamVecRefIdeal.main_arg26) = m ((c.tc : Thread Cert.AdamVecIdeal.nD Cert.AdamVecIdeal.τ).loc Cert.AdamVecIdeal.main_arg26)
      ∧ m' ((c.tc : Thread Cert.AdamVecRefIdeal.nD Cert.AdamVecRefIdeal.τ).loc Cert.AdamVecRefIdeal.main_arg27) = m ((c.tc : Thread Cert.AdamVecIdeal.nD Cert.AdamVecIdeal.τ).loc Cert.AdamVecIdeal.main_arg27)
      ∧ m' ((c.tc : Thread Cert.AdamVecRefIdeal.nD Cert.AdamVecRefIdeal.τ).loc Cert.AdamVecRefIdeal.main_arg28) = m ((c.tc : Thread Cert.AdamVecIdeal.nD Cert.AdamVecIdeal.τ).loc Cert.AdamVecIdeal.main_arg28)
      ∧ m' ((c.tc : Thread Cert.AdamVecRefIdeal.nD Cert.AdamVecRefIdeal.τ).loc Cert.AdamVecRefIdeal.main_arg29) = m ((c.tc : Thread Cert.AdamVecIdeal.nD Cert.AdamVecIdeal.τ).loc Cert.AdamVecIdeal.main_arg29)
      ∧ m' ((c.tc : Thread Cert.AdamVecRefIdeal.nD Cert.AdamVecRefIdeal.τ).loc Cert.AdamVecRefIdeal.main_arg30) = m ((c.tc : Thread Cert.AdamVecIdeal.nD Cert.AdamVecIdeal.τ).loc Cert.AdamVecIdeal.main_arg30)
      ∧ m' ((c.tc : Thread Cert.AdamVecRefIdeal.nD Cert.AdamVecRefIdeal.τ).loc Cert.AdamVecRefIdeal.main_arg31) = m ((c.tc : Thread Cert.AdamVecIdeal.nD Cert.AdamVecIdeal.τ).loc Cert.AdamVecIdeal.main_arg31)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v1_0)) (v4 : (c : Dev Cert.AdamVecIdeal.nD) → Buf (Elt Ideal) ((c.tc : Thread Cert.AdamVecIdeal.nD Cert.AdamVecIdeal.τ).loc Cert.AdamVecIdeal.main_v1_1)) (v5 : (c : Dev Cert.AdamVecIdeal.nD) → Buf (Elt Ideal) ((c.tc : Thread Cert.AdamVecIdeal.nD Cert.AdamVecIdeal.τ).loc Cert.AdamVecIdeal.main_v1_2)) (v6 : (c : Dev Cert.AdamVecIdeal.nD) → Buf (Elt Ideal) ((c.tc : Thread Cert.AdamVecIdeal.nD Cert.AdamVecIdeal.τ).loc Cert.AdamVecIdeal.main_v2_0)) (v7 : (c : Dev Cert.AdamVecIdeal.nD) → Buf (Elt Ideal) ((c.tc : Thread Cert.AdamVecIdeal.nD Cert.AdamVecIdeal.τ).loc Cert.AdamVecIdeal.main_v2_1)) (v8 : (c : Dev Cert.AdamVecIdeal.nD) → Buf (Elt Ideal) ((c.tc : Thread Cert.AdamVecIdeal.nD Cert.AdamVecIdeal.τ).loc Cert.AdamVecIdeal.main_v2_2)) (v9 : (c : Dev Cert.AdamVecIdeal.nD) → Buf (Elt Ideal) ((c.tc : Thread Cert.AdamVecIdeal.nD Cert.AdamVecIdeal.τ).loc Cert.AdamVecIdeal.main_v3_0)) (v10 : (c : Dev Cert.AdamVecIdeal.nD) → Buf (Elt Ideal) ((c.tc : Thread Cert.AdamVecIdeal.nD Cert.AdamVecIdeal.τ).loc Cert.AdamVecIdeal.main_v3_1)) (v11 : (c : Dev Cert.AdamVecIdeal.nD) → Buf (Elt Ideal) ((c.tc : Thread Cert.AdamVecIdeal.nD Cert.AdamVecIdeal.τ).loc Cert.AdamVecIdeal.main_v3_2)) (v12 : (c : Dev Cert.AdamVecIdeal.nD) → Buf (Elt Ideal) ((c.tc : Thread Cert.AdamVecIdeal.nD Cert.AdamVecIdeal.τ).loc Cert.AdamVecIdeal.main_v4_0)) (v13 : (c : Dev Cert.AdamVecIdeal.nD) → Buf (Elt Ideal) ((c.tc : Thread Cert.AdamVecIdeal.nD Cert.AdamVecIdeal.τ).loc Cert.AdamVecIdeal.main_v4_1)) (v14 : (c : Dev Cert.AdamVecIdeal.nD) → Buf (Elt Ideal) ((c.tc : Thread Cert.AdamVecIdeal.nD Cert.AdamVecIdeal.τ).loc Cert.AdamVecIdeal.main_v4_2)) (v15 : (c : Dev Cert.AdamVecIdeal.nD) → Buf (Elt Ideal) ((c.tc : Thread Cert.AdamVecIdeal.nD Cert.AdamVecIdeal.τ).loc Cert.AdamVecIdeal.main_v5_0)) (v16 : (c : Dev Cert.AdamVecIdeal.nD) → Buf (Elt Ideal) ((c.tc : Thread Cert.AdamVecIdeal.nD Cert.AdamVecIdeal.τ).loc Cert.AdamVecIdeal.main_v5_1)) (v17 : (c : Dev Cert.AdamVecIdeal.nD) → Buf (Elt Ideal) ((c.tc : Thread Cert.AdamVecIdeal.nD Cert.AdamVecIdeal.τ).loc Cert.AdamVecIdeal.main_v5_2)) (v18 : (c : Dev Cert.AdamVecIdeal.nD) → Buf (Elt Ideal) ((c.tc : Thread Cert.AdamVecIdeal.nD Cert.AdamVecIdeal.τ).loc Cert.AdamVecIdeal.main_v6_0)) (v19 : (c : Dev Cert.AdamVecIdeal.nD) → Buf (Elt Ideal) ((c.tc : Thread Cert.AdamVecIdeal.nD Cert.AdamVecIdeal.τ).loc Cert.AdamVecIdeal.main_v6_1)) (v20 : (c : Dev Cert.AdamVecIdeal.nD) → Buf (Elt Ideal) ((c.tc : Thread Cert.AdamVecIdeal.nD Cert.AdamVecIdeal.τ).loc Cert.AdamVecIdeal.main_v6_2)) (v21 : (c : Dev Cert.AdamVecIdeal.nD) → Buf (Elt Ideal) ((c.tc : Thread Cert.AdamVecIdeal.nD Cert.AdamVecIdeal.τ).loc Cert.AdamVecIdeal.main_v7_0)) (v22 : (c : Dev Cert.AdamVecIdeal.nD) → Buf (Elt Ideal) ((c.tc : Thread Cert.AdamVecIdeal.nD Cert.AdamVecIdeal.τ).loc Cert.AdamVecIdeal.main_v7_1)) (v23 : (c : Dev Cert.AdamVecIdeal.nD) → Buf (Elt Ideal) ((c.tc : Thread Cert.AdamVecIdeal.nD Cert.AdamVecIdeal.τ).loc Cert.AdamVecIdeal.main_v7_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v1_0) = v3 c
          ∧ r.2.mem ((c.tc : Thread Cert.AdamVecIdeal.nD Cert.AdamVecIdeal.τ).loc Cert.AdamVecIdeal.main_v1_1) = v4 c
          ∧ r.2.mem ((c.tc : Thread Cert.AdamVecIdeal.nD Cert.AdamVecIdeal.τ).loc Cert.AdamVecIdeal.main_v1_2) = v5 c
          ∧ r.2.mem ((c.tc : Thread Cert.AdamVecIdeal.nD Cert.AdamVecIdeal.τ).loc Cert.AdamVecIdeal.main_v2_0) = v6 c
          ∧ r.2.mem ((c.tc : Thread Cert.AdamVecIdeal.nD Cert.AdamVecIdeal.τ).loc Cert.AdamVecIdeal.main_v2_1) = v7 c
          ∧ r.2.mem ((c.tc : Thread Cert.AdamVecIdeal.nD Cert.AdamVecIdeal.τ).loc Cert.AdamVecIdeal.main_v2_2) = v8 c
          ∧ r.2.mem ((c.tc : Thread Cert.AdamVecIdeal.nD Cert.AdamVecIdeal.τ).loc Cert.AdamVecIdeal.main_v3_0) = v9 c
          ∧ r.2.mem ((c.tc : Thread Cert.AdamVecIdeal.nD Cert.AdamVecIdeal.τ).loc Cert.AdamVecIdeal.main_v3_1) = v10 c
          ∧ r.2.mem ((c.tc : Thread Cert.AdamVecIdeal.nD Cert.AdamVecIdeal.τ).loc Cert.AdamVecIdeal.main_v3_2) = v11 c
          ∧ r.2.mem ((c.tc : Thread Cert.AdamVecIdeal.nD Cert.AdamVecIdeal.τ).loc Cert.AdamVecIdeal.main_v4_0) = v12 c
          ∧ r.2.mem ((c.tc : Thread Cert.AdamVecIdeal.nD Cert.AdamVecIdeal.τ).loc Cert.AdamVecIdeal.main_v4_1) = v13 c
          ∧ r.2.mem ((c.tc : Thread Cert.AdamVecIdeal.nD Cert.AdamVecIdeal.τ).loc Cert.AdamVecIdeal.main_v4_2) = v14 c
          ∧ r.2.mem ((c.tc : Thread Cert.AdamVecIdeal.nD Cert.AdamVecIdeal.τ).loc Cert.AdamVecIdeal.main_v5_0) = v15 c
          ∧ r.2.mem ((c.tc : Thread Cert.AdamVecIdeal.nD Cert.AdamVecIdeal.τ).loc Cert.AdamVecIdeal.main_v5_1) = v16 c
          ∧ r.2.mem ((c.tc : Thread Cert.AdamVecIdeal.nD Cert.AdamVecIdeal.τ).loc Cert.AdamVecIdeal.main_v5_2) = v17 c
          ∧ r.2.mem ((c.tc : Thread Cert.AdamVecIdeal.nD Cert.AdamVecIdeal.τ).loc Cert.AdamVecIdeal.main_v6_0) = v18 c
          ∧ r.2.mem ((c.tc : Thread Cert.AdamVecIdeal.nD Cert.AdamVecIdeal.τ).loc Cert.AdamVecIdeal.main_v6_1) = v19 c
          ∧ r.2.mem ((c.tc : Thread Cert.AdamVecIdeal.nD Cert.AdamVecIdeal.τ).loc Cert.AdamVecIdeal.main_v6_2) = v20 c
          ∧ r.2.mem ((c.tc : Thread Cert.AdamVecIdeal.nD Cert.AdamVecIdeal.τ).loc Cert.AdamVecIdeal.main_v7_0) = v21 c
          ∧ r.2.mem ((c.tc : Thread Cert.AdamVecIdeal.nD Cert.AdamVecIdeal.τ).loc Cert.AdamVecIdeal.main_v7_1) = v22 c
          ∧ r.2.mem ((c.tc : Thread Cert.AdamVecIdeal.nD Cert.AdamVecIdeal.τ).loc Cert.AdamVecIdeal.main_v7_2) = v23 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3)
          ∧ r.2.mem ((c.tc : Thread Cert.AdamVecIdeal.nD Cert.AdamVecIdeal.τ).loc Cert.AdamVecIdeal.main_arg4) = m ((c.tc : Thread Cert.AdamVecIdeal.nD Cert.AdamVecIdeal.τ).loc Cert.AdamVecIdeal.main_arg4)
          ∧ r.2.mem ((c.tc : Thread Cert.AdamVecIdeal.nD Cert.AdamVecIdeal.τ).loc Cert.AdamVecIdeal.main_arg5) = m ((c.tc : Thread Cert.AdamVecIdeal.nD Cert.AdamVecIdeal.τ).loc Cert.AdamVecIdeal.main_arg5)
          ∧ r.2.mem ((c.tc : Thread Cert.AdamVecIdeal.nD Cert.AdamVecIdeal.τ).loc Cert.AdamVecIdeal.main_arg6) = m ((c.tc : Thread Cert.AdamVecIdeal.nD Cert.AdamVecIdeal.τ).loc Cert.AdamVecIdeal.main_arg6)
          ∧ r.2.mem ((c.tc : Thread Cert.AdamVecIdeal.nD Cert.AdamVecIdeal.τ).loc Cert.AdamVecIdeal.main_arg7) = m ((c.tc : Thread Cert.AdamVecIdeal.nD Cert.AdamVecIdeal.τ).loc Cert.AdamVecIdeal.main_arg7)
          ∧ r.2.mem ((c.tc : Thread Cert.AdamVecIdeal.nD Cert.AdamVecIdeal.τ).loc Cert.AdamVecIdeal.main_arg8) = m ((c.tc : Thread Cert.AdamVecIdeal.nD Cert.AdamVecIdeal.τ).loc Cert.AdamVecIdeal.main_arg8)
          ∧ r.2.mem ((c.tc : Thread Cert.AdamVecIdeal.nD Cert.AdamVecIdeal.τ).loc Cert.AdamVecIdeal.main_arg9) = m ((c.tc : Thread Cert.AdamVecIdeal.nD Cert.AdamVecIdeal.τ).loc Cert.AdamVecIdeal.main_arg9)
          ∧ r.2.mem ((c.tc : Thread Cert.AdamVecIdeal.nD Cert.AdamVecIdeal.τ).loc Cert.AdamVecIdeal.main_arg10) = m ((c.tc : Thread Cert.AdamVecIdeal.nD Cert.AdamVecIdeal.τ).loc Cert.AdamVecIdeal.main_arg10)
          ∧ r.2.mem ((c.tc : Thread Cert.AdamVecIdeal.nD Cert.AdamVecIdeal.τ).loc Cert.AdamVecIdeal.main_arg11) = m ((c.tc : Thread Cert.AdamVecIdeal.nD Cert.AdamVecIdeal.τ).loc Cert.AdamVecIdeal.main_arg11)
          ∧ r.2.mem ((c.tc : Thread Cert.AdamVecIdeal.nD Cert.AdamVecIdeal.τ).loc Cert.AdamVecIdeal.main_arg12) = m ((c.tc : Thread Cert.AdamVecIdeal.nD Cert.AdamVecIdeal.τ).loc Cert.AdamVecIdeal.main_arg12)
          ∧ r.2.mem ((c.tc : Thread Cert.AdamVecIdeal.nD Cert.AdamVecIdeal.τ).loc Cert.AdamVecIdeal.main_arg13) = m ((c.tc : Thread Cert.AdamVecIdeal.nD Cert.AdamVecIdeal.τ).loc Cert.AdamVecIdeal.main_arg13)
          ∧ r.2.mem ((c.tc : Thread Cert.AdamVecIdeal.nD Cert.AdamVecIdeal.τ).loc Cert.AdamVecIdeal.main_arg14) = m ((c.tc : Thread Cert.AdamVecIdeal.nD Cert.AdamVecIdeal.τ).loc Cert.AdamVecIdeal.main_arg14)
          ∧ r.2.mem ((c.tc : Thread Cert.AdamVecIdeal.nD Cert.AdamVecIdeal.τ).loc Cert.AdamVecIdeal.main_arg15) = m ((c.tc : Thread Cert.AdamVecIdeal.nD Cert.AdamVecIdeal.τ).loc Cert.AdamVecIdeal.main_arg15)
          ∧ r.2.mem ((c.tc : Thread Cert.AdamVecIdeal.nD Cert.AdamVecIdeal.τ).loc Cert.AdamVecIdeal.main_arg16) = m ((c.tc : Thread Cert.AdamVecIdeal.nD Cert.AdamVecIdeal.τ).loc Cert.AdamVecIdeal.main_arg16)
          ∧ r.2.mem ((c.tc : Thread Cert.AdamVecIdeal.nD Cert.AdamVecIdeal.τ).loc Cert.AdamVecIdeal.main_arg17) = m ((c.tc : Thread Cert.AdamVecIdeal.nD Cert.AdamVecIdeal.τ).loc Cert.AdamVecIdeal.main_arg17)
          ∧ r.2.mem ((c.tc : Thread Cert.AdamVecIdeal.nD Cert.AdamVecIdeal.τ).loc Cert.AdamVecIdeal.main_arg18) = m ((c.tc : Thread Cert.AdamVecIdeal.nD Cert.AdamVecIdeal.τ).loc Cert.AdamVecIdeal.main_arg18)
          ∧ r.2.mem ((c.tc : Thread Cert.AdamVecIdeal.nD Cert.AdamVecIdeal.τ).loc Cert.AdamVecIdeal.main_arg19) = m ((c.tc : Thread Cert.AdamVecIdeal.nD Cert.AdamVecIdeal.τ).loc Cert.AdamVecIdeal.main_arg19)
          ∧ r.2.mem ((c.tc : Thread Cert.AdamVecIdeal.nD Cert.AdamVecIdeal.τ).loc Cert.AdamVecIdeal.main_arg20) = m ((c.tc : Thread Cert.AdamVecIdeal.nD Cert.AdamVecIdeal.τ).loc Cert.AdamVecIdeal.main_arg20)
          ∧ r.2.mem ((c.tc : Thread Cert.AdamVecIdeal.nD Cert.AdamVecIdeal.τ).loc Cert.AdamVecIdeal.main_arg21) = m ((c.tc : Thread Cert.AdamVecIdeal.nD Cert.AdamVecIdeal.τ).loc Cert.AdamVecIdeal.main_arg21)
          ∧ r.2.mem ((c.tc : Thread Cert.AdamVecIdeal.nD Cert.AdamVecIdeal.τ).loc Cert.AdamVecIdeal.main_arg22) = m ((c.tc : Thread Cert.AdamVecIdeal.nD Cert.AdamVecIdeal.τ).loc Cert.AdamVecIdeal.main_arg22)
          ∧ r.2.mem ((c.tc : Thread Cert.AdamVecIdeal.nD Cert.AdamVecIdeal.τ).loc Cert.AdamVecIdeal.main_arg23) = m ((c.tc : Thread Cert.AdamVecIdeal.nD Cert.AdamVecIdeal.τ).loc Cert.AdamVecIdeal.main_arg23)
          ∧ r.2.mem ((c.tc : Thread Cert.AdamVecIdeal.nD Cert.AdamVecIdeal.τ).loc Cert.AdamVecIdeal.main_arg24) = m ((c.tc : Thread Cert.AdamVecIdeal.nD Cert.AdamVecIdeal.τ).loc Cert.AdamVecIdeal.main_arg24)
          ∧ r.2.mem ((c.tc : Thread Cert.AdamVecIdeal.nD Cert.AdamVecIdeal.τ).loc Cert.AdamVecIdeal.main_arg25) = m ((c.tc : Thread Cert.AdamVecIdeal.nD Cert.AdamVecIdeal.τ).loc Cert.AdamVecIdeal.main_arg25)
          ∧ r.2.mem ((c.tc : Thread Cert.AdamVecIdeal.nD Cert.AdamVecIdeal.τ).loc Cert.AdamVecIdeal.main_arg26) = m ((c.tc : Thread Cert.AdamVecIdeal.nD Cert.AdamVecIdeal.τ).loc Cert.AdamVecIdeal.main_arg26)
          ∧ r.2.mem ((c.tc : Thread Cert.AdamVecIdeal.nD Cert.AdamVecIdeal.τ).loc Cert.AdamVecIdeal.main_arg27) = m ((c.tc : Thread Cert.AdamVecIdeal.nD Cert.AdamVecIdeal.τ).loc Cert.AdamVecIdeal.main_arg27)
          ∧ r.2.mem ((c.tc : Thread Cert.AdamVecIdeal.nD Cert.AdamVecIdeal.τ).loc Cert.AdamVecIdeal.main_arg28) = m ((c.tc : Thread Cert.AdamVecIdeal.nD Cert.AdamVecIdeal.τ).loc Cert.AdamVecIdeal.main_arg28)
          ∧ r.2.mem ((c.tc : Thread Cert.AdamVecIdeal.nD Cert.AdamVecIdeal.τ).loc Cert.AdamVecIdeal.main_arg29) = m ((c.tc : Thread Cert.AdamVecIdeal.nD Cert.AdamVecIdeal.τ).loc Cert.AdamVecIdeal.main_arg29)
          ∧ r.2.mem ((c.tc : Thread Cert.AdamVecIdeal.nD Cert.AdamVecIdeal.τ).loc Cert.AdamVecIdeal.main_arg30) = m ((c.tc : Thread Cert.AdamVecIdeal.nD Cert.AdamVecIdeal.τ).loc Cert.AdamVecIdeal.main_arg30)
          ∧ r.2.mem ((c.tc : Thread Cert.AdamVecIdeal.nD Cert.AdamVecIdeal.τ).loc Cert.AdamVecIdeal.main_arg31) = m ((c.tc : Thread Cert.AdamVecIdeal.nD Cert.AdamVecIdeal.τ).loc Cert.AdamVecIdeal.main_arg31))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_v47) = v3 c
          ∧ r.2.mem ((c.tc : Thread Cert.AdamVecRefIdeal.nD Cert.AdamVecRefIdeal.τ).loc Cert.AdamVecRefIdeal.main_v28) = v4 c
          ∧ r.2.mem ((c.tc : Thread Cert.AdamVecRefIdeal.nD Cert.AdamVecRefIdeal.τ).loc Cert.AdamVecRefIdeal.main_v34) = v5 c
          ∧ r.2.mem ((c.tc : Thread Cert.AdamVecRefIdeal.nD Cert.AdamVecRefIdeal.τ).loc Cert.AdamVecRefIdeal.main_v71) = v6 c
          ∧ r.2.mem ((c.tc : Thread Cert.AdamVecRefIdeal.nD Cert.AdamVecRefIdeal.τ).loc Cert.AdamVecRefIdeal.main_v52) = v7 c
          ∧ r.2.mem ((c.tc : Thread Cert.AdamVecRefIdeal.nD Cert.AdamVecRefIdeal.τ).loc Cert.AdamVecRefIdeal.main_v58) = v8 c
          ∧ r.2.mem ((c.tc : Thread Cert.AdamVecRefIdeal.nD Cert.AdamVecRefIdeal.τ).loc Cert.AdamVecRefIdeal.main_v95) = v9 c
          ∧ r.2.mem ((c.tc : Thread Cert.AdamVecRefIdeal.nD Cert.AdamVecRefIdeal.τ).loc Cert.AdamVecRefIdeal.main_v76) = v10 c
          ∧ r.2.mem ((c.tc : Thread Cert.AdamVecRefIdeal.nD Cert.AdamVecRefIdeal.τ).loc Cert.AdamVecRefIdeal.main_v82) = v11 c
          ∧ r.2.mem ((c.tc : Thread Cert.AdamVecRefIdeal.nD Cert.AdamVecRefIdeal.τ).loc Cert.AdamVecRefIdeal.main_v119) = v12 c
          ∧ r.2.mem ((c.tc : Thread Cert.AdamVecRefIdeal.nD Cert.AdamVecRefIdeal.τ).loc Cert.AdamVecRefIdeal.main_v100) = v13 c
          ∧ r.2.mem ((c.tc : Thread Cert.AdamVecRefIdeal.nD Cert.AdamVecRefIdeal.τ).loc Cert.AdamVecRefIdeal.main_v106) = v14 c
          ∧ r.2.mem ((c.tc : Thread Cert.AdamVecRefIdeal.nD Cert.AdamVecRefIdeal.τ).loc Cert.AdamVecRefIdeal.main_v143) = v15 c
          ∧ r.2.mem ((c.tc : Thread Cert.AdamVecRefIdeal.nD Cert.AdamVecRefIdeal.τ).loc Cert.AdamVecRefIdeal.main_v124) = v16 c
          ∧ r.2.mem ((c.tc : Thread Cert.AdamVecRefIdeal.nD Cert.AdamVecRefIdeal.τ).loc Cert.AdamVecRefIdeal.main_v130) = v17 c
          ∧ r.2.mem ((c.tc : Thread Cert.AdamVecRefIdeal.nD Cert.AdamVecRefIdeal.τ).loc Cert.AdamVecRefIdeal.main_v167) = v18 c
          ∧ r.2.mem ((c.tc : Thread Cert.AdamVecRefIdeal.nD Cert.AdamVecRefIdeal.τ).loc Cert.AdamVecRefIdeal.main_v148) = v19 c
          ∧ r.2.mem ((c.tc : Thread Cert.AdamVecRefIdeal.nD Cert.AdamVecRefIdeal.τ).loc Cert.AdamVecRefIdeal.main_v154) = v20 c
          ∧ r.2.mem ((c.tc : Thread Cert.AdamVecRefIdeal.nD Cert.AdamVecRefIdeal.τ).loc Cert.AdamVecRefIdeal.main_v191) = v21 c
          ∧ r.2.mem ((c.tc : Thread Cert.AdamVecRefIdeal.nD Cert.AdamVecRefIdeal.τ).loc Cert.AdamVecRefIdeal.main_v172) = v22 c
          ∧ r.2.mem ((c.tc : Thread Cert.AdamVecRefIdeal.nD Cert.AdamVecRefIdeal.τ).loc Cert.AdamVecRefIdeal.main_v178) = v23 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3)
          ∧ r.2.mem ((c.tc : Thread Cert.AdamVecRefIdeal.nD Cert.AdamVecRefIdeal.τ).loc Cert.AdamVecRefIdeal.main_arg4) = m' ((c.tc : Thread Cert.AdamVecRefIdeal.nD Cert.AdamVecRefIdeal.τ).loc Cert.AdamVecRefIdeal.main_arg4)
          ∧ r.2.mem ((c.tc : Thread Cert.AdamVecRefIdeal.nD Cert.AdamVecRefIdeal.τ).loc Cert.AdamVecRefIdeal.main_arg5) = m' ((c.tc : Thread Cert.AdamVecRefIdeal.nD Cert.AdamVecRefIdeal.τ).loc Cert.AdamVecRefIdeal.main_arg5)
          ∧ r.2.mem ((c.tc : Thread Cert.AdamVecRefIdeal.nD Cert.AdamVecRefIdeal.τ).loc Cert.AdamVecRefIdeal.main_arg6) = m' ((c.tc : Thread Cert.AdamVecRefIdeal.nD Cert.AdamVecRefIdeal.τ).loc Cert.AdamVecRefIdeal.main_arg6)
          ∧ r.2.mem ((c.tc : Thread Cert.AdamVecRefIdeal.nD Cert.AdamVecRefIdeal.τ).loc Cert.AdamVecRefIdeal.main_arg7) = m' ((c.tc : Thread Cert.AdamVecRefIdeal.nD Cert.AdamVecRefIdeal.τ).loc Cert.AdamVecRefIdeal.main_arg7)
          ∧ r.2.mem ((c.tc : Thread Cert.AdamVecRefIdeal.nD Cert.AdamVecRefIdeal.τ).loc Cert.AdamVecRefIdeal.main_arg8) = m' ((c.tc : Thread Cert.AdamVecRefIdeal.nD Cert.AdamVecRefIdeal.τ).loc Cert.AdamVecRefIdeal.main_arg8)
          ∧ r.2.mem ((c.tc : Thread Cert.AdamVecRefIdeal.nD Cert.AdamVecRefIdeal.τ).loc Cert.AdamVecRefIdeal.main_arg9) = m' ((c.tc : Thread Cert.AdamVecRefIdeal.nD Cert.AdamVecRefIdeal.τ).loc Cert.AdamVecRefIdeal.main_arg9)
          ∧ r.2.mem ((c.tc : Thread Cert.AdamVecRefIdeal.nD Cert.AdamVecRefIdeal.τ).loc Cert.AdamVecRefIdeal.main_arg10) = m' ((c.tc : Thread Cert.AdamVecRefIdeal.nD Cert.AdamVecRefIdeal.τ).loc Cert.AdamVecRefIdeal.main_arg10)
          ∧ r.2.mem ((c.tc : Thread Cert.AdamVecRefIdeal.nD Cert.AdamVecRefIdeal.τ).loc Cert.AdamVecRefIdeal.main_arg11) = m' ((c.tc : Thread Cert.AdamVecRefIdeal.nD Cert.AdamVecRefIdeal.τ).loc Cert.AdamVecRefIdeal.main_arg11)
          ∧ r.2.mem ((c.tc : Thread Cert.AdamVecRefIdeal.nD Cert.AdamVecRefIdeal.τ).loc Cert.AdamVecRefIdeal.main_arg12) = m' ((c.tc : Thread Cert.AdamVecRefIdeal.nD Cert.AdamVecRefIdeal.τ).loc Cert.AdamVecRefIdeal.main_arg12)
          ∧ r.2.mem ((c.tc : Thread Cert.AdamVecRefIdeal.nD Cert.AdamVecRefIdeal.τ).loc Cert.AdamVecRefIdeal.main_arg13) = m' ((c.tc : Thread Cert.AdamVecRefIdeal.nD Cert.AdamVecRefIdeal.τ).loc Cert.AdamVecRefIdeal.main_arg13)
          ∧ r.2.mem ((c.tc : Thread Cert.AdamVecRefIdeal.nD Cert.AdamVecRefIdeal.τ).loc Cert.AdamVecRefIdeal.main_arg14) = m' ((c.tc : Thread Cert.AdamVecRefIdeal.nD Cert.AdamVecRefIdeal.τ).loc Cert.AdamVecRefIdeal.main_arg14)
          ∧ r.2.mem ((c.tc : Thread Cert.AdamVecRefIdeal.nD Cert.AdamVecRefIdeal.τ).loc Cert.AdamVecRefIdeal.main_arg15) = m' ((c.tc : Thread Cert.AdamVecRefIdeal.nD Cert.AdamVecRefIdeal.τ).loc Cert.AdamVecRefIdeal.main_arg15)
          ∧ r.2.mem ((c.tc : Thread Cert.AdamVecRefIdeal.nD Cert.AdamVecRefIdeal.τ).loc Cert.AdamVecRefIdeal.main_arg16) = m' ((c.tc : Thread Cert.AdamVecRefIdeal.nD Cert.AdamVecRefIdeal.τ).loc Cert.AdamVecRefIdeal.main_arg16)
          ∧ r.2.mem ((c.tc : Thread Cert.AdamVecRefIdeal.nD Cert.AdamVecRefIdeal.τ).loc Cert.AdamVecRefIdeal.main_arg17) = m' ((c.tc : Thread Cert.AdamVecRefIdeal.nD Cert.AdamVecRefIdeal.τ).loc Cert.AdamVecRefIdeal.main_arg17)
          ∧ r.2.mem ((c.tc : Thread Cert.AdamVecRefIdeal.nD Cert.AdamVecRefIdeal.τ).loc Cert.AdamVecRefIdeal.main_arg18) = m' ((c.tc : Thread Cert.AdamVecRefIdeal.nD Cert.AdamVecRefIdeal.τ).loc Cert.AdamVecRefIdeal.main_arg18)
          ∧ r.2.mem ((c.tc : Thread Cert.AdamVecRefIdeal.nD Cert.AdamVecRefIdeal.τ).loc Cert.AdamVecRefIdeal.main_arg19) = m' ((c.tc : Thread Cert.AdamVecRefIdeal.nD Cert.AdamVecRefIdeal.τ).loc Cert.AdamVecRefIdeal.main_arg19)
          ∧ r.2.mem ((c.tc : Thread Cert.AdamVecRefIdeal.nD Cert.AdamVecRefIdeal.τ).loc Cert.AdamVecRefIdeal.main_arg20) = m' ((c.tc : Thread Cert.AdamVecRefIdeal.nD Cert.AdamVecRefIdeal.τ).loc Cert.AdamVecRefIdeal.main_arg20)
          ∧ r.2.mem ((c.tc : Thread Cert.AdamVecRefIdeal.nD Cert.AdamVecRefIdeal.τ).loc Cert.AdamVecRefIdeal.main_arg21) = m' ((c.tc : Thread Cert.AdamVecRefIdeal.nD Cert.AdamVecRefIdeal.τ).loc Cert.AdamVecRefIdeal.main_arg21)
          ∧ r.2.mem ((c.tc : Thread Cert.AdamVecRefIdeal.nD Cert.AdamVecRefIdeal.τ).loc Cert.AdamVecRefIdeal.main_arg22) = m' ((c.tc : Thread Cert.AdamVecRefIdeal.nD Cert.AdamVecRefIdeal.τ).loc Cert.AdamVecRefIdeal.main_arg22)
          ∧ r.2.mem ((c.tc : Thread Cert.AdamVecRefIdeal.nD Cert.AdamVecRefIdeal.τ).loc Cert.AdamVecRefIdeal.main_arg23) = m' ((c.tc : Thread Cert.AdamVecRefIdeal.nD Cert.AdamVecRefIdeal.τ).loc Cert.AdamVecRefIdeal.main_arg23)
          ∧ r.2.mem ((c.tc : Thread Cert.AdamVecRefIdeal.nD Cert.AdamVecRefIdeal.τ).loc Cert.AdamVecRefIdeal.main_arg24) = m' ((c.tc : Thread Cert.AdamVecRefIdeal.nD Cert.AdamVecRefIdeal.τ).loc Cert.AdamVecRefIdeal.main_arg24)
          ∧ r.2.mem ((c.tc : Thread Cert.AdamVecRefIdeal.nD Cert.AdamVecRefIdeal.τ).loc Cert.AdamVecRefIdeal.main_arg25) = m' ((c.tc : Thread Cert.AdamVecRefIdeal.nD Cert.AdamVecRefIdeal.τ).loc Cert.AdamVecRefIdeal.main_arg25)
          ∧ r.2.mem ((c.tc : Thread Cert.AdamVecRefIdeal.nD Cert.AdamVecRefIdeal.τ).loc Cert.AdamVecRefIdeal.main_arg26) = m' ((c.tc : Thread Cert.AdamVecRefIdeal.nD Cert.AdamVecRefIdeal.τ).loc Cert.AdamVecRefIdeal.main_arg26)
          ∧ r.2.mem ((c.tc : Thread Cert.AdamVecRefIdeal.nD Cert.AdamVecRefIdeal.τ).loc Cert.AdamVecRefIdeal.main_arg27) = m' ((c.tc : Thread Cert.AdamVecRefIdeal.nD Cert.AdamVecRefIdeal.τ).loc Cert.AdamVecRefIdeal.main_arg27)
          ∧ r.2.mem ((c.tc : Thread Cert.AdamVecRefIdeal.nD Cert.AdamVecRefIdeal.τ).loc Cert.AdamVecRefIdeal.main_arg28) = m' ((c.tc : Thread Cert.AdamVecRefIdeal.nD Cert.AdamVecRefIdeal.τ).loc Cert.AdamVecRefIdeal.main_arg28)
          ∧ r.2.mem ((c.tc : Thread Cert.AdamVecRefIdeal.nD Cert.AdamVecRefIdeal.τ).loc Cert.AdamVecRefIdeal.main_arg29) = m' ((c.tc : Thread Cert.AdamVecRefIdeal.nD Cert.AdamVecRefIdeal.τ).loc Cert.AdamVecRefIdeal.main_arg29)
          ∧ r.2.mem ((c.tc : Thread Cert.AdamVecRefIdeal.nD Cert.AdamVecRefIdeal.τ).loc Cert.AdamVecRefIdeal.main_arg30) = m' ((c.tc : Thread Cert.AdamVecRefIdeal.nD Cert.AdamVecRefIdeal.τ).loc Cert.AdamVecRefIdeal.main_arg30)
          ∧ r.2.mem ((c.tc : Thread Cert.AdamVecRefIdeal.nD Cert.AdamVecRefIdeal.τ).loc Cert.AdamVecRefIdeal.main_arg31) = m' ((c.tc : Thread Cert.AdamVecRefIdeal.nD Cert.AdamVecRefIdeal.τ).loc Cert.AdamVecRefIdeal.main_arg31))

def preserves_AdamMat_AdamMatIdeal : Prop :=
  True

def algebraic_AdamMatIdeal_AdamMatRefIdeal [hAdamMatIdeal : Cert.AdamMatIdeal.Facts] [hAdamMatRefIdeal : Cert.AdamMatRefIdeal.Facts] : Prop :=
  ∀ (m : (ℓ : Loc Cert.AdamMatIdeal.nD Cert.AdamMatIdeal.τ Cert.AdamMatIdeal.sig) → Buf (Elt Ideal) ℓ) (g : Dev Cert.AdamMatIdeal.nD → PrngReg)
    (m' : (ℓ : Loc Cert.AdamMatRefIdeal.nD Cert.AdamMatRefIdeal.τ Cert.AdamMatRefIdeal.sig) → Buf (Elt Ideal) ℓ) (g' : Dev Cert.AdamMatRefIdeal.nD → PrngReg), Pre_AdamMatIdeal m →
    (∀ c : Dev Cert.AdamMatIdeal.nD,
      m' ((c.tc : Thread Cert.AdamMatRefIdeal.nD Cert.AdamMatRefIdeal.τ).loc Cert.AdamMatRefIdeal.main_arg0) = m ((c.tc : Thread Cert.AdamMatIdeal.nD Cert.AdamMatIdeal.τ).loc Cert.AdamMatIdeal.main_arg0)
      ∧ m' ((c.tc : Thread Cert.AdamMatRefIdeal.nD Cert.AdamMatRefIdeal.τ).loc Cert.AdamMatRefIdeal.main_arg1) = m ((c.tc : Thread Cert.AdamMatIdeal.nD Cert.AdamMatIdeal.τ).loc Cert.AdamMatIdeal.main_arg1)
      ∧ m' ((c.tc : Thread Cert.AdamMatRefIdeal.nD Cert.AdamMatRefIdeal.τ).loc Cert.AdamMatRefIdeal.main_arg2) = m ((c.tc : Thread Cert.AdamMatIdeal.nD Cert.AdamMatIdeal.τ).loc Cert.AdamMatIdeal.main_arg2)
      ∧ m' ((c.tc : Thread Cert.AdamMatRefIdeal.nD Cert.AdamMatRefIdeal.τ).loc Cert.AdamMatRefIdeal.main_arg3) = m ((c.tc : Thread Cert.AdamMatIdeal.nD Cert.AdamMatIdeal.τ).loc Cert.AdamMatIdeal.main_arg3)
      ∧ m' ((c.tc : Thread Cert.AdamMatRefIdeal.nD Cert.AdamMatRefIdeal.τ).loc Cert.AdamMatRefIdeal.main_arg4) = m ((c.tc : Thread Cert.AdamMatIdeal.nD Cert.AdamMatIdeal.τ).loc Cert.AdamMatIdeal.main_arg4)
      ∧ m' ((c.tc : Thread Cert.AdamMatRefIdeal.nD Cert.AdamMatRefIdeal.τ).loc Cert.AdamMatRefIdeal.main_arg5) = m ((c.tc : Thread Cert.AdamMatIdeal.nD Cert.AdamMatIdeal.τ).loc Cert.AdamMatIdeal.main_arg5)
      ∧ m' ((c.tc : Thread Cert.AdamMatRefIdeal.nD Cert.AdamMatRefIdeal.τ).loc Cert.AdamMatRefIdeal.main_arg6) = m ((c.tc : Thread Cert.AdamMatIdeal.nD Cert.AdamMatIdeal.τ).loc Cert.AdamMatIdeal.main_arg6)
      ∧ m' ((c.tc : Thread Cert.AdamMatRefIdeal.nD Cert.AdamMatRefIdeal.τ).loc Cert.AdamMatRefIdeal.main_arg7) = m ((c.tc : Thread Cert.AdamMatIdeal.nD Cert.AdamMatIdeal.τ).loc Cert.AdamMatIdeal.main_arg7)
      ∧ m' ((c.tc : Thread Cert.AdamMatRefIdeal.nD Cert.AdamMatRefIdeal.τ).loc Cert.AdamMatRefIdeal.main_arg8) = m ((c.tc : Thread Cert.AdamMatIdeal.nD Cert.AdamMatIdeal.τ).loc Cert.AdamMatIdeal.main_arg8)
      ∧ m' ((c.tc : Thread Cert.AdamMatRefIdeal.nD Cert.AdamMatRefIdeal.τ).loc Cert.AdamMatRefIdeal.main_arg9) = m ((c.tc : Thread Cert.AdamMatIdeal.nD Cert.AdamMatIdeal.τ).loc Cert.AdamMatIdeal.main_arg9)
      ∧ m' ((c.tc : Thread Cert.AdamMatRefIdeal.nD Cert.AdamMatRefIdeal.τ).loc Cert.AdamMatRefIdeal.main_arg10) = m ((c.tc : Thread Cert.AdamMatIdeal.nD Cert.AdamMatIdeal.τ).loc Cert.AdamMatIdeal.main_arg10)
      ∧ m' ((c.tc : Thread Cert.AdamMatRefIdeal.nD Cert.AdamMatRefIdeal.τ).loc Cert.AdamMatRefIdeal.main_arg11) = m ((c.tc : Thread Cert.AdamMatIdeal.nD Cert.AdamMatIdeal.τ).loc Cert.AdamMatIdeal.main_arg11)) →
    ∃ (v0 : (c : Dev Cert.AdamMatIdeal.nD) → Buf (Elt Ideal) ((c.tc : Thread Cert.AdamMatIdeal.nD Cert.AdamMatIdeal.τ).loc Cert.AdamMatIdeal.main_v0_0)) (v1 : (c : Dev Cert.AdamMatIdeal.nD) → Buf (Elt Ideal) ((c.tc : Thread Cert.AdamMatIdeal.nD Cert.AdamMatIdeal.τ).loc Cert.AdamMatIdeal.main_v0_1)) (v2 : (c : Dev Cert.AdamMatIdeal.nD) → Buf (Elt Ideal) ((c.tc : Thread Cert.AdamMatIdeal.nD Cert.AdamMatIdeal.τ).loc Cert.AdamMatIdeal.main_v0_2)) (v3 : (c : Dev Cert.AdamMatIdeal.nD) → Buf (Elt Ideal) ((c.tc : Thread Cert.AdamMatIdeal.nD Cert.AdamMatIdeal.τ).loc Cert.AdamMatIdeal.main_v0_3)) (v4 : (c : Dev Cert.AdamMatIdeal.nD) → Buf (Elt Ideal) ((c.tc : Thread Cert.AdamMatIdeal.nD Cert.AdamMatIdeal.τ).loc Cert.AdamMatIdeal.main_v1_0)) (v5 : (c : Dev Cert.AdamMatIdeal.nD) → Buf (Elt Ideal) ((c.tc : Thread Cert.AdamMatIdeal.nD Cert.AdamMatIdeal.τ).loc Cert.AdamMatIdeal.main_v1_1)) (v6 : (c : Dev Cert.AdamMatIdeal.nD) → Buf (Elt Ideal) ((c.tc : Thread Cert.AdamMatIdeal.nD Cert.AdamMatIdeal.τ).loc Cert.AdamMatIdeal.main_v1_2)) (v7 : (c : Dev Cert.AdamMatIdeal.nD) → Buf (Elt Ideal) ((c.tc : Thread Cert.AdamMatIdeal.nD Cert.AdamMatIdeal.τ).loc Cert.AdamMatIdeal.main_v1_3)) (v8 : (c : Dev Cert.AdamMatIdeal.nD) → Buf (Elt Ideal) ((c.tc : Thread Cert.AdamMatIdeal.nD Cert.AdamMatIdeal.τ).loc Cert.AdamMatIdeal.main_v2_0)) (v9 : (c : Dev Cert.AdamMatIdeal.nD) → Buf (Elt Ideal) ((c.tc : Thread Cert.AdamMatIdeal.nD Cert.AdamMatIdeal.τ).loc Cert.AdamMatIdeal.main_v2_1)) (v10 : (c : Dev Cert.AdamMatIdeal.nD) → Buf (Elt Ideal) ((c.tc : Thread Cert.AdamMatIdeal.nD Cert.AdamMatIdeal.τ).loc Cert.AdamMatIdeal.main_v2_2)) (v11 : (c : Dev Cert.AdamMatIdeal.nD) → Buf (Elt Ideal) ((c.tc : Thread Cert.AdamMatIdeal.nD Cert.AdamMatIdeal.τ).loc Cert.AdamMatIdeal.main_v2_3)),
      θ_run (Cert.AdamMatIdeal.defs (F := Ideal)) (onTc (τ := Cert.AdamMatIdeal.τ) (Cert.AdamMatIdeal.main (F := Ideal))) ⟨m, fun _ => 0, g⟩ (fun r => ∀ c : Dev Cert.AdamMatIdeal.nD,
          r.2.mem ((c.tc : Thread Cert.AdamMatIdeal.nD Cert.AdamMatIdeal.τ).loc Cert.AdamMatIdeal.main_v0_0) = v0 c
          ∧ r.2.mem ((c.tc : Thread Cert.AdamMatIdeal.nD Cert.AdamMatIdeal.τ).loc Cert.AdamMatIdeal.main_v0_1) = v1 c
          ∧ r.2.mem ((c.tc : Thread Cert.AdamMatIdeal.nD Cert.AdamMatIdeal.τ).loc Cert.AdamMatIdeal.main_v0_2) = v2 c
          ∧ r.2.mem ((c.tc : Thread Cert.AdamMatIdeal.nD Cert.AdamMatIdeal.τ).loc Cert.AdamMatIdeal.main_v0_3) = v3 c
          ∧ r.2.mem ((c.tc : Thread Cert.AdamMatIdeal.nD Cert.AdamMatIdeal.τ).loc Cert.AdamMatIdeal.main_v1_0) = v4 c
          ∧ r.2.mem ((c.tc : Thread Cert.AdamMatIdeal.nD Cert.AdamMatIdeal.τ).loc Cert.AdamMatIdeal.main_v1_1) = v5 c
          ∧ r.2.mem ((c.tc : Thread Cert.AdamMatIdeal.nD Cert.AdamMatIdeal.τ).loc Cert.AdamMatIdeal.main_v1_2) = v6 c
          ∧ r.2.mem ((c.tc : Thread Cert.AdamMatIdeal.nD Cert.AdamMatIdeal.τ).loc Cert.AdamMatIdeal.main_v1_3) = v7 c
          ∧ r.2.mem ((c.tc : Thread Cert.AdamMatIdeal.nD Cert.AdamMatIdeal.τ).loc Cert.AdamMatIdeal.main_v2_0) = v8 c
          ∧ r.2.mem ((c.tc : Thread Cert.AdamMatIdeal.nD Cert.AdamMatIdeal.τ).loc Cert.AdamMatIdeal.main_v2_1) = v9 c
          ∧ r.2.mem ((c.tc : Thread Cert.AdamMatIdeal.nD Cert.AdamMatIdeal.τ).loc Cert.AdamMatIdeal.main_v2_2) = v10 c
          ∧ r.2.mem ((c.tc : Thread Cert.AdamMatIdeal.nD Cert.AdamMatIdeal.τ).loc Cert.AdamMatIdeal.main_v2_3) = v11 c
          ∧ r.2.mem ((c.tc : Thread Cert.AdamMatIdeal.nD Cert.AdamMatIdeal.τ).loc Cert.AdamMatIdeal.main_arg0) = m ((c.tc : Thread Cert.AdamMatIdeal.nD Cert.AdamMatIdeal.τ).loc Cert.AdamMatIdeal.main_arg0)
          ∧ r.2.mem ((c.tc : Thread Cert.AdamMatIdeal.nD Cert.AdamMatIdeal.τ).loc Cert.AdamMatIdeal.main_arg1) = m ((c.tc : Thread Cert.AdamMatIdeal.nD Cert.AdamMatIdeal.τ).loc Cert.AdamMatIdeal.main_arg1)
          ∧ r.2.mem ((c.tc : Thread Cert.AdamMatIdeal.nD Cert.AdamMatIdeal.τ).loc Cert.AdamMatIdeal.main_arg2) = m ((c.tc : Thread Cert.AdamMatIdeal.nD Cert.AdamMatIdeal.τ).loc Cert.AdamMatIdeal.main_arg2)
          ∧ r.2.mem ((c.tc : Thread Cert.AdamMatIdeal.nD Cert.AdamMatIdeal.τ).loc Cert.AdamMatIdeal.main_arg3) = m ((c.tc : Thread Cert.AdamMatIdeal.nD Cert.AdamMatIdeal.τ).loc Cert.AdamMatIdeal.main_arg3)
          ∧ r.2.mem ((c.tc : Thread Cert.AdamMatIdeal.nD Cert.AdamMatIdeal.τ).loc Cert.AdamMatIdeal.main_arg4) = m ((c.tc : Thread Cert.AdamMatIdeal.nD Cert.AdamMatIdeal.τ).loc Cert.AdamMatIdeal.main_arg4)
          ∧ r.2.mem ((c.tc : Thread Cert.AdamMatIdeal.nD Cert.AdamMatIdeal.τ).loc Cert.AdamMatIdeal.main_arg5) = m ((c.tc : Thread Cert.AdamMatIdeal.nD Cert.AdamMatIdeal.τ).loc Cert.AdamMatIdeal.main_arg5)
          ∧ r.2.mem ((c.tc : Thread Cert.AdamMatIdeal.nD Cert.AdamMatIdeal.τ).loc Cert.AdamMatIdeal.main_arg6) = m ((c.tc : Thread Cert.AdamMatIdeal.nD Cert.AdamMatIdeal.τ).loc Cert.AdamMatIdeal.main_arg6)
          ∧ r.2.mem ((c.tc : Thread Cert.AdamMatIdeal.nD Cert.AdamMatIdeal.τ).loc Cert.AdamMatIdeal.main_arg7) = m ((c.tc : Thread Cert.AdamMatIdeal.nD Cert.AdamMatIdeal.τ).loc Cert.AdamMatIdeal.main_arg7)
          ∧ r.2.mem ((c.tc : Thread Cert.AdamMatIdeal.nD Cert.AdamMatIdeal.τ).loc Cert.AdamMatIdeal.main_arg8) = m ((c.tc : Thread Cert.AdamMatIdeal.nD Cert.AdamMatIdeal.τ).loc Cert.AdamMatIdeal.main_arg8)
          ∧ r.2.mem ((c.tc : Thread Cert.AdamMatIdeal.nD Cert.AdamMatIdeal.τ).loc Cert.AdamMatIdeal.main_arg9) = m ((c.tc : Thread Cert.AdamMatIdeal.nD Cert.AdamMatIdeal.τ).loc Cert.AdamMatIdeal.main_arg9)
          ∧ r.2.mem ((c.tc : Thread Cert.AdamMatIdeal.nD Cert.AdamMatIdeal.τ).loc Cert.AdamMatIdeal.main_arg10) = m ((c.tc : Thread Cert.AdamMatIdeal.nD Cert.AdamMatIdeal.τ).loc Cert.AdamMatIdeal.main_arg10)
          ∧ r.2.mem ((c.tc : Thread Cert.AdamMatIdeal.nD Cert.AdamMatIdeal.τ).loc Cert.AdamMatIdeal.main_arg11) = m ((c.tc : Thread Cert.AdamMatIdeal.nD Cert.AdamMatIdeal.τ).loc Cert.AdamMatIdeal.main_arg11))
      ∧ θ_run (Cert.AdamMatRefIdeal.defs (F := Ideal)) (onTc (τ := Cert.AdamMatRefIdeal.τ) (Cert.AdamMatRefIdeal.main (F := Ideal))) ⟨m', fun _ => 0, g'⟩ (fun r => ∀ c : Dev Cert.AdamMatRefIdeal.nD,
          r.2.mem ((c.tc : Thread Cert.AdamMatRefIdeal.nD Cert.AdamMatRefIdeal.τ).loc Cert.AdamMatRefIdeal.main_v0) = v0 c
          ∧ r.2.mem ((c.tc : Thread Cert.AdamMatRefIdeal.nD Cert.AdamMatRefIdeal.τ).loc Cert.AdamMatRefIdeal.main_v25) = v1 c
          ∧ r.2.mem ((c.tc : Thread Cert.AdamMatRefIdeal.nD Cert.AdamMatRefIdeal.τ).loc Cert.AdamMatRefIdeal.main_v6) = v2 c
          ∧ r.2.mem ((c.tc : Thread Cert.AdamMatRefIdeal.nD Cert.AdamMatRefIdeal.τ).loc Cert.AdamMatRefIdeal.main_v12) = v3 c
          ∧ r.2.mem ((c.tc : Thread Cert.AdamMatRefIdeal.nD Cert.AdamMatRefIdeal.τ).loc Cert.AdamMatRefIdeal.main_v26) = v4 c
          ∧ r.2.mem ((c.tc : Thread Cert.AdamMatRefIdeal.nD Cert.AdamMatRefIdeal.τ).loc Cert.AdamMatRefIdeal.main_v51) = v5 c
          ∧ r.2.mem ((c.tc : Thread Cert.AdamMatRefIdeal.nD Cert.AdamMatRefIdeal.τ).loc Cert.AdamMatRefIdeal.main_v32) = v6 c
          ∧ r.2.mem ((c.tc : Thread Cert.AdamMatRefIdeal.nD Cert.AdamMatRefIdeal.τ).loc Cert.AdamMatRefIdeal.main_v38) = v7 c
          ∧ r.2.mem ((c.tc : Thread Cert.AdamMatRefIdeal.nD Cert.AdamMatRefIdeal.τ).loc Cert.AdamMatRefIdeal.main_v52) = v8 c
          ∧ r.2.mem ((c.tc : Thread Cert.AdamMatRefIdeal.nD Cert.AdamMatRefIdeal.τ).loc Cert.AdamMatRefIdeal.main_v77) = v9 c
          ∧ r.2.mem ((c.tc : Thread Cert.AdamMatRefIdeal.nD Cert.AdamMatRefIdeal.τ).loc Cert.AdamMatRefIdeal.main_v58) = v10 c
          ∧ r.2.mem ((c.tc : Thread Cert.AdamMatRefIdeal.nD Cert.AdamMatRefIdeal.τ).loc Cert.AdamMatRefIdeal.main_v64) = v11 c
          ∧ r.2.mem ((c.tc : Thread Cert.AdamMatRefIdeal.nD Cert.AdamMatRefIdeal.τ).loc Cert.AdamMatRefIdeal.main_arg0) = m' ((c.tc : Thread Cert.AdamMatRefIdeal.nD Cert.AdamMatRefIdeal.τ).loc Cert.AdamMatRefIdeal.main_arg0)
          ∧ r.2.mem ((c.tc : Thread Cert.AdamMatRefIdeal.nD Cert.AdamMatRefIdeal.τ).loc Cert.AdamMatRefIdeal.main_arg1) = m' ((c.tc : Thread Cert.AdamMatRefIdeal.nD Cert.AdamMatRefIdeal.τ).loc Cert.AdamMatRefIdeal.main_arg1)
          ∧ r.2.mem ((c.tc : Thread Cert.AdamMatRefIdeal.nD Cert.AdamMatRefIdeal.τ).loc Cert.AdamMatRefIdeal.main_arg2) = m' ((c.tc : Thread Cert.AdamMatRefIdeal.nD Cert.AdamMatRefIdeal.τ).loc Cert.AdamMatRefIdeal.main_arg2)
          ∧ r.2.mem ((c.tc : Thread Cert.AdamMatRefIdeal.nD Cert.AdamMatRefIdeal.τ).loc Cert.AdamMatRefIdeal.main_arg3) = m' ((c.tc : Thread Cert.AdamMatRefIdeal.nD Cert.AdamMatRefIdeal.τ).loc Cert.AdamMatRefIdeal.main_arg3)
          ∧ r.2.mem ((c.tc : Thread Cert.AdamMatRefIdeal.nD Cert.AdamMatRefIdeal.τ).loc Cert.AdamMatRefIdeal.main_arg4) = m' ((c.tc : Thread Cert.AdamMatRefIdeal.nD Cert.AdamMatRefIdeal.τ).loc Cert.AdamMatRefIdeal.main_arg4)
          ∧ r.2.mem ((c.tc : Thread Cert.AdamMatRefIdeal.nD Cert.AdamMatRefIdeal.τ).loc Cert.AdamMatRefIdeal.main_arg5) = m' ((c.tc : Thread Cert.AdamMatRefIdeal.nD Cert.AdamMatRefIdeal.τ).loc Cert.AdamMatRefIdeal.main_arg5)
          ∧ r.2.mem ((c.tc : Thread Cert.AdamMatRefIdeal.nD Cert.AdamMatRefIdeal.τ).loc Cert.AdamMatRefIdeal.main_arg6) = m' ((c.tc : Thread Cert.AdamMatRefIdeal.nD Cert.AdamMatRefIdeal.τ).loc Cert.AdamMatRefIdeal.main_arg6)
          ∧ r.2.mem ((c.tc : Thread Cert.AdamMatRefIdeal.nD Cert.AdamMatRefIdeal.τ).loc Cert.AdamMatRefIdeal.main_arg7) = m' ((c.tc : Thread Cert.AdamMatRefIdeal.nD Cert.AdamMatRefIdeal.τ).loc Cert.AdamMatRefIdeal.main_arg7)
          ∧ r.2.mem ((c.tc : Thread Cert.AdamMatRefIdeal.nD Cert.AdamMatRefIdeal.τ).loc Cert.AdamMatRefIdeal.main_arg8) = m' ((c.tc : Thread Cert.AdamMatRefIdeal.nD Cert.AdamMatRefIdeal.τ).loc Cert.AdamMatRefIdeal.main_arg8)
          ∧ r.2.mem ((c.tc : Thread Cert.AdamMatRefIdeal.nD Cert.AdamMatRefIdeal.τ).loc Cert.AdamMatRefIdeal.main_arg9) = m' ((c.tc : Thread Cert.AdamMatRefIdeal.nD Cert.AdamMatRefIdeal.τ).loc Cert.AdamMatRefIdeal.main_arg9)
          ∧ r.2.mem ((c.tc : Thread Cert.AdamMatRefIdeal.nD Cert.AdamMatRefIdeal.τ).loc Cert.AdamMatRefIdeal.main_arg10) = m' ((c.tc : Thread Cert.AdamMatRefIdeal.nD Cert.AdamMatRefIdeal.τ).loc Cert.AdamMatRefIdeal.main_arg10)
          ∧ r.2.mem ((c.tc : Thread Cert.AdamMatRefIdeal.nD Cert.AdamMatRefIdeal.τ).loc Cert.AdamMatRefIdeal.main_arg11) = m' ((c.tc : Thread Cert.AdamMatRefIdeal.nD Cert.AdamMatRefIdeal.τ).loc Cert.AdamMatRefIdeal.main_arg11))

def preserves_AdamSsdIn_AdamSsdInIdeal : Prop :=
  True

def algebraic_AdamSsdInIdeal_AdamSsdInRefIdeal [hAdamSsdInIdeal : Cert.AdamSsdInIdeal.Facts] [hAdamSsdInRefIdeal : Cert.AdamSsdInRefIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg)
    (m' : (ℓ : Loc Cert.AdamSsdInRefIdeal.nD Cert.AdamSsdInRefIdeal.τ Cert.AdamSsdInRefIdeal.sig) → Buf (Elt Ideal) ℓ) (g' : Dev Cert.AdamSsdInRefIdeal.nD → PrngReg), Pre_AdamSsdInIdeal m →
    (∀ c : Dev Cert.AdamSsdInIdeal.nD,
      m' ((c.tc : Thread Cert.AdamSsdInRefIdeal.nD Cert.AdamSsdInRefIdeal.τ).loc Cert.AdamSsdInRefIdeal.main_arg0) = m ((c.tc : Thread Cert.AdamSsdInIdeal.nD Cert.AdamSsdInIdeal.τ).loc Cert.AdamSsdInIdeal.main_arg0)
      ∧ m' ((c.tc : Thread Cert.AdamSsdInRefIdeal.nD Cert.AdamSsdInRefIdeal.τ).loc Cert.AdamSsdInRefIdeal.main_arg1) = m ((c.tc : Thread Cert.AdamSsdInIdeal.nD Cert.AdamSsdInIdeal.τ).loc Cert.AdamSsdInIdeal.main_arg1)
      ∧ m' ((c.tc : Thread Cert.AdamSsdInRefIdeal.nD Cert.AdamSsdInRefIdeal.τ).loc Cert.AdamSsdInRefIdeal.main_arg2) = m ((c.tc : Thread Cert.AdamSsdInIdeal.nD Cert.AdamSsdInIdeal.τ).loc Cert.AdamSsdInIdeal.main_arg2)
      ∧ m' ((c.tc : Thread Cert.AdamSsdInRefIdeal.nD Cert.AdamSsdInRefIdeal.τ).loc Cert.AdamSsdInRefIdeal.main_arg3) = m ((c.tc : Thread Cert.AdamSsdInIdeal.nD Cert.AdamSsdInIdeal.τ).loc Cert.AdamSsdInIdeal.main_arg3)) →
    ∃ (v0 : (c : Dev Cert.AdamSsdInIdeal.nD) → Buf (Elt Ideal) ((c.tc : Thread Cert.AdamSsdInIdeal.nD Cert.AdamSsdInIdeal.τ).loc Cert.AdamSsdInIdeal.main_v8)) (v1 : (c : Dev Cert.AdamSsdInIdeal.nD) → Buf (Elt Ideal) ((c.tc : Thread Cert.AdamSsdInIdeal.nD Cert.AdamSsdInIdeal.τ).loc Cert.AdamSsdInIdeal.main_v9)) (v2 : (c : Dev Cert.AdamSsdInIdeal.nD) → Buf (Elt Ideal) ((c.tc : Thread Cert.AdamSsdInIdeal.nD Cert.AdamSsdInIdeal.τ).loc Cert.AdamSsdInIdeal.main_v10)) (v3 : (c : Dev Cert.AdamSsdInIdeal.nD) → Buf (Elt Ideal) ((c.tc : Thread Cert.AdamSsdInIdeal.nD Cert.AdamSsdInIdeal.τ).loc Cert.AdamSsdInIdeal.main_v11)),
      θ_run (Cert.AdamSsdInIdeal.defs (F := Ideal)) (onTc (τ := Cert.AdamSsdInIdeal.τ) (Cert.AdamSsdInIdeal.main (F := Ideal))) ⟨m, fun _ => 0, g⟩ (fun r => ∀ c : Dev Cert.AdamSsdInIdeal.nD,
          r.2.mem ((c.tc : Thread Cert.AdamSsdInIdeal.nD Cert.AdamSsdInIdeal.τ).loc Cert.AdamSsdInIdeal.main_v8) = v0 c
          ∧ r.2.mem ((c.tc : Thread Cert.AdamSsdInIdeal.nD Cert.AdamSsdInIdeal.τ).loc Cert.AdamSsdInIdeal.main_v9) = v1 c
          ∧ r.2.mem ((c.tc : Thread Cert.AdamSsdInIdeal.nD Cert.AdamSsdInIdeal.τ).loc Cert.AdamSsdInIdeal.main_v10) = v2 c
          ∧ r.2.mem ((c.tc : Thread Cert.AdamSsdInIdeal.nD Cert.AdamSsdInIdeal.τ).loc Cert.AdamSsdInIdeal.main_v11) = v3 c
          ∧ r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
          ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
          ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
          ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3))
      ∧ θ_run (Cert.AdamSsdInRefIdeal.defs (F := Ideal)) (onTc (τ := Cert.AdamSsdInRefIdeal.τ) (Cert.AdamSsdInRefIdeal.main (F := Ideal))) ⟨m', fun _ => 0, g'⟩ (fun r => ∀ c : Dev Cert.AdamSsdInRefIdeal.nD,
          r.2.mem ((c.tc : Thread Cert.AdamSsdInRefIdeal.nD Cert.AdamSsdInRefIdeal.τ).loc Cert.AdamSsdInRefIdeal.main_arg1) = v0 c
          ∧ r.2.mem ((c.tc : Thread Cert.AdamSsdInRefIdeal.nD Cert.AdamSsdInRefIdeal.τ).loc Cert.AdamSsdInRefIdeal.main_v26) = v1 c
          ∧ r.2.mem ((c.tc : Thread Cert.AdamSsdInRefIdeal.nD Cert.AdamSsdInRefIdeal.τ).loc Cert.AdamSsdInRefIdeal.main_v7) = v2 c
          ∧ r.2.mem ((c.tc : Thread Cert.AdamSsdInRefIdeal.nD Cert.AdamSsdInRefIdeal.τ).loc Cert.AdamSsdInRefIdeal.main_v13) = v3 c
          ∧ r.2.mem ((c.tc : Thread Cert.AdamSsdInRefIdeal.nD Cert.AdamSsdInRefIdeal.τ).loc Cert.AdamSsdInRefIdeal.main_arg0) = m' ((c.tc : Thread Cert.AdamSsdInRefIdeal.nD Cert.AdamSsdInRefIdeal.τ).loc Cert.AdamSsdInRefIdeal.main_arg0)
          ∧ r.2.mem ((c.tc : Thread Cert.AdamSsdInRefIdeal.nD Cert.AdamSsdInRefIdeal.τ).loc Cert.AdamSsdInRefIdeal.main_arg1) = m' ((c.tc : Thread Cert.AdamSsdInRefIdeal.nD Cert.AdamSsdInRefIdeal.τ).loc Cert.AdamSsdInRefIdeal.main_arg1)
          ∧ r.2.mem ((c.tc : Thread Cert.AdamSsdInRefIdeal.nD Cert.AdamSsdInRefIdeal.τ).loc Cert.AdamSsdInRefIdeal.main_arg2) = m' ((c.tc : Thread Cert.AdamSsdInRefIdeal.nD Cert.AdamSsdInRefIdeal.τ).loc Cert.AdamSsdInRefIdeal.main_arg2)
          ∧ r.2.mem ((c.tc : Thread Cert.AdamSsdInRefIdeal.nD Cert.AdamSsdInRefIdeal.τ).loc Cert.AdamSsdInRefIdeal.main_arg3) = m' ((c.tc : Thread Cert.AdamSsdInRefIdeal.nD Cert.AdamSsdInRefIdeal.τ).loc Cert.AdamSsdInRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v2_0)) (v1 : (c : Dev Cert.AdamDownIdeal.nD) → Buf (Elt Ideal) ((c.tc : Thread Cert.AdamDownIdeal.nD Cert.AdamDownIdeal.τ).loc Cert.AdamDownIdeal.main_v2_1)) (v2 : (c : Dev Cert.AdamDownIdeal.nD) → Buf (Elt Ideal) ((c.tc : Thread Cert.AdamDownIdeal.nD Cert.AdamDownIdeal.τ).loc Cert.AdamDownIdeal.main_v2_2)) (v3 : (c : Dev Cert.AdamDownIdeal.nD) → Buf (Elt Ideal) ((c.tc : Thread Cert.AdamDownIdeal.nD Cert.AdamDownIdeal.τ).loc Cert.AdamDownIdeal.main_v2_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v2_0) = v0 c
          ∧ r.2.mem ((c.tc : Thread Cert.AdamDownIdeal.nD Cert.AdamDownIdeal.τ).loc Cert.AdamDownIdeal.main_v2_1) = v1 c
          ∧ r.2.mem ((c.tc : Thread Cert.AdamDownIdeal.nD Cert.AdamDownIdeal.τ).loc Cert.AdamDownIdeal.main_v2_2) = v2 c
          ∧ r.2.mem ((c.tc : Thread Cert.AdamDownIdeal.nD Cert.AdamDownIdeal.τ).loc Cert.AdamDownIdeal.main_v2_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v2)) (v1 : (c : Dev Cert.SumSmallIdeal.nD) → Buf (Elt Ideal) ((c.tc : Thread Cert.SumSmallIdeal.nD Cert.SumSmallIdeal.τ).loc Cert.SumSmallIdeal.main_v42)) (v2 : (c : Dev Cert.SumSmallIdeal.nD) → Buf (Elt Ideal) ((c.tc : Thread Cert.SumSmallIdeal.nD Cert.SumSmallIdeal.τ).loc Cert.SumSmallIdeal.main_v49)) (v3 : (c : Dev Cert.SumSmallIdeal.nD) → Buf (Elt Ideal) ((c.tc : Thread Cert.SumSmallIdeal.nD Cert.SumSmallIdeal.τ).loc Cert.SumSmallIdeal.main_v56)) (v4 : (c : Dev Cert.SumSmallIdeal.nD) → Buf (Elt Ideal) ((c.tc : Thread Cert.SumSmallIdeal.nD Cert.SumSmallIdeal.τ).loc Cert.SumSmallIdeal.main_v57)) (v5 : (c : Dev Cert.SumSmallIdeal.nD) → Buf (Elt Ideal) ((c.tc : Thread Cert.SumSmallIdeal.nD Cert.SumSmallIdeal.τ).loc Cert.SumSmallIdeal.main_v58)) (v6 : (c : Dev Cert.SumSmallIdeal.nD) → Buf (Elt Ideal) ((c.tc : Thread Cert.SumSmallIdeal.nD Cert.SumSmallIdeal.τ).loc Cert.SumSmallIdeal.main_v59)) (v7 : (c : Dev Cert.SumSmallIdeal.nD) → Buf (Elt Ideal) ((c.tc : Thread Cert.SumSmallIdeal.nD Cert.SumSmallIdeal.τ).loc Cert.SumSmallIdeal.main_v60)) (v8 : (c : Dev Cert.SumSmallIdeal.nD) → Buf (Elt Ideal) ((c.tc : Thread Cert.SumSmallIdeal.nD Cert.SumSmallIdeal.τ).loc Cert.SumSmallIdeal.main_v61)) (v9 : (c : Dev Cert.SumSmallIdeal.nD) → Buf (Elt Ideal) ((c.tc : Thread Cert.SumSmallIdeal.nD Cert.SumSmallIdeal.τ).loc Cert.SumSmallIdeal.main_v63)) (v10 : (c : Dev Cert.SumSmallIdeal.nD) → Buf (Elt Ideal) ((c.tc : Thread Cert.SumSmallIdeal.nD Cert.SumSmallIdeal.τ).loc Cert.SumSmallIdeal.main_v64)) (v11 : (c : Dev Cert.SumSmallIdeal.nD) → Buf (Elt Ideal) ((c.tc : Thread Cert.SumSmallIdeal.nD Cert.SumSmallIdeal.τ).loc Cert.SumSmallIdeal.main_v66)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v2) = v0 c
          ∧ r.2.mem ((c.tc : Thread Cert.SumSmallIdeal.nD Cert.SumSmallIdeal.τ).loc Cert.SumSmallIdeal.main_v42) = v1 c
          ∧ r.2.mem ((c.tc : Thread Cert.SumSmallIdeal.nD Cert.SumSmallIdeal.τ).loc Cert.SumSmallIdeal.main_v49) = v2 c
          ∧ r.2.mem ((c.tc : Thread Cert.SumSmallIdeal.nD Cert.SumSmallIdeal.τ).loc Cert.SumSmallIdeal.main_v56) = v3 c
          ∧ r.2.mem ((c.tc : Thread Cert.SumSmallIdeal.nD Cert.SumSmallIdeal.τ).loc Cert.SumSmallIdeal.main_v57) = v4 c
          ∧ r.2.mem ((c.tc : Thread Cert.SumSmallIdeal.nD Cert.SumSmallIdeal.τ).loc Cert.SumSmallIdeal.main_v58) = v5 c
          ∧ r.2.mem ((c.tc : Thread Cert.SumSmallIdeal.nD Cert.SumSmallIdeal.τ).loc Cert.SumSmallIdeal.main_v59) = v6 c
          ∧ r.2.mem ((c.tc : Thread Cert.SumSmallIdeal.nD Cert.SumSmallIdeal.τ).loc Cert.SumSmallIdeal.main_v60) = v7 c
          ∧ r.2.mem ((c.tc : Thread Cert.SumSmallIdeal.nD Cert.SumSmallIdeal.τ).loc Cert.SumSmallIdeal.main_v61) = v8 c
          ∧ r.2.mem ((c.tc : Thread Cert.SumSmallIdeal.nD Cert.SumSmallIdeal.τ).loc Cert.SumSmallIdeal.main_v63) = v9 c
          ∧ r.2.mem ((c.tc : Thread Cert.SumSmallIdeal.nD Cert.SumSmallIdeal.τ).loc Cert.SumSmallIdeal.main_v64) = v10 c
          ∧ r.2.mem ((c.tc : Thread Cert.SumSmallIdeal.nD Cert.SumSmallIdeal.τ).loc Cert.SumSmallIdeal.main_v66) = v11 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v4) = v0 c
          ∧ r.2.mem ((c.tc : Thread Cert.SumSmallRefIdeal.nD Cert.SumSmallRefIdeal.τ).loc Cert.SumSmallRefIdeal.main_v42) = v1 c
          ∧ r.2.mem ((c.tc : Thread Cert.SumSmallRefIdeal.nD Cert.SumSmallRefIdeal.τ).loc Cert.SumSmallRefIdeal.main_v49) = v2 c
          ∧ r.2.mem ((c.tc : Thread Cert.SumSmallRefIdeal.nD Cert.SumSmallRefIdeal.τ).loc Cert.SumSmallRefIdeal.main_v56) = v3 c
          ∧ r.2.mem ((c.tc : Thread Cert.SumSmallRefIdeal.nD Cert.SumSmallRefIdeal.τ).loc Cert.SumSmallRefIdeal.main_v57) = v4 c
          ∧ r.2.mem ((c.tc : Thread Cert.SumSmallRefIdeal.nD Cert.SumSmallRefIdeal.τ).loc Cert.SumSmallRefIdeal.main_v58) = v5 c
          ∧ r.2.mem ((c.tc : Thread Cert.SumSmallRefIdeal.nD Cert.SumSmallRefIdeal.τ).loc Cert.SumSmallRefIdeal.main_v59) = v6 c
          ∧ r.2.mem ((c.tc : Thread Cert.SumSmallRefIdeal.nD Cert.SumSmallRefIdeal.τ).loc Cert.SumSmallRefIdeal.main_v60) = v7 c
          ∧ r.2.mem ((c.tc : Thread Cert.SumSmallRefIdeal.nD Cert.SumSmallRefIdeal.τ).loc Cert.SumSmallRefIdeal.main_v61) = v8 c
          ∧ r.2.mem ((c.tc : Thread Cert.SumSmallRefIdeal.nD Cert.SumSmallRefIdeal.τ).loc Cert.SumSmallRefIdeal.main_v63) = v9 c
          ∧ r.2.mem ((c.tc : Thread Cert.SumSmallRefIdeal.nD Cert.SumSmallRefIdeal.τ).loc Cert.SumSmallRefIdeal.main_v64) = v10 c
          ∧ r.2.mem ((c.tc : Thread Cert.SumSmallRefIdeal.nD Cert.SumSmallRefIdeal.τ).loc Cert.SumSmallRefIdeal.main_v66) = v11 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v4)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v4) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v6) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def Claim : Prop :=
  ∃ (hConvFwd : Cert.ConvFwd.Facts) (hConvFwdIdeal : Cert.ConvFwdIdeal.Facts) (hConvFwdRefIdeal : Cert.ConvFwdRefIdeal.Facts) (hConvBwd : Cert.ConvBwd.Facts) (hConvBwdIdeal : Cert.ConvBwdIdeal.Facts) (hConvBwdRefIdeal : Cert.ConvBwdRefIdeal.Facts) (hMlpBwd : Cert.MlpBwd.Facts) (hMlpBwdIdeal : Cert.MlpBwdIdeal.Facts) (hMlpBwdRefIdeal : Cert.MlpBwdRefIdeal.Facts) (hMlpFwd : Cert.MlpFwd.Facts) (hMlpFwdIdeal : Cert.MlpFwdIdeal.Facts) (hMlpFwdRefIdeal : Cert.MlpFwdRefIdeal.Facts) (hScBwd : Cert.ScBwd.Facts) (hScBwdIdeal : Cert.ScBwdIdeal.Facts) (hScBwdRefIdeal : Cert.ScBwdRefIdeal.Facts) (hSsdInBwd : Cert.SsdInBwd.Facts) (hSsdInBwdIdeal : Cert.SsdInBwdIdeal.Facts) (hSsdInBwdRefIdeal : Cert.SsdInBwdRefIdeal.Facts) (hSsdOutBwd : Cert.SsdOutBwd.Facts) (hSsdOutBwdIdeal : Cert.SsdOutBwdIdeal.Facts) (hSsdOutBwdRefIdeal : Cert.SsdOutBwdRefIdeal.Facts) (hScFwd : Cert.ScFwd.Facts) (hScFwdIdeal : Cert.ScFwdIdeal.Facts) (hScFwdRefIdeal : Cert.ScFwdRefIdeal.Facts) (hSsdInFwd : Cert.SsdInFwd.Facts) (hSsdInFwdIdeal : Cert.SsdInFwdIdeal.Facts) (hSsdInFwdRefIdeal : Cert.SsdInFwdRefIdeal.Facts) (hSsdOutFwd : Cert.SsdOutFwd.Facts) (hSsdOutFwdIdeal : Cert.SsdOutFwdIdeal.Facts) (hSsdOutFwdRefIdeal : Cert.SsdOutFwdRefIdeal.Facts) (hAdamVec : Cert.AdamVec.Facts) (hAdamVecIdeal : Cert.AdamVecIdeal.Facts) (hAdamVecRefIdeal : Cert.AdamVecRefIdeal.Facts) (hAdamMat : Cert.AdamMat.Facts) (hAdamMatIdeal : Cert.AdamMatIdeal.Facts) (hAdamMatRefIdeal : Cert.AdamMatRefIdeal.Facts) (hAdamSsdIn : Cert.AdamSsdIn.Facts) (hAdamSsdInIdeal : Cert.AdamSsdInIdeal.Facts) (hAdamSsdInRefIdeal : Cert.AdamSsdInRefIdeal.Facts) (hAdamAda : Cert.AdamAda.Facts) (hAdamAdaIdeal : Cert.AdamAdaIdeal.Facts) (hAdamAdaRefIdeal : Cert.AdamAdaRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSumSmall : Cert.SumSmall.Facts) (hSumSmallIdeal : Cert.SumSmallIdeal.Facts) (hSumSmallRefIdeal : Cert.SumSmallRefIdeal.Facts) (hAdaDw : Cert.AdaDw.Facts) (hAdaDwIdeal : Cert.AdaDwIdeal.Facts) (hAdaDwRefIdeal : Cert.AdaDwRefIdeal.Facts),
    quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_ScBwd (hScBwd := hScBwd)
    ∧ quiescent_ScBwdIdeal (hScBwdIdeal := hScBwdIdeal)
    ∧ quiescent_ScBwdRefIdeal (hScBwdRefIdeal := hScBwdRefIdeal)
    ∧ quiescent_SsdInBwd (hSsdInBwd := hSsdInBwd)
    ∧ quiescent_SsdInBwdIdeal (hSsdInBwdIdeal := hSsdInBwdIdeal)
    ∧ quiescent_SsdInBwdRefIdeal (hSsdInBwdRefIdeal := hSsdInBwdRefIdeal)
    ∧ quiescent_SsdOutBwd (hSsdOutBwd := hSsdOutBwd)
    ∧ quiescent_SsdOutBwdIdeal (hSsdOutBwdIdeal := hSsdOutBwdIdeal)
    ∧ quiescent_SsdOutBwdRefIdeal (hSsdOutBwdRefIdeal := hSsdOutBwdRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_SsdInFwd (hSsdInFwd := hSsdInFwd)
    ∧ quiescent_SsdInFwdIdeal (hSsdInFwdIdeal := hSsdInFwdIdeal)
    ∧ quiescent_SsdInFwdRefIdeal (hSsdInFwdRefIdeal := hSsdInFwdRefIdeal)
    ∧ quiescent_SsdOutFwd (hSsdOutFwd := hSsdOutFwd)
    ∧ quiescent_SsdOutFwdIdeal (hSsdOutFwdIdeal := hSsdOutFwdIdeal)
    ∧ quiescent_SsdOutFwdRefIdeal (hSsdOutFwdRefIdeal := hSsdOutFwdRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamMat (hAdamMat := hAdamMat)
    ∧ quiescent_AdamMatIdeal (hAdamMatIdeal := hAdamMatIdeal)
    ∧ quiescent_AdamMatRefIdeal (hAdamMatRefIdeal := hAdamMatRefIdeal)
    ∧ quiescent_AdamSsdIn (hAdamSsdIn := hAdamSsdIn)
    ∧ quiescent_AdamSsdInIdeal (hAdamSsdInIdeal := hAdamSsdInIdeal)
    ∧ quiescent_AdamSsdInRefIdeal (hAdamSsdInRefIdeal := hAdamSsdInRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_ScBwd_ScBwdIdeal
    ∧ algebraic_ScBwdIdeal_ScBwdRefIdeal (hScBwdIdeal := hScBwdIdeal) (hScBwdRefIdeal := hScBwdRefIdeal)
    ∧ preserves_SsdInBwd_SsdInBwdIdeal
    ∧ algebraic_SsdInBwdIdeal_SsdInBwdRefIdeal (hSsdInBwdIdeal := hSsdInBwdIdeal) (hSsdInBwdRefIdeal := hSsdInBwdRefIdeal)
    ∧ preserves_SsdOutBwd_SsdOutBwdIdeal
    ∧ algebraic_SsdOutBwdIdeal_SsdOutBwdRefIdeal (hSsdOutBwdIdeal := hSsdOutBwdIdeal) (hSsdOutBwdRefIdeal := hSsdOutBwdRefIdeal)
    ∧ preserves_ScFwd_ScFwdIdeal
    ∧ algebraic_ScFwdIdeal_ScFwdRefIdeal (hScFwdIdeal := hScFwdIdeal) (hScFwdRefIdeal := hScFwdRefIdeal)
    ∧ preserves_SsdInFwd_SsdInFwdIdeal
    ∧ algebraic_SsdInFwdIdeal_SsdInFwdRefIdeal (hSsdInFwdIdeal := hSsdInFwdIdeal) (hSsdInFwdRefIdeal := hSsdInFwdRefIdeal)
    ∧ preserves_SsdOutFwd_SsdOutFwdIdeal
    ∧ algebraic_SsdOutFwdIdeal_SsdOutFwdRefIdeal (hSsdOutFwdIdeal := hSsdOutFwdIdeal) (hSsdOutFwdRefIdeal := hSsdOutFwdRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamMat_AdamMatIdeal
    ∧ algebraic_AdamMatIdeal_AdamMatRefIdeal (hAdamMatIdeal := hAdamMatIdeal) (hAdamMatRefIdeal := hAdamMatRefIdeal)
    ∧ preserves_AdamSsdIn_AdamSsdInIdeal
    ∧ algebraic_AdamSsdInIdeal_AdamSsdInRefIdeal (hAdamSsdInIdeal := hAdamSsdInIdeal) (hAdamSsdInRefIdeal := hAdamSsdInRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdaDw_AdaDwIdeal
    ∧ algebraic_AdaDwIdeal_AdaDwRefIdeal (hAdaDwIdeal := hAdaDwIdeal) (hAdaDwRefIdeal := hAdaDwRefIdeal)
-- ==== ConvFwd.lean ====
abbrev S2048x3072 : Shape := ⟨2, ![2048, 3072]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x3072, .bf16⟩
  | .hbm, ⟨1, _⟩ => ⟨S3x1024, .f32⟩
  | .hbm, ⟨2, _⟩ => ⟨S2048x1024, .bf16⟩
  | .hbm, ⟨3, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3x1024, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S2048x1024, .f32⟩
  | .hbm, ⟨33, _⟩ => ⟨S_, .f32⟩
  | .hbm, ⟨34, _⟩ => ⟨S2x1024, .f32⟩
  | .hbm, ⟨35, _⟩ => ⟨S2050x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== ConvBwd.lean ====
abbrev S2048x3072 : Shape := ⟨2, ![2048, 3072]⟩
abbrev S2048x1024 : Shape := ⟨2, ![2048, 1024]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S3x2048x1024 : Shape := ⟨3, ![3, 2048, 1024]⟩
abbrev S8x1024 : Shape := ⟨2, ![8, 1024]⟩
abbrev S2048x256 : Shape := ⟨2, ![2048, 256]⟩
abbrev S3x256 : Shape := ⟨2, ![3, 256]⟩
abbrev S3x2048x256 : Shape := ⟨3, ![3, 2048, 256]⟩
abbrev S8x256 : Shape := ⟨2, ![8, 256]⟩
abbrev S1x2048x256 : Shape := ⟨3, ![1, 2048, 256]⟩
abbrev S256 : Shape := ⟨1, ![256]⟩
abbrev S1x256 : Shape := ⟨2, ![1, 256]⟩
abbrev S2040x256 : Shape := ⟨2, ![2040, 256]⟩

abbrev nBuf : Space → Nat
  | .hbm => 31
  | .vmem => 16
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3x1024, .f32⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S3x2048x1024, .bf16⟩
  | .hbm, ⟨30, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S3x2048x256, .bf16⟩
  | .local _ .vmem, ⟨13, _⟩ => ⟨S3x2048x256, .bf16⟩
  | .local _ .vmem, ⟨14, _⟩ => ⟨S8x256, .f32⟩
  | .local _ .vmem, ⟨15, _⟩ => ⟨S8x256, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvBwdRefIdeal.lean ====
abbrev S2048x3072 : Shape := ⟨2, ![2048, 3072]⟩
abbrev S2048x1024 : Shape := ⟨2, ![2048, 1024]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S1x2048x1024 : Shape := ⟨3, ![1, 2048, 1024]⟩
abbrev S3x2048x1024 : Shape := ⟨3, ![3, 2048, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3x1024, .f32⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S2050x1024, .f32⟩
  | .hbm, ⟨42, _⟩ => ⟨S_, .f32⟩
  | .hbm, ⟨43, _⟩ => ⟨S3x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S2050x1024, .f32⟩
  | .hbm, ⟨52, _⟩ => ⟨S2050x1024, .f32⟩
  | .hbm, ⟨53, _⟩ => ⟨S_, .f32⟩
  | .hbm, ⟨54, _⟩ => ⟨S3x1024, .f32⟩
  | .hbm, ⟨55, _⟩ => ⟨S3x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S2050x1024, .f32⟩
  | .hbm, ⟨64, _⟩ => ⟨S2050x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S2x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x3072, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S3x2048x1024, .f32⟩
  | .hbm, ⟨80, _⟩ => ⟨S3x2048x1024, .bf16⟩
  | .hbm, ⟨81, _⟩ => ⟨S_, .i32⟩
  | .hbm, ⟨82, _⟩ => ⟨S_, .f32⟩
  | .hbm, ⟨83, _⟩ => ⟨S8x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c : Ref sig .tc := ⟨.hbm, 81, rfl⟩
abbrev main_call0_v0 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== MlpBwd.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S1x512x1024 : Shape := ⟨3, ![1, 512, 1024]⟩
abbrev S2048x512 : Shape := ⟨2, ![2048, 512]⟩
abbrev S512x1024 : Shape := ⟨2, ![512, 1024]⟩
abbrev S1x1024x1024 : Shape := ⟨3, ![1, 1024, 1024]⟩
abbrev S1024x1024 : Shape := ⟨2, ![1024, 1024]⟩
abbrev S4x512x1024 : Shape := ⟨3, ![4, 512, 1024]⟩
abbrev S1024x512 : Shape := ⟨2, ![1024, 512]⟩
abbrev S1x1024x512 : Shape := ⟨3, ![1, 1024, 512]⟩

abbrev nBuf : Space → Nat
  | .hbm => 19
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .bf16⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .bf16⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x2048x1024, .f32⟩
  | .hbm, ⟨14, _⟩ => ⟨S4x2048x1024, .bf16⟩
  | .hbm, ⟨15, _⟩ => ⟨S2048x4096, .bf16⟩
  | .hbm, ⟨16, _⟩ => ⟨S4x2048x1024, .bf16⟩
  | .hbm, ⟨17, _⟩ => ⟨S2048x1024, .bf16⟩
  | .hbm, ⟨18, _⟩ => ⟨S4x2048x1024, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x4096, .bf16⟩
  | .local _ .vmem, ⟨13, _⟩ => ⟨S1024x4096, .bf16⟩
  | .local _ .vmem, ⟨14, _⟩ => ⟨S4x512x1024, .bf16⟩
  | .local _ .vmem, ⟨15, _⟩ => ⟨S4x512x1024, .bf16⟩
  | .local _ .vmem, ⟨16, _⟩ => ⟨S1024x512, .bf16⟩
  | .local _ .vmem, ⟨17, _⟩ => ⟨S1024x512, .bf16⟩
  | .local _ .vmem, ⟨18, _⟩ => ⟨S2048x1024, .bf16⟩
  | .local _ .vmem, ⟨19, _⟩ => ⟨S2048x512, .bf16⟩
  | .local _ .vmem, ⟨20, _⟩ => ⟨S2048x512, .bf16⟩
  | .local _ .vmem, ⟨21, _⟩ => ⟨S1x1024x512, .bf16⟩
  | .local _ .vmem, ⟨22, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, v27.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]
-- ==== MlpBwdRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩
abbrev S4x2048x1024 : Shape := ⟨3, ![4, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .bf16⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x1024, .f32⟩
  | .hbm, ⟨17, _⟩ => ⟨S1024x4096, .f32⟩
  | .hbm, ⟨18, _⟩ => ⟨S4096x1024, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S4096x1024, .f32⟩
  | .hbm, ⟨27, _⟩ => ⟨S1024x4096, .f32⟩
  | .hbm, ⟨28, _⟩ => ⟨S2048x1024, .f32⟩
  | .hbm, ⟨29, _⟩ => ⟨S2048x1024, .bf16⟩
  | .hbm, ⟨30, _⟩ => ⟨S1024x4x1024, .f32⟩
  | .hbm, ⟨31, _⟩ => ⟨S4x1024x1024, .f32⟩
  | .hbm, ⟨32, _⟩ => ⟨S4x1024x1024, .f32⟩
  | .hbm, ⟨33, _⟩ => ⟨S4x2048x1024, .f32⟩
  | .hbm, ⟨34, _⟩ => ⟨S4x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== MlpFwd.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩
abbrev S4x1024x512 : Shape := ⟨3, ![4, 1024, 512]⟩
abbrev S1x512 : Shape := ⟨2, ![1, 512]⟩
abbrev S4096x512 : Shape := ⟨2, ![4096, 512]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S1024x4096, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .f32⟩
  | .hbm, ⟨8, _⟩ => ⟨S4x2048x1024, .f32⟩
  | .hbm, ⟨9, _⟩ => ⟨S4x2048x1024, .bf16⟩
  | .hbm, ⟨10, _⟩ => ⟨S2048x4096, .bf16⟩
  | .hbm, ⟨11, _⟩ => ⟨S2048x1024, .f32⟩
  | .hbm, ⟨12, _⟩ => ⟨S2048x1024, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S1024x4096, .bf16⟩
  | .local _ .vmem, ⟨6, _⟩ => ⟨S1024x4096, .bf16⟩
  | .local _ .vmem, ⟨7, _⟩ => ⟨S4x1024x512, .bf16⟩
  | .local _ .vmem, ⟨8, _⟩ => ⟨S4x1024x512, .bf16⟩
  | .local _ .vmem, ⟨9, _⟩ => ⟨S1024x512, .f32⟩
  | .local _ .vmem, ⟨10, _⟩ => ⟨S1024x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== MlpFwdRefIdeal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S1024x4096, .f32⟩
  | .hbm, ⟨4, _⟩ => ⟨S4096x1024, .f32⟩
  | .hbm, ⟨5, _⟩ => ⟨S2048x1024, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== ScBwd.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024x4x768 : Shape := ⟨3, ![1024, 4, 768]⟩
abbrev S4x1024x768 : Shape := ⟨3, ![4, 1024, 768]⟩
abbrev S4x256x1024 : Shape := ⟨3, ![4, 256, 1024]⟩
abbrev S1x256x1024 : Shape := ⟨3, ![1, 256, 1024]⟩
abbrev S2048x256 : Shape := ⟨2, ![2048, 256]⟩
abbrev S256x1024 : Shape := ⟨2, ![256, 1024]⟩
abbrev S3x2048x1024 : Shape := ⟨3, ![3, 2048, 1024]⟩
abbrev S8x1024 : Shape := ⟨2, ![8, 1024]⟩
abbrev S3x256 : Shape := ⟨2, ![3, 256]⟩
abbrev S3x2048x256 : Shape := ⟨3, ![3, 2048, 256]⟩
abbrev S8x256 : Shape := ⟨2, ![8, 256]⟩
abbrev S1x2048x256 : Shape := ⟨3, ![1, 2048, 256]⟩
abbrev S256 : Shape := ⟨1, ![256]⟩
abbrev S1x256 : Shape := ⟨2, ![1, 256]⟩
abbrev S2040x256 : Shape := ⟨2, ![2040, 256]⟩
abbrev S3x1024x1024 : Shape := ⟨3, ![3, 1024, 1024]⟩
abbrev S4x512x768 : Shape := ⟨3, ![4, 512, 768]⟩
abbrev S1024x512 : Shape := ⟨2, ![1024, 512]⟩
abbrev S1x1024x1024 : Shape := ⟨3, ![1, 1024, 1024]⟩
abbrev S1024x256 : Shape := ⟨2, ![1024, 256]⟩
abbrev S1x512x768 : Shape := ⟨3, ![1, 512, 768]⟩
abbrev S512x768 : Shape := ⟨2, ![512, 768]⟩
abbrev S512x256 : Shape := ⟨2, ![512, 256]⟩
abbrev S1x1024x256 : Shape := ⟨3, ![1, 1024, 256]⟩

abbrev nBuf : Space → Nat
  | .hbm => 48
  | .vmem => 37
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x3072, .f32⟩
  | .hbm, ⟨7, _⟩ => ⟨S2048x3072, .bf16⟩
  | .hbm, ⟨8, _⟩ => ⟨S2048x3072, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2x1024, .f32⟩
  | .hbm, ⟨15, _⟩ => ⟨S2050x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S2048x1024, .f32⟩
  | .hbm, ⟨35, _⟩ => ⟨S2048x1024, .f32⟩
  | .hbm, ⟨36, _⟩ => ⟨S2048x1024, .bf16⟩
  | .hbm, ⟨37, _⟩ => ⟨S1024x4x768, .f32⟩
  | .hbm, ⟨38, _⟩ => ⟨S4x1024x768, .f32⟩
  | .hbm, ⟨39, _⟩ => ⟨S4x1024x768, .bf16⟩
  | .hbm, ⟨40, _⟩ => ⟨S4x256x1024, .f32⟩
  | .hbm, ⟨41, _⟩ => ⟨S4x256x1024, .bf16⟩
  | .hbm, ⟨42, _⟩ => ⟨S2048x1024, .bf16⟩
  | .hbm, ⟨43, _⟩ => ⟨S4x256x1024, .bf16⟩
  | .hbm, ⟨44, _⟩ => ⟨S3x2048x1024, .bf16⟩
  | .hbm, ⟨45, _⟩ => ⟨S8x1024, .f32⟩
  | .hbm, ⟨46, _⟩ => ⟨S2048x1024, .bf16⟩
  | .hbm, ⟨47, _⟩ => ⟨S4x1024x768, .bf16⟩
  | .local _ .vmem, ⟨0, _⟩ => ⟨S2048x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S3x256, .f32⟩
  | .local _ .vmem, ⟨21, _⟩ => ⟨S3x256, .f32⟩
  | .local _ .vmem, ⟨22, _⟩ => ⟨S3x2048x256, .bf16⟩
  | .local _ .vmem, ⟨23, _⟩ => ⟨S3x2048x256, .bf16⟩
  | .local _ .vmem, ⟨24, _⟩ => ⟨S8x256, .f32⟩
  | .local _ .vmem, ⟨25, _⟩ => ⟨S8x256, .f32⟩
  | .local _ .vmem, ⟨26, _⟩ => ⟨S3x1024x1024, .bf16⟩
  | .local _ .vmem, ⟨27, _⟩ => ⟨S3x1024x1024, .bf16⟩
  | .local _ .vmem, ⟨28, _⟩ => ⟨S4x512x768, .bf16⟩
  | .local _ .vmem, ⟨29, _⟩ => ⟨S4x512x768, .bf16⟩
  | .local _ .vmem, ⟨30, _⟩ => ⟨S1024x512, .bf16⟩
  | .local _ .vmem, ⟨31, _⟩ => ⟨S1024x512, .bf16⟩
  | .local _ .vmem, ⟨32, _⟩ => ⟨S2048x1024, .bf16⟩
  | .local _ .vmem, ⟨33, _⟩ => ⟨S1x2048x256, .bf16⟩
  | .local _ .vmem, ⟨34, _⟩ => ⟨S1x2048x256, .bf16⟩
  | .local _ .vmem, ⟨35, _⟩ => ⟨S1x1024x256, .bf16⟩
  | .local _ .vmem, ⟨36, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v38 : Ref sig .tc := ⟨.hbm, 46, rfl⟩
abbrev main_v39 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S3x2048x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S3x1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4x512x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 12], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc4_transform_2 (i : grid4.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S1x2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]
-- ==== ScBwdRefIdeal.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S3072x1024 : Shape := ⟨2, ![3072, 1024]⟩
abbrev S1024x4x768 : Shape := ⟨3, ![1024, 4, 768]⟩
abbrev S4x1024x768 : Shape := ⟨3, ![4, 1024, 768]⟩
abbrev S8x1024 : Shape := ⟨2, ![8, 1024]⟩
abbrev S4x256x1024 : Shape := ⟨3, ![4, 256, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x3072, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2x1024, .f32⟩
  | .hbm, ⟨13, _⟩ => ⟨S2050x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1024x1024, .f32⟩
  | .hbm, ⟨37, _⟩ => ⟨S1024x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S2050x1024, .f32⟩
  | .hbm, ⟨49, _⟩ => ⟨S_, .f32⟩
  | .hbm, ⟨50, _⟩ => ⟨S3x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S2050x1024, .f32⟩
  | .hbm, ⟨59, _⟩ => ⟨S2050x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S2050x1024, .f32⟩
  | .hbm, ⟨71, _⟩ => ⟨S2050x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S2x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x3072, .f32⟩
  | .hbm, ⟨80, _⟩ => ⟨S3072x1024, .f32⟩
  | .hbm, ⟨81, _⟩ => ⟨S1024x3072, .f32⟩
  | .hbm, ⟨82, _⟩ => ⟨S2048x1024, .f32⟩
  | .hbm, ⟨83, _⟩ => ⟨S2048x1024, .bf16⟩
  | .hbm, ⟨84, _⟩ => ⟨S1024x4x768, .f32⟩
  | .hbm, ⟨85, _⟩ => ⟨S4x1024x768, .f32⟩
  | .hbm, ⟨86, _⟩ => ⟨S4x1024x768, .bf16⟩
  | .hbm, ⟨87, _⟩ => ⟨S_, .i32⟩
  | .hbm, ⟨88, _⟩ => ⟨S_, .f32⟩
  | .hbm, ⟨89, _⟩ => ⟨S8x1024, .f32⟩
  | .hbm, ⟨90, _⟩ => ⟨S4x256x1024, .f32⟩
  | .hbm, ⟨91, _⟩ => ⟨S4x256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c : Ref sig .tc := ⟨.hbm, 87, rfl⟩
abbrev main_call0_v0 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== SsdInBwd.lean ====
abbrev S2048x1024 : Shape := ⟨2, ![2048, 1024]⟩
abbrev S1024x5152 : Shape := ⟨2, ![1024, 5152]⟩
abbrev S2048x5120 : Shape := ⟨2, ![2048, 5120]⟩
abbrev S2048x32 : Shape := ⟨2, ![2048, 32]⟩
abbrev S5152x1024 : Shape := ⟨2, ![5152, 1024]⟩
abbrev S32x1024 : Shape := ⟨2, ![32, 1024]⟩
abbrev S_ : Shape := ⟨0, ![]⟩
abbrev S128x1024 : Shape := ⟨2, ![128, 1024]⟩
abbrev S2048x128 : Shape := ⟨2, ![2048, 128]⟩
abbrev S128x512 : Shape := ⟨2, ![128, 512]⟩
abbrev S2048x512 : Shape := ⟨2, ![2048, 512]⟩
abbrev S5120x1024 : Shape := ⟨2, ![5120, 1024]⟩
abbrev S1024x5120 : Shape := ⟨2, ![1024, 5120]⟩
abbrev S5120x512 : Shape := ⟨2, ![5120, 512]⟩
abbrev S1024x512 : Shape := ⟨2, ![1024, 512]⟩
abbrev S1024x128 : Shape := ⟨2, ![1024, 128]⟩
abbrev S1024x32 : Shape := ⟨2, ![1024, 32]⟩

abbrev nBuf : Space → Nat
  | .hbm => 21
  | .vmem => 21
  | .smem => 0
  | _ => 0

abbrev bufTy : (tb : Table) → Fin (tcTables nBuf tb) → BufTy
  | .hbm, ⟨0, _⟩ => ⟨S2048x1024, .bf16⟩
  | .hbm, ⟨1, _⟩ => ⟨S1024x5152, .f32⟩
  | .hbm, ⟨2, _⟩ => ⟨S2048x5120, .bf16⟩
  | .hbm, ⟨3, _⟩ => ⟨S2048x32, .f32⟩
  | .hbm, ⟨4, _⟩ => ⟨S5152x1024, .f32⟩
  | .hbm, ⟨5, _⟩ => ⟨S5152x1024, .bf16⟩
  | .hbm, ⟨6, _⟩ => ⟨S32x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x1024, .f32⟩
  | .hbm, ⟨14, _⟩ => ⟨S5120x1024, .bf16⟩
  | .hbm, ⟨15, _⟩ => ⟨S2048x1024, .bf16⟩
  | .hbm, ⟨16, _⟩ => ⟨S1024x5120, .bf16⟩
  | .hbm, ⟨17, _⟩ => ⟨S1024x128, .f32⟩
  | .hbm, ⟨18, _⟩ => ⟨S1024x32, .f32⟩
  | .hbm, ⟨19, _⟩ => ⟨S1024x32, .bf16⟩
  | .hbm, ⟨20, _⟩ => ⟨S1024x5152, .bf16⟩
  | .local _ .vmem, ⟨0, _⟩ => ⟨S2048x128, .f32⟩
  | .local _ .vmem, ⟨1, _⟩ => ⟨S128x512, .bf16⟩
  | .local _ .vmem, ⟨2, _⟩ => ⟨S128x512, .bf16⟩
  | .local _ .vmem, ⟨3, _⟩ => ⟨S2048x512, .f32⟩
  | .local _ .vmem, ⟨4, _⟩ => ⟨S2048x512, .f32⟩
  | .local _ .vmem, ⟨5, _⟩ => ⟨S1024x5120, .bf16⟩
  | .local _ .vmem, ⟨6, _⟩ => ⟨S1024x5120, .bf16⟩
  | .local _ .vmem, ⟨7, _⟩ => ⟨S5120x512, .bf16⟩
  | .local _ .vmem, ⟨8, _⟩ => ⟨S5120x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S2048x1024, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .bf16⟩
  | .local _ .vmem, ⟨17, _⟩ => ⟨S1024x512, .bf16⟩
  | .local _ .vmem, ⟨18, _⟩ => ⟨S2048x1024, .bf16⟩
  | .local _ .vmem, ⟨19, _⟩ => ⟨S2048x128, .f32⟩
  | .local _ .vmem, ⟨20, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5120x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]
-- ==== SsdInBwdRefIdeal.lean ====
abbrev S2048x1024 : Shape := ⟨2, ![2048, 1024]⟩
abbrev S1024x5152 : Shape := ⟨2, ![1024, 5152]⟩
abbrev S2048x5120 : Shape := ⟨2, ![2048, 5120]⟩
abbrev S2048x32 : Shape := ⟨2, ![2048, 32]⟩
abbrev S2048x5152 : Shape := ⟨2, ![2048, 5152]⟩
abbrev S_ : Shape := ⟨0, ![]⟩
abbrev S5152x1024 : Shape := ⟨2, ![5152, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5152, .f32⟩
  | .hbm, ⟨2, _⟩ => ⟨S2048x5120, .bf16⟩
  | .hbm, ⟨3, _⟩ => ⟨S2048x32, .f32⟩
  | .hbm, ⟨4, _⟩ => ⟨S2048x1024, .f32⟩
  | .hbm, ⟨5, _⟩ => ⟨S2048x5152, .f32⟩
  | .hbm, ⟨6, _⟩ => ⟨S2048x5120, .f32⟩
  | .hbm, ⟨7, _⟩ => ⟨S2048x32, .f32⟩
  | .hbm, ⟨8, _⟩ => ⟨S2048x5120, .f32⟩
  | .hbm, ⟨9, _⟩ => ⟨S_, .f32⟩
  | .hbm, ⟨10, _⟩ => ⟨S2048x5152, .f32⟩
  | .hbm, ⟨11, _⟩ => ⟨S_, .f32⟩
  | .hbm, ⟨12, _⟩ => ⟨S2048x5152, .f32⟩
  | .hbm, ⟨13, _⟩ => ⟨S2048x5152, .f32⟩
  | .hbm, ⟨14, _⟩ => ⟨S5152x1024, .f32⟩
  | .hbm, ⟨15, _⟩ => ⟨S1024x5152, .f32⟩
  | .hbm, ⟨16, _⟩ => ⟨S2048x1024, .f32⟩
  | .hbm, ⟨17, _⟩ => ⟨S2048x1024, .bf16⟩
  | .hbm, ⟨18, _⟩ => ⟨S1024x5152, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SsdOutBwd.lean ====
abbrev S2048x2048 : Shape := ⟨2, ![2048, 2048]⟩
abbrev S2048x1024 : Shape := ⟨2, ![2048, 1024]⟩
abbrev S_ : Shape := ⟨0, ![]⟩
abbrev S8x128 : Shape := ⟨2, ![8, 128]⟩
abbrev S4x512x1024 : Shape := ⟨3, ![4, 512, 1024]⟩
abbrev S1x1 : Shape := ⟨2, ![1, 1]⟩
abbrev S1x2048 : Shape := ⟨2, ![1, 2048]⟩
abbrev S1x512x1024 : Shape := ⟨3, ![1, 512, 1024]⟩
abbrev S1x512 : Shape := ⟨2, ![1, 512]⟩
abbrev S2048x512 : Shape := ⟨2, ![2048, 512]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .hbm, ⟨3, _⟩ => ⟨S_, .f32⟩
  | .hbm, ⟨4, _⟩ => ⟨S8x128, .f32⟩
  | .hbm, ⟨5, _⟩ => ⟨S4x512x1024, .f32⟩
  | .hbm, ⟨6, _⟩ => ⟨S4x512x1024, .bf16⟩
  | .hbm, ⟨7, _⟩ => ⟨S1x1, .f32⟩
  | .hbm, ⟨8, _⟩ => ⟨S1x2048, .f32⟩
  | .hbm, ⟨9, _⟩ => ⟨S2048x2048, .bf16⟩
  | .hbm, ⟨10, _⟩ => ⟨S4x512x1024, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512, .f32⟩
  | .local _ .vmem, ⟨4, _⟩ => ⟨S1x512, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x1024, .bf16⟩
  | .local _ .vmem, ⟨10, _⟩ => ⟨S1x512x1024, .bf16⟩
  | .local _ .vmem, ⟨11, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== SsdOutBwdRefIdeal.lean ====
abbrev S2048x2048 : Shape := ⟨2, ![2048, 2048]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x2048, .f32⟩
  | .hbm, ⟨9, _⟩ => ⟨S2048x2048, .bf16⟩
  | .hbm, ⟨10, _⟩ => ⟨S4x512x1024, .f32⟩
  | .hbm, ⟨11, _⟩ => ⟨S4x512x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScFwd.lean ====
abbrev S2048x1024 : Shape := ⟨2, ![2048, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S1024x4x768 : Shape := ⟨3, ![1024, 4, 768]⟩
abbrev S4x1024x768 : Shape := ⟨3, ![4, 1024, 768]⟩
abbrev S4x256x1024 : Shape := ⟨3, ![4, 256, 1024]⟩
abbrev S2048x3072 : Shape := ⟨2, ![2048, 3072]⟩
abbrev S1x1024x256 : Shape := ⟨3, ![1, 1024, 256]⟩
abbrev S2048x256 : Shape := ⟨2, ![2048, 256]⟩
abbrev S1024x256 : Shape := ⟨2, ![1024, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩
abbrev S4x256x512 : Shape := ⟨3, ![4, 256, 512]⟩
abbrev S1024x512 : Shape := ⟨2, ![1024, 512]⟩
abbrev S1x512 : Shape := ⟨2, ![1, 512]⟩

abbrev nBuf : Space → Nat
  | .hbm => 16
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S4x256x1024, .f32⟩
  | .hbm, ⟨10, _⟩ => ⟨S4x256x1024, .bf16⟩
  | .hbm, ⟨11, _⟩ => ⟨S2048x3072, .bf16⟩
  | .hbm, ⟨12, _⟩ => ⟨S2048x1024, .bf16⟩
  | .hbm, ⟨13, _⟩ => ⟨S2048x1024, .bf16⟩
  | .hbm, ⟨14, _⟩ => ⟨S2048x1024, .f32⟩
  | .hbm, ⟨15, _⟩ => ⟨S2048x1024, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S3x256, .f32⟩
  | .local _ .vmem, ⟨12, _⟩ => ⟨S3x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S1024x1024, .bf16⟩
  | .local _ .vmem, ⟨18, _⟩ => ⟨S1024x1024, .bf16⟩
  | .local _ .vmem, ⟨19, _⟩ => ⟨S4x256x512, .bf16⟩
  | .local _ .vmem, ⟨20, _⟩ => ⟨S4x256x512, .bf16⟩
  | .local _ .vmem, ⟨21, _⟩ => ⟨S1024x512, .f32⟩
  | .local _ .vmem, ⟨22, _⟩ => ⟨S1024x512, .f32⟩
  | .local _ .vmem, ⟨23, _⟩ => ⟨S1x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .bf16⟩
  | .local _ .vmem, ⟨28, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ScFwdRefIdeal.lean ====
abbrev S2048x1024 : Shape := ⟨2, ![2048, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S2048x1024, .f32⟩
  | .hbm, ⟨7, _⟩ => ⟨S2048x3072, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2x1024, .f32⟩
  | .hbm, ⟨14, _⟩ => ⟨S2050x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== SsdInFwd.lean ====
abbrev S2048x1024 : Shape := ⟨2, ![2048, 1024]⟩
abbrev S1024x5152 : Shape := ⟨2, ![1024, 5152]⟩
abbrev S5152x1024 : Shape := ⟨2, ![5152, 1024]⟩
abbrev S32x1024 : Shape := ⟨2, ![32, 1024]⟩
abbrev S_ : Shape := ⟨0, ![]⟩
abbrev S128x1024 : Shape := ⟨2, ![128, 1024]⟩
abbrev S5120x1024 : Shape := ⟨2, ![5120, 1024]⟩
abbrev S2048x5120 : Shape := ⟨2, ![2048, 5120]⟩
abbrev S512x1024 : Shape := ⟨2, ![512, 1024]⟩
abbrev S2048x512 : Shape := ⟨2, ![2048, 512]⟩
abbrev S2048x128 : Shape := ⟨2, ![2048, 128]⟩
abbrev S2048x32 : Shape := ⟨2, ![2048, 32]⟩

abbrev nBuf : Space → Nat
  | .hbm => 12
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x5152, .f32⟩
  | .hbm, ⟨2, _⟩ => ⟨S5152x1024, .f32⟩
  | .hbm, ⟨3, _⟩ => ⟨S5152x1024, .bf16⟩
  | .hbm, ⟨4, _⟩ => ⟨S32x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S5120x1024, .bf16⟩
  | .hbm, ⟨9, _⟩ => ⟨S2048x5120, .bf16⟩
  | .hbm, ⟨10, _⟩ => ⟨S2048x128, .f32⟩
  | .hbm, ⟨11, _⟩ => ⟨S2048x32, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | .local _ .vmem, ⟨6, _⟩ => ⟨S128x1024, .bf16⟩
  | .local _ .vmem, ⟨7, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]
-- ==== SsdInFwdRefIdeal.lean ====
abbrev S2048x1024 : Shape := ⟨2, ![2048, 1024]⟩
abbrev S1024x5152 : Shape := ⟨2, ![1024, 5152]⟩
abbrev S2048x5152 : Shape := ⟨2, ![2048, 5152]⟩
abbrev S2048x5120 : Shape := ⟨2, ![2048, 5120]⟩
abbrev S2048x32 : Shape := ⟨2, ![2048, 32]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5152, .f32⟩
  | .hbm, ⟨2, _⟩ => ⟨S2048x1024, .f32⟩
  | .hbm, ⟨3, _⟩ => ⟨S2048x5152, .f32⟩
  | .hbm, ⟨4, _⟩ => ⟨S2048x5120, .f32⟩
  | .hbm, ⟨5, _⟩ => ⟨S2048x32, .f32⟩
  | .hbm, ⟨6, _⟩ => ⟨S2048x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsdOutFwd.lean ====
abbrev S2048x1024 : Shape := ⟨2, ![2048, 1024]⟩
abbrev S1x1024 : Shape := ⟨2, ![1, 1024]⟩
abbrev S2048x2048 : Shape := ⟨2, ![2048, 2048]⟩
abbrev S4x512x1024 : Shape := ⟨3, ![4, 512, 1024]⟩
abbrev S1024x2048 : Shape := ⟨2, ![1024, 2048]⟩
abbrev S4x512x512 : Shape := ⟨3, ![4, 512, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .bf16⟩
  | .hbm, ⟨3, _⟩ => ⟨S2048x1024, .f32⟩
  | .hbm, ⟨4, _⟩ => ⟨S4x512x1024, .f32⟩
  | .hbm, ⟨5, _⟩ => ⟨S4x512x1024, .bf16⟩
  | .hbm, ⟨6, _⟩ => ⟨S2048x1024, .f32⟩
  | .hbm, ⟨7, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdOutFwdRefIdeal.lean ====
abbrev S2048x1024 : Shape := ⟨2, ![2048, 1024]⟩
abbrev S1x1024 : Shape := ⟨2, ![1, 1024]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .bf16⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamVec.lean ====
abbrev S2x6144 : Shape := ⟨2, ![2, 6144]⟩
abbrev S2x1024 : Shape := ⟨2, ![2, 1024]⟩
abbrev S4x768 : Shape := ⟨2, ![4, 768]⟩
abbrev S1x3072 : Shape := ⟨2, ![1, 3072]⟩
abbrev S1x32 : Shape := ⟨2, ![1, 32]⟩
abbrev S1x2048 : Shape := ⟨2, ![1, 2048]⟩
abbrev S3x256 : Shape := ⟨2, ![3, 256]⟩
abbrev S1x1024 : Shape := ⟨2, ![1, 1024]⟩

abbrev nBuf : Space → Nat
  | .hbm => 56
  | .vmem => 56
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S4x768, .f32⟩
  | .hbm, ⟨12, _⟩ => ⟨S1x3072, .f32⟩
  | .hbm, ⟨13, _⟩ => ⟨S1x3072, .f32⟩
  | .hbm, ⟨14, _⟩ => ⟨S1x3072, .f32⟩
  | .hbm, ⟨15, _⟩ => ⟨S1x3072, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S3x256, .f32⟩
  | .hbm, ⟨25, _⟩ => ⟨S3x256, .f32⟩
  | .hbm, ⟨26, _⟩ => ⟨S3x256, .f32⟩
  | .hbm, ⟨27, _⟩ => ⟨S3x256, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S2x6144, .f32⟩
  | .hbm, ⟨33, _⟩ => ⟨S2x6144, .f32⟩
  | .hbm, ⟨34, _⟩ => ⟨S2x6144, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S4x768, .f32⟩
  | .hbm, ⟨39, _⟩ => ⟨S4x768, .f32⟩
  | .hbm, ⟨40, _⟩ => ⟨S4x768, .f32⟩
  | .hbm, ⟨41, _⟩ => ⟨S1x3072, .f32⟩
  | .hbm, ⟨42, _⟩ => ⟨S1x3072, .f32⟩
  | .hbm, ⟨43, _⟩ => ⟨S1x3072, .f32⟩
  | .hbm, ⟨44, _⟩ => ⟨S1x32, .f32⟩
  | .hbm, ⟨45, _⟩ => ⟨S1x32, .f32⟩
  | .hbm, ⟨46, _⟩ => ⟨S1x32, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S3x256, .f32⟩
  | .hbm, ⟨51, _⟩ => ⟨S3x256, .f32⟩
  | .hbm, ⟨52, _⟩ => ⟨S3x256, .f32⟩
  | .hbm, ⟨53, _⟩ => ⟨S1x1024, .f32⟩
  | .hbm, ⟨54, _⟩ => ⟨S1x1024, .f32⟩
  | .hbm, ⟨55, _⟩ => ⟨S1x1024, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S4x768, .f32⟩
  | .local _ .vmem, ⟨15, _⟩ => ⟨S4x768, .f32⟩
  | .local _ .vmem, ⟨16, _⟩ => ⟨S4x768, .f32⟩
  | .local _ .vmem, ⟨17, _⟩ => ⟨S4x768, .f32⟩
  | .local _ .vmem, ⟨18, _⟩ => ⟨S4x768, .f32⟩
  | .local _ .vmem, ⟨19, _⟩ => ⟨S4x768, .f32⟩
  | .local _ .vmem, ⟨20, _⟩ => ⟨S4x768, .f32⟩
  | .local _ .vmem, ⟨21, _⟩ => ⟨S1x3072, .f32⟩
  | .local _ .vmem, ⟨22, _⟩ => ⟨S1x3072, .f32⟩
  | .local _ .vmem, ⟨23, _⟩ => ⟨S1x3072, .f32⟩
  | .local _ .vmem, ⟨24, _⟩ => ⟨S1x3072, .f32⟩
  | .local _ .vmem, ⟨25, _⟩ => ⟨S1x3072, .f32⟩
  | .local _ .vmem, ⟨26, _⟩ => ⟨S1x3072, .f32⟩
  | .local _ .vmem, ⟨27, _⟩ => ⟨S1x3072, .f32⟩
  | .local _ .vmem, ⟨28, _⟩ => ⟨S1x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x2048, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S1x2048, .f32⟩
  | .local _ .vmem, ⟨40, _⟩ => ⟨S1x2048, .f32⟩
  | .local _ .vmem, ⟨41, _⟩ => ⟨S1x2048, .f32⟩
  | .local _ .vmem, ⟨42, _⟩ => ⟨S3x256, .f32⟩
  | .local _ .vmem, ⟨43, _⟩ => ⟨S3x256, .f32⟩
  | .local _ .vmem, ⟨44, _⟩ => ⟨S3x256, .f32⟩
  | .local _ .vmem, ⟨45, _⟩ => ⟨S3x256, .f32⟩
  | .local _ .vmem, ⟨46, _⟩ => ⟨S3x256, .f32⟩
  | .local _ .vmem, ⟨47, _⟩ => ⟨S3x256, .f32⟩
  | .local _ .vmem, ⟨48, _⟩ => ⟨S3x256, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v1_0 : Ref sig .tc := ⟨.hbm, 35, rfl⟩
abbrev main_v1_1 : Ref sig .tc := ⟨.hbm, 36, rfl⟩
abbrev main_v1_2 : Ref sig .tc := ⟨.hbm, 37, rfl⟩
abbrev main_v2_0 : Ref sig .tc := ⟨.hbm, 38, rfl⟩
abbrev main_v2_1 : Ref sig .tc := ⟨.hbm, 39, rfl⟩
abbrev main_v2_2 : Ref sig .tc := ⟨.hbm, 40, rfl⟩
abbrev main_v3_0 : Ref sig .tc := ⟨.hbm, 41, rfl⟩
abbrev main_v3_1 : Ref sig .tc := ⟨.hbm, 42, rfl⟩
abbrev main_v3_2 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v5_0 : Ref sig .tc := ⟨.hbm, 47, rfl⟩
abbrev main_v5_1 : Ref sig .tc := ⟨.hbm, 48, rfl⟩
abbrev main_v5_2 : Ref sig .tc := ⟨.hbm, 49, rfl⟩
abbrev main_v6_0 : Ref sig .tc := ⟨.hbm, 50, rfl⟩
abbrev main_v6_1 : Ref sig .tc := ⟨.hbm, 51, rfl⟩
abbrev main_v6_2 : Ref sig .tc := ⟨.hbm, 52, rfl⟩
abbrev main_v7_0 : Ref sig .tc := ⟨.hbm, 53, rfl⟩
abbrev main_v7_1 : Ref sig .tc := ⟨.hbm, 54, rfl⟩
abbrev main_v7_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg6_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc7_sem0_0 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem6_0 : DmaSem sig := 55

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_5 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_6 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 1 → Memref sig .tc .vmem S2x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_4 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_5 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_6 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage2_0 : Fin 1 → Memref sig .tc .vmem S4x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S4x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S4x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S4x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S4x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S4x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_4 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_5 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_6 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage3_0 : Fin 1 → Memref sig .tc .vmem S1x3072 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x3072 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x3072 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x3072 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x3072 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x3072 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x3072 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_3 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_4 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_5 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_6 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 1 → Memref sig .tc .vmem S1x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_1 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_3 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_4 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_5 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_6 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage5_0 : Fin 1 → Memref sig .tc .vmem S1x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x2048 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x2048 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_1 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_2 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_3 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_4 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_5 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_6 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage6_0 : Fin 1 → Memref sig .tc .vmem S3x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S3x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S3x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S3x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S3x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S3x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S3x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_1 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_2 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_3 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_4 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_5 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_6 (i : grid7.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage7_0 : Fin 1 → Memref sig .tc .vmem S1x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]
-- ==== AdamVecRefIdeal.lean ====
abbrev S2x6144 : Shape := ⟨2, ![2, 6144]⟩
abbrev S2x1024 : Shape := ⟨2, ![2, 1024]⟩
abbrev S4x768 : Shape := ⟨2, ![4, 768]⟩
abbrev S1x3072 : Shape := ⟨2, ![1, 3072]⟩
abbrev S1x32 : Shape := ⟨2, ![1, 32]⟩
abbrev S1x2048 : Shape := ⟨2, ![1, 2048]⟩
abbrev S3x256 : Shape := ⟨2, ![3, 256]⟩
abbrev S1x1024 : Shape := ⟨2, ![1, 1024]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S2x6144, .f32⟩
  | 1 => ⟨S2x6144, .f32⟩
  | 2 => ⟨S2x6144, .f32⟩
  | 3 => ⟨S2x6144, .f32⟩
  | 4 => ⟨S2x1024, .f32⟩
  | 5 => ⟨S2x1024, .f32⟩
  | 6 => ⟨S2x1024, .f32⟩
  | 7 => ⟨S2x1024, .f32⟩
  | 8 => ⟨S4x768, .f32⟩
  | 9 => ⟨S4x768, .f32⟩
  | 10 => ⟨S4x768, .f32⟩
  | 11 => ⟨S4x768, .f32⟩
  | 12 => ⟨S1x3072, .f32⟩
  | 13 => ⟨S1x3072, .f32⟩
  | 14 => ⟨S1x3072, .f32⟩
  | 15 => ⟨S1x3072, .f32⟩
  | 16 => ⟨S1x32, .f32⟩
  | 17 => ⟨S1x32, .f32⟩
  | 18 => ⟨S1x32, .f32⟩
  | 19 => ⟨S1x32, .f32⟩
  | 20 => ⟨S1x2048, .f32⟩
  | 21 => ⟨S1x2048, .f32⟩
  | 22 => ⟨S1x2048, .f32⟩
  | 23 => ⟨S1x2048, .f32⟩
  | 24 => ⟨S3x256, .f32⟩
  | 25 => ⟨S3x256, .f32⟩
  | 26 => ⟨S3x256, .f32⟩
  | 27 => ⟨S3x256, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S2x6144, .f32⟩
  | 34 => ⟨S2x6144, .f32⟩
  | 35 => ⟨S_, .f32⟩
  | 36 => ⟨S2x6144, .f32⟩
  | 37 => ⟨S2x6144, .f32⟩
  | 38 => ⟨S2x6144, .f32⟩
  | 39 => ⟨S_, .f32⟩
  | 40 => ⟨S2x6144, .f32⟩
  | 41 => ⟨S2x6144, .f32⟩
  | 42 => ⟨S2x6144, .f32⟩
  | 43 => ⟨S_, .f32⟩
  | 44 => ⟨S2x6144, .f32⟩
  | 45 => ⟨S2x6144, .f32⟩
  | 46 => ⟨S2x6144, .f32⟩
  | 47 => ⟨S_, .f32⟩
  | 48 => ⟨S2x6144, .f32⟩
  | 49 => ⟨S2x6144, .f32⟩
  | 50 => ⟨S_, .f32⟩
  | 51 => ⟨S2x6144, .f32⟩
  | 52 => ⟨S2x6144, .f32⟩
  | 53 => ⟨S2x6144, .f32⟩
  | 54 => ⟨S_, .f32⟩
  | 55 => ⟨S2x6144, .f32⟩
  | 56 => ⟨S2x6144, .f32⟩
  | 57 => ⟨S2x6144, .f32⟩
  | 58 => ⟨S_, .f32⟩
  | 59 => ⟨S2x6144, .f32⟩
  | 60 => ⟨S2x6144, .f32⟩
  | 61 => ⟨S2x6144, .f32⟩
  | 62 => ⟨S_, .f32⟩
  | 63 => ⟨S2x6144, .f32⟩
  | 64 => ⟨S2x6144, .f32⟩
  | 65 => ⟨S_, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S_, .f32⟩
  | 99 => ⟨S4x768, .f32⟩
  | 100 => ⟨S4x768, .f32⟩
  | 101 => ⟨S_, .f32⟩
  | 102 => ⟨S4x768, .f32⟩
  | 103 => ⟨S4x768, .f32⟩
  | 104 => ⟨S4x768, .f32⟩
  | 105 => ⟨S_, .f32⟩
  | 106 => ⟨S4x768, .f32⟩
  | 107 => ⟨S4x768, .f32⟩
  | 108 => ⟨S4x768, .f32⟩
  | 109 => ⟨S_, .f32⟩
  | 110 => ⟨S4x768, .f32⟩
  | 111 => ⟨S4x768, .f32⟩
  | 112 => ⟨S4x768, .f32⟩
  | 113 => ⟨S_, .f32⟩
  | 114 => ⟨S4x768, .f32⟩
  | 115 => ⟨S4x768, .f32⟩
  | 116 => ⟨S_, .f32⟩
  | 117 => ⟨S4x768, .f32⟩
  | 118 => ⟨S4x768, .f32⟩
  | 119 => ⟨S4x768, .f32⟩
  | 120 => ⟨S_, .f32⟩
  | 121 => ⟨S4x768, .f32⟩
  | 122 => ⟨S4x768, .f32⟩
  | 123 => ⟨S4x768, .f32⟩
  | 124 => ⟨S_, .f32⟩
  | 125 => ⟨S4x768, .f32⟩
  | 126 => ⟨S4x768, .f32⟩
  | 127 => ⟨S4x768, .f32⟩
  | _ => ⟨S2x6144, .f32⟩

abbrev hbmTy0_1 (i : Nat) : BufTy := match i % 128 with
  | 0 => ⟨S_, .f32⟩
  | 1 => ⟨S4x768, .f32⟩
  | 2 => ⟨S4x768, .f32⟩
  | 3 => ⟨S_, .f32⟩
  | 4 => ⟨S1x3072, .f32⟩
  | 5 => ⟨S1x3072, .f32⟩
  | 6 => ⟨S_, .f32⟩
  | 7 => ⟨S1x3072, .f32⟩
  | 8 => ⟨S1x3072, .f32⟩
  | 9 => ⟨S1x3072, .f32⟩
  | 10 => ⟨S_, .f32⟩
  | 11 => ⟨S1x3072, .f32⟩
  | 12 => ⟨S1x3072, .f32⟩
  | 13 => ⟨S1x3072, .f32⟩
  | 14 => ⟨S_, .f32⟩
  | 15 => ⟨S1x3072, .f32⟩
  | 16 => ⟨S1x3072, .f32⟩
  | 17 => ⟨S1x3072, .f32⟩
  | 18 => ⟨S_, .f32⟩
  | 19 => ⟨S1x3072, .f32⟩
  | 20 => ⟨S1x3072, .f32⟩
  | 21 => ⟨S_, .f32⟩
  | 22 => ⟨S1x3072, .f32⟩
  | 23 => ⟨S1x3072, .f32⟩
  | 24 => ⟨S1x3072, .f32⟩
  | 25 => ⟨S_, .f32⟩
  | 26 => ⟨S1x3072, .f32⟩
  | 27 => ⟨S1x3072, .f32⟩
  | 28 => ⟨S1x3072, .f32⟩
  | 29 => ⟨S_, .f32⟩
  | 30 => ⟨S1x3072, .f32⟩
  | 31 => ⟨S1x3072, .f32⟩
  | 32 => ⟨S1x3072, .f32⟩
  | 33 => ⟨S_, .f32⟩
  | 34 => ⟨S1x3072, .f32⟩
  | 35 => ⟨S1x3072, .f32⟩
  | 36 => ⟨S_, .f32⟩
  | 37 => ⟨S1x32, .f32⟩
  | 38 => ⟨S1x32, .f32⟩
  | 39 => ⟨S_, .f32⟩
  | 40 => ⟨S1x32, .f32⟩
  | 41 => ⟨S1x32, .f32⟩
  | 42 => ⟨S1x32, .f32⟩
  | 43 => ⟨S_, .f32⟩
  | 44 => ⟨S1x32, .f32⟩
  | 45 => ⟨S1x32, .f32⟩
  | 46 => ⟨S1x32, .f32⟩
  | 47 => ⟨S_, .f32⟩
  | 48 => ⟨S1x32, .f32⟩
  | 49 => ⟨S1x32, .f32⟩
  | 50 => ⟨S1x32, .f32⟩
  | 51 => ⟨S_, .f32⟩
  | 52 => ⟨S1x32, .f32⟩
  | 53 => ⟨S1x32, .f32⟩
  | 54 => ⟨S_, .f32⟩
  | 55 => ⟨S1x32, .f32⟩
  | 56 => ⟨S1x32, .f32⟩
  | 57 => ⟨S1x32, .f32⟩
  | 58 => ⟨S_, .f32⟩
  | 59 => ⟨S1x32, .f32⟩
  | 60 => ⟨S1x32, .f32⟩
  | 61 => ⟨S1x32, .f32⟩
  | 62 => ⟨S_, .f32⟩
  | 63 => ⟨S1x32, .f32⟩
  | 64 => ⟨S1x32, .f32⟩
  | 65 => ⟨S1x32, .f32⟩
  | 66 => ⟨S_, .f32⟩
  | 67 => ⟨S1x32, .f32⟩
  | 68 => ⟨S1x32, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S3x256, .f32⟩
  | 104 => ⟨S3x256, .f32⟩
  | 105 => ⟨S_, .f32⟩
  | 106 => ⟨S3x256, .f32⟩
  | 107 => ⟨S3x256, .f32⟩
  | 108 => ⟨S3x256, .f32⟩
  | 109 => ⟨S_, .f32⟩
  | 110 => ⟨S3x256, .f32⟩
  | 111 => ⟨S3x256, .f32⟩
  | 112 => ⟨S3x256, .f32⟩
  | 113 => ⟨S_, .f32⟩
  | 114 => ⟨S3x256, .f32⟩
  | 115 => ⟨S3x256, .f32⟩
  | 116 => ⟨S3x256, .f32⟩
  | 117 => ⟨S_, .f32⟩
  | 118 => ⟨S3x256, .f32⟩
  | 119 => ⟨S3x256, .f32⟩
  | 120 => ⟨S_, .f32⟩
  | 121 => ⟨S3x256, .f32⟩
  | 122 => ⟨S3x256, .f32⟩
  | 123 => ⟨S3x256, .f32⟩
  | 124 => ⟨S_, .f32⟩
  | 125 => ⟨S3x256, .f32⟩
  | 126 => ⟨S3x256, .f32⟩
  | 127 => ⟨S3x256, .f32⟩
  | _ => ⟨S2x6144, .f32⟩

abbrev hbmTy0_2 (i : Nat) : BufTy := match i % 128 with
  | 0 => ⟨S_, .f32⟩
  | 1 => ⟨S3x256, .f32⟩
  | 2 => ⟨S3x256, .f32⟩
  | 3 => ⟨S3x256, .f32⟩
  | 4 => ⟨S_, .f32⟩
  | 5 => ⟨S3x256, .f32⟩
  | 6 => ⟨S3x256, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | _ => ⟨S2x6144, .f32⟩

abbrev hbmTy (i : Nat) : BufTy := match i / 128 with
  | 0 => hbmTy0_0 i
  | 1 => hbmTy0_1 i
  | 2 => hbmTy0_2 i
  | _ => ⟨S2x6144, .f32⟩

abbrev bufTy : (tb : Table) → Fin (tcTables nBuf tb) → BufTy
  | .hbm, ⟨i, _⟩ => hbmTy i
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== AdamMat.lean ====
abbrev S1x1024x768 : Shape := ⟨3, ![1, 1024, 768]⟩
abbrev S1024x768 : Shape := ⟨2, ![1024, 768]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x256x768 : Shape := ⟨3, ![1, 256, 768]⟩
abbrev S256x768 : Shape := ⟨2, ![256, 768]⟩

abbrev nBuf : Space → Nat
  | .hbm => 24
  | .vmem => 40
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S1x256x1024, .f32⟩
  | .hbm, ⟨8, _⟩ => ⟨S1x512x1024, .f32⟩
  | .hbm, ⟨9, _⟩ => ⟨S512x1024, .f32⟩
  | .hbm, ⟨10, _⟩ => ⟨S1x512x1024, .f32⟩
  | .hbm, ⟨11, _⟩ => ⟨S1x512x1024, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S1x512x1024, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x1024, .f32⟩
  | .local _ .vmem, ⟨17, _⟩ => ⟨S256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S256x1024, .f32⟩
  | .local _ .vmem, ⟨27, _⟩ => ⟨S256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_7 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_3 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_4 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_5 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_6 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc1_transform_7 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_3 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_4 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_5 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_6 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc2_transform_7 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdamMatRefIdeal.lean ====
abbrev S1x1024x768 : Shape := ⟨3, ![1, 1024, 768]⟩
abbrev S1024x768 : Shape := ⟨2, ![1024, 768]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S1x256x1024, .f32⟩
  | .hbm, ⟨8, _⟩ => ⟨S1x512x1024, .f32⟩
  | .hbm, ⟨9, _⟩ => ⟨S512x1024, .f32⟩
  | .hbm, ⟨10, _⟩ => ⟨S1x512x1024, .f32⟩
  | .hbm, ⟨11, _⟩ => ⟨S1x512x1024, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S_, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S_, .f32⟩
  | .hbm, ⟨22, _⟩ => ⟨S1x1024x768, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S_, .f32⟩
  | .hbm, ⟨33, _⟩ => ⟨S1x1024x768, .f32⟩
  | .hbm, ⟨34, _⟩ => ⟨S1x1024x768, .f32⟩
  | .hbm, ⟨35, _⟩ => ⟨S1x1024x768, .f32⟩
  | .hbm, ⟨36, _⟩ => ⟨S_, .f32⟩
  | .hbm, ⟨37, _⟩ => ⟨S1x1024x768, .f32⟩
  | .hbm, ⟨38, _⟩ => ⟨S1x1024x768, .f32⟩
  | .hbm, ⟨39, _⟩ => ⟨S1x1024x768, .f32⟩
  | .hbm, ⟨40, _⟩ => ⟨S_, .f32⟩
  | .hbm, ⟨41, _⟩ => ⟨S1x1024x768, .f32⟩
  | .hbm, ⟨42, _⟩ => ⟨S1x1024x768, .f32⟩
  | .hbm, ⟨43, _⟩ => ⟨S1x1024x768, .f32⟩
  | .hbm, ⟨44, _⟩ => ⟨S_, .f32⟩
  | .hbm, ⟨45, _⟩ => ⟨S1x1024x768, .f32⟩
  | .hbm, ⟨46, _⟩ => ⟨S1x1024x768, .f32⟩
  | .hbm, ⟨47, _⟩ => ⟨S1x256x1024, .f32⟩
  | .hbm, ⟨48, _⟩ => ⟨S1x256x1024, .f32⟩
  | .hbm, ⟨49, _⟩ => ⟨S_, .f32⟩
  | .hbm, ⟨50, _⟩ => ⟨S1x256x1024, .f32⟩
  | .hbm, ⟨51, _⟩ => ⟨S1x256x1024, .f32⟩
  | .hbm, ⟨52, _⟩ => ⟨S_, .f32⟩
  | .hbm, ⟨53, _⟩ => ⟨S1x256x1024, .f32⟩
  | .hbm, ⟨54, _⟩ => ⟨S1x256x1024, .f32⟩
  | .hbm, ⟨55, _⟩ => ⟨S1x256x1024, .f32⟩
  | .hbm, ⟨56, _⟩ => ⟨S_, .f32⟩
  | .hbm, ⟨57, _⟩ => ⟨S1x256x1024, .f32⟩
  | .hbm, ⟨58, _⟩ => ⟨S1x256x1024, .f32⟩
  | .hbm, ⟨59, _⟩ => ⟨S1x256x1024, .f32⟩
  | .hbm, ⟨60, _⟩ => ⟨S_, .f32⟩
  | .hbm, ⟨61, _⟩ => ⟨S1x256x1024, .f32⟩
  | .hbm, ⟨62, _⟩ => ⟨S1x256x1024, .f32⟩
  | .hbm, ⟨63, _⟩ => ⟨S1x256x1024, .f32⟩
  | .hbm, ⟨64, _⟩ => ⟨S_, .f32⟩
  | .hbm, ⟨65, _⟩ => ⟨S1x256x1024, .f32⟩
  | .hbm, ⟨66, _⟩ => ⟨S1x256x1024, .f32⟩
  | .hbm, ⟨67, _⟩ => ⟨S_, .f32⟩
  | .hbm, ⟨68, _⟩ => ⟨S1x256x1024, .f32⟩
  | .hbm, ⟨69, _⟩ => ⟨S1x256x1024, .f32⟩
  | .hbm, ⟨70, _⟩ => ⟨S1x256x1024, .f32⟩
  | .hbm, ⟨71, _⟩ => ⟨S_, .f32⟩
  | .hbm, ⟨72, _⟩ => ⟨S1x256x1024, .f32⟩
  | .hbm, ⟨73, _⟩ => ⟨S1x256x1024, .f32⟩
  | .hbm, ⟨74, _⟩ => ⟨S1x256x1024, .f32⟩
  | .hbm, ⟨75, _⟩ => ⟨S_, .f32⟩
  | .hbm, ⟨76, _⟩ => ⟨S1x256x1024, .f32⟩
  | .hbm, ⟨77, _⟩ => ⟨S1x256x1024, .f32⟩
  | .hbm, ⟨78, _⟩ => ⟨S1x256x1024, .f32⟩
  | .hbm, ⟨79, _⟩ => ⟨S_, .f32⟩
  | .hbm, ⟨80, _⟩ => ⟨S1x256x1024, .f32⟩
  | .hbm, ⟨81, _⟩ => ⟨S1x256x1024, .f32⟩
  | .hbm, ⟨82, _⟩ => ⟨S1x512x1024, .f32⟩
  | .hbm, ⟨83, _⟩ => ⟨S1x512x1024, .f32⟩
  | .hbm, ⟨84, _⟩ => ⟨S_, .f32⟩
  | .hbm, ⟨85, _⟩ => ⟨S1x512x1024, .f32⟩
  | .hbm, ⟨86, _⟩ => ⟨S1x512x1024, .f32⟩
  | .hbm, ⟨87, _⟩ => ⟨S_, .f32⟩
  | .hbm, ⟨88, _⟩ => ⟨S1x512x1024, .f32⟩
  | .hbm, ⟨89, _⟩ => ⟨S1x512x1024, .f32⟩
  | .hbm, ⟨90, _⟩ => ⟨S1x512x1024, .f32⟩
  | .hbm, ⟨91, _⟩ => ⟨S_, .f32⟩
  | .hbm, ⟨92, _⟩ => ⟨S1x512x1024, .f32⟩
  | .hbm, ⟨93, _⟩ => ⟨S1x512x1024, .f32⟩
  | .hbm, ⟨94, _⟩ => ⟨S1x512x1024, .f32⟩
  | .hbm, ⟨95, _⟩ => ⟨S_, .f32⟩
  | .hbm, ⟨96, _⟩ => ⟨S1x512x1024, .f32⟩
  | .hbm, ⟨97, _⟩ => ⟨S1x512x1024, .f32⟩
  | .hbm, ⟨98, _⟩ => ⟨S1x512x1024, .f32⟩
  | .hbm, ⟨99, _⟩ => ⟨S_, .f32⟩
  | .hbm, ⟨100, _⟩ => ⟨S1x512x1024, .f32⟩
  | .hbm, ⟨101, _⟩ => ⟨S1x512x1024, .f32⟩
  | .hbm, ⟨102, _⟩ => ⟨S_, .f32⟩
  | .hbm, ⟨103, _⟩ => ⟨S1x512x1024, .f32⟩
  | .hbm, ⟨104, _⟩ => ⟨S1x512x1024, .f32⟩
  | .hbm, ⟨105, _⟩ => ⟨S1x512x1024, .f32⟩
  | .hbm, ⟨106, _⟩ => ⟨S_, .f32⟩
  | .hbm, ⟨107, _⟩ => ⟨S1x512x1024, .f32⟩
  | .hbm, ⟨108, _⟩ => ⟨S1x512x1024, .f32⟩
  | .hbm, ⟨109, _⟩ => ⟨S1x512x1024, .f32⟩
  | .hbm, ⟨110, _⟩ => ⟨S_, .f32⟩
  | .hbm, ⟨111, _⟩ => ⟨S1x512x1024, .f32⟩
  | .hbm, ⟨112, _⟩ => ⟨S1x512x1024, .f32⟩
  | .hbm, ⟨113, _⟩ => ⟨S1x512x1024, .f32⟩
  | .hbm, ⟨114, _⟩ => ⟨S_, .f32⟩
  | .hbm, ⟨115, _⟩ => ⟨S1x512x1024, .f32⟩
  | .hbm, ⟨116, _⟩ => ⟨S1x512x1024, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_15 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_16 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_20 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_cst_22 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_23 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_24 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamSsdIn.lean ====
abbrev S1x1024x1288 : Shape := ⟨3, ![1, 1024, 1288]⟩
abbrev S1024x1288 : Shape := ⟨2, ![1024, 1288]⟩
abbrev S1288x1024 : Shape := ⟨2, ![1288, 1024]⟩
abbrev S184x1024 : Shape := ⟨2, ![184, 1024]⟩

abbrev nBuf : Space → Nat
  | .hbm => 19
  | .vmem => 16
  | .smem => 0
  | _ => 0

abbrev bufTy : (tb : Table) → Fin (tcTables nBuf tb) → BufTy
  | .hbm, ⟨0, _⟩ => ⟨S1x1024x1288, .f32⟩
  | .hbm, ⟨1, _⟩ => ⟨S1024x1288, .f32⟩
  | .hbm, ⟨2, _⟩ => ⟨S1x1024x1288, .f32⟩
  | .hbm, ⟨3, _⟩ => ⟨S1x1024x1288, .f32⟩
  | .hbm, ⟨4, _⟩ => ⟨S1024x1288, .f32⟩
  | .hbm, ⟨5, _⟩ => ⟨S1288x1024, .f32⟩
  | .hbm, ⟨6, _⟩ => ⟨S1024x1288, .f32⟩
  | .hbm, ⟨7, _⟩ => ⟨S1288x1024, .f32⟩
  | .hbm, ⟨8, _⟩ => ⟨S1024x1288, .f32⟩
  | .hbm, ⟨9, _⟩ => ⟨S1288x1024, .f32⟩
  | .hbm, ⟨10, _⟩ => ⟨S1288x1024, .f32⟩
  | .hbm, ⟨11, _⟩ => ⟨S1288x1024, .f32⟩
  | .hbm, ⟨12, _⟩ => ⟨S1288x1024, .f32⟩
  | .hbm, ⟨13, _⟩ => ⟨S1288x1024, .f32⟩
  | .hbm, ⟨14, _⟩ => ⟨S1288x1024, .f32⟩
  | .hbm, ⟨15, _⟩ => ⟨S1024x1288, .f32⟩
  | .hbm, ⟨16, _⟩ => ⟨S1024x1288, .f32⟩
  | .hbm, ⟨17, _⟩ => ⟨S1024x1288, .f32⟩
  | .hbm, ⟨18, _⟩ => ⟨S1024x1288, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | .local _ .vmem, ⟨14, _⟩ => ⟨S184x1024, .f32⟩
  | .local _ .vmem, ⟨15, _⟩ => ⟨S184x1024, .f32⟩
  | _, _ => ⟨S1x1024x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S184x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdInRefIdeal.lean ====
abbrev S1x1024x1288 : Shape := ⟨3, ![1, 1024, 1288]⟩
abbrev S1024x1288 : Shape := ⟨2, ![1024, 1288]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1288, .f32⟩
  | .hbm, ⟨1, _⟩ => ⟨S1024x1288, .f32⟩
  | .hbm, ⟨2, _⟩ => ⟨S1x1024x1288, .f32⟩
  | .hbm, ⟨3, _⟩ => ⟨S1x1024x1288, .f32⟩
  | .hbm, ⟨4, _⟩ => ⟨S1024x1288, .f32⟩
  | .hbm, ⟨5, _⟩ => ⟨S1024x1288, .f32⟩
  | .hbm, ⟨6, _⟩ => ⟨S1024x1288, .f32⟩
  | .hbm, ⟨7, _⟩ => ⟨S_, .f32⟩
  | .hbm, ⟨8, _⟩ => ⟨S1024x1288, .f32⟩
  | .hbm, ⟨9, _⟩ => ⟨S1024x1288, .f32⟩
  | .hbm, ⟨10, _⟩ => ⟨S_, .f32⟩
  | .hbm, ⟨11, _⟩ => ⟨S1024x1288, .f32⟩
  | .hbm, ⟨12, _⟩ => ⟨S1024x1288, .f32⟩
  | .hbm, ⟨13, _⟩ => ⟨S1024x1288, .f32⟩
  | .hbm, ⟨14, _⟩ => ⟨S_, .f32⟩
  | .hbm, ⟨15, _⟩ => ⟨S1024x1288, .f32⟩
  | .hbm, ⟨16, _⟩ => ⟨S1024x1288, .f32⟩
  | .hbm, ⟨17, _⟩ => ⟨S1024x1288, .f32⟩
  | .hbm, ⟨18, _⟩ => ⟨S_, .f32⟩
  | .hbm, ⟨19, _⟩ => ⟨S1024x1288, .f32⟩
  | .hbm, ⟨20, _⟩ => ⟨S1024x1288, .f32⟩
  | .hbm, ⟨21, _⟩ => ⟨S1024x1288, .f32⟩
  | .hbm, ⟨22, _⟩ => ⟨S_, .f32⟩
  | .hbm, ⟨23, _⟩ => ⟨S1024x1288, .f32⟩
  | .hbm, ⟨24, _⟩ => ⟨S1024x1288, .f32⟩
  | .hbm, ⟨25, _⟩ => ⟨S_, .f32⟩
  | .hbm, ⟨26, _⟩ => ⟨S1024x1288, .f32⟩
  | .hbm, ⟨27, _⟩ => ⟨S1024x1288, .f32⟩
  | .hbm, ⟨28, _⟩ => ⟨S1024x1288, .f32⟩
  | .hbm, ⟨29, _⟩ => ⟨S_, .f32⟩
  | .hbm, ⟨30, _⟩ => ⟨S1024x1288, .f32⟩
  | .hbm, ⟨31, _⟩ => ⟨S1024x1288, .f32⟩
  | .hbm, ⟨32, _⟩ => ⟨S1024x1288, .f32⟩
  | .hbm, ⟨33, _⟩ => ⟨S_, .f32⟩
  | .hbm, ⟨34, _⟩ => ⟨S1024x1288, .f32⟩
  | .hbm, ⟨35, _⟩ => ⟨S1024x1288, .f32⟩
  | .hbm, ⟨36, _⟩ => ⟨S1024x1288, .f32⟩
  | .hbm, ⟨37, _⟩ => ⟨S_, .f32⟩
  | .hbm, ⟨38, _⟩ => ⟨S1024x1288, .f32⟩
  | .hbm, ⟨39, _⟩ => ⟨S1024x1288, .f32⟩
  | _, _ => ⟨S1x1024x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAda.lean ====
abbrev S2048x1536 : Shape := ⟨2, ![2048, 1536]⟩
abbrev S1024x1536 : Shape := ⟨2, ![1024, 1536]⟩
abbrev S128x1536 : Shape := ⟨2, ![128, 1536]⟩

abbrev nBuf : Space → Nat
  | .hbm => 9
  | .vmem => 18
  | .smem => 0
  | _ => 0

abbrev bufTy : (tb : Table) → Fin (tcTables nBuf tb) → BufTy
  | .hbm, ⟨0, _⟩ => ⟨S2048x1536, .f32⟩
  | .hbm, ⟨1, _⟩ => ⟨S1024x1536, .f32⟩
  | .hbm, ⟨2, _⟩ => ⟨S1024x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c8_i32_6 : BitVec 32 := 8#32
  let c0_i32_9 : BitVec 32 := 0#32
  let v26 : BitVec 1 := Scalar.cmpi .sgt c8_i32_6 c0_i32_9
  let v27 : BitVec 32 := Scalar.extui v26
  let c0_i32_10 : BitVec 32 := 0#32
  let v28 : BitVec 1 := Scalar.cmpi .slt c8_i32_6 c0_i32_10
  let v29 : BitVec 32 := Scalar.extui v28
  let v30 : BitVec 32 := Scalar.subi v27 v29
  let v31 : BitVec 1 := Scalar.cmpi .ne v25 v30
  let v32 : BitVec 32 := Scalar.remsi arg0 c8_i32_6
  let c0_i32_11 : BitVec 32 := 0#32
  let v33 : BitVec 1 := Scalar.cmpi .ne v32 c0_i32_11
  let v34 : BitVec 1 := Scalar.andi v31 v33
  let v20 : BitVec 32 := Scalar.divsi arg0 c8_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi v2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaRefIdeal.lean ====
abbrev S2048x1536 : Shape := ⟨2, ![2048, 1536]⟩
abbrev S1024x1536 : Shape := ⟨2, ![1024, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1024x1536, .f32⟩
  | .hbm, ⟨2, _⟩ => ⟨S1024x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S2048x1024 : Shape := ⟨2, ![2048, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== SumSmall.lean ====
abbrev S8x80x1024 : Shape := ⟨3, ![8, 80, 1024]⟩
abbrev S80x1024 : Shape := ⟨2, ![80, 1024]⟩
abbrev S1x80x1024 : Shape := ⟨3, ![1, 80, 1024]⟩
abbrev S1x1 : Shape := ⟨2, ![1, 1]⟩
abbrev S_ : Shape := ⟨0, ![]⟩
abbrev S15x1024 : Shape := ⟨2, ![15, 1024]⟩
abbrev S5x3072 : Shape := ⟨2, ![5, 3072]⟩
abbrev S1x1024 : Shape := ⟨2, ![1, 1024]⟩
abbrev S1024 : Shape := ⟨1, ![1024]⟩
abbrev S12x1024 : Shape := ⟨2, ![12, 1024]⟩
abbrev S2x6144 : Shape := ⟨2, ![2, 6144]⟩
abbrev S2x1024 : Shape := ⟨2, ![2, 1024]⟩
abbrev S4x3072 : Shape := ⟨2, ![4, 3072]⟩
abbrev S1x3072 : Shape := ⟨2, ![1, 3072]⟩
abbrev S1x32 : Shape := ⟨2, ![1, 32]⟩
abbrev S1x2048 : Shape := ⟨2, ![1, 2048]⟩
abbrev S3x1024 : Shape := ⟨2, ![3, 1024]⟩

abbrev nBuf : Space → Nat
  | .hbm => 68
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .hbm, ⟨2, _⟩ => ⟨S1x1, .f32⟩
  | .hbm, ⟨3, _⟩ => ⟨S_, .f32⟩
  | .hbm, ⟨4, _⟩ => ⟨S15x1024, .f32⟩
  | .hbm, ⟨5, _⟩ => ⟨S5x3072, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S12x1024, .f32⟩
  | .hbm, ⟨43, _⟩ => ⟨S2x6144, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S2x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S1x1024, .f32⟩
  | .hbm, ⟨57, _⟩ => ⟨S2x1024, .f32⟩
  | .hbm, ⟨58, _⟩ => ⟨S4x3072, .f32⟩
  | .hbm, ⟨59, _⟩ => ⟨S1x3072, .f32⟩
  | .hbm, ⟨60, _⟩ => ⟨S1x32, .f32⟩
  | .hbm, ⟨61, _⟩ => ⟨S1x32, .f32⟩
  | .hbm, ⟨62, _⟩ => ⟨S1x32, .f32⟩
  | .hbm, ⟨63, _⟩ => ⟨S2x1024, .f32⟩
  | .hbm, ⟨64, _⟩ => ⟨S1x2048, .f32⟩
  | .hbm, ⟨65, _⟩ => ⟨S3x1024, .f32⟩
  | .hbm, ⟨66, _⟩ => ⟨S1x1024, .f32⟩
  | .hbm, ⟨67, _⟩ => ⟨S1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x80x1024 : Shape := ⟨3, ![8, 80, 1024]⟩
abbrev S_ : Shape := ⟨0, ![]⟩
abbrev S80x1024 : Shape := ⟨2, ![80, 1024]⟩
abbrev S15x1024 : Shape := ⟨2, ![15, 1024]⟩
abbrev S5x3072 : Shape := ⟨2, ![5, 3072]⟩
abbrev S1x1 : Shape := ⟨2, ![1, 1]⟩
abbrev S1x1024 : Shape := ⟨2, ![1, 1024]⟩
abbrev S1024 : Shape := ⟨1, ![1024]⟩
abbrev S12x1024 : Shape := ⟨2, ![12, 1024]⟩
abbrev S2x6144 : Shape := ⟨2, ![2, 6144]⟩
abbrev S2x1024 : Shape := ⟨2, ![2, 1024]⟩
abbrev S4x3072 : Shape := ⟨2, ![4, 3072]⟩
abbrev S1x3072 : Shape := ⟨2, ![1, 3072]⟩
abbrev S1x32 : Shape := ⟨2, ![1, 32]⟩
abbrev S1x2048 : Shape := ⟨2, ![1, 2048]⟩
abbrev S3x1024 : Shape := ⟨2, ![3, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | .hbm, ⟨3, _⟩ => ⟨S15x1024, .f32⟩
  | .hbm, ⟨4, _⟩ => ⟨S5x3072, .f32⟩
  | .hbm, ⟨5, _⟩ => ⟨S1x1, .f32⟩
  | .hbm, ⟨6, _⟩ => ⟨S_, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S12x1024, .f32⟩
  | .hbm, ⟨44, _⟩ => ⟨S2x6144, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024, .f32⟩
  | .hbm, ⟨58, _⟩ => ⟨S2x1024, .f32⟩
  | .hbm, ⟨59, _⟩ => ⟨S4x3072, .f32⟩
  | .hbm, ⟨60, _⟩ => ⟨S1x3072, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S2x1024, .f32⟩
  | .hbm, ⟨65, _⟩ => ⟨S1x2048, .f32⟩
  | .hbm, ⟨66, _⟩ => ⟨S3x1024, .f32⟩
  | .hbm, ⟨67, _⟩ => ⟨S1x1024, .f32⟩
  | .hbm, ⟨68, _⟩ => ⟨S1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩

abbrev nD : Nat := 1
abbrev τ : Topo := Topo.v7x

variable {F : FTy → Type} [FloatOps F]
-- ==== AdaDw.lean ====
abbrev S8x1024 : Shape := ⟨2, ![8, 1024]⟩
abbrev S8x1536 : Shape := ⟨2, ![8, 1536]⟩
abbrev S_ : Shape := ⟨0, ![]⟩
abbrev S16x1024 : Shape := ⟨2, ![16, 1024]⟩
abbrev S16x1536 : Shape := ⟨2, ![16, 1536]⟩
abbrev S1024x1536 : Shape := ⟨2, ![1024, 1536]⟩
abbrev S16x512 : Shape := ⟨2, ![16, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S8x1024, .f32⟩
  | .hbm, ⟨4, _⟩ => ⟨S16x1024, .f32⟩
  | .hbm, ⟨5, _⟩ => ⟨S_, .f32⟩
  | .hbm, ⟨6, _⟩ => ⟨S8x1536, .f32⟩
  | .hbm, ⟨7, _⟩ => ⟨S16x1536, .f32⟩
  | .hbm, ⟨8, _⟩ => ⟨S1024x1536, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaDwRefIdeal.lean ====
abbrev S8x1024 : Shape := ⟨2, ![8, 1024]⟩
abbrev S8x1536 : Shape := ⟨2, ![8, 1536]⟩
abbrev S_ : Shape := ⟨0, ![]⟩
abbrev S1024x8 : Shape := ⟨2, ![1024, 8]⟩
abbrev S1024x1536 : Shape := ⟨2, ![1024, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .bf16⟩
  | .hbm, ⟨12, _⟩ => ⟨S1024x8, .bf16⟩
  | .hbm, ⟨13, _⟩ => ⟨S1024x8, .f32⟩
  | .hbm, ⟨14, _⟩ => ⟨S8x1536, .bf16⟩
  | .hbm, ⟨15, _⟩ => ⟨S8x1536, .f32⟩
  | .hbm, ⟨16, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Windows.lean ====
/- The shared steps of these proofs: where an element of a window's block sits in its array, what an array holds after
   its blocks are written, and how a run's results are compared and its frame read off. -/
module

public import Idealize.ShloMosaic.Lib.Pipeline.Value
public import Idealize.ShloMosaic.Lib.Quiescent

@[expose] public section

namespace Cert.Windows

open Idealize.ShloMosaic Idealize.SL Idealize.SL.Sem Idealize.SL.RA

/-- A coordinate of a block's element: the block's index times its size, plus the coordinate within the block. -/
theorem embAt {sig : RefSig} {G : Pipeline.Grid} (w : Pipeline.Window sig G) (t : Fin G.N) (a : Fin w.shape.rank)
    (s k : Nat) {y : (w.xblock (G.coords t)).Idx} {j n : Nat} (h : w.index t a = j) (e : j * s + k = n)
    (hk : w.kind = .blocked := by rfl) (hs : w.size a = s := by rfl) (hy : (y a : Nat) = k := by rfl) :
    ((w.rect t).emb y a : Nat) = n := by
  rw [Pipeline.Window.rect_emb_val w t y a hk, h, hs, hy, e]

section Arrays

variable {nD : Nat} {τ : Topo} {sig : RefSig} {Val : EltTy → Type} {Ix : Type} [DecidableEq Ix] {Name : Type} [DecidableEq Name]
  {U : Type} [URA U] {Lvl : Type} {P : Type} [Fintype P] {Λ₀ : Labels} {cfg : Pipeline.Cfg sig Λ₀} {c : Dev nD}
  (dat : Pipeline.Dat τ Val Ix Name U Lvl cfg c)

/-- What an array holds once each of its elements is an element of some written block. -/
theorem arr_of_blocks (w : Fin cfg.W) (G : Buf Val ((cfg.win w).arr.view.loc (c.tc : Thread nD τ)))
    (hG : ∀ t, dat.flushed w t = ((cfg.win w).blk t).view.read Val G)
    (hi : ∀ i : ((cfg.win w).arr.view.loc (c.tc : Thread nD τ)).2.ty.Idx, ∃ t y, (cfg.win w).flush t = true
      ∧ (show ((cfg.win w).arr.view.loc (c.tc : Thread nD τ)).2.ty.Idx from ((cfg.win w).blk t).view.emb y) = i) : dat.arrAt w cfg.N = G :=
  dat.arrAt_eq_of_cover w G (fun t _ => hG t) fun i => by
    obtain ⟨t, y, hf, rfl⟩ := hi i
    exact ⟨t, hf, View.emb_mem_set _ y⟩

end Arrays

section Runs

variable {nD : Nat} {τ : Topo} {sig : RefSig} {Val : EltTy → Type} {Λ : Labels} {defs : Defs nD τ sig Val Λ}
  {p : (c : Thread nD τ) → Prog (TpuEff nD τ sig Val Λ c.2) PUnit} {s : MemSt nD τ sig Val}
  {Q Q' : PUnit × MemSt nD τ sig Val → Dev nD → Prop}

/-- A run's results, device by device, under other names. -/
theorem upTo (h : θ_run defs p s fun r => ∀ c, Q r c) (k : ∀ r c, Q r c → Q' r c) : θ_run defs p s fun r => ∀ c, Q' r c :=
  (θ_run defs p s).mono (fun r hr c => k r c (hr c)) h

/-- The frame of a run without counters. -/
theorem frameOf (hs : sig.nSem + sig.nDmaSem = 0) (h : θ_run defs p s fun r => ∀ c, Q r c) (k : ∀ r c, Q r c → Q' r c) :
    θ_run defs p s fun r => (∀ c, Q' r c) ∧ r.2.sem = fun _ => 0 :=
  (θ_run defs p s).mono (fun r hr => ⟨fun c => k r c (hr c), sem_eq_zero_of_no_sems hs r.2⟩) h

end Runs

end Cert.Windows
-- ==== Proof.Rows.lean ====
/- Layout operations of the two-axis arrays these kernels hold, read at an index: a rotation along the rows whose
   wrapped rows are replaced by a fill value is a shift of the rows. -/
module

public import Idealize.ShloMosaic.Lib.Pipeline.Value
public import Idealize.ShloMosaic.Lib.ValueIdxCore
public import Idealize.ShloMosaic.Lib.KernelVsHost
public import Idealize.ShloMosaic.Lib.ValueLayout
public import Idealize.ShloMosaic.PureOps.Ideal.Laws

@[expose] public section

noncomputable section

namespace Cert.Rows

open Idealize.ShloMosaic Idealize.ShloMosaic.ValueIdx

/-- Two-axis arrays. -/
abbrev M (a b : Nat) : Shape := ⟨2, ![a, b]⟩

variable {α : Type}

/-- A slice of a two-axis array at an index. -/
theorem slice_apply {a b a' b' : Nat} (o0 o1 : Nat) (x : (M a b).Idx → α) (h : (M a b).Slices ![o0, o1] (M a' b'))
    (r : Fin a') (q : Fin b') (h0 : o0 + r.val < a) (h1 : o1 + q.val < b) :
    extractStridedSlice (M a' b') ![o0, o1] x h (ix2 r q) = x (ix2 ⟨o0 + r.val, h0⟩ ⟨o1 + q.val, h1⟩) :=
  extractStridedSlice_apply _ x h _ _ (fun a => match a with | ⟨0, _⟩ => rfl | ⟨1, _⟩ => rfl)

/-- One row broadcast over the rows. -/
theorem broadcastRow_apply {a b : Nat} (x : (M 1 b).Idx → α) (h : (M 1 b).Broadcasts (M a b)) (r : Fin a) (q : Fin b) :
    broadcastTo (M a b) x h (ix2 r q) = x (ix2 (0 : Fin 1) q) :=
  broadcastTo_apply x h _ _ (fun d => match d with
    | ⟨0, _⟩ => by show 0 = if (1 : Nat) = 1 then 0 else _; rw [if_pos rfl]
    | ⟨1, _⟩ => by
      show q.val = if b = 1 then 0 else q.val
      split_ifs with hb
      · have := q.isLt; omega
      · rfl)

/-- Rows rotated by `n` places read at an index. -/
theorem rotate_apply {a b : Nat} (sb : BitVec 32) (n : Nat) (hn : sb.toNat = n) (hlt : n < a) (x : (M a b).Idx → α)
    (h : (M a b).Rotates 0 none) (r : Fin a) (q : Fin b) :
    dynamicRotate 0 sb none x h (ix2 r q) = x (ix2 ⟨(r.val + a - n) % a, Nat.mod_lt _ (by omega)⟩ q) := by
  refine dynamicRotate_apply _ sb x h _ _ (fun d => ?_)
  match d with
  | ⟨0, _⟩ =>
    show (r.val + a - n) % a = if (0 : Fin 2) = 0 then (r.val + a - sb.toNat % a) % a else _
    rw [if_pos rfl, hn, Nat.mod_eq_of_lt hlt]
  | ⟨1, _⟩ => rfl

/-- Rows shifted DOWN by `n ≤ 8` places: the rotation, its first eight rows replaced by the fill below row `n`. -/
theorem down_apply {a a8 b : Nat} (ha : a = 8 + a8) (sb : BitVec 32) (n : Nat) (hn : sb.toNat = n) (hlt : n < 8)
    (x : (M a b).Idx → α) (z : α) (cnd : IVec (M 8 b) 1)
    (hc : ∀ (r : Fin 8) (q : Fin b), cnd (ix2 r q) = if n ≤ r.val then 1#1 else 0#1)
    (h : (M a b).Rotates 0 none) (hs : (M a b).Slices ![0, 0] (M 8 b)) (hs' : (M a b).Slices ![8, 0] (M a8 b))
    (hcat : Shape.Concatenates [M 8 b, M a8 b] (M a b) 0) (r : Fin a) (q : Fin b) :
    concatenate (M a b) 0 [⟨M 8 b, select cnd (extractStridedSlice (M 8 b) ![0, 0] (dynamicRotate 0 sb none x h) hs) (broadcast (M 8 b) z)⟩,
      ⟨M a8 b, extractStridedSlice (M a8 b) ![8, 0] (dynamicRotate 0 sb none x h) hs'⟩] hcat (ix2 r q)
      = if n ≤ r.val then x (ix2 ⟨r.val - n, by omega⟩ q) else z := by
  by_cases h8 : r.val < 8
  · rw [concatenate_pair_apply_left (t := M a b) (s₁ := M 8 b) (s₂ := M a8 b) 0 _ _ hcat (ix2 r q) rfl (ix2 (⟨r.val, h8⟩ : Fin 8) q)
      (fun d => match d with | ⟨0, _⟩ => rfl | ⟨1, _⟩ => rfl), select_apply, hc]
    by_cases hr : n ≤ r.val
    · rw [if_pos (by exact hr), if_pos hr, select_one, slice_apply 0 0 _ hs _ _ (by show 0 + r.val < a; omega) (by omega),
        rotate_apply sb n hn (by omega)]
      refine congrArg x (congrArg₂ ix2 (Fin.ext ?_) (Fin.ext ?_))
      · show (0 + r.val + a - n) % a = r.val - n
        rw [show 0 + r.val + a - n = (r.val - n) + a by omega, Nat.add_mod_right, Nat.mod_eq_of_lt (by omega)]
      · show 0 + q.val = q.val; omega
    · rw [if_neg (by exact hr), if_neg hr, select_zero, broadcast_apply]
  · have hr := r.isLt
    rw [concatenate_pair_apply_right (t := M a b) (s₁ := M 8 b) (s₂ := M a8 b) 0 _ _ hcat (ix2 r q) rfl rfl
      (ix2 (⟨r.val - 8, by omega⟩ : Fin a8) q)
      (fun d hd => match d with | ⟨0, _⟩ => absurd rfl hd | ⟨1, _⟩ => rfl) (by show r.val - 8 + 8 = r.val; omega),
      slice_apply 8 0 _ hs' _ _ (by show 8 + (r.val - 8) < a; omega) (by omega), rotate_apply sb n hn (by omega), if_pos (by omega)]
    refine congrArg x (congrArg₂ ix2 (Fin.ext ?_) (Fin.ext ?_))
    · show (8 + (r.val - 8) + a - n) % a = r.val - n
      rw [show 8 + (r.val - 8) + a - n = (r.val - n) + a by omega, Nat.add_mod_right, Nat.mod_eq_of_lt (by omega)]
    · show 0 + q.val = q.val; omega

/-- Rows shifted UP by `n ≤ 8` places: the rotation by `a - n`, its last `n` rows replaced by the fill. -/
theorem up_apply {a a8 b : Nat} (ha : a = a8 + 8) (sb : BitVec 32) (n : Nat) (hn : sb.toNat = a - n) (h0 : 0 < n) (hlt : n ≤ 8)
    (x : (M a b).Idx → α) (z : α) (cnd : IVec (M 8 b) 1)
    (hc : ∀ (r : Fin 8) (q : Fin b), cnd (ix2 r q) = if r.val < 8 - n then 1#1 else 0#1)
    (h : (M a b).Rotates 0 none) (hs : (M a b).Slices ![0, 0] (M a8 b)) (hs' : (M a b).Slices ![a8, 0] (M 8 b))
    (hcat : Shape.Concatenates [M a8 b, M 8 b] (M a b) 0) (r : Fin a) (q : Fin b) :
    concatenate (M a b) 0 [⟨M a8 b, extractStridedSlice (M a8 b) ![0, 0] (dynamicRotate 0 sb none x h) hs⟩,
      ⟨M 8 b, select cnd (extractStridedSlice (M 8 b) ![a8, 0] (dynamicRotate 0 sb none x h) hs') (broadcast (M 8 b) z)⟩] hcat (ix2 r q)
      = if hr : r.val + n < a then x (ix2 ⟨r.val + n, hr⟩ q) else z := by
  by_cases h8 : r.val < a8
  · rw [concatenate_pair_apply_left (t := M a b) (s₁ := M a8 b) (s₂ := M 8 b) 0 _ _ hcat (ix2 r q) rfl (ix2 (⟨r.val, h8⟩ : Fin a8) q)
      (fun d => match d with | ⟨0, _⟩ => rfl | ⟨1, _⟩ => rfl),
      slice_apply 0 0 _ hs _ _ (by show 0 + r.val < a; omega) (by omega), rotate_apply sb (a - n) hn (by omega), dif_pos (by omega)]
    refine congrArg x (congrArg₂ ix2 (Fin.ext ?_) (Fin.ext ?_))
    · show (0 + r.val + a - (a - n)) % a = r.val + n
      rw [show 0 + r.val + a - (a - n) = r.val + n by omega, Nat.mod_eq_of_lt (by omega)]
    · show 0 + q.val = q.val; omega
  · have hr := r.isLt
    rw [concatenate_pair_apply_right (t := M a b) (s₁ := M a8 b) (s₂ := M 8 b) 0 _ _ hcat (ix2 r q) rfl rfl
      (ix2 (⟨r.val - a8, by omega⟩ : Fin 8) q)
      (fun d hd => match d with | ⟨0, _⟩ => absurd rfl hd | ⟨1, _⟩ => rfl) (by show r.val - a8 + a8 = r.val; omega),
      select_apply, hc]
    by_cases hr' : r.val + n < a
    · rw [if_pos (by show r.val - a8 < 8 - n; omega), dif_pos hr', select_one,
        slice_apply a8 0 _ hs' _ _ (by show a8 + (r.val - a8) < a; omega) (by omega), rotate_apply sb (a - n) hn (by omega)]
      refine congrArg x (congrArg₂ ix2 (Fin.ext ?_) (Fin.ext ?_))
      · show (a8 + (r.val - a8) + a - (a - n)) % a = r.val + n
        rw [show a8 + (r.val - a8) + a - (a - n) = r.val + n by omega, Nat.mod_eq_of_lt (by omega)]
      · show 0 + q.val = q.val; omega
    · rw [if_neg (by show ¬ r.val - a8 < 8 - n; omega), dif_neg hr', select_zero, broadcast_apply]

/-- A two-axis index from its coordinates. -/
theorem ix2_of {a b : Nat} (i : (M a b).Idx) (r : Fin a) (q : Fin b) (h0 : (i 0).val = r.val) (h1 : (i 1).val = q.val) : i = ix2 r q :=
  funext fun d => Fin.ext (match d with | ⟨0, _⟩ => h0 | ⟨1, _⟩ => h1)

/-- One row broadcast over the rows by the host. -/
theorem rowDim_apply {a b : Nat} (x : (M 1 b).Idx → α) (h : (M 1 b).BroadcastsInDim (M a b) ![0, 1]) (r : Fin a) (q : Fin b) :
    broadcastInDim (M a b) ![0, 1] h x (ix2 r q) = x (ix2 (0 : Fin 1) q) :=
  broadcastInDim_apply _ h x _ _ (fun d => match d with
    | ⟨0, _⟩ => by show 0 = if (1 : Nat) = 1 then 0 else _; rw [if_pos rfl]
    | ⟨1, _⟩ => by
      show q.val = if b = 1 then 0 else q.val
      split_ifs with hb
      · have := q.isLt; omega
      · rfl)

/-- Two rows `z` put before the array, and the result read from row `k` on. -/
theorem top_apply {a a2 b : Nat} (z : (M 2 b).Idx → α) (x : (M a b).Idx → α) (z0 : α) (hz : ∀ i, z i = z0)
    (hcat : Shape.Concatenates [M 2 b, M a b] (M a2 b) 0) (k : Nat) (hk : k ≤ 2) (h : (M a2 b).Slices ![k, 0] (M a b)) (ha : a2 = a + 2)
    (r : Fin a) (q : Fin b) :
    extractStridedSlice (M a b) ![k, 0] (concatenate (M a2 b) 0 [⟨M 2 b, z⟩, ⟨M a b, x⟩] hcat) h (ix2 r q)
      = if 2 - k ≤ r.val then x (ix2 ⟨r.val - (2 - k), by omega⟩ q) else z0 := by
  have hr := r.isLt
  rw [slice_apply k 0 _ h r q (by omega) (by omega)]
  by_cases hc : 2 - k ≤ r.val
  · rw [if_pos hc, concatenate_pair_apply_right (t := M a2 b) (s₁ := M 2 b) (s₂ := M a b) 0 _ _ hcat _ rfl rfl
      (ix2 (⟨r.val - (2 - k), by omega⟩ : Fin a) q)
      (fun d hd => match d with | ⟨0, _⟩ => absurd rfl hd | ⟨1, _⟩ => by show q.val = 0 + q.val; omega)
      (by show r.val - (2 - k) + 2 = k + r.val; omega)]
  · rw [if_neg hc, concatenate_pair_apply_left (t := M a2 b) (s₁ := M 2 b) (s₂ := M a b) 0 _ _ hcat _ rfl
      (ix2 (⟨k + r.val, by omega⟩ : Fin 2) q)
      (fun d => match d with | ⟨0, _⟩ => rfl | ⟨1, _⟩ => by show q.val = 0 + q.val; omega), hz]

/-- Rows padded by the host at an index. -/
theorem padRows_apply {a a2 b : Nat} (lo hi : Nat) (x : (M a b).Idx → α) {u : Shape} (v : u.Idx → α)
    (h : (M a b).Pads ![lo, 0] ![hi, 0] ![0, 0] (M a2 b)) (hu : 0 < u.numel) (r : Fin a2) (q : Fin b) :
    pad (M a2 b) ![lo, 0] ![hi, 0] ![0, 0] x v h hu (ix2 r q)
      = if hr : lo ≤ r.val ∧ r.val - lo < a then x (ix2 ⟨r.val - lo, hr.2⟩ q) else v (Shape.Idx.first hu) := by
  split_ifs with hr
  · exact pad_apply_of_inside _ _ _ x v h hu _ _ (fun d => match d with
      | ⟨0, _⟩ => by show r.val = lo + (r.val - lo) * (0 + 1); omega
      | ⟨1, _⟩ => by show q.val = 0 + q.val * (0 + 1); omega)
  · refine pad_apply_of_not_inside _ _ _ x v h hu _ (0 : Fin 2) (fun hin => hr ⟨hin.1, ?_⟩)
    have e : (r.val - lo) / (0 + 1) < a := hin.2.2
    simpa using e

/-- The sum over the rows, kept as one row. -/
theorem colSum_apply {a b : Nat} (x : FVec Ideal (M a b) .f32) (h : (M a b).Reduces [0] ⟨1, ![b]⟩) (hφ : FKind.Formats .f32)
    (hacc : 0x00000000#32 = FKind.add.neutral .f32 hφ) (hc : (⟨1, ![b]⟩ : Shape).ShapeCasts (M 1 b)) (z : Fin 1) (q : Fin b) :
    (shapeCast (M 1 b) (multiReduction .add [0] ⟨1, ![b]⟩ x 0x00000000#32 h hφ hacc) hc (ix2 z q) : EReal)
      = ∑ r : Fin a, (x (ix2 r q) : EReal) := by
  rw [shapeCast_a_1a_apply]
  refine (Ideal.multiReduction_add_single x _ h hφ hacc (ix1 q)).trans (Finset.sum_congr rfl fun k _ => ?_)
  exact congrArg x (ix2_of _ _ _ rfl rfl)

theorem mul2 {a a' b b' : EReal} (h : a = a') (h' : b = b') : a * b = a' * b' := by rw [h, h']

theorem sum2 {ι : Type} [Fintype ι] {f g : ι → EReal} (h : ∀ k, f k = g k) : ∑ k, f k = ∑ k, g k := Finset.sum_congr rfl fun k _ => h k

theorem add2 {a a' b b' : EReal} (h : a = a') (h' : b = b') : a + b = a' + b' := by rw [h, h']

abbrev S0 : Shape := ⟨0, ![]⟩

/-- The zero word is zero. -/
theorem zero_word : (FloatOps.ofBits (F := Ideal) .f32 0x00000000#32 : EReal) = 0 := by simp

theorem zeros_apply {s : Shape} (h : S0.BroadcastsInDim s ![]) (i : s.Idx) :
    (broadcastInDim s ![] h (constant (F := Ideal) S0 .f32 0x00000000#32) i : EReal) = 0 := by
  rw [broadcastInDim_apply _ h _ i (fun a => a.elim0) (fun a => a.elim0)]
  exact zero_word

end Cert.Rows

end
-- ==== Proof.ConvSpec.lean ====
/- The gated short convolution and its gradient in closed form, index by index on the extended reals: of the projection
   `P` the gate `B` is columns 0–1023, `C` columns 1024–2047 and `x` columns 2048–3071. -/
module

public import proofs.«01_k».proof.Proof.Rows

@[expose] public section

noncomputable section

namespace Cert.ConvSpec

open Idealize.ShloMosaic Idealize.ShloMosaic.ValueIdx Cert.Rows

variable (P : (M 2048 3072).Idx → EReal) (dy : (M 2048 1024).Idx → EReal) (w : (M 3 1024).Idx → EReal)

/-- The gate `B`. -/
def gB (r : Fin 2048) (q : Fin 1024) : EReal := P (ix2 r ⟨q.val, by omega⟩)
/-- The gate `C`. -/
def gC (r : Fin 2048) (q : Fin 1024) : EReal := P (ix2 r ⟨1024 + q.val, by omega⟩)
/-- The value `x`. -/
def gX (r : Fin 2048) (q : Fin 1024) : EReal := P (ix2 r ⟨2048 + q.val, by omega⟩)
/-- The convolution's operand `C · x`. -/
def u (r : Fin 2048) (q : Fin 1024) : EReal := gC P r q * gX P r q
/-- The operand `n` rows earlier, zero before the first row. -/
def uAt (n : Nat) (r : Fin 2048) (q : Fin 1024) : EReal := if n ≤ r.val then u P ⟨r.val - n, by omega⟩ q else 0
/-- The convolution. -/
def v (r : Fin 2048) (q : Fin 1024) : EReal := u P r q * w (ix2 2 q) + uAt P 1 r q * w (ix2 1 q) + uAt P 2 r q * w (ix2 0 q)
/-- The gated convolution: the mixer's result before its output product. -/
def o (r : Fin 2048) (q : Fin 1024) : EReal := gB P r q * v P w r q

/-- The cotangent of the convolution's result. -/
def dv (r : Fin 2048) (q : Fin 1024) : EReal := dy (ix2 r q) * gB P r q
/-- That cotangent `n` rows later, zero after the last row. -/
def dvAt (n : Nat) (r : Fin 2048) (q : Fin 1024) : EReal := if h : r.val + n < 2048 then dv P dy ⟨r.val + n, h⟩ q else 0
/-- The cotangent of the convolution's operand. -/
def du (r : Fin 2048) (q : Fin 1024) : EReal :=
  dv P dy r q * w (ix2 2 q) + dvAt P dy 1 r q * w (ix2 1 q) + dvAt P dy 2 r q * w (ix2 0 q)
/-- The cotangent of the weight's row that reads the operand `n` rows earlier. -/
def dw (n : Nat) (q : Fin 1024) : EReal := ∑ r : Fin 2048, dvAt P dy n r q * u P r q

/-- The cotangent of the projection: of `B`, of `C`, of `x`. -/
def dp (k : Fin 3) (r : Fin 2048) (q : Fin 1024) : EReal :=
  match k with
  | 0 => dy (ix2 r q) * v P w r q
  | 1 => du P dy w r q * gX P r q
  | 2 => du P dy w r q * gC P r q
/-- The cotangent of the weight in the first three of eight rows, the others zero. -/
def dwRow (k : Fin 8) (q : Fin 1024) : EReal := if k.val < 3 then dw P dy (2 - k.val) q else 0

theorem uAt_zero (r : Fin 2048) (q : Fin 1024) : uAt P 0 r q = u P r q := by
  unfold uAt; rw [if_pos (Nat.zero_le _)]; rfl

theorem dvAt_zero (r : Fin 2048) (q : Fin 1024) : dvAt P dy 0 r q = dv P dy r q := by
  unfold dvAt; rw [dif_pos (by simp)]; rfl

/-- Summing over the rows the cotangent times the operand `n` rows earlier is summing the cotangent `n` rows later times
    the operand. -/
theorem sum_shift (n : Nat) (q : Fin 1024) : ∑ r : Fin 2048, dv P dy r q * uAt P n r q = dw P dy n q := by
  unfold dw
  have e1 : ∀ r : Fin 2048, dv P dy r q * uAt P n r q = if n ≤ r.val then dv P dy r q * u P ⟨r.val - n, by omega⟩ q else 0 := fun r => by
    unfold uAt; split_ifs <;> simp
  have e2 : ∀ r : Fin 2048, dvAt P dy n r q * u P r q = if h : r.val + n < 2048 then dv P dy ⟨r.val + n, h⟩ q * u P r q else 0 := fun r => by
    unfold dvAt; split_ifs <;> simp
  rw [Finset.sum_congr rfl fun r _ => e1 r, Finset.sum_congr rfl fun r _ => e2 r]
  rw [← Finset.sum_filter]
  rw [← Finset.sum_subset (Finset.subset_univ (Finset.univ.filter fun r : Fin 2048 => r.val + n < 2048))
    (fun r _ hr => dif_neg (by simpa using hr))]
  refine Finset.sum_bij' (fun r _ => (⟨r.val - n, by omega⟩ : Fin 2048)) (fun r _ => (⟨(r.val + n) % 2048, Nat.mod_lt _ (by norm_num)⟩ : Fin 2048)) ?_ ?_ ?_ ?_ ?_
  · intro r hr; simp only [Finset.mem_filter, Finset.mem_univ, true_and] at hr ⊢; omega
  · intro r hr; simp only [Finset.mem_filter, Finset.mem_univ, true_and] at hr ⊢; rw [Nat.mod_eq_of_lt hr]; omega
  · intro r hr; simp only [Finset.mem_filter, Finset.mem_univ, true_and] at hr; apply Fin.ext; dsimp only; rw [Nat.mod_eq_of_lt (by omega)]; omega
  · intro r hr; simp only [Finset.mem_filter, Finset.mem_univ, true_and] at hr; apply Fin.ext; dsimp only; rw [Nat.mod_eq_of_lt hr]; omega
  · intro r hr
    simp only [Finset.mem_filter, Finset.mem_univ, true_and] at hr
    rw [dif_pos (by dsimp only; omega)]
    congr 2
    exact Fin.ext (by dsimp only; omega)

end Cert.ConvSpec

end
-- ==== Proof.ConvFwdKernel.lean ====
/- The forward call of the gated short convolution: what one column block computes, and what the two result arrays hold
   after the run. -/
module

public import proofs.«01_k».proof.Proof.Windows
public import proofs.«01_k».proof.Proof.Gen.ConvFwdIdeal.Value
public import proofs.«01_k».proof.Proof.ConvSpec

@[expose] public section

set_option maxRecDepth 16384

noncomputable section

namespace Cert.ConvFwdIdeal.RefValue

open Cert.Windows Cert.ConvFwdIdeal Cert.ConvFwdIdeal.Gen Cert.ConvSpec Cert.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem ge_apply (n : BitVec 32) (hn : n.toNat < 8) (r : Fin 8) (q : Fin 256) :
    cmpi .sge (iota .tc S8x256 32 [0] iota_S8x256_d0_w32) (broadcast S8x256 n) (ix2 r q) = if n.toNat ≤ r.val then 1#1 else 0#1 := by
  show IntOp.cmpi .sge (iota .tc S8x256 32 [0] iota_S8x256_d0_w32 (ix2 r q)) n = _
  rw [iota_single_apply]
  have key : ∀ (k : Fin 8) (r : Fin 8), IntOp.cmpi .sge (BitVec.ofNat 32 r.val) (BitVec.ofNat 32 k.val) = if k.val ≤ r.val then 1#1 else 0#1 := by
    decide +kernel
  have e : n = BitVec.ofNat 32 n.toNat := by simp
  have := key ⟨n.toNat, hn⟩ r
  rw [← e] at this
  exact this

/-- One block of the convolution at an index. -/
theorem pay2_apply (x1 x2 : Vec Ideal S2048x256 .bf16) (w2 w1 w0 : Vec Ideal S1x256 .f32) (r : Fin 2048) (q : Fin 256) :
    k0_pay2 (F := Ideal) x1 x2 w2 w1 w0 (ix2 r q)
      = x1 (ix2 r q) * x2 (ix2 r q) * w2 (ix2 0 q)
        + (if 1 ≤ r.val then x1 (ix2 ⟨r.val - 1, by omega⟩ q) * x2 (ix2 ⟨r.val - 1, by omega⟩ q) else 0) * w1 (ix2 0 q)
        + (if 2 ≤ r.val then x1 (ix2 ⟨r.val - 2, by omega⟩ q) * x2 (ix2 ⟨r.val - 2, by omega⟩ q) else 0) * w0 (ix2 0 q) := by
  unfold k0_pay2
  have e1 := down_apply (a := 2048) (a8 := 2040) (b := 256) rfl 1#32 1 rfl (by norm_num)
    (mulf (extf .f32 x1 bitsLt_bf16_f32) (extf .f32 x2 bitsLt_bf16_f32)) (Scalar.ofBits (F := Ideal) .f32 0x00000000#32) _
    (ge_apply 1#32 (by decide)) rotates_S2048x256_d0 slices_S2048x256_o0_0_S8x256 slices_S2048x256_o8_0_S2040x256
    concatenates_S8x256_S2040x256_S2048x256_d0 r q
  have e2 := down_apply (a := 2048) (a8 := 2040) (b := 256) rfl 2#32 2 rfl (by norm_num)
    (mulf (extf .f32 x1 bitsLt_bf16_f32) (extf .f32 x2 bitsLt_bf16_f32)) (Scalar.ofBits (F := Ideal) .f32 0x00000000#32) _
    (ge_apply 2#32 (by decide)) rotates_S2048x256_d0 slices_S2048x256_o0_0_S8x256 slices_S2048x256_o8_0_S2040x256
    concatenates_S8x256_S2040x256_S2048x256_d0 r q
  have b := fun x : Vec Ideal S1x256 .f32 => broadcastRow_apply (a := 2048) x broadcasts_S1x256_S2048x256 r q
  have z : (Scalar.ofBits (F := Ideal) .f32 0x00000000#32 : EReal) = 0 := by
    show FloatOps.ofBits (F := Ideal) .f32 0x00000000#32 = 0
    simp
  exact add2 (add2 (mul2 rfl (b w2)) (mul2 (e1.trans (if_congr Iff.rfl rfl z)) (b w1)))
    (mul2 (e2.trans (if_congr Iff.rfl rfl z)) (b w0))

/-- The windows' block indices: column block `t`, `t + 4` and `t + 8` of the projection, column block `t` of the rest. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val + 4
    ∧ win0_2.index t (0 : Fin 2) = 0 ∧ win0_2.index t (1 : Fin 2) = t.val + 8
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 4 := lt_of_lt_of_eq t.isLt N_0

/-- Column `q` of block `t`. -/
def col (t : Fin cfg0.N) (q : Fin 256) : Fin 1024 := ⟨t.val * 256 + q.val, by have := point_lt t; omega⟩

theorem iblk0_apply (c : Dev nD) (t : Fin cfg0.N) (r : Fin 2048) (q : Fin 256) :
    iblk m c 0 t (ix2 r q) = gB (m ((c : Thread nD τ).loc main_arg0)) r (col t q) := by
  show V m c main_arg0 ((win0_0.rect t).emb (ix2 r q)) = _
  rw [V_main_arg0]
  obtain ⟨h0, h1, -⟩ := idx_facts t
  refine congrArg _ (funext fun a => Fin.ext ?_)
  match a with
  | ⟨0, _⟩ => exact embAt win0_0 t 0 2048 r.val (n := r.val) h0 (by omega)
  | ⟨1, _⟩ => exact embAt win0_0 t 1 256 q.val (n := t.val * 256 + q.val) h1 rfl

theorem iblk1_apply (c : Dev nD) (t : Fin cfg0.N) (r : Fin 2048) (q : Fin 256) :
    iblk m c 1 t (ix2 r q) = gC (m ((c : Thread nD τ).loc main_arg0)) r (col t q) := by
  show V m c main_arg0 ((win0_1.rect t).emb (ix2 r q)) = _
  rw [V_main_arg0]
  obtain ⟨-, -, h0, h1, -⟩ := idx_facts t
  refine congrArg _ (funext fun a => Fin.ext ?_)
  match a with
  | ⟨0, _⟩ => exact embAt win0_1 t 0 2048 r.val (n := r.val) h0 (by omega)
  | ⟨1, _⟩ => exact embAt win0_1 t 1 256 q.val (n := 1024 + (t.val * 256 + q.val)) h1 (by omega)

theorem iblk2_apply (c : Dev nD) (t : Fin cfg0.N) (r : Fin 2048) (q : Fin 256) :
    iblk m c 2 t (ix2 r q) = gX (m ((c : Thread nD τ).loc main_arg0)) r (col t q) := by
  show V m c main_arg0 ((win0_2.rect t).emb (ix2 r q)) = _
  rw [V_main_arg0]
  obtain ⟨-, -, -, -, h0, h1, -⟩ := idx_facts t
  refine congrArg _ (funext fun a => Fin.ext ?_)
  match a with
  | ⟨0, _⟩ => exact embAt win0_2 t 0 2048 r.val (n := r.val) h0 (by omega)
  | ⟨1, _⟩ => exact embAt win0_2 t 1 256 q.val (n := 2048 + (t.val * 256 + q.val)) h1 (by omega)

theorem iblk3_apply (c : Dev nD) (t : Fin cfg0.N) (k : Fin 3) (q : Fin 256) :
    iblk m c 3 t (ix2 k q) = m ((c : Thread nD τ).loc main_arg1) (ix2 k (col t q)) := by
  show V m c main_arg1 ((win0_3.rect t).emb (ix2 k q)) = _
  rw [V_main_arg1]
  obtain ⟨-, -, -, -, -, -, h0, h1, -⟩ := idx_facts t
  refine congrArg _ (funext fun a => Fin.ext ?_)
  match a with
  | ⟨0, _⟩ => exact embAt win0_3 t 0 3 k.val (n := k.val) h0 (by omega)
  | ⟨1, _⟩ => exact embAt win0_3 t 1 256 q.val (n := t.val * 256 + q.val) h1 rfl

theorem hz : (![0, 0] : Fin 2 → Nat) = fun _ => 0 := funext fun a => by fin_cases a <;> rfl

/-- A row of the weight's block, loaded. -/
theorem ld_row (x3 : Vec Ideal S3x256 .f32) (k : Nat) (hk : k < 3) (inb : ∀ a, (![k, 0] : Fin 2 → Nat) a + S1x256.size a ≤ S3x256.size a) (q : Fin 256) :
    View.ld x3 (Rect.unit (s := S3x256) ![k, 0] S1x256.size inb) (ix2 (0 : Fin 1) q) = x3 (ix2 ⟨k, hk⟩ q) := by
  show x3 ((Rect.unit (s := S3x256) ![k, 0] S1x256.size inb).emb (ix2 (0 : Fin 1) q)) = _
  refine congrArg x3 (funext fun a => Fin.ext ?_)
  rw [Rect.emb_apply]
  match a with
  | ⟨0, _⟩ => show k + 1 * 0 = k; omega
  | ⟨1, _⟩ => show 0 + 1 * q.val = q.val; omega

/-- The convolution's block at point `t`, from the input blocks. -/
theorem block_v (c : Dev nD) (t : Fin cfg0.N) (r : Fin 2048) (q : Fin 256) :
    k0_pay2 (F := Ideal) (iblk m c 1 t) (iblk m c 2 t) (View.ld (iblk m c 3 t) r0_1) (View.ld (iblk m c 3 t) r0_2) (View.ld (iblk m c 3 t) r0_3) (ix2 r q)
      = v (m ((c : Thread nD τ).loc main_arg0)) (m ((c : Thread nD τ).loc main_arg1)) r (col t q) := by
  rw [pay2_apply]
  unfold r0_1 r0_2 r0_3
  rw [ld_row _ 2 (by norm_num), ld_row _ 1 (by norm_num), ld_row _ 0 (by norm_num)]
  simp only [iblk1_apply, iblk2_apply, iblk3_apply]
  rfl

/-- The gated convolution as one array. -/
abbrev G4 (c : Dev nD) : Buf (Elt Ideal) ((c : Thread nD τ).loc main_v0_0) := fun i : S2048x1024.Idx =>
  o (m ((c : Thread nD τ).loc main_arg0)) (m ((c : Thread nD τ).loc main_arg1)) (i 0) (i 1)

/-- The convolution as one array. -/
abbrev G5 (c : Dev nD) : Buf (Elt Ideal) ((c : Thread nD τ).loc main_v0_1) := fun i : S2048x1024.Idx =>
  v (m ((c : Thread nD τ).loc main_arg0)) (m ((c : Thread nD τ).loc main_arg1)) (i 0) (i 1)

theorem emb4 (t : Fin cfg0.N) (r : Fin 2048) (q : Fin 256) : (win0_4.rect t).emb (ix2 r q) = ix2 r (col t q) := by
  obtain ⟨-, -, -, -, -, -, -, -, h0, h1, -⟩ := idx_facts t
  refine funext fun a => Fin.ext ?_
  match a with
  | ⟨0, _⟩ => exact embAt win0_4 t 0 2048 r.val (n := r.val) h0 (by omega)
  | ⟨1, _⟩ => exact embAt win0_4 t 1 256 q.val (n := t.val * 256 + q.val) h1 rfl

theorem emb5 (t : Fin cfg0.N) (r : Fin 2048) (q : Fin 256) : (win0_5.rect t).emb (ix2 r q) = ix2 r (col t q) := by
  obtain ⟨-, -, -, -, -, -, -, -, -, -, h0, h1⟩ := idx_facts t
  refine funext fun a => Fin.ext ?_
  match a with
  | ⟨0, _⟩ => exact embAt win0_5 t 0 2048 r.val (n := r.val) h0 (by omega)
  | ⟨1, _⟩ => exact embAt win0_5 t 1 256 q.val (n := t.val * 256 + q.val) h1 rfl

theorem flushed4_eq (c : Dev nD) (t : Fin cfg0.N) :
    (dats m 0 c).flushed 4 t = ((cfg0.win 4).blk t).view.read (Elt Ideal) (G4 m c) := by
  rw [Value.flushed4]
  unfold out0_4
  rw [View.canon_unit_zero hz, View.ld_unit_zero hz, View.ld_unit_zero hz, View.ld_unit_zero hz]
  refine funext fun y => ?_
  show k0_pay3 (F := Ideal) _ _ _ _ _ _ y = G4 m c ((win0_4.rect t).emb y)
  obtain ⟨r, q, rfl⟩ : ∃ (r : Fin 2048) (q : Fin 256), y = ix2 r q := ⟨y 0, y 1, eq_ix2 y⟩
  rw [emb4]
  exact mul2 (iblk0_apply m c t r q) (block_v m c t r q)

theorem flushed5_eq (c : Dev nD) (t : Fin cfg0.N) :
    (dats m 0 c).flushed 5 t = ((cfg0.win 5).blk t).view.read (Elt Ideal) (G5 m c) := by
  rw [Value.flushed5]
  unfold out0_5
  rw [View.canon_unit_zero hz, View.ld_unit_zero hz, View.ld_unit_zero hz]
  refine funext fun y => ?_
  show k0_pay1 (F := Ideal) _ y = G5 m c ((win0_5.rect t).emb y)
  obtain ⟨r, q, rfl⟩ : ∃ (r : Fin 2048) (q : Fin 256), y = ix2 r q := ⟨y 0, y 1, eq_ix2 y⟩
  rw [emb5]
  exact block_v m c t r q

theorem cover4 (i : S2048x1024.Idx) : ∃ t : Fin cfg0.N, (cfg0.win 4).flush t = true ∧ i ∈ ((cfg0.win 4).blk t).view.set := by
  obtain ⟨r, q, rfl⟩ : ∃ (r : Fin 2048) (q : Fin 1024), i = ix2 r q := ⟨i 0, i 1, eq_ix2 i⟩
  have ht : q.val / 256 < cfg0.N := by show _ < grid0.N; rw [N_0]; omega
  refine ⟨⟨q.val / 256, ht⟩, flush0_4 _, ?_⟩
  have e : (ix2 r q : S2048x1024.Idx) = (win0_4.rect ⟨q.val / 256, ht⟩).emb (ix2 r (⟨q.val % 256, Nat.mod_lt _ (by norm_num)⟩ : Fin 256)) := by
    rw [emb4]
    exact congrArg₂ ix2 rfl (Fin.ext (by show q.val = q.val / 256 * 256 + q.val % 256; omega))
  rw [e]
  exact View.emb_mem_set _ _

theorem cover5 (i : S2048x1024.Idx) : ∃ t : Fin cfg0.N, (cfg0.win 5).flush t = true ∧ i ∈ ((cfg0.win 5).blk t).view.set := by
  obtain ⟨r, q, rfl⟩ : ∃ (r : Fin 2048) (q : Fin 1024), i = ix2 r q := ⟨i 0, i 1, eq_ix2 i⟩
  have ht : q.val / 256 < cfg0.N := by show _ < grid0.N; rw [N_0]; omega
  refine ⟨⟨q.val / 256, ht⟩, flush0_5 _, ?_⟩
  have e : (ix2 r q : S2048x1024.Idx) = (win0_5.rect ⟨q.val / 256, ht⟩).emb (ix2 r (⟨q.val % 256, Nat.mod_lt _ (by norm_num)⟩ : Fin 256)) := by
    rw [emb5]
    exact congrArg₂ ix2 rfl (Fin.ext (by show q.val = q.val / 256 * 256 + q.val % 256; omega))
  rw [e]
  exact View.emb_mem_set _ _

/-- The run: both results in closed form, the arguments unchanged. -/
theorem run : θ_run defs (onTc (τ := τ) (main (F := Ideal))) ⟨m, fun _ => 0, ρ⟩ fun r => ∀ c : Dev nD,
      r.2.mem ((c : Thread nD τ).loc main_v0_0) = G4 m c ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5), (h c).2.2⟩)
    (Value.run_blocks m ρ)

end Cert.ConvFwdIdeal.RefValue

end
-- ==== Proof.ConvHost.lean ====
/- The host's causal convolution — two zero rows before the operand, and the sum of the three shifted products — read at
   an index. -/
module

public import proofs.«01_k».proof.Proof.ConvSpec

@[expose] public section

noncomputable section

namespace Cert.ConvSpec

open Idealize.ShloMosaic Idealize.ShloMosaic.ValueIdx Cert.Rows

/-- The operand's rows under the two zero rows, read from row `k`. -/
theorem shifted_apply (x : Vec Ideal (M 2048 1024) .f32) (hb : S0.BroadcastsInDim (M 2 1024) ![])
    (hcat : Shape.Concatenates [M 2 1024, M 2048 1024] (M 2050 1024) 0) (k : Nat) (hk : k ≤ 2)
    (h : (M 2050 1024).Slices ![k, 0] (M 2048 1024)) (r : Fin 2048) (q : Fin 1024) :
    (extractStridedSlice (M 2048 1024) ![k, 0] (concatenate (M 2050 1024) 0
      [⟨M 2 1024, broadcastInDim (M 2 1024) ![] hb (constant (F := Ideal) S0 .f32 0x00000000#32)⟩, ⟨M 2048 1024, x⟩] hcat) h (ix2 r q) : EReal)
      = if 2 - k ≤ r.val then x (ix2 ⟨r.val - (2 - k), by omega⟩ q) else (0 : EReal) :=
  top_apply _ x (0 : EReal) (zeros_apply hb) hcat k hk h rfl r q

/-- A row of the weight, broadcast over the rows. -/
theorem weight_apply (w : Vec Ideal (M 3 1024) .f32) (k : Nat) (hk : k < 3) (hs : (M 3 1024).Slices ![k, 0] (M 1 1024))
    (hb : (M 1 1024).BroadcastsInDim (M 2048 1024) ![0, 1]) (r : Fin 2048) (q : Fin 1024) :
    (broadcastInDim (M 2048 1024) ![0, 1] hb (extractStridedSlice (M 1 1024) ![k, 0] w hs) (ix2 r q) : EReal) = w (ix2 ⟨k, hk⟩ q) := by
  rw [rowDim_apply, slice_apply k 0 _ hs _ _ (by show k + 0 < 3; omega) (by omega)]
  refine congrArg w (ix2_of _ _ _ rfl ?_)
  show 0 + q.val = q.val; omega

/-- The host's convolution at an index. -/
theorem host_conv_apply (P : (M 2048 3072).Idx → EReal) (w : Vec Ideal (M 3 1024) .f32) (x : Vec Ideal (M 2048 1024) .f32)
    (hx : ∀ (r : Fin 2048) (q : Fin 1024), (x (ix2 r q) : EReal) = u P r q)
    (hb0 : S0.BroadcastsInDim (M 2048 1024) ![]) (hb : S0.BroadcastsInDim (M 2 1024) ![])
    (hb1 : (M 1 1024).BroadcastsInDim (M 2048 1024) ![0, 1])
    (hcat : Shape.Concatenates [M 2 1024, M 2048 1024] (M 2050 1024) 0)
    (hw0 : (M 3 1024).Slices ![0, 0] (M 1 1024)) (hw1 : (M 3 1024).Slices ![1, 0] (M 1 1024)) (hw2 : (M 3 1024).Slices ![2, 0] (M 1 1024))
    (h0 : (M 2050 1024).Slices ![0, 0] (M 2048 1024)) (h1 : (M 2050 1024).Slices ![1, 0] (M 2048 1024))
    (h2 : (M 2050 1024).Slices ![2, 0] (M 2048 1024)) (r : Fin 2048) (q : Fin 1024) :
    (addf (F := Ideal) (addf (F := Ideal) (addf (F := Ideal) (broadcastInDim (M 2048 1024) ![] hb0 (constant (F := Ideal) S0 .f32 0x00000000#32))
        (mulf (F := Ideal) (broadcastInDim (M 2048 1024) ![0, 1] hb1 (extractStridedSlice (M 1 1024) ![0, 0] w hw0))
          (extractStridedSlice (M 2048 1024) ![0, 0] (concatenate (M 2050 1024) 0
            [⟨M 2 1024, broadcastInDim (M 2 1024) ![] hb (constant (F := Ideal) S0 .f32 0x00000000#32)⟩, ⟨M 2048 1024, x⟩] hcat) h0)))
        (mulf (F := Ideal) (broadcastInDim (M 2048 1024) ![0, 1] hb1 (extractStridedSlice (M 1 1024) ![1, 0] w hw1))
          (extractStridedSlice (M 2048 1024) ![1, 0] (concatenate (M 2050 1024) 0
            [⟨M 2 1024, broadcastInDim (M 2 1024) ![] hb (constant (F := Ideal) S0 .f32 0x00000000#32)⟩, ⟨M 2048 1024, x⟩] hcat) h1)))
        (mulf (F := Ideal) (broadcastInDim (M 2048 1024) ![0, 1] hb1 (extractStridedSlice (M 1 1024) ![2, 0] w hw2))
          (extractStridedSlice (M 2048 1024) ![2, 0] (concatenate (M 2050 1024) 0
            [⟨M 2 1024, broadcastInDim (M 2 1024) ![] hb (constant (F := Ideal) S0 .f32 0x00000000#32)⟩, ⟨M 2048 1024, x⟩] hcat) h2)) (ix2 r q) : EReal)
      = v P w r q := by
  have e := fun (k : Nat) (hk : k ≤ 2) (h : (M 2050 1024).Slices ![k, 0] (M 2048 1024)) =>
    (shifted_apply x hb hcat k hk h r q).trans (show _ = uAt P (2 - k) r q from if_congr Iff.rfl (hx _ _) rfl)
  have ew := fun (k : Nat) (hk : k < 3) (h : (M 3 1024).Slices ![k, 0] (M 1 1024)) => weight_apply w k hk h hb1 r q
  have h := add2 (add2 (add2 (zeros_apply hb0 (ix2 r q)) (mul2 (ew 0 (by omega) hw0) (e 0 (by omega) h0)))
    (mul2 (ew 1 (by omega) hw1) (e 1 (by omega) h1))) (mul2 (ew 2 (by omega) hw2) (e 2 (by omega) h2))
  refine h.trans ?_
  unfold v
  rw [show uAt P (2 - 2) r q = u P r q from uAt_zero P r q, zero_add, mul_comm (w (ix2 ⟨0, _⟩ q)), mul_comm (w (ix2 ⟨1, _⟩ q)), mul_comm (w (ix2 ⟨2, _⟩ q)),
    add_comm, ← add_assoc, add_right_comm]
  rfl

end Cert.ConvSpec

end
-- ==== Proof.ConvFwdReference.lean ====
/- The reference of the gated short convolution: its two results, index by index. -/
module

public import proofs.«01_k».proof.Proof.Gen.ConvFwdRefIdeal.Read
public import proofs.«01_k».proof.Proof.ConvHost

@[expose] public section

set_option maxRecDepth 16384

noncomputable section

namespace Cert.ConvFwdRefIdeal.RefValue

open Cert.ConvFwdRefIdeal Cert.ConvFwdRefIdeal.Gen Cert.ConvFwdRefIdeal.Read Cert.ConvSpec Cert.Rows
open Idealize.ShloMosaic Idealize.ShloMosaic.TcCoe Idealize.ShloMosaic.ValueIdx Idealize.SL.Sem

variable (P : (M 2048 3072).Idx → EReal) (w : (M 3 1024).Idx → EReal)

theorem v4_at (r : Fin 2048) (q : Fin 1024) : (val_main_v4 (F := Ideal) P (ix2 r q) : EReal) = gB P r q := by
  rw [val_main_v4_apply]; exact congrArg P (ix2_of _ _ _ rfl rfl)

theorem v7_at (r : Fin 2048) (q : Fin 1024) : (val_main_v7 (F := Ideal) P (ix2 r q) : EReal) = u P r q := by
  rw [val_main_v7_apply, val_main_v5_apply, val_main_v6_apply]
  exact mul2 (congrArg P (ix2_of _ _ _ rfl rfl)) (congrArg P (ix2_of _ _ _ rfl rfl))

theorem v28_at (r : Fin 2048) (q : Fin 1024) : (val_main_v28 (F := Ideal) P (ix2 r q) : EReal) = u P r q := by
  rw [val_main_v28_apply, val_main_v2_apply, val_main_v3_apply]
  exact mul2 (congrArg P (ix2_of _ _ _ rfl rfl)) (congrArg P (ix2_of _ _ _ rfl rfl))

theorem v27_eq : val_main_v27 (F := Ideal) P w = fun i : S2048x1024.Idx => o P w (i 0) (i 1) := by
  refine funext fun y => ?_
  obtain ⟨r, q, rfl⟩ : ∃ (r : Fin 2048) (q : Fin 1024), y = ix2 r q := ⟨y 0, y 1, eq_ix2 y⟩
  exact mul2 (v4_at P r q) (host_conv_apply P w _ (v7_at P) _ _ _ _ _ _ _ _ _ _ r q)

theorem v47_eq : val_main_v47 (F := Ideal) P w = fun i : S2048x1024.Idx => v P w (i 0) (i 1) := by
  refine funext fun y => ?_
  obtain ⟨r, q, rfl⟩ : ∃ (r : Fin 2048) (q : Fin 1024), y = ix2 r q := ⟨y 0, y 1, eq_ix2 y⟩
  exact host_conv_apply P w _ (v28_at P) _ _ _ _ _ _ _ _ _ _ r q

end Cert.ConvFwdRefIdeal.RefValue

end
-- ==== Proof.ConvBwdKernel.lean ====
/- The gradient call of the gated short convolution: what one column block computes, and what the two result arrays hold
   after the run. -/
module

public import proofs.«01_k».proof.Proof.Windows
public import proofs.«01_k».proof.Proof.Gen.ConvBwdIdeal.Value
public import proofs.«01_k».proof.Proof.ConvHost

@[expose] public section

set_option maxRecDepth 16384

noncomputable section

namespace Cert.ConvBwdIdeal.RefValue

open Cert.Windows Cert.ConvBwdIdeal Cert.ConvBwdIdeal.Gen Cert.ConvSpec Cert.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The projection. -/
abbrev aP (c : Dev nD) : (M 2048 3072).Idx → EReal := m ((c : Thread nD τ).loc main_arg0)
/-- The cotangent. -/
abbrev aD (c : Dev nD) : (M 2048 1024).Idx → EReal := m ((c : Thread nD τ).loc main_arg1)
/-- The weight. -/
abbrev aW (c : Dev nD) : (M 3 1024).Idx → EReal := m ((c : Thread nD τ).loc main_arg2)

/-! ## The blocks read -/

theorem idx_facts : ∀ t : Fin cfg0.N, win0_0.index t (0 : Fin 2) = 0 ∧ win0_0.index t (1 : Fin 2) = t.val
    ∧ win0_1.index t (0 : Fin 2) = 0 ∧ win0_1.index t (1 : Fin 2) = t.val + 4
    ∧ win0_2.index t (0 : Fin 2) = 0 ∧ win0_2.index t (1 : Fin 2) = t.val + 8
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 3) = 0 ∧ win0_6.index t (1 : Fin 3) = 0 ∧ win0_6.index t (2 : Fin 3) = t.val
    ∧ win0_7.index t (0 : Fin 2) = 0 ∧ win0_7.index t (1 : Fin 2) = t.val :=
  (by decide +kernel : ∀ t : Fin grid0.N, _)

theorem point_lt (t : Fin cfg0.N) : t.val < 4 := lt_of_lt_of_eq t.isLt N_0

/-- Column `q` of block `t`. -/
def col (t : Fin cfg0.N) (q : Fin 256) : Fin 1024 := ⟨t.val * 256 + q.val, by have := point_lt t; omega⟩

theorem iblk0_apply (c : Dev nD) (t : Fin cfg0.N) (r : Fin 2048) (q : Fin 256) : iblk m c 0 t (ix2 r q) = gB (aP m c) r (col t q) := by
  show V m c main_arg0 ((win0_0.rect t).emb (ix2 r q)) = _
  rw [V_main_arg0]
  obtain ⟨h0, h1, -⟩ := idx_facts t
  refine congrArg (aP m c) (ix2_of _ _ _ ?_ ?_)
  · exact embAt win0_0 t 0 2048 r.val h0 (by omega)
  · exact embAt win0_0 t 1 256 q.val h1 rfl

theorem iblk1_apply (c : Dev nD) (t : Fin cfg0.N) (r : Fin 2048) (q : Fin 256) : iblk m c 1 t (ix2 r q) = gC (aP m c) r (col t q) := by
  show V m c main_arg0 ((win0_1.rect t).emb (ix2 r q)) = _
  rw [V_main_arg0]
  obtain ⟨-, -, h0, h1, -⟩ := idx_facts t
  refine congrArg (aP m c) (ix2_of _ _ _ ?_ ?_)
  · exact embAt win0_1 t 0 2048 r.val h0 (by omega)
  · exact embAt win0_1 t 1 256 q.val (n := 1024 + (t.val * 256 + q.val)) h1 (by omega)

theorem iblk2_apply (c : Dev nD) (t : Fin cfg0.N) (r : Fin 2048) (q : Fin 256) : iblk m c 2 t (ix2 r q) = gX (aP m c) r (col t q) := by
  show V m c main_arg0 ((win0_2.rect t).emb (ix2 r q)) = _
  rw [V_main_arg0]
  obtain ⟨-, -, -, -, h0, h1, -⟩ := idx_facts t
  refine congrArg (aP m c) (ix2_of _ _ _ ?_ ?_)
  · exact embAt win0_2 t 0 2048 r.val h0 (by omega)
  · exact embAt win0_2 t 1 256 q.val (n := 2048 + (t.val * 256 + q.val)) h1 (by omega)

/-- The saved convolution, which the host's lines compute before the call. -/
theorem saved_apply (c : Dev nD) (r : Fin 2048) (q : Fin 1024) : V m c main_v23 (ix2 r q) = v (aP m c) (aW m c) r q := by
  have h := host_conv_apply (aP m c) (aW m c)
    (mulf (F := Ideal) (φ := .f32) (extractStridedSlice S2048x1024 ![0, 1024] (extf (F := Ideal) (φ := .bf16) .f32 (aP m c) bitsLt_bf16_f32) slices_S2048x3072_S2048x1024_0_1024)
      (extractStridedSlice S2048x1024 ![0, 2048] (extf (F := Ideal) (φ := .bf16) .f32 (aP m c) bitsLt_bf16_f32) slices_S2048x3072_S2048x1024_0_2048))
    (fun r q => mul2
      ((slice_apply 0 1024 _ slices_S2048x3072_S2048x1024_0_1024 r q (by omega) (by omega)).trans (congrArg (aP m c) (ix2_of _ _ _ (Nat.zero_add _) rfl)))
      ((slice_apply 0 2048 _ slices_S2048x3072_S2048x1024_0_2048 r q (by omega) (by omega)).trans (congrArg (aP m c) (ix2_of _ _ _ (Nat.zero_add _) rfl))))
    bcast_S_S2048x1024 bcast_S_S2x1024 bcast_S1x1024_S2048x1024_0_1 concatenates_S2x1024_S2048x1024_S2050x1024_d0
    slices_S3x1024_S1x1024_0_0 slices_S3x1024_S1x1024_1_0 slices_S3x1024_S1x1024_2_0
    slices_S2050x1024_S2048x1024_0_0 slices_S2050x1024_S2048x1024_1_0 slices_S2050x1024_S2048x1024_2_0 r q
  refine Eq.trans (congrFun ?_ _) h
  show StableHlo.after hostOps0 (fun b => m (c, b)) main_v23 = _
  after_results_simp <;> rfl

theorem iblk3_apply (c : Dev nD) (t : Fin cfg0.N) (r : Fin 2048) (q : Fin 256) : iblk m c 3 t (ix2 r q) = v (aP m c) (aW m c) r (col t q) := by
  show V m c main_v23 ((win0_3.rect t).emb (ix2 r q)) = _
  obtain ⟨-, -, -, -, -, -, h0, h1, -⟩ := idx_facts t
  rw [← saved_apply]
  refine congrArg (V m c main_v23) (ix2_of _ _ _ ?_ ?_)
  · exact embAt win0_3 t 0 2048 r.val h0 (by omega)
  · exact embAt win0_3 t 1 256 q.val h1 rfl

theorem iblk4_apply (c : Dev nD) (t : Fin cfg0.N) (r : Fin 2048) (q : Fin 256) : iblk m c 4 t (ix2 r q) = aD m c (ix2 r (col t q)) := by
  show V m c main_arg1 ((win0_4.rect t).emb (ix2 r q)) = _
  rw [V_main_arg1]
  obtain ⟨-, -, -, -, -, -, -, -, h0, h1, -⟩ := idx_facts t
  refine congrArg (aD m c) (ix2_of _ _ _ ?_ ?_)
  · exact embAt win0_4 t 0 2048 r.val h0 (by omega)
  · exact embAt win0_4 t 1 256 q.val h1 rfl

theorem iblk5_apply (c : Dev nD) (t : Fin cfg0.N) (k : Fin 3) (q : Fin 256) : iblk m c 5 t (ix2 k q) = aW m c (ix2 k (col t q)) := by
  show V m c main_arg2 ((win0_5.rect t).emb (ix2 k q)) = _
  rw [V_main_arg2]
  obtain ⟨-, -, -, -, -, -, -, -, -, -, h0, h1, -⟩ := idx_facts t
  refine congrArg (aW m c) (ix2_of _ _ _ ?_ ?_)
  · exact embAt win0_5 t 0 3 k.val h0 (by omega)
  · exact embAt win0_5 t 1 256 q.val h1 rfl

/-- A row of the weight's block, loaded. -/
theorem ld_row (x : Vec Ideal S3x256 .f32) (k : Nat) (hk : k < 3) (inb : ∀ a, (![k, 0] : Fin 2 → Nat) a + S1x256.size a ≤ S3x256.size a) (q : Fin 256) :
    View.ld x (Rect.unit (s := S3x256) ![k, 0] S1x256.size inb) (ix2 (0 : Fin 1) q) = x (ix2 ⟨k, hk⟩ q) := by
  show x ((Rect.unit (s := S3x256) ![k, 0] S1x256.size inb).emb (ix2 (0 : Fin 1) q)) = _
  refine congrArg x (ix2_of _ _ _ ?_ ?_) <;> rw [Rect.emb_apply]
  · show k + 1 * 0 = k; omega
  · show 0 + 1 * q.val = q.val; omega

/-! ## The pieces the body leaves -/

theorem hz : (![0, 0] : Fin 2 → Nat) = fun _ => 0 := funext fun a => by fin_cases a <;> rfl

theorem ld_whole (x : Vec Ideal S2048x256 .bf16) (inb : ∀ a, (![0, 0] : Fin 2 → Nat) a + S2048x256.size a ≤ S2048x256.size a) :
    View.ld x (Rect.unit (s := S2048x256) ![0, 0] S2048x256.size inb) = x := View.ld_unit_zero hz inb x

theorem ld_lit (x : Vec Ideal S2048x256 .bf16) :
    View.ld x (Rect.unit (s := S2048x256) ![0, 0] ![2048, 256] inb_S2048x256_S2048x256_0_0) = x := View.ld_unit_zero hz _ x

section Pieces

variable (xB xC xX xV xD : Vec Ideal S2048x256 .bf16) (w2 w1 w0 : Vec Ideal S1x256 .f32)

/-- The convolution's cotangent as the body holds it. -/
abbrev bDv : FVec Ideal S2048x256 .f32 := k0_pay7 (F := Ideal) xD xB
/-- The convolution operand's cotangent as the body holds it. -/
abbrev bDu : FVec Ideal S2048x256 .f32 :=
  k0_pay18 (F := Ideal) (k0_pay7 xD xB) (k0_pay10 xD xB w2) (k0_pay12 xD xB) k0_pay13 (k0_pay14 xD xB) w1 w0

/-- The pieces of the projection's cotangent, last first. -/
abbrev L6 : List (View.Piece (Elt Ideal) S3x2048x256 .bf16) :=
  [⟨Rect.unit (s := S3x2048x256) ![2, 0, 0] S1x2048x256.size inb_S3x2048x256_S1x2048x256_2_0_0,
      k0_pay1 (F := Ideal) (k0_pay21 (k0_pay2 xC) (k0_pay7 xD xB) (k0_pay10 xD xB w2) (k0_pay12 xD xB) k0_pay13 (k0_pay14 xD xB) w1 w0)⟩,
   ⟨Rect.unit (s := S3x2048x256) ![1, 0, 0] S1x2048x256.size inb_S3x2048x256_S1x2048x256_1_0_0,
      k0_pay20 (F := Ideal) (k0_pay3 xX) (k0_pay7 xD xB) (k0_pay10 xD xB w2) (k0_pay12 xD xB) k0_pay13 (k0_pay14 xD xB) w1 w0⟩,
   ⟨Rect.unit (s := S3x2048x256) ![0, 0, 0] S1x2048x256.size inb_S3x2048x256_S1x2048x256_0_0_0, k0_pay6 (F := Ideal) xD xV⟩]

/-- The pieces of the weight's cotangent, last first. -/
abbrev L7 : List (View.Piece (Elt Ideal) S8x256 .f32) :=
  [⟨Rect.unit (s := S8x256) ![0, 0] S1x256.size inb_S8x256_S1x256_0_0, k0_pay19 (F := Ideal) (k0_pay4 xC xX) (k0_pay7 xD xB)⟩,
   ⟨Rect.unit (s := S8x256) ![1, 0] S1x256.size inb_S8x256_S1x256_1_0,
      k0_pay16 (F := Ideal) (k0_pay4 xC xX) (k0_pay12 xD xB) k0_pay13 (k0_pay14 xD xB)⟩,
   ⟨Rect.unit (s := S8x256) ![2, 0] S1x256.size inb_S8x256_S1x256_2_0, k0_pay9 (F := Ideal) xC xX xD xB⟩,
   ⟨Rect.unit (s := S8x256) ![0, 0] S8x256.size inb_S8x256_S8x256_0_0, k0_pay8 (F := Ideal)⟩]

end Pieces

theorem pieces6 (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole)
    (arg7 : Memref sig .tc .vmem S3x2048x256 .bf16) (harg7 : arg7.IsWhole) (arg8 : Memref sig .tc .vmem S8x256 .f32) (harg8 : arg8.IsWhole)
    (x0 x1 x2 x3 x4 : Vec Ideal S2048x256 .bf16) (x5 : Vec Ideal S3x256 .f32) :
    (kernelRun0_A (F := Ideal) c i arg1 harg1 arg2 harg2 arg3 harg3 arg4 harg4 arg5 harg5 arg6 harg6 arg7 harg7 arg8 harg8 x0 x1 x2 x3 x4 x5).1
      = L6 x0 x1 x2 x3 x4 (View.ld x5 (Rect.unit (s := S3x256) ![2, 0] S1x256.size inb_S3x256_S1x256_2_0))
          (View.ld x5 (Rect.unit (s := S3x256) ![1, 0] S1x256.size inb_S3x256_S1x256_1_0))
          (View.ld x5 (Rect.unit (s := S3x256) ![0, 0] S1x256.size inb_S3x256_S1x256_0_0)) := by
  unfold kernelRun0_A
  dsimp only
  sl_unfold_words
  simp only [View.readAt_eq_ld, harg1.read_unread, harg2.read_unread, harg3.read_unread, harg4.read_unread, harg5.read_unread, harg6.read_unread, ld_whole]
  simp only [ld_lit]

theorem pieces7 (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole)
    (arg7 : Memref sig .tc .vmem S3x2048x256 .bf16) (harg7 : arg7.IsWhole) (arg8 : Memref sig .tc .vmem S8x256 .f32) (harg8 : arg8.IsWhole)
    (x0 x1 x2 x3 x4 : Vec Ideal S2048x256 .bf16) (x5 : Vec Ideal S3x256 .f32) :
    (kernelRun0_A (F := Ideal) c i arg1 harg1 arg2 harg2 arg3 harg3 arg4 harg4 arg5 harg5 arg6 harg6 arg7 harg7 arg8 harg8 x0 x1 x2 x3 x4 x5).2.1
      = L7 x0 x1 x2 x4 := by
  unfold kernelRun0_A
  dsimp only
  sl_unfold_words
  simp only [View.readAt_eq_ld, harg1.read_unread, harg2.read_unread, harg3.read_unread, harg4.read_unread, harg5.read_unread, harg6.read_unread, ld_whole]
  simp only [ld_lit]

/-! ## The pieces at an index -/

theorem lt_apply (n : BitVec 32) (hn : n.toNat < 8) (r : Fin 8) (q : Fin 256) :
    cmpi .slt (iota .tc S8x256 32 [0] iota_S8x256_d0_w32) (broadcast S8x256 n) (ix2 r q) = if r.val < n.toNat then 1#1 else 0#1 := by
  show IntOp.cmpi .slt (iota .tc S8x256 32 [0] iota_S8x256_d0_w32 (ix2 r q)) n = _
  rw [iota_single_apply]
  have key : ∀ (k : Fin 8) (r : Fin 8), IntOp.cmpi .slt (BitVec.ofNat 32 r.val) (BitVec.ofNat 32 k.val) = if r.val < k.val then 1#1 else 0#1 := by
    decide +kernel
  have e : n = BitVec.ofNat 32 n.toNat := by simp
  have := key ⟨n.toNat, hn⟩ r
  rw [← e] at this
  exact this

section Apply

variable (xB xC xX xV xD : Vec Ideal S2048x256 .bf16) (w2 w1 w0 : Vec Ideal S1x256 .f32)

/-- The convolution's cotangent `n` rows later within one block. -/
def sAt (n : Nat) (r : Fin 2048) (q : Fin 256) : EReal := if h : r.val + n < 2048 then xD (ix2 ⟨r.val + n, h⟩ q) * xB (ix2 ⟨r.val + n, h⟩ q) else (0 : EReal)

theorem up1_apply (r : Fin 2048) (q : Fin 256) :
    (k0_pay15 (F := Ideal) (k0_pay12 xD xB) k0_pay13 (k0_pay14 xD xB) (ix2 r q) : EReal) = sAt xB xD 1 r q := by
  have e := up_apply (a := 2048) (a8 := 2040) (b := 256) rfl 2047#32 1 rfl (by norm_num) (by norm_num)
    (k0_pay7 (F := Ideal) xD xB) (Scalar.ofBits (F := Ideal) .f32 0x00000000#32) _
    (lt_apply 7#32 (by decide)) rotates_S2048x256_d0 slices_S2048x256_o0_0_S2040x256 slices_S2048x256_o2040_0_S8x256
    concatenates_S2040x256_S8x256_S2048x256_d0 r q
  refine Eq.trans e ?_
  unfold sAt
  split_ifs with h
  · rfl
  · exact zero_word

theorem up2_apply (r : Fin 2048) (q : Fin 256) : (k0_pay17 (F := Ideal) (k0_pay7 xD xB) (ix2 r q) : EReal) = sAt xB xD 2 r q := by
  have e := up_apply (a := 2048) (a8 := 2040) (b := 256) rfl 2046#32 2 rfl (by norm_num) (by norm_num)
    (k0_pay7 (F := Ideal) xD xB) (Scalar.ofBits (F := Ideal) .f32 0x00000000#32) _
    (lt_apply 6#32 (by decide)) rotates_S2048x256_d0 slices_S2048x256_o0_0_S2040x256 slices_S2048x256_o2040_0_S8x256
    concatenates_S2040x256_S8x256_S2048x256_d0 r q
  refine Eq.trans e ?_
  unfold sAt
  split_ifs with h
  · rfl
  · exact zero_word

theorem up0_apply (r : Fin 2048) (q : Fin 256) : (k0_pay7 (F := Ideal) xD xB (ix2 r q) : EReal) = sAt xB xD 0 r q := by
  unfold sAt; rw [dif_pos (by omega)]; rfl

/-- The operand's cotangent within one block. -/
def sDu (r : Fin 2048) (q : Fin 256) : EReal := sAt xB xD 0 r q * w2 (ix2 0 q) + sAt xB xD 1 r q * w1 (ix2 0 q) + sAt xB xD 2 r q * w0 (ix2 0 q)

theorem du_apply (r : Fin 2048) (q : Fin 256) :
    (k0_pay18 (F := Ideal) (k0_pay7 xD xB) (k0_pay10 xD xB w2) (k0_pay12 xD xB) k0_pay13 (k0_pay14 xD xB) w1 w0 (ix2 r q) : EReal)
      = sDu xB xD w2 w1 w0 r q := by
  have b := fun x : Vec Ideal S1x256 .f32 => broadcastRow_apply (a := 2048) x broadcasts_S1x256_S2048x256 r q
  exact add2 (add2 (mul2 (up0_apply xB xD r q) (b w2)) (mul2 (up1_apply xB xD r q) (b w1))) (mul2 (up2_apply xB xD r q) (b w0))

/-- The projection's cotangent within one block. -/
def sDp (k : Fin 3) (r : Fin 2048) (q : Fin 256) : EReal :=
  match k with
  | 0 => xD (ix2 r q) * xV (ix2 r q)
  | 1 => sDu xB xD w2 w1 w0 r q * xX (ix2 r q)
  | 2 => sDu xB xD w2 w1 w0 r q * xC (ix2 r q)

theorem hit6 (k : Nat) (hk : k < 3) (inb) (w : S1x2048x256.Idx → Elt Ideal .bf16) (L : List (View.Piece (Elt Ideal) S3x2048x256 .bf16)) (r : Fin 2048) (q : Fin 256) :
    View.canon (⟨Rect.unit (s := S3x2048x256) ![k, 0, 0] S1x2048x256.size inb, w⟩ :: L) (ix3 (⟨k, hk⟩ : Fin 3) r q) = w (ix3 (0 : Fin 1) r q) := by
  have e : (ix3 (⟨k, hk⟩ : Fin 3) r q : S3x2048x256.Idx) = (Rect.unit (s := S3x2048x256) ![k, 0, 0] S1x2048x256.size inb).emb (ix3 (0 : Fin 1) r q) := by
    refine funext fun d => Fin.ext ?_
    rw [Rect.emb_apply]
    match d with
    | ⟨0, _⟩ => show k = k + 1 * 0; omega
    | ⟨1, _⟩ => show r.val = 0 + 1 * r.val; omega
    | ⟨2, _⟩ => show q.val = 0 + 1 * q.val; omega
  exact (congrArg _ e).trans (View.canon_cons_emb (Rect.unit (s := S3x2048x256) ![k, 0, 0] S1x2048x256.size inb) w L (ix3 (0 : Fin 1) r q))

theorem miss6 (k : Nat) (k' : Fin 3) (hne : k'.val ≠ k) (inb) (w : S1x2048x256.Idx → Elt Ideal .bf16) (L : List (View.Piece (Elt Ideal) S3x2048x256 .bf16)) (r : Fin 2048) (q : Fin 256) :
    View.canon (⟨Rect.unit (s := S3x2048x256) ![k, 0, 0] S1x2048x256.size inb, w⟩ :: L) (ix3 k' r q) = View.canon L (ix3 k' r q) := by
  refine View.canon_cons_of_not_mem _ L ?_
  intro hm
  obtain ⟨x, hx⟩ := (Rect.unit (s := S3x2048x256) ![k, 0, 0] S1x2048x256.size inb).exists_idx_of_mem hm
  have h := congrArg (fun i : S3x2048x256.Idx => (i 0).val) hx
  have hx0 : (x 0).val < 1 := (x 0).isLt
  have h' : k + 1 * (x 0).val = k'.val := h
  omega

theorem canon6_apply (k : Fin 3) (r : Fin 2048) (q : Fin 256) :
    (View.canon (L6 xB xC xX xV xD w2 w1 w0) (ix3 k r q) : EReal) = sDp xB xC xX xV xD w2 w1 w0 k r q := by
  match k with
  | ⟨0, _⟩ =>
    refine (miss6 2 _ (by norm_num) _ _ _ r q).trans ((miss6 1 _ (by norm_num) _ _ _ r q).trans ((hit6 0 (by norm_num) _ _ _ r q).trans ?_))
    unfold k0_pay6 k0_pay5
    rw [shapeCast_self]
    have e := shapeCast_ab_1ab_apply (a := 2048) (b := 256) (fun i => ((xD i : EReal) * (xV i : EReal) : EReal)) shapeCasts_S2048x256_S1x2048x256 0 r q
    exact e
  | ⟨1, _⟩ =>
    refine (miss6 2 _ (by norm_num) _ _ _ r q).trans ((hit6 1 (by norm_num) _ _ _ r q).trans ?_)
    have e := shapeCast_ab_1ab_apply (a := 2048) (b := 256) (fun i => ((bDu xB xD w2 w1 w0 i : EReal) * (xX i : EReal) : EReal)) shapeCasts_S2048x256_S1x2048x256 0 r q
    exact Eq.trans e (mul2 (du_apply xB xD w2 w1 w0 r q) rfl)
  | ⟨2, _⟩ =>
    refine (hit6 2 (by norm_num) _ _ _ r q).trans ?_
    have e := shapeCast_ab_1ab_apply (a := 2048) (b := 256) (fun i => ((bDu xB xD w2 w1 w0 i : EReal) * (xC i : EReal) : EReal)) shapeCasts_S2048x256_S1x2048x256 0 r q
    exact Eq.trans e (mul2 (du_apply xB xD w2 w1 w0 r q) rfl)

/-- The weight's cotangent within one block. -/
def sDw (k : Fin 8) (q : Fin 256) : EReal :=
  if k.val < 3 then ∑ r : Fin 2048, sAt xB xD (2 - k.val) r q * (xC (ix2 r q) * xX (ix2 r q)) else (0 : EReal)

theorem hit7 (k : Nat) (hk : k < 8) (inb) (w : S1x256.Idx → Elt Ideal .f32) (L : List (View.Piece (Elt Ideal) S8x256 .f32)) (q : Fin 256) :
    View.canon (⟨Rect.unit (s := S8x256) ![k, 0] S1x256.size inb, w⟩ :: L) (ix2 (⟨k, hk⟩ : Fin 8) q) = w (ix2 (0 : Fin 1) q) := by
  have e : (ix2 (⟨k, hk⟩ : Fin 8) q : S8x256.Idx) = (Rect.unit (s := S8x256) ![k, 0] S1x256.size inb).emb (ix2 (0 : Fin 1) q) := by
    refine (ix2_of _ _ _ ?_ ?_).symm <;> rw [Rect.emb_apply]
    · show k + 1 * 0 = k; omega
    · show 0 + 1 * q.val = q.val; omega
  exact (congrArg _ e).trans (View.canon_cons_emb (Rect.unit (s := S8x256) ![k, 0] S1x256.size inb) w L (ix2 (0 : Fin 1) q))

theorem miss7 (k : Nat) (k' : Fin 8) (hne : k'.val ≠ k) (inb) (w : S1x256.Idx → Elt Ideal .f32) (L : List (View.Piece (Elt Ideal) S8x256 .f32)) (q : Fin 256) :
    View.canon (⟨Rect.unit (s := S8x256) ![k, 0] S1x256.size inb, w⟩ :: L) (ix2 k' q) = View.canon L (ix2 k' q) := by
  refine View.canon_cons_of_not_mem _ L ?_
  intro hm
  obtain ⟨x, hx⟩ := (Rect.unit (s := S8x256) ![k, 0] S1x256.size inb).exists_idx_of_mem hm
  have h := congrArg (fun i : S8x256.Idx => (i 0).val) hx
  have hx0 : (x 0).val < 1 := (x 0).isLt
  have h' : k + 1 * (x 0).val = k'.val := h
  omega

theorem canon7_apply (k : Fin 8) (q : Fin 256) : (View.canon (L7 xB xC xX xD) (ix2 k q) : EReal) = sDw xB xC xX xD k q := by
  by_cases h0 : k.val = 0
  · obtain rfl : k = ⟨0, by norm_num⟩ := Fin.ext h0
    refine (hit7 0 (by norm_num) _ _ _ q).trans ?_
    exact (colSum_apply (a := 2048) (b := 256) _ _ _ _ _ _ _).trans (Finset.sum_congr rfl fun r _ => mul2 (up2_apply xB xD r q) rfl)
  by_cases h1 : k.val = 1
  · obtain rfl : k = ⟨1, by norm_num⟩ := Fin.ext h1
    refine (miss7 0 _ h0 _ _ _ q).trans ((hit7 1 (by norm_num) _ _ _ q).trans ?_)
    exact (colSum_apply (a := 2048) (b := 256) _ _ _ _ _ _ _).trans (Finset.sum_congr rfl fun r _ => mul2 (up1_apply xB xD r q) rfl)
  by_cases h2 : k.val = 2
  · obtain rfl : k = ⟨2, by norm_num⟩ := Fin.ext h2
    refine (miss7 0 _ h0 _ _ _ q).trans ((miss7 1 _ h1 _ _ _ q).trans ((hit7 2 (by norm_num) _ _ _ q).trans ?_))
    exact (colSum_apply (a := 2048) (b := 256) _ _ _ _ _ _ _).trans (Finset.sum_congr rfl fun r _ => mul2 (up0_apply xB xD r q) rfl)
  refine (miss7 0 _ h0 _ _ _ q).trans ((miss7 1 _ h1 _ _ _ q).trans ((miss7 2 _ h2 _ _ _ q).trans ?_))
  have e := congrFun (View.canon_unit_zero (Val := Elt Ideal) (S := S8x256) (e := .f32) hz inb_S8x256_S8x256_0_0 (k0_pay8 (F := Ideal))) (ix2 k q)
  refine Eq.trans e ?_
  unfold sDw
  rw [if_neg (by omega)]
  exact zero_word

end Apply

/-! ## The blocks written back -/

/-- The projection's cotangent as one array. -/
abbrev G6 (c : Dev nD) : Buf (Elt Ideal) ((c : Thread nD τ).loc main_v24_0) := fun i : S3x2048x1024.Idx => dp (aP m c) (aD m c) (aW m c) (i 0) (i 1) (i 2)

/-- The weight's cotangent as one array. -/
abbrev G7 (c : Dev nD) : Buf (Elt Ideal) ((c : Thread nD τ).loc main_v24_1) := fun i : S8x1024.Idx => dwRow (aP m c) (aD m c) (i 0) (i 1)

theorem sAt_block (c : Dev nD) (t : Fin cfg0.N) (n : Nat) (r : Fin 2048) (q : Fin 256) :
    sAt (iblk m c 0 t) (iblk m c 4 t) n r q = dvAt (aP m c) (aD m c) n r (col t q) := by
  unfold sAt dvAt
  split_ifs with h
  · exact mul2 (iblk4_apply m c t _ q) (iblk0_apply m c t _ q)
  · rfl

theorem sDu_block (c : Dev nD) (t : Fin cfg0.N) (r : Fin 2048) (q : Fin 256) :
    sDu (iblk m c 0 t) (iblk m c 4 t) (View.ld (iblk m c 5 t) (Rect.unit (s := S3x256) ![2, 0] S1x256.size inb_S3x256_S1x256_2_0))
      (View.ld (iblk m c 5 t) (Rect.unit (s := S3x256) ![1, 0] S1x256.size inb_S3x256_S1x256_1_0))
      (View.ld (iblk m c 5 t) (Rect.unit (s := S3x256) ![0, 0] S1x256.size inb_S3x256_S1x256_0_0)) r q
      = du (aP m c) (aD m c) (aW m c) r (col t q) := by
  unfold sDu du
  rw [ld_row _ 2 (by norm_num), ld_row _ 1 (by norm_num), ld_row _ 0 (by norm_num), sAt_block, sAt_block, sAt_block, dvAt_zero]
  exact add2 (add2 (mul2 rfl (iblk5_apply m c t 2 q)) (mul2 rfl (iblk5_apply m c t 1 q))) (mul2 rfl (iblk5_apply m c t 0 q))

theorem emb6 (t : Fin cfg0.N) (k : Fin 3) (r : Fin 2048) (q : Fin 256) : (win0_6.rect t).emb (ix3 k r q) = ix3 k r (col t q) := by
  obtain ⟨-, -, -, -, -, -, -, -, -, -, -, -, h0, h1, h2, -⟩ := idx_facts t
  refine funext fun a => Fin.ext ?_
  match a with
  | ⟨0, _⟩ => exact embAt win0_6 t 0 3 k.val (n := k.val) h0 (by omega)
  | ⟨1, _⟩ => exact embAt win0_6 t 1 2048 r.val (n := r.val) h1 (by omega)
  | ⟨2, _⟩ => exact embAt win0_6 t 2 256 q.val (n := t.val * 256 + q.val) h2 rfl

theorem emb7 (t : Fin cfg0.N) (k : Fin 8) (q : Fin 256) : (win0_7.rect t).emb (ix2 k q) = ix2 k (col t q) := by
  obtain ⟨-, -, -, -, -, -, -, -, -, -, -, -, -, -, -, h0, h1⟩ := idx_facts t
  refine ix2_of _ _ _ ?_ ?_
  · exact embAt win0_7 t 0 8 k.val h0 (by omega)
  · exact embAt win0_7 t 1 256 q.val h1 rfl

theorem flushed6_eq (c : Dev nD) (t : Fin cfg0.N) :
    (dats m 0 c).flushed 6 t = ((cfg0.win 6).blk t).view.read (Elt Ideal) (G6 m c) := by
  rw [Value.flushed6_A]
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)),
    pieces6]
  refine funext fun y => ?_
  obtain ⟨k, r, q, rfl⟩ : ∃ (k : Fin 3) (r : Fin 2048) (q : Fin 256), y = ix3 k r q := ⟨y 0, y 1, y 2, eq_ix3 y⟩
  show _ = G6 m c ((win0_6.rect t).emb (ix3 k r q))
  rw [emb6]
  refine Eq.trans (canon6_apply _ _ _ _ _ _ _ _ k r q) ?_
  show _ = dp (aP m c) (aD m c) (aW m c) k r (col t q)
  unfold sDp dp
  match k with
  | 0 => exact mul2 (iblk4_apply m c t r q) (iblk3_apply m c t r q)
  | 1 => exact mul2 (sDu_block m c t r q) (iblk2_apply m c t r q)
  | 2 => exact mul2 (sDu_block m c t r q) (iblk1_apply m c t r q)

theorem flushed7_eq (c : Dev nD) (t : Fin cfg0.N) :
    (dats m 0 c).flushed 7 t = ((cfg0.win 7).blk t).view.read (Elt Ideal) (G7 m c) := by
  rw [Value.flushed7_A]
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)),
    pieces7]
  refine funext fun y => ?_
  obtain ⟨k, q, rfl⟩ : ∃ (k : Fin 8) (q : Fin 256), y = ix2 k q := ⟨y 0, y 1, eq_ix2 y⟩
  show _ = G7 m c ((win0_7.rect t).emb (ix2 k q))
  rw [emb7]
  refine Eq.trans (canon7_apply _ _ _ _ k q) ?_
  show _ = dwRow (aP m c) (aD m c) k (col t q)
  unfold sDw dwRow dw u
  refine if_congr Iff.rfl (Finset.sum_congr rfl fun r _ => mul2 (sAt_block m c t _ r q) (mul2 (iblk1_apply m c t r q) (iblk2_apply m c t r q))) rfl

theorem cover6 (i : S3x2048x1024.Idx) : ∃ t : Fin cfg0.N, (cfg0.win 6).flush t = true ∧ i ∈ ((cfg0.win 6).blk t).view.set := by
  obtain ⟨k, r, q, rfl⟩ : ∃ (k : Fin 3) (r : Fin 2048) (q : Fin 1024), i = ix3 k r q := ⟨i 0, i 1, i 2, eq_ix3 i⟩
  have ht : q.val / 256 < cfg0.N := by show _ < grid0.N; rw [N_0]; omega
  refine ⟨⟨q.val / 256, ht⟩, flush0_6 _, ?_⟩
  have e : (ix3 k r q : S3x2048x1024.Idx) = (win0_6.rect ⟨q.val / 256, ht⟩).emb (ix3 k r (⟨q.val % 256, Nat.mod_lt _ (by norm_num)⟩ : Fin 256)) := by
    rw [emb6]
    exact congrArg (ix3 k r) (Fin.ext (by show q.val = q.val / 256 * 256 + q.val % 256; omega))
  rw [e]
  exact View.emb_mem_set _ _

theorem cover7 (i : S8x1024.Idx) : ∃ t : Fin cfg0.N, (cfg0.win 7).flush t = true ∧ i ∈ ((cfg0.win 7).blk t).view.set := by
  obtain ⟨k, q, rfl⟩ : ∃ (k : Fin 8) (q : Fin 1024), i = ix2 k q := ⟨i 0, i 1, eq_ix2 i⟩
  have ht : q.val / 256 < cfg0.N := by show _ < grid0.N; rw [N_0]; omega
  refine ⟨⟨q.val / 256, ht⟩, flush0_7 _, ?_⟩
  have e : (ix2 k q : S8x1024.Idx) = (win0_7.rect ⟨q.val / 256, ht⟩).emb (ix2 k (⟨q.val % 256, Nat.mod_lt _ (by norm_num)⟩ : Fin 256)) := by
    rw [emb7]
    exact congrArg (ix2 k) (Fin.ext (by show q.val = q.val / 256 * 256 + q.val % 256; omega))
  rw [e]
  exact View.emb_mem_set _ _

/-- The run: both results in closed form, the arguments unchanged. -/
theorem run : θ_run defs (onTc (τ := τ) (main (F := Ideal))) ⟨m, fun _ => 0, ρ⟩ fun r => ∀ c : Dev nD,
      r.2.mem ((c : Thread nD τ).loc main_v24_0) = G6 m c ∧ r.2.mem ((c : Thread nD τ).loc main_v24_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 6 (G6 m c) (fun t _ => flushed6_eq m c t) cover6),
      (h c).2.1.trans ((dats m 0 c).arrAt_eq_of_cover 7 (G7 m c) (fun t _ => flushed7_eq m c t) cover7), (h c).2.2⟩)
    (Value.run_blocks m ρ)

end Cert.ConvBwdIdeal.RefValue

end
-- ==== Proof.ConvBwdReference.lean ====
/- The reference of the gated short convolution's gradient: its two results, index by index. -/
module

public import proofs.«01_k».proof.Proof.Gen.ConvBwdRefIdeal.Read
public import proofs.«01_k».proof.Proof.ConvHost

@[expose] public section

set_option maxRecDepth 16384

noncomputable section

namespace Cert.ConvBwdRefIdeal.RefValue

open Cert.ConvBwdRefIdeal Cert.ConvBwdRefIdeal.Gen Cert.ConvBwdRefIdeal.Read Cert.ConvSpec Cert.Rows
open Idealize.ShloMosaic Idealize.ShloMosaic.TcCoe Idealize.ShloMosaic.ValueIdx Idealize.SL.Sem

variable (P : (M 2048 3072).Idx → EReal) (dy : (M 2048 1024).Idx → EReal) (w : (M 3 1024).Idx → EReal)

theorem v1_at (r : Fin 2048) (q : Fin 1024) : (val_main_v1 (F := Ideal) P (ix2 r q) : EReal) = gB P r q := by
  rw [val_main_v1_apply]; exact congrArg P (ix2_of _ _ _ rfl rfl)

theorem v2_at (r : Fin 2048) (q : Fin 1024) : (val_main_v2 (F := Ideal) P (ix2 r q) : EReal) = gC P r q := by
  rw [val_main_v2_apply]; exact congrArg P (ix2_of _ _ _ rfl rfl)

theorem v3_at (r : Fin 2048) (q : Fin 1024) : (val_main_v3 (F := Ideal) P (ix2 r q) : EReal) = gX P r q := by
  rw [val_main_v3_apply]; exact congrArg P (ix2_of _ _ _ rfl rfl)

theorem v4_at (r : Fin 2048) (q : Fin 1024) : (val_main_v4 (F := Ideal) P (ix2 r q) : EReal) = u P r q :=
  mul2 (v2_at P r q) (v3_at P r q)

theorem v23_at (r : Fin 2048) (q : Fin 1024) : (val_main_v23 (F := Ideal) P w (ix2 r q) : EReal) = v P w r q :=
  host_conv_apply P w _ (v4_at P) _ _ _ _ _ _ _ _ _ _ r q

theorem v26_at (r : Fin 2048) (q : Fin 1024) : (val_main_v26 (F := Ideal) P dy (ix2 r q) : EReal) = dv P dy r q :=
  (mul2 (v1_at P r q) rfl).trans (mul_comm _ _)

/-- The three shifted operands. -/
theorem shifts_at (r : Fin 2048) (q : Fin 1024) : (val_main_v9 (F := Ideal) P (ix2 r q) : EReal) = uAt P 2 r q
    ∧ (val_main_v15 (F := Ideal) P (ix2 r q) : EReal) = uAt P 1 r q ∧ (val_main_v20 (F := Ideal) P (ix2 r q) : EReal) = uAt P 0 r q := by
  have e := fun (k : Nat) (hk : k ≤ 2) (h : (M 2050 1024).Slices ![k, 0] (M 2048 1024)) =>
    (shifted_apply (val_main_v4 (F := Ideal) P) bcast_S_S2x1024 concatenates_S2x1024_S2048x1024_S2050x1024_d0 k hk h r q).trans
      (show _ = uAt P (2 - k) r q from if_congr Iff.rfl (v4_at P _ _) rfl)
  exact ⟨e 0 (by omega) slices_S2050x1024_S2048x1024_0_0, e 1 (by omega) slices_S2050x1024_S2048x1024_1_0, e 2 (by omega) slices_S2050x1024_S2048x1024_2_0⟩

/-- One weight row times the convolution's cotangent. -/
theorem scaled_at (r : Fin 2048) (q : Fin 1024) : (val_main_v29 (F := Ideal) P dy w (ix2 r q) : EReal) = dv P dy r q * w (ix2 2 q)
    ∧ (val_main_v36 (F := Ideal) P dy w (ix2 r q) : EReal) = dv P dy r q * w (ix2 1 q)
    ∧ (val_main_v45 (F := Ideal) P dy w (ix2 r q) : EReal) = dv P dy r q * w (ix2 0 q) :=
  ⟨(mul2 (weight_apply w 2 (by omega) _ _ r q) (v26_at P dy r q)).trans (mul_comm _ _),
   (mul2 (weight_apply w 1 (by omega) _ _ r q) (v26_at P dy r q)).trans (mul_comm _ _),
   (mul2 (weight_apply w 0 (by omega) _ _ r q) (v26_at P dy r q)).trans (mul_comm _ _)⟩

/-- The operand's cotangent. -/
theorem v54_at (r : Fin 2048) (q : Fin 1024) : (val_main_v54 (F := Ideal) P dy w (ix2 r q) : EReal) = du P dy w r q := by
  have hr := r.isLt
  have e0 := padRows_apply 2 0 (val_main_v29 (F := Ideal) P dy w) (val_main_cst_3 (F := Ideal)) pads_S2048x1024_S2050x1024_200_000 h_S_ ⟨2 + r.val, by omega⟩ q
  have e1 := padRows_apply 1 1 (val_main_v36 (F := Ideal) P dy w) (val_main_cst_6 (F := Ideal)) pads_S2048x1024_S2050x1024_110_000 h_S_ ⟨2 + r.val, by omega⟩ q
  have e2 := padRows_apply 0 2 (val_main_v45 (F := Ideal) P dy w) (val_main_cst_9 (F := Ideal)) pads_S2048x1024_S2050x1024_020_000 h_S_ ⟨2 + r.val, by omega⟩ q
  rw [dif_pos (by dsimp only; omega)] at e0
  have f0 : (_ : EReal) = dv P dy r q * w (ix2 2 q) :=
    e0.trans ((scaled_at P dy w _ q).1.trans (mul2 (congrArg (fun k => dv P dy k q) (Fin.ext (by show 2 + r.val - 2 = r.val; omega))) rfl))
  have f1 := e1.trans (show _ = dvAt P dy 1 r q * w (ix2 1 q) by
    unfold dvAt
    split_ifs with h h' h'
    · exact (scaled_at P dy w _ q).2.1.trans (mul2 (congrArg (fun k => dv P dy k q) (Fin.ext (by show 2 + r.val - 1 = r.val + 1; omega))) rfl)
    · dsimp only at h; omega
    · dsimp only at h; omega
    · exact zero_word.trans (zero_mul _).symm)
  have f2 := e2.trans (show _ = dvAt P dy 2 r q * w (ix2 0 q) by
    unfold dvAt
    split_ifs with h h' h'
    · exact (scaled_at P dy w _ q).2.2.trans (mul2 (congrArg (fun k => dv P dy k q) (Fin.ext (by show 2 + r.val - 0 = r.val + 2; omega))) rfl)
    · dsimp only at h; omega
    · dsimp only at h; omega
    · exact zero_word.trans (zero_mul _).symm)
  rw [val_main_v54_apply, ix2_of (idx_main_v54 (ix2 r q)) ⟨2 + r.val, by omega⟩ q rfl rfl]
  exact add2 (add2 f0 f1) f2

/-- The three sums of the weight's cotangent. -/
theorem sums_at (q : Fin 1024) : (val_main_v32 (F := Ideal) P dy (ix2 0 q) : EReal) = dw P dy 0 q
    ∧ (val_main_v39 (F := Ideal) P dy (ix2 0 q) : EReal) = dw P dy 1 q ∧ (val_main_v48 (F := Ideal) P dy (ix2 0 q) : EReal) = dw P dy 2 q := by
  have z : ∀ x : EReal, (FloatOps.ofBits (F := Ideal) .f32 0x00000000#32 : EReal) + x = x := fun x => by rw [zero_word, zero_add]
  refine ⟨?_, ?_, ?_⟩
  · rw [val_main_v32_apply, val_main_v31_apply, ← sum_shift]
    refine (z _).trans (Finset.sum_congr rfl fun k _ => ?_)
    rw [ix2_of (idx_main_v31 (idx_main_v32 (ix2 0 q)) k) k q rfl (by show 0 * 1024 + q.val = q.val; omega)]
    exact mul2 (v26_at P dy k q) (shifts_at P k q).2.2
  · rw [val_main_v39_apply, val_main_v38_apply, ← sum_shift]
    refine (z _).trans (Finset.sum_congr rfl fun k _ => ?_)
    rw [ix2_of (idx_main_v38 (idx_main_v39 (ix2 0 q)) k) k q rfl (by show 0 * 1024 + q.val = q.val; omega)]
    exact mul2 (v26_at P dy k q) (shifts_at P k q).2.1
  · rw [val_main_v48_apply, val_main_v47_apply, ← sum_shift]
    refine (z _).trans (Finset.sum_congr rfl fun k _ => ?_)
    rw [ix2_of (idx_main_v47 (idx_main_v48 (ix2 0 q)) k) k q rfl (by show 0 * 1024 + q.val = q.val; omega)]
    exact mul2 (v26_at P dy k q) (shifts_at P k q).1

/-- A single row set at row `lo` of three. -/
theorem setRow (lo hi : Nat) (x : Vec Ideal (M 1 1024) .f32) (c : Vec Ideal S0 .f32) (h : (M 1 1024).Pads ![lo, 0] ![hi, 0] ![0, 0] (M 3 1024))
    (hu : 0 < S0.numel) (hc : (c (Shape.Idx.first hu) : EReal) = 0) (k : Fin 3) (q : Fin 1024) :
    (pad (M 3 1024) ![lo, 0] ![hi, 0] ![0, 0] x c h hu (ix2 k q) : EReal) = if k.val = lo then x (ix2 0 q) else (0 : EReal) := by
  rw [padRows_apply lo hi x c h hu k q]
  by_cases hk : k.val = lo
  · rw [dif_pos (by omega), if_pos hk]
    exact congrArg x (ix2_of _ _ _ (by show k.val - lo = 0; omega) rfl)
  · rw [dif_neg (by omega), if_neg hk, hc]

theorem v52_at (k : Fin 3) (q : Fin 1024) : (val_main_v52 (F := Ideal) P dy (ix2 k q) : EReal) = dw P dy (2 - k.val) q := by
  have e0 := setRow 2 0 (val_main_v32 (F := Ideal) P dy) (val_main_cst_4 (F := Ideal)) pads_S1x1024_S3x1024_200_000 h_S_ zero_word k q
  have e1 := setRow 1 1 (val_main_v39 (F := Ideal) P dy) (val_main_cst_7 (F := Ideal)) pads_S1x1024_S3x1024_110_000 h_S_ zero_word k q
  have e2 := setRow 0 2 (val_main_v48 (F := Ideal) P dy) (val_main_cst_10 (F := Ideal)) pads_S1x1024_S3x1024_020_000 h_S_ zero_word k q
  obtain ⟨s0, s1, s2⟩ := sums_at P dy q
  refine (add2 (add2 (e0.trans (if_congr Iff.rfl s0 rfl)) (e1.trans (if_congr Iff.rfl s1 rfl))) (e2.trans (if_congr Iff.rfl s2 rfl))).trans ?_
  match k with
  | 0 => simp
  | 1 => simp
  | 2 => simp

theorem v66_eq : val_main_v66 (F := Ideal) P dy = fun i : S8x1024.Idx => dwRow P dy (i 0) (i 1) := by
  refine funext fun y => ?_
  obtain ⟨k, q, rfl⟩ : ∃ (k : Fin 8) (q : Fin 1024), y = ix2 k q := ⟨y 0, y 1, eq_ix2 y⟩
  refine (padRows_apply 0 5 (val_main_v52 (F := Ideal) P dy) (val_main_call0_v0 (F := Ideal)) pads_S3x1024_S8x1024_050_000 h_S_ k q).trans ?_
  show _ = dwRow P dy k q
  unfold dwRow
  by_cases h : k.val < 3
  · rw [dif_pos (by omega), if_pos h]
    exact v52_at P dy _ q
  · rw [dif_neg (by omega), if_neg h, val_main_call0_v0_apply, val_main_c_apply]
    show (((0#32 : BitVec 32).toInt : ℝ) : EReal) = 0
    simp

/-- The joined cotangent read in each of its three spans. -/
theorem joined_at (r : Fin 2048) (q : Fin 1024) : (val_main_v58 (F := Ideal) P dy w (ix2 r q) : EReal) = dp P dy w 0 r q
    ∧ (val_main_v59 (F := Ideal) P dy w (ix2 r q) : EReal) = dp P dy w 1 r q ∧ (val_main_v60 (F := Ideal) P dy w (ix2 r q) : EReal) = dp P dy w 2 r q := by
  have piece := fun (k : Nat) hk x hx pre hpre (j : S2048x3072.Idx) (h0 : (j 0).val = r.val) (h1 : (j 1).val = pre + q.val) =>
    concatenate_apply_piece (t := S2048x3072) 1 [⟨S2048x1024, val_main_v27 (F := Ideal) P dy w⟩, ⟨S2048x1024, val_main_v56 (F := Ideal) P dy w⟩,
      ⟨S2048x1024, val_main_v55 (F := Ideal) P dy w⟩] concatenates_S2048x1024_S2048x1024_S2048x1024_S2048x3072_d1 j
      k hk S2048x1024 x hx rfl pre hpre (ix2 r q) (fun d hd => match d with | ⟨0, _⟩ => h0.symm | ⟨1, _⟩ => absurd rfl hd) h1.symm
  refine ⟨?_, ?_, ?_⟩
  · rw [val_main_v58_apply]
    exact (piece 0 (by show 0 < 3; omega) _ rfl 0 rfl _ rfl (Nat.zero_add _).symm).trans (mul2 rfl (v23_at P w r q))
  · rw [val_main_v59_apply]
    exact (piece 1 (by show 1 < 3; omega) _ rfl 1024 rfl _ rfl rfl).trans (mul2 (v54_at P dy w r q) (v3_at P r q))
  · rw [val_main_v60_apply]
    exact (piece 2 (by show 2 < 3; omega) _ rfl 2048 rfl _ rfl rfl).trans ((mul2 (v2_at P r q) (v54_at P dy w r q)).trans (mul_comm _ _))

theorem v65_eq : val_main_v65 (F := Ideal) P dy w = fun i : S3x2048x1024.Idx => dp P dy w (i 0) (i 1) (i 2) := by
  refine funext fun y => ?_
  obtain ⟨k, r, q, rfl⟩ : ∃ (k : Fin 3) (r : Fin 2048) (q : Fin 1024), y = ix3 k r q := ⟨y 0, y 1, y 2, eq_ix3 y⟩
  show (val_main_v64 (F := Ideal) P dy w (ix3 k r q) : EReal) = dp P dy w k r q
  have piece := fun (k : Nat) hk x hx (pre : Nat) hpre (j : S3x2048x1024.Idx) (h0 : (j 0).val = pre) (h1 : (j 1).val = r.val) (h2 : (j 2).val = q.val) =>
    concatenate_apply_piece (t := S3x2048x1024) 0 [⟨S1x2048x1024, val_main_v61 (F := Ideal) P dy w⟩, ⟨S1x2048x1024, val_main_v62 (F := Ideal) P dy w⟩,
      ⟨S1x2048x1024, val_main_v63 (F := Ideal) P dy w⟩] concatenates_S1x2048x1024_S1x2048x1024_S1x2048x1024_S3x2048x1024_d0 j
      k hk S1x2048x1024 x hx rfl pre hpre (ix3 (0 : Fin 1) r q)
      (fun d hd => match d with | ⟨0, _⟩ => absurd rfl hd | ⟨1, _⟩ => h1.symm | ⟨2, _⟩ => h2.symm) h0.symm
  have j := joined_at P dy w r q
  have e : ∀ i : S2048x1024.Idx, (i 0).val = r.val → (i 1).val = q.val → i = ix2 r q := fun i => ix2_of i r q
  match k with
  | 0 =>
    refine (piece 0 (by show 0 < 3; omega) _ rfl 0 rfl _ rfl rfl rfl).trans ?_
    rw [val_main_v61_apply, e (idx_main_v61 (ix3 0 r q)) rfl rfl]; exact j.1
  | 1 =>
    refine (piece 1 (by show 1 < 3; omega) _ rfl 1 rfl _ rfl rfl rfl).trans ?_
    rw [val_main_v62_apply, e (idx_main_v62 (ix3 0 r q)) rfl rfl]; exact j.2.1
  | 2 =>
    refine (piece 2 (by show 2 < 3; omega) _ rfl 2 rfl _ rfl rfl rfl).trans ?_
    rw [val_main_v63_apply, e (idx_main_v63 (ix3 0 r q)) rfl rfl]; exact j.2.2

end Cert.ConvBwdRefIdeal.RefValue

end
-- ==== Proof.Dots.lean ====
/- Products of two matrices read at an index, in the three ways the step contracts them, for a kernel's product into a
   zero accumulator and for the host's. -/
module

public import proofs.«01_k».proof.Proof.Rows
public import Idealize.ShloMosaic.Lib.MatmulPlain
public import Idealize.ShloMosaic.Lib.StackMember

@[expose] public section

noncomputable section

namespace Cert.Dots

open Idealize.ShloMosaic Idealize.ShloMosaic.ValueIdx Cert.Rows
open scoped BigOperators

/-- The dimension numbers of a product that contracts the rows of both operands. -/
def tn (M' K N : Nat) : DotDims (M K M') (M K N) (M M' N) where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, by show 0 < 2; decide, fun a => by fin_cases a <;> rfl⟩

section

variable {φ₁ φ₂ : FTy}

theorem tn_sum (M' K N : Nat) (x : FVec Ideal (M K M') φ₁) (y : FVec Ideal (M K N) φ₂) (r : Fin M') (c : Fin N) :
    (∑ k : (tn M' K N).contr.Idx, (x ((tn M' K N).lhsIdx (ix2 r c) k) : EReal) * (y ((tn M' K N).rhsIdx (ix2 r c) k) : EReal) : EReal)
      = ∑ k : Fin K, (x (ix2 k r) : EReal) * (y (ix2 k c) : EReal) := by
  rw [← Equiv.sum_comp (contrEquiv1 (tn M' K N) K rfl rfl).symm]
  refine Finset.sum_congr rfl fun k _ => ?_
  have hk := contrEquiv1_symm_val (tn M' K N) K rfl rfl k
  have el : (tn M' K N).lhsIdx (ix2 r c) ((contrEquiv1 (tn M' K N) K rfl rfl).symm k) = ix2 k r := ix2_of _ _ _ hk rfl
  have er : (tn M' K N).rhsIdx (ix2 r c) ((contrEquiv1 (tn M' K N) K rfl rfl).symm k) = ix2 k c := ix2_of _ _ _ hk rfl
  rw [el, er]

/-- A kernel's product over the rows of both operands. -/
theorem mm_tn (M' K N : Nat) (x : FVec Ideal (M K M') φ₁) (y : FVec Ideal (M K N) φ₂) (r : Fin M') (c : Fin N) :
    (matmul (tn M' K N) none x y (constant (M M' N) .f32 0x00000000#32) (ix2 r c) : EReal) = ∑ k : Fin K, (x (ix2 k r) : EReal) * (y (ix2 k c) : EReal) :=
  (Ideal.matmul_constant_zero_apply (tn M' K N) none x y (ix2 r c)).trans (tn_sum M' K N x y r c)

/-- The host's product over the rows of both operands. -/
theorem dg_tn (M' K N : Nat) (x : FVec Ideal (M K M') φ₁) (y : FVec Ideal (M K N) φ₂) (r : Fin M') (c : Fin N) :
    (Host.dotGeneral (tn M' K N) none x y (ix2 r c) : EReal) = ∑ k : Fin K, (x (ix2 k r) : EReal) * (y (ix2 k c) : EReal) := by
  show FloatOps.dotGeneral _ none _ x y (ix2 r c) = _
  exact (Ideal.dotGeneral_apply (tn M' K N) none HostSchedule.single x y (ix2 r c)).trans (tn_sum M' K N x y r c)

/-- A kernel's product of rows by columns. -/
theorem mm_nn (M' K N : Nat) (x : FVec Ideal (M M' K) φ₁) (y : FVec Ideal (M K N) φ₂) (r : Fin M') (c : Fin N) :
    (matmul (DotDims.plain M' K N) none x y (constant (M M' N) .f32 0x00000000#32) (ix2 r c) : EReal) = ∑ k : Fin K, (x (ix2 r k) : EReal) * (y (ix2 k c) : EReal) := by
  refine (Ideal.matmul_plain_apply none x y _ r c).trans ?_
  show Ideal.ofBits .f32 0x00000000#32 + _ = _
  rw [Ideal.ofBits_zero_f32, zero_add]

/-- The host's product of rows by columns. -/
theorem dg_nn (M' K N : Nat) (x : FVec Ideal (M M' K) φ₁) (y : FVec Ideal (M K N) φ₂) (r : Fin M') (c : Fin N) :
    (Host.dotGeneral (DotDims.plain M' K N) none x y (ix2 r c) : EReal) = ∑ k : Fin K, (x (ix2 r k) : EReal) * (y (ix2 k c) : EReal) :=
  Idealize.ShloMosaic.StackMember.dotGeneral_plain_apply none x y r c

/-- A kernel's product of rows by rows. -/
theorem mm_nt (M' K N : Nat) (x : FVec Ideal (M M' K) φ₁) (y : FVec Ideal (M N K) φ₂) (r : Fin M') (c : Fin N) :
    (matmul (DotDims.transposedRhs M' K N) none x y (constant (M M' N) .f32 0x00000000#32) (ix2 r c) : EReal) = ∑ k : Fin K, (x (ix2 r k) : EReal) * (y (ix2 c k) : EReal) := by
  refine (Ideal.matmul_transposedRhs_apply none x y _ r c).trans ?_
  show Ideal.ofBits .f32 0x00000000#32 + _ = _
  rw [Ideal.ofBits_zero_f32, zero_add]

/-- The host's product of rows by rows. -/
theorem dg_nt (M' K N : Nat) (x : FVec Ideal (M M' K) φ₁) (y : FVec Ideal (M N K) φ₂) (r : Fin M') (c : Fin N) :
    (Host.dotGeneral (DotDims.transposedRhs M' K N) none x y (ix2 r c) : EReal) = ∑ k : Fin K, (x (ix2 r k) : EReal) * (y (ix2 c k) : EReal) := by
  show FloatOps.dotGeneral _ none _ x y (ix2 r c) = _
  exact (Ideal.dotGeneral_apply (DotDims.transposedRhs M' K N) none HostSchedule.single x y (ix2 r c)).trans
    ((Ideal.matmul_constant_zero_apply (DotDims.transposedRhs M' K N) none x y (ix2 r c)).symm.trans (mm_nt M' K N x y r c))

end

/-- A sum over `n` groups of `K` is the sum over the groups of the sums within a group. -/
theorem sum_groups {n K L : Nat} (h : n * K = L) (f : Fin L → EReal) :
    ∑ k : Fin L, f k = ∑ s : Fin n, ∑ k : Fin K, f ⟨s.val * K + k.val, by
      have h1 := s.isLt; have h2 := k.isLt
      calc s.val * K + k.val < s.val * K + K := by omega
        _ = (s.val + 1) * K := by ring
        _ ≤ n * K := Nat.mul_le_mul_right _ h1
        _ = L := h⟩ := by
  subst h
  rw [← Equiv.sum_comp finProdFinEquiv, Fintype.sum_prod_type]
  refine Finset.sum_congr rfl fun s _ => Finset.sum_congr rfl fun k _ => congrArg f (Fin.ext ?_)
  show k.val + K * s.val = s.val * K + k.val
  ring

end Cert.Dots

end
-- ==== Proof.MlpSpec.lean ====
/- The multilayer perceptron with squared rectifier: what its gradient is, as plain sums, and the buffer that holds both
   weights' blocks one under the other. -/
module

public import proofs.«01_k».proof.Proof.Dots

@[expose] public section

noncomputable section

namespace Cert.MlpSpec

open Idealize.ShloMosaic Idealize.ShloMosaic.ValueIdx Cert.Rows
open scoped BigOperators

/-- Three-axis arrays. -/
abbrev T (a b c : Nat) : Shape := ⟨3, ![a, b, c]⟩

/-- A three-axis index from its coordinates. -/
theorem ix3_of {a b c : Nat} (i : (T a b c).Idx) (p : Fin a) (r : Fin b) (q : Fin c) (h0 : (i 0).val = p.val) (h1 : (i 1).val = r.val) (h2 : (i 2).val = q.val) :
    i = ix3 p r q :=
  funext fun d => Fin.ext (match d with | ⟨0, _⟩ => h0 | ⟨1, _⟩ => h1 | ⟨2, _⟩ => h2)

/-- The word of two is two. -/
theorem two_word : (FloatOps.ofBits (F := Ideal) .f32 0x40000000#32 : EReal) = 2 := by
  show Ideal.ofBits .f32 0x40000000#32 = 2
  rw [show (2 : EReal) = ((2 : ℝ) : EReal) by norm_cast]
  simp [Ideal.ofBits, Ideal.ieee, -EReal.coe_mul]; norm_num

/-- Twice a value is the value added to itself, also at the infinities. -/
theorem two_mul_self (x : EReal) : 2 * x = x + x := by
  rw [show (2 : EReal) = ((2 : ℝ) : EReal) by norm_cast]
  induction x using EReal.rec with
  | bot => rw [EReal.coe_mul_bot_of_pos (by norm_num)]; rfl
  | top => rw [EReal.coe_mul_top_of_pos (by norm_num)]; rfl
  | coe x => rw [← EReal.coe_mul, ← EReal.coe_add, two_mul]

/-! ## Hidden columns by groups of 1024 -/

/-- Column `j` of group `s`. -/
def fcol (s : Fin 4) (j : Fin 1024) : Fin 4096 := ⟨s.val * 1024 + j.val, by omega⟩
/-- The group of a hidden column. -/
def grp (f : Fin 4096) : Fin 4 := ⟨f.val / 1024, by omega⟩
/-- Its place in the group. -/
def off (f : Fin 4096) : Fin 1024 := ⟨f.val % 1024, by omega⟩
/-- A row of the buffer's upper half. -/
def lo (i : Fin 1024) : Fin 2048 := ⟨i.val, by omega⟩
/-- A row of the buffer's lower half. -/
def hi (i : Fin 1024) : Fin 2048 := ⟨1024 + i.val, by omega⟩

theorem fcol_grp_off (f : Fin 4096) : fcol (grp f) (off f) = f := Fin.ext (by show f.val / 1024 * 1024 + f.val % 1024 = f.val; omega)
theorem grp_fcol (s : Fin 4) (j : Fin 1024) : grp (fcol s j) = s := Fin.ext (by show (s.val * 1024 + j.val) / 1024 = s.val; omega)
theorem off_fcol (s : Fin 4) (j : Fin 1024) : off (fcol s j) = j := Fin.ext (by show (s.val * 1024 + j.val) % 1024 = j.val; omega)

/-- Every row of the buffer is in one half. -/
theorem row_cases (i : Fin 2048) : (∃ j, i = lo j) ∨ ∃ j, i = hi j := by
  by_cases h : i.val < 1024
  · exact .inl ⟨⟨i.val, h⟩, rfl⟩
  · exact .inr ⟨⟨i.val - 1024, by omega⟩, Fin.ext (by show i.val = 1024 + (i.val - 1024); omega)⟩

/-! ## The two weights in one buffer -/

/-- Group `s`: the first product's columns of the group, above the second product's rows of the group. -/
def both (U : (M 1024 4096).Idx → EReal) (D : (M 4096 1024).Idx → EReal) (s : Fin 4) (i : Fin 2048) (j : Fin 1024) : EReal :=
  if h : i.val < 1024 then U (ix2 ⟨i.val, h⟩ (fcol s j)) else D (ix2 (fcol s ⟨i.val - 1024, by omega⟩) j)

theorem both_lo (U : (M 1024 4096).Idx → EReal) (D : (M 4096 1024).Idx → EReal) (s : Fin 4) (i j : Fin 1024) : both U D s (lo i) j = U (ix2 i (fcol s j)) :=
  dif_pos (show (lo i).val < 1024 from i.isLt)

theorem both_hi (U : (M 1024 4096).Idx → EReal) (D : (M 4096 1024).Idx → EReal) (s : Fin 4) (i j : Fin 1024) : both U D s (hi i) j = D (ix2 (fcol s i) j) := by
  unfold both
  refine (dif_neg (show ¬ (hi i).val < 1024 by show ¬ (1024 + i.val) < 1024; omega)).trans ?_
  exact congrArg (fun x => D (ix2 (fcol s x) j)) (Fin.ext (by show 1024 + i.val - 1024 = i.val; omega))

/-- The host's making of the buffer — columns regrouped, rows regrouped, one under the other — at an index. -/
theorem host_both_apply (U : (M 1024 4096).Idx → EReal) (D : (M 4096 1024).Idx → EReal)
    (hu : (M 1024 4096).ShapeCasts (T 1024 4 1024)) (ht : (T 1024 4 1024).Transposes [1, 0, 2] (T 4 1024 1024))
    (hd : (M 4096 1024).ShapeCasts (T 4 1024 1024)) (hcat : Shape.Concatenates [T 4 1024 1024, T 4 1024 1024] (T 4 2048 1024) 1)
    (s : Fin 4) (i : Fin 2048) (j : Fin 1024) :
    concatenate (T 4 2048 1024) 1 [⟨T 4 1024 1024, transpose (T 4 1024 1024) [1, 0, 2] (shapeCast (T 1024 4 1024) U hu) ht⟩,
      ⟨T 4 1024 1024, shapeCast (T 4 1024 1024) D hd⟩] hcat (ix3 s i j) = both U D s i j := by
  rcases row_cases i with ⟨i, rfl⟩ | ⟨i, rfl⟩
  · rw [both_lo, concatenate_pair_apply_left (t := T 4 2048 1024) (s₁ := T 4 1024 1024) (s₂ := T 4 1024 1024) 1 _ _ hcat _ rfl (ix3 s i j)
      (fun d => match d with | ⟨0, _⟩ => rfl | ⟨1, _⟩ => rfl | ⟨2, _⟩ => rfl)]
    refine (transpose_apply _ _ ht _ (ix3 i s j : (T 1024 4 1024).Idx) (fun d => match d with | ⟨0, _⟩ => rfl | ⟨1, _⟩ => rfl | ⟨2, _⟩ => rfl)).trans ?_
    refine shapeCast_apply U hu _ _ ?_
    rw [Shape.rowMajor_val_three, Shape.rowMajor_val_two]
    show i.val * 4096 + (s.val * 1024 + j.val) = (i.val * 4 + s.val) * 1024 + j.val
    omega
  · rw [both_hi, concatenate_pair_apply_right (t := T 4 2048 1024) (s₁ := T 4 1024 1024) (s₂ := T 4 1024 1024) 1 _ _ hcat _ rfl rfl (ix3 s i j)
      (fun d hd => match d with | ⟨0, _⟩ => rfl | ⟨1, _⟩ => absurd rfl hd | ⟨2, _⟩ => rfl) (by show i.val + 1024 = 1024 + i.val; omega)]
    refine shapeCast_apply D hd _ _ ?_
    rw [Shape.rowMajor_val_three, Shape.rowMajor_val_two]
    show (s.val * 1024 + i.val) * 1024 + j.val = (s.val * 1024 + i.val) * 1024 + j.val
    rfl

/-! ## What each call computes, over the arrays it reads -/

section Calls

variable (H Y : (M 2048 1024).Idx → EReal) (A P : (M 2048 4096).Idx → EReal) (B : (T 4 2048 1024).Idx → EReal)

/-- The hidden values' cotangent. -/
def kDact (r : Fin 2048) (f : Fin 4096) : EReal := (∑ k : Fin 1024, Y (ix2 r k) * B (ix3 (grp f) (hi (off f)) k)) * (2 * A (ix2 r f))
/-- The second weight's gradient, by groups. -/
def kDdown (s : Fin 4) (i j : Fin 1024) : EReal := ∑ r : Fin 2048, A (ix2 r (fcol s i)) * A (ix2 r (fcol s i)) * Y (ix2 r j)
/-- The input's cotangent. -/
def kDh (r : Fin 2048) (i : Fin 1024) : EReal := ∑ f : Fin 4096, P (ix2 r f) * B (ix3 (grp f) (lo i) (off f))
/-- The first weight's gradient, by groups. -/
def kDup (s : Fin 4) (i j : Fin 1024) : EReal := ∑ r : Fin 2048, H (ix2 r i) * P (ix2 r (fcol s j))
/-- The stream with a gated value added. -/
def gated (X : (M 2048 1024).Idx → EReal) (G : (M 1 1024).Idx → EReal) (y : Fin 2048 → Fin 1024 → EReal) (r : Fin 2048) (j : Fin 1024) : EReal :=
  X (ix2 r j) + G (ix2 (0 : Fin 1) j) * y r j
/-- The hidden values. -/
def kAct (r : Fin 2048) (f : Fin 4096) : EReal := max (∑ k : Fin 1024, H (ix2 r k) * B (ix3 (grp f) (lo k) (off f))) 0
/-- The second product of the squared hidden values. -/
def kDown (r : Fin 2048) (j : Fin 1024) : EReal := ∑ f : Fin 4096, A (ix2 r f) * A (ix2 r f) * B (ix3 (grp f) (hi (off f)) j)

end Calls

/-! ## The gradient of the perceptron -/

section Grad

variable (H : (M 2048 1024).Idx → EReal) (U : (M 1024 4096).Idx → EReal) (D : (M 4096 1024).Idx → EReal) (Y : (M 2048 1024).Idx → EReal)

/-- The first product. -/
def pre (r : Fin 2048) (f : Fin 4096) : EReal := ∑ k : Fin 1024, H (ix2 r k) * U (ix2 k f)
/-- The rectified hidden values. -/
def act : (M 2048 4096).Idx → EReal := fun i => max (pre H U (i 0) (i 1)) 0
/-- Both weights in one buffer. -/
def buf : (T 4 2048 1024).Idx → EReal := fun i => both U D (i 0) (i 1) (i 2)
/-- The first product's cotangent. -/
def dpre : (M 2048 4096).Idx → EReal := fun i => (∑ k : Fin 1024, Y (ix2 (i 0) k) * D (ix2 (i 1) k)) * (2 * act H U i)
/-- The first weight's gradient. -/
def dU : (M 1024 4096).Idx → EReal := fun i => ∑ r : Fin 2048, H (ix2 r (i 0)) * dpre H U D Y (ix2 r (i 1))
/-- The second weight's gradient. -/
def dD : (M 4096 1024).Idx → EReal := fun i => ∑ r : Fin 2048, act H U (ix2 r (i 0)) * act H U (ix2 r (i 0)) * Y (ix2 r (i 1))
/-- The input's cotangent. -/
def dH (r : Fin 2048) (i : Fin 1024) : EReal := ∑ f : Fin 4096, dpre H U D Y (ix2 r f) * U (ix2 i f)

/-- The perceptron's value. -/
def out (r : Fin 2048) (j : Fin 1024) : EReal := ∑ f : Fin 4096, act H U (ix2 r f) * act H U (ix2 r f) * D (ix2 f j)

theorem kAct_buf (r : Fin 2048) (f : Fin 4096) : kAct H (buf U D) r f = act H U (ix2 r f) :=
  congrArg₂ (max : EReal → EReal → EReal) (sum2 fun k => mul2 rfl ((both_lo U D (grp f) k (off f)).trans (congrArg (fun x => U (ix2 k x)) (fcol_grp_off f)))) rfl

theorem kDown_buf (r : Fin 2048) (j : Fin 1024) : kDown (act H U) (buf U D) r j = out H U D r j :=
  sum2 fun f => mul2 rfl ((both_hi U D (grp f) (off f) j).trans (congrArg (fun x => D (ix2 x j)) (fcol_grp_off f)))

theorem kDact_buf (r : Fin 2048) (f : Fin 4096) : kDact Y (act H U) (buf U D) r f = dpre H U D Y (ix2 r f) :=
  mul2 (sum2 fun k => mul2 rfl ((both_hi U D (grp f) (off f) k).trans (congrArg (fun x => D (ix2 x k)) (fcol_grp_off f)))) rfl

theorem kDh_buf (r : Fin 2048) (i : Fin 1024) : kDh (dpre H U D Y) (buf U D) r i = dH H U D Y r i :=
  sum2 fun f => mul2 rfl ((both_lo U D (grp f) i (off f)).trans (congrArg (fun x => U (ix2 i x)) (fcol_grp_off f)))

end Grad

end Cert.MlpSpec

end
-- ==== Proof.MlpBwdCalls.lean ====
/- The four gradient calls of the multilayer perceptron, each over the arrays it finds: what one block computes, and what
   the result array holds after the call. -/
module

public import proofs.«01_k».proof.Proof.Windows
public import proofs.«01_k».proof.Proof.Gen.MlpBwdIdeal.Frame
public import proofs.«01_k».proof.Proof.MlpSpec

@[expose] public section

set_option maxRecDepth 16384

noncomputable section

namespace Cert.MlpBwdIdeal.Calls

open Cert.Windows Cert.MlpBwdIdeal Cert.MlpBwdIdeal.Gen Cert.MlpSpec Cert.Rows Cert.Dots
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The hidden values' cotangent -/

section Dact

theorem idx0 : ∀ t : Fin cfg0.N, win0_0.index t (0 : Fin 2) = 0 ∧ win0_0.index t (1 : Fin 2) = 0
    ∧ win0_1.index t (0 : Fin 3) = t.val / 2 ∧ win0_1.index t (1 : Fin 3) = 2 + t.val % 2 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem lt0 (t : Fin cfg0.N) : t.val < 8 := lt_of_lt_of_eq t.isLt N_0

/-- Hidden column `q` of block `t`. -/
def col0 (t : Fin cfg0.N) (q : Fin 512) : Fin 4096 := ⟨t.val * 512 + q.val, by have := lt0 t; omega⟩

theorem blk0_0 (c : Dev nD) (t : Fin cfg0.N) (r : Fin 2048) (k : Fin 1024) : iblk0 V c 0 t (ix2 r k) = V c main_arg3 (ix2 r k) := by
  show V c main_arg3 ((win0_0.rect t).emb (ix2 r k)) = _
  obtain ⟨h0, h1, -⟩ := idx0 t
  refine congrArg (V c main_arg3) (ix2_of _ _ _ ?_ ?_)
  · exact embAt win0_0 t 0 2048 r.val h0 (by omega)
  · exact embAt win0_0 t 1 1024 k.val h1 (by omega)

theorem blk0_1 (c : Dev nD) (t : Fin cfg0.N) (q : Fin 512) (k : Fin 1024) :
    iblk0 V c 1 t (ix3 (0 : Fin 1) q k) = V c main_v8 (ix3 (grp (col0 t q)) (hi (off (col0 t q))) k) := by
  show V c main_v8 ((win0_1.rect t).emb (ix3 (0 : Fin 1) q k)) = _
  obtain ⟨-, -, h0, h1, h2, -⟩ := idx0 t
  refine congrArg (V c main_v8) (ix3_of _ _ _ _ ?_ ?_ ?_)
  · exact embAt win0_1 t 0 1 0 (n := (t.val * 512 + q.val) / 1024) h0 (by omega)
  · exact embAt win0_1 t 1 512 q.val (n := 1024 + (t.val * 512 + q.val) % 1024) h1 (by omega)
  · exact embAt win0_1 t 2 1024 k.val h2 (by omega)

theorem blk0_2 (c : Dev nD) (t : Fin cfg0.N) (r : Fin 2048) (q : Fin 512) : iblk0 V c 2 t (ix2 r q) = V c main_v3 (ix2 r (col0 t q)) := by
  show V c main_v3 ((win0_2.rect t).emb (ix2 r q)) = _
  obtain ⟨-, -, -, -, -, h0, h1, -⟩ := idx0 t
  refine congrArg (V c main_v3) (ix2_of _ _ _ ?_ ?_)
  · exact embAt win0_2 t 0 2048 r.val h0 (by omega)
  · exact embAt win0_2 t 1 512 q.val h1 rfl

theorem emb0 (t : Fin cfg0.N) (r : Fin 2048) (q : Fin 512) : (win0_3.rect t).emb (ix2 r q) = ix2 r (col0 t q) := by
  obtain ⟨-, -, -, -, -, -, -, h0, h1⟩ := idx0 t
  refine ix2_of _ _ _ ?_ ?_
  · exact embAt win0_3 t 0 2048 r.val h0 (by omega)
  · exact embAt win0_3 t 1 512 q.val h1 rfl

theorem pay0_apply (x0 : Vec Ideal S2048x1024 .bf16) (x1 : Vec Ideal S1x512x1024 .bf16) (x2 : Vec Ideal S2048x512 .bf16) (r : Fin 2048) (q : Fin 512) :
    (k0_pay1 (F := Ideal) x0 x1 x2 (ix2 r q) : EReal) = (∑ k : Fin 1024, x0 (ix2 r k) * x1 (ix3 (0 : Fin 1) q k)) * (2 * x2 (ix2 r q)) := by
  have e := mm_nt (φ₁ := .bf16) (φ₂ := .bf16) 2048 1024 512 x0 (shapeCast S512x1024 x1 shapeCasts_S1x512x1024_S512x1024) r q
  have e2 : shapeCast S2048x512 x2 shapeCasts_S2048x512_S2048x512 = x2 := shapeCast_self _ _
  unfold k0_pay1
  rw [e2]
  refine mul2 (Eq.trans e (Finset.sum_congr rfl fun k _ => mul2 rfl ?_)) (mul2 two_word rfl)
  exact shapeCast_1ab_ab_apply x1 shapeCasts_S1x512x1024_S512x1024 q k

theorem out0_apply (x0 : Vec Ideal S2048x1024 .bf16) (x1 : Vec Ideal S1x512x1024 .bf16) (x2 : Vec Ideal S2048x512 .bf16) : out0_3 (F := Ideal) x0 x1 x2 = k0_pay1 x0 x1 x2 := by
  unfold out0_3 r0_0 r0_1 r0_2
  rw [View.ld_unit_zero hz2 _ x0, View.ld_unit_zero hz3 _ x1, View.ld_unit_zero hz2 _ x2]
  exact View.canon_unit_zero (Val := Elt Ideal) (S := S2048x512) (e := .bf16) hz2 _ _

/-- The hidden values' cotangent as one array. -/
abbrev G0 (c : Dev nD) : Buf (Elt Ideal) ((c : Thread nD τ).loc main_v9) := fun i : S2048x4096.Idx => kDact (V c main_arg3) (V c main_v3) (V c main_v8) (i 0) (i 1)

theorem flushed0 (c : Dev nD) (t : Fin cfg0.N) : (dat0 V c).flushed 3 t = ((cfg0.win 3).blk t).view.read (Elt Ideal) (G0 V c) := by
  show (cfg0.win 3).cut (grid0.coords t) ((dat0 V c).after 3 t) = _
  rw [after0_3, out0_apply]
  refine funext fun y => ?_
  obtain ⟨r, q, rfl⟩ : ∃ (r : Fin 2048) (q : Fin 512), y = ix2 r q := ⟨y 0, y 1, eq_ix2 y⟩
  show _ = G0 V c ((win0_3.rect t).emb (ix2 r q))
  rw [emb0]
  refine Eq.trans (pay0_apply _ _ _ r q) ?_
  exact mul2 (Finset.sum_congr rfl fun k _ => mul2 (blk0_0 V c t r k) (blk0_1 V c t q k)) (mul2 rfl (blk0_2 V c t r q))

theorem cover0 (i : S2048x4096.Idx) : ∃ t : Fin cfg0.N, (cfg0.win 3).flush t = true ∧ i ∈ ((cfg0.win 3).blk t).view.set := by
  obtain ⟨r, q, rfl⟩ : ∃ (r : Fin 2048) (q : Fin 4096), i = ix2 r q := ⟨i 0, i 1, eq_ix2 i⟩
  have ht : q.val / 512 < cfg0.N := by show _ < grid0.N; rw [N_0]; omega
  refine ⟨⟨q.val / 512, ht⟩, flush0_3 _, ?_⟩
  have e : (ix2 r q : S2048x4096.Idx) = (win0_3.rect ⟨q.val / 512, ht⟩).emb (ix2 r (⟨q.val % 512, Nat.mod_lt _ (by norm_num)⟩ : Fin 512)) := by
    rw [emb0]
    exact congrArg (ix2 r) (Fin.ext (by show q.val = q.val / 512 * 512 + q.val % 512; omega))
  rw [e]
  exact View.emb_mem_set _ _

theorem arr0 (c : Dev nD) : (dat0 V c).arrAt 3 cfg0.N = G0 V c :=
  (dat0 V c).arrAt_eq_of_cover 3 (G0 V c) (fun t _ => flushed0 V c t) cover0

end Dact

/-! ## The second weight's gradient -/

section Ddown

theorem idx1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 3) = t.val ∧ win1_2.index t (1 : Fin 3) = 1 ∧ win1_2.index t (2 : Fin 3) = 0 :=
  (by decide +kernel : ∀ t : Fin grid1.N, _)

/-- The group that block `t` computes. -/
def grp1 (t : Fin cfg1.N) : Fin 4 := ⟨t.val, lt_of_lt_of_eq t.isLt N_1⟩

theorem blk1_0 (c : Dev nD) (t : Fin cfg1.N) (r : Fin 2048) (i : Fin 1024) : iblk1 V c 0 t (ix2 r i) = V c main_v3 (ix2 r (fcol (grp1 t) i)) := by
  show V c main_v3 ((win1_0.rect t).emb (ix2 r i)) = _
  obtain ⟨h0, h1, -⟩ := idx1 t
  refine congrArg (V c main_v3) (ix2_of _ _ _ ?_ ?_)
  · exact embAt win1_0 t 0 2048 r.val h0 (by omega)
  · exact embAt win1_0 t 1 1024 i.val h1 rfl

theorem blk1_1 (c : Dev nD) (t : Fin cfg1.N) (r : Fin 2048) (j : Fin 1024) : iblk1 V c 1 t (ix2 r j) = V c main_arg3 (ix2 r j) := by
  show V c main_arg3 ((win1_1.rect t).emb (ix2 r j)) = _
  obtain ⟨-, -, h0, h1, -⟩ := idx1 t
  refine congrArg (V c main_arg3) (ix2_of _ _ _ ?_ ?_)
  · exact embAt win1_1 t 0 2048 r.val h0 (by omega)
  · exact embAt win1_1 t 1 1024 j.val h1 (by omega)

theorem emb1 (t : Fin cfg1.N) (i j : Fin 1024) : (win1_2.rect t).emb (ix3 (0 : Fin 1) i j) = ix3 (grp1 t) (hi i) j := by
  obtain ⟨-, -, -, -, h0, h1, h2⟩ := idx1 t
  refine ix3_of _ _ _ _ ?_ ?_ ?_
  · exact embAt win1_2 t 0 1 0 (n := t.val) h0 (by omega)
  · exact embAt win1_2 t 1 1024 i.val h1 rfl
  · exact embAt win1_2 t 2 1024 j.val h2 (by omega)

theorem pay1_apply (x0 x1 : Vec Ideal S2048x1024 .bf16) (i j : Fin 1024) :
    (k1_pay1 (F := Ideal) x0 x1 (ix3 (0 : Fin 1) i j) : EReal) = ∑ r : Fin 2048, x0 (ix2 r i) * x0 (ix2 r i) * x1 (ix2 r j) := by
  have e2 : shapeCast S2048x1024 x0 shapeCasts_S2048x1024_S2048x1024 = x0 := shapeCast_self _ _
  unfold k1_pay1
  rw [e2]
  refine (shapeCast_ab_1ab_apply (a := 1024) (b := 1024) _ shapeCasts_S1024x1024_S1x1024x1024 0 i j).trans ?_
  exact mm_tn (φ₁ := .bf16) (φ₂ := .bf16) 1024 2048 1024 (fun y => ((x0 y : EReal) * (x0 y : EReal) : EReal)) x1 i j

theorem out1_apply (x0 x1 : Vec Ideal S2048x1024 .bf16) : out1_2 (F := Ideal) x0 x1 = k1_pay1 x0 x1 := by
  unfold out1_2 r1_0 r1_1
  rw [View.ld_unit_zero hz2 _ x0, View.ld_unit_zero hz2 _ x1]
  exact View.canon_unit_zero (Val := Elt Ideal) (S := S1x1024x1024) (e := .bf16) hz3 _ _

/-- The second weight's gradient as one array, in the lower halves; the upper halves are not this call's. -/
abbrev G1 (c : Dev nD) : Buf (Elt Ideal) ((c : Thread nD τ).loc main_v10) := fun i : S4x2048x1024.Idx =>
  kDdown (V c main_arg3) (V c main_v3) (i 0) ⟨(i 1).val % 1024, Nat.mod_lt _ (by norm_num)⟩ (i 2)

theorem G1_hi (c : Dev nD) (s : Fin 4) (i j : Fin 1024) : G1 V c (ix3 s (hi i) j) = kDdown (V c main_arg3) (V c main_v3) s i j :=
  congrArg (fun x => kDdown (V c main_arg3) (V c main_v3) s x j) (Fin.ext (by show (1024 + i.val) % 1024 = i.val; omega))

theorem flushed1 (c : Dev nD) (t : Fin cfg1.N) : (dat1 V c).flushed 2 t = ((cfg1.win 2).blk t).view.read (Elt Ideal) (G1 V c) := by
  show (cfg1.win 2).cut (grid1.coords t) ((dat1 V c).after 2 t) = _
  rw [after1_2, out1_apply]
  refine funext fun y => ?_
  obtain ⟨u, i, j, rfl⟩ : ∃ (u : Fin 1) (i j : Fin 1024), y = ix3 u i j := ⟨y 0, y 1, y 2, eq_ix3 y⟩
  obtain rfl : u = 0 := Subsingleton.elim _ _
  show _ = G1 V c ((win1_2.rect t).emb (ix3 (0 : Fin 1) i j))
  rw [emb1, G1_hi]
  refine Eq.trans (pay1_apply _ _ i j) ?_
  exact sum2 fun r => mul2 (mul2 (blk1_0 V c t r i) (blk1_0 V c t r i)) (blk1_1 V c t r j)

/-- The call's array, at a lower half. -/
theorem arr1 (c : Dev nD) (s : Fin 4) (i j : Fin 1024) : (dat1 V c).arrAt 2 cfg1.N (ix3 s (hi i) j) = kDdown (V c main_arg3) (V c main_v3) s i j := by
  rw [(dat1 V c).arrAt_eq_piecewise 2 (G1 V c) (fun t _ => flushed1 V c t), if_pos, G1_hi]
  have ht : s.val < cfg1.N := by show _ < grid1.N; rw [N_1]; omega
  refine ⟨⟨s.val, ht⟩, flush1_2 _, ?_⟩
  rw [show (ix3 s (hi i) j : S4x2048x1024.Idx) = (win1_2.rect ⟨s.val, ht⟩).emb (ix3 (0 : Fin 1) i j) from by rw [emb1]; rfl]
  exact View.emb_mem_set _ _

end Ddown

/-! ## The input's cotangent -/

section Dh

theorem idx2 : ∀ t : Fin cfg2.N, win2_0.index t (0 : Fin 2) = t.val / 2 ∧ win2_0.index t (1 : Fin 2) = 0
    ∧ win2_1.index t (0 : Fin 3) = 0 ∧ win2_1.index t (1 : Fin 3) = t.val % 2 ∧ win2_1.index t (2 : Fin 3) = 0
    ∧ win2_2.index t (0 : Fin 2) = t.val / 2 ∧ win2_2.index t (1 : Fin 2) = t.val % 2 :=
  (by decide +kernel : ∀ t : Fin grid2.N, _)

theorem lt2 (t : Fin cfg2.N) : t.val < 4 := lt_of_lt_of_eq t.isLt N_2

/-- Row `r` of block `t`. -/
def row2 (t : Fin cfg2.N) (r : Fin 1024) : Fin 2048 := ⟨t.val / 2 * 1024 + r.val, by have := lt2 t; omega⟩
/-- Column `q` of block `t`. -/
def col2 (t : Fin cfg2.N) (q : Fin 512) : Fin 1024 := ⟨t.val % 2 * 512 + q.val, by omega⟩

theorem blk2_0 (c : Dev nD) (t : Fin cfg2.N) (r : Fin 1024) (f : Fin 4096) : iblk2 V c 0 t (ix2 r f) = V c main_v9 (ix2 (row2 t r) f) := by
  show V c main_v9 ((win2_0.rect t).emb (ix2 r f)) = _
  obtain ⟨h0, h1, -⟩ := idx2 t
  refine congrArg (V c main_v9) (ix2_of _ _ _ ?_ ?_)
  · exact embAt win2_0 t 0 1024 r.val h0 rfl
  · exact embAt win2_0 t 1 4096 f.val h1 (by omega)

theorem blk2_1 (c : Dev nD) (t : Fin cfg2.N) (s : Fin 4) (q : Fin 512) (k : Fin 1024) : iblk2 V c 1 t (ix3 s q k) = V c main_v8 (ix3 s (lo (col2 t q)) k) := by
  show V c main_v8 ((win2_1.rect t).emb (ix3 s q k)) = _
  obtain ⟨-, -, h0, h1, h2, -⟩ := idx2 t
  refine congrArg (V c main_v8) (ix3_of _ _ _ _ ?_ ?_ ?_)
  · exact embAt win2_1 t 0 4 s.val h0 (by omega)
  · exact embAt win2_1 t 1 512 q.val h1 rfl
  · exact embAt win2_1 t 2 1024 k.val h2 (by omega)

theorem emb2 (t : Fin cfg2.N) (r : Fin 1024) (q : Fin 512) : (win2_2.rect t).emb (ix2 r q) = ix2 (row2 t r) (col2 t q) := by
  obtain ⟨-, -, -, -, -, h0, h1⟩ := idx2 t
  refine ix2_of _ _ _ ?_ ?_
  · exact embAt win2_2 t 0 1024 r.val h0 rfl
  · exact embAt win2_2 t 1 512 q.val h1 rfl

/-- One group's part of the product. -/
theorem part2 (x0 : Vec Ideal S1024x4096 .bf16) (x1 : Vec Ideal S4x512x1024 .bf16) (s : Nat) (hs : s < 4)
    (h0 : S1024x4096.Slices ![0, s * 1024] S1024x1024) (h1 : S4x512x1024.Slices ![s, 0, 0] S1x512x1024) (r : Fin 1024) (q : Fin 512) :
    (matmul (F := Ideal) (φ₁ := .bf16) (φ₂ := .bf16) (DotDims.transposedRhs 1024 1024 512) none (extractStridedSlice S1024x1024 ![0, s * 1024] x0 h0)
      (shapeCast S512x1024 (extractStridedSlice S1x512x1024 ![s, 0, 0] x1 h1) shapeCasts_S1x512x1024_S512x1024)
      (constant (M 1024 512) .f32 0x00000000#32) (ix2 r q) : EReal)
      = ∑ k : Fin 1024, x0 (ix2 r (fcol ⟨s, hs⟩ k)) * x1 (ix3 (⟨s, hs⟩ : Fin 4) q k) := by
  refine Eq.trans (mm_nt (φ₁ := .bf16) (φ₂ := .bf16) 1024 1024 512 _ _ r q) (Finset.sum_congr rfl fun k _ => mul2 ?_ ?_)
  · refine (slice_apply 0 (s * 1024) x0 h0 r k (by omega) (by omega)).trans (congrArg x0 (ix2_of _ _ _ (Nat.zero_add _) rfl))
  · refine (shapeCast_1ab_ab_apply _ shapeCasts_S1x512x1024_S512x1024 q k).trans ?_
    exact extractStridedSlice_apply _ x1 h1 _ (ix3 (⟨s, hs⟩ : Fin 4) q k) (fun a => match a with
      | ⟨0, _⟩ => rfl
      | ⟨1, _⟩ => by show q.val = 0 + q.val; omega
      | ⟨2, _⟩ => by show k.val = 0 + k.val; omega)

theorem pay2_apply (x0 : Vec Ideal S1024x4096 .bf16) (x1 : Vec Ideal S4x512x1024 .bf16) (r : Fin 1024) (q : Fin 512) :
    (k2_pay1 (F := Ideal) x0 x1 (ix2 r q) : EReal) = ∑ f : Fin 4096, x0 (ix2 r f) * x1 (ix3 (grp f) q (off f)) := by
  have e0 : shapeCast S1024x4096 x0 shapeCasts_S1024x4096_S1024x4096 = x0 := shapeCast_self _ _
  have e1 : shapeCast S4x512x1024 x1 shapeCasts_S4x512x1024_S4x512x1024 = x1 := shapeCast_self _ _
  rw [sum_groups (n := 4) (K := 1024) (by norm_num) (fun f : Fin 4096 => (x0 (ix2 r f) : EReal) * (x1 (ix3 (grp f) q (off f)) : EReal)), Fin.sum_univ_four]
  have p := fun (s : Nat) (hs : s < 4) (h0 : S1024x4096.Slices ![0, s * 1024] S1024x1024) (h1 : S4x512x1024.Slices ![s, 0, 0] S1x512x1024) =>
    (part2 x0 x1 s hs h0 h1 r q).trans (Finset.sum_congr rfl fun k _ => (mul2 rfl (congrArg₂ (fun a b => (x1 (ix3 a q b) : EReal)) (grp_fcol ⟨s, hs⟩ k).symm (off_fcol ⟨s, hs⟩ k).symm) :
      (x0 (ix2 r (fcol ⟨s, hs⟩ k)) : EReal) * (x1 (ix3 (⟨s, hs⟩ : Fin 4) q k) : EReal) = (x0 (ix2 r (fcol ⟨s, hs⟩ k)) : EReal) * (x1 (ix3 (grp (fcol ⟨s, hs⟩ k)) q (off (fcol ⟨s, hs⟩ k))) : EReal)))
  unfold k2_pay1
  rw [e0, e1]
  exact add2 (add2 (add2 (p 0 (by norm_num) slices_S1024x4096_o0_0_S1024x1024 slices_S4x512x1024_o0_0_0_S1x512x1024)
    (p 1 (by norm_num) slices_S1024x4096_o0_1024_S1024x1024 slices_S4x512x1024_o1_0_0_S1x512x1024))
    (p 2 (by norm_num) slices_S1024x4096_o0_2048_S1024x1024 slices_S4x512x1024_o2_0_0_S1x512x1024))
    (p 3 (by norm_num) slices_S1024x4096_o0_3072_S1024x1024 slices_S4x512x1024_o3_0_0_S1x512x1024)

theorem out2_apply (x0 : Vec Ideal S1024x4096 .bf16) (x1 : Vec Ideal S4x512x1024 .bf16) : out2_2 (F := Ideal) x0 x1 = k2_pay1 x0 x1 := by
  unfold out2_2 r2_0 r2_1 r2_2
  rw [View.ld_unit_zero hz2 _ x0, View.ld_unit_zero hz3 _ x1]
  exact View.canon_unit_zero (Val := Elt Ideal) (S := S1024x512) (e := .bf16) hz2 _ _

/-- The input's cotangent as one array. -/
abbrev G2 (c : Dev nD) : Buf (Elt Ideal) ((c : Thread nD τ).loc main_v11) := fun i : S2048x1024.Idx => kDh (V c main_v9) (V c main_v8) (i 0) (i 1)

theorem flushed2 (c : Dev nD) (t : Fin cfg2.N) : (dat2 V c).flushed 2 t = ((cfg2.win 2).blk t).view.read (Elt Ideal) (G2 V c) := by
  show (cfg2.win 2).cut (grid2.coords t) ((dat2 V c).after 2 t) = _
  rw [after2_2, out2_apply]
  refine funext fun y => ?_
  obtain ⟨r, q, rfl⟩ : ∃ (r : Fin 1024) (q : Fin 512), y = ix2 r q := ⟨y 0, y 1, eq_ix2 y⟩
  show _ = G2 V c ((win2_2.rect t).emb (ix2 r q))
  rw [emb2]
  refine Eq.trans (pay2_apply _ _ r q) ?_
  exact sum2 fun f => mul2 (blk2_0 V c t r f) (blk2_1 V c t (grp f) q (off f))

theorem cover2 (i : S2048x1024.Idx) : ∃ t : Fin cfg2.N, (cfg2.win 2).flush t = true ∧ i ∈ ((cfg2.win 2).blk t).view.set := by
  obtain ⟨r, q, rfl⟩ : ∃ (r : Fin 2048) (q : Fin 1024), i = ix2 r q := ⟨i 0, i 1, eq_ix2 i⟩
  have ht : r.val / 1024 * 2 + q.val / 512 < cfg2.N := by show _ < grid2.N; rw [N_2]; omega
  refine ⟨⟨r.val / 1024 * 2 + q.val / 512, ht⟩, flush2_2 _, ?_⟩
  have e : (ix2 r q : S2048x1024.Idx) = (win2_2.rect ⟨r.val / 1024 * 2 + q.val / 512, ht⟩).emb
      (ix2 (⟨r.val % 1024, Nat.mod_lt _ (by norm_num)⟩ : Fin 1024) (⟨q.val % 512, Nat.mod_lt _ (by norm_num)⟩ : Fin 512)) := by
    rw [emb2]
    exact congrArg₂ ix2 (Fin.ext (by show r.val = (r.val / 1024 * 2 + q.val / 512) / 2 * 1024 + r.val % 1024; omega))
      (Fin.ext (by show q.val = (r.val / 1024 * 2 + q.val / 512) % 2 * 512 + q.val % 512; omega))
  rw [e]
  exact View.emb_mem_set _ _

theorem arr2 (c : Dev nD) : (dat2 V c).arrAt 2 cfg2.N = G2 V c :=
  (dat2 V c).arrAt_eq_of_cover 2 (G2 V c) (fun t _ => flushed2 V c t) cover2

end Dh

/-! ## The first weight's gradient -/

section Dup

theorem idx3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 3) = t.val / 2 ∧ win3_2.index t (1 : Fin 3) = 0 ∧ win3_2.index t (2 : Fin 3) = t.val % 2 :=
  (by decide +kernel : ∀ t : Fin grid3.N, _)

theorem lt3 (t : Fin cfg3.N) : t.val < 8 := lt_of_lt_of_eq t.isLt N_3

/-- The group that block `t` computes in. -/
def grp3 (t : Fin cfg3.N) : Fin 4 := ⟨t.val / 2, by have := lt3 t; omega⟩
/-- Column `q` of block `t` within the group. -/
def col3 (t : Fin cfg3.N) (q : Fin 512) : Fin 1024 := ⟨t.val % 2 * 512 + q.val, by omega⟩

theorem blk3_0 (c : Dev nD) (t : Fin cfg3.N) (r : Fin 2048) (i : Fin 1024) : iblk3 V c 0 t (ix2 r i) = V c main_arg0 (ix2 r i) := by
  show V c main_arg0 ((win3_0.rect t).emb (ix2 r i)) = _
  obtain ⟨h0, h1, -⟩ := idx3 t
  refine congrArg (V c main_arg0) (ix2_of _ _ _ ?_ ?_)
  · exact embAt win3_0 t 0 2048 r.val h0 (by omega)
  · exact embAt win3_0 t 1 1024 i.val h1 (by omega)

theorem blk3_1 (c : Dev nD) (t : Fin cfg3.N) (r : Fin 2048) (q : Fin 512) : iblk3 V c 1 t (ix2 r q) = V c main_v9 (ix2 r (fcol (grp3 t) (col3 t q))) := by
  show V c main_v9 ((win3_1.rect t).emb (ix2 r q)) = _
  obtain ⟨-, -, h0, h1, -⟩ := idx3 t
  refine congrArg (V c main_v9) (ix2_of _ _ _ ?_ ?_)
  · exact embAt win3_1 t 0 2048 r.val h0 (by omega)
  · exact embAt win3_1 t 1 512 q.val (n := t.val / 2 * 1024 + (t.val % 2 * 512 + q.val)) h1 (by omega)

theorem emb3 (t : Fin cfg3.N) (i : Fin 1024) (q : Fin 512) : (win3_2.rect t).emb (ix3 (0 : Fin 1) i q) = ix3 (grp3 t) (lo i) (col3 t q) := by
  obtain ⟨-, -, -, -, h0, h1, h2⟩ := idx3 t
  refine ix3_of _ _ _ _ ?_ ?_ ?_
  · exact embAt win3_2 t 0 1 0 (n := t.val / 2) h0 (by omega)
  · exact embAt win3_2 t 1 1024 i.val (n := i.val) h1 (by omega)
  · exact embAt win3_2 t 2 512 q.val h2 rfl

theorem pay3_apply (x0 : Vec Ideal S2048x1024 .bf16) (x1 : Vec Ideal S2048x512 .bf16) (i : Fin 1024) (q : Fin 512) :
    (k3_pay1 (F := Ideal) x0 x1 (ix3 (0 : Fin 1) i q) : EReal) = ∑ r : Fin 2048, x0 (ix2 r i) * x1 (ix2 r q) := by
  have e2 : shapeCast S2048x512 x1 shapeCasts_S2048x512_S2048x512 = x1 := shapeCast_self _ _
  unfold k3_pay1
  rw [e2]
  refine (shapeCast_ab_1ab_apply (a := 1024) (b := 512) _ shapeCasts_S1024x512_S1x1024x512 0 i q).trans ?_
  exact mm_tn (φ₁ := .bf16) (φ₂ := .bf16) 1024 2048 512 x0 x1 i q

theorem ld3_0 (x : Vec Ideal S2048x1024 .bf16) :
    View.ld x (Rect.unit (s := S2048x1024) ![0, 0] ![2048, 1024] inb_S2048x1024_S2048x1024_0_0) = x := View.ld_unit_zero hz2 _ x

theorem ld3_1 (x : Vec Ideal S2048x512 .bf16) :
    View.ld x (Rect.unit (s := S2048x512) ![0, 0] ![2048, 512] inb_S2048x512_S2048x512_0_0) = x := View.ld_unit_zero hz2 _ x

theorem pieces3 (c : Dev nD) (i : grid3.Coords) (arg2 : Memref sig .tc .vmem S2048x1024 .bf16) (harg2 : arg2.IsWhole) (arg3 : Memref sig .tc .vmem S2048x512 .bf16) (harg3 : arg3.IsWhole)
    (arg5 : Memref sig .tc .vmem S1x1024x512 .bf16) (harg5 : arg5.IsWhole) (x0 : Vec Ideal S2048x1024 .bf16) (x1 : Vec Ideal S2048x512 .bf16) :
    (kernelRun3_A (F := Ideal) c i arg2 harg2 arg3 harg3 arg5 harg5 x0 x1).1
      = [⟨Rect.unit (s := S1x1024x512) ![0, 0, 0] S1x1024x512.size inb_S1x1024x512_S1x1024x512_0_0_0, k3_pay1 (F := Ideal) x0 x1⟩] := by
  unfold kernelRun3_A
  dsimp only
  sl_unfold_words
  simp only [View.readAt_eq_ld, harg2.read_unread, harg3.read_unread]
  simp only [ld3_0, ld3_1]

/-- The first weight's gradient as one array, in the upper halves; the lower halves are not this call's. -/
abbrev G3 (c : Dev nD) : Buf (Elt Ideal) ((c : Thread nD τ).loc main_v12) := fun i : S4x2048x1024.Idx =>
  kDup (V c main_arg0) (V c main_v9) (i 0) ⟨(i 1).val % 1024, Nat.mod_lt _ (by norm_num)⟩ (i 2)

theorem G3_lo (c : Dev nD) (s : Fin 4) (i j : Fin 1024) : G3 V c (ix3 s (lo i) j) = kDup (V c main_arg0) (V c main_v9) s i j :=
  congrArg (fun x => kDup (V c main_arg0) (V c main_v9) s x j) (Fin.ext (by show i.val % 1024 = i.val; omega))

theorem flushed3 (c : Dev nD) (t : Fin cfg3.N) : (dat3 V c).flushed 2 t = ((cfg3.win 2).blk t).view.read (Elt Ideal) (G3 V c) := by
  show (cfg3.win 2).cut (grid3.coords t) ((dat3 V c).after 2 t) = _
  rw [after3_2]
  unfold outsAt3 out3_A_2
  rw [View.read_writes_eq_canon _ _ _ (cover3_A_2 c (grid3.coords t) (ms3_0 t) (hs3_0 t) (ms3_1 t) (hs3_1 t) (ms3_2 t) (hs3_2 t) (iblk3 V c 0 t) (iblk3 V c 1 t)), pieces3,
    View.canon_unit_zero (Val := Elt Ideal) (S := S1x1024x512) (e := .bf16) hz3 _ _]
  refine funext fun y => ?_
  obtain ⟨u, i, q, rfl⟩ : ∃ (u : Fin 1) (i : Fin 1024) (q : Fin 512), y = ix3 u i q := ⟨y 0, y 1, y 2, eq_ix3 y⟩
  obtain rfl : u = 0 := Subsingleton.elim _ _
  show _ = G3 V c ((win3_2.rect t).emb (ix3 (0 : Fin 1) i q))
  rw [emb3, G3_lo]
  refine Eq.trans (pay3_apply _ _ i q) ?_
  exact sum2 fun r => mul2 (blk3_0 V c t r i) (blk3_1 V c t r q)

/-- The call's array, at an upper half. -/
theorem arr3_lo (c : Dev nD) (s : Fin 4) (i j : Fin 1024) : (dat3 V c).arrAt 2 cfg3.N (ix3 s (lo i) j) = kDup (V c main_arg0) (V c main_v9) s i j := by
  rw [(dat3 V c).arrAt_eq_piecewise 2 (G3 V c) (fun t _ => flushed3 V c t), if_pos, G3_lo]
  have ht : s.val * 2 + j.val / 512 < cfg3.N := by show _ < grid3.N; rw [N_3]; omega
  refine ⟨⟨s.val * 2 + j.val / 512, ht⟩, flush3_2 _, ?_⟩
  rw [show (ix3 s (lo i) j : S4x2048x1024.Idx) = (win3_2.rect ⟨s.val * 2 + j.val / 512, ht⟩).emb (ix3 (0 : Fin 1) i (⟨j.val % 512, Nat.mod_lt _ (by norm_num)⟩ : Fin 512)) from by
    rw [emb3]
    exact congrArg₂ (fun a b => ix3 a (lo i) b) (Fin.ext (by show s.val = (s.val * 2 + j.val / 512) / 2; omega))
      (Fin.ext (by show j.val = (s.val * 2 + j.val / 512) % 2 * 512 + j.val % 512; omega))]
  exact View.emb_mem_set _ _

/-- The call's array, at a lower half: as the call found it. -/
theorem arr3_hi (c : Dev nD) (s : Fin 4) (i j : Fin 1024) : (dat3 V c).arrAt 2 cfg3.N (ix3 s (hi i) j) = V c main_v12 (ix3 s (hi i) j) := by
  rw [(dat3 V c).arrAt_apply_of_forall_not_mem 2 cfg3.N (ix3 s (hi i) j) (fun t _ _ hm => ?_), A_eq3]
  · obtain ⟨y, hy⟩ := View.exists_emb_of_mem_set _ hm
    obtain ⟨u, i', q, rfl⟩ : ∃ (u : Fin 1) (i' : Fin 1024) (q : Fin 512), y = ix3 u i' q := ⟨y 0, y 1, y 2, eq_ix3 y⟩
    obtain rfl : u = 0 := Subsingleton.elim _ _
    have h := congrArg (fun x : S4x2048x1024.Idx => (x 1).val) ((emb3 t i' q).symm.trans hy)
    have h' : i'.val = 1024 + i.val := h
    omega

end Dup

end Cert.MlpBwdIdeal.Calls

end
-- ==== Proof.MlpBwdKernel.lean ====
/- The gradient of the multilayer perceptron by the four calls: what the two results hold after the run. -/
module

public import proofs.«01_k».proof.Proof.MlpBwdCalls

@[expose] public section

set_option maxRecDepth 16384

noncomputable section

namespace Cert.MlpBwdIdeal.RefValue

open Cert.MlpBwdIdeal Cert.MlpBwdIdeal.Gen Cert.MlpBwdIdeal.Calls Cert.MlpSpec Cert.Rows Cert.Dots
open Idealize.ShloMosaic Idealize.ShloMosaic.TcCoe Idealize.ShloMosaic.ValueIdx Idealize.SL.Sem Idealize.SL
open Idealize.ShloMosaic.Pipeline (Dat)
open scoped BigOperators

variable (m : (ℓ : Loc nD τ sig) → Buf (Elt Ideal) ℓ) (ρ : Dev nD → PrngReg)

/-- The input. -/
abbrev aH (c : Dev nD) : (M 2048 1024).Idx → EReal := m ((c : Thread nD τ).loc main_arg0)
/-- The first weight. -/
abbrev aU (c : Dev nD) : (M 1024 4096).Idx → EReal := m ((c : Thread nD τ).loc main_arg1)
/-- The second weight. -/
abbrev aD (c : Dev nD) : (M 4096 1024).Idx → EReal := m ((c : Thread nD τ).loc main_arg2)
/-- The result's cotangent. -/
abbrev aY (c : Dev nD) : (M 2048 1024).Idx → EReal := m ((c : Thread nD τ).loc main_arg3)

/-! ## What the host's lines leave -/

theorem hidden (c : Dev nD) : V3 m ρ c main_v3 = act (aH m c) (aU m c) := by
  have h : V3 m ρ c main_v3 = maximumf (F := Ideal) (φ := .f32)
      (Host.dotGeneral (F := Ideal) (φ₁ := .f32) (φ₂ := .f32) (DotDims.plain 2048 1024 4096) none (aH m c) (aU m c))
      (broadcastInDim S2048x4096 ![] bcast_S_S2048x4096 (constant (F := Ideal) S_ .f32 0x00000000#32)) := by
    show StableHlo.after hostOps0_2 (StableHlo.after hostOps0_1 (StableHlo.after hostOps0 (fun b => m (c, b)))) main_v3 = _
    after_results_simp <;> rfl
  rw [h]
  refine funext fun i => ?_
  obtain ⟨r, f, rfl⟩ : ∃ (r : Fin 2048) (f : Fin 4096), i = ix2 r f := ⟨i 0, i 1, eq_ix2 i⟩
  exact congrArg₂ (max : EReal → EReal → EReal) (dg_nn (φ₁ := .f32) (φ₂ := .f32) 2048 1024 4096 (aH m c) (aU m c) r f) (zeros_apply _ _)

theorem weights (c : Dev nD) : V3 m ρ c main_v8 = buf (aU m c) (aD m c) := by
  have h : V3 m ρ c main_v8 = concatenate S4x2048x1024 1 [⟨S4x1024x1024, transpose S4x1024x1024 [1, 0, 2] (shapeCast S1024x4x1024 (aU m c) shapeCasts_S1024x4096_S1024x4x1024) transposes_S1024x4x1024_S4x1024x1024_1_0_2⟩,
      ⟨S4x1024x1024, shapeCast S4x1024x1024 (aD m c) shapeCasts_S4096x1024_S4x1024x1024⟩] concatenates_S4x1024x1024_S4x1024x1024_S4x2048x1024_d1 := by
    show StableHlo.after hostOps0_2 (StableHlo.after hostOps0_1 (StableHlo.after hostOps0 (fun b => m (c, b)))) main_v8 = _
    after_results_simp <;> rfl
  rw [h]
  refine funext fun i => ?_
  obtain ⟨s, r, j, rfl⟩ : ∃ (s : Fin 4) (r : Fin 2048) (j : Fin 1024), i = ix3 s r j := ⟨i 0, i 1, i 2, eq_ix3 i⟩
  exact host_both_apply (aU m c) (aD m c) _ _ _ _ s r j

/-! ## From call to call -/

theorem cot (c : Dev nD) : W4 m ρ c main_v9 = dpre (aH m c) (aU m c) (aD m c) (aY m c) := by
  refine (W4_arr m ρ c 3).trans ((arr0 (V3 m ρ) c).trans (funext fun i => ?_))
  obtain ⟨r, f, rfl⟩ : ∃ (r : Fin 2048) (f : Fin 4096), i = ix2 r f := ⟨i 0, i 1, eq_ix2 i⟩
  show kDact (V3 m ρ c main_arg3) (V3 m ρ c main_v3) (V3 m ρ c main_v8) r f = _
  rw [hidden, weights, show V3 m ρ c main_arg3 = aY m c from W3_args m ρ c main_arg3 (by decide)]
  exact kDact_buf _ _ _ _ r f

theorem down_apply (c : Dev nD) (s : Fin 4) (i j : Fin 1024) : W5 m ρ c main_v10 (ix3 s (hi i) j) = dD (aH m c) (aU m c) (aY m c) (ix2 (fcol s i) j) := by
  refine (congrFun (W5_arr m ρ c 2) _).trans ((arr1 (V4 m ρ) c s i j).trans ?_)
  rw [show V4 m ρ c main_arg3 = aY m c from W4_args m ρ c main_arg3 (by decide),
    show V4 m ρ c main_v3 = act (aH m c) (aU m c) from (W4_of m ρ c main_v3 (by decide +kernel)).trans (hidden m ρ c)]
  rfl

/-- The input's cotangent as one array. -/
abbrev GH (c : Dev nD) : Buf (Elt Ideal) ((c : Thread nD τ).loc main_v11) := fun i : S2048x1024.Idx => dH (aH m c) (aU m c) (aD m c) (aY m c) (i 0) (i 1)

/-- Both weights' gradients as one array. -/
abbrev GW (c : Dev nD) : Buf (Elt Ideal) ((c : Thread nD τ).loc main_v12) :=
  buf (dU (aH m c) (aU m c) (aD m c) (aY m c)) (dD (aH m c) (aU m c) (aY m c))

theorem final_dh (c : Dev nD) : W8 m ρ c main_v11 = GH m c := by
  refine (W8_of m ρ c main_v11 (by decide +kernel)).trans ((W7_of m ρ c main_v11 (by decide)).trans ((W6_arr m ρ c 2).trans ((arr2 (V5 m ρ) c).trans (funext fun i => ?_))))
  obtain ⟨r, q, rfl⟩ : ∃ (r : Fin 2048) (q : Fin 1024), i = ix2 r q := ⟨i 0, i 1, eq_ix2 i⟩
  show kDh (V5 m ρ c main_v9) (V5 m ρ c main_v8) r q = _
  rw [show V5 m ρ c main_v9 = dpre (aH m c) (aU m c) (aD m c) (aY m c) from (W5_of m ρ c main_v9 (by decide +kernel)).trans (cot m ρ c),
    show V5 m ρ c main_v8 = buf (aU m c) (aD m c) from (W5_of m ρ c main_v8 (by decide +kernel)).trans ((W4_of m ρ c main_v8 (by decide +kernel)).trans (weights m ρ c))]
  exact kDh_buf _ _ _ _ r q

theorem final_dw (c : Dev nD) : W8 m ρ c main_v12 = GW m c := by
  refine (W8_arr m ρ c 2).trans (funext fun i => ?_)
  obtain ⟨s, k, j, rfl⟩ : ∃ (s : Fin 4) (k : Fin 2048) (j : Fin 1024), i = ix3 s k j := ⟨i 0, i 1, i 2, eq_ix3 i⟩
  show _ = both (dU (aH m c) (aU m c) (aD m c) (aY m c)) (dD (aH m c) (aU m c) (aY m c)) s k j
  rcases row_cases k with ⟨k, rfl⟩ | ⟨k, rfl⟩
  · rw [both_lo]
    refine (arr3_lo (V7 m ρ) c s k j).trans ?_
    rw [show V7 m ρ c main_v9 = dpre (aH m c) (aU m c) (aD m c) (aY m c) from
        (W7_of m ρ c main_v9 (by decide)).trans ((W6_of m ρ c main_v9 (by decide +kernel)).trans ((W5_of m ρ c main_v9 (by decide +kernel)).trans (cot m ρ c))),
      show V7 m ρ c main_arg0 = aH m c from W7_args m ρ c main_arg0 (by decide)]
    rfl
  · rw [both_hi]
    refine (arr3_hi (V7 m ρ) c s k j).trans ?_
    have h : V7 m ρ c main_v12 = W6 m ρ c main_v10 := by
      show StableHlo.after hostOps3 (W6 m ρ c) main_v12 = _
      after_results_simp <;> rfl
    rw [h, W6_of m ρ c main_v10 (by decide +kernel)]
    exact down_apply m ρ c s k j

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v11) = GH m c ∧ r.2.mem ((c : Thread nD τ).loc main_v12) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨(h c _ (mem_uc main_v11 (by decide))).trans (final_dh m ρ c),
       (h c _ (mem_uc main_v12 (by decide))).trans (final_dw m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.MlpBwdIdeal.RefValue

end
-- ==== Proof.MlpBwdReference.lean ====
/- The reference of the multilayer perceptron's gradient: its two results, index by index. -/
module

public import proofs.«01_k».proof.Proof.Gen.MlpBwdRefIdeal.Read
public import proofs.«01_k».proof.Proof.MlpSpec

@[expose] public section

set_option maxRecDepth 16384

noncomputable section

namespace Cert.MlpBwdRefIdeal.RefValue

open Cert.MlpBwdRefIdeal Cert.MlpBwdRefIdeal.Gen Cert.MlpBwdRefIdeal.Read Cert.MlpSpec Cert.Rows Cert.Dots
open Idealize.ShloMosaic Idealize.ShloMosaic.TcCoe Idealize.ShloMosaic.ValueIdx Idealize.SL.Sem

variable (H : (M 2048 1024).Idx → EReal) (U : (M 1024 4096).Idx → EReal) (D : (M 4096 1024).Idx → EReal) (Y : (M 2048 1024).Idx → EReal)

/-- Where the first product is not positive the rectifier's slope is zero; elsewhere the square's cotangent is twice the value. -/
theorem slope (p a : EReal) : Scalar.select (Ideal.cmp .ogt p 0) (max p 0 * a + a * max p 0) (0 : EReal) = a * (2 * max p 0) := by
  have e : max p 0 * a + a * max p 0 = a * (2 * max p 0) := by rw [mul_left_comm, two_mul_self, mul_comm a]
  by_cases h : 0 < p
  · rw [show Ideal.cmp .ogt p 0 = 1#1 by simp [Ideal.cmp, h], select_one, e]
  · rw [show Ideal.cmp .ogt p 0 = 0#1 by simp [Ideal.cmp, h], select_zero, max_eq_right (not_lt.mp h), mul_zero, mul_zero]

theorem v1_at (r : Fin 2048) (f : Fin 4096) : (val_main_v1 (F := Ideal) H U (ix2 r f) : EReal) = pre H U r f :=
  dg_nn (φ₁ := .f32) (φ₂ := .f32) 2048 1024 4096 H U r f

theorem v2_at (r : Fin 2048) (f : Fin 4096) : (val_main_v2 (F := Ideal) H U (ix2 r f) : EReal) = act H U (ix2 r f) :=
  congrArg₂ (max : EReal → EReal → EReal) (v1_at H U r f) (zeros_apply _ _)

theorem v11_at (r : Fin 2048) (f : Fin 4096) : (val_main_v11 (F := Ideal) D Y (ix2 r f) : EReal) = ∑ k : Fin 1024, Y (ix2 r k) * D (ix2 f k) :=
  dg_nt (φ₁ := .f32) (φ₂ := .f32) 2048 1024 4096 Y D r f

theorem v16_at (r : Fin 2048) (f : Fin 4096) : (val_main_v16 (F := Ideal) H U D Y (ix2 r f) : EReal) = dpre H U D Y (ix2 r f) := by
  rw [val_main_v16_apply, val_main_v4_apply]
  have e0 : (val_main_v3 (F := Ideal) (ix2 r f) : EReal) = 0 := zeros_apply _ _
  have e1 : (val_main_v15 (F := Ideal) (ix2 r f) : EReal) = 0 := zeros_apply _ _
  have e14 : (val_main_v14 (F := Ideal) H U D Y (ix2 r f) : EReal) = _ :=
    add2 (mul2 (v2_at H U r f) (v11_at D Y r f)) (mul2 (v11_at D Y r f) (v2_at H U r f))
  refine Eq.trans ?_ (slope (pre H U r f) (∑ k : Fin 1024, Y (ix2 r k) * D (ix2 f k)))
  rw [e0, e1, e14, v1_at]
  rfl

theorem v16_eq : val_main_v16 (F := Ideal) H U D Y = dpre H U D Y := funext fun i => by
  obtain ⟨r, f, rfl⟩ : ∃ (r : Fin 2048) (f : Fin 4096), i = ix2 r f := ⟨i 0, i 1, eq_ix2 i⟩
  exact v16_at H U D Y r f

theorem v20_eq : val_main_v20 (F := Ideal) H U D Y = fun i : (M 2048 1024).Idx => dH H U D Y (i 0) (i 1) := funext fun i => by
  obtain ⟨r, q, rfl⟩ : ∃ (r : Fin 2048) (q : Fin 1024), i = ix2 r q := ⟨i 0, i 1, eq_ix2 i⟩
  refine Eq.trans (dg_nt (φ₁ := .f32) (φ₂ := .f32) 2048 4096 1024 (val_main_v16 (F := Ideal) H U D Y) U r q) ?_
  exact sum2 fun f => mul2 (v16_at H U D Y r f) rfl

theorem v18_eq : val_main_v18 (F := Ideal) H U D Y = dU H U D Y := funext fun i => by
  obtain ⟨q, f, rfl⟩ : ∃ (q : Fin 1024) (f : Fin 4096), i = ix2 q f := ⟨i 0, i 1, eq_ix2 i⟩
  refine Eq.trans (transpose_ix2_apply (val_main_v17 (F := Ideal) H U D Y) transposes_S4096x1024_S1024x4096_1_0 q f) ?_
  refine Eq.trans (dg_tn (φ₁ := .f32) (φ₂ := .f32) 4096 2048 1024 (val_main_v16 (F := Ideal) H U D Y) H f q) ?_
  exact sum2 fun r => (mul2 (v16_at H U D Y r f) rfl).trans (mul_comm _ _)

theorem v10_eq : val_main_v10 (F := Ideal) H U Y = dD H U Y := funext fun i => by
  obtain ⟨f, q, rfl⟩ : ∃ (f : Fin 4096) (q : Fin 1024), i = ix2 f q := ⟨i 0, i 1, eq_ix2 i⟩
  refine Eq.trans (transpose_ix2_apply (val_main_v9 (F := Ideal) H U Y) transposes_S1024x4096_S4096x1024_1_0 f q) ?_
  refine Eq.trans (dg_tn (φ₁ := .f32) (φ₂ := .f32) 1024 2048 4096 Y (val_main_v6 (F := Ideal) H U) q f) ?_
  exact sum2 fun r => (mul2 rfl (mul2 (v2_at H U r f) (v2_at H U r f))).trans (mul_comm _ _)

theorem v25_eq : val_main_v25 (F := Ideal) H U D Y = buf (dU H U D Y) (dD H U Y) := funext fun i => by
  obtain ⟨s, k, j, rfl⟩ : ∃ (s : Fin 4) (k : Fin 2048) (j : Fin 1024), i = ix3 s k j := ⟨i 0, i 1, i 2, eq_ix3 i⟩
  refine Eq.trans (host_both_apply (val_main_v18 (F := Ideal) H U D Y) (val_main_v10 (F := Ideal) H U Y) shapeCasts_S1024x4096_S1024x4x1024
    transposes_S1024x4x1024_S4x1024x1024_1_0_2 shapeCasts_S4096x1024_S4x1024x1024 concatenates_S4x1024x1024_S4x1024x1024_S4x2048x1024_d1 s k j) ?_
  rw [v18_eq, v10_eq]
  rfl

end Cert.MlpBwdRefIdeal.RefValue

end
-- ==== Proof.MlpFwdKernel.lean ====
/- The two forward calls of the multilayer perceptron: what one block computes, what the arrays hold after each call, and
   what the two results hold after the run. -/
module

public import proofs.«01_k».proof.Proof.Windows
public import proofs.«01_k».proof.Proof.Gen.MlpFwdIdeal.Frame
public import proofs.«01_k».proof.Proof.MlpSpec

@[expose] public section

set_option maxRecDepth 16384

noncomputable section

namespace Cert.MlpFwdIdeal.Calls

open Cert.Windows Cert.MlpFwdIdeal Cert.MlpFwdIdeal.Gen Cert.MlpSpec Cert.Rows Cert.Dots
open Idealize.ShloMosaic Idealize.ShloMosaic.TcCoe Idealize.ShloMosaic.ValueIdx Idealize.SL.Sem Idealize.SL
open Idealize.ShloMosaic.Pipeline (Dat)
open scoped BigOperators

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The hidden values -/

theorem idx0 : ∀ t : Fin cfg0.N, win0_0.index t (0 : Fin 2) = 0 ∧ win0_0.index t (1 : Fin 2) = 0
    ∧ win0_1.index t (0 : Fin 3) = t.val / 2 ∧ win0_1.index t (1 : Fin 3) = 0 ∧ win0_1.index t (2 : Fin 3) = t.val % 2
    ∧ win0_2.index t (0 : Fin 2) = 0 ∧ win0_2.index t (1 : Fin 2) = t.val :=
  (by decide +kernel : ∀ t : Fin grid0.N, _)

/-- Hidden column `q` of block `t`. -/
def col0 (t : Fin cfg0.N) (q : Fin 512) : Fin 4096 := ⟨t.val * 512 + q.val, by have : t.val < 8 := lt_of_lt_of_eq t.isLt N_0; omega⟩

theorem blk0_0 (c : Dev nD) (t : Fin cfg0.N) (r : Fin 2048) (k : Fin 1024) : iblk0 V c 0 t (ix2 r k) = V c main_arg2 (ix2 r k) := by
  show V c main_arg2 ((win0_0.rect t).emb (ix2 r k)) = _
  obtain ⟨h0, h1, -⟩ := idx0 t
  refine congrArg (V c main_arg2) (ix2_of _ _ _ ?_ ?_)
  · exact embAt win0_0 t 0 2048 r.val h0 (by omega)
  · exact embAt win0_0 t 1 1024 k.val h1 (by omega)

theorem blk0_1 (c : Dev nD) (t : Fin cfg0.N) (k : Fin 1024) (q : Fin 512) :
    iblk0 V c 1 t (ix3 (0 : Fin 1) k q) = V c main_v4 (ix3 (grp (col0 t q)) (lo k) (off (col0 t q))) := by
  show V c main_v4 ((win0_1.rect t).emb (ix3 (0 : Fin 1) k q)) = _
  obtain ⟨-, -, h0, h1, h2, -⟩ := idx0 t
  refine congrArg (V c main_v4) (ix3_of _ _ _ _ ?_ ?_ ?_)
  · exact embAt win0_1 t 0 1 0 (n := (t.val * 512 + q.val) / 1024) h0 (by omega)
  · exact embAt win0_1 t 1 1024 k.val (n := k.val) h1 (by omega)
  · exact embAt win0_1 t 2 512 q.val (n := (t.val * 512 + q.val) % 1024) h2 (by omega)

theorem emb0 (t : Fin cfg0.N) (r : Fin 2048) (q : Fin 512) : (win0_2.rect t).emb (ix2 r q) = ix2 r (col0 t q) := by
  obtain ⟨-, -, -, -, -, h0, h1⟩ := idx0 t
  refine ix2_of _ _ _ ?_ ?_
  · exact embAt win0_2 t 0 2048 r.val h0 (by omega)
  · exact embAt win0_2 t 1 512 q.val h1 rfl

theorem pay0_apply (x0 : Vec Ideal S2048x1024 .bf16) (x1 : Vec Ideal S1x1024x512 .bf16) (r : Fin 2048) (q : Fin 512) :
    (k0_pay1 (F := Ideal) x0 x1 (ix2 r q) : EReal) = max (∑ k : Fin 1024, (x0 (ix2 r k) : EReal) * (x1 (ix3 (0 : Fin 1) k q) : EReal)) 0 := by
  have e := mm_nn (φ₁ := .bf16) (φ₂ := .bf16) 2048 1024 512 x0 (shapeCast S1024x512 x1 shapeCasts_S1x1024x512_S1024x512) r q
  unfold k0_pay1
  refine congrArg₂ (max : EReal → EReal → EReal) (Eq.trans e (sum2 fun k => mul2 rfl ?_)) zero_word
  exact shapeCast_1ab_ab_apply x1 shapeCasts_S1x1024x512_S1024x512 k q

theorem out0_apply (x0 : Vec Ideal S2048x1024 .bf16) (x1 : Vec Ideal S1x1024x512 .bf16) : out0_2 (F := Ideal) x0 x1 = k0_pay1 x0 x1 := by
  unfold out0_2 r0_0 r0_1
  rw [View.ld_unit_zero hz2 _ x0, View.ld_unit_zero hz3 _ x1]
  exact View.canon_unit_zero (Val := Elt Ideal) (S := S2048x512) (e := .bf16) hz2 _ _

/-- The hidden values as one array. -/
abbrev G0 (c : Dev nD) : Buf (Elt Ideal) ((c : Thread nD τ).loc main_v5) := fun i : S2048x4096.Idx => kAct (V c main_arg2) (V c main_v4) (i 0) (i 1)

theorem flushed0 (c : Dev nD) (t : Fin cfg0.N) : (dat0 V c).flushed 2 t = ((cfg0.win 2).blk t).view.read (Elt Ideal) (G0 V c) := by
  show (cfg0.win 2).cut (grid0.coords t) ((dat0 V c).after 2 t) = _
  rw [after0_2, out0_apply]
  refine funext fun y => ?_
  obtain ⟨r, q, rfl⟩ : ∃ (r : Fin 2048) (q : Fin 512), y = ix2 r q := ⟨y 0, y 1, eq_ix2 y⟩
  show _ = G0 V c ((win0_2.rect t).emb (ix2 r q))
  rw [emb0]
  refine Eq.trans (pay0_apply _ _ r q) ?_
  exact congrArg₂ (max : EReal → EReal → EReal) (sum2 fun k => mul2 (blk0_0 V c t r k) (blk0_1 V c t k q)) rfl

theorem cover0 (i : S2048x4096.Idx) : ∃ t : Fin cfg0.N, (cfg0.win 2).flush t = true ∧ i ∈ ((cfg0.win 2).blk t).view.set := by
  obtain ⟨r, q, rfl⟩ : ∃ (r : Fin 2048) (q : Fin 4096), i = ix2 r q := ⟨i 0, i 1, eq_ix2 i⟩
  have ht : q.val / 512 < cfg0.N := by show _ < grid0.N; rw [N_0]; omega
  refine ⟨⟨q.val / 512, ht⟩, flush0_2 _, ?_⟩
  have e : (ix2 r q : S2048x4096.Idx) = (win0_2.rect ⟨q.val / 512, ht⟩).emb (ix2 r (⟨q.val % 512, Nat.mod_lt _ (by norm_num)⟩ : Fin 512)) := by
    rw [emb0]
    exact congrArg (ix2 r) (Fin.ext (by show q.val = q.val / 512 * 512 + q.val % 512; omega))
  rw [e]
  exact View.emb_mem_set _ _

theorem arr0 (c : Dev nD) : (dat0 V c).arrAt 2 cfg0.N = G0 V c :=
  (dat0 V c).arrAt_eq_of_cover 2 (G0 V c) (fun t _ => flushed0 V c t) cover0

/-! ## The second product and the gated residual -/

theorem idx1 : ∀ t : Fin cfg1.N, win1_0.index t (0 : Fin 2) = t.val / 2 ∧ win1_0.index t (1 : Fin 2) = 0
    ∧ win1_1.index t (0 : Fin 3) = 0 ∧ win1_1.index t (1 : Fin 3) = 1 ∧ win1_1.index t (2 : Fin 3) = t.val % 2
    ∧ win1_2.index t (0 : Fin 2) = t.val / 2 ∧ win1_2.index t (1 : Fin 2) = t.val % 2
    ∧ win1_3.index t (0 : Fin 2) = 0 ∧ win1_3.index t (1 : Fin 2) = t.val % 2
    ∧ win1_4.index t (0 : Fin 2) = t.val / 2 ∧ win1_4.index t (1 : Fin 2) = t.val % 2
    ∧ win1_5.index t (0 : Fin 2) = t.val / 2 ∧ win1_5.index t (1 : Fin 2) = t.val % 2 :=
  (by decide +kernel : ∀ t : Fin grid1.N, _)

/-- Row `r` of block `t`. -/
def row1 (t : Fin cfg1.N) (r : Fin 1024) : Fin 2048 := ⟨t.val / 2 * 1024 + r.val, by have : t.val < 4 := lt_of_lt_of_eq t.isLt N_1; omega⟩
/-- Column `q` of block `t`. -/
def col1 (t : Fin cfg1.N) (q : Fin 512) : Fin 1024 := ⟨t.val % 2 * 512 + q.val, by omega⟩

theorem blk1_0 (c : Dev nD) (t : Fin cfg1.N) (r : Fin 1024) (f : Fin 4096) : iblk1 V c 0 t (ix2 r f) = V c main_v5 (ix2 (row1 t r) f) := by
  show V c main_v5 ((win1_0.rect t).emb (ix2 r f)) = _
  obtain ⟨h0, h1, -⟩ := idx1 t
  refine congrArg (V c main_v5) (ix2_of _ _ _ ?_ ?_)
  · exact embAt win1_0 t 0 1024 r.val h0 rfl
  · exact embAt win1_0 t 1 4096 f.val h1 (by omega)

theorem blk1_1 (c : Dev nD) (t : Fin cfg1.N) (s : Fin 4) (k : Fin 1024) (q : Fin 512) : iblk1 V c 1 t (ix3 s k q) = V c main_v4 (ix3 s (hi k) (col1 t q)) := by
  show V c main_v4 ((win1_1.rect t).emb (ix3 s k q)) = _
  obtain ⟨-, -, h0, h1, h2, -⟩ := idx1 t
  refine congrArg (V c main_v4) (ix3_of _ _ _ _ ?_ ?_ ?_)
  · exact embAt win1_1 t 0 4 s.val h0 (by omega)
  · exact embAt win1_1 t 1 1024 k.val h1 rfl
  · exact embAt win1_1 t 2 512 q.val h2 rfl

theorem blk1_2 (c : Dev nD) (t : Fin cfg1.N) (r : Fin 1024) (q : Fin 512) : iblk1 V c 2 t (ix2 r q) = V c main_arg0 (ix2 (row1 t r) (col1 t q)) := by
  show V c main_arg0 ((win1_2.rect t).emb (ix2 r q)) = _
  obtain ⟨-, -, -, -, -, h0, h1, -⟩ := idx1 t
  refine congrArg (V c main_arg0) (ix2_of _ _ _ ?_ ?_)
  · exact embAt win1_2 t 0 1024 r.val h0 rfl
  · exact embAt win1_2 t 1 512 q.val h1 rfl

theorem blk1_3 (c : Dev nD) (t : Fin cfg1.N) (q : Fin 512) : iblk1 V c 3 t (ix2 (0 : Fin 1) q) = V c main_arg1 (ix2 (0 : Fin 1) (col1 t q)) := by
  show V c main_arg1 ((win1_3.rect t).emb (ix2 (0 : Fin 1) q)) = _
  obtain ⟨-, -, -, -, -, -, -, h0, h1, -⟩ := idx1 t
  refine congrArg (V c main_arg1) (ix2_of _ _ _ ?_ ?_)
  · exact embAt win1_3 t 0 1 0 h0 rfl
  · exact embAt win1_3 t 1 512 q.val h1 rfl

theorem emb1 (t : Fin cfg1.N) (r : Fin 1024) (q : Fin 512) : (win1_4.rect t).emb (ix2 r q) = ix2 (row1 t r) (col1 t q)
    ∧ (win1_5.rect t).emb (ix2 r q) = ix2 (row1 t r) (col1 t q) := by
  obtain ⟨-, -, -, -, -, -, -, -, -, h0, h1, h2, h3⟩ := idx1 t
  refine ⟨ix2_of _ _ _ ?_ ?_, ix2_of _ _ _ ?_ ?_⟩
  · exact embAt win1_4 t 0 1024 r.val h0 rfl
  · exact embAt win1_4 t 1 512 q.val h1 rfl
  · exact embAt win1_5 t 0 1024 r.val h2 rfl
  · exact embAt win1_5 t 1 512 q.val h3 rfl

theorem pay1_apply (x0 : Vec Ideal S1024x4096 .bf16) (x1 : Vec Ideal S4x1024x512 .bf16) (r : Fin 1024) (q : Fin 512) :
    (k1_pay1 (F := Ideal) x0 x1 (ix2 r q) : EReal) = ∑ f : Fin 4096, x0 (ix2 r f) * x0 (ix2 r f) * x1 (ix3 (grp f) (off f) q) := by
  have e0 : shapeCast S1024x4096 x0 shapeCasts_S1024x4096_S1024x4096 = x0 := shapeCast_self _ _
  have e1 : shapeCast S4x1024x512 x1 shapeCasts_S4x1024x512_S4x1024x512 = x1 := shapeCast_self _ _
  unfold k1_pay1
  rw [e0, e1]
  refine Eq.trans (mm_nn (φ₁ := .bf16) (φ₂ := .bf16) 1024 4096 512 (fun y => ((x0 y : EReal) * (x0 y : EReal) : EReal))
    (shapeCast S4096x512 x1 shapeCasts_S4x1024x512_S4096x512) r q) (sum2 fun f => mul2 rfl ?_)
  refine shapeCast_apply x1 shapeCasts_S4x1024x512_S4096x512 _ (ix3 (grp f) (off f) q) ?_
  rw [Shape.rowMajor_val_three, Shape.rowMajor_val_two]
  show (f.val / 1024 * 1024 + f.val % 1024) * 512 + q.val = f.val * 512 + q.val
  omega

theorem pay2_apply (x0 : Vec Ideal S1024x4096 .bf16) (x1 : Vec Ideal S4x1024x512 .bf16) (x2 : Vec Ideal S1024x512 .f32) (x3 : Vec Ideal S1x512 .f32) (r : Fin 1024) (q : Fin 512) :
    (k1_pay2 (F := Ideal) x0 x1 x2 x3 (ix2 r q) : EReal)
      = x2 (ix2 r q) + x3 (ix2 (0 : Fin 1) q) * ∑ f : Fin 4096, x0 (ix2 r f) * x0 (ix2 r f) * x1 (ix3 (grp f) (off f) q) := by
  unfold k1_pay2
  exact add2 rfl (mul2 (broadcastRow_apply x3 broadcasts_S1x512_S1024x512 r q) (pay1_apply x0 x1 r q))

theorem out1_4_apply (x0 : Vec Ideal S1024x4096 .bf16) (x1 : Vec Ideal S4x1024x512 .bf16) (x2 : Vec Ideal S1024x512 .f32) (x3 : Vec Ideal S1x512 .f32) :
    out1_4 (F := Ideal) x0 x1 x2 x3 = k1_pay2 x0 x1 x2 x3 := by
  unfold out1_4 r1_0 r1_1 r1_2 r1_3
  rw [View.ld_unit_zero hz2 _ x0, View.ld_unit_zero hz3 _ x1, View.ld_unit_zero hz2 _ x2, View.ld_unit_zero hz2 _ x3]
  exact View.canon_unit_zero (Val := Elt Ideal) (S := S1024x512) (e := .f32) hz2 _ _

theorem out1_5_apply (x0 : Vec Ideal S1024x4096 .bf16) (x1 : Vec Ideal S4x1024x512 .bf16) (x2 : Vec Ideal S1024x512 .f32) (x3 : Vec Ideal S1x512 .f32) :
    out1_5 (F := Ideal) x0 x1 x2 x3 = k1_pay3 x0 x1 := by
  unfold out1_5 r1_0 r1_1 r1_2
  rw [View.ld_unit_zero hz2 _ x0, View.ld_unit_zero hz3 _ x1]
  exact View.canon_unit_zero (Val := Elt Ideal) (S := S1024x512) (e := .bf16) hz2 _ _

/-- The second product as one array. -/
abbrev G1_5 (c : Dev nD) : Buf (Elt Ideal) ((c : Thread nD τ).loc main_v6_1) := fun i : S2048x1024.Idx => kDown (V c main_v5) (V c main_v4) (i 0) (i 1)
/-- The residual's sum as one array. -/
abbrev G1_4 (c : Dev nD) : Buf (Elt Ideal) ((c : Thread nD τ).loc main_v6_0) := fun i : S2048x1024.Idx =>
  gated (V c main_arg0) (V c main_arg1) (kDown (V c main_v5) (V c main_v4)) (i 0) (i 1)

theorem flushed1_5 (c : Dev nD) (t : Fin cfg1.N) : (dat1 V c).flushed 5 t = ((cfg1.win 5).blk t).view.read (Elt Ideal) (G1_5 V c) := by
  show (cfg1.win 5).cut (grid1.coords t) ((dat1 V c).after 5 t) = _
  rw [after1_5, out1_5_apply]
  refine funext fun y => ?_
  obtain ⟨r, q, rfl⟩ : ∃ (r : Fin 1024) (q : Fin 512), y = ix2 r q := ⟨y 0, y 1, eq_ix2 y⟩
  show _ = G1_5 V c ((win1_5.rect t).emb (ix2 r q))
  rw [(emb1 t r q).2]
  refine Eq.trans (pay1_apply _ _ r q) ?_
  exact sum2 fun f => mul2 (mul2 (blk1_0 V c t r f) (blk1_0 V c t r f)) (blk1_1 V c t (grp f) (off f) q)

theorem flushed1_4 (c : Dev nD) (t : Fin cfg1.N) : (dat1 V c).flushed 4 t = ((cfg1.win 4).blk t).view.read (Elt Ideal) (G1_4 V c) := by
  show (cfg1.win 4).cut (grid1.coords t) ((dat1 V c).after 4 t) = _
  rw [after1_4, out1_4_apply]
  refine funext fun y => ?_
  obtain ⟨r, q, rfl⟩ : ∃ (r : Fin 1024) (q : Fin 512), y = ix2 r q := ⟨y 0, y 1, eq_ix2 y⟩
  show _ = G1_4 V c ((win1_4.rect t).emb (ix2 r q))
  rw [(emb1 t r q).1]
  refine Eq.trans (pay2_apply _ _ _ _ r q) ?_
  exact add2 (blk1_2 V c t r q) (mul2 (blk1_3 V c t q) (sum2 fun f => mul2 (mul2 (blk1_0 V c t r f) (blk1_0 V c t r f)) (blk1_1 V c t (grp f) (off f) q)))

/-- The block that holds an index, and its place there. -/
theorem at1 (r : Fin 2048) (q : Fin 1024) : ∃ (t : Fin cfg1.N) (r' : Fin 1024) (q' : Fin 512), row1 t r' = r ∧ col1 t q' = q := by
  have ht : r.val / 1024 * 2 + q.val / 512 < cfg1.N := by show _ < grid1.N; rw [N_1]; omega
  exact ⟨⟨_, ht⟩, ⟨r.val % 1024, by omega⟩, ⟨q.val % 512, by omega⟩,
    Fin.ext (by show (r.val / 1024 * 2 + q.val / 512) / 2 * 1024 + r.val % 1024 = r.val; omega),
    Fin.ext (by show (r.val / 1024 * 2 + q.val / 512) % 2 * 512 + q.val % 512 = q.val; omega)⟩

theorem arr1_5 (c : Dev nD) : (dat1 V c).arrAt 5 cfg1.N = G1_5 V c :=
  (dat1 V c).arrAt_eq_of_cover 5 (G1_5 V c) (fun t _ => flushed1_5 V c t) fun i => by
    obtain ⟨r, q, rfl⟩ : ∃ (r : Fin 2048) (q : Fin 1024), i = ix2 r q := ⟨i 0, i 1, eq_ix2 i⟩
    obtain ⟨t, r', q', rfl, rfl⟩ := at1 r q
    refine ⟨t, flush1_5 t, ?_⟩
    rw [← (emb1 t r' q').2]
    exact View.emb_mem_set _ _

theorem arr1_4 (c : Dev nD) : (dat1 V c).arrAt 4 cfg1.N = G1_4 V c :=
  (dat1 V c).arrAt_eq_of_cover 4 (G1_4 V c) (fun t _ => flushed1_4 V c t) fun i => by
    obtain ⟨r, q, rfl⟩ : ∃ (r : Fin 2048) (q : Fin 1024), i = ix2 r q := ⟨i 0, i 1, eq_ix2 i⟩
    obtain ⟨t, r', q', rfl, rfl⟩ := at1 r q
    refine ⟨t, flush1_4 t, ?_⟩
    rw [← (emb1 t r' q').1]
    exact View.emb_mem_set _ _

end Blocks

/-! ## From the arguments to the results -/

variable (m : (ℓ : Loc nD τ sig) → Buf (Elt Ideal) ℓ) (ρ : Dev nD → PrngReg)

/-- The stream. -/
abbrev aX (c : Dev nD) : (M 2048 1024).Idx → EReal := m ((c : Thread nD τ).loc main_arg0)
/-- The gate. -/
abbrev aG (c : Dev nD) : (M 1 1024).Idx → EReal := m ((c : Thread nD τ).loc main_arg1)
/-- The input. -/
abbrev aH (c : Dev nD) : (M 2048 1024).Idx → EReal := m ((c : Thread nD τ).loc main_arg2)
/-- The first weight. -/
abbrev aU (c : Dev nD) : (M 1024 4096).Idx → EReal := m ((c : Thread nD τ).loc main_arg3)
/-- The second weight. -/
abbrev aD (c : Dev nD) : (M 4096 1024).Idx → EReal := m ((c : Thread nD τ).loc main_arg4)

theorem weights (c : Dev nD) : V1 m ρ c main_v4 = buf (aU m c) (aD m c) := by
  have h : V1 m ρ c main_v4 = concatenate S4x2048x1024 1 [⟨S4x1024x1024, transpose S4x1024x1024 [1, 0, 2] (shapeCast S1024x4x1024 (aU m c) shapeCasts_S1024x4096_S1024x4x1024) transposes_S1024x4x1024_S4x1024x1024_1_0_2⟩,
      ⟨S4x1024x1024, shapeCast S4x1024x1024 (aD m c) shapeCasts_S4096x1024_S4x1024x1024⟩] concatenates_S4x1024x1024_S4x1024x1024_S4x2048x1024_d1 := by
    show StableHlo.after hostOps0 (fun b => m (c, b)) main_v4 = _
    after_results_simp <;> rfl
  rw [h]
  refine funext fun i => ?_
  obtain ⟨s, r, j, rfl⟩ : ∃ (s : Fin 4) (r : Fin 2048) (j : Fin 1024), i = ix3 s r j := ⟨i 0, i 1, i 2, eq_ix3 i⟩
  exact host_both_apply (aU m c) (aD m c) _ _ _ _ s r j

theorem hidden (c : Dev nD) : W2 m ρ c main_v5 = act (aH m c) (aU m c) := by
  refine (W2_arr m ρ c 2).trans ((arr0 (V1 m ρ) c).trans (funext fun i => ?_))
  obtain ⟨r, f, rfl⟩ : ∃ (r : Fin 2048) (f : Fin 4096), i = ix2 r f := ⟨i 0, i 1, eq_ix2 i⟩
  show kAct (V1 m ρ c main_arg2) (V1 m ρ c main_v4) r f = _
  rw [weights, show V1 m ρ c main_arg2 = aH m c from W1_args m ρ c main_arg2 (by decide)]
  exact kAct_buf _ _ _ r f

/-- The perceptron's value as one array. -/
abbrev GY (c : Dev nD) : Buf (Elt Ideal) ((c : Thread nD τ).loc main_v6_1) := fun i : S2048x1024.Idx => out (aH m c) (aU m c) (aD m c) (i 0) (i 1)
/-- The stream with the gated value added, as one array. -/
abbrev GX (c : Dev nD) : Buf (Elt Ideal) ((c : Thread nD τ).loc main_v6_0) := fun i : S2048x1024.Idx =>
  gated (aX m c) (aG m c) (out (aH m c) (aU m c) (aD m c)) (i 0) (i 1)

theorem down_eq (c : Dev nD) (r : Fin 2048) (j : Fin 1024) : kDown (V2 m ρ c main_v5) (V2 m ρ c main_v4) r j = out (aH m c) (aU m c) (aD m c) r j := by
  rw [show V2 m ρ c main_v5 = act (aH m c) (aU m c) from hidden m ρ c,
    show V2 m ρ c main_v4 = buf (aU m c) (aD m c) from (W2_of m ρ c main_v4 (by decide +kernel)).trans (weights m ρ c)]
  exact kDown_buf _ _ _ r j

theorem final_y (c : Dev nD) : W3 m ρ c main_v6_1 = GY m c := by
  refine (W3_arr m ρ c 5).trans ((arr1_5 (V2 m ρ) c).trans (funext fun i => ?_))
  exact down_eq m ρ c (i 0) (i 1)

theorem final_x (c : Dev nD) : W3 m ρ c main_v6_0 = GX m c := by
  refine (W3_arr m ρ c 4).trans ((arr1_4 (V2 m ρ) c).trans (funext fun i => ?_))
  show gated (V2 m ρ c main_arg0) (V2 m ρ c main_arg1) _ (i 0) (i 1) = _
  rw [show V2 m ρ c main_arg0 = aX m c from W2_args m ρ c main_arg0 (by decide), show V2 m ρ c main_arg1 = aG m c from W2_args m ρ c main_arg1 (by decide)]
  exact add2 rfl (mul2 rfl (down_eq m ρ c (i 0) (i 1)))

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v6_0) = GX m c ∧ r.2.mem ((c : Thread nD τ).loc main_v6_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v6_0 (by decide))).trans (final_x m ρ c),
       (h c _ (mem_uc main_v6_1 (by decide))).trans (final_y m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.MlpFwdIdeal.Calls

end
-- ==== Proof.MlpFwdReference.lean ====
/- The reference of the multilayer perceptron's forward: its two results, index by index. -/
module

public import proofs.«01_k».proof.Proof.Gen.MlpFwdRefIdeal.Read
public import proofs.«01_k».proof.Proof.MlpSpec

@[expose] public section

set_option maxRecDepth 16384

noncomputable section

namespace Cert.MlpFwdRefIdeal.RefValue

open Cert.MlpFwdRefIdeal Cert.MlpFwdRefIdeal.Gen Cert.MlpFwdRefIdeal.Read Cert.MlpSpec Cert.Rows Cert.Dots
open Idealize.ShloMosaic Idealize.ShloMosaic.TcCoe Idealize.ShloMosaic.ValueIdx Idealize.SL.Sem

variable (X : (M 2048 1024).Idx → EReal) (G : (M 1 1024).Idx → EReal) (H : (M 2048 1024).Idx → EReal) (U : (M 1024 4096).Idx → EReal) (D : (M 4096 1024).Idx → EReal)

theorem v2_at (r : Fin 2048) (f : Fin 4096) : (val_main_v2 (F := Ideal) H U (ix2 r f) : EReal) = act H U (ix2 r f) :=
  congrArg₂ (max : EReal → EReal → EReal) (dg_nn (φ₁ := .f32) (φ₂ := .f32) 2048 1024 4096 H U r f) (zeros_apply _ _)

theorem v4_at (r : Fin 2048) (j : Fin 1024) : (val_main_v4 (F := Ideal) H U D (ix2 r j) : EReal) = out H U D r j := by
  refine Eq.trans (dg_nn (φ₁ := .f32) (φ₂ := .f32) 2048 4096 1024 (val_main_v3 (F := Ideal) H U) D r j) ?_
  exact sum2 fun f => mul2 (mul2 (v2_at H U r f) (v2_at H U r f)) rfl

theorem v8_eq : val_main_v8 (F := Ideal) H U D = fun i : (M 2048 1024).Idx => out H U D (i 0) (i 1) := funext fun i => by
  obtain ⟨r, j, rfl⟩ : ∃ (r : Fin 2048) (j : Fin 1024), i = ix2 r j := ⟨i 0, i 1, eq_ix2 i⟩
  exact v4_at H U D r j

theorem v7_eq : val_main_v7 (F := Ideal) X G H U D = fun i : (M 2048 1024).Idx => gated X G (out H U D) (i 0) (i 1) := funext fun i => by
  obtain ⟨r, j, rfl⟩ : ∃ (r : Fin 2048) (j : Fin 1024), i = ix2 r j := ⟨i 0, i 1, eq_ix2 i⟩
  exact add2 rfl (mul2 (rowDim_apply G _ r j) (v4_at H U D r j))

end Cert.MlpFwdRefIdeal.RefValue

end
-- ==== Proof.ProdSpec.lean ====
/- Plain products as sums, and arrays kept by groups of rows. -/
module

public import proofs.«01_k».proof.Proof.MlpSpec

@[expose] public section

noncomputable section

namespace Cert.ProdSpec

open Idealize.ShloMosaic Idealize.ShloMosaic.ValueIdx Cert.Rows Cert.MlpSpec
open scoped BigOperators

variable {a b k : Nat}

/-- Rows by columns. -/
def nn (X : (M a k).Idx → EReal) (Y : (M k b).Idx → EReal) (r : Fin a) (q : Fin b) : EReal := ∑ e : Fin k, X (ix2 r e) * Y (ix2 e q)
/-- Rows by rows. -/
def nt (X : (M a k).Idx → EReal) (Y : (M b k).Idx → EReal) (r : Fin a) (q : Fin b) : EReal := ∑ e : Fin k, X (ix2 r e) * Y (ix2 q e)
/-- Columns by columns. -/
def tn (X : (M k a).Idx → EReal) (Y : (M k b).Idx → EReal) (r : Fin a) (q : Fin b) : EReal := ∑ e : Fin k, X (ix2 e r) * Y (ix2 e q)

/-- Columns by columns, the other way round. -/
theorem tn_swap (X : (M k a).Idx → EReal) (Y : (M k b).Idx → EReal) (r : Fin a) (q : Fin b) : tn X Y r q = tn Y X q r :=
  sum2 fun _ => mul_comm _ _

/-- Row `i` of group `s`, of groups of `b` rows. -/
def grow {n b L : Nat} (h : n * b = L) (s : Fin n) (i : Fin b) : Fin L :=
  ⟨s.val * b + i.val, by
    have h1 := s.isLt; have h2 := i.isLt
    calc s.val * b + i.val < s.val * b + b := by omega
      _ = (s.val + 1) * b := by ring
      _ ≤ n * b := Nat.mul_le_mul_right _ h1
      _ = L := h⟩

/-- An array whose rows are read by groups. -/
theorem groups_apply {α : Type} {n b L c : Nat} (h : n * b = L) (x : (M L c).Idx → α) (hc : (M L c).ShapeCasts (T n b c)) (s : Fin n) (i : Fin b) (j : Fin c) :
    shapeCast (T n b c) x hc (ix3 s i j) = x (ix2 (grow h s i) j) := by
  refine shapeCast_apply x hc _ _ ?_
  rw [Shape.rowMajor_val_three, Shape.rowMajor_val_two]
  rfl

/-- Every row lies in a group. -/
theorem exists_grow {n b L : Nat} (h : n * b = L) (r : Fin L) : ∃ (s : Fin n) (i : Fin b), grow h s i = r := by
  have hb : 0 < b := by
    rcases Nat.eq_zero_or_pos b with h0 | h0
    · have hr := r.isLt
      have hL : L = 0 := by rw [← h, h0, Nat.mul_zero]
      omega
    · exact h0
  exact ⟨⟨r.val / b, (Nat.div_lt_iff_lt_mul hb).2 (by rw [h]; exact r.isLt)⟩, ⟨r.val % b, Nat.mod_lt _ hb⟩, Fin.ext (Nat.div_add_mod' r.val b)⟩

/-! ## Columns one beside the other -/

/-- A column of the left part. -/
def cl {p n : Nat} (q : Fin p) : Fin (p + n) := ⟨q.val, by omega⟩
/-- A column of the right part. -/
def cr {p n : Nat} (q : Fin n) : Fin (p + n) := ⟨p + q.val, by omega⟩

theorem col_cases {p n : Nat} (f : Fin (p + n)) : (∃ q : Fin p, f = cl q) ∨ ∃ q : Fin n, f = cr q := by
  by_cases h : f.val < p
  · exact .inl ⟨⟨f.val, h⟩, rfl⟩
  · exact .inr ⟨⟨f.val - p, by omega⟩, Fin.ext (by show f.val = p + (f.val - p); omega)⟩

/-- A sum over both parts. -/
theorem sum_parts {p n : Nat} (f : Fin (p + n) → EReal) : ∑ k, f k = (∑ q : Fin p, f (cl q)) + ∑ q : Fin n, f (cr q) := Fin.sum_univ_add f

/-- Two arrays one beside the other. -/
def beside {p n : Nat} (A : (M a p).Idx → EReal) (B : (M a n).Idx → EReal) : (M a (p + n)).Idx → EReal := fun i =>
  if h : (i 1).val < p then A (ix2 (i 0) ⟨(i 1).val, h⟩) else B (ix2 (i 0) ⟨(i 1).val - p, by have h2 : (i 1).val < p + n := (i 1).isLt; omega⟩)

theorem beside_cl {p n : Nat} (A : (M a p).Idx → EReal) (B : (M a n).Idx → EReal) (r : Fin a) (q : Fin p) : beside A B (ix2 r (cl q)) = A (ix2 r q) :=
  dif_pos (show (cl (n := n) q).val < p from q.isLt)

theorem beside_cr {p n : Nat} (A : (M a p).Idx → EReal) (B : (M a n).Idx → EReal) (r : Fin a) (q : Fin n) : beside A B (ix2 r (cr q)) = B (ix2 r q) := by
  unfold beside
  refine (dif_neg (show ¬ (cr (p := p) q).val < p by show ¬ p + q.val < p; omega)).trans ?_
  exact congrArg (fun x => B (ix2 r x)) (Fin.ext (by show p + q.val - p = q.val; omega))

/-- Columns padded by the host, at an index. -/
theorem padCols_apply {α : Type} {c c2 : Nat} (lo hi : Nat) (x : (M a c).Idx → α) {u : Shape} (v : u.Idx → α)
    (h : (M a c).Pads ![0, lo] ![0, hi] ![0, 0] (M a c2)) (hu : 0 < u.numel) (r : Fin a) (q : Fin c2) :
    pad (M a c2) ![0, lo] ![0, hi] ![0, 0] x v h hu (ix2 r q)
      = if hr : lo ≤ q.val ∧ q.val - lo < c then x (ix2 r ⟨q.val - lo, hr.2⟩) else v (Shape.Idx.first hu) := by
  split_ifs with hr
  · exact pad_apply_of_inside _ _ _ x v h hu _ _ (fun d => match d with
      | ⟨0, _⟩ => by show r.val = 0 + r.val * (0 + 1); omega
      | ⟨1, _⟩ => by show q.val = lo + (q.val - lo) * (0 + 1); omega)
  · refine pad_apply_of_not_inside _ _ _ x v h hu _ (1 : Fin 2) (fun hin => hr ⟨hin.1, ?_⟩)
    have e : (q.val - lo) / (0 + 1) < c := hin.2.2
    simpa using e

/-- The integer zero as a float. -/
theorem zero_int (φ : FTy) (i : S0.Idx) : @Eq EReal (sitofp (F := Ideal) φ (constantI S0 32 0#32) i) 0 := by
  show (((0#32 : BitVec 32).toInt : ℝ) : EReal) = 0
  simp

end Cert.ProdSpec

end
-- ==== Proof.ScSpec.lean ====
/- The short-convolution mixer with its two products, as functions of its arguments, and the ways its columns are grouped. -/
module

public import proofs.«01_k».proof.Proof.ConvSpec
public import proofs.«01_k».proof.Proof.ProdSpec
public import proofs.«01_k».proof.Proof.MlpSpec

@[expose] public section

noncomputable section

namespace Cert.ScSpec

open Idealize.ShloMosaic Idealize.ShloMosaic.ValueIdx Cert.Rows Cert.ConvSpec Cert.MlpSpec Cert.ProdSpec
open scoped BigOperators

/-! ## Columns by groups -/

/-- The group of a place, in groups of `b`. -/
def gdiv {n b L : Nat} (h : n * b = L) (hb : 0 < b) (f : Fin L) : Fin n := ⟨f.val / b, (Nat.div_lt_iff_lt_mul hb).2 (by rw [h]; exact f.isLt)⟩
/-- The place within its group. -/
def gmod {b L : Nat} (hb : 0 < b) (f : Fin L) : Fin b := ⟨f.val % b, Nat.mod_lt _ hb⟩

theorem grow_gdiv_gmod {n b L : Nat} (h : n * b = L) (hb : 0 < b) (f : Fin L) : grow h (gdiv h hb f) (gmod hb f) = f :=
  Fin.ext (Nat.div_add_mod' f.val b)

theorem gdiv_grow {n b L : Nat} (h : n * b = L) (hb : 0 < b) (s : Fin n) (i : Fin b) : gdiv h hb (grow h s i) = s :=
  Fin.ext (by
    show (s.val * b + i.val) / b = s.val
    rw [Nat.mul_comm, Nat.mul_add_div hb, Nat.div_eq_of_lt i.isLt, Nat.add_zero])

theorem gmod_grow {n b L : Nat} (h : n * b = L) (hb : 0 < b) (s : Fin n) (i : Fin b) : gmod hb (grow h s i) = i :=
  Fin.ext (by
    show (s.val * b + i.val) % b = i.val
    rw [Nat.mul_comm, Nat.mul_add_mod, Nat.mod_eq_of_lt i.isLt])

/-- Column `q` of the `s`-th 256 of 1024. -/
abbrev c4 (s : Fin 4) (q : Fin 256) : Fin 1024 := grow (n := 4) (b := 256) rfl s q
/-- Which of the three parts of the projection a column lies in. -/
abbrev part (f : Fin 3072) : Fin 3 := gdiv (n := 3) (b := 1024) rfl (by norm_num) f
/-- Its place in that part. -/
abbrev off (f : Fin 3072) : Fin 1024 := gmod (b := 1024) (by norm_num) f
/-- Column `q` of the `s`-th 768 of 3072. -/
abbrev c768 (s : Fin 4) (q : Fin 768) : Fin 3072 := grow (n := 4) (b := 768) rfl s q

/-- Three arrays laid one beside the other. -/
def flat (D : (T 3 2048 1024).Idx → EReal) : (M 2048 3072).Idx → EReal := fun i => D (ix3 (part (i 1)) (i 0) (off (i 1)))
/-- A weight whose columns are kept by four groups. -/
def unbuf (W : (T 4 1024 768).Idx → EReal) : (M 1024 3072).Idx → EReal :=
  fun i => W (ix3 (gdiv (n := 4) (b := 768) rfl (by norm_num) (i 1)) (i 0) (gmod (b := 768) (by norm_num) (i 1)))

/-- Columns cut into groups, the groups put first. -/
theorem regroup_apply {α : Type} {n b L m : Nat} (h : n * b = L) (x : (M m L).Idx → α) (hc : (M m L).ShapeCasts (T m n b))
    (ht : (T m n b).Transposes [1, 0, 2] (T n m b)) (s : Fin n) (j : Fin m) (q : Fin b) :
    transpose (T n m b) [1, 0, 2] (shapeCast (T m n b) x hc) ht (ix3 s j q) = x (ix2 j (grow h s q)) := by
  refine (transpose_apply _ _ ht (ix3 s j q) (ix3 j s q) fun c => match c with | ⟨0, _⟩ => rfl | ⟨1, _⟩ => rfl | ⟨2, _⟩ => rfl).trans ?_
  refine shapeCast_apply x hc _ _ ?_
  rw [Shape.rowMajor_val_three, Shape.rowMajor_val_two]
  show j.val * L + (s.val * b + q.val) = (j.val * n + s.val) * b + q.val
  rw [← h]; ring

/-! ## The mixer and its gradient -/

variable (h : (M 2048 1024).Idx → EReal) (W : (M 1024 3072).Idx → EReal) (w : (M 3 1024).Idx → EReal)
  (Wo : (M 1024 1024).Idx → EReal) (dy : (M 2048 1024).Idx → EReal)

/-- The input's projection. -/
def proj : (M 2048 3072).Idx → EReal := fun i => nn h W (i 0) (i 1)
/-- The gated convolution of the projection. -/
def gated : (M 2048 1024).Idx → EReal := fun i => o (proj h W) w (i 0) (i 1)
/-- The cotangent of the gated convolution. -/
def dyv : (M 2048 1024).Idx → EReal := fun i => nt dy Wo (i 0) (i 1)
/-- The cotangent of the projection, in three parts. -/
def dproj : (T 3 2048 1024).Idx → EReal := fun i => dp (proj h W) (dyv Wo dy) w (i 0) (i 1) (i 2)
/-- The cotangent of the input. -/
def dh (r : Fin 2048) (j : Fin 1024) : EReal := nt (flat (dproj h W w Wo dy)) W r j
/-- The gradient of the input weight. -/
def din (j : Fin 1024) (f : Fin 3072) : EReal := ProdSpec.tn h (flat (dproj h W w Wo dy)) j f
/-- The gradient of the output weight. -/
def dout (q j : Fin 1024) : EReal := ProdSpec.tn (gated h W w) dy q j
/-- The gradient of the convolution's weight in the first three of eight rows. -/
def dconv (k : Fin 8) (q : Fin 1024) : EReal := dwRow (proj h W) (dyv Wo dy) k q

end Cert.ScSpec

end
-- ==== Proof.ScBwdCalls.lean ====
/- The two calls with the output weight, and the input weight's gradient call, of the short-convolution mixer's backward pass:
   what one block computes and what the arrays hold after each call. -/
module

public import proofs.«01_k».proof.Proof.Windows
public import proofs.«01_k».proof.Proof.Gen.ScBwdIdeal.Frame
public import proofs.«01_k».proof.Proof.ScSpec
public import proofs.«01_k».proof.Proof.MlpSpec

@[expose] public section

set_option maxRecDepth 16384

noncomputable section

namespace Cert.ScBwdIdeal.Calls

open Cert.Windows Cert.ScBwdIdeal Cert.ScBwdIdeal.Gen Cert.MlpSpec Cert.ScSpec Cert.ProdSpec Cert.Rows Cert.Dots
open Idealize.ShloMosaic Idealize.ShloMosaic.TcCoe Idealize.ShloMosaic.ValueIdx Idealize.SL.Sem Idealize.SL
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The cotangent of the gated convolution -/

theorem idx0 : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The group of block `t`. -/
def g0 (t : Fin cfg0.N) : Fin 4 := ⟨t.val, lt_of_lt_of_eq t.isLt N_0⟩

theorem blk0_0 (c : Dev nD) (t : Fin cfg0.N) (r : Fin 2048) (k : Fin 1024) : iblk0 V c 0 t (ix2 r k) = V c main_arg4 (ix2 r k) := by
  show V c main_arg4 ((win0_0.rect t).emb (ix2 r k)) = _
  obtain ⟨h0, h1, -⟩ := idx0 t
  refine congrArg (V c main_arg4) (ix2_of _ _ _ ?_ ?_)
  · exact embAt win0_0 t 0 2048 r.val h0 (by omega)
  · exact embAt win0_0 t 1 1024 k.val h1 (by omega)

theorem blk0_1 (c : Dev nD) (t : Fin cfg0.N) (q : Fin 256) (k : Fin 1024) : iblk0 V c 1 t (ix3 (0 : Fin 1) q k) = V c main_v34 (ix3 (g0 t) q k) := by
  show V c main_v34 ((win0_1.rect t).emb (ix3 (0 : Fin 1) q k)) = _
  obtain ⟨-, -, h0, h1, h2, -⟩ := idx0 t
  refine congrArg (V c main_v34) (ix3_of _ _ _ _ ?_ ?_ ?_)
  · exact embAt win0_1 t 0 1 0 (n := t.val) h0 (by omega)
  · exact embAt win0_1 t 1 256 q.val h1 (by omega)
  · exact embAt win0_1 t 2 1024 k.val h2 (by omega)

theorem emb0 (t : Fin cfg0.N) (r : Fin 2048) (q : Fin 256) : (win0_2.rect t).emb (ix2 r q) = ix2 r (c4 (g0 t) q) := by
  obtain ⟨-, -, -, -, -, h0, h1⟩ := idx0 t
  refine ix2_of _ _ _ ?_ ?_
  · exact embAt win0_2 t 0 2048 r.val h0 (by omega)
  · exact embAt win0_2 t 1 256 q.val h1 rfl

theorem pay0_apply (x0 : Vec Ideal S2048x1024 .bf16) (x1 : Vec Ideal S1x256x1024 .bf16) (r : Fin 2048) (q : Fin 256) :
    (k0_pay1 (F := Ideal) x0 x1 (ix2 r q) : EReal) = ∑ k : Fin 1024, (x0 (ix2 r k) : EReal) * (x1 (ix3 (0 : Fin 1) q k) : EReal) := by
  have e := mm_nt (φ₁ := .bf16) (φ₂ := .bf16) 2048 1024 256 x0 (shapeCast S256x1024 x1 shapeCasts_S1x256x1024_S256x1024) r q
  exact Eq.trans e (sum2 fun k => mul2 rfl (shapeCast_1ab_ab_apply x1 shapeCasts_S1x256x1024_S256x1024 q k))

theorem out0_apply (x0 : Vec Ideal S2048x1024 .bf16) (x1 : Vec Ideal S1x256x1024 .bf16) : out0_2 (F := Ideal) x0 x1 = k0_pay1 x0 x1 := by
  unfold out0_2 r0_0 r0_1
  rw [View.ld_unit_zero hz2 _ x0, View.ld_unit_zero hz3 _ x1]
  exact View.canon_unit_zero (Val := Elt Ideal) (S := S2048x256) (e := .bf16) hz2 _ _

/-- Rows by the weight's rows, which are kept by groups. -/
def ntGroups (Y : (M 2048 1024).Idx → EReal) (W : (T 4 256 1024).Idx → EReal) (r : Fin 2048) (s : Fin 4) (q : Fin 256) : EReal :=
  ∑ k : Fin 1024, Y (ix2 r k) * W (ix3 s q k)

/-- This cotangent as one array. -/
abbrev G0 (c : Dev nD) : Buf (Elt Ideal) ((c : Thread nD τ).loc main_v35) := fun i : S2048x1024.Idx =>
  ntGroups (V c main_arg4) (V c main_v34) (i 0) (gdiv (n := 4) (b := 256) rfl (by norm_num) (i 1)) (gmod (b := 256) (by norm_num) (i 1))

theorem flushed0 (c : Dev nD) (t : Fin cfg0.N) : (dat0 V c).flushed 2 t = ((cfg0.win 2).blk t).view.read (Elt Ideal) (G0 V c) := by
  show (cfg0.win 2).cut (grid0.coords t) ((dat0 V c).after 2 t) = _
  rw [after0_2, out0_apply]
  refine funext fun y => ?_
  obtain ⟨r, q, rfl⟩ : ∃ (r : Fin 2048) (q : Fin 256), y = ix2 r q := ⟨y 0, y 1, eq_ix2 y⟩
  show _ = G0 V c ((win0_2.rect t).emb (ix2 r q))
  rw [emb0]
  refine Eq.trans (pay0_apply _ _ r q) ?_
  show _ = ntGroups (V c main_arg4) (V c main_v34) r (gdiv (n := 4) (b := 256) rfl _ (c4 (g0 t) q)) (gmod (b := 256) _ (c4 (g0 t) q))
  rw [gdiv_grow, gmod_grow]
  exact sum2 fun k => mul2 (blk0_0 V c t r k) (blk0_1 V c t q k)

theorem at0 (s : Fin 4) : ∃ t : Fin cfg0.N, g0 t = s := ⟨⟨s.val, by show _ < grid0.N; rw [N_0]; exact s.isLt⟩, Fin.ext rfl⟩

theorem arr0 (c : Dev nD) : (dat0 V c).arrAt 2 cfg0.N = G0 V c :=
  arr_of_blocks (dat0 V c) 2 (G0 V c) (flushed0 V c) fun i => by
    obtain ⟨r, f, rfl⟩ : ∃ (r : Fin 2048) (f : Fin 1024), i = ix2 r f := ⟨i 0, i 1, eq_ix2 i⟩
    obtain ⟨s, q, rfl⟩ := exists_grow (n := 4) (b := 256) rfl f
    obtain ⟨t, rfl⟩ := at0 s
    exact ⟨t, _, flush0_2 t, emb0 t _ _⟩

/-! ## The output weight's gradient, by groups -/

theorem idx1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The group of block `t`. -/
def g1 (t : Fin cfg1.N) : Fin 4 := ⟨t.val, lt_of_lt_of_eq t.isLt N_1⟩

theorem blk1_0 (c : Dev nD) (t : Fin cfg1.N) (r : Fin 2048) (q : Fin 256) : iblk1 V c 0 t (ix2 r q) = V c main_v29 (ix2 r (c4 (g1 t) q)) := by
  show V c main_v29 ((win1_0.rect t).emb (ix2 r q)) = _
  obtain ⟨h0, h1, -⟩ := idx1 t
  refine congrArg (V c main_v29) (ix2_of _ _ _ ?_ ?_)
  · exact embAt win1_0 t 0 2048 r.val h0 (by omega)
  · exact embAt win1_0 t 1 256 q.val h1 rfl

theorem blk1_1 (c : Dev nD) (t : Fin cfg1.N) (r : Fin 2048) (k : Fin 1024) : iblk1 V c 1 t (ix2 r k) = V c main_arg4 (ix2 r k) := by
  show V c main_arg4 ((win1_1.rect t).emb (ix2 r k)) = _
  obtain ⟨-, -, h0, h1, -⟩ := idx1 t
  refine congrArg (V c main_arg4) (ix2_of _ _ _ ?_ ?_)
  · exact embAt win1_1 t 0 2048 r.val h0 (by omega)
  · exact embAt win1_1 t 1 1024 k.val h1 (by omega)

theorem emb1 (t : Fin cfg1.N) (q : Fin 256) (k : Fin 1024) : (win1_2.rect t).emb (ix3 (0 : Fin 1) q k) = ix3 (g1 t) q k := by
  obtain ⟨-, -, -, -, h0, h1, h2⟩ := idx1 t
  refine ix3_of _ _ _ _ ?_ ?_ ?_
  · exact embAt win1_2 t 0 1 0 (n := t.val) h0 (by omega)
  · exact embAt win1_2 t 1 256 q.val h1 (by omega)
  · exact embAt win1_2 t 2 1024 k.val h2 (by omega)

theorem pay1_apply (x0 : Vec Ideal S2048x256 .bf16) (x1 : Vec Ideal S2048x1024 .bf16) (q : Fin 256) (k : Fin 1024) :
    (k1_pay1 (F := Ideal) x0 x1 (ix3 (0 : Fin 1) q k) : EReal) = ∑ r : Fin 2048, (x0 (ix2 r q) : EReal) * (x1 (ix2 r k) : EReal) := by
  unfold k1_pay1
  rw [shapeCast_self]
  refine (shapeCast_ab_1ab_apply _ shapeCasts_S256x1024_S1x256x1024 (0 : Fin 1) q k).trans ?_
  exact mm_tn (φ₁ := .bf16) (φ₂ := .bf16) 256 2048 1024 x0 x1 q k

theorem out1_apply (x0 : Vec Ideal S2048x256 .bf16) (x1 : Vec Ideal S2048x1024 .bf16) : out1_2 (F := Ideal) x0 x1 = k1_pay1 x0 x1 := by
  unfold out1_2 r1_0 r1_1
  rw [View.ld_unit_zero hz2 _ x0, View.ld_unit_zero hz2 _ x1]
  exact View.canon_unit_zero (Val := Elt Ideal) (S := S1x256x1024) (e := .bf16) hz3 _ _

/-- The output weight's gradient as one array. -/
abbrev G1 (c : Dev nD) : Buf (Elt Ideal) ((c : Thread nD τ).loc main_v36) :=
  fun i : S4x256x1024.Idx => ProdSpec.tn (a := 1024) (b := 1024) (k := 2048) (V c main_v29) (V c main_arg4) (c4 (i 0) (i 1)) (i 2)

theorem flushed1 (c : Dev nD) (t : Fin cfg1.N) : (dat1 V c).flushed 2 t = ((cfg1.win 2).blk t).view.read (Elt Ideal) (G1 V c) := by
  show (cfg1.win 2).cut (grid1.coords t) ((dat1 V c).after 2 t) = _
  rw [after1_2, out1_apply]
  refine funext fun y => ?_
  obtain ⟨z, q, k, rfl⟩ : ∃ (z : Fin 1) (q : Fin 256) (k : Fin 1024), y = ix3 z q k := ⟨y 0, y 1, y 2, eq_ix3 y⟩
  obtain rfl : z = 0 := Subsingleton.elim _ _
  show _ = G1 V c ((win1_2.rect t).emb (ix3 (0 : Fin 1) q k))
  rw [emb1]
  exact Eq.trans (pay1_apply _ _ q k) (sum2 fun r => mul2 (blk1_0 V c t r q) (blk1_1 V c t r k))

theorem at1 (s : Fin 4) : ∃ t : Fin cfg1.N, g1 t = s := ⟨⟨s.val, by show _ < grid1.N; rw [N_1]; exact s.isLt⟩, Fin.ext rfl⟩

theorem arr1 (c : Dev nD) : (dat1 V c).arrAt 2 cfg1.N = G1 V c :=
  arr_of_blocks (dat1 V c) 2 (G1 V c) (flushed1 V c) fun i => by
    obtain ⟨s, q, k, rfl⟩ : ∃ (s : Fin 4) (q : Fin 256) (k : Fin 1024), i = ix3 s q k := ⟨i 0, i 1, i 2, eq_ix3 i⟩
    obtain ⟨t, rfl⟩ := at1 s
    exact ⟨t, _, flush1_2 t, emb1 t _ _⟩

/-! ## The input weight's gradient, by groups -/

theorem idx4 : ∀ t : Fin cfg4.N, win4_0.index t (0 : Fin 2) = 0 ∧ win4_0.index t (1 : Fin 2) = 0
    ∧ win4_1.index t (0 : Fin 3) = t.val / 4 ∧ win4_1.index t (1 : Fin 3) = 0 ∧ win4_1.index t (2 : Fin 3) = t.val % 4
    ∧ win4_2.index t (0 : Fin 3) = t.val / 3 ∧ win4_2.index t (1 : Fin 3) = 0 ∧ win4_2.index t (2 : Fin 3) = t.val % 3 :=
  (by decide +kernel : ∀ t : Fin grid4.N, _)

theorem lt4 (t : Fin cfg4.N) : t.val < 12 := lt_of_lt_of_eq t.isLt N_4

/-- Column `q` of block `t`, among all the columns. -/
def f4 (t : Fin cfg4.N) (q : Fin 256) : Fin 3072 := ⟨t.val * 256 + q.val, by have := lt4 t; omega⟩
/-- The chip of block `t`. -/
def s4 (t : Fin cfg4.N) : Fin 4 := ⟨t.val / 3, by have := lt4 t; omega⟩
/-- The chip's 256 columns of block `t`. -/
def e4 (t : Fin cfg4.N) : Fin 3 := ⟨t.val % 3, by omega⟩
/-- Column `q` of the `s`-th 256 of 768. -/
abbrev c3 (s : Fin 3) (q : Fin 256) : Fin 768 := grow (n := 3) (b := 256) rfl s q

theorem c768_c3 (t : Fin cfg4.N) (q : Fin 256) : c768 (s4 t) (c3 (e4 t) q) = f4 t q :=
  Fin.ext (by show t.val / 3 * 768 + (t.val % 3 * 256 + q.val) = t.val * 256 + q.val; omega)

theorem blk4_0 (c : Dev nD) (t : Fin cfg4.N) (r : Fin 2048) (k : Fin 1024) : iblk4 V c 0 t (ix2 r k) = V c main_arg0 (ix2 r k) := by
  show V c main_arg0 ((win4_0.rect t).emb (ix2 r k)) = _
  obtain ⟨h0, h1, -⟩ := idx4 t
  refine congrArg (V c main_arg0) (ix2_of _ _ _ ?_ ?_)
  · exact embAt win4_0 t 0 2048 r.val h0 (by omega)
  · exact embAt win4_0 t 1 1024 k.val h1 (by omega)

theorem blk4_1 (c : Dev nD) (t : Fin cfg4.N) (r : Fin 2048) (q : Fin 256) :
    iblk4 V c 1 t (ix3 (0 : Fin 1) r q) = V c main_v37_0 (ix3 (part (f4 t q)) r (off (f4 t q))) := by
  show V c main_v37_0 ((win4_1.rect t).emb (ix3 (0 : Fin 1) r q)) = _
  obtain ⟨-, -, h0, h1, h2, -⟩ := idx4 t
  refine congrArg (V c main_v37_0) (ix3_of _ _ _ _ ?_ ?_ ?_)
  · exact embAt win4_1 t 0 1 0 (n := (t.val * 256 + q.val) / 1024) h0 (by omega)
  · exact embAt win4_1 t 1 2048 r.val h1 (by omega)
  · exact embAt win4_1 t 2 256 q.val (n := (t.val * 256 + q.val) % 1024) h2 (by omega)

theorem emb4 (t : Fin cfg4.N) (k : Fin 1024) (q : Fin 256) : (win4_2.rect t).emb (ix3 (0 : Fin 1) k q) = ix3 (s4 t) k (c3 (e4 t) q) := by
  obtain ⟨-, -, -, -, -, h0, h1, h2⟩ := idx4 t
  refine ix3_of _ _ _ _ ?_ ?_ ?_
  · exact embAt win4_2 t 0 1 0 (n := t.val / 3) h0 (by omega)
  · exact embAt win4_2 t 1 1024 k.val h1 (by omega)
  · exact embAt win4_2 t 2 256 q.val h2 rfl

theorem pay4_apply (x0 : Vec Ideal S2048x1024 .bf16) (x1 : Vec Ideal S1x2048x256 .bf16) (k : Fin 1024) (q : Fin 256) :
    (k4_pay1 (F := Ideal) x0 x1 (ix3 (0 : Fin 1) k q) : EReal) = ∑ r : Fin 2048, (x0 (ix2 r k) : EReal) * (x1 (ix3 (0 : Fin 1) r q) : EReal) := by
  unfold k4_pay1
  refine (shapeCast_ab_1ab_apply _ shapeCasts_S1024x256_S1x1024x256 (0 : Fin 1) k q).trans ?_
  exact Eq.trans (mm_tn (φ₁ := .bf16) (φ₂ := .bf16) 1024 2048 256 x0 (shapeCast S2048x256 x1 shapeCasts_S1x2048x256_S2048x256) k q)
    (sum2 fun r => mul2 rfl (shapeCast_1ab_ab_apply x1 shapeCasts_S1x2048x256_S2048x256 r q))

theorem out4_apply (x0 : Vec Ideal S2048x1024 .bf16) (x1 : Vec Ideal S1x2048x256 .bf16) : out4_2 (F := Ideal) x0 x1 = k4_pay1 x0 x1 := by
  unfold out4_2 r4_0 r4_1
  rw [View.ld_unit_zero hz2 _ x0, View.ld_unit_zero hz3 _ x1]
  exact View.canon_unit_zero (Val := Elt Ideal) (S := S1x1024x256) (e := .bf16) hz3 _ _

/-- The input weight's gradient as one array. -/
abbrev G4 (c : Dev nD) : Buf (Elt Ideal) ((c : Thread nD τ).loc main_v39) := fun i : S4x1024x768.Idx =>
  ProdSpec.tn (a := 1024) (b := 3072) (k := 2048) (V c main_arg0) (flat (V c main_v37_0)) (i 1) (c768 (i 0) (i 2))

theorem flushed4 (c : Dev nD) (t : Fin cfg4.N) : (dat4 V c).flushed 2 t = ((cfg4.win 2).blk t).view.read (Elt Ideal) (G4 V c) := by
  show (cfg4.win 2).cut (grid4.coords t) ((dat4 V c).after 2 t) = _
  rw [after4_2, out4_apply]
  refine funext fun y => ?_
  obtain ⟨z, k, q, rfl⟩ : ∃ (z : Fin 1) (k : Fin 1024) (q : Fin 256), y = ix3 z k q := ⟨y 0, y 1, y 2, eq_ix3 y⟩
  obtain rfl : z = 0 := Subsingleton.elim _ _
  show _ = G4 V c ((win4_2.rect t).emb (ix3 (0 : Fin 1) k q))
  rw [emb4]
  refine Eq.trans (pay4_apply _ _ k q) ?_
  show _ = ProdSpec.tn (a := 1024) (b := 3072) (k := 2048) (V c main_arg0) (flat (V c main_v37_0)) k (c768 (s4 t) (c3 (e4 t) q))
  rw [c768_c3]
  exact sum2 fun r => mul2 (blk4_0 V c t r k) (blk4_1 V c t r q)

theorem at4 (s : Fin 4) (e : Fin 3) : ∃ t : Fin cfg4.N, s4 t = s ∧ e4 t = e :=
  ⟨⟨s.val * 3 + e.val, by show _ < grid4.N; rw [N_4]; omega⟩, Fin.ext (by show (s.val * 3 + e.val) / 3 = s.val; omega),
    Fin.ext (by show (s.val * 3 + e.val) % 3 = e.val; omega)⟩

theorem arr4 (c : Dev nD) : (dat4 V c).arrAt 2 cfg4.N = G4 V c :=
  arr_of_blocks (dat4 V c) 2 (G4 V c) (flushed4 V c) fun i => by
    obtain ⟨s, k, f, rfl⟩ : ∃ (s : Fin 4) (k : Fin 1024) (f : Fin 768), i = ix3 s k f := ⟨i 0, i 1, i 2, eq_ix3 i⟩
    obtain ⟨e, q, rfl⟩ := exists_grow (n := 3) (b := 256) rfl f
    obtain ⟨t, rfl, rfl⟩ := at4 s e
    exact ⟨t, _, flush4_2 t, emb4 t _ _⟩

end Cert.ScBwdIdeal.Calls

end
-- ==== Proof.ScBwdConv.lean ====
/- The gated convolution's gradient call within the mixer's backward pass: what one column block computes, and what the two
   result arrays hold after it. -/
module

public import proofs.«01_k».proof.Proof.Windows
public import proofs.«01_k».proof.Proof.ScBwdCalls
public import proofs.«01_k».proof.Proof.ConvBwdKernel

@[expose] public section

set_option maxRecDepth 16384

noncomputable section

namespace Cert.ScBwdIdeal.Calls

open Cert.Windows Cert.ScBwdIdeal Cert.ScBwdIdeal.Gen Cert.MlpSpec Cert.ScSpec Cert.ConvSpec Cert.Rows
open Cert.ConvBwdIdeal.RefValue (L6 L7 sAt sDu sDp sDw canon6_apply canon7_apply ld_row ld_whole ld_lit)
open Cert.ConvBwdIdeal.Gen (k0_pay2 k0_pay3 k0_pay4 k0_pay5 k0_pay6 k0_pay7 k0_pay9 k0_pay10 k0_pay11 k0_pay12)
open Idealize.ShloMosaic Idealize.ShloMosaic.TcCoe Idealize.ShloMosaic.ValueIdx Idealize.SL.Sem Idealize.SL
open Idealize.ShloMosaic.Pipeline (Dat)

variable (V : (c : Dev nD) → (b : Ref sig .tc) → Buf (Elt Ideal) ((c : Thread nD τ).loc b))

/-! ## The body's steps are the ones of the convolution's own gradient call -/

section Steps

variable (xB xC xX xV xD : Vec Ideal S2048x256 .bf16) (w2 : Vec Ideal S1x256 .f32)

theorem step2 : k2_pay2 (F := Ideal) xC = k0_pay2 xC := by unfold k2_pay2 k0_pay2; rw [shapeCast_self]
theorem step3 : k2_pay3 (F := Ideal) xX = k0_pay3 xX := by unfold k2_pay3 k0_pay3; rw [shapeCast_self]
theorem step5 : k2_pay5 (F := Ideal) xD = k0_pay5 xD := by unfold k2_pay5 k0_pay5; rw [shapeCast_self]
theorem step4 : k2_pay4 (F := Ideal) xC xX = k0_pay4 xC xX := by unfold k2_pay4 k0_pay4; rw [step2, step3]
theorem step6 : k2_pay6 (F := Ideal) xD xV = k0_pay6 xD xV := by unfold k2_pay6 k0_pay6; rw [step5]
theorem step7 : k2_pay7 (F := Ideal) xD xB = k0_pay7 xD xB := by unfold k2_pay7 k0_pay7; rw [step5, shapeCast_self]
theorem step9 : k2_pay9 (F := Ideal) xC xX xD xB = k0_pay9 xC xX xD xB := by unfold k2_pay9 k0_pay9; rw [step7, step4]
theorem step10 : k2_pay10 (F := Ideal) xD xB w2 = k0_pay10 xD xB w2 := by unfold k2_pay10 k0_pay10; rw [step7]
theorem step11 : k2_pay11 (F := Ideal) xD xB = k0_pay11 xD xB := by unfold k2_pay11 k0_pay11; rw [step7]
theorem step12 : k2_pay12 (F := Ideal) xD xB = k0_pay12 xD xB := by unfold k2_pay12 k0_pay12; rw [step11]

end Steps

theorem pieces6 (c : Dev nD) (i : grid2.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole)
    (arg7 : Memref sig .tc .vmem S3x2048x256 .bf16) (harg7 : arg7.IsWhole) (arg8 : Memref sig .tc .vmem S8x256 .f32) (harg8 : arg8.IsWhole)
    (x0 x1 x2 x3 x4 : Vec Ideal S2048x256 .bf16) (x5 : Vec Ideal S3x256 .f32) :
    (kernelRun2_A (F := Ideal) c i arg1 harg1 arg2 harg2 arg3 harg3 arg4 harg4 arg5 harg5 arg6 harg6 arg7 harg7 arg8 harg8 x0 x1 x2 x3 x4 x5).1
      = L6 x0 x1 x2 x3 x4 (View.ld x5 (Rect.unit (s := S3x256) ![2, 0] S1x256.size inb_S3x256_S1x256_2_0))
          (View.ld x5 (Rect.unit (s := S3x256) ![1, 0] S1x256.size inb_S3x256_S1x256_1_0))
          (View.ld x5 (Rect.unit (s := S3x256) ![0, 0] S1x256.size inb_S3x256_S1x256_0_0)) := by
  unfold kernelRun2_A
  dsimp only
  sl_unfold_words
  simp only [View.readAt_eq_ld, harg1.read_unread, harg2.read_unread, harg3.read_unread, harg4.read_unread, harg5.read_unread, harg6.read_unread, ld_whole]
  simp only [ld_lit, step2, step3, step4, step6, step7, step9, step10, step11, step12]
  rfl

theorem pieces7 (c : Dev nD) (i : grid2.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole)
    (arg7 : Memref sig .tc .vmem S3x2048x256 .bf16) (harg7 : arg7.IsWhole) (arg8 : Memref sig .tc .vmem S8x256 .f32) (harg8 : arg8.IsWhole)
    (x0 x1 x2 x3 x4 : Vec Ideal S2048x256 .bf16) (x5 : Vec Ideal S3x256 .f32) :
    (kernelRun2_A (F := Ideal) c i arg1 harg1 arg2 harg2 arg3 harg3 arg4 harg4 arg5 harg5 arg6 harg6 arg7 harg7 arg8 harg8 x0 x1 x2 x3 x4 x5).2.1
      = L7 x0 x1 x2 x4 := by
  unfold kernelRun2_A
  dsimp only
  sl_unfold_words
  simp only [View.readAt_eq_ld, harg1.read_unread, harg2.read_unread, harg3.read_unread, harg4.read_unread, harg5.read_unread, harg6.read_unread, ld_whole]
  simp only [ld_lit, step2, step3, step4, step6, step7, step9, step10, step11, step12]
  rfl

/-! ## The blocks read -/

theorem idx2 : ∀ t : Fin cfg2.N, win2_0.index t (0 : Fin 2) = 0 ∧ win2_0.index t (1 : Fin 2) = t.val
    ∧ win2_1.index t (0 : Fin 2) = 0 ∧ win2_1.index t (1 : Fin 2) = t.val + 4
    ∧ win2_2.index t (0 : Fin 2) = 0 ∧ win2_2.index t (1 : Fin 2) = t.val + 8
    ∧ win2_3.index t (0 : Fin 2) = 0 ∧ win2_3.index t (1 : Fin 2) = t.val
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 3) = 0 ∧ win2_6.index t (1 : Fin 3) = 0 ∧ win2_6.index t (2 : Fin 3) = t.val
    ∧ win2_7.index t (0 : Fin 2) = 0 ∧ win2_7.index t (1 : Fin 2) = t.val :=
  (by decide +kernel : ∀ t : Fin grid2.N, _)

/-- The block's group. -/
def g2 (t : Fin cfg2.N) : Fin 4 := ⟨t.val, lt_of_lt_of_eq t.isLt N_2⟩

theorem blk2_0 (c : Dev nD) (t : Fin cfg2.N) (r : Fin 2048) (q : Fin 256) : iblk2 V c 0 t (ix2 r q) = gB (V c main_v2) r (c4 (g2 t) q) := by
  show V c main_v2 ((win2_0.rect t).emb (ix2 r q)) = _
  obtain ⟨h0, h1, -⟩ := idx2 t
  refine congrArg (V c main_v2) (ix2_of _ _ _ ?_ ?_)
  · exact embAt win2_0 t 0 2048 r.val h0 (by omega)
  · exact embAt win2_0 t 1 256 q.val h1 rfl

theorem blk2_1 (c : Dev nD) (t : Fin cfg2.N) (r : Fin 2048) (q : Fin 256) : iblk2 V c 1 t (ix2 r q) = gC (V c main_v2) r (c4 (g2 t) q) := by
  show V c main_v2 ((win2_1.rect t).emb (ix2 r q)) = _
  obtain ⟨-, -, h0, h1, -⟩ := idx2 t
  refine congrArg (V c main_v2) (ix2_of _ _ _ ?_ ?_)
  · exact embAt win2_1 t 0 2048 r.val h0 (by omega)
  · exact embAt win2_1 t 1 256 q.val (n := 1024 + (t.val * 256 + q.val)) h1 (by omega)

theorem blk2_2 (c : Dev nD) (t : Fin cfg2.N) (r : Fin 2048) (q : Fin 256) : iblk2 V c 2 t (ix2 r q) = gX (V c main_v2) r (c4 (g2 t) q) := by
  show V c main_v2 ((win2_2.rect t).emb (ix2 r q)) = _
  obtain ⟨-, -, -, -, h0, h1, -⟩ := idx2 t
  refine congrArg (V c main_v2) (ix2_of _ _ _ ?_ ?_)
  · exact embAt win2_2 t 0 2048 r.val h0 (by omega)
  · exact embAt win2_2 t 1 256 q.val (n := 2048 + (t.val * 256 + q.val)) h1 (by omega)

theorem blk2_3 (c : Dev nD) (t : Fin cfg2.N) (r : Fin 2048) (q : Fin 256) : iblk2 V c 3 t (ix2 r q) = V c main_v26 (ix2 r (c4 (g2 t) q)) := by
  show V c main_v26 ((win2_3.rect t).emb (ix2 r q)) = _
  obtain ⟨-, -, -, -, -, -, h0, h1, -⟩ := idx2 t
  refine congrArg (V c main_v26) (ix2_of _ _ _ ?_ ?_)
  · exact embAt win2_3 t 0 2048 r.val h0 (by omega)
  · exact embAt win2_3 t 1 256 q.val h1 rfl

theorem blk2_4 (c : Dev nD) (t : Fin cfg2.N) (r : Fin 2048) (q : Fin 256) : iblk2 V c 4 t (ix2 r q) = V c main_v35 (ix2 r (c4 (g2 t) q)) := by
  show V c main_v35 ((win2_4.rect t).emb (ix2 r q)) = _
  obtain ⟨-, -, -, -, -, -, -, -, h0, h1, -⟩ := idx2 t
  refine congrArg (V c main_v35) (ix2_of _ _ _ ?_ ?_)
  · exact embAt win2_4 t 0 2048 r.val h0 (by omega)
  · exact embAt win2_4 t 1 256 q.val h1 rfl

theorem blk2_5 (c : Dev nD) (t : Fin cfg2.N) (k : Fin 3) (q : Fin 256) : iblk2 V c 5 t (ix2 k q) = V c main_arg2 (ix2 k (c4 (g2 t) q)) := by
  show V c main_arg2 ((win2_5.rect t).emb (ix2 k q)) = _
  obtain ⟨-, -, -, -, -, -, -, -, -, -, h0, h1, -⟩ := idx2 t
  refine congrArg (V c main_arg2) (ix2_of _ _ _ ?_ ?_)
  · exact embAt win2_5 t 0 3 k.val h0 (by omega)
  · exact embAt win2_5 t 1 256 q.val h1 rfl

/-! ## The two arrays -/

/-- The projection's cotangent as one array. -/
abbrev G6 (c : Dev nD) : Buf (Elt Ideal) ((c : Thread nD τ).loc main_v37_0) := fun i : S3x2048x1024.Idx => dp (V c main_v2) (V c main_v35) (V c main_arg2) (i 0) (i 1) (i 2)

/-- The weight's cotangent as one array. -/
abbrev G7 (c : Dev nD) : Buf (Elt Ideal) ((c : Thread nD τ).loc main_v37_1) := fun i : S8x1024.Idx => dwRow (V c main_v2) (V c main_v35) (i 0) (i 1)

theorem sAt_block (c : Dev nD) (t : Fin cfg2.N) (n : Nat) (r : Fin 2048) (q : Fin 256) :
    sAt (iblk2 V c 0 t) (iblk2 V c 4 t) n r q = dvAt (V c main_v2) (V c main_v35) n r (c4 (g2 t) q) := by
  unfold sAt dvAt
  split_ifs with h
  · exact mul2 (blk2_4 V c t _ q) (blk2_0 V c t _ q)
  · rfl

theorem sDu_block (c : Dev nD) (t : Fin cfg2.N) (r : Fin 2048) (q : Fin 256) :
    sDu (iblk2 V c 0 t) (iblk2 V c 4 t) (View.ld (iblk2 V c 5 t) (Rect.unit (s := S3x256) ![2, 0] S1x256.size inb_S3x256_S1x256_2_0))
      (View.ld (iblk2 V c 5 t) (Rect.unit (s := S3x256) ![1, 0] S1x256.size inb_S3x256_S1x256_1_0))
      (View.ld (iblk2 V c 5 t) (Rect.unit (s := S3x256) ![0, 0] S1x256.size inb_S3x256_S1x256_0_0)) r q
      = du (V c main_v2) (V c main_v35) (V c main_arg2) r (c4 (g2 t) q) := by
  unfold sDu du
  rw [ld_row _ 2 (by norm_num), ld_row _ 1 (by norm_num), ld_row _ 0 (by norm_num), sAt_block, sAt_block, sAt_block, dvAt_zero]
  exact add2 (add2 (mul2 rfl (blk2_5 V c t 2 q)) (mul2 rfl (blk2_5 V c t 1 q))) (mul2 rfl (blk2_5 V c t 0 q))

theorem emb2_6 (t : Fin cfg2.N) (k : Fin 3) (r : Fin 2048) (q : Fin 256) : (win2_6.rect t).emb (ix3 k r q) = ix3 k r (c4 (g2 t) q) := by
  obtain ⟨-, -, -, -, -, -, -, -, -, -, -, -, h0, h1, h2, -⟩ := idx2 t
  refine funext fun a => Fin.ext ?_
  match a with
  | ⟨0, _⟩ => exact embAt win2_6 t 0 3 k.val (n := k.val) h0 (by omega)
  | ⟨1, _⟩ => exact embAt win2_6 t 1 2048 r.val (n := r.val) h1 (by omega)
  | ⟨2, _⟩ => exact embAt win2_6 t 2 256 q.val (n := t.val * 256 + q.val) h2 rfl

theorem emb2_7 (t : Fin cfg2.N) (k : Fin 8) (q : Fin 256) : (win2_7.rect t).emb (ix2 k q) = ix2 k (c4 (g2 t) q) := by
  obtain ⟨-, -, -, -, -, -, -, -, -, -, -, -, -, -, -, h0, h1⟩ := idx2 t
  refine ix2_of _ _ _ ?_ ?_
  · exact embAt win2_7 t 0 8 k.val h0 (by omega)
  · exact embAt win2_7 t 1 256 q.val h1 rfl

theorem flushed2_6 (c : Dev nD) (hv : ∀ r q, V c main_v26 (ix2 r q) = v (V c main_v2) (V c main_arg2) r q) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold outsAt2
  dsimp only
  unfold out2_A_6
  rw [View.read_writes_eq_canon _ _ _ (cover2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t)),
    pieces6]
  refine funext fun y => ?_
  obtain ⟨k, r, q, rfl⟩ : ∃ (k : Fin 3) (r : Fin 2048) (q : Fin 256), y = ix3 k r q := ⟨y 0, y 1, y 2, eq_ix3 y⟩
  show _ = G6 V c ((win2_6.rect t).emb (ix3 k r q))
  rw [emb2_6]
  refine Eq.trans (canon6_apply _ _ _ _ _ _ _ _ k r q) ?_
  show _ = dp (V c main_v2) (V c main_v35) (V c main_arg2) k r (c4 (g2 t) q)
  unfold sDp dp
  match k with
  | 0 => exact mul2 (blk2_4 V c t r q) ((blk2_3 V c t r q).trans (hv r _))
  | 1 => exact mul2 (sDu_block V c t r q) (blk2_2 V c t r q)
  | 2 => exact mul2 (sDu_block V c t r q) (blk2_1 V c t r q)

theorem flushed2_7 (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  unfold outsAt2
  dsimp only
  unfold out2_A_7
  rw [View.read_writes_eq_canon _ _ _ (cover2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t)),
    pieces7]
  refine funext fun y => ?_
  obtain ⟨k, q, rfl⟩ : ∃ (k : Fin 8) (q : Fin 256), y = ix2 k q := ⟨y 0, y 1, eq_ix2 y⟩
  show _ = G7 V c ((win2_7.rect t).emb (ix2 k q))
  rw [emb2_7]
  refine Eq.trans (canon7_apply _ _ _ _ k q) ?_
  show _ = dwRow (V c main_v2) (V c main_v35) k (c4 (g2 t) q)
  unfold sDw dwRow dw u
  refine if_congr Iff.rfl (Finset.sum_congr rfl fun r _ => mul2 (sAt_block V c t _ r q) (mul2 (blk2_1 V c t r q) (blk2_2 V c t r q))) rfl

theorem at2 (s : Fin 4) : ∃ t : Fin cfg2.N, g2 t = s := ⟨⟨s.val, by show _ < grid2.N; rw [N_2]; exact s.isLt⟩, Fin.ext rfl⟩

theorem arr2_6 (c : Dev nD) (hv : ∀ r q, V c main_v26 (ix2 r q) = v (V c main_v2) (V c main_arg2) r q) : (dat2 V c).arrAt 6 cfg2.N = G6 V c :=
  arr_of_blocks (dat2 V c) 6 (G6 V c) (flushed2_6 V c hv) fun i => by
    obtain ⟨k, r, f, rfl⟩ : ∃ (k : Fin 3) (r : Fin 2048) (f : Fin 1024), i = ix3 k r f := ⟨i 0, i 1, i 2, eq_ix3 i⟩
    obtain ⟨s, q, rfl⟩ := ProdSpec.exists_grow (n := 4) (b := 256) rfl f
    obtain ⟨t, rfl⟩ := at2 s
    exact ⟨t, _, flush2_6 t, emb2_6 t _ _ _⟩

theorem arr2_7 (c : Dev nD) : (dat2 V c).arrAt 7 cfg2.N = G7 V c :=
  arr_of_blocks (dat2 V c) 7 (G7 V c) (flushed2_7 V c) fun i => by
    obtain ⟨k, f, rfl⟩ : ∃ (k : Fin 8) (f : Fin 1024), i = ix2 k f := ⟨i 0, i 1, eq_ix2 i⟩
    obtain ⟨s, q, rfl⟩ := ProdSpec.exists_grow (n := 4) (b := 256) rfl f
    obtain ⟨t, rfl⟩ := at2 s
    exact ⟨t, _, flush2_7 t, emb2_7 t _ _⟩

end Cert.ScBwdIdeal.Calls

end
-- ==== Proof.ScBwdDh.lean ====
/- The input's cotangent call of the short-convolution mixer's backward pass: twelve products of 256 columns, which one after
   another run over all 3072 columns of the projection. -/
module

public import proofs.«01_k».proof.Proof.Windows
public import proofs.«01_k».proof.Proof.ScBwdCalls

@[expose] public section

set_option maxRecDepth 16384

noncomputable section

namespace Cert.ScBwdIdeal.Calls

open Cert.Windows Cert.ScBwdIdeal Cert.ScBwdIdeal.Gen Cert.MlpSpec Cert.ScSpec Cert.ProdSpec Cert.Rows Cert.Dots
open Idealize.ShloMosaic Idealize.ShloMosaic.TcCoe Idealize.ShloMosaic.ValueIdx Idealize.SL.Sem Idealize.SL
open Idealize.ShloMosaic.Pipeline (Dat)
open scoped BigOperators

variable (V : (c : Dev nD) → (b : Ref sig .tc) → Buf (Elt Ideal) ((c : Thread nD τ).loc b))

/-! ## One of the twelve products -/

/-- One part of an array in parts. -/
theorem slice3_apply {α : Type} {a b c : Nat} (p : Nat) (x : (T a b c).Idx → α) (h : (T a b c).Slices ![p, 0, 0] (T 1 b c)) (q : Fin b) (k : Fin c) (hp : p < a) :
    extractStridedSlice (T 1 b c) ![p, 0, 0] x h (ix3 (0 : Fin 1) q k) = x (ix3 ⟨p, hp⟩ q k) :=
  extractStridedSlice_apply _ x h _ _ (fun d => match d with
    | ⟨0, _⟩ => rfl
    | ⟨1, _⟩ => (Nat.zero_add _).symm
    | ⟨2, _⟩ => (Nat.zero_add _).symm)

/-- Columns of one part of an array in parts. -/
theorem cut_apply {α : Type} {a b c d : Nat} (p o : Nat) (x : (T a b c).Idx → α) (h : (T a b c).Slices ![p, 0, 0] (T 1 b c))
    (hc : (T 1 b c).ShapeCasts (M b c)) (h' : (M b c).Slices ![0, o] (M b d)) (q : Fin b) (k : Fin d) (hp : p < a) (ho : o + k.val < c) :
    extractStridedSlice (M b d) ![0, o] (shapeCast (M b c) (extractStridedSlice (T 1 b c) ![p, 0, 0] x h) hc) h' (ix2 q k) = x (ix3 ⟨p, hp⟩ q ⟨o + k.val, ho⟩) :=
  (slice_apply 0 o _ h' q k (by omega) ho).trans ((congrArg _ (ix2_of _ q _ (Nat.zero_add _) rfl)).trans
    ((shapeCast_1ab_ab_apply _ hc q _).trans (slice3_apply p x h q _ hp)))

variable (x0 : Vec Ideal S3x1024x1024 .bf16) (x1 : Vec Ideal S4x512x768 .bf16)

/-- The `g`-th product of 256 columns: part `g / 4`, its columns `g % 4`; chip `g / 3`, its columns `g % 3`. -/
def slot (r : Fin 1024) (q : Fin 512) (g : Fin 12) : EReal :=
  ∑ k : Fin 256, x0 (ix3 (⟨g.val / 4, by omega⟩ : Fin 3) r (⟨g.val % 4 * 256 + k.val, by omega⟩ : Fin 1024))
    * x1 (ix3 (⟨g.val / 3, by omega⟩ : Fin 4) q (⟨g.val % 3 * 256 + k.val, by omega⟩ : Fin 768))

theorem slot_apply (g : Fin 12) (p o s e : Nat) (hp : g.val / 4 = p) (ho : g.val % 4 * 256 = o) (hs : g.val / 3 = s) (he : g.val % 3 * 256 = e)
    (h : S3x1024x1024.Slices ![p, 0, 0] S1x1024x1024) (hc : S1x1024x1024.ShapeCasts S1024x1024) (h' : S1024x1024.Slices ![0, o] S1024x256)
    (l : S4x512x768.Slices ![s, 0, 0] S1x512x768) (lc : S1x512x768.ShapeCasts S512x768) (l' : S512x768.Slices ![0, e] S512x256)
    (r : Fin 1024) (q : Fin 512) :
    (matmul (F := Ideal) (φ₁ := .bf16) (φ₂ := .bf16) dot_S1024x256_S512x256_S1024x512_1_1_0_0_n_n none
      (extractStridedSlice S1024x256 ![0, o] (shapeCast S1024x1024 (extractStridedSlice S1x1024x1024 ![p, 0, 0] x0 h) hc) h')
      (extractStridedSlice S512x256 ![0, e] (shapeCast S512x768 (extractStridedSlice S1x512x768 ![s, 0, 0] x1 l) lc) l')
      (constant S1024x512 .f32 0x00000000#32) (ix2 r q) : EReal) = slot x0 x1 r q g := by
  subst hp ho hs he
  refine Eq.trans (mm_nt (φ₁ := .bf16) (φ₂ := .bf16) 1024 256 512 _ _ r q) (sum2 fun k => mul2 ?_ ?_)
  · exact cut_apply (a := 3) (b := 1024) (c := 1024) (d := 256) (g.val / 4) (g.val % 4 * 256) x0 h hc h' r k (by omega) (by omega)
  · exact cut_apply (a := 4) (b := 512) (c := 768) (d := 256) (g.val / 3) (g.val % 3 * 256) x1 l lc l' q k (by omega) (by omega)

theorem sum12 (f : Fin 12 → EReal) :
    ∑ g, f g = f 0 + f 1 + f 2 + f 3 + f 4 + f 5 + f 6 + f 7 + f 8 + f 9 + f 10 + f 11 := by
  simp only [Fin.sum_univ_castSucc, Fin.sum_univ_zero, zero_add]; rfl

/-- The first five products. -/
theorem first_apply (r : Fin 1024) (q : Fin 512) :
    (k3_pay3 (F := Ideal) x0 x1 (ix2 r q) : EReal) = slot x0 x1 r q 0 + slot x0 x1 r q 1 + slot x0 x1 r q 2 + slot x0 x1 r q 3 + slot x0 x1 r q 4 := by
  unfold k3_pay3 k3_pay1 k3_pay2
  rw [shapeCast_self, shapeCast_self]
  exact (add2 (add2 (add2 (add2 (slot_apply x0 x1 0 0 0 0 0 rfl rfl rfl rfl _ _ _ _ _ _ r q)
    (slot_apply x0 x1 1 0 256 0 256 rfl rfl rfl rfl _ _ _ _ _ _ r q))
    (slot_apply x0 x1 2 0 512 0 512 rfl rfl rfl rfl _ _ _ _ _ _ r q))
    (slot_apply x0 x1 3 0 768 1 0 rfl rfl rfl rfl _ _ _ _ _ _ r q))
    (slot_apply x0 x1 4 1 0 1 256 rfl rfl rfl rfl _ _ _ _ _ _ r q))

theorem pay3_apply (r : Fin 1024) (q : Fin 512) :
    (k3_pay6 (F := Ideal) (k3_pay1 x0) (k3_pay2 x1) (k3_pay3 x0 x1) (k3_pay4 x0) (k3_pay5 x1) (ix2 r q) : EReal) = ∑ g : Fin 12, slot x0 x1 r q g := by
  unfold k3_pay6 k3_pay4 k3_pay5 k3_pay1 k3_pay2
  rw [shapeCast_self, shapeCast_self, sum12]
  exact (add2 (add2 (add2 (add2 (add2 (add2 (add2 (first_apply x0 x1 r q)
    (slot_apply x0 x1 5 1 256 1 512 rfl rfl rfl rfl _ _ _ _ _ _ r q))
    (slot_apply x0 x1 6 1 512 2 0 rfl rfl rfl rfl _ _ _ _ _ _ r q))
    (slot_apply x0 x1 7 1 768 2 256 rfl rfl rfl rfl _ _ _ _ _ _ r q))
    (slot_apply x0 x1 8 2 0 2 512 rfl rfl rfl rfl _ _ _ _ _ _ r q))
    (slot_apply x0 x1 9 2 256 3 0 rfl rfl rfl rfl _ _ _ _ _ _ r q))
    (slot_apply x0 x1 10 2 512 3 256 rfl rfl rfl rfl _ _ _ _ _ _ r q))
    (slot_apply x0 x1 11 2 768 3 512 rfl rfl rfl rfl _ _ _ _ _ _ r q))

theorem out3_apply : out3_2 (F := Ideal) x0 x1 = k3_pay6 (k3_pay1 x0) (k3_pay2 x1) (k3_pay3 x0 x1) (k3_pay4 x0) (k3_pay5 x1) := by
  unfold out3_2 r3_0 r3_1
  rw [View.ld_unit_zero hz3 _ x0, View.ld_unit_zero hz3 _ x1]
  exact View.canon_unit_zero (Val := Elt Ideal) (S := S1024x512) (e := .bf16) hz2 _ _

/-! ## The blocks -/

theorem idx3 : ∀ t : Fin cfg3.N, win3_0.index t (0 : Fin 3) = 0 ∧ win3_0.index t (1 : Fin 3) = t.val / 2 ∧ win3_0.index t (2 : Fin 3) = 0
    ∧ win3_1.index t (0 : Fin 3) = 0 ∧ win3_1.index t (1 : Fin 3) = t.val % 2 ∧ win3_1.index t (2 : Fin 3) = 0
    ∧ win3_2.index t (0 : Fin 2) = t.val / 2 ∧ win3_2.index t (1 : Fin 2) = t.val % 2 :=
  (by decide +kernel : ∀ t : Fin grid3.N, _)

theorem lt3 (t : Fin cfg3.N) : t.val < 4 := lt_of_lt_of_eq t.isLt N_3

/-- The rows' group of block `t`. -/
def g3 (t : Fin cfg3.N) : Fin 2 := ⟨t.val / 2, by have := lt3 t; omega⟩
/-- The columns' group of block `t`. -/
def j3 (t : Fin cfg3.N) : Fin 2 := ⟨t.val % 2, by omega⟩
/-- Row `r` of the `s`-th 1024 of 2048. -/
abbrev r2 (s : Fin 2) (r : Fin 1024) : Fin 2048 := grow (n := 2) (b := 1024) rfl s r
/-- Column `q` of the `s`-th 512 of 1024. -/
abbrev c2 (s : Fin 2) (q : Fin 512) : Fin 1024 := grow (n := 2) (b := 512) rfl s q

theorem blk3_0 (c : Dev nD) (t : Fin cfg3.N) (p : Fin 3) (r : Fin 1024) (k : Fin 1024) : iblk3 V c 0 t (ix3 p r k) = V c main_v37_0 (ix3 p (r2 (g3 t) r) k) := by
  show V c main_v37_0 ((win3_0.rect t).emb (ix3 p r k)) = _
  obtain ⟨h0, h1, h2, -⟩ := idx3 t
  refine congrArg (V c main_v37_0) (ix3_of _ _ _ _ ?_ ?_ ?_)
  · exact embAt win3_0 t 0 3 p.val h0 (by omega)
  · exact embAt win3_0 t 1 1024 r.val h1 rfl
  · exact embAt win3_0 t 2 1024 k.val h2 (by omega)

theorem blk3_1 (c : Dev nD) (t : Fin cfg3.N) (s : Fin 4) (q : Fin 512) (k : Fin 768) : iblk3 V c 1 t (ix3 s q k) = V c main_v32 (ix3 s (c2 (j3 t) q) k) := by
  show V c main_v32 ((win3_1.rect t).emb (ix3 s q k)) = _
  obtain ⟨-, -, -, h0, h1, h2, -⟩ := idx3 t
  refine congrArg (V c main_v32) (ix3_of _ _ _ _ ?_ ?_ ?_)
  · exact embAt win3_1 t 0 4 s.val h0 (by omega)
  · exact embAt win3_1 t 1 512 q.val h1 rfl
  · exact embAt win3_1 t 2 768 k.val h2 (by omega)

theorem emb3 (t : Fin cfg3.N) (r : Fin 1024) (q : Fin 512) : (win3_2.rect t).emb (ix2 r q) = ix2 (r2 (g3 t) r) (c2 (j3 t) q) := by
  obtain ⟨-, -, -, -, -, -, h0, h1⟩ := idx3 t
  refine ix2_of _ _ _ ?_ ?_
  · exact embAt win3_2 t 0 1024 r.val h0 rfl
  · exact embAt win3_2 t 1 512 q.val h1 rfl

/-- The input's cotangent as one array. -/
abbrev G3 (c : Dev nD) : Buf (Elt Ideal) ((c : Thread nD τ).loc main_v38) := fun i : S2048x1024.Idx =>
  nt (a := 2048) (b := 1024) (k := 3072) (flat (V c main_v37_0)) (unbuf (V c main_v32)) (i 0) (i 1)

theorem slot_block (c : Dev nD) (t : Fin cfg3.N) (r : Fin 1024) (q : Fin 512) :
    ∑ g : Fin 12, slot (iblk3 V c 0 t) (iblk3 V c 1 t) r q g
      = nt (a := 2048) (b := 1024) (k := 3072) (flat (V c main_v37_0)) (unbuf (V c main_v32)) (r2 (g3 t) r) (c2 (j3 t) q) := by
  refine Eq.trans ?_ (sum_groups (n := 12) (K := 256) rfl _).symm
  refine Finset.sum_congr rfl fun g _ => sum2 fun k => mul2 ?_ ?_
  · refine (blk3_0 V c t _ r _).trans (congrArg (V c main_v37_0) (ix3_of _ _ _ _ ?_ rfl ?_))
    · show g.val / 4 = (g.val * 256 + k.val) / 1024; omega
    · show g.val % 4 * 256 + k.val = (g.val * 256 + k.val) % 1024; omega
  · refine (blk3_1 V c t _ q _).trans (congrArg (V c main_v32) (ix3_of _ _ _ _ ?_ rfl ?_))
    · show g.val / 3 = (g.val * 256 + k.val) / 768; omega
    · show g.val % 3 * 256 + k.val = (g.val * 256 + k.val) % 768; omega

theorem flushed3 (c : Dev nD) (t : Fin cfg3.N) : (dat3 V c).flushed 2 t = ((cfg3.win 2).blk t).view.read (Elt Ideal) (G3 V c) := by
  show (cfg3.win 2).cut (grid3.coords t) ((dat3 V c).after 2 t) = _
  rw [after3_2, out3_apply]
  refine funext fun y => ?_
  obtain ⟨r, q, rfl⟩ : ∃ (r : Fin 1024) (q : Fin 512), y = ix2 r q := ⟨y 0, y 1, eq_ix2 y⟩
  show _ = G3 V c ((win3_2.rect t).emb (ix2 r q))
  rw [emb3]
  exact Eq.trans (pay3_apply _ _ r q) (slot_block V c t r q)

theorem at3 (s j : Fin 2) : ∃ t : Fin cfg3.N, g3 t = s ∧ j3 t = j :=
  ⟨⟨s.val * 2 + j.val, by show _ < grid3.N; rw [N_3]; omega⟩, Fin.ext (by show (s.val * 2 + j.val) / 2 = s.val; omega),
    Fin.ext (by show (s.val * 2 + j.val) % 2 = j.val; omega)⟩

theorem arr3 (c : Dev nD) : (dat3 V c).arrAt 2 cfg3.N = G3 V c :=
  arr_of_blocks (dat3 V c) 2 (G3 V c) (flushed3 V c) fun i => by
    obtain ⟨r, f, rfl⟩ : ∃ (r : Fin 2048) (f : Fin 1024), i = ix2 r f := ⟨i 0, i 1, eq_ix2 i⟩
    obtain ⟨s, r, rfl⟩ := exists_grow (n := 2) (b := 1024) rfl r
    obtain ⟨j, q, rfl⟩ := exists_grow (n := 2) (b := 512) rfl f
    obtain ⟨t, rfl, rfl⟩ := at3 s j
    exact ⟨t, _, flush3_2 t, emb3 t _ _⟩

end Cert.ScBwdIdeal.Calls

end
-- ==== Proof.ScBwdKernel.lean ====
/- The five calls of the short-convolution mixer's backward pass, one after another: what the four results hold. -/
module

public import proofs.«01_k».proof.Proof.ScBwdConv
public import proofs.«01_k».proof.Proof.ScBwdDh

@[expose] public section

set_option maxRecDepth 16384

noncomputable section

namespace Cert.ScBwdIdeal.Calls

open Cert.ScBwdIdeal Cert.ScBwdIdeal.Gen Cert.MlpSpec Cert.ConvSpec Cert.ScSpec Cert.ProdSpec Cert.Rows Cert.Dots
open Idealize.ShloMosaic Idealize.ShloMosaic.TcCoe Idealize.ShloMosaic.ValueIdx Idealize.SL.Sem Idealize.SL
open Idealize.ShloMosaic.Pipeline (Dat)
open scoped BigOperators

variable (m : (ℓ : Loc nD τ sig) → Buf (Elt Ideal) ℓ) (ρ : Dev nD → PrngReg)

/-- The mixer's input. -/
abbrev aH (c : Dev nD) : (M 2048 1024).Idx → EReal := m ((c : Thread nD τ).loc main_arg0)
/-- The input weight. -/
abbrev aI (c : Dev nD) : (M 1024 3072).Idx → EReal := m ((c : Thread nD τ).loc main_arg1)
/-- The convolution's weight. -/
abbrev aW (c : Dev nD) : (M 3 1024).Idx → EReal := m ((c : Thread nD τ).loc main_arg2)
/-- The output weight. -/
abbrev aO (c : Dev nD) : (M 1024 1024).Idx → EReal := m ((c : Thread nD τ).loc main_arg3)
/-- The output's cotangent. -/
abbrev aD (c : Dev nD) : (M 2048 1024).Idx → EReal := m ((c : Thread nD τ).loc main_arg4)

/-! ## What the host's lines leave -/

/-- The projection as the host's lines write it. -/
abbrev raw (c : Dev nD) : (M 2048 3072).Idx → EReal :=
  truncf (F := Ideal) .bf16 (Host.dotGeneral (F := Ideal) (φ₁ := .f32) (φ₂ := .f32) dot_S2048x1024_S1024x3072_S2048x3072_1_0_0_1_n_n none (extf (F := Ideal) (φ := .bf16) .f32 (aH m c) bitsLt_bf16_f32) (aI m c)) bitsLt_bf16_f32

theorem raw_eq (c : Dev nD) : raw m c = proj (aH m c) (aI m c) := funext fun i => by
  obtain ⟨r, f, rfl⟩ : ∃ (r : Fin 2048) (f : Fin 3072), i = ix2 r f := ⟨i 0, i 1, eq_ix2 i⟩
  exact dg_nn (φ₁ := .f32) (φ₂ := .f32) 2048 1024 3072 (aH m c) (aI m c) r f

theorem saved_p (c : Dev nD) : V1 m ρ c main_v2 = proj (aH m c) (aI m c) := by
  refine Eq.trans ?_ (raw_eq m c)
  show StableHlo.after hostOps0 (fun b => m (c, b)) main_v2 = _
  after_results_simp <;> rfl

theorem saved_v (c : Dev nD) (r : Fin 2048) (q : Fin 1024) : V1 m ρ c main_v26 (ix2 r q) = v (proj (aH m c) (aI m c)) (aW m c) r q := by
  refine Eq.trans ?_ (congrArg (fun P => v P (aW m c) r q) (raw_eq m c))
  have h := fun P : (M 2048 3072).Idx → EReal => host_conv_apply P (aW m c)
    (mulf (F := Ideal) (φ := .f32) (extractStridedSlice S2048x1024 ![0, 1024] (extf (F := Ideal) (φ := .bf16) .f32 P bitsLt_bf16_f32) slices_S2048x3072_S2048x1024_0_1024)
      (extractStridedSlice S2048x1024 ![0, 2048] (extf (F := Ideal) (φ := .bf16) .f32 P bitsLt_bf16_f32) slices_S2048x3072_S2048x1024_0_2048))
    (fun r q => mul2
      ((slice_apply 0 1024 _ slices_S2048x3072_S2048x1024_0_1024 r q (by omega) (by omega)).trans (congrArg P (ix2_of _ _ _ (Nat.zero_add _) rfl)))
      ((slice_apply 0 2048 _ slices_S2048x3072_S2048x1024_0_2048 r q (by omega) (by omega)).trans (congrArg P (ix2_of _ _ _ (Nat.zero_add _) rfl))))
    bcast_S_S2048x1024 bcast_S_S2x1024 bcast_S1x1024_S2048x1024_0_1 concatenates_S2x1024_S2048x1024_S2050x1024_d0
    slices_S3x1024_S1x1024_0_0 slices_S3x1024_S1x1024_1_0 slices_S3x1024_S1x1024_2_0
    slices_S2050x1024_S2048x1024_0_0 slices_S2050x1024_S2048x1024_1_0 slices_S2050x1024_S2048x1024_2_0 r q
  have e : V1 m ρ c main_v26 = truncf (F := Ideal) .bf16 (V1 m ρ c main_v25) bitsLt_bf16_f32 := by
    show StableHlo.after hostOps0 (fun b => m (c, b)) main_v26 = truncf (F := Ideal) .bf16 (StableHlo.after hostOps0 (fun b => m (c, b)) main_v25) bitsLt_bf16_f32
    after_results_simp
  rw [e]
  refine Eq.trans (congrFun (?_ : V1 m ρ c main_v25 = _) _) (h (raw m c))
  show StableHlo.after hostOps0 (fun b => m (c, b)) main_v25 = _
  after_results_simp <;> rfl

theorem saved_o (c : Dev nD) : V1 m ρ c main_v29 = gated (aH m c) (aI m c) (aW m c) := funext fun i => by
  obtain ⟨r, q, rfl⟩ : ∃ (r : Fin 2048) (q : Fin 1024), i = ix2 r q := ⟨i 0, i 1, eq_ix2 i⟩
  have h : V1 m ρ c main_v29 = truncf (F := Ideal) .bf16 (mulf (F := Ideal) (φ := .f32)
      (extractStridedSlice S2048x1024 ![0, 0] (extf (F := Ideal) (φ := .bf16) .f32 (V1 m ρ c main_v2) bitsLt_bf16_f32) slices_S2048x3072_S2048x1024_0_0)
      (extf (F := Ideal) (φ := .bf16) .f32 (V1 m ρ c main_v26) bitsLt_bf16_f32)) bitsLt_bf16_f32 := by
    show StableHlo.after hostOps0 (fun b => m (c, b)) main_v29 = truncf (F := Ideal) .bf16 (mulf (F := Ideal) (φ := .f32)
      (extractStridedSlice S2048x1024 ![0, 0] (extf (F := Ideal) (φ := .bf16) .f32 (StableHlo.after hostOps0 (fun b => m (c, b)) main_v2) bitsLt_bf16_f32) slices_S2048x3072_S2048x1024_0_0)
      (extf (F := Ideal) (φ := .bf16) .f32 (StableHlo.after hostOps0 (fun b => m (c, b)) main_v26) bitsLt_bf16_f32)) bitsLt_bf16_f32
    after_results_simp
  rw [h]
  refine mul2 ((slice_apply 0 0 _ slices_S2048x3072_S2048x1024_0_0 r q (by omega) (by omega)).trans ?_) (saved_v m ρ c r q)
  refine (congrFun (saved_p m ρ c) _).trans (congrArg (proj (aH m c) (aI m c)) (ix2_of _ _ _ (Nat.zero_add _) (Nat.zero_add _)))

theorem weight_i (c : Dev nD) : unbuf (V1 m ρ c main_v32) = aI m c := funext fun i => by
  obtain ⟨j, f, rfl⟩ : ∃ (j : Fin 1024) (f : Fin 3072), i = ix2 j f := ⟨i 0, i 1, eq_ix2 i⟩
  have h : V1 m ρ c main_v32 = transpose S4x1024x768 [1, 0, 2] (shapeCast S1024x4x768 (aI m c) shapeCasts_S1024x3072_S1024x4x768) transposes_S1024x4x768_S4x1024x768_1_0_2 := by
    show StableHlo.after hostOps0 (fun b => m (c, b)) main_v32 = _
    after_results_simp <;> rfl
  rw [h]
  refine (regroup_apply (n := 4) (b := 768) (L := 3072) rfl (aI m c) _ _ _ j _).trans ?_
  exact congrArg (aI m c) (congrArg (ix2 j) (grow_gdiv_gmod (n := 4) (b := 768) rfl (by norm_num) f))

theorem weight_o (c : Dev nD) (s : Fin 4) (q : Fin 256) (k : Fin 1024) : V1 m ρ c main_v34 (ix3 s q k) = aO m c (ix2 (c4 s q) k) := by
  have h : V1 m ρ c main_v34 = shapeCast S4x256x1024 (aO m c) shapeCasts_S1024x1024_S4x256x1024 := by
    show StableHlo.after hostOps0 (fun b => m (c, b)) main_v34 = _
    after_results_simp <;> rfl
  rw [h]
  exact groups_apply (n := 4) (b := 256) (L := 1024) rfl _ _ s q k

/-! ## From call to call -/

theorem mid_dy (c : Dev nD) : W2 m ρ c main_v35 = dyv (aO m c) (aD m c) := by
  refine (W2_arr m ρ c 2).trans ((arr0 (V1 m ρ) c).trans (funext fun i => ?_))
  obtain ⟨r, f, rfl⟩ : ∃ (r : Fin 2048) (f : Fin 1024), i = ix2 r f := ⟨i 0, i 1, eq_ix2 i⟩
  show ntGroups (V1 m ρ c main_arg4) (V1 m ρ c main_v34) r (gdiv (n := 4) (b := 256) rfl _ f) (gmod (b := 256) _ f) = _
  rw [show V1 m ρ c main_arg4 = aD m c from W1_args m ρ c main_arg4 (by decide)]
  refine Eq.trans (sum2 fun k => mul2 rfl (weight_o m ρ c _ _ k)) ?_
  exact sum2 fun k => mul2 rfl (congrArg (fun x => aO m c (ix2 x k)) (grow_gdiv_gmod (n := 4) (b := 256) rfl (by norm_num) f))

theorem mid_p3 (c : Dev nD) : V3 m ρ c main_v2 = proj (aH m c) (aI m c) :=
  (W3_of m ρ c main_v2 (by decide +kernel)).trans ((W2_of m ρ c main_v2 (by decide +kernel)).trans (saved_p m ρ c))
theorem mid_v3 (c : Dev nD) (r : Fin 2048) (q : Fin 1024) : V3 m ρ c main_v26 (ix2 r q) = v (V3 m ρ c main_v2) (V3 m ρ c main_arg2) r q := by
  rw [mid_p3, show V3 m ρ c main_arg2 = aW m c from W3_args m ρ c main_arg2 (by decide)]
  exact (congrFun ((W3_of m ρ c main_v26 (by decide +kernel)).trans (W2_of m ρ c main_v26 (by decide +kernel))) _).trans (saved_v m ρ c r q)
theorem mid_dy3 (c : Dev nD) : V3 m ρ c main_v35 = dyv (aO m c) (aD m c) := (W3_of m ρ c main_v35 (by decide +kernel)).trans (mid_dy m ρ c)

theorem mid_dp (c : Dev nD) : W4 m ρ c main_v37_0 = dproj (aH m c) (aI m c) (aW m c) (aO m c) (aD m c) := by
  refine (W4_arr m ρ c 6).trans ((arr2_6 (V3 m ρ) c (mid_v3 m ρ c)).trans ?_)
  show (fun i : S3x2048x1024.Idx => dp (V3 m ρ c main_v2) (V3 m ρ c main_v35) (V3 m ρ c main_arg2) (i 0) (i 1) (i 2)) = _
  rw [mid_p3, mid_dy3, show V3 m ρ c main_arg2 = aW m c from W3_args m ρ c main_arg2 (by decide)]
  rfl

/-! ## The results -/

/-- The input's cotangent as one array. -/
abbrev GH (c : Dev nD) : Buf (Elt Ideal) ((c : Thread nD τ).loc main_v38) := fun i : S2048x1024.Idx => dh (aH m c) (aI m c) (aW m c) (aO m c) (aD m c) (i 0) (i 1)
/-- The input weight's gradient as one array, its columns by groups. -/
abbrev GI (c : Dev nD) : Buf (Elt Ideal) ((c : Thread nD τ).loc main_v39) := fun i : S4x1024x768.Idx => din (aH m c) (aI m c) (aW m c) (aO m c) (aD m c) (i 1) (c768 (i 0) (i 2))
/-- The convolution weight's gradient as one array. -/
abbrev GC (c : Dev nD) : Buf (Elt Ideal) ((c : Thread nD τ).loc main_v37_1) := fun i : S8x1024.Idx => dconv (aH m c) (aI m c) (aO m c) (aD m c) (i 0) (i 1)
/-- The output weight's gradient as one array, its rows by groups. -/
abbrev GO (c : Dev nD) : Buf (Elt Ideal) ((c : Thread nD τ).loc main_v36) := fun i : S4x256x1024.Idx => dout (aH m c) (aI m c) (aW m c) (aD m c) (c4 (i 0) (i 1)) (i 2)

theorem final_h (c : Dev nD) : W6 m ρ c main_v38 = GH m c := by
  refine (W6_of m ρ c main_v38 (by decide +kernel)).trans ((W5_arr m ρ c 2).trans ((arr3 (V4 m ρ) c).trans ?_))
  show (fun i : S2048x1024.Idx => nt (a := 2048) (b := 1024) (k := 3072) (flat (V4 m ρ c main_v37_0)) (unbuf (V4 m ρ c main_v32)) (i 0) (i 1)) = _
  rw [show V4 m ρ c main_v37_0 = _ from mid_dp m ρ c, show V4 m ρ c main_v32 = V1 m ρ c main_v32 from
    (W4_of m ρ c main_v32 (by decide +kernel)).trans ((W3_of m ρ c main_v32 (by decide +kernel)).trans (W2_of m ρ c main_v32 (by decide +kernel))), weight_i]
  rfl

theorem final_i (c : Dev nD) : W6 m ρ c main_v39 = GI m c := by
  refine (W6_arr m ρ c 2).trans ((arr4 (V5 m ρ) c).trans ?_)
  show (fun i : S4x1024x768.Idx => ProdSpec.tn (a := 1024) (b := 3072) (k := 2048) (V5 m ρ c main_arg0) (flat (V5 m ρ c main_v37_0)) (i 1) (c768 (i 0) (i 2))) = _
  rw [show V5 m ρ c main_v37_0 = _ from (W5_of m ρ c main_v37_0 (by decide +kernel)).trans (mid_dp m ρ c),
    show V5 m ρ c main_arg0 = aH m c from W5_args m ρ c main_arg0 (by decide)]
  rfl

theorem final_c (c : Dev nD) : W6 m ρ c main_v37_1 = GC m c := by
  refine (W6_of m ρ c main_v37_1 (by decide +kernel)).trans ((W5_of m ρ c main_v37_1 (by decide +kernel)).trans ((W4_arr m ρ c 7).trans ((arr2_7 (V3 m ρ) c).trans ?_)))
  show (fun i : S8x1024.Idx => dwRow (V3 m ρ c main_v2) (V3 m ρ c main_v35) (i 0) (i 1)) = _
  rw [mid_p3, mid_dy3]
  rfl

theorem final_o (c : Dev nD) : W6 m ρ c main_v36 = GO m c := by
  refine (W6_of m ρ c main_v36 (by decide +kernel)).trans ((W5_of m ρ c main_v36 (by decide +kernel)).trans ((W4_of m ρ c main_v36 (by decide +kernel)).trans
    ((W3_arr m ρ c 2).trans ((arr1 (V2 m ρ) c).trans ?_))))
  show (fun i : S4x256x1024.Idx => ProdSpec.tn (a := 1024) (b := 1024) (k := 2048) (V2 m ρ c main_v29) (V2 m ρ c main_arg4) (c4 (i 0) (i 1)) (i 2)) = _
  rw [show V2 m ρ c main_v29 = _ from (W2_of m ρ c main_v29 (by decide +kernel)).trans (saved_o m ρ c),
    show V2 m ρ c main_arg4 = aD m c from W2_args m ρ c main_arg4 (by decide)]
  rfl

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: the four results in closed form, the arguments unchanged. -/
theorem run : θ_run defs (onTc (τ := τ) (main (F := Ideal))) ⟨m, fun _ => 0, ρ⟩ (fun r => ∀ c : Dev nD,
      r.2.mem ((c : Thread nD τ).loc main_v38) = GH m c
      ∧ r.2.mem ((c : Thread nD τ).loc main_v39) = GI m c
      ∧ r.2.mem ((c : Thread nD τ).loc main_v37_1) = GC m c
      ∧ r.2.mem ((c : Thread nD τ).loc main_v36) = GO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v38 (by decide))).trans (final_h m ρ c),
       (h c _ (mem_uc main_v39 (by decide))).trans (final_i m ρ c),
       (h c _ (mem_uc main_v37_1 (by decide))).trans (final_c m ρ c),
       (h c _ (mem_uc main_v36 (by decide))).trans (final_o m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.ScBwdIdeal.Calls

end
-- ==== Proof.ScBwdReference.lean ====
/- The reference of the gradient of the short-convolution mixer: its four results, index by index. Between its products it is the
   reference of the gated convolution's gradient, at the projection and the gated convolution's cotangent. -/
module

public import proofs.«01_k».proof.Proof.Gen.ScBwdRefIdeal.Read
public import proofs.«01_k».proof.Proof.ConvBwdReference
public import proofs.«01_k».proof.Proof.ScSpec

@[expose] public section

set_option maxRecDepth 16384

noncomputable section

namespace Cert.ScBwdRefIdeal.RefValue

open Cert.ScBwdRefIdeal Cert.ScBwdRefIdeal.Gen Cert.ScBwdRefIdeal.Read Cert.MlpSpec Cert.ConvSpec Cert.ScSpec Cert.ProdSpec Cert.Rows Cert.Dots
open Idealize.ShloMosaic Idealize.ShloMosaic.TcCoe Idealize.ShloMosaic.ValueIdx Idealize.SL.Sem

variable (h : (M 2048 1024).Idx → EReal) (W : (M 1024 3072).Idx → EReal) (w : (M 3 1024).Idx → EReal)
  (Wo : (M 1024 1024).Idx → EReal) (dy : (M 2048 1024).Idx → EReal)

theorem v1_eq : val_main_v1 (F := Ideal) h W = proj h W := funext fun i => by
  obtain ⟨r, f, rfl⟩ : ∃ (r : Fin 2048) (f : Fin 3072), i = ix2 r f := ⟨i 0, i 1, eq_ix2 i⟩
  exact dg_nn (φ₁ := .f32) (φ₂ := .f32) 2048 1024 3072 h W r f

theorem v30_eq : val_main_v30 (F := Ideal) Wo dy = dyv Wo dy := funext fun i => by
  obtain ⟨r, f, rfl⟩ : ∃ (r : Fin 2048) (f : Fin 1024), i = ix2 r f := ⟨i 0, i 1, eq_ix2 i⟩
  exact dg_nt (φ₁ := .f32) (φ₂ := .f32) 2048 1024 1024 dy Wo r f

/-! ## The gated convolution's part -/

theorem conv_saved : val_main_v24 (F := Ideal) h W w = Cert.ConvBwdRefIdeal.Read.val_main_v23 (F := Ideal) (val_main_v1 (F := Ideal) h W) w := rfl

theorem conv_weight : val_main_v70 (F := Ideal) h W Wo dy
    = Cert.ConvBwdRefIdeal.Read.val_main_v66 (F := Ideal) (val_main_v1 (F := Ideal) h W) (val_main_v30 (F := Ideal) Wo dy) := rfl

theorem conv_joined : val_main_v62 (F := Ideal) h W w Wo dy
    = Cert.ConvBwdRefIdeal.Read.val_main_v57 (F := Ideal) (val_main_v1 (F := Ideal) h W) (val_main_v30 (F := Ideal) Wo dy) w := rfl

theorem v70_eq : val_main_v70 (F := Ideal) h W Wo dy = fun i : S8x1024.Idx => dconv h W Wo dy (i 0) (i 1) := by
  rw [conv_weight, Cert.ConvBwdRefIdeal.RefValue.v66_eq, v1_eq, v30_eq]; rfl

theorem v25_at (r : Fin 2048) (q : Fin 1024) : (val_main_v25 (F := Ideal) h W w (ix2 r q) : EReal) = gated h W w (ix2 r q) := by
  refine mul2 ?_ ?_
  · refine Eq.trans (val_main_v2_apply (F := Ideal) h W _) ?_
    rw [v1_eq]
    exact congrArg (proj h W) (ix2_of _ _ _ rfl rfl)
  · rw [conv_saved, v1_eq]
    exact Cert.ConvBwdRefIdeal.RefValue.v23_at (proj h W) w r q

theorem v62_eq : val_main_v62 (F := Ideal) h W w Wo dy = flat (dproj h W w Wo dy) := funext fun i => by
  obtain ⟨r, f, rfl⟩ : ∃ (r : Fin 2048) (f : Fin 3072), i = ix2 r f := ⟨i 0, i 1, eq_ix2 i⟩
  rw [conv_joined, v1_eq, v30_eq]
  obtain ⟨p, q, rfl⟩ := exists_grow (n := 3) (b := 1024) rfl f
  show _ = dp (proj h W) (dyv Wo dy) w (part (grow (n := 3) (b := 1024) rfl p q)) r (ScSpec.off (grow (n := 3) (b := 1024) rfl p q))
  rw [part, ScSpec.off, gdiv_grow, gmod_grow]
  obtain ⟨e0, e1, e2⟩ := Cert.ConvBwdRefIdeal.RefValue.joined_at (proj h W) (dyv Wo dy) w r q
  match p with
  | 0 => exact (congrArg _ (ix2_of _ _ _ rfl (by show q.val = 0 * 1024 + q.val; omega)).symm).trans ((Cert.ConvBwdRefIdeal.Read.val_main_v58_apply _ _ _ _).symm.trans e0)
  | 1 => exact (congrArg _ (ix2_of _ _ _ rfl (by show 1024 + q.val = 1 * 1024 + q.val; omega)).symm).trans ((Cert.ConvBwdRefIdeal.Read.val_main_v59_apply _ _ _ _).symm.trans e1)
  | 2 => exact (congrArg _ (ix2_of _ _ _ rfl (by show 2048 + q.val = 2 * 1024 + q.val; omega)).symm).trans ((Cert.ConvBwdRefIdeal.Read.val_main_v60_apply _ _ _ _).symm.trans e2)

/-! ## The results -/

theorem v66_eq : val_main_v66 (F := Ideal) h W w Wo dy = fun i : S2048x1024.Idx => dh h W w Wo dy (i 0) (i 1) := funext fun i => by
  obtain ⟨r, j, rfl⟩ : ∃ (r : Fin 2048) (j : Fin 1024), i = ix2 r j := ⟨i 0, i 1, eq_ix2 i⟩
  refine Eq.trans (dg_nt (φ₁ := .f32) (φ₂ := .f32) 2048 3072 1024 (val_main_v62 (F := Ideal) h W w Wo dy) W r j) ?_
  rw [v62_eq]; rfl

theorem v64_at (j : Fin 1024) (f : Fin 3072) : (val_main_v64 (F := Ideal) h W w Wo dy (ix2 j f) : EReal) = din h W w Wo dy j f := by
  refine Eq.trans (transpose_ix2_apply _ transposes_S3072x1024_S1024x3072_1_0 j f) ?_
  refine Eq.trans (dg_tn (φ₁ := .f32) (φ₂ := .f32) 3072 2048 1024 (val_main_v62 (F := Ideal) h W w Wo dy) h f j) ?_
  rw [v62_eq]
  exact tn_swap (flat (dproj h W w Wo dy)) h f j

theorem v28_at (q j : Fin 1024) : (val_main_v29 (F := Ideal) h W w dy (ix2 q j) : EReal) = dout h W w dy q j := by
  refine Eq.trans (transpose_ix2_apply _ transposes_S1024x1024_S1024x1024_1_0 q j) ?_
  refine Eq.trans (dg_tn (φ₁ := .f32) (φ₂ := .f32) 1024 2048 1024 dy (val_main_v25 (F := Ideal) h W w) j q) ?_
  refine Eq.trans (tn_swap dy (val_main_v25 (F := Ideal) h W w) j q) ?_
  exact sum2 fun r => mul2 (v25_at h W w r q) rfl

theorem v72_eq : val_main_v72 (F := Ideal) h W w dy = fun i : S4x256x1024.Idx => dout h W w dy (c4 (i 0) (i 1)) (i 2) := funext fun i => by
  obtain ⟨s, q, j, rfl⟩ : ∃ (s : Fin 4) (q : Fin 256) (j : Fin 1024), i = ix3 s q j := ⟨i 0, i 1, i 2, eq_ix3 i⟩
  refine Eq.trans (groups_apply (n := 4) (b := 256) (L := 1024) rfl (val_main_v29 (F := Ideal) h W w dy) _ s q j) ?_
  exact v28_at h W w dy _ j

theorem v69_eq : val_main_v69 (F := Ideal) h W w Wo dy = fun i : S4x1024x768.Idx => din h W w Wo dy (i 1) (c768 (i 0) (i 2)) := funext fun i => by
  obtain ⟨s, j, q, rfl⟩ : ∃ (s : Fin 4) (j : Fin 1024) (q : Fin 768), i = ix3 s j q := ⟨i 0, i 1, i 2, eq_ix3 i⟩
  refine Eq.trans (?_ : _ = val_main_v64 (F := Ideal) h W w Wo dy (ix2 j (c768 s q))) (v64_at h W w Wo dy j _)
  exact regroup_apply (n := 4) (b := 768) (L := 3072) rfl (val_main_v64 (F := Ideal) h W w Wo dy) _ _ s j q

end Cert.ScBwdRefIdeal.RefValue

end
-- ==== Proof.SsdInBwdKernel.lean ====
/- The four gradient calls of the state-space mixer's input projection: what one block computes and what the arrays hold
   after each call. -/
module

public import proofs.«01_k».proof.Proof.Windows
public import proofs.«01_k».proof.Proof.Gen.SsdInBwdIdeal.Frame
public import proofs.«01_k».proof.Proof.ProdSpec

@[expose] public section

set_option maxRecDepth 16384

noncomputable section

namespace Cert.SsdInBwdIdeal.Calls

open Cert.Windows Cert.SsdInBwdIdeal Cert.SsdInBwdIdeal.Gen Cert.ProdSpec Cert.Rows Cert.Dots
open Idealize.ShloMosaic Idealize.ShloMosaic.TcCoe Idealize.ShloMosaic.ValueIdx Idealize.SL.Sem Idealize.SL
open Idealize.ShloMosaic.Pipeline (Dat)
open scoped BigOperators

section Blocks

variable (V : (c : Dev nD) → (b : Ref sig .tc) → Buf (Elt Ideal) ((c : Thread nD τ).loc b))

theorem hz2 : (![0, 0] : Fin 2 → Nat) = fun _ => 0 := funext fun a => by fin_cases a <;> rfl

/-- Column `q` of the `s`-th 512 of 1024. -/
abbrev c2 (s : Fin 2) (q : Fin 512) : Fin 1024 := grow (n := 2) (b := 512) rfl s q
/-- Row `r` of the `s`-th 1024 of 2048. -/
abbrev r2 (s : Fin 2) (r : Fin 1024) : Fin 2048 := grow (n := 2) (b := 1024) rfl s r
/-- Column `q` of the `s`-th 512 of 5120. -/
abbrev c10 (s : Fin 10) (q : Fin 512) : Fin 5120 := grow (n := 10) (b := 512) rfl s q

/-! ## The step sizes' part of the input's cotangent -/

theorem idx0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The columns of block `t`. -/
def g0 (t : Fin cfg0.N) : Fin 2 := ⟨t.val, lt_of_lt_of_eq t.isLt N_0⟩

theorem blk0_0 (c : Dev nD) (t : Fin cfg0.N) (r : Fin 2048) (k : Fin 128) : iblk0 V c 0 t (ix2 r k) = V c main_v4 (ix2 r k) := by
  show V c main_v4 ((win0_0.rect t).emb (ix2 r k)) = _
  obtain ⟨h0, h1, -⟩ := idx0 t
  refine congrArg (V c main_v4) (ix2_of _ _ _ ?_ ?_)
  · exact embAt win0_0 t 0 2048 r.val h0 (by omega)
  · exact embAt win0_0 t 1 128 k.val h1 (by omega)

theorem blk0_1 (c : Dev nD) (t : Fin cfg0.N) (k : Fin 128) (q : Fin 512) : iblk0 V c 1 t (ix2 k q) = V c main_v3 (ix2 k (c2 (g0 t) q)) := by
  show V c main_v3 ((win0_1.rect t).emb (ix2 k q)) = _
  obtain ⟨-, -, h0, h1, -⟩ := idx0 t
  refine congrArg (V c main_v3) (ix2_of _ _ _ ?_ ?_)
  · exact embAt win0_1 t 0 128 k.val h0 (by omega)
  · exact embAt win0_1 t 1 512 q.val h1 rfl

theorem emb0 (t : Fin cfg0.N) (r : Fin 2048) (q : Fin 512) : (win0_2.rect t).emb (ix2 r q) = ix2 r (c2 (g0 t) q) := by
  obtain ⟨-, -, -, -, h0, h1⟩ := idx0 t
  refine ix2_of _ _ _ ?_ ?_
  · exact embAt win0_2 t 0 2048 r.val h0 (by omega)
  · exact embAt win0_2 t 1 512 q.val h1 rfl

theorem pay0_apply (x0 : Vec Ideal S2048x128 .f32) (x1 : Vec Ideal S128x512 .bf16) (r : Fin 2048) (q : Fin 512) :
    (k0_pay1 (F := Ideal) x0 x1 (ix2 r q) : EReal) = ∑ k : Fin 128, (x0 (ix2 r k) : EReal) * (x1 (ix2 k q) : EReal) := by
  unfold k0_pay1
  rw [shapeCast_self, shapeCast_self]
  exact mm_nn (φ₁ := .bf16) (φ₂ := .bf16) 2048 128 512 x0 x1 r q

theorem out0_apply (x0 : Vec Ideal S2048x128 .f32) (x1 : Vec Ideal S128x512 .bf16) : out0_2 (F := Ideal) x0 x1 = k0_pay1 x0 x1 := by
  unfold out0_2 r0_0 r0_1
  rw [View.ld_unit_zero hz2 _ x0, View.ld_unit_zero hz2 _ x1]
  exact View.canon_unit_zero (Val := Elt Ideal) (S := S2048x512) (e := .f32) hz2 _ _

/-- This part as one array. -/
abbrev G0 (c : Dev nD) : Buf (Elt Ideal) ((c : Thread nD τ).loc main_v5) :=
  fun i : S2048x1024.Idx => ProdSpec.nn (a := 2048) (b := 1024) (k := 128) (V c main_v4) (V c main_v3) (i 0) (i 1)

theorem flushed0 (c : Dev nD) (t : Fin cfg0.N) : (dat0 V c).flushed 2 t = ((cfg0.win 2).blk t).view.read (Elt Ideal) (G0 V c) := by
  show (cfg0.win 2).cut (grid0.coords t) ((dat0 V c).after 2 t) = _
  rw [after0_2, out0_apply]
  refine funext fun y => ?_
  obtain ⟨r, q, rfl⟩ : ∃ (r : Fin 2048) (q : Fin 512), y = ix2 r q := ⟨y 0, y 1, eq_ix2 y⟩
  show _ = G0 V c ((win0_2.rect t).emb (ix2 r q))
  rw [emb0]
  exact Eq.trans (pay0_apply _ _ r q) (sum2 fun k => mul2 (blk0_0 V c t r k) (blk0_1 V c t k q))

theorem at0 (s : Fin 2) : ∃ t : Fin cfg0.N, g0 t = s := ⟨⟨s.val, by show _ < grid0.N; rw [N_0]; exact s.isLt⟩, Fin.ext rfl⟩

theorem arr0 (c : Dev nD) : (dat0 V c).arrAt 2 cfg0.N = G0 V c :=
  arr_of_blocks (dat0 V c) 2 (G0 V c) (flushed0 V c) fun i => by
    obtain ⟨r, f, rfl⟩ : ∃ (r : Fin 2048) (f : Fin 1024), i = ix2 r f := ⟨i 0, i 1, eq_ix2 i⟩
    obtain ⟨s, q, rfl⟩ := exists_grow (n := 2) (b := 512) rfl f
    obtain ⟨t, rfl⟩ := at0 s
    exact ⟨t, _, flush0_2 t, emb0 t _ _⟩

/-! ## The input's cotangent -/

theorem idx1 : ∀ t : Fin cfg1.N, win1_0.index t (0 : Fin 2) = t.val / 2 ∧ win1_0.index t (1 : Fin 2) = 0
    ∧ win1_1.index t (0 : Fin 2) = 0 ∧ win1_1.index t (1 : Fin 2) = t.val % 2
    ∧ win1_2.index t (0 : Fin 2) = t.val / 2 ∧ win1_2.index t (1 : Fin 2) = t.val % 2
    ∧ win1_3.index t (0 : Fin 2) = t.val / 2 ∧ win1_3.index t (1 : Fin 2) = t.val % 2 :=
  (by decide +kernel : ∀ t : Fin grid1.N, _)

/-- The rows of block `t`. -/
def g1 (t : Fin cfg1.N) : Fin 2 := ⟨t.val / 2, by have : t.val < 4 := lt_of_lt_of_eq t.isLt N_1; omega⟩
/-- The columns of block `t`. -/
def j1 (t : Fin cfg1.N) : Fin 2 := ⟨t.val % 2, by omega⟩

theorem blk1_0 (c : Dev nD) (t : Fin cfg1.N) (r : Fin 1024) (k : Fin 5120) : iblk1 V c 0 t (ix2 r k) = V c main_arg2 (ix2 (r2 (g1 t) r) k) := by
  show V c main_arg2 ((win1_0.rect t).emb (ix2 r k)) = _
  obtain ⟨h0, h1, -⟩ := idx1 t
  refine congrArg (V c main_arg2) (ix2_of _ _ _ ?_ ?_)
  · exact embAt win1_0 t 0 1024 r.val h0 rfl
  · exact embAt win1_0 t 1 5120 k.val h1 (by omega)

theorem blk1_1 (c : Dev nD) (t : Fin cfg1.N) (k : Fin 5120) (q : Fin 512) : iblk1 V c 1 t (ix2 k q) = V c main_v6 (ix2 k (c2 (j1 t) q)) := by
  show V c main_v6 ((win1_1.rect t).emb (ix2 k q)) = _
  obtain ⟨-, -, h0, h1, -⟩ := idx1 t
  refine congrArg (V c main_v6) (ix2_of _ _ _ ?_ ?_)
  · exact embAt win1_1 t 0 5120 k.val h0 (by omega)
  · exact embAt win1_1 t 1 512 q.val h1 rfl

theorem blk1_2 (c : Dev nD) (t : Fin cfg1.N) (r : Fin 1024) (q : Fin 512) : iblk1 V c 2 t (ix2 r q) = V c main_v5 (ix2 (r2 (g1 t) r) (c2 (j1 t) q)) := by
  show V c main_v5 ((win1_2.rect t).emb (ix2 r q)) = _
  obtain ⟨-, -, -, -, h0, h1, -⟩ := idx1 t
  refine congrArg (V c main_v5) (ix2_of _ _ _ ?_ ?_)
  · exact embAt win1_2 t 0 1024 r.val h0 rfl
  · exact embAt win1_2 t 1 512 q.val h1 rfl

theorem emb1 (t : Fin cfg1.N) (r : Fin 1024) (q : Fin 512) : (win1_3.rect t).emb (ix2 r q) = ix2 (r2 (g1 t) r) (c2 (j1 t) q) := by
  obtain ⟨-, -, -, -, -, -, h0, h1⟩ := idx1 t
  refine ix2_of _ _ _ ?_ ?_
  · exact embAt win1_3 t 0 1024 r.val h0 rfl
  · exact embAt win1_3 t 1 512 q.val h1 rfl

theorem pay1_apply (x0 : Vec Ideal S1024x5120 .bf16) (x1 : Vec Ideal S5120x512 .bf16) (x2 : Vec Ideal S1024x512 .f32) (r : Fin 1024) (q : Fin 512) :
    (k1_pay1 (F := Ideal) x0 x1 x2 (ix2 r q) : EReal) = (∑ k : Fin 5120, (x0 (ix2 r k) : EReal) * (x1 (ix2 k q) : EReal)) + (x2 (ix2 r q) : EReal) := by
  unfold k1_pay1
  rw [shapeCast_self, shapeCast_self]
  exact add2 (mm_nn (φ₁ := .bf16) (φ₂ := .bf16) 1024 5120 512 x0 x1 r q) rfl

theorem out1_apply (x0 : Vec Ideal S1024x5120 .bf16) (x1 : Vec Ideal S5120x512 .bf16) (x2 : Vec Ideal S1024x512 .f32) : out1_3 (F := Ideal) x0 x1 x2 = k1_pay1 x0 x1 x2 := by
  unfold out1_3 r1_0 r1_1 r1_2
  rw [View.ld_unit_zero hz2 _ x0, View.ld_unit_zero hz2 _ x1, View.ld_unit_zero hz2 _ x2]
  exact View.canon_unit_zero (Val := Elt Ideal) (S := S1024x512) (e := .bf16) hz2 _ _

/-- A product with a second part added. -/
def both (A : (M 2048 5120).Idx → EReal) (B : (M 5120 1024).Idx → EReal) (E : (M 2048 1024).Idx → EReal) (r : Fin 2048) (j : Fin 1024) : EReal :=
  ProdSpec.nn A B r j + E (ix2 r j)

/-- The input's cotangent as one array. -/
abbrev G1 (c : Dev nD) : Buf (Elt Ideal) ((c : Thread nD τ).loc main_v7) :=
  fun i : S2048x1024.Idx => both (V c main_arg2) (V c main_v6) (V c main_v5) (i 0) (i 1)

theorem flushed1 (c : Dev nD) (t : Fin cfg1.N) : (dat1 V c).flushed 3 t = ((cfg1.win 3).blk t).view.read (Elt Ideal) (G1 V c) := by
  show (cfg1.win 3).cut (grid1.coords t) ((dat1 V c).after 3 t) = _
  rw [after1_3, out1_apply]
  refine funext fun y => ?_
  obtain ⟨r, q, rfl⟩ : ∃ (r : Fin 1024) (q : Fin 512), y = ix2 r q := ⟨y 0, y 1, eq_ix2 y⟩
  show _ = G1 V c ((win1_3.rect t).emb (ix2 r q))
  rw [emb1]
  exact Eq.trans (pay1_apply _ _ _ r q) (add2 (sum2 fun k => mul2 (blk1_0 V c t r k) (blk1_1 V c t k q)) (blk1_2 V c t r q))

theorem at1 (s j : Fin 2) : ∃ t : Fin cfg1.N, g1 t = s ∧ j1 t = j :=
  ⟨⟨s.val * 2 + j.val, by show _ < grid1.N; rw [N_1]; omega⟩, Fin.ext (by show (s.val * 2 + j.val) / 2 = s.val; omega),
    Fin.ext (by show (s.val * 2 + j.val) % 2 = j.val; omega)⟩

theorem arr1 (c : Dev nD) : (dat1 V c).arrAt 3 cfg1.N = G1 V c :=
  arr_of_blocks (dat1 V c) 3 (G1 V c) (flushed1 V c) fun i => by
    obtain ⟨r, f, rfl⟩ : ∃ (r : Fin 2048) (f : Fin 1024), i = ix2 r f := ⟨i 0, i 1, eq_ix2 i⟩
    obtain ⟨s, r, rfl⟩ := exists_grow (n := 2) (b := 1024) rfl r
    obtain ⟨j, q, rfl⟩ := exists_grow (n := 2) (b := 512) rfl f
    obtain ⟨t, rfl, rfl⟩ := at1 s j
    exact ⟨t, _, flush1_3 t, emb1 t _ _⟩

/-! ## The weight's gradient without the step sizes' columns -/

theorem idx2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- The columns of block `t`. -/
def g2 (t : Fin cfg2.N) : Fin 10 := ⟨t.val, lt_of_lt_of_eq t.isLt N_2⟩

theorem blk2_0 (c : Dev nD) (t : Fin cfg2.N) (r : Fin 2048) (k : Fin 1024) : iblk2 V c 0 t (ix2 r k) = V c main_arg0 (ix2 r k) := by
  show V c main_arg0 ((win2_0.rect t).emb (ix2 r k)) = _
  obtain ⟨h0, h1, -⟩ := idx2 t
  refine congrArg (V c main_arg0) (ix2_of _ _ _ ?_ ?_)
  · exact embAt win2_0 t 0 2048 r.val h0 (by omega)
  · exact embAt win2_0 t 1 1024 k.val h1 (by omega)

theorem blk2_1 (c : Dev nD) (t : Fin cfg2.N) (r : Fin 2048) (q : Fin 512) : iblk2 V c 1 t (ix2 r q) = V c main_arg2 (ix2 r (c10 (g2 t) q)) := by
  show V c main_arg2 ((win2_1.rect t).emb (ix2 r q)) = _
  obtain ⟨-, -, h0, h1, -⟩ := idx2 t
  refine congrArg (V c main_arg2) (ix2_of _ _ _ ?_ ?_)
  · exact embAt win2_1 t 0 2048 r.val h0 (by omega)
  · exact embAt win2_1 t 1 512 q.val h1 rfl

theorem emb2 (t : Fin cfg2.N) (k : Fin 1024) (q : Fin 512) : (win2_2.rect t).emb (ix2 k q) = ix2 k (c10 (g2 t) q) := by
  obtain ⟨-, -, -, -, h0, h1⟩ := idx2 t
  refine ix2_of _ _ _ ?_ ?_
  · exact embAt win2_2 t 0 1024 k.val h0 (by omega)
  · exact embAt win2_2 t 1 512 q.val h1 rfl

theorem out2_apply (x0 : Vec Ideal S2048x1024 .bf16) (x1 : Vec Ideal S2048x512 .bf16) : out2_2 (F := Ideal) x0 x1 = k2_pay1 x0 x1 := by
  unfold out2_2 r2_0 r2_1
  rw [View.ld_unit_zero hz2 _ x0, View.ld_unit_zero hz2 _ x1]
  exact View.canon_unit_zero (Val := Elt Ideal) (S := S1024x512) (e := .bf16) hz2 _ _

/-- These columns as one array. -/
abbrev G2 (c : Dev nD) : Buf (Elt Ideal) ((c : Thread nD τ).loc main_v8) :=
  fun i : S1024x5120.Idx => ProdSpec.tn (a := 1024) (b := 5120) (k := 2048) (V c main_arg0) (V c main_arg2) (i 0) (i 1)

theorem flushed2 (c : Dev nD) (t : Fin cfg2.N) : (dat2 V c).flushed 2 t = ((cfg2.win 2).blk t).view.read (Elt Ideal) (G2 V c) := by
  show (cfg2.win 2).cut (grid2.coords t) ((dat2 V c).after 2 t) = _
  rw [after2_2, out2_apply]
  refine funext fun y => ?_
  obtain ⟨k, q, rfl⟩ : ∃ (k : Fin 1024) (q : Fin 512), y = ix2 k q := ⟨y 0, y 1, eq_ix2 y⟩
  show _ = G2 V c ((win2_2.rect t).emb (ix2 k q))
  rw [emb2]
  refine Eq.trans (mm_tn (φ₁ := .bf16) (φ₂ := .bf16) 1024 2048 512 _ _ k q) ?_
  exact sum2 fun r => mul2 (blk2_0 V c t r k) (blk2_1 V c t r q)

theorem at2 (s : Fin 10) : ∃ t : Fin cfg2.N, g2 t = s := ⟨⟨s.val, by show _ < grid2.N; rw [N_2]; exact s.isLt⟩, Fin.ext rfl⟩

theorem arr2 (c : Dev nD) : (dat2 V c).arrAt 2 cfg2.N = G2 V c :=
  arr_of_blocks (dat2 V c) 2 (G2 V c) (flushed2 V c) fun i => by
    obtain ⟨k, f, rfl⟩ : ∃ (k : Fin 1024) (f : Fin 5120), i = ix2 k f := ⟨i 0, i 1, eq_ix2 i⟩
    obtain ⟨s, q, rfl⟩ := exists_grow (n := 10) (b := 512) rfl f
    obtain ⟨t, rfl⟩ := at2 s
    exact ⟨t, _, flush2_2 t, emb2 t _ _⟩

/-! ## The weight's gradient in the step sizes' columns, with columns of zeros -/

theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

theorem blk3_0 (c : Dev nD) (t : Fin cfg3.N) (r : Fin 2048) (k : Fin 1024) : iblk3 V c 0 t (ix2 r k) = V c main_arg0 (ix2 r k) := by
  show V c main_arg0 ((win3_0.rect t).emb (ix2 r k)) = _
  obtain ⟨h0, h1, -⟩ := idx3 t
  refine congrArg (V c main_arg0) (ix2_of _ _ _ ?_ ?_)
  · exact embAt win3_0 t 0 2048 r.val h0 (by omega)
  · exact embAt win3_0 t 1 1024 k.val h1 (by omega)

theorem blk3_1 (c : Dev nD) (t : Fin cfg3.N) (r : Fin 2048) (q : Fin 128) : iblk3 V c 1 t (ix2 r q) = V c main_v4 (ix2 r q) := by
  show V c main_v4 ((win3_1.rect t).emb (ix2 r q)) = _
  obtain ⟨-, -, h0, h1, -⟩ := idx3 t
  refine congrArg (V c main_v4) (ix2_of _ _ _ ?_ ?_)
  · exact embAt win3_1 t 0 2048 r.val h0 (by omega)
  · exact embAt win3_1 t 1 128 q.val h1 (by omega)

theorem emb3 (t : Fin cfg3.N) (k : Fin 1024) (q : Fin 128) : (win3_2.rect t).emb (ix2 k q) = ix2 k q := by
  obtain ⟨-, -, -, -, h0, h1⟩ := idx3 t
  refine ix2_of _ _ _ ?_ ?_
  · exact embAt win3_2 t 0 1024 k.val h0 (by omega)
  · exact embAt win3_2 t 1 128 q.val h1 (by omega)

theorem pay3_apply (x0 : Vec Ideal S2048x1024 .bf16) (x1 : Vec Ideal S2048x128 .f32) (k : Fin 1024) (q : Fin 128) :
    (k3_pay1 (F := Ideal) x0 x1 (ix2 k q) : EReal) = ∑ r : Fin 2048, (x0 (ix2 r k) : EReal) * (x1 (ix2 r q) : EReal) := by
  unfold k3_pay1
  rw [shapeCast_self]
  exact mm_tn (φ₁ := .bf16) (φ₂ := .bf16) 1024 2048 128 x0 x1 k q

theorem out3_apply (x0 : Vec Ideal S2048x1024 .bf16) (x1 : Vec Ideal S2048x128 .f32) : out3_2 (F := Ideal) x0 x1 = k3_pay1 x0 x1 := by
  unfold out3_2 r3_0 r3_1
  rw [View.ld_unit_zero hz2 _ x0, View.ld_unit_zero hz2 _ x1]
  exact View.canon_unit_zero (Val := Elt Ideal) (S := S1024x128) (e := .f32) hz2 _ _

/-- These columns as one array. -/
abbrev G3 (c : Dev nD) : Buf (Elt Ideal) ((c : Thread nD τ).loc main_v9) :=
  fun i : S1024x128.Idx => ProdSpec.tn (a := 1024) (b := 128) (k := 2048) (V c main_arg0) (V c main_v4) (i 0) (i 1)

theorem flushed3 (c : Dev nD) (t : Fin cfg3.N) : (dat3 V c).flushed 2 t = ((cfg3.win 2).blk t).view.read (Elt Ideal) (G3 V c) := by
  show (cfg3.win 2).cut (grid3.coords t) ((dat3 V c).after 2 t) = _
  rw [after3_2, out3_apply]
  refine funext fun y => ?_
  obtain ⟨k, q, rfl⟩ : ∃ (k : Fin 1024) (q : Fin 128), y = ix2 k q := ⟨y 0, y 1, eq_ix2 y⟩
  show _ = G3 V c ((win3_2.rect t).emb (ix2 k q))
  rw [emb3]
  exact Eq.trans (pay3_apply _ _ k q) (sum2 fun r => mul2 (blk3_0 V c t r k) (blk3_1 V c t r q))

theorem arr3 (c : Dev nD) : (dat3 V c).arrAt 2 cfg3.N = G3 V c :=
  (dat3 V c).arrAt_eq_of_cover 2 (G3 V c) (fun t _ => flushed3 V c t) fun i => by
    obtain ⟨k, q, rfl⟩ : ∃ (k : Fin 1024) (q : Fin 128), i = ix2 k q := ⟨i 0, i 1, eq_ix2 i⟩
    have t : Fin cfg3.N := ⟨0, by show 0 < grid3.N; rw [N_3]; omega⟩
    refine ⟨t, flush3_2 t, ?_⟩
    rw [← emb3 t]
    exact View.emb_mem_set _ _

end Blocks

end Cert.SsdInBwdIdeal.Calls

end
-- ==== Proof.SsdInSpec.lean ====
/- The gradient of the state-space mixer's input projection, as plain sums. -/
module

public import proofs.«01_k».proof.Proof.ProdSpec

@[expose] public section

set_option maxRecDepth 16384

noncomputable section

namespace Cert.SsdInSpec

open Idealize.ShloMosaic Idealize.ShloMosaic.ValueIdx Cert.Rows Cert.ProdSpec
open scoped BigOperators

/-- One of the first 5120 columns. -/
abbrev zcol (k : Fin 5120) : Fin 5152 := cl (p := 5120) (n := 32) k
/-- A step size's column. -/
abbrev tcol (q : Fin 32) : Fin 5152 := cr (p := 5120) (n := 32) q

variable (H : (M 2048 1024).Idx → EReal) (W : (M 1024 5152).Idx → EReal) (Z : (M 2048 5120).Idx → EReal) (E : (M 2048 32).Idx → EReal)

/-- The cotangent of all columns. -/
def dz : (M 2048 5152).Idx → EReal := beside (p := 5120) (n := 32) Z E
/-- The input's cotangent. -/
def dH (r : Fin 2048) (j : Fin 1024) : EReal := ProdSpec.nt (dz Z E) W r j
/-- The weight's gradient. -/
def dW (k : Fin 1024) (f : Fin 5152) : EReal := ProdSpec.tn H (dz Z E) k f

/-- The input's cotangent from the two groups of columns. -/
theorem dH_parts (r : Fin 2048) (j : Fin 1024) :
    dH W Z E r j = (∑ k : Fin 5120, Z (ix2 r k) * W (ix2 j (zcol k))) + ∑ q : Fin 32, E (ix2 r q) * W (ix2 j (tcol q)) :=
  (sum_parts (p := 5120) (n := 32) fun f => dz Z E (ix2 r f) * W (ix2 j f)).trans
    (add2 (sum2 fun k => mul2 (beside_cl Z E r k) rfl) (sum2 fun q => mul2 (beside_cr Z E r q) rfl))

end Cert.SsdInSpec

end
-- ==== Proof.SsdInBwdValue.lean ====
/- The gradient of the state-space mixer's input projection: what the two results hold after the run. -/
module

public import proofs.«01_k».proof.Proof.SsdInBwdKernel
public import proofs.«01_k».proof.Proof.SsdInSpec

@[expose] public section

set_option maxRecDepth 16384

noncomputable section

namespace Cert.SsdInBwdIdeal.Calls

open Cert.SsdInBwdIdeal Cert.SsdInBwdIdeal.Gen Cert.ProdSpec Cert.SsdInSpec Cert.Rows Cert.Dots
open Idealize.ShloMosaic Idealize.ShloMosaic.TcCoe Idealize.ShloMosaic.ValueIdx Idealize.SL.Sem Idealize.SL
open Idealize.ShloMosaic.Pipeline (Dat)
open scoped BigOperators

variable (m : (ℓ : Loc nD τ sig) → Buf (Elt Ideal) ℓ) (ρ : Dev nD → PrngReg)

/-- The projection's input. -/
abbrev aH (c : Dev nD) : (M 2048 1024).Idx → EReal := m ((c : Thread nD τ).loc main_arg0)
/-- The weight. -/
abbrev aW (c : Dev nD) : (M 1024 5152).Idx → EReal := m ((c : Thread nD τ).loc main_arg1)
/-- The cotangent of the first 5120 columns. -/
abbrev aZ (c : Dev nD) : (M 2048 5120).Idx → EReal := m ((c : Thread nD τ).loc main_arg2)
/-- The step sizes' cotangent. -/
abbrev aE (c : Dev nD) : (M 2048 32).Idx → EReal := m ((c : Thread nD τ).loc main_arg3)

/-! ## What the host prepares -/

theorem turned (c : Dev nD) : W1 m ρ c main_v1 = transpose S5152x1024 [1, 0] (aW m c) transposes_S1024x5152_S5152x1024_1_0 := by
  show StableHlo.after hostOps0 (fun b => m (c, b)) main_v1 = _
  after_results_simp <;> rfl

/-- The weight's first rows, turned. -/
theorem weight (c : Dev nD) (k : Fin 5120) (j : Fin 1024) : W6 m ρ c main_v6 (ix2 k j) = aW m c (ix2 j (zcol k)) := by
  have h : W6 m ρ c main_v6 = extractStridedSlice S5120x1024 ![0, 0] (W5 m ρ c main_v1) slices_S5152x1024_S5120x1024_0_0 := by
    show StableHlo.after hostOps1 (W5 m ρ c) main_v6 = _
    after_results_simp <;> rfl
  rw [h, show W5 m ρ c main_v1 = _ from (W5_of m ρ c main_v1 (by decide +kernel)).trans ((W4_of m ρ c main_v1 (by decide)).trans
    ((W3_of m ρ c main_v1 (by decide)).trans ((W2_of m ρ c main_v1 (by decide)).trans (turned m ρ c))))]
  refine (slice_apply (a := 5152) (b := 1024) (a' := 5120) (b' := 1024) 0 0 _ slices_S5152x1024_S5120x1024_0_0 k j (by omega) (by omega)).trans ?_
  refine (transpose_ix2_apply _ transposes_S1024x5152_S5152x1024_1_0 _ _).trans ?_
  exact congrArg (aW m c) (ix2_of _ _ _ (by show 0 + j.val = j.val; omega) (by show 0 + k.val = k.val; omega))

theorem weight_dt_host (c : Dev nD) : W4 m ρ c main_v3 = pad S128x1024 ![0, 0] ![96, 0] ![0, 0]
    (extractStridedSlice S32x1024 ![5120, 0] (transpose S5152x1024 [1, 0] (aW m c) transposes_S1024x5152_S5152x1024_1_0) slices_S5152x1024_S32x1024_5120_0)
    (sitofp (F := Ideal) .bf16 (constantI S_ 32 0#32)) pads_S32x1024_S128x1024_0960_000 h_S_ := by
  refine (W4_of m ρ c main_v3 (by decide)).trans ((W3_of m ρ c main_v3 (by decide)).trans ?_)
  show StableHlo.after hostOps0_1 (StableHlo.after hostOps0 (fun b => m (c, b))) main_v3 = _
  after_results_simp <;> rfl

/-- The step sizes' rows, turned and padded, where they are not padding. -/
theorem weight_dt (c : Dev nD) (q : Fin 32) (j : Fin 1024) : W4 m ρ c main_v3 (ix2 (cl (p := 32) (n := 96) q) j) = aW m c (ix2 j (tcol q)) := by
  rw [weight_dt_host]
  refine (padRows_apply 0 96 _ _ pads_S32x1024_S128x1024_0960_000 h_S_ _ j).trans ((dif_pos ⟨Nat.zero_le _, by show q.val - 0 < 32; omega⟩).trans ?_)
  refine (slice_apply (a := 5152) (b := 1024) (a' := 32) (b' := 1024) 5120 0 _ slices_S5152x1024_S32x1024_5120_0 _ _ (by show 5120 + (q.val - 0) < 5152; omega) (by omega)).trans ?_
  refine (transpose_ix2_apply _ transposes_S1024x5152_S5152x1024_1_0 _ _).trans ?_
  exact congrArg (aW m c) (ix2_of _ _ _ (by show 0 + j.val = j.val; omega) (by show 5120 + (q.val - 0) = 5120 + q.val; omega))

theorem steps_host (c : Dev nD) : W4 m ρ c main_v4 = pad S2048x128 ![0, 0] ![0, 96] ![0, 0] (aE m c)
    (sitofp (F := Ideal) .f32 (constantI S_ 32 0#32)) pads_S2048x32_S2048x128_000_0960 h_S_ := by
  show StableHlo.after hostOps0_3 (StableHlo.after hostOps0_2 (StableHlo.after hostOps0_1 (StableHlo.after hostOps0 (fun b => m (c, b))))) main_v4 = _
  after_results_simp <;> rfl

/-- The step sizes' cotangent, where it is not padding. -/
theorem steps_at (c : Dev nD) (r : Fin 2048) (q : Fin 32) : W4 m ρ c main_v4 (ix2 r (cl (p := 32) (n := 96) q)) = aE m c (ix2 r q) := by
  rw [steps_host]
  refine (padCols_apply 0 96 _ _ pads_S2048x32_S2048x128_000_0960 h_S_ r _).trans ((dif_pos ⟨Nat.zero_le _, by show q.val - 0 < 32; omega⟩).trans ?_)
  exact congrArg (aE m c) (ix2_of _ _ _ rfl (by show q.val - 0 = q.val; omega))

/-- The padding is zero. -/
theorem steps_pad (c : Dev nD) (r : Fin 2048) (q : Fin 96) : @Eq EReal (W4 m ρ c main_v4 (ix2 r (cr (p := 32) (n := 96) q))) 0 := by
  rw [steps_host]
  refine Eq.trans (padCols_apply 0 96 _ _ pads_S2048x32_S2048x128_000_0960 h_S_ r _) (Eq.trans (dif_neg (fun h => absurd h.2 (by show ¬ (32 + q.val) - 0 < 32; omega))) ?_)
  exact zero_int .f32 _

/-! ## The results -/

/-- The input's cotangent as one array. -/
abbrev GH (c : Dev nD) : Buf (Elt Ideal) ((c : Thread nD τ).loc main_v7) := fun i : S2048x1024.Idx => dH (aW m c) (aZ m c) (aE m c) (i 0) (i 1)
/-- The weight's gradient as one array. -/
abbrev GW (c : Dev nD) : Buf (Elt Ideal) ((c : Thread nD τ).loc main_v12) := fun i : S1024x5152.Idx => dW (aH m c) (aZ m c) (aE m c) (i 0) (i 1)

theorem part_dt (c : Dev nD) (r : Fin 2048) (j : Fin 1024) :
    @Eq EReal (W6 m ρ c main_v5 (ix2 r j)) (∑ q : Fin 32, aE m c (ix2 r q) * aW m c (ix2 j (tcol q))) := by
  rw [show W6 m ρ c main_v5 = _ from (W6_of m ρ c main_v5 (by decide)).trans ((W5_arr m ρ c 2).trans (arr0 (V4 m ρ) c))]
  refine Eq.trans (sum_parts (p := 32) (n := 96) _) (Eq.trans (add2 (sum2 fun q => mul2 (steps_at m ρ c r q) (weight_dt m ρ c q j))
    (Finset.sum_eq_zero fun q _ => Eq.trans (mul2 (steps_pad m ρ c r q) rfl) (zero_mul _))) (add_zero _))

theorem final_h (c : Dev nD) : W10 m ρ c main_v7 = GH m c := by
  refine (W10_of m ρ c main_v7 (by decide)).trans ((W9_of m ρ c main_v7 (by decide +kernel)).trans ((W8_of m ρ c main_v7 (by decide +kernel)).trans
    ((W7_arr m ρ c 3).trans ((arr1 (V6 m ρ) c).trans (funext fun i => ?_)))))
  obtain ⟨r, j, rfl⟩ : ∃ (r : Fin 2048) (j : Fin 1024), i = ix2 r j := ⟨i 0, i 1, eq_ix2 i⟩
  show both (V6 m ρ c main_arg2) (V6 m ρ c main_v6) (V6 m ρ c main_v5) r j = _
  rw [show V6 m ρ c main_arg2 = aZ m c from W6_args m ρ c main_arg2 (by decide)]
  exact Eq.trans (add2 (sum2 fun k => mul2 rfl (weight m ρ c k j)) (part_dt m ρ c r j)) (dH_parts (aW m c) (aZ m c) (aE m c) r j).symm

theorem left (c : Dev nD) (k : Fin 1024) (f : Fin 5120) : @Eq EReal (W9 m ρ c main_v8 (ix2 k f)) (dW (aH m c) (aZ m c) (aE m c) k (zcol f)) := by
  rw [show W9 m ρ c main_v8 = _ from (W9_of m ρ c main_v8 (by decide +kernel)).trans ((W8_arr m ρ c 2).trans (arr2 (V7 m ρ) c))]
  show ProdSpec.tn (a := 1024) (b := 5120) (k := 2048) (V7 m ρ c main_arg0) (V7 m ρ c main_arg2) k f = _
  rw [show V7 m ρ c main_arg0 = aH m c from W7_args m ρ c main_arg0 (by decide), show V7 m ρ c main_arg2 = aZ m c from W7_args m ρ c main_arg2 (by decide)]
  exact sum2 fun r => mul2 rfl (beside_cl (aZ m c) (aE m c) r f).symm

theorem right (c : Dev nD) (k : Fin 1024) (q : Fin 32) : @Eq EReal (W9 m ρ c main_v9 (ix2 k (cl (p := 32) (n := 96) q))) (dW (aH m c) (aZ m c) (aE m c) k (tcol q)) := by
  rw [show W9 m ρ c main_v9 = _ from (W9_arr m ρ c 2).trans (arr3 (V8 m ρ) c)]
  show ProdSpec.tn (a := 1024) (b := 128) (k := 2048) (V8 m ρ c main_arg0) (V8 m ρ c main_v4) k (cl (p := 32) (n := 96) q) = _
  rw [show V8 m ρ c main_arg0 = aH m c from W8_args m ρ c main_arg0 (by decide),
    show V8 m ρ c main_v4 = W4 m ρ c main_v4 from (W8_of m ρ c main_v4 (by decide +kernel)).trans ((W7_of m ρ c main_v4 (by decide +kernel)).trans
      ((W6_of m ρ c main_v4 (by decide)).trans (W5_of m ρ c main_v4 (by decide +kernel))))]
  exact sum2 fun r => mul2 rfl ((steps_at m ρ c r q).trans (beside_cr (aZ m c) (aE m c) r q).symm)

theorem final_w (c : Dev nD) : W10 m ρ c main_v12 = GW m c := by
  have h : W10 m ρ c main_v12 = concatenate S1024x5152 1 [⟨S1024x5120, W9 m ρ c main_v8⟩,
      ⟨S1024x32, extractStridedSlice S1024x32 ![0, 0] (W9 m ρ c main_v9) slices_S1024x128_S1024x32_0_0⟩] concatenates_S1024x5120_S1024x32_S1024x5152_d1 := by
    show StableHlo.after hostOps4 (W9 m ρ c) main_v12 = _
    after_results_simp <;> rfl
  rw [h]
  refine funext fun i => ?_
  obtain ⟨k, f, rfl⟩ : ∃ (k : Fin 1024) (f : Fin 5152), i = ix2 k f := ⟨i 0, i 1, eq_ix2 i⟩
  rcases col_cases (p := 5120) (n := 32) f with ⟨q, rfl⟩ | ⟨q, rfl⟩
  · rw [concatenate_pair_apply_left (t := S1024x5152) (s₁ := S1024x5120) (s₂ := S1024x32) 1 _ _ concatenates_S1024x5120_S1024x32_S1024x5152_d1 _ rfl (ix2 k q)
      (fun d => match d with | ⟨0, _⟩ => rfl | ⟨1, _⟩ => rfl)]
    exact left m ρ c k q
  · rw [concatenate_pair_apply_right (t := S1024x5152) (s₁ := S1024x5120) (s₂ := S1024x32) 1 _ _ concatenates_S1024x5120_S1024x32_S1024x5152_d1 _ rfl rfl (ix2 k q)
      (fun d hd => match d with | ⟨0, _⟩ => rfl | ⟨1, _⟩ => absurd rfl hd) (by show q.val + 5120 = 5120 + q.val; omega)]
    refine Eq.trans (slice_apply (a := 1024) (b := 128) (a' := 1024) (b' := 32) 0 0 _ slices_S1024x128_S1024x32_0_0 k q (by omega) (by omega)) ?_
    refine Eq.trans (congrArg (W9 m ρ c main_v9) (ix2_of _ k (cl (p := 32) (n := 96) q) (by show 0 + k.val = k.val; omega) (by show 0 + q.val = q.val; omega))) ?_
    exact right m ρ c k q

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v7) = GH m c
      ∧ r.2.mem ((c : Thread nD τ).loc main_v12) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨(h c _ (mem_uc main_v7 (by decide))).trans (final_h m ρ c),
       (h c _ (mem_uc main_v12 (by decide))).trans (final_w m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.SsdInBwdIdeal.Calls

end
-- ==== Proof.SsdInBwdReference.lean ====
/- The reference of the gradient of the state-space mixer's input projection: its two results, index by index. -/
module

public import proofs.«01_k».proof.Proof.Gen.SsdInBwdRefIdeal.Read
public import proofs.«01_k».proof.Proof.SsdInSpec

@[expose] public section

set_option maxRecDepth 16384

noncomputable section

namespace Cert.SsdInBwdRefIdeal.RefValue

open Cert.SsdInBwdRefIdeal Cert.SsdInBwdRefIdeal.Gen Cert.SsdInBwdRefIdeal.Read Cert.ProdSpec Cert.SsdInSpec Cert.Rows Cert.Dots
open Idealize.ShloMosaic Idealize.ShloMosaic.TcCoe Idealize.ShloMosaic.ValueIdx Idealize.SL.Sem

variable (H : (M 2048 1024).Idx → EReal) (W : (M 1024 5152).Idx → EReal) (Z : (M 2048 5120).Idx → EReal) (E : (M 2048 32).Idx → EReal)

/-- The two padded cotangents add up to one beside the other. -/
theorem v7_at (r : Fin 2048) (f : Fin 5152) : (val_main_v7 (F := Ideal) Z E (ix2 r f) : EReal) = dz Z E (ix2 r f) := by
  have hE := padCols_apply 5120 0 E (val_main_cst (F := Ideal)) pads_S2048x32_S2048x5152_000_512000 h_S_ r f
  have hZ := padCols_apply 0 32 Z (val_main_cst_0 (F := Ideal)) pads_S2048x5120_S2048x5152_000_0320 h_S_ r f
  refine Eq.trans (add2 hE hZ) ?_
  rcases col_cases (p := 5120) (n := 32) f with ⟨q, rfl⟩ | ⟨q, rfl⟩
  · refine Eq.trans (add2 (Eq.trans (dif_neg (fun h => absurd h.1 (by show ¬ 5120 ≤ q.val; omega))) zero_word)
      (dif_pos ⟨Nat.zero_le _, by show q.val - 0 < 5120; omega⟩)) ((zero_add _).trans ?_)
    exact (beside_cl Z E r q).symm
  · refine Eq.trans (add2 (dif_pos ⟨by show 5120 ≤ 5120 + q.val; omega, by show 5120 + q.val - 5120 < 32; omega⟩)
      (Eq.trans (dif_neg (fun h => absurd h.2 (by show ¬ 5120 + q.val - 0 < 5120; omega))) zero_word)) ((add_zero _).trans ?_)
    refine Eq.trans ?_ (beside_cr Z E r q).symm
    exact congrArg E (ix2_of _ _ _ rfl (by show 5120 + q.val - 5120 = q.val; omega))

theorem v7_eq : val_main_v7 (F := Ideal) Z E = dz Z E := funext fun i => by
  obtain ⟨r, f, rfl⟩ : ∃ (r : Fin 2048) (f : Fin 5152), i = ix2 r f := ⟨i 0, i 1, eq_ix2 i⟩
  exact v7_at Z E r f

theorem v11_eq : val_main_v11 (F := Ideal) W Z E = fun i : (M 2048 1024).Idx => dH W Z E (i 0) (i 1) := funext fun i => by
  obtain ⟨r, j, rfl⟩ : ∃ (r : Fin 2048) (j : Fin 1024), i = ix2 r j := ⟨i 0, i 1, eq_ix2 i⟩
  refine Eq.trans (dg_nt (φ₁ := .f32) (φ₂ := .f32) 2048 5152 1024 (val_main_v7 (F := Ideal) Z E) W r j) ?_
  rw [v7_eq]
  rfl

theorem v12_eq : val_main_v12 (F := Ideal) H Z E = fun i : (M 1024 5152).Idx => dW H Z E (i 0) (i 1) := funext fun i => by
  obtain ⟨k, f, rfl⟩ : ∃ (k : Fin 1024) (f : Fin 5152), i = ix2 k f := ⟨i 0, i 1, eq_ix2 i⟩
  refine Eq.trans (transpose_ix2_apply (val_main_v8 (F := Ideal) H Z E) transposes_S5152x1024_S1024x5152_1_0 k f) ?_
  refine Eq.trans (dg_tn (φ₁ := .f32) (φ₂ := .f32) 5152 2048 1024 (val_main_v7 (F := Ideal) Z E) H f k) ?_
  rw [v7_eq]
  exact tn_swap (dz Z E) H f k

end Cert.SsdInBwdRefIdeal.RefValue

end
-- ==== Proof.SsdOutBwdKernel.lean ====
/- The two gradient calls of the state-space mixer's output projection: what one block computes, what the arrays hold after
   each call, and what the two results hold after the run. -/
module

public import proofs.«01_k».proof.Proof.Windows
public import proofs.«01_k».proof.Proof.Gen.SsdOutBwdIdeal.Frame
public import proofs.«01_k».proof.Proof.ProdSpec

@[expose] public section

set_option maxRecDepth 16384

noncomputable section

namespace Cert.SsdOutBwdIdeal.Calls

open Cert.Windows Cert.SsdOutBwdIdeal Cert.SsdOutBwdIdeal.Gen Cert.MlpSpec Cert.ProdSpec Cert.Rows Cert.Dots
open Idealize.ShloMosaic Idealize.ShloMosaic.TcCoe Idealize.ShloMosaic.ValueIdx Idealize.SL.Sem Idealize.SL
open Idealize.ShloMosaic.Pipeline (Dat)
open scoped BigOperators

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The input's cotangent -/

theorem idx0 : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The group of block `t`. -/
def g0 (t : Fin cfg0.N) : Fin 4 := ⟨t.val, lt_of_lt_of_eq t.isLt N_0⟩
/-- Column `q` of group `s`. -/
abbrev gc (s : Fin 4) (q : Fin 512) : Fin 2048 := grow (n := 4) (b := 512) rfl s q

theorem blk0_0 (c : Dev nD) (t : Fin cfg0.N) (r : Fin 2048) (k : Fin 1024) : iblk0 V c 0 t (ix2 r k) = V c main_arg2 (ix2 r k) := by
  show V c main_arg2 ((win0_0.rect t).emb (ix2 r k)) = _
  obtain ⟨h0, h1, -⟩ := idx0 t
  refine congrArg (V c main_arg2) (ix2_of _ _ _ ?_ ?_)
  · exact embAt win0_0 t 0 2048 r.val h0 (by omega)
  · exact embAt win0_0 t 1 1024 k.val h1 (by omega)

theorem blk0_1 (c : Dev nD) (t : Fin cfg0.N) (q : Fin 512) (k : Fin 1024) : iblk0 V c 1 t (ix3 (0 : Fin 1) q k) = V c main_v2 (ix3 (g0 t) q k) := by
  show V c main_v2 ((win0_1.rect t).emb (ix3 (0 : Fin 1) q k)) = _
  obtain ⟨-, -, h0, h1, h2, -⟩ := idx0 t
  refine congrArg (V c main_v2) (ix3_of _ _ _ _ ?_ ?_ ?_)
  · exact embAt win0_1 t 0 1 0 (n := t.val) h0 (by omega)
  · exact embAt win0_1 t 1 512 q.val h1 (by omega)
  · exact embAt win0_1 t 2 1024 k.val h2 (by omega)

theorem blk0_2 (c : Dev nD) (t : Fin cfg0.N) (q : Fin 512) : iblk0 V c 2 t (ix2 (0 : Fin 1) q) = V c main_v4 (ix2 (0 : Fin 1) (gc (g0 t) q)) := by
  show V c main_v4 ((win0_2.rect t).emb (ix2 (0 : Fin 1) q)) = _
  obtain ⟨-, -, -, -, -, h0, h1, -⟩ := idx0 t
  refine congrArg (V c main_v4) (ix2_of _ _ _ ?_ ?_)
  · exact embAt win0_2 t 0 1 0 h0 rfl
  · exact embAt win0_2 t 1 512 q.val h1 rfl

theorem emb0 (t : Fin cfg0.N) (r : Fin 2048) (q : Fin 512) : (win0_3.rect t).emb (ix2 r q) = ix2 r (gc (g0 t) q) := by
  obtain ⟨-, -, -, -, -, -, -, h0, h1⟩ := idx0 t
  refine ix2_of _ _ _ ?_ ?_
  · exact embAt win0_3 t 0 2048 r.val h0 (by omega)
  · exact embAt win0_3 t 1 512 q.val h1 rfl

theorem pay0_apply (x0 : Vec Ideal S2048x1024 .bf16) (x1 : Vec Ideal S1x512x1024 .bf16) (x2 : Vec Ideal S1x512 .f32) (r : Fin 2048) (q : Fin 512) :
    (k0_pay1 (F := Ideal) x0 x1 x2 (ix2 r q) : EReal)
      = (∑ k : Fin 1024, (x0 (ix2 r k) : EReal) * (x1 (ix3 (0 : Fin 1) q k) : EReal)) + (x2 (ix2 (0 : Fin 1) q) : EReal) := by
  have e := mm_nt (φ₁ := .bf16) (φ₂ := .bf16) 2048 1024 512 x0 (shapeCast S512x1024 x1 shapeCasts_S1x512x1024_S512x1024) r q
  unfold k0_pay1
  refine add2 (Eq.trans e (sum2 fun k => mul2 rfl ?_)) ?_
  · exact shapeCast_1ab_ab_apply x1 shapeCasts_S1x512x1024_S512x1024 q k
  · refine (broadcastRow_apply _ _ r q).trans ?_
    rw [shapeCast_self]

theorem out0_apply (x0 : Vec Ideal S2048x1024 .bf16) (x1 : Vec Ideal S1x512x1024 .bf16) (x2 : Vec Ideal S1x512 .f32) :
    out0_3 (F := Ideal) x0 x1 x2 = k0_pay1 x0 x1 x2 := by
  unfold out0_3 r0_0 r0_1 r0_2
  rw [View.ld_unit_zero hz2 _ x0, View.ld_unit_zero hz3 _ x1, View.ld_unit_zero hz2 _ x2]
  exact View.canon_unit_zero (Val := Elt Ideal) (S := S2048x512) (e := .bf16) hz2 _ _

/-- A row of cotangents by the weight's rows by groups, with a row added. -/
def dyn (Y : (M 2048 1024).Idx → EReal) (W : (T 4 512 1024).Idx → EReal) (Z : (M 1 2048).Idx → EReal) (s : Fin 4) (r : Fin 2048) (q : Fin 512) : EReal :=
  (∑ k : Fin 1024, Y (ix2 r k) * W (ix3 s q k)) + Z (ix2 (0 : Fin 1) (gc s q))

/-- The group of a column. -/
def cg (f : Fin 2048) : Fin 4 := ⟨f.val / 512, by omega⟩
/-- Its place in the group. -/
def co (f : Fin 2048) : Fin 512 := ⟨f.val % 512, by omega⟩
theorem gc_cg_co (f : Fin 2048) : gc (cg f) (co f) = f := Fin.ext (by show f.val / 512 * 512 + f.val % 512 = f.val; omega)
theorem cg_gc (s : Fin 4) (q : Fin 512) : cg (gc s q) = s := Fin.ext (by show (s.val * 512 + q.val) / 512 = s.val; omega)
theorem co_gc (s : Fin 4) (q : Fin 512) : co (gc s q) = q := Fin.ext (by show (s.val * 512 + q.val) % 512 = q.val; omega)

/-- The input's cotangent as one array. -/
abbrev G0 (c : Dev nD) : Buf (Elt Ideal) ((c : Thread nD τ).loc main_v5) :=
  fun i : S2048x2048.Idx => dyn (V c main_arg2) (V c main_v2) (V c main_v4) (cg (i 1)) (i 0) (co (i 1))

theorem flushed0 (c : Dev nD) (t : Fin cfg0.N) : (dat0 V c).flushed 3 t = ((cfg0.win 3).blk t).view.read (Elt Ideal) (G0 V c) := by
  show (cfg0.win 3).cut (grid0.coords t) ((dat0 V c).after 3 t) = _
  rw [after0_3, out0_apply]
  refine funext fun y => ?_
  obtain ⟨r, q, rfl⟩ : ∃ (r : Fin 2048) (q : Fin 512), y = ix2 r q := ⟨y 0, y 1, eq_ix2 y⟩
  show _ = G0 V c ((win0_3.rect t).emb (ix2 r q))
  rw [emb0]
  refine Eq.trans (pay0_apply _ _ _ r q) ?_
  show _ = dyn (V c main_arg2) (V c main_v2) (V c main_v4) (cg (gc (g0 t) q)) r (co (gc (g0 t) q))
  rw [cg_gc, co_gc]
  exact add2 (sum2 fun k => mul2 (blk0_0 V c t r k) (blk0_1 V c t q k)) (blk0_2 V c t q)

theorem at0 (s : Fin 4) : ∃ t : Fin cfg0.N, g0 t = s := ⟨⟨s.val, by show _ < grid0.N; rw [N_0]; exact s.isLt⟩, Fin.ext rfl⟩

theorem cover0 (i : S2048x2048.Idx) : ∃ t : Fin cfg0.N, (cfg0.win 3).flush t = true ∧ i ∈ ((cfg0.win 3).blk t).view.set := by
  obtain ⟨r, f, rfl⟩ : ∃ (r : Fin 2048) (f : Fin 2048), i = ix2 r f := ⟨i 0, i 1, eq_ix2 i⟩
  obtain ⟨t, ht⟩ := at0 (cg f)
  refine ⟨t, flush0_3 t, ?_⟩
  rw [← gc_cg_co f, ← ht, ← emb0]
  exact View.emb_mem_set _ _

theorem arr0 (c : Dev nD) : (dat0 V c).arrAt 3 cfg0.N = G0 V c :=
  (dat0 V c).arrAt_eq_of_cover 3 (G0 V c) (fun t _ => flushed0 V c t) cover0

/-! ## The weight's gradient, by groups -/

theorem idx1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The group of block `t`. -/
def g1 (t : Fin cfg1.N) : Fin 4 := ⟨t.val, lt_of_lt_of_eq t.isLt N_1⟩

theorem blk1_0 (c : Dev nD) (t : Fin cfg1.N) (r : Fin 2048) (q : Fin 512) : iblk1 V c 0 t (ix2 r q) = V c main_arg0 (ix2 r (gc (g1 t) q)) := by
  show V c main_arg0 ((win1_0.rect t).emb (ix2 r q)) = _
  obtain ⟨h0, h1, -⟩ := idx1 t
  refine congrArg (V c main_arg0) (ix2_of _ _ _ ?_ ?_)
  · exact embAt win1_0 t 0 2048 r.val h0 (by omega)
  · exact embAt win1_0 t 1 512 q.val h1 rfl

theorem blk1_1 (c : Dev nD) (t : Fin cfg1.N) (r : Fin 2048) (k : Fin 1024) : iblk1 V c 1 t (ix2 r k) = V c main_arg2 (ix2 r k) := by
  show V c main_arg2 ((win1_1.rect t).emb (ix2 r k)) = _
  obtain ⟨-, -, h0, h1, -⟩ := idx1 t
  refine congrArg (V c main_arg2) (ix2_of _ _ _ ?_ ?_)
  · exact embAt win1_1 t 0 2048 r.val h0 (by omega)
  · exact embAt win1_1 t 1 1024 k.val h1 (by omega)

theorem emb1 (t : Fin cfg1.N) (q : Fin 512) (k : Fin 1024) : (win1_2.rect t).emb (ix3 (0 : Fin 1) q k) = ix3 (g1 t) q k := by
  obtain ⟨-, -, -, -, h0, h1, h2⟩ := idx1 t
  refine ix3_of _ _ _ _ ?_ ?_ ?_
  · exact embAt win1_2 t 0 1 0 (n := t.val) h0 (by omega)
  · exact embAt win1_2 t 1 512 q.val h1 (by omega)
  · exact embAt win1_2 t 2 1024 k.val h2 (by omega)

theorem pay1_apply (x0 : Vec Ideal S2048x512 .bf16) (x1 : Vec Ideal S2048x1024 .bf16) (q : Fin 512) (k : Fin 1024) :
    (k1_pay1 (F := Ideal) x0 x1 (ix3 (0 : Fin 1) q k) : EReal) = ∑ r : Fin 2048, (x0 (ix2 r q) : EReal) * (x1 (ix2 r k) : EReal) := by
  unfold k1_pay1
  refine (shapeCast_ab_1ab_apply _ shapeCasts_S512x1024_S1x512x1024 (0 : Fin 1) q k).trans ?_
  exact mm_tn (φ₁ := .bf16) (φ₂ := .bf16) 512 2048 1024 x0 x1 q k

theorem out1_apply (x0 : Vec Ideal S2048x512 .bf16) (x1 : Vec Ideal S2048x1024 .bf16) : out1_2 (F := Ideal) x0 x1 = k1_pay1 x0 x1 := by
  unfold out1_2 r1_0 r1_1
  rw [View.ld_unit_zero hz2 _ x0, View.ld_unit_zero hz2 _ x1]
  exact View.canon_unit_zero (Val := Elt Ideal) (S := S1x512x1024) (e := .bf16) hz3 _ _

/-- The weight's gradient as one array. -/
abbrev G1 (c : Dev nD) : Buf (Elt Ideal) ((c : Thread nD τ).loc main_v6) :=
  fun i : S4x512x1024.Idx => ProdSpec.tn (a := 2048) (b := 1024) (k := 2048) (V c main_arg0) (V c main_arg2) (gc (i 0) (i 1)) (i 2)

theorem flushed1 (c : Dev nD) (t : Fin cfg1.N) : (dat1 V c).flushed 2 t = ((cfg1.win 2).blk t).view.read (Elt Ideal) (G1 V c) := by
  show (cfg1.win 2).cut (grid1.coords t) ((dat1 V c).after 2 t) = _
  rw [after1_2, out1_apply]
  refine funext fun y => ?_
  obtain ⟨z, q, k, rfl⟩ : ∃ (z : Fin 1) (q : Fin 512) (k : Fin 1024), y = ix3 z q k := ⟨y 0, y 1, y 2, eq_ix3 y⟩
  obtain rfl : z = 0 := Subsingleton.elim _ _
  show _ = G1 V c ((win1_2.rect t).emb (ix3 (0 : Fin 1) q k))
  rw [emb1]
  exact Eq.trans (pay1_apply _ _ q k) (sum2 fun r => mul2 (blk1_0 V c t r q) (blk1_1 V c t r k))

theorem at1 (s : Fin 4) : ∃ t : Fin cfg1.N, g1 t = s := ⟨⟨s.val, by show _ < grid1.N; rw [N_1]; exact s.isLt⟩, Fin.ext rfl⟩

theorem cover1 (i : S4x512x1024.Idx) : ∃ t : Fin cfg1.N, (cfg1.win 2).flush t = true ∧ i ∈ ((cfg1.win 2).blk t).view.set := by
  obtain ⟨s, q, k, rfl⟩ : ∃ (s : Fin 4) (q : Fin 512) (k : Fin 1024), i = ix3 s q k := ⟨i 0, i 1, i 2, eq_ix3 i⟩
  obtain ⟨t, rfl⟩ := at1 s
  refine ⟨t, flush1_2 t, ?_⟩
  rw [← emb1]
  exact View.emb_mem_set _ _

theorem arr1 (c : Dev nD) : (dat1 V c).arrAt 2 cfg1.N = G1 V c :=
  (dat1 V c).arrAt_eq_of_cover 2 (G1 V c) (fun t _ => flushed1 V c t) cover1

end Blocks

/-! ## From the arguments to the results -/

variable (m : (ℓ : Loc nD τ sig) → Buf (Elt Ideal) ℓ) (ρ : Dev nD → PrngReg)

/-- The projection's input. -/
abbrev aY (c : Dev nD) : (M 2048 2048).Idx → EReal := m ((c : Thread nD τ).loc main_arg0)
/-- The weight. -/
abbrev aW (c : Dev nD) : (M 2048 1024).Idx → EReal := m ((c : Thread nD τ).loc main_arg1)
/-- The output's cotangent. -/
abbrev aD (c : Dev nD) : (M 2048 1024).Idx → EReal := m ((c : Thread nD τ).loc main_arg2)

theorem weight (c : Dev nD) (s : Fin 4) (q : Fin 512) (k : Fin 1024) : V1 m ρ c main_v2 (ix3 s q k) = aW m c (ix2 (gc s q) k) := by
  have h : V1 m ρ c main_v2 = shapeCast S4x512x1024 (aW m c) shapeCasts_S2048x1024_S4x512x1024 := by
    show StableHlo.after hostOps0 (fun b => m (c, b)) main_v2 = _
    after_results_simp <;> rfl
  rw [h]
  exact groups_apply (n := 4) (b := 512) (L := 2048) rfl _ _ s q k

theorem added (c : Dev nD) (f : Fin 2048) : @Eq EReal (V1 m ρ c main_v4 (ix2 (0 : Fin 1) f)) 0 := by
  have h : V1 m ρ c main_v4 = broadcastInDim S1x2048 ![0, 1] bcast_S1x1_S1x2048_0_1
      (extractStridedSlice S1x1 ![0, 0] (broadcastInDim S8x128 ![] bcast_S_S8x128 (constant (F := Ideal) S_ .f32 0x00000000#32)) slices_S8x128_S1x1_0_0) := by
    show StableHlo.after hostOps0 (fun b => m (c, b)) main_v4 = _
    after_results_simp <;> rfl
  rw [h, broadcastInDim_apply _ _ _ _ (ix2 (0 : Fin 1) (0 : Fin 1)) (fun d => match d with | ⟨0, _⟩ => rfl | ⟨1, _⟩ => rfl)]
  refine Eq.trans (slice_apply (a := 8) (b := 128) (a' := 1) (b' := 1) 0 0 _ slices_S8x128_S1x1_0_0 0 0 (by decide) (by decide)) ?_
  exact zeros_apply _ _

/-- The input's cotangent as one array. -/
abbrev GN (c : Dev nD) : Buf (Elt Ideal) ((c : Thread nD τ).loc main_v5) := fun i : S2048x2048.Idx =>
  ProdSpec.nt (a := 2048) (b := 2048) (k := 1024) (aD m c) (aW m c) (i 0) (i 1)
/-- The weight's gradient as one array, its rows by groups. -/
abbrev GW (c : Dev nD) : Buf (Elt Ideal) ((c : Thread nD τ).loc main_v6) := fun i : S4x512x1024.Idx =>
  ProdSpec.tn (a := 2048) (b := 1024) (k := 2048) (aY m c) (aD m c) (gc (i 0) (i 1)) (i 2)

theorem final_n (c : Dev nD) : W3 m ρ c main_v5 = GN m c := by
  refine (W3_of m ρ c main_v5 (by decide +kernel)).trans ((W2_arr m ρ c 3).trans ((arr0 (V1 m ρ) c).trans (funext fun i => ?_)))
  obtain ⟨r, f, rfl⟩ : ∃ (r : Fin 2048) (f : Fin 2048), i = ix2 r f := ⟨i 0, i 1, eq_ix2 i⟩
  show dyn (V1 m ρ c main_arg2) (V1 m ρ c main_v2) (V1 m ρ c main_v4) (cg f) r (co f) = _
  rw [show V1 m ρ c main_arg2 = aD m c from W1_args m ρ c main_arg2 (by decide)]
  refine Eq.trans (add2 (sum2 fun k => mul2 rfl (weight m ρ c (cg f) (co f) k)) (added m ρ c _)) ((add_zero _).trans ?_)
  rw [gc_cg_co]
  rfl

theorem final_w (c : Dev nD) : W3 m ρ c main_v6 = GW m c := by
  refine (W3_arr m ρ c 2).trans ((arr1 (V2 m ρ) c).trans ?_)
  show (fun i : S4x512x1024.Idx => ProdSpec.tn (a := 2048) (b := 1024) (k := 2048) (V2 m ρ c main_arg0) (V2 m ρ c main_arg2) (gc (i 0) (i 1)) (i 2)) = _
  rw [show V2 m ρ c main_arg0 = aY m c from W2_args m ρ c main_arg0 (by decide), show V2 m ρ c main_arg2 = aD m c from W2_args m ρ c main_arg2 (by decide)]
  rfl

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v5) = GN m c
      ∧ r.2.mem ((c : Thread nD τ).loc main_v6) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v5 (by decide))).trans (final_n m ρ c),
       (h c _ (mem_uc main_v6 (by decide))).trans (final_w m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.SsdOutBwdIdeal.Calls

end
-- ==== Proof.SsdOutBwdReference.lean ====
/- The reference of the gradient of the state-space mixer's output projection: its two results, index by index. -/
module

public import proofs.«01_k».proof.Proof.Gen.SsdOutBwdRefIdeal.Read
public import proofs.«01_k».proof.Proof.ProdSpec

@[expose] public section

set_option maxRecDepth 16384

noncomputable section

namespace Cert.SsdOutBwdRefIdeal.RefValue

open Cert.SsdOutBwdRefIdeal Cert.SsdOutBwdRefIdeal.Gen Cert.SsdOutBwdRefIdeal.Read Cert.MlpSpec Cert.ProdSpec Cert.Rows Cert.Dots
open Idealize.ShloMosaic Idealize.ShloMosaic.TcCoe Idealize.ShloMosaic.ValueIdx Idealize.SL.Sem

variable (Y : (M 2048 2048).Idx → EReal) (W : (M 2048 1024).Idx → EReal) (D : (M 2048 1024).Idx → EReal)

theorem v6_eq : val_main_v6 (F := Ideal) W D = fun i : (M 2048 2048).Idx => ProdSpec.nt D W (i 0) (i 1) := funext fun i => by
  obtain ⟨r, f, rfl⟩ : ∃ (r : Fin 2048) (f : Fin 2048), i = ix2 r f := ⟨i 0, i 1, eq_ix2 i⟩
  exact dg_nt (φ₁ := .f32) (φ₂ := .f32) 2048 1024 2048 D W r f

theorem v4_at (f : Fin 2048) (j : Fin 1024) : (val_main_v4 (F := Ideal) Y D (ix2 f j) : EReal) = ProdSpec.tn Y D f j := by
  refine Eq.trans (transpose_ix2_apply _ transposes_S1024x2048_S2048x1024_1_0 f j) ?_
  exact Eq.trans (dg_tn (φ₁ := .f32) (φ₂ := .f32) 1024 2048 2048 D Y j f) (tn_swap D Y j f)

theorem v8_eq : val_main_v8 (F := Ideal) Y D = fun i : (T 4 512 1024).Idx => ProdSpec.tn Y D (grow (n := 4) (b := 512) rfl (i 0) (i 1)) (i 2) := funext fun i => by
  obtain ⟨s, q, j, rfl⟩ : ∃ (s : Fin 4) (q : Fin 512) (j : Fin 1024), i = ix3 s q j := ⟨i 0, i 1, i 2, eq_ix3 i⟩
  refine Eq.trans (groups_apply (n := 4) (b := 512) (L := 2048) rfl (val_main_v4 (F := Ideal) Y D) _ s q j) ?_
  exact v4_at Y D _ j

end Cert.SsdOutBwdRefIdeal.RefValue

end
-- ==== Proof.FwdSpec.lean ====
/- Weights whose rows are kept by groups, read as one array. -/
module

public import proofs.«01_k».proof.Proof.ScSpec

@[expose] public section

noncomputable section

namespace Cert.FwdSpec

open Idealize.ShloMosaic Idealize.ShloMosaic.ValueIdx Cert.Rows Cert.MlpSpec Cert.ProdSpec Cert.ScSpec
open scoped BigOperators

variable {α : Type} {n b L c : Nat}

/-- Groups of rows laid one below the other. -/
theorem ungroup_apply (h : n * b = L) (hb : 0 < b) (x : (T n b c).Idx → α) (hc : (T n b c).ShapeCasts (M L c)) (f : Fin L) (j : Fin c) :
    shapeCast (M L c) x hc (ix2 f j) = x (ix3 (gdiv h hb f) (gmod hb f) j) := by
  refine shapeCast_apply x hc _ _ ?_
  rw [Shape.rowMajor_val_three, Shape.rowMajor_val_two]
  show (f.val / b * b + f.val % b) * c + j.val = f.val * c + j.val
  rw [Nat.div_add_mod']

/-- The groups of rows as one array. -/
def rows (h : n * b = L) (hb : 0 < b) (B : (T n b c).Idx → α) : (M L c).Idx → α := fun i => B (ix3 (gdiv h hb (i 0)) (gmod hb (i 0)) (i 1))

theorem rows_groups (h : n * b = L) (hb : 0 < b) (x : (M L c).Idx → α) (hc : (M L c).ShapeCasts (T n b c)) : rows h hb (shapeCast (T n b c) x hc) = x :=
  funext fun i => by
    obtain ⟨f, j, rfl⟩ : ∃ (f : Fin L) (j : Fin c), i = ix2 f j := ⟨i 0, i 1, eq_ix2 i⟩
    exact (groups_apply h x hc _ _ j).trans (congrArg (fun y => x (ix2 y j)) (grow_gdiv_gmod h hb f))

/-- The half's row `r`. -/
abbrev half (s : Fin 2) (r : Fin 1024) : Fin 2048 := grow (n := 2) (b := 1024) rfl s r
/-- The half's column `q`. -/
abbrev side (s : Fin 2) (q : Fin 512) : Fin 1024 := grow (n := 2) (b := 512) rfl s q

end Cert.FwdSpec

end
-- ==== Proof.ScFwdCalls.lean ====
/- The three calls of the short-convolution mixer's forward pass: what one block computes and what the arrays hold after
   each call. -/
module

public import proofs.«01_k».proof.Proof.Windows
public import proofs.«01_k».proof.Proof.Gen.ScFwdIdeal.Frame
public import proofs.«01_k».proof.Proof.FwdSpec
public import proofs.«01_k».proof.Proof.ConvFwdKernel

@[expose] public section

set_option maxRecDepth 16384

noncomputable section

namespace Cert.ScFwdIdeal.Calls

open Cert.Windows Cert.ScFwdIdeal Cert.ScFwdIdeal.Gen Cert.ProdSpec Cert.ScSpec Cert.FwdSpec Cert.ConvSpec Cert.Rows Cert.Dots
open Cert.MlpSpec (T ix3_of)
open Idealize.ShloMosaic Idealize.ShloMosaic.TcCoe Idealize.ShloMosaic.ValueIdx Idealize.SL.Sem Idealize.SL
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Column `q` of the `s`-th 256 of 3072. -/
abbrev c12 (s : Fin 12) (q : Fin 256) : Fin 3072 := grow (n := 12) (b := 256) rfl s q

/-! ## The projection -/

theorem idx0 : ∀ t : Fin cfg0.N, win0_0.index t (0 : Fin 2) = 0 ∧ win0_0.index t (1 : Fin 2) = 0
    ∧ win0_1.index t (0 : Fin 3) = t.val / 3 ∧ win0_1.index t (1 : Fin 3) = 0 ∧ win0_1.index t (2 : Fin 3) = t.val % 3
    ∧ win0_2.index t (0 : Fin 2) = 0 ∧ win0_2.index t (1 : Fin 2) = t.val :=
  (by decide +kernel : ∀ t : Fin grid0.N, _)

/-- The columns of block `t`. -/
def g0 (t : Fin cfg0.N) : Fin 12 := ⟨t.val, lt_of_lt_of_eq t.isLt N_0⟩

theorem blk0_0 (c : Dev nD) (t : Fin cfg0.N) (r : Fin 2048) (k : Fin 1024) : iblk0 V c 0 t (ix2 r k) = V c main_arg2 (ix2 r k) := by
  show V c main_arg2 ((win0_0.rect t).emb (ix2 r k)) = _
  obtain ⟨h0, h1, -⟩ := idx0 t
  refine congrArg (V c main_arg2) (ix2_of _ _ _ ?_ ?_)
  · exact embAt win0_0 t 0 2048 r.val h0 (by omega)
  · exact embAt win0_0 t 1 1024 k.val h1 (by omega)

theorem blk0_1 (c : Dev nD) (t : Fin cfg0.N) (k : Fin 1024) (q : Fin 256) :
    iblk0 V c 1 t (ix3 (0 : Fin 1) k q) = unbuf (V c main_v2) (ix2 k (c12 (g0 t) q)) := by
  show V c main_v2 ((win0_1.rect t).emb (ix3 (0 : Fin 1) k q)) = V c main_v2 _
  obtain ⟨-, -, h0, h1, h2, -⟩ := idx0 t
  refine congrArg (V c main_v2) (ix3_of _ _ _ _ ?_ ?_ ?_)
  · exact embAt win0_1 t 0 1 0 (n := (t.val * 256 + q.val) / 768) h0 (by omega)
  · exact embAt win0_1 t 1 1024 k.val (n := k.val) h1 (by omega)
  · exact embAt win0_1 t 2 256 q.val (n := (t.val * 256 + q.val) % 768) h2 (by omega)

theorem emb0 (t : Fin cfg0.N) (r : Fin 2048) (q : Fin 256) : (win0_2.rect t).emb (ix2 r q) = ix2 r (c12 (g0 t) q) := by
  obtain ⟨-, -, -, -, -, h0, h1⟩ := idx0 t
  refine ix2_of _ _ _ ?_ ?_
  · exact embAt win0_2 t 0 2048 r.val h0 (by omega)
  · exact embAt win0_2 t 1 256 q.val h1 rfl

theorem pay0_apply (x0 : Vec Ideal S2048x1024 .bf16) (x1 : Vec Ideal S1x1024x256 .bf16) (r : Fin 2048) (q : Fin 256) :
    (k0_pay1 (F := Ideal) x0 x1 (ix2 r q) : EReal) = ∑ k : Fin 1024, (x0 (ix2 r k) : EReal) * (x1 (ix3 (0 : Fin 1) k q) : EReal) := by
  unfold k0_pay1
  refine Eq.trans (mm_nn (φ₁ := .bf16) (φ₂ := .bf16) 2048 1024 256 x0 (shapeCast S1024x256 x1 shapeCasts_S1x1024x256_S1024x256) r q) (sum2 fun k => mul2 rfl ?_)
  exact shapeCast_1ab_ab_apply x1 shapeCasts_S1x1024x256_S1024x256 k q

theorem out0_apply (x0 : Vec Ideal S2048x1024 .bf16) (x1 : Vec Ideal S1x1024x256 .bf16) : out0_2 (F := Ideal) x0 x1 = k0_pay1 x0 x1 := by
  unfold out0_2 r0_0 r0_1
  rw [View.ld_unit_zero hz2 _ x0, View.ld_unit_zero hz3 _ x1]
  exact View.canon_unit_zero (Val := Elt Ideal) (S := S2048x256) (e := .bf16) hz2 _ _

/-- The projection as one array. -/
abbrev G0 (c : Dev nD) : Buf (Elt Ideal) ((c : Thread nD τ).loc main_v5) := fun i : S2048x3072.Idx =>
  nn (a := 2048) (b := 3072) (k := 1024) (V c main_arg2) (unbuf (V c main_v2)) (i 0) (i 1)

theorem flushed0 (c : Dev nD) (t : Fin cfg0.N) : (dat0 V c).flushed 2 t = ((cfg0.win 2).blk t).view.read (Elt Ideal) (G0 V c) := by
  show (cfg0.win 2).cut (grid0.coords t) ((dat0 V c).after 2 t) = _
  rw [after0_2, out0_apply]
  refine funext fun y => ?_
  obtain ⟨r, q, rfl⟩ : ∃ (r : Fin 2048) (q : Fin 256), y = ix2 r q := ⟨y 0, y 1, eq_ix2 y⟩
  show _ = G0 V c ((win0_2.rect t).emb (ix2 r q))
  rw [emb0]
  exact Eq.trans (pay0_apply _ _ r q) (sum2 fun k => mul2 (blk0_0 V c t r k) (blk0_1 V c t k q))

theorem at0 (s : Fin 12) : ∃ t : Fin cfg0.N, g0 t = s := ⟨⟨s.val, by show _ < grid0.N; rw [N_0]; exact s.isLt⟩, Fin.ext rfl⟩

theorem arr0 (c : Dev nD) : (dat0 V c).arrAt 2 cfg0.N = G0 V c :=
  arr_of_blocks (dat0 V c) 2 (G0 V c) (flushed0 V c) fun i => by
    obtain ⟨r, f, rfl⟩ : ∃ (r : Fin 2048) (f : Fin 3072), i = ix2 r f := ⟨i 0, i 1, eq_ix2 i⟩
    obtain ⟨s, q, rfl⟩ := exists_grow (n := 12) (b := 256) rfl f
    obtain ⟨t, rfl⟩ := at0 s
    exact ⟨t, _, flush0_2 t, emb0 t _ _⟩

/-! ## The gated convolution -/

theorem step2 (x1 x2 : Vec Ideal S2048x256 .bf16) (w2 w1 w0 : Vec Ideal S1x256 .f32) :
    k1_pay2 (F := Ideal) x1 x2 w2 w1 w0 = Cert.ConvFwdIdeal.Gen.k0_pay2 x1 x2 w2 w1 w0 := by
  unfold k1_pay2 Cert.ConvFwdIdeal.Gen.k0_pay2
  rw [shapeCast_self, shapeCast_self]

theorem idx1 : ∀ t : Fin cfg1.N, win1_0.index t (0 : Fin 2) = 0 ∧ win1_0.index t (1 : Fin 2) = t.val
    ∧ win1_1.index t (0 : Fin 2) = 0 ∧ win1_1.index t (1 : Fin 2) = t.val + 4
    ∧ win1_2.index t (0 : Fin 2) = 0 ∧ win1_2.index t (1 : Fin 2) = t.val + 8
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- The columns of block `t`. -/
def g1 (t : Fin cfg1.N) : Fin 4 := ⟨t.val, lt_of_lt_of_eq t.isLt N_1⟩

theorem blk1_0 (c : Dev nD) (t : Fin cfg1.N) (r : Fin 2048) (q : Fin 256) : iblk1 V c 0 t (ix2 r q) = gB (V c main_v5) r (c4 (g1 t) q) := by
  show V c main_v5 ((win1_0.rect t).emb (ix2 r q)) = _
  obtain ⟨h0, h1, -⟩ := idx1 t
  refine congrArg (V c main_v5) (ix2_of _ _ _ ?_ ?_)
  · exact embAt win1_0 t 0 2048 r.val h0 (by omega)
  · exact embAt win1_0 t 1 256 q.val h1 rfl

theorem blk1_1 (c : Dev nD) (t : Fin cfg1.N) (r : Fin 2048) (q : Fin 256) : iblk1 V c 1 t (ix2 r q) = gC (V c main_v5) r (c4 (g1 t) q) := by
  show V c main_v5 ((win1_1.rect t).emb (ix2 r q)) = _
  obtain ⟨-, -, h0, h1, -⟩ := idx1 t
  refine congrArg (V c main_v5) (ix2_of _ _ _ ?_ ?_)
  · exact embAt win1_1 t 0 2048 r.val h0 (by omega)
  · exact embAt win1_1 t 1 256 q.val (n := 1024 + (t.val * 256 + q.val)) h1 (by omega)

theorem blk1_2 (c : Dev nD) (t : Fin cfg1.N) (r : Fin 2048) (q : Fin 256) : iblk1 V c 2 t (ix2 r q) = gX (V c main_v5) r (c4 (g1 t) q) := by
  show V c main_v5 ((win1_2.rect t).emb (ix2 r q)) = _
  obtain ⟨-, -, -, -, h0, h1, -⟩ := idx1 t
  refine congrArg (V c main_v5) (ix2_of _ _ _ ?_ ?_)
  · exact embAt win1_2 t 0 2048 r.val h0 (by omega)
  · exact embAt win1_2 t 1 256 q.val (n := 2048 + (t.val * 256 + q.val)) h1 (by omega)

theorem blk1_3 (c : Dev nD) (t : Fin cfg1.N) (k : Fin 3) (q : Fin 256) : iblk1 V c 3 t (ix2 k q) = V c main_arg4 (ix2 k (c4 (g1 t) q)) := by
  show V c main_arg4 ((win1_3.rect t).emb (ix2 k q)) = _
  obtain ⟨-, -, -, -, -, -, h0, h1, -⟩ := idx1 t
  refine congrArg (V c main_arg4) (ix2_of _ _ _ ?_ ?_)
  · exact embAt win1_3 t 0 3 k.val h0 (by omega)
  · exact embAt win1_3 t 1 256 q.val h1 rfl

theorem emb1 (t : Fin cfg1.N) (r : Fin 2048) (q : Fin 256) : (win1_4.rect t).emb (ix2 r q) = ix2 r (c4 (g1 t) q) := by
  obtain ⟨-, -, -, -, -, -, -, -, h0, h1, -⟩ := idx1 t
  refine ix2_of _ _ _ ?_ ?_
  · exact embAt win1_4 t 0 2048 r.val h0 (by omega)
  · exact embAt win1_4 t 1 256 q.val h1 rfl

/-- The convolution's block at point `t`, from the input blocks. -/
theorem conv_block (c : Dev nD) (t : Fin cfg1.N) (r : Fin 2048) (q : Fin 256) :
    k1_pay2 (F := Ideal) (iblk1 V c 1 t) (iblk1 V c 2 t) (View.ld (iblk1 V c 3 t) r1_1) (View.ld (iblk1 V c 3 t) r1_2) (View.ld (iblk1 V c 3 t) r1_3) (ix2 r q)
      = v (V c main_v5) (V c main_arg4) r (c4 (g1 t) q) := by
  rw [step2, Cert.ConvFwdIdeal.RefValue.pay2_apply]
  unfold r1_1 r1_2 r1_3
  rw [Cert.ConvFwdIdeal.RefValue.ld_row _ 2 (by norm_num), Cert.ConvFwdIdeal.RefValue.ld_row _ 1 (by norm_num), Cert.ConvFwdIdeal.RefValue.ld_row _ 0 (by norm_num)]
  simp only [blk1_1, blk1_2, blk1_3]
  rfl

theorem out1_apply (x0 x1 x2 : Vec Ideal S2048x256 .bf16) (x3 : Vec Ideal S3x256 .f32) :
    out1_4 (F := Ideal) x0 x1 x2 x3 = k1_pay3 x1 x2 (View.ld x3 r1_1) (View.ld x3 r1_2) (View.ld x3 r1_3) x0 := by
  unfold out1_4 r1_0
  rw [View.ld_unit_zero hz2 _ x0, View.ld_unit_zero hz2 _ x1, View.ld_unit_zero hz2 _ x2]
  exact View.canon_unit_zero (Val := Elt Ideal) (S := S2048x256) (e := .bf16) hz2 _ _

/-- The gated convolution as one array. -/
abbrev G1 (c : Dev nD) : Buf (Elt Ideal) ((c : Thread nD τ).loc main_v6_0) := fun i : S2048x1024.Idx => o (V c main_v5) (V c main_arg4) (i 0) (i 1)

theorem flushed1 (c : Dev nD) (t : Fin cfg1.N) : (dat1 V c).flushed 4 t = ((cfg1.win 4).blk t).view.read (Elt Ideal) (G1 V c) := by
  show (cfg1.win 4).cut (grid1.coords t) ((dat1 V c).after 4 t) = _
  rw [after1_4, out1_apply]
  refine funext fun y => ?_
  obtain ⟨r, q, rfl⟩ : ∃ (r : Fin 2048) (q : Fin 256), y = ix2 r q := ⟨y 0, y 1, eq_ix2 y⟩
  show _ = G1 V c ((win1_4.rect t).emb (ix2 r q))
  rw [emb1]
  unfold k1_pay3
  rw [shapeCast_self]
  exact mul2 (blk1_0 V c t r q) (conv_block V c t r q)

theorem at1 (s : Fin 4) : ∃ t : Fin cfg1.N, g1 t = s := ⟨⟨s.val, by show _ < grid1.N; rw [N_1]; exact s.isLt⟩, Fin.ext rfl⟩

theorem arr1 (c : Dev nD) : (dat1 V c).arrAt 4 cfg1.N = G1 V c :=
  arr_of_blocks (dat1 V c) 4 (G1 V c) (flushed1 V c) fun i => by
    obtain ⟨r, f, rfl⟩ : ∃ (r : Fin 2048) (f : Fin 1024), i = ix2 r f := ⟨i 0, i 1, eq_ix2 i⟩
    obtain ⟨s, q, rfl⟩ := exists_grow (n := 4) (b := 256) rfl f
    obtain ⟨t, rfl⟩ := at1 s
    exact ⟨t, _, flush1_4 t, emb1 t _ _⟩

/-! ## The second product and the gated residual -/

/-- The group of a row of the weight. -/
abbrev gr (f : Fin 1024) : Fin 4 := gdiv (n := 4) (b := 256) rfl (by norm_num) f
/-- Its place there. -/
abbrev pl (f : Fin 1024) : Fin 256 := gmod (b := 256) (by norm_num) f
/-- The weight whose rows are kept by groups. -/
abbrev wo (B : (T 4 256 1024).Idx → EReal) : (M 1024 1024).Idx → EReal := rows (n := 4) (b := 256) (L := 1024) rfl (by norm_num) B

theorem idx2 : ∀ t : Fin cfg2.N, win2_0.index t (0 : Fin 2) = t.val / 2 ∧ win2_0.index t (1 : Fin 2) = 0
    ∧ win2_1.index t (0 : Fin 3) = 0 ∧ win2_1.index t (1 : Fin 3) = 0 ∧ win2_1.index t (2 : Fin 3) = t.val % 2
    ∧ win2_2.index t (0 : Fin 2) = t.val / 2 ∧ win2_2.index t (1 : Fin 2) = t.val % 2
    ∧ win2_3.index t (0 : Fin 2) = 0 ∧ win2_3.index t (1 : Fin 2) = t.val % 2
    ∧ win2_4.index t (0 : Fin 2) = t.val / 2 ∧ win2_4.index t (1 : Fin 2) = t.val % 2
    ∧ win2_5.index t (0 : Fin 2) = t.val / 2 ∧ win2_5.index t (1 : Fin 2) = t.val % 2 :=
  (by decide +kernel : ∀ t : Fin grid2.N, _)

/-- The half of the rows a block takes. -/
def tr (t : Fin cfg2.N) : Fin 2 := ⟨t.val / 2, by have : t.val < 4 := lt_of_lt_of_eq t.isLt N_2; omega⟩
/-- The half of the columns a block takes. -/
def tq (t : Fin cfg2.N) : Fin 2 := ⟨t.val % 2, by omega⟩

theorem blk2_0 (c : Dev nD) (t : Fin cfg2.N) (r : Fin 1024) (f : Fin 1024) : iblk2 V c 0 t (ix2 r f) = V c main_v6_0 (ix2 (half (tr t) r) f) := by
  show V c main_v6_0 ((win2_0.rect t).emb (ix2 r f)) = _
  obtain ⟨h0, h1, -⟩ := idx2 t
  refine congrArg (V c main_v6_0) (ix2_of _ _ _ ?_ ?_)
  · exact embAt win2_0 t 0 1024 r.val h0 rfl
  · exact embAt win2_0 t 1 1024 f.val h1 (by omega)

theorem blk2_1 (c : Dev nD) (t : Fin cfg2.N) (s : Fin 4) (k : Fin 256) (q : Fin 512) : iblk2 V c 1 t (ix3 s k q) = V c main_v4 (ix3 s k (side (tq t) q)) := by
  show V c main_v4 ((win2_1.rect t).emb (ix3 s k q)) = _
  obtain ⟨-, -, h0, h1, h2, -⟩ := idx2 t
  refine congrArg (V c main_v4) (ix3_of _ _ _ _ ?_ ?_ ?_)
  · exact embAt win2_1 t 0 4 s.val h0 (by omega)
  · exact embAt win2_1 t 1 256 k.val h1 (by omega)
  · exact embAt win2_1 t 2 512 q.val h2 rfl

theorem blk2_2 (c : Dev nD) (t : Fin cfg2.N) (r : Fin 1024) (q : Fin 512) : iblk2 V c 2 t (ix2 r q) = V c main_arg0 (ix2 (half (tr t) r) (side (tq t) q)) := by
  show V c main_arg0 ((win2_2.rect t).emb (ix2 r q)) = _
  obtain ⟨-, -, -, -, -, h0, h1, -⟩ := idx2 t
  refine congrArg (V c main_arg0) (ix2_of _ _ _ ?_ ?_)
  · exact embAt win2_2 t 0 1024 r.val h0 rfl
  · exact embAt win2_2 t 1 512 q.val h1 rfl

theorem blk2_3 (c : Dev nD) (t : Fin cfg2.N) (q : Fin 512) : iblk2 V c 3 t (ix2 (0 : Fin 1) q) = V c main_arg1 (ix2 (0 : Fin 1) (side (tq t) q)) := by
  show V c main_arg1 ((win2_3.rect t).emb (ix2 (0 : Fin 1) q)) = _
  obtain ⟨-, -, -, -, -, -, -, h0, h1, -⟩ := idx2 t
  refine congrArg (V c main_arg1) (ix2_of _ _ _ ?_ ?_)
  · exact embAt win2_3 t 0 1 0 h0 rfl
  · exact embAt win2_3 t 1 512 q.val h1 rfl

theorem emb2 (t : Fin cfg2.N) (r : Fin 1024) (q : Fin 512) : (win2_4.rect t).emb (ix2 r q) = ix2 (half (tr t) r) (side (tq t) q)
    ∧ (win2_5.rect t).emb (ix2 r q) = ix2 (half (tr t) r) (side (tq t) q) := by
  obtain ⟨-, -, -, -, -, -, -, -, -, h0, h1, h2, h3⟩ := idx2 t
  refine ⟨ix2_of _ _ _ ?_ ?_, ix2_of _ _ _ ?_ ?_⟩
  · exact embAt win2_4 t 0 1024 r.val h0 rfl
  · exact embAt win2_4 t 1 512 q.val h1 rfl
  · exact embAt win2_5 t 0 1024 r.val h2 rfl
  · exact embAt win2_5 t 1 512 q.val h3 rfl

theorem prod_apply (x0 : Vec Ideal S1024x1024 .bf16) (x1 : Vec Ideal S4x256x512 .bf16) (r : Fin 1024) (q : Fin 512) :
    (k2_pay1 (F := Ideal) x0 x1 (ix2 r q) : EReal) = ∑ f : Fin 1024, x0 (ix2 r f) * x1 (ix3 (gr f) (pl f) q) := by
  have e0 : shapeCast S1024x1024 x0 shapeCasts_S1024x1024_S1024x1024 = x0 := shapeCast_self _ _
  have e1 : shapeCast S4x256x512 x1 shapeCasts_S4x256x512_S4x256x512 = x1 := shapeCast_self _ _
  unfold k2_pay1
  rw [e0, e1]
  refine Eq.trans (mm_nn (φ₁ := .bf16) (φ₂ := .bf16) 1024 1024 512 x0 (shapeCast S1024x512 x1 shapeCasts_S4x256x512_S1024x512) r q) (sum2 fun f => mul2 rfl ?_)
  exact ungroup_apply (n := 4) (b := 256) (L := 1024) rfl (by norm_num) x1 _ f q

theorem resid_apply (x0 : Vec Ideal S1024x1024 .bf16) (x1 : Vec Ideal S4x256x512 .bf16) (x2 : Vec Ideal S1024x512 .f32) (x3 : Vec Ideal S1x512 .f32) (r : Fin 1024) (q : Fin 512) :
    (k2_pay2 (F := Ideal) x0 x1 x2 x3 (ix2 r q) : EReal)
      = x2 (ix2 r q) + x3 (ix2 (0 : Fin 1) q) * ∑ f : Fin 1024, x0 (ix2 r f) * x1 (ix3 (gr f) (pl f) q) := by
  unfold k2_pay2
  exact add2 rfl (mul2 (broadcastRow_apply x3 broadcasts_S1x512_S1024x512 r q) (prod_apply x0 x1 r q))

theorem out2_4_apply (x0 : Vec Ideal S1024x1024 .bf16) (x1 : Vec Ideal S4x256x512 .bf16) (x2 : Vec Ideal S1024x512 .f32) (x3 : Vec Ideal S1x512 .f32) :
    out2_4 (F := Ideal) x0 x1 x2 x3 = k2_pay2 x0 x1 x2 x3 := by
  unfold out2_4 r2_0 r2_1 r2_2 r2_3
  rw [View.ld_unit_zero hz2 _ x0, View.ld_unit_zero hz3 _ x1, View.ld_unit_zero hz2 _ x2, View.ld_unit_zero hz2 _ x3]
  exact View.canon_unit_zero (Val := Elt Ideal) (S := S1024x512) (e := .f32) hz2 _ _

theorem out2_5_apply (x0 : Vec Ideal S1024x1024 .bf16) (x1 : Vec Ideal S4x256x512 .bf16) (x2 : Vec Ideal S1024x512 .f32) (x3 : Vec Ideal S1x512 .f32) :
    out2_5 (F := Ideal) x0 x1 x2 x3 = k2_pay3 x0 x1 := by
  unfold out2_5 r2_0 r2_1 r2_2
  rw [View.ld_unit_zero hz2 _ x0, View.ld_unit_zero hz3 _ x1]
  exact View.canon_unit_zero (Val := Elt Ideal) (S := S1024x512) (e := .bf16) hz2 _ _

/-- The second product as one array. -/
abbrev G2_5 (c : Dev nD) : Buf (Elt Ideal) ((c : Thread nD τ).loc main_v7_1) := fun i : S2048x1024.Idx => nn (a := 2048) (b := 1024) (k := 1024) (V c main_v6_0) (wo (V c main_v4)) (i 0) (i 1)
/-- The residual's sum as one array. -/
abbrev G2_4 (c : Dev nD) : Buf (Elt Ideal) ((c : Thread nD τ).loc main_v7_0) := fun i : S2048x1024.Idx =>
  MlpSpec.gated (V c main_arg0) (V c main_arg1) (nn (a := 2048) (b := 1024) (k := 1024) (V c main_v6_0) (wo (V c main_v4))) (i 0) (i 1)

theorem flushed2_5 (c : Dev nD) (t : Fin cfg2.N) : (dat2 V c).flushed 5 t = ((cfg2.win 5).blk t).view.read (Elt Ideal) (G2_5 V c) := by
  show (cfg2.win 5).cut (grid2.coords t) ((dat2 V c).after 5 t) = _
  rw [after2_5, out2_5_apply]
  refine funext fun y => ?_
  obtain ⟨r, q, rfl⟩ : ∃ (r : Fin 1024) (q : Fin 512), y = ix2 r q := ⟨y 0, y 1, eq_ix2 y⟩
  show _ = G2_5 V c ((win2_5.rect t).emb (ix2 r q))
  rw [(emb2 t r q).2]
  refine Eq.trans (prod_apply _ _ r q) ?_
  exact sum2 fun f => mul2 (blk2_0 V c t r f) (blk2_1 V c t (gr f) (pl f) q)

theorem flushed2_4 (c : Dev nD) (t : Fin cfg2.N) : (dat2 V c).flushed 4 t = ((cfg2.win 4).blk t).view.read (Elt Ideal) (G2_4 V c) := by
  show (cfg2.win 4).cut (grid2.coords t) ((dat2 V c).after 4 t) = _
  rw [after2_4, out2_4_apply]
  refine funext fun y => ?_
  obtain ⟨r, q, rfl⟩ : ∃ (r : Fin 1024) (q : Fin 512), y = ix2 r q := ⟨y 0, y 1, eq_ix2 y⟩
  show _ = G2_4 V c ((win2_4.rect t).emb (ix2 r q))
  rw [(emb2 t r q).1]
  refine Eq.trans (resid_apply _ _ _ _ r q) ?_
  exact add2 (blk2_2 V c t r q) (mul2 (blk2_3 V c t q) (sum2 fun f => mul2 (blk2_0 V c t r f) (blk2_1 V c t (gr f) (pl f) q)))

/-- The block that holds an index, and its place there. -/
theorem at2 (r : Fin 2048) (q : Fin 1024) : ∃ (t : Fin cfg2.N) (r' : Fin 1024) (q' : Fin 512), half (tr t) r' = r ∧ side (tq t) q' = q := by
  have ht : r.val / 1024 * 2 + q.val / 512 < cfg2.N := by show _ < grid2.N; rw [N_2]; omega
  exact ⟨⟨_, ht⟩, ⟨r.val % 1024, by omega⟩, ⟨q.val % 512, by omega⟩,
    Fin.ext (by show (r.val / 1024 * 2 + q.val / 512) / 2 * 1024 + r.val % 1024 = r.val; omega),
    Fin.ext (by show (r.val / 1024 * 2 + q.val / 512) % 2 * 512 + q.val % 512 = q.val; omega)⟩

theorem arr2_5 (c : Dev nD) : (dat2 V c).arrAt 5 cfg2.N = G2_5 V c :=
  (dat2 V c).arrAt_eq_of_cover 5 (G2_5 V c) (fun t _ => flushed2_5 V c t) fun i => by
    obtain ⟨r, q, rfl⟩ : ∃ (r : Fin 2048) (q : Fin 1024), i = ix2 r q := ⟨i 0, i 1, eq_ix2 i⟩
    obtain ⟨t, r', q', rfl, rfl⟩ := at2 r q
    refine ⟨t, flush2_5 t, ?_⟩
    rw [← (emb2 t r' q').2]
    exact View.emb_mem_set _ _

theorem arr2_4 (c : Dev nD) : (dat2 V c).arrAt 4 cfg2.N = G2_4 V c :=
  (dat2 V c).arrAt_eq_of_cover 4 (G2_4 V c) (fun t _ => flushed2_4 V c t) fun i => by
    obtain ⟨r, q, rfl⟩ : ∃ (r : Fin 2048) (q : Fin 1024), i = ix2 r q := ⟨i 0, i 1, eq_ix2 i⟩
    obtain ⟨t, r', q', rfl, rfl⟩ := at2 r q
    refine ⟨t, flush2_4 t, ?_⟩
    rw [← (emb2 t r' q').1]
    exact View.emb_mem_set _ _

end Cert.ScFwdIdeal.Calls

end
-- ==== Proof.ScFwdKernel.lean ====
/- The short-convolution mixer's forward pass: what the two results hold after the run. -/
module

public import proofs.«01_k».proof.Proof.ScFwdCalls

@[expose] public section

set_option maxRecDepth 16384

noncomputable section

namespace Cert.ScFwdIdeal.Calls

open Cert.ScFwdIdeal Cert.ScFwdIdeal.Gen Cert.ProdSpec Cert.ScSpec Cert.FwdSpec Cert.ConvSpec Cert.Rows Cert.Dots
open Cert.MlpSpec (T ix3_of)
open Idealize.ShloMosaic Idealize.ShloMosaic.TcCoe Idealize.ShloMosaic.ValueIdx Idealize.SL.Sem Idealize.SL
open Idealize.ShloMosaic.Pipeline (Dat)
open scoped BigOperators

variable (m : (ℓ : Loc nD τ sig) → Buf (Elt Ideal) ℓ) (ρ : Dev nD → PrngReg)

/-- The stream. -/
abbrev aX (c : Dev nD) : (M 2048 1024).Idx → EReal := m ((c : Thread nD τ).loc main_arg0)
/-- The gate. -/
abbrev aG (c : Dev nD) : (M 1 1024).Idx → EReal := m ((c : Thread nD τ).loc main_arg1)
/-- The input. -/
abbrev aH (c : Dev nD) : (M 2048 1024).Idx → EReal := m ((c : Thread nD τ).loc main_arg2)
/-- The input weight. -/
abbrev aI (c : Dev nD) : (M 1024 3072).Idx → EReal := m ((c : Thread nD τ).loc main_arg3)
/-- The convolution's weight. -/
abbrev aC (c : Dev nD) : (M 3 1024).Idx → EReal := m ((c : Thread nD τ).loc main_arg4)
/-- The output weight. -/
abbrev aO (c : Dev nD) : (M 1024 1024).Idx → EReal := m ((c : Thread nD τ).loc main_arg5)

theorem weight_i (c : Dev nD) : unbuf (V1 m ρ c main_v2) = aI m c := funext fun i => by
  obtain ⟨j, f, rfl⟩ : ∃ (j : Fin 1024) (f : Fin 3072), i = ix2 j f := ⟨i 0, i 1, eq_ix2 i⟩
  have h : V1 m ρ c main_v2 = transpose S4x1024x768 [1, 0, 2] (shapeCast S1024x4x768 (aI m c) shapeCasts_S1024x3072_S1024x4x768) transposes_S1024x4x768_S4x1024x768_1_0_2 := by
    show StableHlo.after hostOps0 (fun b => m (c, b)) main_v2 = _
    after_results_simp <;> rfl
  rw [h]
  refine (regroup_apply (n := 4) (b := 768) (L := 3072) rfl (aI m c) _ _ _ j _).trans ?_
  exact congrArg (aI m c) (congrArg (ix2 j) (grow_gdiv_gmod (n := 4) (b := 768) rfl (by norm_num) f))

theorem weight_o (c : Dev nD) : wo (V1 m ρ c main_v4) = aO m c := by
  have h : V1 m ρ c main_v4 = shapeCast S4x256x1024 (aO m c) shapeCasts_S1024x1024_S4x256x1024 := by
    show StableHlo.after hostOps0 (fun b => m (c, b)) main_v4 = _
    after_results_simp <;> rfl
  rw [h]
  exact rows_groups _ _ _ _

/-! ## From call to call -/

theorem mid_p (c : Dev nD) : W2 m ρ c main_v5 = proj (aH m c) (aI m c) := by
  refine (W2_arr m ρ c 2).trans ((arr0 (V1 m ρ) c).trans ?_)
  show (fun i : S2048x3072.Idx => nn (a := 2048) (b := 3072) (k := 1024) (V1 m ρ c main_arg2) (unbuf (V1 m ρ c main_v2)) (i 0) (i 1)) = _
  rw [weight_i, show V1 m ρ c main_arg2 = aH m c from W1_args m ρ c main_arg2 (by decide)]
  rfl

theorem mid_o (c : Dev nD) : W3 m ρ c main_v6_0 = ScSpec.gated (aH m c) (aI m c) (aC m c) := by
  refine (W3_arr m ρ c 4).trans ((arr1 (V2 m ρ) c).trans ?_)
  show (fun i : S2048x1024.Idx => o (V2 m ρ c main_v5) (V2 m ρ c main_arg4) (i 0) (i 1)) = _
  rw [show V2 m ρ c main_v5 = _ from mid_p m ρ c, show V2 m ρ c main_arg4 = aC m c from W2_args m ρ c main_arg4 (by decide)]
  rfl

theorem mid_w (c : Dev nD) : wo (V3 m ρ c main_v4) = aO m c := by
  rw [show V3 m ρ c main_v4 = V1 m ρ c main_v4 from (W3_of m ρ c main_v4 (by decide +kernel)).trans (W2_of m ρ c main_v4 (by decide +kernel))]
  exact weight_o m ρ c

/-- The mixer's value as one array. -/
abbrev GY (c : Dev nD) : Buf (Elt Ideal) ((c : Thread nD τ).loc main_v7_1) := fun i : S2048x1024.Idx =>
  nn (ScSpec.gated (aH m c) (aI m c) (aC m c)) (aO m c) (i 0) (i 1)
/-- The stream with the gated value added, as one array. -/
abbrev GX (c : Dev nD) : Buf (Elt Ideal) ((c : Thread nD τ).loc main_v7_0) := fun i : S2048x1024.Idx =>
  MlpSpec.gated (aX m c) (aG m c) (nn (ScSpec.gated (aH m c) (aI m c) (aC m c)) (aO m c)) (i 0) (i 1)

theorem out_eq (c : Dev nD) : nn (a := 2048) (b := 1024) (k := 1024) (V3 m ρ c main_v6_0) (wo (V3 m ρ c main_v4))
    = nn (ScSpec.gated (aH m c) (aI m c) (aC m c)) (aO m c) := by
  rw [mid_w, show V3 m ρ c main_v6_0 = _ from mid_o m ρ c]

theorem final_y (c : Dev nD) : W4 m ρ c main_v7_1 = GY m c := by
  refine (W4_arr m ρ c 5).trans ((arr2_5 (V3 m ρ) c).trans ?_)
  show (fun i : S2048x1024.Idx => nn (a := 2048) (b := 1024) (k := 1024) (V3 m ρ c main_v6_0) (wo (V3 m ρ c main_v4)) (i 0) (i 1)) = _
  rw [out_eq]
  rfl

theorem final_x (c : Dev nD) : W4 m ρ c main_v7_0 = GX m c := by
  refine (W4_arr m ρ c 4).trans ((arr2_4 (V3 m ρ) c).trans ?_)
  show (fun i : S2048x1024.Idx => MlpSpec.gated (V3 m ρ c main_arg0) (V3 m ρ c main_arg1)
    (nn (a := 2048) (b := 1024) (k := 1024) (V3 m ρ c main_v6_0) (wo (V3 m ρ c main_v4))) (i 0) (i 1)) = _
  rw [out_eq, show V3 m ρ c main_arg0 = aX m c from W3_args m ρ c main_arg0 (by decide), show V3 m ρ c main_arg1 = aG m c from W3_args m ρ c main_arg1 (by decide)]
  rfl

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v7_0) = GX m c
      ∧ r.2.mem ((c : Thread nD τ).loc main_v7_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v7_0 (by decide))).trans (final_x m ρ c),
       (h c _ (mem_uc main_v7_1 (by decide))).trans (final_y m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.ScFwdIdeal.Calls

end
-- ==== Proof.ScFwdReference.lean ====
/- The reference of the short-convolution mixer's forward pass: its two results, index by index. -/
module

public import proofs.«01_k».proof.Proof.Gen.ScFwdRefIdeal.Read
public import proofs.«01_k».proof.Proof.ConvHost
public import proofs.«01_k».proof.Proof.ScSpec

@[expose] public section

set_option maxRecDepth 16384

noncomputable section

namespace Cert.ScFwdRefIdeal.RefValue

open Cert.ScFwdRefIdeal Cert.ScFwdRefIdeal.Gen Cert.ScFwdRefIdeal.Read Cert.ProdSpec Cert.ScSpec Cert.ConvSpec Cert.Rows Cert.Dots
open Idealize.ShloMosaic Idealize.ShloMosaic.TcCoe Idealize.ShloMosaic.ValueIdx Idealize.SL.Sem

variable (X : (M 2048 1024).Idx → EReal) (G : (M 1 1024).Idx → EReal) (H : (M 2048 1024).Idx → EReal) (W : (M 1024 3072).Idx → EReal)
  (w : (M 3 1024).Idx → EReal) (Wo : (M 1024 1024).Idx → EReal)

theorem v1_eq : val_main_v1 (F := Ideal) H W = proj H W := funext fun i => by
  obtain ⟨r, f, rfl⟩ : ∃ (r : Fin 2048) (f : Fin 3072), i = ix2 r f := ⟨i 0, i 1, eq_ix2 i⟩
  exact dg_nn (φ₁ := .f32) (φ₂ := .f32) 2048 1024 3072 H W r f

theorem v2_at (r : Fin 2048) (q : Fin 1024) : (val_main_v2 (F := Ideal) H W (ix2 r q) : EReal) = gB (proj H W) r q := by
  rw [val_main_v2_apply, v1_eq]
  exact congrArg (proj H W) (ix2_of _ _ _ rfl rfl)

theorem v5_at (r : Fin 2048) (q : Fin 1024) : (val_main_v5 (F := Ideal) H W (ix2 r q) : EReal) = u (proj H W) r q := by
  rw [val_main_v5_apply, val_main_v3_apply, val_main_v4_apply, v1_eq]
  exact mul2 (congrArg (proj H W) (ix2_of _ _ _ rfl rfl)) (congrArg (proj H W) (ix2_of _ _ _ rfl rfl))

theorem v24_eq : val_main_v24 (F := Ideal) H W w = ScSpec.gated H W w := funext fun i => by
  obtain ⟨r, q, rfl⟩ : ∃ (r : Fin 2048) (q : Fin 1024), i = ix2 r q := ⟨i 0, i 1, eq_ix2 i⟩
  exact mul2 (v2_at H W r q) (host_conv_apply (proj H W) w _ (v5_at H W) _ _ _ _ _ _ _ _ _ _ r q)

theorem v25_at (r : Fin 2048) (j : Fin 1024) : (val_main_v25 (F := Ideal) H W w Wo (ix2 r j) : EReal) = nn (ScSpec.gated H W w) Wo r j := by
  refine Eq.trans (dg_nn (φ₁ := .f32) (φ₂ := .f32) 2048 1024 1024 (val_main_v24 (F := Ideal) H W w) Wo r j) ?_
  rw [v24_eq]
  rfl

theorem v29_eq : val_main_v29 (F := Ideal) H W w Wo = fun i : (M 2048 1024).Idx => nn (ScSpec.gated H W w) Wo (i 0) (i 1) := funext fun i => by
  obtain ⟨r, j, rfl⟩ : ∃ (r : Fin 2048) (j : Fin 1024), i = ix2 r j := ⟨i 0, i 1, eq_ix2 i⟩
  exact v25_at H W w Wo r j

theorem v28_eq : val_main_v28 (F := Ideal) X G H W w Wo = fun i : (M 2048 1024).Idx => MlpSpec.gated X G (nn (ScSpec.gated H W w) Wo) (i 0) (i 1) := funext fun i => by
  obtain ⟨r, j, rfl⟩ : ∃ (r : Fin 2048) (j : Fin 1024), i = ix2 r j := ⟨i 0, i 1, eq_ix2 i⟩
  exact add2 rfl (mul2 (rowDim_apply G _ r j) (v25_at H W w Wo r j))

end Cert.ScFwdRefIdeal.RefValue

end
-- ==== Proof.SsdInFwdKernel.lean ====
/- The two calls of the state-space mixer's input projection: what one block computes, what the arrays hold after each call,
   and what the two results hold after the run. -/
module

public import proofs.«01_k».proof.Proof.Windows
public import proofs.«01_k».proof.Proof.Gen.SsdInFwdIdeal.Frame
public import proofs.«01_k».proof.Proof.SsdInSpec

@[expose] public section

set_option maxRecDepth 16384

noncomputable section

namespace Cert.SsdInFwdIdeal.Calls

open Cert.Windows Cert.SsdInFwdIdeal Cert.SsdInFwdIdeal.Gen Cert.ProdSpec Cert.SsdInSpec Cert.Rows Cert.Dots
open Idealize.ShloMosaic Idealize.ShloMosaic.TcCoe Idealize.ShloMosaic.ValueIdx Idealize.SL.Sem Idealize.SL
open Idealize.ShloMosaic.Pipeline (Dat)
open scoped BigOperators

section Blocks

variable (V : (c : Dev nD) → (b : Ref sig .tc) → Buf (Elt Ideal) ((c : Thread nD τ).loc b))

theorem hz2 : (![0, 0] : Fin 2 → Nat) = fun _ => 0 := funext fun a => by fin_cases a <;> rfl

/-- Column `q` of the `s`-th 512 of 5120. -/
abbrev c10 (s : Fin 10) (q : Fin 512) : Fin 5120 := grow (n := 10) (b := 512) rfl s q

/-! ## The first 5120 columns -/

theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The columns of block `t`. -/
def g0 (t : Fin cfg0.N) : Fin 10 := ⟨t.val, lt_of_lt_of_eq t.isLt N_0⟩

theorem blk0_0 (c : Dev nD) (t : Fin cfg0.N) (r : Fin 2048) (k : Fin 1024) : iblk0 V c 0 t (ix2 r k) = V c main_arg0 (ix2 r k) := by
  show V c main_arg0 ((win0_0.rect t).emb (ix2 r k)) = _
  obtain ⟨h0, h1, -⟩ := idx0 t
  refine congrArg (V c main_arg0) (ix2_of _ _ _ ?_ ?_)
  · exact embAt win0_0 t 0 2048 r.val h0 (by omega)
  · exact embAt win0_0 t 1 1024 k.val h1 (by omega)

theorem blk0_1 (c : Dev nD) (t : Fin cfg0.N) (q : Fin 512) (k : Fin 1024) : iblk0 V c 1 t (ix2 q k) = V c main_v4 (ix2 (c10 (g0 t) q) k) := by
  show V c main_v4 ((win0_1.rect t).emb (ix2 q k)) = _
  obtain ⟨-, -, h0, h1, -⟩ := idx0 t
  refine congrArg (V c main_v4) (ix2_of _ _ _ ?_ ?_)
  · exact embAt win0_1 t 0 512 q.val h0 rfl
  · exact embAt win0_1 t 1 1024 k.val h1 (by omega)

theorem emb0 (t : Fin cfg0.N) (r : Fin 2048) (q : Fin 512) : (win0_2.rect t).emb (ix2 r q) = ix2 r (c10 (g0 t) q) := by
  obtain ⟨-, -, -, -, h0, h1⟩ := idx0 t
  refine ix2_of _ _ _ ?_ ?_
  · exact embAt win0_2 t 0 2048 r.val h0 (by omega)
  · exact embAt win0_2 t 1 512 q.val h1 rfl

theorem pay0_apply (x0 : Vec Ideal S2048x1024 .bf16) (x1 : Vec Ideal S512x1024 .bf16) (r : Fin 2048) (q : Fin 512) :
    (k0_pay1 (F := Ideal) x0 x1 (ix2 r q) : EReal) = ∑ k : Fin 1024, (x0 (ix2 r k) : EReal) * (x1 (ix2 q k) : EReal) := by
  unfold k0_pay1
  rw [shapeCast_self]
  exact mm_nt (φ₁ := .bf16) (φ₂ := .bf16) 2048 1024 512 x0 x1 r q

theorem out0_apply (x0 : Vec Ideal S2048x1024 .bf16) (x1 : Vec Ideal S512x1024 .bf16) : out0_2 (F := Ideal) x0 x1 = k0_pay1 x0 x1 := by
  unfold out0_2 r0_0 r0_1
  rw [View.ld_unit_zero hz2 _ x0, View.ld_unit_zero hz2 _ x1]
  exact View.canon_unit_zero (Val := Elt Ideal) (S := S2048x512) (e := .bf16) hz2 _ _

/-- These columns as one array. -/
abbrev G0 (c : Dev nD) : Buf (Elt Ideal) ((c : Thread nD τ).loc main_v5) :=
  fun i : S2048x5120.Idx => ProdSpec.nt (a := 2048) (b := 5120) (k := 1024) (V c main_arg0) (V c main_v4) (i 0) (i 1)

theorem flushed0 (c : Dev nD) (t : Fin cfg0.N) : (dat0 V c).flushed 2 t = ((cfg0.win 2).blk t).view.read (Elt Ideal) (G0 V c) := by
  show (cfg0.win 2).cut (grid0.coords t) ((dat0 V c).after 2 t) = _
  rw [after0_2, out0_apply]
  refine funext fun y => ?_
  obtain ⟨r, q, rfl⟩ : ∃ (r : Fin 2048) (q : Fin 512), y = ix2 r q := ⟨y 0, y 1, eq_ix2 y⟩
  show _ = G0 V c ((win0_2.rect t).emb (ix2 r q))
  rw [emb0]
  exact Eq.trans (pay0_apply _ _ r q) (sum2 fun k => mul2 (blk0_0 V c t r k) (blk0_1 V c t q k))

theorem at0 (s : Fin 10) : ∃ t : Fin cfg0.N, g0 t = s := ⟨⟨s.val, by show _ < grid0.N; rw [N_0]; exact s.isLt⟩, Fin.ext rfl⟩

theorem arr0 (c : Dev nD) : (dat0 V c).arrAt 2 cfg0.N = G0 V c :=
  arr_of_blocks (dat0 V c) 2 (G0 V c) (flushed0 V c) fun i => by
    obtain ⟨r, f, rfl⟩ : ∃ (r : Fin 2048) (f : Fin 5120), i = ix2 r f := ⟨i 0, i 1, eq_ix2 i⟩
    obtain ⟨s, q, rfl⟩ := exists_grow (n := 10) (b := 512) rfl f
    obtain ⟨t, rfl⟩ := at0 s
    exact ⟨t, _, flush0_2 t, emb0 t _ _⟩

/-! ## The step sizes -/

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem blk1_0 (c : Dev nD) (t : Fin cfg1.N) (r : Fin 2048) (k : Fin 1024) : iblk1 V c 0 t (ix2 r k) = V c main_arg0 (ix2 r k) := by
  show V c main_arg0 ((win1_0.rect t).emb (ix2 r k)) = _
  obtain ⟨h0, h1, -⟩ := idx1 t
  refine congrArg (V c main_arg0) (ix2_of _ _ _ ?_ ?_)
  · exact embAt win1_0 t 0 2048 r.val h0 (by omega)
  · exact embAt win1_0 t 1 1024 k.val h1 (by omega)

theorem blk1_1 (c : Dev nD) (t : Fin cfg1.N) (q : Fin 128) (k : Fin 1024) : iblk1 V c 1 t (ix2 q k) = V c main_v3 (ix2 q k) := by
  show V c main_v3 ((win1_1.rect t).emb (ix2 q k)) = _
  obtain ⟨-, -, h0, h1, -⟩ := idx1 t
  refine congrArg (V c main_v3) (ix2_of _ _ _ ?_ ?_)
  · exact embAt win1_1 t 0 128 q.val h0 (by omega)
  · exact embAt win1_1 t 1 1024 k.val h1 (by omega)

theorem emb1 (t : Fin cfg1.N) (r : Fin 2048) (q : Fin 128) : (win1_2.rect t).emb (ix2 r q) = ix2 r q := by
  obtain ⟨-, -, -, -, h0, h1⟩ := idx1 t
  refine ix2_of _ _ _ ?_ ?_
  · exact embAt win1_2 t 0 2048 r.val h0 (by omega)
  · exact embAt win1_2 t 1 128 q.val h1 (by omega)

theorem pay1_apply (x0 : Vec Ideal S2048x1024 .bf16) (x1 : Vec Ideal S128x1024 .bf16) (r : Fin 2048) (q : Fin 128) :
    (k1_pay1 (F := Ideal) x0 x1 (ix2 r q) : EReal) = ∑ k : Fin 1024, (x0 (ix2 r k) : EReal) * (x1 (ix2 q k) : EReal) := by
  unfold k1_pay1
  rw [shapeCast_self]
  exact mm_nt (φ₁ := .bf16) (φ₂ := .bf16) 2048 1024 128 x0 x1 r q

theorem out1_apply (x0 : Vec Ideal S2048x1024 .bf16) (x1 : Vec Ideal S128x1024 .bf16) : out1_2 (F := Ideal) x0 x1 = k1_pay1 x0 x1 := by
  unfold out1_2 r1_0 r1_1
  rw [View.ld_unit_zero hz2 _ x0, View.ld_unit_zero hz2 _ x1]
  exact View.canon_unit_zero (Val := Elt Ideal) (S := S2048x128) (e := .f32) hz2 _ _

/-- These columns, with their padding, as one array. -/
abbrev G1 (c : Dev nD) : Buf (Elt Ideal) ((c : Thread nD τ).loc main_v6) :=
  fun i : S2048x128.Idx => ProdSpec.nt (a := 2048) (b := 128) (k := 1024) (V c main_arg0) (V c main_v3) (i 0) (i 1)

theorem flushed1 (c : Dev nD) (t : Fin cfg1.N) : (dat1 V c).flushed 2 t = ((cfg1.win 2).blk t).view.read (Elt Ideal) (G1 V c) := by
  show (cfg1.win 2).cut (grid1.coords t) ((dat1 V c).after 2 t) = _
  rw [after1_2, out1_apply]
  refine funext fun y => ?_
  obtain ⟨r, q, rfl⟩ : ∃ (r : Fin 2048) (q : Fin 128), y = ix2 r q := ⟨y 0, y 1, eq_ix2 y⟩
  show _ = G1 V c ((win1_2.rect t).emb (ix2 r q))
  rw [emb1]
  exact Eq.trans (pay1_apply _ _ r q) (sum2 fun k => mul2 (blk1_0 V c t r k) (blk1_1 V c t q k))

theorem arr1 (c : Dev nD) : (dat1 V c).arrAt 2 cfg1.N = G1 V c :=
  (dat1 V c).arrAt_eq_of_cover 2 (G1 V c) (fun t _ => flushed1 V c t) fun i => by
    obtain ⟨r, q, rfl⟩ : ∃ (r : Fin 2048) (q : Fin 128), i = ix2 r q := ⟨i 0, i 1, eq_ix2 i⟩
    refine ⟨⟨0, by show _ < grid1.N; rw [N_1]; norm_num⟩, flush1_2 _, ?_⟩
    rw [← emb1 ⟨0, by show _ < grid1.N; rw [N_1]; norm_num⟩ r q]
    exact View.emb_mem_set _ _

end Blocks

/-! ## From the arguments to the results -/

variable (m : (ℓ : Loc nD τ sig) → Buf (Elt Ideal) ℓ) (ρ : Dev nD → PrngReg)

/-- The input. -/
abbrev aH (c : Dev nD) : (M 2048 1024).Idx → EReal := m ((c : Thread nD τ).loc main_arg0)
/-- The weight. -/
abbrev aW (c : Dev nD) : (M 1024 5152).Idx → EReal := m ((c : Thread nD τ).loc main_arg1)

theorem turned (c : Dev nD) : W1 m ρ c main_v1 = transpose S5152x1024 [1, 0] (aW m c) transposes_S1024x5152_S5152x1024_1_0 := by
  show StableHlo.after hostOps0 (fun b => m (c, b)) main_v1 = _
  after_results_simp <;> rfl

/-- The weight's first columns, turned. -/
theorem weight (c : Dev nD) (f : Fin 5120) (k : Fin 1024) : W3 m ρ c main_v4 (ix2 f k) = aW m c (ix2 k (zcol f)) := by
  have h : W3 m ρ c main_v4 = extractStridedSlice S5120x1024 ![0, 0] (W2 m ρ c main_v1) slices_S5152x1024_S5120x1024_0_0 := by
    show StableHlo.after hostOps0_2 (W2 m ρ c) main_v4 = _
    after_results_simp <;> rfl
  rw [h, show W2 m ρ c main_v1 = _ from (W2_of m ρ c main_v1 (by decide)).trans (turned m ρ c)]
  refine (slice_apply (a := 5152) (b := 1024) (a' := 5120) (b' := 1024) 0 0 _ slices_S5152x1024_S5120x1024_0_0 f k (by omega) (by omega)).trans ?_
  refine (transpose_ix2_apply _ transposes_S1024x5152_S5152x1024_1_0 _ _).trans ?_
  exact congrArg (aW m c) (ix2_of _ _ _ (by show 0 + k.val = k.val; omega) (by show 0 + f.val = f.val; omega))

theorem weight_dt_host (c : Dev nD) : W2 m ρ c main_v3 = pad S128x1024 ![0, 0] ![96, 0] ![0, 0]
    (extractStridedSlice S32x1024 ![5120, 0] (transpose S5152x1024 [1, 0] (aW m c) transposes_S1024x5152_S5152x1024_1_0) slices_S5152x1024_S32x1024_5120_0)
    (sitofp (F := Ideal) .bf16 (constantI S_ 32 0#32)) pads_S32x1024_S128x1024_0960_000 h_S_ := by
  show StableHlo.after hostOps0_1 (StableHlo.after hostOps0 (fun b => m (c, b))) main_v3 = _
  after_results_simp <;> rfl

/-- The step sizes' columns, turned, where they are not padding. -/
theorem weight_dt (c : Dev nD) (q : Fin 32) (k : Fin 1024) : W2 m ρ c main_v3 (ix2 (cl (p := 32) (n := 96) q) k) = aW m c (ix2 k (tcol q)) := by
  rw [weight_dt_host]
  refine (padRows_apply 0 96 _ _ pads_S32x1024_S128x1024_0960_000 h_S_ _ k).trans ((dif_pos ⟨Nat.zero_le _, by show q.val - 0 < 32; omega⟩).trans ?_)
  refine (slice_apply (a := 5152) (b := 1024) (a' := 32) (b' := 1024) 5120 0 _ slices_S5152x1024_S32x1024_5120_0 _ _ (by show 5120 + (q.val - 0) < 5152; omega) (by omega)).trans ?_
  refine (transpose_ix2_apply _ transposes_S1024x5152_S5152x1024_1_0 _ _).trans ?_
  exact congrArg (aW m c) (ix2_of _ _ _ (by show 0 + k.val = k.val; omega) (by show 5120 + (q.val - 0) = 5120 + q.val; omega))

/-- The first columns of the product as one array. -/
abbrev GZ (c : Dev nD) : Buf (Elt Ideal) ((c : Thread nD τ).loc main_v5) := fun i : S2048x5120.Idx => ProdSpec.nn (aH m c) (aW m c) (i 0) (zcol (i 1))
/-- The step sizes as one array. -/
abbrev GD (c : Dev nD) : Buf (Elt Ideal) ((c : Thread nD τ).loc main_v7) := fun i : S2048x32.Idx => ProdSpec.nn (aH m c) (aW m c) (i 0) (tcol (i 1))

theorem final_z (c : Dev nD) : W6 m ρ c main_v5 = GZ m c := by
  refine (W6_of m ρ c main_v5 (by decide)).trans ((W5_of m ρ c main_v5 (by decide +kernel)).trans ((W4_arr m ρ c 2).trans ((arr0 (V3 m ρ) c).trans (funext fun i => ?_))))
  obtain ⟨r, f, rfl⟩ : ∃ (r : Fin 2048) (f : Fin 5120), i = ix2 r f := ⟨i 0, i 1, eq_ix2 i⟩
  show ProdSpec.nt (a := 2048) (b := 5120) (k := 1024) (V3 m ρ c main_arg0) (V3 m ρ c main_v4) r f = _
  rw [show V3 m ρ c main_arg0 = aH m c from W3_args m ρ c main_arg0 (by decide)]
  exact sum2 fun k => mul2 rfl (weight m ρ c f k)

theorem final_d (c : Dev nD) : W6 m ρ c main_v7 = GD m c := by
  have h : W6 m ρ c main_v7 = extractStridedSlice S2048x32 ![0, 0] (W5 m ρ c main_v6) slices_S2048x128_S2048x32_0_0 := by
    show StableHlo.after hostOps2 (W5 m ρ c) main_v7 = _
    after_results_simp <;> rfl
  rw [h, show W5 m ρ c main_v6 = _ from (W5_arr m ρ c 2).trans (arr1 (V4 m ρ) c)]
  refine funext fun i => ?_
  obtain ⟨r, q, rfl⟩ : ∃ (r : Fin 2048) (q : Fin 32), i = ix2 r q := ⟨i 0, i 1, eq_ix2 i⟩
  refine Eq.trans (slice_apply (a := 2048) (b := 128) (a' := 2048) (b' := 32) 0 0 _ slices_S2048x128_S2048x32_0_0 r q (by omega) (by omega)) ?_
  refine Eq.trans (congrArg (G1 (V4 m ρ) c) (ix2_of _ r (cl (p := 32) (n := 96) q) (by show 0 + r.val = r.val; omega) (by show 0 + q.val = q.val; omega))) ?_
  show ProdSpec.nt (a := 2048) (b := 128) (k := 1024) (V4 m ρ c main_arg0) (V4 m ρ c main_v3) r (cl (p := 32) (n := 96) q) = _
  rw [show V4 m ρ c main_arg0 = aH m c from W4_args m ρ c main_arg0 (by decide),
    show V4 m ρ c main_v3 = W2 m ρ c main_v3 from (W4_of m ρ c main_v3 (by decide +kernel)).trans (W3_of m ρ c main_v3 (by decide))]
  exact sum2 fun k => mul2 rfl (weight_dt m ρ c q k)

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run: both results in closed form, the arguments unchanged. -/
theorem run : θ_run defs (onTc (τ := τ) (main (F := Ideal))) ⟨m, fun _ => 0, ρ⟩ (fun r => ∀ c : Dev nD,
      r.2.mem ((c : Thread nD τ).loc main_v5) = GZ m c
      ∧ r.2.mem ((c : Thread nD τ).loc main_v7) = GD m c
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v5 (by decide))).trans (final_z m ρ c),
       (h c _ (mem_uc main_v7 (by decide))).trans (final_d m ρ c),
       (h c _ (mem_uc main_arg0 (by decide))).trans (W6_main_arg0 m ρ c),
       (h c _ (mem_uc main_arg1 (by decide))).trans (W6_main_arg1 m ρ c)⟩)

end Cert.SsdInFwdIdeal.Calls

end
-- ==== Proof.SsdInFwdReference.lean ====
/- The reference of the state-space mixer's input projection: its two results, index by index. -/
module

public import proofs.«01_k».proof.Proof.Gen.SsdInFwdRefIdeal.Read
public import proofs.«01_k».proof.Proof.SsdInSpec

@[expose] public section

set_option maxRecDepth 16384

noncomputable section

namespace Cert.SsdInFwdRefIdeal.RefValue

open Cert.SsdInFwdRefIdeal Cert.SsdInFwdRefIdeal.Gen Cert.SsdInFwdRefIdeal.Read Cert.ProdSpec Cert.SsdInSpec Cert.Rows Cert.Dots
open Idealize.ShloMosaic Idealize.ShloMosaic.TcCoe Idealize.ShloMosaic.ValueIdx Idealize.SL.Sem

variable (H : (M 2048 1024).Idx → EReal) (W : (M 1024 5152).Idx → EReal)

theorem v1_at (r : Fin 2048) (f : Fin 5152) : (val_main_v1 (F := Ideal) H W (ix2 r f) : EReal) = ProdSpec.nn H W r f :=
  dg_nn (φ₁ := .f32) (φ₂ := .f32) 2048 1024 5152 H W r f

theorem v4_eq : val_main_v4 (F := Ideal) H W = fun i : (M 2048 5120).Idx => ProdSpec.nn H W (i 0) (zcol (i 1)) := funext fun i => by
  obtain ⟨r, f, rfl⟩ : ∃ (r : Fin 2048) (f : Fin 5120), i = ix2 r f := ⟨i 0, i 1, eq_ix2 i⟩
  refine Eq.trans (slice_apply 0 0 (val_main_v1 (F := Ideal) H W) slices_S2048x5152_S2048x5120_0_0 r f (by omega) (by omega)) ?_
  exact Eq.trans (congrArg (val_main_v1 (F := Ideal) H W) (ix2_of _ r (zcol f) (by show 0 + r.val = r.val; omega) (by show 0 + f.val = f.val; omega))) (v1_at H W r (zcol f))

theorem v3_eq : val_main_v3 (F := Ideal) H W = fun i : (M 2048 32).Idx => ProdSpec.nn H W (i 0) (tcol (i 1)) := funext fun i => by
  obtain ⟨r, q, rfl⟩ : ∃ (r : Fin 2048) (q : Fin 32), i = ix2 r q := ⟨i 0, i 1, eq_ix2 i⟩
  refine Eq.trans (slice_apply 0 5120 (val_main_v1 (F := Ideal) H W) slices_S2048x5152_S2048x32_0_5120 r q (by omega) (by omega)) ?_
  exact Eq.trans (congrArg (val_main_v1 (F := Ideal) H W) (ix2_of _ r (tcol q) (by show 0 + r.val = r.val; omega) rfl)) (v1_at H W r (tcol q))

end Cert.SsdInFwdRefIdeal.RefValue

end
-- ==== Proof.SsdOutFwdKernel.lean ====
/- The output projection of the state-space mixer, with the gated residual: what one block computes, and what the two results
   hold after the run. -/
module

public import proofs.«01_k».proof.Proof.Windows
public import proofs.«01_k».proof.Proof.Gen.SsdOutFwdIdeal.Value
public import proofs.«01_k».proof.Proof.FwdSpec

@[expose] public section

set_option maxRecDepth 16384

noncomputable section

namespace Cert.SsdOutFwdIdeal.Calls

open Cert.Windows Cert.SsdOutFwdIdeal Cert.SsdOutFwdIdeal.Gen Cert.ProdSpec Cert.ScSpec Cert.FwdSpec Cert.Rows Cert.Dots
open Cert.MlpSpec (T ix3_of)
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The stream. -/
abbrev aX (c : Dev nD) : (M 2048 1024).Idx → EReal := m ((c : Thread nD τ).loc main_arg0)
/-- The gate. -/
abbrev aG (c : Dev nD) : (M 1 1024).Idx → EReal := m ((c : Thread nD τ).loc main_arg1)
/-- The normed scan. -/
abbrev aY (c : Dev nD) : (M 2048 2048).Idx → EReal := m ((c : Thread nD τ).loc main_arg2)
/-- The weight. -/
abbrev aW (c : Dev nD) : (M 2048 1024).Idx → EReal := m ((c : Thread nD τ).loc main_arg3)

theorem hz2 : (![0, 0] : Fin 2 → Nat) = fun _ => 0 := funext fun a => by fin_cases a <;> rfl
theorem hz3 : (![0, 0, 0] : Fin 3 → Nat) = fun _ => 0 := funext fun a => by fin_cases a <;> rfl

/-- The group of a row of the weight. -/
abbrev gr (f : Fin 2048) : Fin 4 := gdiv (n := 4) (b := 512) rfl (by norm_num) f
/-- Its place there. -/
abbrev pl (f : Fin 2048) : Fin 512 := gmod (b := 512) (by norm_num) f

/-- The weight as the call keeps it. -/
theorem weight (c : Dev nD) : rows (n := 4) (b := 512) (L := 2048) rfl (by norm_num) (V m c main_v1) = aW m c := by
  have h : V m c main_v1 = shapeCast S4x512x1024 (aW m c) shapeCasts_S2048x1024_S4x512x1024 := by
    show StableHlo.after hostOps0 (fun b => m (c, b)) main_v1 = _
    after_results_simp <;> rfl
  rw [h]
  exact rows_groups _ _ _ _

theorem weight_at (c : Dev nD) (f : Fin 2048) (j : Fin 1024) : V m c main_v1 (ix3 (gr f) (pl f) j) = aW m c (ix2 f j) := congrFun (weight m c) (ix2 f j)

/-! ## The blocks -/

theorem idx0 : ∀ t : Fin cfg0.N, win0_0.index t (0 : Fin 2) = t.val / 2 ∧ win0_0.index t (1 : Fin 2) = 0
    ∧ win0_1.index t (0 : Fin 3) = 0 ∧ win0_1.index t (1 : Fin 3) = 0 ∧ win0_1.index t (2 : Fin 3) = t.val % 2
    ∧ win0_2.index t (0 : Fin 2) = t.val / 2 ∧ win0_2.index t (1 : Fin 2) = t.val % 2
    ∧ win0_3.index t (0 : Fin 2) = 0 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2 :=
  (by decide +kernel : ∀ t : Fin grid0.N, _)

/-- The half of the rows a block takes. -/
def tr (t : Fin cfg0.N) : Fin 2 := ⟨t.val / 2, by have : t.val < 4 := lt_of_lt_of_eq t.isLt N_0; omega⟩
/-- The half of the columns a block takes. -/
def tq (t : Fin cfg0.N) : Fin 2 := ⟨t.val % 2, by omega⟩

theorem blk0_0 (c : Dev nD) (t : Fin cfg0.N) (r : Fin 1024) (f : Fin 2048) : iblk m c 0 t (ix2 r f) = aY m c (ix2 (half (tr t) r) f) := by
  show V m c main_arg2 ((win0_0.rect t).emb (ix2 r f)) = _
  rw [V_main_arg2]
  obtain ⟨h0, h1, -⟩ := idx0 t
  refine congrArg (aY m c) (ix2_of _ _ _ ?_ ?_)
  · exact embAt win0_0 t 0 1024 r.val h0 rfl
  · exact embAt win0_0 t 1 2048 f.val h1 (by omega)

theorem blk0_1 (c : Dev nD) (t : Fin cfg0.N) (s : Fin 4) (k : Fin 512) (q : Fin 512) : iblk m c 1 t (ix3 s k q) = V m c main_v1 (ix3 s k (side (tq t) q)) := by
  show V m c main_v1 ((win0_1.rect t).emb (ix3 s k q)) = _
  obtain ⟨-, -, h0, h1, h2, -⟩ := idx0 t
  refine congrArg (V m c main_v1) (ix3_of _ _ _ _ ?_ ?_ ?_)
  · exact embAt win0_1 t 0 4 s.val h0 (by omega)
  · exact embAt win0_1 t 1 512 k.val h1 (by omega)
  · exact embAt win0_1 t 2 512 q.val h2 rfl

theorem blk0_2 (c : Dev nD) (t : Fin cfg0.N) (r : Fin 1024) (q : Fin 512) : iblk m c 2 t (ix2 r q) = aX m c (ix2 (half (tr t) r) (side (tq t) q)) := by
  show V m c main_arg0 ((win0_2.rect t).emb (ix2 r q)) = _
  rw [V_main_arg0]
  obtain ⟨-, -, -, -, -, h0, h1, -⟩ := idx0 t
  refine congrArg (aX m c) (ix2_of _ _ _ ?_ ?_)
  · exact embAt win0_2 t 0 1024 r.val h0 rfl
  · exact embAt win0_2 t 1 512 q.val h1 rfl

theorem blk0_3 (c : Dev nD) (t : Fin cfg0.N) (q : Fin 512) : iblk m c 3 t (ix2 (0 : Fin 1) q) = aG m c (ix2 (0 : Fin 1) (side (tq t) q)) := by
  show V m c main_arg1 ((win0_3.rect t).emb (ix2 (0 : Fin 1) q)) = _
  rw [V_main_arg1]
  obtain ⟨-, -, -, -, -, -, -, h0, h1, -⟩ := idx0 t
  refine congrArg (aG m c) (ix2_of _ _ _ ?_ ?_)
  · exact embAt win0_3 t 0 1 0 h0 rfl
  · exact embAt win0_3 t 1 512 q.val h1 rfl

theorem emb1 (t : Fin cfg0.N) (r : Fin 1024) (q : Fin 512) : (win0_4.rect t).emb (ix2 r q) = ix2 (half (tr t) r) (side (tq t) q)
    ∧ (win0_5.rect t).emb (ix2 r q) = ix2 (half (tr t) r) (side (tq t) q) := by
  obtain ⟨-, -, -, -, -, -, -, -, -, h0, h1, h2, h3⟩ := idx0 t
  refine ⟨ix2_of _ _ _ ?_ ?_, ix2_of _ _ _ ?_ ?_⟩
  · exact embAt win0_4 t 0 1024 r.val h0 rfl
  · exact embAt win0_4 t 1 512 q.val h1 rfl
  · exact embAt win0_5 t 0 1024 r.val h2 rfl
  · exact embAt win0_5 t 1 512 q.val h3 rfl

theorem pay1_apply (x0 : Vec Ideal S1024x2048 .bf16) (x1 : Vec Ideal S4x512x512 .bf16) (r : Fin 1024) (q : Fin 512) :
    (k0_pay1 (F := Ideal) x0 x1 (ix2 r q) : EReal) = ∑ f : Fin 2048, x0 (ix2 r f) * x1 (ix3 (gr f) (pl f) q) := by
  have e1 : shapeCast S4x512x512 x1 shapeCasts_S4x512x512_S4x512x512 = x1 := shapeCast_self _ _
  unfold k0_pay1
  rw [e1]
  refine Eq.trans (mm_nn (φ₁ := .bf16) (φ₂ := .bf16) 1024 2048 512 x0 (shapeCast S2048x512 x1 shapeCasts_S4x512x512_S2048x512) r q) (sum2 fun f => mul2 rfl ?_)
  exact ungroup_apply (n := 4) (b := 512) (L := 2048) rfl (by norm_num) x1 _ f q

theorem pay2_apply (x0 : Vec Ideal S1024x2048 .bf16) (x1 : Vec Ideal S4x512x512 .bf16) (x2 : Vec Ideal S1024x512 .f32) (x3 : Vec Ideal S1x512 .f32) (r : Fin 1024) (q : Fin 512) :
    (k0_pay2 (F := Ideal) x0 x1 x2 x3 (ix2 r q) : EReal)
      = x2 (ix2 r q) + x3 (ix2 (0 : Fin 1) q) * ∑ f : Fin 2048, x0 (ix2 r f) * x1 (ix3 (gr f) (pl f) q) := by
  unfold k0_pay2
  exact add2 rfl (mul2 (broadcastRow_apply x3 broadcasts_S1x512_S1024x512 r q) (pay1_apply x0 x1 r q))

theorem out0_4_apply (x0 : Vec Ideal S1024x2048 .bf16) (x1 : Vec Ideal S4x512x512 .bf16) (x2 : Vec Ideal S1024x512 .f32) (x3 : Vec Ideal S1x512 .f32) :
    out0_4 (F := Ideal) x0 x1 x2 x3 = k0_pay2 x0 x1 x2 x3 := by
  unfold out0_4 r0_0 r0_1 r0_2 r0_3
  rw [View.ld_unit_zero hz2 _ x0, View.ld_unit_zero hz3 _ x1, View.ld_unit_zero hz2 _ x2, View.ld_unit_zero hz2 _ x3]
  exact View.canon_unit_zero (Val := Elt Ideal) (S := S1024x512) (e := .f32) hz2 _ _

theorem out0_5_apply (x0 : Vec Ideal S1024x2048 .bf16) (x1 : Vec Ideal S4x512x512 .bf16) (x2 : Vec Ideal S1024x512 .f32) (x3 : Vec Ideal S1x512 .f32) :
    out0_5 (F := Ideal) x0 x1 x2 x3 = k0_pay3 x0 x1 := by
  unfold out0_5 r0_0 r0_1 r0_2
  rw [View.ld_unit_zero hz2 _ x0, View.ld_unit_zero hz3 _ x1]
  exact View.canon_unit_zero (Val := Elt Ideal) (S := S1024x512) (e := .bf16) hz2 _ _

/-- The product as one array. -/
abbrev GY (c : Dev nD) : Buf (Elt Ideal) ((c : Thread nD τ).loc main_v2_1) := fun i : S2048x1024.Idx => nn (aY m c) (aW m c) (i 0) (i 1)
/-- The residual's sum as one array. -/
abbrev GX (c : Dev nD) : Buf (Elt Ideal) ((c : Thread nD τ).loc main_v2_0) := fun i : S2048x1024.Idx =>
  MlpSpec.gated (aX m c) (aG m c) (nn (aY m c) (aW m c)) (i 0) (i 1)

theorem flushed1_5 (c : Dev nD) (t : Fin cfg0.N) : (dats m 0 c).flushed 5 t = ((cfg0.win 5).blk t).view.read (Elt Ideal) (GY m c) := by
  show (cfg0.win 5).cut (grid0.coords t) ((dats m 0 c).after 5 t) = _
  rw [after0_5, out0_5_apply]
  refine funext fun y => ?_
  obtain ⟨r, q, rfl⟩ : ∃ (r : Fin 1024) (q : Fin 512), y = ix2 r q := ⟨y 0, y 1, eq_ix2 y⟩
  show _ = GY m c ((win0_5.rect t).emb (ix2 r q))
  rw [(emb1 t r q).2]
  refine Eq.trans (pay1_apply _ _ r q) ?_
  exact sum2 fun f => mul2 (blk0_0 m c t r f) (Eq.trans (blk0_1 m c t (gr f) (pl f) q) (weight_at m c f _))

theorem flushed1_4 (c : Dev nD) (t : Fin cfg0.N) : (dats m 0 c).flushed 4 t = ((cfg0.win 4).blk t).view.read (Elt Ideal) (GX m c) := by
  show (cfg0.win 4).cut (grid0.coords t) ((dats m 0 c).after 4 t) = _
  rw [after0_4, out0_4_apply]
  refine funext fun y => ?_
  obtain ⟨r, q, rfl⟩ : ∃ (r : Fin 1024) (q : Fin 512), y = ix2 r q := ⟨y 0, y 1, eq_ix2 y⟩
  show _ = GX m c ((win0_4.rect t).emb (ix2 r q))
  rw [(emb1 t r q).1]
  refine Eq.trans (pay2_apply _ _ _ _ r q) ?_
  exact add2 (blk0_2 m c t r q) (mul2 (blk0_3 m c t q) (sum2 fun f => mul2 (blk0_0 m c t r f) (Eq.trans (blk0_1 m c t (gr f) (pl f) q) (weight_at m c f _))))

/-- The block that holds an index, and its place there. -/
theorem at1 (r : Fin 2048) (q : Fin 1024) : ∃ (t : Fin cfg0.N) (r' : Fin 1024) (q' : Fin 512), half (tr t) r' = r ∧ side (tq t) q' = q := by
  have ht : r.val / 1024 * 2 + q.val / 512 < cfg0.N := by show _ < grid0.N; rw [N_0]; omega
  exact ⟨⟨_, ht⟩, ⟨r.val % 1024, by omega⟩, ⟨q.val % 512, by omega⟩,
    Fin.ext (by show (r.val / 1024 * 2 + q.val / 512) / 2 * 1024 + r.val % 1024 = r.val; omega),
    Fin.ext (by show (r.val / 1024 * 2 + q.val / 512) % 2 * 512 + q.val % 512 = q.val; omega)⟩

theorem arr_5 (c : Dev nD) : (dats m 0 c).arrAt 5 cfg0.N = GY m c :=
  (dats m 0 c).arrAt_eq_of_cover 5 (GY m c) (fun t _ => flushed1_5 m c t) fun i => by
    obtain ⟨r, q, rfl⟩ : ∃ (r : Fin 2048) (q : Fin 1024), i = ix2 r q := ⟨i 0, i 1, eq_ix2 i⟩
    obtain ⟨t, r', q', rfl, rfl⟩ := at1 r q
    refine ⟨t, flush0_5 t, ?_⟩
    rw [← (emb1 t r' q').2]
    exact View.emb_mem_set _ _

theorem arr_4 (c : Dev nD) : (dats m 0 c).arrAt 4 cfg0.N = GX m c :=
  (dats m 0 c).arrAt_eq_of_cover 4 (GX m c) (fun t _ => flushed1_4 m c t) fun i => by
    obtain ⟨r, q, rfl⟩ : ∃ (r : Fin 2048) (q : Fin 1024), i = ix2 r q := ⟨i 0, i 1, eq_ix2 i⟩
    obtain ⟨t, r', q', rfl, rfl⟩ := at1 r q
    refine ⟨t, flush0_4 t, ?_⟩
    rw [← (emb1 t r' q').1]
    exact View.emb_mem_set _ _

/-- The run: both results in closed form, the arguments unchanged. -/
theorem run : θ_run defs (onTc (τ := τ) (main (F := Ideal))) ⟨m, fun _ => 0, ρ⟩ fun r => ∀ c : Dev nD,
      r.2.mem ((c : Thread nD τ).loc main_v2_0) = GX m c ∧ r.2.mem ((c : Thread nD τ).loc main_v2_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr_4 m c), (h c).2.1.trans (arr_5 m c), (h c).2.2⟩) (Value.run_blocks m ρ)

end Cert.SsdOutFwdIdeal.Calls

end
-- ==== Proof.SsdOutFwdReference.lean ====
/- The reference of the state-space mixer's output projection: its two results, index by index. -/
module

public import proofs.«01_k».proof.Proof.Gen.SsdOutFwdRefIdeal.Read
public import proofs.«01_k».proof.Proof.FwdSpec

@[expose] public section

set_option maxRecDepth 16384

noncomputable section

namespace Cert.SsdOutFwdRefIdeal.RefValue

open Cert.SsdOutFwdRefIdeal Cert.SsdOutFwdRefIdeal.Gen Cert.SsdOutFwdRefIdeal.Read Cert.ProdSpec Cert.Rows Cert.Dots
open Cert.MlpSpec (T ix3_of)
open Idealize.ShloMosaic Idealize.ShloMosaic.TcCoe Idealize.ShloMosaic.ValueIdx Idealize.SL.Sem

variable (X : (M 2048 1024).Idx → EReal) (G : (M 1 1024).Idx → EReal) (Y : (M 2048 2048).Idx → EReal) (W : (M 2048 1024).Idx → EReal)

theorem v1_at (r : Fin 2048) (j : Fin 1024) : (val_main_v1 (F := Ideal) Y W (ix2 r j) : EReal) = nn Y W r j :=
  dg_nn (φ₁ := .f32) (φ₂ := .f32) 2048 2048 1024 Y W r j

theorem v5_eq : val_main_v5 (F := Ideal) Y W = fun i : (M 2048 1024).Idx => nn Y W (i 0) (i 1) := funext fun i => by
  obtain ⟨r, j, rfl⟩ : ∃ (r : Fin 2048) (j : Fin 1024), i = ix2 r j := ⟨i 0, i 1, eq_ix2 i⟩
  exact v1_at Y W r j

theorem v4_eq : val_main_v4 (F := Ideal) X G Y W = fun i : (M 2048 1024).Idx => MlpSpec.gated X G (nn Y W) (i 0) (i 1) := funext fun i => by
  obtain ⟨r, j, rfl⟩ : ∃ (r : Fin 2048) (j : Fin 1024), i = ix2 r j := ⟨i 0, i 1, eq_ix2 i⟩
  exact add2 rfl (mul2 (rowDim_apply G _ r j) (v1_at Y W r j))

end Cert.SsdOutFwdRefIdeal.RefValue

end
-- ==== Proof.AdamSpec.lean ====
/- One AdamW step of a weight, entry by entry, and the same over whole arrays. -/
module

public import Idealize.ShloMosaic.PureOps.Ideal

@[expose] public section

noncomputable section

namespace Cert.AdamSpec

open Idealize.ShloMosaic

/-- The first moment after the step. -/
def mom1 (g m : EReal) : EReal := (Scalar.ofBits .f32 0x3F666666#32 : Ideal .f32) * m + (Scalar.ofBits .f32 0x3DCCCCCD#32 : Ideal .f32) * g
/-- The second moment after the step. -/
def mom2 (g v : EReal) : EReal := (Scalar.ofBits .f32 0x3F7FBE77#32 : Ideal .f32) * v + (Scalar.ofBits .f32 0x3A83126F#32 : Ideal .f32) * (g * g)
/-- The change of the weight. -/
def delta (w g m v : EReal) : EReal :=
  FloatOps.mulf (F := Ideal) (φ := .f32) (Scalar.ofBits .f32 0xBA83126F#32)
    (FloatOps.addf (F := Ideal) (φ := .f32)
      (FloatOps.divf (F := Ideal) (φ := .f32) (FloatOps.divf (F := Ideal) (φ := .f32) (mom1 g m) (Scalar.ofBits .f32 0x3F26BD02#32))
        (FloatOps.addf (F := Ideal) (φ := .f32) (FloatOps.sqrt (F := Ideal) (φ := .f32) (FloatOps.divf (F := Ideal) (φ := .f32) (mom2 g v) (Scalar.ofBits .f32 0x3C231ACC#32)))
          (Scalar.ofBits .f32 0x322BCC77#32)))
      (FloatOps.mulf (F := Ideal) (φ := .f32) (Scalar.ofBits .f32 0x3C23D70A#32) w))

/-- The first moments of a whole array. -/
abbrev mom1s {S : Shape} (g m : S.Idx → EReal) : S.Idx → EReal := fun i => mom1 (g i) (m i)
/-- The second moments of a whole array. -/
abbrev mom2s {S : Shape} (g v : S.Idx → EReal) : S.Idx → EReal := fun i => mom2 (g i) (v i)
/-- The change of a whole weight. -/
abbrev deltas {S : Shape} (w g m v : S.Idx → EReal) : S.Idx → EReal := fun i => delta (w i) (g i) (m i) (v i)

variable {S : Shape} {w w' g g' m m' v v' d d' p p' q q' : S.Idx → EReal}

/-- The three results of one update: the change, the first and the second moment. -/
def Stepped (w g m v d p q : S.Idx → EReal) : Prop := d = deltas w g m v ∧ p = mom1s g m ∧ q = mom2s g v

/-- The same update under other names. -/
theorem Stepped.named (h : Stepped w g m v d p q) (hw : w = w') (hg : g = g') (hm : m = m') (hv : v = v')
    (hd : d' = d) (hp : p' = p) (hq : q' = q) : Stepped w' g' m' v' d' p' q' := by
  subst hw hg hm hv hd hp hq
  exact h

/-- Two updates of the same arrays agree, so that results read as the one may be read as the other. -/
theorem Stepped.carry {x y z : S.Idx → EReal} {R R' : Prop} (h : Stepped w g m v d p q) (h' : Stepped w g m v d' p' q')
    (k : R' → R) : (x = d' ∧ y = p' ∧ z = q' ∧ R') → x = d ∧ y = p ∧ z = q ∧ R :=
  fun ⟨a, b, e, r⟩ => ⟨a.trans (h'.1.trans h.1.symm), b.trans (h'.2.1.trans h.2.1.symm), e.trans (h'.2.2.trans h.2.2.symm), k r⟩

end Cert.AdamSpec

end
-- ==== Proof.AdamBlocks.lean ====
/- One step of the optimiser's calls: what its stores leave in a block, and what the array holds in the end. -/
module

public import proofs.«01_k».proof.Proof.AdamSpec
public import Idealize.ShloMosaic.Lib.Pipeline.Value
public import Idealize.ShloMosaic.Lib.Pipeline.ValueKit.Geometry
public import Idealize.ShloMosaic.Lib.ValueIdxCore

@[expose] public section

noncomputable section

namespace Cert.AdamBlocks

open Cert.AdamSpec
open Idealize.ShloMosaic Idealize.ShloMosaic.TcCoe Idealize.SL Idealize.SL.Sem Idealize.SL.RA

section Arrays

variable {nD : Nat} {τ : Topo} {sig : RefSig} {Val : EltTy → Type} {Ix : Type} [DecidableEq Ix] {Name : Type} [DecidableEq Name]
  {U : Type} [URA U] {Lvl : Type} {P : Type} [Fintype P] {Λ₀ : Labels} {cfg : Pipeline.Cfg sig Λ₀} {c : Dev nD}
  (dat : Pipeline.Dat τ Val Ix Name U Lvl cfg c)

/-- What an array holds once its blocks cover it, each step's block being known. -/
theorem held (w : Fin cfg.W) (G : Buf Val ((cfg.win w).arr.view.loc (c.tc : Thread nD τ)))
    {B : ∀ _ : Fin cfg.N, (cfg.win w).block.Idx → Val (cfg.win w).elt} (h : ∀ t, dat.after w t = B t)
    (hc : (cfg.win w).Covers := by decide +kernel) (ha : (cfg.win w).arr.IsWhole := by exact Memref.isWhole_whole _)
    (hG : ∀ t, (cfg.win w).cut (cfg.grid.coords t) (B t) = ((cfg.win w).blk t).view.read Val G := by exact fun _ => rfl) :
    dat.arrAt w cfg.N = G :=
  dat.arrAt_eq_of_cover w G (fun t _ => (congrArg ((cfg.win w).cut (cfg.grid.coords t)) (h t)).trans (hG t)) (hc.cover _ ha)

end Arrays

theorem hz2 : (![0, 0] : Fin 2 → Nat) = fun _ => 0 := funext fun a => by fin_cases a <;> rfl

/-- A step that reads four whole arrays and stores a fifth. -/
theorem stored {S : Shape} {off : Fin S.rank → Nat} (hz : off = fun _ => 0) (inb : ∀ a, off a + S.size a ≤ S.size a)
    (f : (w g m v : Vec Ideal S .f32) → Vec Ideal S .f32) (w g m v : Vec Ideal S .f32) :
    View.canon (Val := Elt Ideal) (s := S) (e := .f32) [⟨Rect.unit (s := S) off S.size inb,
      f (View.ld w (Rect.unit (s := S) off S.size inb)) (View.ld g (Rect.unit (s := S) off S.size inb))
        (View.ld m (Rect.unit (s := S) off S.size inb)) (View.ld v (Rect.unit (s := S) off S.size inb))⟩] = f w g m v := by
  rw [View.ld_unit_zero hz inb w, View.ld_unit_zero hz inb g, View.ld_unit_zero hz inb m, View.ld_unit_zero hz inb v]
  exact View.canon_unit_zero (Val := Elt Ideal) (S := S) (e := .f32) hz inb _

/-- The same of two arrays. -/
theorem stored₂ {S : Shape} {off : Fin S.rank → Nat} (hz : off = fun _ => 0) (inb : ∀ a, off a + S.size a ≤ S.size a)
    (f : (g m : Vec Ideal S .f32) → Vec Ideal S .f32) (g m : Vec Ideal S .f32) :
    View.canon (Val := Elt Ideal) (s := S) (e := .f32) [⟨Rect.unit (s := S) off S.size inb,
      f (View.ld g (Rect.unit (s := S) off S.size inb)) (View.ld m (Rect.unit (s := S) off S.size inb))⟩] = f g m :=
  stored hz inb (fun _ _ => f) g g g m

end Cert.AdamBlocks

end
-- ==== Proof.AdamMatBlocks.lean ====
/- One step of the optimiser's call on a matrix: the gradient has no leading axis, the weight has one. -/
module

public import proofs.«01_k».proof.Proof.AdamBlocks
public import Idealize.ShloMosaic.Lib.ValueLayout

@[expose] public section

noncomputable section

namespace Cert.AdamBlocks

open Cert.AdamSpec
open Idealize.ShloMosaic Idealize.ShloMosaic.ValueIdx

theorem hz3 : (![0, 0, 0] : Fin 3 → Nat) = fun _ => 0 := funext fun a => by fin_cases a <;> rfl

/-- Matrices. -/
abbrev M (a b : Nat) : Shape := ⟨2, ![a, b]⟩
/-- Matrices under a leading axis of one. -/
abbrev U (a b : Nat) : Shape := ⟨3, ![1, a, b]⟩

/-- A matrix with one leading axis more. -/
def up {a b : Nat} (g : (M a b).Idx → EReal) : (U a b).Idx → EReal := fun i => g (ix2 (i 1) (i 2))

/-- Two blocks of the same number and size start at the same place. -/
theorem same_coord {sig : RefSig} {G : Pipeline.Grid} (w u : Pipeline.Window sig G) (t : Fin G.N) (a : Fin w.shape.rank) (b : Fin u.shape.rank)
    {x : (w.xblock (G.coords t)).Idx} {y : (u.xblock (G.coords t)).Idx} (hw : w.kind = .blocked := by rfl) (hu : u.kind = .blocked := by rfl)
    (hi : w.index t a = u.index t b := by rfl) (hs : w.size a = u.size b := by rfl) (hx : (x a : Nat) = y b := by rfl) :
    ((w.rect t).emb x a : Nat) = (u.rect t).emb y b := by
  rw [Pipeline.Window.rect_emb_val w t x a hw, Pipeline.Window.rect_emb_val u t y b hu, hi, hs, hx]

/-- The matrix read where the array with the leading axis is. -/
theorem up_at {A B : Nat} (g : (M A B).Idx → EReal) (i : (M A B).Idx) (j : (U A B).Idx) (h0 : (i 0 : Nat) = j 1) (h1 : (i 1 : Nat) = j 2) :
    g i = up g j :=
  congrArg g (funext fun d => Fin.ext (match d with | ⟨0, _⟩ => h0 | ⟨1, _⟩ => h1))

section Step

variable {a b : Nat} {off3 : Fin 3 → Nat} {off2 : Fin 2 → Nat}

/-- The cast that adds the leading axis. -/
theorem cast_up (f : (M a b).Idx → EReal) (h : (M a b).ShapeCasts (U a b)) : shapeCast (U a b) f h = up f := funext fun i => by
  obtain ⟨z, r, q, rfl⟩ : ∃ (z : Fin 1) (r : Fin a) (q : Fin b), i = ix3 z r q := ⟨i 0, i 1, i 2, eq_ix3 i⟩
  exact shapeCast_ab_1ab_apply f h z r q

/-- The matrix below the leading axis, put under it again. -/
theorem up_cast (f : (U a b).Idx → EReal) (h : (U a b).ShapeCasts (M a b)) : up (shapeCast (M a b) f h) = f := funext fun i => by
  obtain ⟨z, r, q, rfl⟩ : ∃ (z : Fin 1) (r : Fin a) (q : Fin b), i = ix3 z r q := ⟨i 0, i 1, i 2, eq_ix3 i⟩
  rw [Subsingleton.elim z 0]
  exact shapeCast_1ab_ab_apply f h r q

/-- The host's broadcast that adds the leading axis. -/
theorem broadcast_up (f : (M a b).Idx → EReal) (h : (M a b).BroadcastsInDim (U a b) ![1, 2]) : broadcastInDim (U a b) ![1, 2] h f = up f := funext fun i => by
  obtain ⟨z, r, q, rfl⟩ : ∃ (z : Fin 1) (r : Fin a) (q : Fin b), i = ix3 z r q := ⟨i 0, i 1, i 2, eq_ix3 i⟩
  refine broadcastInDim_apply _ h f _ (ix2 r q) fun d => ?_
  match d with
  | ⟨0, _⟩ =>
    show r.val = if a = 1 then 0 else r.val
    split_ifs with ha
    · have := r.isLt; omega
    · rfl
  | ⟨1, _⟩ =>
    show q.val = if b = 1 then 0 else q.val
    split_ifs with hb
    · have := q.isLt; omega
    · rfl

/-- One step's four results, out of the four blocks it reads. -/
theorem raised (hz3 : off3 = fun _ => 0) (hz2 : off2 = fun _ => 0) {i3 : ∀ d, off3 d + (U a b).size d ≤ (U a b).size d} {i2 : ∀ d, off2 d + (M a b).size d ≤ (M a b).size d}
    {hu : (M a b).ShapeCasts (U a b)} {hd : (U a b).ShapeCasts (M a b)} {w m v : Vec Ideal (U a b) .f32} {g : Vec Ideal (M a b) .f32} {g' x d p q : Vec Ideal (U a b) .f32}
    (ex : x = View.canon (Val := Elt Ideal) (s := (U a b)) (e := .f32) [⟨Rect.unit (s := (U a b)) off3 (U a b).size i3,
      shapeCast (U a b) (View.ld g (Rect.unit (s := (M a b)) off2 (M a b).size i2)) hu⟩])
    (ed : d = View.canon (Val := Elt Ideal) (s := (U a b)) (e := .f32) [⟨Rect.unit (s := (U a b)) off3 (U a b).size i3,
      shapeCast (U a b) (deltas (shapeCast (M a b) (View.ld w (Rect.unit (s := (U a b)) off3 (U a b).size i3)) hd) (View.ld g (Rect.unit (s := (M a b)) off2 (M a b).size i2))
        (shapeCast (M a b) (View.ld m (Rect.unit (s := (U a b)) off3 (U a b).size i3)) hd) (shapeCast (M a b) (View.ld v (Rect.unit (s := (U a b)) off3 (U a b).size i3)) hd)) hu⟩])
    (ep : p = View.canon (Val := Elt Ideal) (s := (U a b)) (e := .f32) [⟨Rect.unit (s := (U a b)) off3 (U a b).size i3,
      shapeCast (U a b) (mom1s (View.ld g (Rect.unit (s := (M a b)) off2 (M a b).size i2)) (shapeCast (M a b) (View.ld m (Rect.unit (s := (U a b)) off3 (U a b).size i3)) hd)) hu⟩])
    (eq : q = View.canon (Val := Elt Ideal) (s := (U a b)) (e := .f32) [⟨Rect.unit (s := (U a b)) off3 (U a b).size i3,
      shapeCast (U a b) (mom2s (View.ld g (Rect.unit (s := (M a b)) off2 (M a b).size i2)) (shapeCast (M a b) (View.ld v (Rect.unit (s := (U a b)) off3 (U a b).size i3)) hd)) hu⟩]) (e : up g = g') :
    x = g' ∧ Stepped w g' m v d p q := by
  subst e
  have put : ∀ f : Vec Ideal (U a b) .f32, View.canon (Val := Elt Ideal) (s := (U a b)) (e := .f32) [⟨Rect.unit (s := (U a b)) off3 (U a b).size i3, f⟩] = f :=
    fun f => View.canon_unit_zero (Val := Elt Ideal) (S := (U a b)) (e := .f32) hz3 i3 f
  have lw := View.ld_unit_zero hz3 i3 w
  have lm := View.ld_unit_zero hz3 i3 m
  have lv := View.ld_unit_zero hz3 i3 v
  have lg := View.ld_unit_zero hz2 i2 g
  rw [put, lg, cast_up] at ex
  rw [put, lw, lg, lm, lv, cast_up] at ed
  rw [put, lg, lm, cast_up] at ep
  rw [put, lg, lv, cast_up] at eq
  refine ⟨ex, ed.trans ?_, ep.trans ?_, eq.trans ?_⟩
  · show deltas (S := (U a b)) (up (shapeCast (M a b) w hd)) (up g) (up (shapeCast (M a b) m hd)) (up (shapeCast (M a b) v hd)) = _
    rw [up_cast, up_cast, up_cast]
  · show mom1s (S := (U a b)) (up g) (up (shapeCast (M a b) m hd)) = _
    rw [up_cast]
  · show mom2s (S := (U a b)) (up g) (up (shapeCast (M a b) v hd)) = _
    rw [up_cast]

end Step

end Cert.AdamBlocks

end
-- ==== Proof.AdamSsdInKernel.lean ====
/- The optimiser's call on the input weight of the state-space mixer, which works on the transposed arrays: what the four
   results hold after the run. -/
module

public import proofs.«01_k».proof.Proof.AdamMatBlocks
public import proofs.«01_k».proof.Proof.Gen.AdamSsdInIdeal.Frame
public import Idealize.ShloMosaic.Lib.ValueLayout

@[expose] public section

set_option maxRecDepth 16384

noncomputable section

/-! ## Transposed arrays -/

namespace Cert.AdamBlocks

open Cert.AdamSpec
open Idealize.ShloMosaic Idealize.ShloMosaic.ValueIdx

variable {a b : Nat}

/-- The transposed matrix. -/
def flip (g : (M a b).Idx → EReal) : (M b a).Idx → EReal := fun i => g (ix2 (i 1) (i 0))

theorem flip_flip (g : (M a b).Idx → EReal) : flip (flip g) = g := funext fun i => congrArg g (eq_ix2 i).symm

theorem transpose_flip (g : (M a b).Idx → EReal) (h : (M a b).Transposes [1, 0] (M b a)) : transpose (M b a) [1, 0] g h = flip g := funext fun i => by
  obtain ⟨r, q, rfl⟩ : ∃ (r : Fin b) (q : Fin a), i = ix2 r q := ⟨i 0, i 1, eq_ix2 i⟩
  exact transpose_ix2_apply g h r q

/-- An update of the transposed arrays, transposed back. -/
theorem flipped {w g m v : (M a b).Idx → EReal} {d p q : (M b a).Idx → EReal} (h : Stepped (flip w) (flip g) (flip m) (flip v) d p q) :
    Stepped w g m v (flip d) (flip p) (flip q) := by
  obtain ⟨rfl, rfl, rfl⟩ := h
  refine ⟨?_, ?_, ?_⟩
  · show deltas (flip (flip w)) (flip (flip g)) (flip (flip m)) (flip (flip v)) = _
    simp only [flip_flip]
  · show mom1s (flip (flip g)) (flip (flip m)) = _
    simp only [flip_flip]
  · show mom2s (flip (flip g)) (flip (flip v)) = _
    simp only [flip_flip]

end Cert.AdamBlocks

namespace Cert.AdamSsdInIdeal.Calls

open Cert.AdamSsdInIdeal Cert.AdamSsdInIdeal.Gen Cert.AdamSpec Cert.AdamBlocks
open Idealize.ShloMosaic Idealize.ShloMosaic.TcCoe Idealize.ShloMosaic.ValueIdx Idealize.SL Idealize.SL.Sem

variable (m : (ℓ : Loc nD τ sig) → Buf (Elt Ideal) ℓ) (ρ : Dev nD → PrngReg)

/-! ## The arrays the call writes -/

theorem pay1 (g : Vec Ideal S184x1024 .f32) : k0_pay1 (F := Ideal) g = g := shapeCast_self _ _
theorem pay2 (g : Vec Ideal S184x1024 .f32) : k0_pay2 (F := Ideal) g = g := shapeCast_self _ _
theorem pay3 (g m : Vec Ideal S184x1024 .f32) : k0_pay3 (F := Ideal) g m = mom1s g m := by
  unfold k0_pay3
  rw [pay2, shapeCast_self m]
  rfl
theorem pay4 (g v : Vec Ideal S184x1024 .f32) : k0_pay4 (F := Ideal) g v = mom2s g v := by
  unfold k0_pay4
  rw [pay2, shapeCast_self v]
  rfl
theorem pay5 (g m v w : Vec Ideal S184x1024 .f32) : k0_pay5 (F := Ideal) g m v w = deltas w g m v := by
  unfold k0_pay5
  rw [pay3, pay4, shapeCast_self w]
  rfl

theorem arrs (c : Dev nD) : (dats m 0 c).arrAt 4 cfg0.N = V m c main_v6
    ∧ Stepped (S := S1288x1024) (V m c main_v1) (V m c main_v6) (V m c main_v3) (V m c main_v5)
      ((dats m 0 c).arrAt 5 cfg0.N) ((dats m 0 c).arrAt 6 cfg0.N) ((dats m 0 c).arrAt 7 cfg0.N) :=
  ⟨held (dats m 0 c) 4 _ fun t => (after0_4 m c t).trans ((stored₂ hz2 inb_S184x1024_S184x1024_0_0 (fun g _ => k0_pay1 g) _ (iblk m c 1 t)).trans (pay1 _)),
    held (dats m 0 c) 5 _ fun t => (after0_5 m c t).trans ((stored hz2 inb_S184x1024_S184x1024_0_0 (fun w g m v => k0_pay5 g m v w) _ _ _ _).trans (pay5 _ _ _ _)),
    held (dats m 0 c) 6 _ fun t => (after0_6 m c t).trans ((stored₂ hz2 inb_S184x1024_S184x1024_0_0 k0_pay3 _ _).trans (pay3 _ _)),
    held (dats m 0 c) 7 _ fun t => (after0_7 m c t).trans ((stored₂ hz2 inb_S184x1024_S184x1024_0_0 k0_pay4 _ _).trans (pay4 _ _))⟩

/-! ## The host's transposes before the call and after it -/

/-- An array as launched. -/
abbrev arg (c : Dev nD) (b : Ref sig .tc) : Buf (Elt Ideal) ((c : Thread nD τ).loc b) := m ((c : Thread nD τ).loc b)
/-- A weight, or a moment of it, as a matrix. -/
abbrev mat (x : S1x1024x1288.Idx → EReal) : S1024x1288.Idx → EReal := shapeCast S1024x1288 x shapeCasts_S1x1024x1288_S1024x1288

theorem before (c : Dev nD) : V m c main_v1 = flip (a := 1024) (b := 1288) (mat (arg m c main_arg0)) ∧ V m c main_v6 = flip (a := 1024) (b := 1288) (arg m c main_arg1)
    ∧ V m c main_v3 = flip (a := 1024) (b := 1288) (mat (arg m c main_arg2)) ∧ V m c main_v5 = flip (a := 1024) (b := 1288) (mat (arg m c main_arg3)) := by
  refine ⟨Eq.trans ?_ (transpose_flip _ transposes_S1024x1288_S1288x1024_1_0), Eq.trans ?_ (transpose_flip _ transposes_S1024x1288_S1288x1024_1_0),
    Eq.trans ?_ (transpose_flip _ transposes_S1024x1288_S1288x1024_1_0), Eq.trans ?_ (transpose_flip _ transposes_S1024x1288_S1288x1024_1_0)⟩
  · show StableHlo.after hostOps0 (fun b => m (c, b)) main_v1 = _
    after_results_simp <;> rfl
  · show StableHlo.after hostOps0 (fun b => m (c, b)) main_v6 = _
    after_results_simp <;> rfl
  · show StableHlo.after hostOps0 (fun b => m (c, b)) main_v3 = _
    after_results_simp <;> rfl
  · show StableHlo.after hostOps0 (fun b => m (c, b)) main_v5 = _
    after_results_simp <;> rfl

/-- What the lines after the call leave in an array. -/
abbrev last (c : Dev nD) (b : Ref sig .tc) : Buf (Elt Ideal) ((c : Thread nD τ).loc b) := Pipeline.afterTail₀ cfgs (dats m) 0 (V0 m) [hostOps1] c b

/-- What the call leaves in one of its arrays. -/
theorem left (c : Dev nD) (w : Fin 8) : Pipeline.withArrays spec0 c (V0 m c) (fun w => (dats m 0 c).arrAt w cfg0.N) (Proc.devRef .tc (Pipeline.arrRef spec0 w))
    = (dats m 0 c).arrAt w cfg0.N :=
  Pipeline.withArrays_arr spec0 winFacts0.arr_inj c _ _ w

theorem afters (c : Dev nD) : last m c main_v8 = flip (a := 1288) (b := 1024) ((dats m 0 c).arrAt 4 cfg0.N) ∧ last m c main_v9 = flip (a := 1288) (b := 1024) ((dats m 0 c).arrAt 5 cfg0.N)
    ∧ last m c main_v10 = flip (a := 1288) (b := 1024) ((dats m 0 c).arrAt 6 cfg0.N) ∧ last m c main_v11 = flip (a := 1288) (b := 1024) ((dats m 0 c).arrAt 7 cfg0.N) := by
  have e : ∀ w : Fin 8, _ := left m c
  refine ⟨Eq.trans ?_ (transpose_flip _ transposes_S1288x1024_S1024x1288_1_0), Eq.trans ?_ (transpose_flip _ transposes_S1288x1024_S1024x1288_1_0),
    Eq.trans ?_ (transpose_flip _ transposes_S1288x1024_S1024x1288_1_0), Eq.trans ?_ (transpose_flip _ transposes_S1288x1024_S1024x1288_1_0)⟩
  · refine Eq.trans (b := transpose S1024x1288 [1, 0] _ transposes_S1288x1024_S1024x1288_1_0) ?_ (congrArg (fun x => transpose S1024x1288 [1, 0] x transposes_S1288x1024_S1024x1288_1_0) (e 4))
    show StableHlo.after hostOps1 _ main_v8 = _
    after_results_simp <;> rfl
  · refine Eq.trans (b := transpose S1024x1288 [1, 0] _ transposes_S1288x1024_S1024x1288_1_0) ?_ (congrArg (fun x => transpose S1024x1288 [1, 0] x transposes_S1288x1024_S1024x1288_1_0) (e 5))
    show StableHlo.after hostOps1 _ main_v9 = _
    after_results_simp <;> rfl
  · refine Eq.trans (b := transpose S1024x1288 [1, 0] _ transposes_S1288x1024_S1024x1288_1_0) ?_ (congrArg (fun x => transpose S1024x1288 [1, 0] x transposes_S1288x1024_S1024x1288_1_0) (e 6))
    show StableHlo.after hostOps1 _ main_v10 = _
    after_results_simp <;> rfl
  · refine Eq.trans (b := transpose S1024x1288 [1, 0] _ transposes_S1288x1024_S1024x1288_1_0) ?_ (congrArg (fun x => transpose S1024x1288 [1, 0] x transposes_S1288x1024_S1024x1288_1_0) (e 7))
    show StableHlo.after hostOps1 _ main_v11 = _
    after_results_simp <;> rfl

/-- The four results in the end: the gradient handed on, and the update. -/
theorem last0 (c : Dev nD) : last m c main_v8 = arg m c main_arg1
    ∧ Stepped (S := S1024x1288) (mat (arg m c main_arg0)) (arg m c main_arg1) (mat (arg m c main_arg2)) (mat (arg m c main_arg3))
      (last m c main_v9) (last m c main_v10) (last m c main_v11) := by
  obtain ⟨b0, b1, b2, b3⟩ := before m c
  obtain ⟨a0, a1, a2, a3⟩ := afters m c
  have s := arrs m c
  rw [b0, b1, b2, b3] at s
  rw [a0, a1, a2, a3]
  refine ⟨(congrArg (flip (a := 1288) (b := 1024)) s.1).trans (flip_flip _), ?_⟩
  exact flipped (a := 1024) (b := 1288) s.2

/-- The run: every array as the lines after the call leave it. -/
theorem run : θ_run defs (onTc (τ := τ) (main (F := Ideal))) ⟨m, fun _ => 0, ρ⟩ (fun r => ∀ c : Dev nD,
      ∀ b ∈ Pipeline.restRefs sig spec0, r.2.mem ((c : Thread nD τ).loc b) = last m c b) :=
  (θ_run defs _ _).mono (fun _ h c => (h c).2) (run_main m ρ)

end Cert.AdamSsdInIdeal.Calls

end
-- ==== Proof.AdamSsdInEquation.lean ====
/- The optimiser's call on the input weight of the state-space mixer against the plain update. -/
module

public import proofs.«01_k».proof.Defs
public import proofs.«01_k».proof.Proof.AdamSsdInKernel
public import proofs.«01_k».proof.Proof.Windows
public import proofs.«01_k».proof.Proof.Gen.AdamSsdInRefIdeal.Run

@[expose] public section

set_option maxRecDepth 16384

noncomputable section

namespace Cert.AdamSsdInIdeal.Calls

open Cert.AdamSsdInIdeal Cert.AdamSsdInIdeal.Gen Cert.AdamSpec Cert.AdamBlocks Cert.Windows
open Idealize.ShloMosaic Idealize.ShloMosaic.TcCoe Idealize.SL Idealize.SL.Sem

set_option maxHeartbeats 1000000 in
theorem equation : @algebraic_AdamSsdInIdeal_AdamSsdInRefIdeal Cert.AdamSsdInIdeal.Gen.facts Cert.AdamSsdInRefIdeal.Gen.facts :=
  fun m g m' g' _ hm => ⟨_, _, _, _,
    upTo (run m g) fun r c h =>
      have f := fun (b : Ref sig .tc) hs ha => h b (Pipeline.mem_restRefs_of b hs ha)
      ⟨f main_v8 (by decide) (by decide), f main_v9 (by decide) (by decide), f main_v10 (by decide) (by decide), f main_v11 (by decide) (by decide),
        (f main_arg0 (by decide) (by decide)).trans (W_main_arg0 m (dats m) c), (f main_arg1 (by decide) (by decide)).trans (W_main_arg1 m (dats m) c),
        (f main_arg2 (by decide) (by decide)).trans (W_main_arg2 m (dats m) c), (f main_arg3 (by decide) (by decide)).trans (W_main_arg3 m (dats m) c)⟩,
    upTo (Cert.AdamSsdInRefIdeal.Value.run (F := Ideal) m' g') fun r c => by
      obtain ⟨e0, e1, e2, e3⟩ := hm c
      refine And.imp (·.trans (e1.trans (last0 m c).1.symm)) ?_
      exact (last0 m c).2.carry (.named ⟨rfl, rfl, rfl⟩ (congrArg mat e0) e1 (congrArg mat e2) (congrArg mat e3) rfl rfl rfl) id⟩

end Cert.AdamSsdInIdeal.Calls

end
-- ==== Proof.AdamParts.lean ====
/- The optimiser's calls whose gradient lies in two arrays: the two parts on top of one another, and where a block of a part lies. -/
module

public import proofs.«01_k».proof.Proof.AdamMatBlocks
public import Idealize.ShloMosaic.Lib.VecWindow

@[expose] public section

noncomputable section

namespace Cert.AdamBlocks

open Cert.AdamSpec
open Idealize.ShloMosaic Idealize.ShloMosaic.ValueIdx

section Parts

variable {K b : Nat} {o : Nat} (ho : o + 1024 ≤ K) (x y : (M K b).Idx → EReal)

/-- The 1024 rows from row `o` on of one array, and below them those of another. -/
def stacked : (M 2048 b).Idx → EReal := fun i =>
  if h : (i 0 : Nat) < 1024 then x (ix2 ⟨o + i 0, by omega⟩ (i 1))
  else y (ix2 ⟨o + ((i 0 : Nat) - 1024), by have : (i 0 : Nat) < 2048 := (i 0).isLt; omega⟩ (i 1))

/-- An entry of the upper half. -/
theorem stacked_upper (i : (M 2048 b).Idx) (j : (M K b).Idx) (h : (i 0 : Nat) < 1024) (h0 : (j 0 : Nat) = o + i 0) (h1 : (j 1 : Nat) = i 1) :
    x j = stacked ho x y i := by
  unfold stacked
  rw [dif_pos h]
  exact congrArg x (funext fun d => Fin.ext (match d with | ⟨0, _⟩ => h0 | ⟨1, _⟩ => h1))

/-- An entry of the lower half. -/
theorem stacked_lower (i : (M 2048 b).Idx) (j : (M K b).Idx) (h : ¬(i 0 : Nat) < 1024) (h0 : (j 0 : Nat) + 1024 = o + i 0) (h1 : (j 1 : Nat) = i 1) :
    y j = stacked ho x y i := by
  unfold stacked
  rw [dif_neg h]
  exact congrArg y (funext fun d => Fin.ext (match d with
    | ⟨0, _⟩ => by show (j 0 : Nat) = o + ((i 0 : Nat) - 1024); omega
    | ⟨1, _⟩ => h1))

/-- A block of `r` rows of the upper half, entry for entry. -/
theorem upper_block {r p q : Nat} (e : (M r b).Idx → (M K b).Idx) (f : (M r b).Idx → (M 2048 b).Idx) (he : ∀ i, (e i 0 : Nat) = p + i 0)
    (hf : ∀ i, (f i 0 : Nat) = q + i 0) (h : p = o + q ∧ q + r ≤ 1024) (h1 : ∀ i, (e i 1 : Nat) = f i 1) :
    (fun i => x (e i)) = fun i => stacked ho x y (f i) := funext fun i => by
  have l : (i 0 : Nat) < r := (i 0).isLt
  have a := he i; have d := hf i
  exact stacked_upper ho x y (f i) (e i) (by omega) (by omega) (h1 i)

/-- A block of `r` rows of the lower half. -/
theorem lower_block {r p q : Nat} (e : (M r b).Idx → (M K b).Idx) (f : (M r b).Idx → (M 2048 b).Idx) (he : ∀ i, (e i 0 : Nat) = p + i 0)
    (hf : ∀ i, (f i 0 : Nat) = q + i 0) (h : p + 1024 = o + q ∧ 1024 ≤ q) (h1 : ∀ i, (e i 1 : Nat) = f i 1) :
    (fun i => y (e i)) = fun i => stacked ho x y (f i) := funext fun i => by
  have a := he i; have d := hf i
  exact stacked_lower ho x y (f i) (e i) (by omega) (by omega) (h1 i)

end Parts

section Host

variable {K b : Nat}

/-- The host's concatenation of two arrays of 1024 rows. -/
theorem concatenate_stacked (x y : (M 1024 b).Idx → EReal) (h : Shape.Concatenates [M 1024 b, M 1024 b] (M 2048 b) 0) :
    concatenate (M 2048 b) 0 [⟨M 1024 b, x⟩, ⟨M 1024 b, y⟩] h = stacked (o := 0) (Nat.le_refl 1024) x y := funext fun i => by
  have hi : (i 0 : Nat) < 2048 := (i 0).isLt
  by_cases hl : (i 0 : Nat) < 1024
  · refine (concatenate_pair_apply_left (t := M 2048 b) 0 x y h i rfl (ix2 (⟨i 0, hl⟩ : Fin 1024) (i 1)) fun d => ?_).trans
      (stacked_upper (Nat.le_refl 1024) x y i _ hl (Nat.zero_add _).symm rfl)
    match d with
    | ⟨0, _⟩ => rfl
    | ⟨1, _⟩ => rfl
  · refine (concatenate_pair_apply_right (t := M 2048 b) 0 x y h i rfl rfl (ix2 (⟨(i 0 : Nat) - 1024, by omega⟩ : Fin 1024) (i 1)) (fun d hd => ?_) ?_).trans
      (stacked_lower (Nat.le_refl 1024) x y i _ hl ?_ rfl)
    · match d with
      | ⟨0, _⟩ => exact absurd rfl hd
      | ⟨1, _⟩ => rfl
    · show (i 0 : Nat) - 1024 + 1024 = i 0; omega
    · show (i 0 : Nat) - 1024 + 1024 = 0 + i 0; omega

/-- The 1024 rows from row `o` on. -/
def rowsFrom (o : Nat) (ho : o + 1024 ≤ K) (x : (M K b).Idx → EReal) : (M 1024 b).Idx → EReal := fun i =>
  x (ix2 ⟨o + i 0, by have : (i 0 : Nat) < 1024 := (i 0).isLt; omega⟩ (i 1))

theorem slice_rowsFrom (o : Nat) (ho : o + 1024 ≤ K) (x : (M K b).Idx → EReal) (h : (M K b).Slices ![o, 0] (M 1024 b)) :
    extractStridedSlice (M 1024 b) ![o, 0] x h = rowsFrom o ho x := funext fun i => by
  unfold extractStridedSlice rowsFrom
  exact congrArg x (funext fun d => Fin.ext (match d with
    | ⟨0, _⟩ => rfl
    | ⟨1, _⟩ => Nat.zero_add _))

theorem stacked_rowsFrom (o : Nat) (ho : o + 1024 ≤ K) (x y : (M K b).Idx → EReal) :
    stacked (o := 0) (Nat.le_refl 1024) (rowsFrom o ho x) (rowsFrom o ho y) = stacked ho x y := funext fun i => by
  unfold stacked rowsFrom
  split_ifs with h
  · exact congrArg x (congrArg (ix2 · (i 1)) (Fin.ext (congrArg (o + ·) (Nat.zero_add _))))
  · exact congrArg y (congrArg (ix2 · (i 1)) (Fin.ext (congrArg (o + ·) (Nat.zero_add _))))

/-- The same rows of two arrays, cut out and put on top of one another. -/
theorem halves (o : Nat) (ho : o + 1024 ≤ K) (x y : (M K b).Idx → EReal) {x' y' : (M K b).Idx → EReal} (h : Shape.Concatenates [M 1024 b, M 1024 b] (M 2048 b) 0)
    (hs : (M K b).Slices ![o, 0] (M 1024 b)) (ex : x = x') (ey : y = y') :
    concatenate (M 2048 b) 0 [⟨M 1024 b, extractStridedSlice (M 1024 b) ![o, 0] x hs⟩, ⟨M 1024 b, extractStridedSlice (M 1024 b) ![o, 0] y hs⟩] h = stacked ho x' y' := by
  subst ex ey
  exact (concatenate_stacked _ _ h).trans ((congrArg₂ (stacked (Nat.le_refl 1024)) (slice_rowsFrom o ho x hs) (slice_rowsFrom o ho y hs)).trans (stacked_rowsFrom o ho x y))

end Host

section Block

variable {κ : Kind} {sig : RefSig} {sp : Space} {a b : Nat} (h : ∀ d, (![0, 0] : Fin 2 → Nat) d + (![a, b] : Fin 2 → Nat) d ≤ (M a b).size d)

/-- A store of a whole block leaves what it stored. -/
theorem stored_block (v : View sig κ sp (M a b) .f32) (f : v.ty.Contents (Elt Ideal)) (w : (M a b).Idx → Elt Ideal .f32) :
    v.read (Elt Ideal) (v.writes (Elt Ideal) f [⟨Rect.unit (s := M a b) ![0, 0] ![a, b] h, w⟩]) = w :=
  View.read_writes_full v f h w []

/-- A load of a whole block is the block. -/
theorem loaded_block {r : Memref sig κ sp (M a b) .f32} (hr : r.IsWhole) (x : (M a b).Idx → Elt Ideal .f32) :
    r.view.readAt (Elt Ideal) (Rect.unit (s := M a b) ![0, 0] ![a, b] h).toLoadRect (hr.unread x) = x :=
  (View.readAt_full r.view (hr.unread x) h).trans (hr.read_unread x)

end Block

end Cert.AdamBlocks

end
-- ==== Proof.AdamAdaKernel.lean ====
/- The optimiser's call on the modulation's weight, whose gradient lies in two arrays: what the four results hold in the end. -/
module

public import proofs.«01_k».proof.Proof.AdamParts
public import proofs.«01_k».proof.Proof.Gen.AdamAdaIdeal.Frame

@[expose] public section

set_option maxRecDepth 16384

noncomputable section

namespace Cert.AdamAdaIdeal.Calls

open Cert.AdamAdaIdeal Cert.AdamAdaIdeal.Gen Cert.AdamSpec Cert.AdamBlocks
open Idealize.ShloMosaic Idealize.ShloMosaic.TcCoe Idealize.ShloMosaic.ValueIdx Idealize.ShloMosaic.Tactic Idealize.SL Idealize.SL.Sem

variable (m : (ℓ : Loc nD τ sig) → Buf (Elt Ideal) ℓ) (ρ : Dev nD → PrngReg)

/-- What one step leaves in the four blocks it writes, out of a block of the gradient. -/
abbrev stepOf (c : Dev nD) (t : Fin cfg0.N) (g : Vec Ideal S128x1536 .f32) : Vec Ideal S128x1536 .f32 × Vec Ideal S128x1536 .f32 × Vec Ideal S128x1536 .f32 × Vec Ideal S128x1536 .f32 :=
  (g, deltas (iblk m c 0 t) g (iblk m c 1 t) (iblk m c 2 t), mom1s g (iblk m c 1 t), mom2s g (iblk m c 2 t))

/-- A step of the first half takes the first array. -/
theorem upper (c : Dev nD) (t : Fin cfg0.N) (h : t.val < 8) : outsAt0 m c t.val t.isLt = stepOf m c t (iblk m c 3 t) := by
  rw [outsAt0_A m c t h (by omega)]
  unfold out0_A_5 out0_A_6 out0_A_7 out0_A_8 kernelRun0_A
  dsimp only
  sl_unfold_words
  simp only [stored_block, loaded_block]
  rfl

/-- A step of the second half takes the second. -/
theorem lower (c : Dev nD) (t : Fin cfg0.N) (h : ¬t.val < 8) : outsAt0 m c t.val t.isLt = stepOf m c t (iblk m c 4 t) := by
  rw [outsAt0_B m c t h (by omega)]
  unfold out0_B_5 out0_B_6 out0_B_7 out0_B_8 kernelRun0_B
  dsimp only
  sl_unfold_words
  simp only [stored_block, loaded_block]
  rfl

/-- Where the blocks of the two halves lie. -/
theorem where3 : ∀ t : Fin cfg0.N, t.val < 8 → win0_3.index t 0 * win0_3.size 0 = 0 + win0_5.index t 0 * win0_5.size 0 ∧ win0_5.index t 0 * win0_5.size 0 + 128 ≤ 1024 := by decide +kernel
theorem where4 : ∀ t : Fin cfg0.N, ¬t.val < 8 → win0_4.index t 0 * win0_4.size 0 + 1024 = 0 + win0_5.index t 0 * win0_5.size 0 ∧ 1024 ≤ win0_5.index t 0 * win0_5.size 0 := by decide +kernel

/-- An array as launched. -/
abbrev arg (c : Dev nD) (b : Ref sig .tc) : Buf (Elt Ideal) ((c : Thread nD τ).loc b) := m ((c : Thread nD τ).loc b)
/-- The gradient, both parts. -/
abbrev grad (c : Dev nD) : (M 2048 1536).Idx → EReal := stacked (K := 1024) (o := 0) (Nat.le_refl 1024) (arg m c main_arg1) (arg m c main_arg2)

/-- Every step's block of the gradient. -/
theorem step (c : Dev nD) (t : Fin cfg0.N) : outsAt0 m c t.val t.isLt = stepOf m c t (fun y => grad m c ((win0_5.rect t).emb y)) := by
  have u := fun y => Pipeline.Window.rect_emb_val win0_5 t y 0 rfl
  by_cases h : t.val < 8
  · exact (upper m c t h).trans (congrArg (stepOf m c t) (upper_block (K := 1024) (b := 1536) (o := 0) (r := 128) (Nat.le_refl 1024) (arg m c main_arg1) (arg m c main_arg2)
      (fun y => (win0_3.rect t).emb y) (fun y => (win0_5.rect t).emb y) (fun y => Pipeline.Window.rect_emb_val win0_3 t y 0 rfl) u (where3 t h)
      fun _ => same_coord win0_3 win0_5 t 1 1))
  · exact (lower m c t h).trans (congrArg (stepOf m c t) (lower_block (K := 1024) (b := 1536) (o := 0) (r := 128) (Nat.le_refl 1024) (arg m c main_arg1) (arg m c main_arg2)
      (fun y => (win0_4.rect t).emb y) (fun y => (win0_5.rect t).emb y) (fun y => Pipeline.Window.rect_emb_val win0_4 t y 0 rfl) u (where4 t h)
      fun _ => same_coord win0_4 win0_5 t 1 1))

/-- The four arrays after the call: the gradient handed on, and the update. -/
theorem arrs (c : Dev nD) : (dats m 0 c).arrAt 5 cfg0.N = grad m c
    ∧ Stepped (S := S2048x1536) (arg m c main_arg0) (grad m c) (arg m c main_arg3) (arg m c main_arg4)
      ((dats m 0 c).arrAt 6 cfg0.N) ((dats m 0 c).arrAt 7 cfg0.N) ((dats m 0 c).arrAt 8 cfg0.N) :=
  ⟨held (dats m 0 c) 5 _ fun t => (after0_5 m c t).trans (congrArg (·.1) (step m c t)),
    held (dats m 0 c) 6 _ fun t => (after0_6 m c t).trans (congrArg (·.2.1) (step m c t)),
    held (dats m 0 c) 7 _ fun t => (after0_7 m c t).trans (congrArg (·.2.2.1) (step m c t)),
    held (dats m 0 c) 8 _ fun t => (after0_8 m c t).trans (congrArg (·.2.2.2) (step m c t))⟩

end Cert.AdamAdaIdeal.Calls

end
-- ==== Proof.AdamAdaEquation.lean ====
/- The optimiser's call on the modulation's weight against the plain update. -/
module

public import proofs.«01_k».proof.Defs
public import proofs.«01_k».proof.Proof.AdamAdaKernel
public import proofs.«01_k».proof.Proof.Windows
public import proofs.«01_k».proof.Proof.Gen.AdamAdaRefIdeal.Run

@[expose] public section

set_option maxRecDepth 16384

noncomputable section

namespace Cert.AdamAdaIdeal.Calls

open Cert.AdamAdaIdeal Cert.AdamAdaIdeal.Gen Cert.AdamSpec Cert.AdamBlocks Cert.Windows
open Idealize.ShloMosaic Idealize.ShloMosaic.TcCoe Idealize.SL Idealize.SL.Sem

set_option maxHeartbeats 1000000 in
theorem equation : @algebraic_AdamAdaIdeal_AdamAdaRefIdeal Cert.AdamAdaIdeal.Gen.facts Cert.AdamAdaRefIdeal.Gen.facts :=
  fun m g m' g' _ hm => ⟨_, _, _, _,
    upTo ((θ_run defs _ _).mono (fun _ h c => And.intro (h.1 c) (h.2 c).1) (θ_run_and (unchanged m g) (run_main m g))) fun r c h =>
      ⟨h.2 5, h.2 6, h.2 7, h.2 8, h.1⟩,
    upTo (Cert.AdamAdaRefIdeal.Value.run (F := Ideal) m' g') fun r c => by
      obtain ⟨e0, e1, e2, e3, e4⟩ := hm c
      have u := (concatenate_stacked (b := 1536) _ _ Cert.AdamAdaRefIdeal.Gen.concatenates_S1024x1536_S1024x1536_S2048x1536_d0).trans
        (congrArg₂ (stacked (K := 1024) (o := 0) (Nat.le_refl 1024)) e1 e2)
      refine And.imp (·.trans (u.trans (arrs m c).1.symm)) ?_
      exact (arrs m c).2.carry (.named ⟨rfl, rfl, rfl⟩ e0 u e3 e4 rfl rfl rfl) id⟩

end Cert.AdamAdaIdeal.Calls

end
-- ==== Proof.AdamUpKernel.lean ====
/- The optimiser's call on the MLP's first weight: its gradient is the upper half of each layer's buffer. -/
module

public import proofs.«01_k».proof.Proof.AdamParts
public import proofs.«01_k».proof.Proof.Gen.AdamUpIdeal.Frame

@[expose] public section

set_option maxRecDepth 16384

noncomputable section

namespace Cert.AdamUpIdeal.Calls

open Cert.AdamUpIdeal Cert.AdamUpIdeal.Gen Cert.AdamSpec Cert.AdamBlocks
open Idealize.ShloMosaic Idealize.ShloMosaic.TcCoe Idealize.ShloMosaic.ValueIdx Idealize.ShloMosaic.Tactic Idealize.SL Idealize.SL.Sem

variable (m : (ℓ : Loc nD τ sig) → Buf (Elt Ideal) ℓ)

/-- An array as launched. -/
abbrev arg (c : Dev nD) (b : Ref sig .tc) : Buf (Elt Ideal) ((c : Thread nD τ).loc b) := m ((c : Thread nD τ).loc b)
/-- The gradient: rows 0 to 1023 of the first buffer, and of the second. -/
abbrev grad (c : Dev nD) : (M 2048 1024).Idx → EReal := stacked (K := 2048) (o := 0) (by omega) (arg m c main_arg1) (arg m c main_arg2)
/-- The blocks that one step leaves, out of the block of the gradient. -/
abbrev stepOf (c : Dev nD) (t : Fin cfg0.N) (g : Vec Ideal S256x1024 .f32) : Vec Ideal S256x1024 .f32 × Vec Ideal S256x1024 .f32 × Vec Ideal S256x1024 .f32 × Vec Ideal S256x1024 .f32 :=
  (g, deltas (iblk m c 0 t) g (iblk m c 1 t) (iblk m c 2 t), mom1s g (iblk m c 1 t), mom2s g (iblk m c 2 t))

/-- A step of the first layer. -/
theorem upper (c : Dev nD) (t : Fin cfg0.N) (h : t.val < 4) : outsAt0 m c t.val t.isLt = stepOf m c t (iblk m c 3 t) := by
  rw [outsAt0_A m c t h (by omega)]
  unfold out0_A_5 out0_A_6 out0_A_7 out0_A_8 kernelRun0_A
  dsimp only
  sl_unfold_words
  simp only [stored_block, loaded_block]
  rfl

/-- A step of the second layer. -/
theorem lower (c : Dev nD) (t : Fin cfg0.N) (h : ¬t.val < 4) : outsAt0 m c t.val t.isLt = stepOf m c t (iblk m c 4 t) := by
  rw [outsAt0_B m c t h (by omega)]
  unfold out0_B_5 out0_B_6 out0_B_7 out0_B_8 kernelRun0_B
  dsimp only
  sl_unfold_words
  simp only [stored_block, loaded_block]
  rfl

theorem where3 : ∀ t : Fin cfg0.N, t.val < 4 → win0_3.index t 0 * win0_3.size 0 = 0 + win0_5.index t 0 * win0_5.size 0 ∧ win0_5.index t 0 * win0_5.size 0 + 256 ≤ 1024 := by decide +kernel
theorem where4 : ∀ t : Fin cfg0.N, ¬t.val < 4 → win0_4.index t 0 * win0_4.size 0 + 1024 = 0 + win0_5.index t 0 * win0_5.size 0 ∧ 1024 ≤ win0_5.index t 0 * win0_5.size 0 := by decide +kernel

/-- Every step's block of the gradient. -/
theorem step (c : Dev nD) (t : Fin cfg0.N) : outsAt0 m c t.val t.isLt = stepOf m c t (fun y => grad m c ((win0_5.rect t).emb y)) := by
  have u := fun y => Pipeline.Window.rect_emb_val win0_5 t y 0 rfl
  by_cases h : t.val < 4
  · exact (upper m c t h).trans (congrArg (stepOf m c t) (upper_block (K := 2048) (b := 1024) (o := 0) (r := 256) (by omega) (arg m c main_arg1) (arg m c main_arg2)
      (fun y => (win0_3.rect t).emb y) (fun y => (win0_5.rect t).emb y) (fun y => Pipeline.Window.rect_emb_val win0_3 t y 0 rfl) u (where3 t h)
      fun _ => same_coord win0_3 win0_5 t 1 1))
  · exact (lower m c t h).trans (congrArg (stepOf m c t) (lower_block (K := 2048) (b := 1024) (o := 0) (r := 256) (by omega) (arg m c main_arg1) (arg m c main_arg2)
      (fun y => (win0_4.rect t).emb y) (fun y => (win0_5.rect t).emb y) (fun y => Pipeline.Window.rect_emb_val win0_4 t y 0 rfl) u (where4 t h)
      fun _ => same_coord win0_4 win0_5 t 1 1))

/-- The four arrays after the call: the gradient handed on, and the update. -/
theorem arrs (c : Dev nD) : (dats m 0 c).arrAt 5 cfg0.N = grad m c
    ∧ Stepped (S := S2048x1024) (arg m c main_arg0) (grad m c) (arg m c main_arg3) (arg m c main_arg4)
      ((dats m 0 c).arrAt 6 cfg0.N) ((dats m 0 c).arrAt 7 cfg0.N) ((dats m 0 c).arrAt 8 cfg0.N) :=
  ⟨held (dats m 0 c) 5 _ fun t => (after0_5 m c t).trans (congrArg (·.1) (step m c t)),
    held (dats m 0 c) 6 _ fun t => (after0_6 m c t).trans (congrArg (·.2.1) (step m c t)),
    held (dats m 0 c) 7 _ fun t => (after0_7 m c t).trans (congrArg (·.2.2.1) (step m c t)),
    held (dats m 0 c) 8 _ fun t => (after0_8 m c t).trans (congrArg (·.2.2.2) (step m c t))⟩

end Cert.AdamUpIdeal.Calls

end
-- ==== Proof.AdamUpEquation.lean ====
/- The optimiser's call on the MLP's first weight against the plain update. -/
module

public import proofs.«01_k».proof.Defs
public import proofs.«01_k».proof.Proof.AdamUpKernel
public import proofs.«01_k».proof.Proof.Windows
public import proofs.«01_k».proof.Proof.Gen.AdamUpRefIdeal.Run

@[expose] public section

set_option maxRecDepth 16384

noncomputable section

namespace Cert.AdamUpIdeal.Calls

open Cert.AdamUpIdeal Cert.AdamUpIdeal.Gen Cert.AdamSpec Cert.AdamBlocks Cert.Windows
open Idealize.ShloMosaic Idealize.ShloMosaic.TcCoe Idealize.SL Idealize.SL.Sem

set_option maxHeartbeats 1000000 in
theorem equation : @algebraic_AdamUpIdeal_AdamUpRefIdeal Cert.AdamUpIdeal.Gen.facts Cert.AdamUpRefIdeal.Gen.facts :=
  fun m g m' g' _ hm => ⟨_, _, _, _,
    upTo ((θ_run defs _ _).mono (fun _ h c => And.intro (h.1 c) (h.2 c).1) (θ_run_and (unchanged m g) (run_main m g))) fun r c h =>
      ⟨h.2 5, h.2 6, h.2 7, h.2 8, h.1⟩,
    upTo (Cert.AdamUpRefIdeal.Value.run (F := Ideal) m' g') fun r c => by
      obtain ⟨e0, e1, e2, e3, e4⟩ := hm c
      have u := halves (b := 1024) (K := 2048) 0 (by omega) _ _ Cert.AdamUpRefIdeal.Gen.concatenates_S1024x1024_S1024x1024_S2048x1024_d0
        Cert.AdamUpRefIdeal.Gen.slices_S2048x1024_S1024x1024_0_0 e1 e2
      refine And.imp (·.trans (u.trans (arrs m c).1.symm)) ?_
      exact (arrs m c).2.carry (.named ⟨rfl, rfl, rfl⟩ e0 u e3 e4 rfl rfl rfl) id⟩

end Cert.AdamUpIdeal.Calls

end
-- ==== Proof.AdamDownKernel.lean ====
/- The optimiser's call on the MLP's second weight: its gradient is the lower half of each layer's buffer. -/
module

public import proofs.«01_k».proof.Proof.AdamParts
public import proofs.«01_k».proof.Proof.Gen.AdamDownIdeal.Frame

@[expose] public section

set_option maxRecDepth 16384

noncomputable section

namespace Cert.AdamDownIdeal.Calls

open Cert.AdamDownIdeal Cert.AdamDownIdeal.Gen Cert.AdamSpec Cert.AdamBlocks
open Idealize.ShloMosaic Idealize.ShloMosaic.TcCoe Idealize.ShloMosaic.ValueIdx Idealize.ShloMosaic.Tactic Idealize.SL Idealize.SL.Sem

variable (m : (ℓ : Loc nD τ sig) → Buf (Elt Ideal) ℓ)

/-- The gradient as the call finds it: the two halves that the host cut out. -/
abbrev grad (c : Dev nD) : (M 2048 1024).Idx → EReal := stacked (K := 1024) (o := 0) (by omega) (V m c main_v0) (V m c main_v1)
/-- The blocks that one step leaves, out of the block of the gradient. -/
abbrev stepOf (c : Dev nD) (t : Fin cfg0.N) (g : Vec Ideal S256x1024 .f32) : Vec Ideal S256x1024 .f32 × Vec Ideal S256x1024 .f32 × Vec Ideal S256x1024 .f32 × Vec Ideal S256x1024 .f32 :=
  (g, deltas (iblk m c 0 t) g (iblk m c 1 t) (iblk m c 2 t), mom1s g (iblk m c 1 t), mom2s g (iblk m c 2 t))

/-- A step of the first layer. -/
theorem upper (c : Dev nD) (t : Fin cfg0.N) (h : t.val < 4) : outsAt0 m c t.val t.isLt = stepOf m c t (iblk m c 3 t) := by
  rw [outsAt0_A m c t h (by omega)]
  unfold out0_A_5 out0_A_6 out0_A_7 out0_A_8 kernelRun0_A
  dsimp only
  sl_unfold_words
  simp only [stored_block, loaded_block, k0_pay10, k0_pay5, k0_pay4, k0_pay3, k0_pay2, shapeCast_self]
  rfl

/-- A step of the second layer. -/
theorem lower (c : Dev nD) (t : Fin cfg0.N) (h : ¬t.val < 4) : outsAt0 m c t.val t.isLt = stepOf m c t (iblk m c 4 t) := by
  rw [outsAt0_B m c t h (by omega)]
  unfold out0_B_5 out0_B_6 out0_B_7 out0_B_8 kernelRun0_B
  dsimp only
  sl_unfold_words
  simp only [stored_block, loaded_block, k0_pay9, k0_pay8, k0_pay7, k0_pay6, k0_pay1, shapeCast_self]
  rfl

theorem where3 : ∀ t : Fin cfg0.N, t.val < 4 → win0_3.index t 0 * win0_3.size 0 = 0 + win0_5.index t 0 * win0_5.size 0 ∧ win0_5.index t 0 * win0_5.size 0 + 256 ≤ 1024 := by decide +kernel
theorem where4 : ∀ t : Fin cfg0.N, ¬t.val < 4 → win0_4.index t 0 * win0_4.size 0 + 1024 = 0 + win0_5.index t 0 * win0_5.size 0 ∧ 1024 ≤ win0_5.index t 0 * win0_5.size 0 := by decide +kernel

/-- Every step's block of the gradient. -/
theorem step (c : Dev nD) (t : Fin cfg0.N) : outsAt0 m c t.val t.isLt = stepOf m c t (fun y => grad m c ((win0_5.rect t).emb y)) := by
  have u := fun y => Pipeline.Window.rect_emb_val win0_5 t y 0 rfl
  by_cases h : t.val < 4
  · exact (upper m c t h).trans (congrArg (stepOf m c t) (upper_block (K := 1024) (b := 1024) (o := 0) (r := 256) (by omega) (V m c main_v0) (V m c main_v1)
      (fun y => (win0_3.rect t).emb y) (fun y => (win0_5.rect t).emb y) (fun y => Pipeline.Window.rect_emb_val win0_3 t y 0 rfl) u (where3 t h)
      fun _ => same_coord win0_3 win0_5 t 1 1))
  · exact (lower m c t h).trans (congrArg (stepOf m c t) (lower_block (K := 1024) (b := 1024) (o := 0) (r := 256) (by omega) (V m c main_v0) (V m c main_v1)
      (fun y => (win0_4.rect t).emb y) (fun y => (win0_5.rect t).emb y) (fun y => Pipeline.Window.rect_emb_val win0_4 t y 0 rfl) u (where4 t h)
      fun _ => same_coord win0_4 win0_5 t 1 1))

/-- The four arrays after the call: the gradient handed on, and the update. -/
theorem arrs (c : Dev nD) : (dats m 0 c).arrAt 5 cfg0.N = grad m c
    ∧ Stepped (S := S2048x1024) (V m c main_arg0) (grad m c) (V m c main_arg3) (V m c main_arg4)
      ((dats m 0 c).arrAt 6 cfg0.N) ((dats m 0 c).arrAt 7 cfg0.N) ((dats m 0 c).arrAt 8 cfg0.N) :=
  ⟨held (dats m 0 c) 5 _ fun t => (after0_5 m c t).trans (congrArg (·.1) (step m c t)),
    held (dats m 0 c) 6 _ fun t => (after0_6 m c t).trans (congrArg (·.2.1) (step m c t)),
    held (dats m 0 c) 7 _ fun t => (after0_7 m c t).trans (congrArg (·.2.2.1) (step m c t)),
    held (dats m 0 c) 8 _ fun t => (after0_8 m c t).trans (congrArg (·.2.2.2) (step m c t))⟩

/-- Rows 1024 to 2047 of the first buffer, and of the second. -/
theorem grad_eq (c : Dev nD) : grad m c = stacked (K := 2048) (o := 1024) (by omega) (m ((c : Thread nD τ).loc main_arg1)) (m ((c : Thread nD τ).loc main_arg2)) :=
  (congrArg₂ (stacked (K := 1024) (o := 0) (Nat.le_refl 1024))
    ((show V m c main_v0 = extractStridedSlice S1024x1024 ![1024, 0] (m ((c : Thread nD τ).loc main_arg1)) slices_S2048x1024_S1024x1024_1024_0 by
      rfl).trans (slice_rowsFrom (b := 1024) 1024 (by omega) _ _))
    ((show V m c main_v1 = extractStridedSlice S1024x1024 ![1024, 0] (m ((c : Thread nD τ).loc main_arg2)) slices_S2048x1024_S1024x1024_1024_0 by
      rfl).trans (slice_rowsFrom (b := 1024) 1024 (by omega) _ _))).trans (stacked_rowsFrom (b := 1024) 1024 (by omega) _ _)

end Cert.AdamDownIdeal.Calls

end
-- ==== Proof.AdamDownEquation.lean ====
/- The optimiser's call on the MLP's second weight against the plain update. -/
module

public import proofs.«01_k».proof.Defs
public import proofs.«01_k».proof.Proof.AdamDownKernel
public import proofs.«01_k».proof.Proof.Windows
public import proofs.«01_k».proof.Proof.Gen.AdamDownRefIdeal.Run

@[expose] public section

set_option maxRecDepth 16384

noncomputable section

namespace Cert.AdamDownIdeal.Calls

open Cert.AdamDownIdeal Cert.AdamDownIdeal.Gen Cert.AdamSpec Cert.AdamBlocks Cert.Windows
open Idealize.ShloMosaic Idealize.ShloMosaic.TcCoe Idealize.SL Idealize.SL.Sem

set_option maxHeartbeats 1000000 in
theorem equation : @algebraic_AdamDownIdeal_AdamDownRefIdeal Cert.AdamDownIdeal.Gen.facts Cert.AdamDownRefIdeal.Gen.facts :=
  fun m g m' g' _ hm => ⟨_, _, _, _,
    upTo ((θ_run defs _ _).mono (fun _ h c => And.intro (h.1 c) (h.2 c).1) (θ_run_and (unchanged m g) (run_main m g))) fun r c h =>
      ⟨h.2 5, h.2 6, h.2 7, h.2 8, h.1⟩,
    upTo (Cert.AdamDownRefIdeal.Value.run (F := Ideal) m' g') fun r c => by
      obtain ⟨e0, e1, e2, e3, e4⟩ := hm c
      have u := (halves (b := 1024) (K := 2048) 1024 (by omega) _ _ Cert.AdamDownRefIdeal.Gen.concatenates_S1024x1024_S1024x1024_S2048x1024_d0
        Cert.AdamDownRefIdeal.Gen.slices_S2048x1024_S1024x1024_1024_0 e1 e2).trans (grad_eq m c).symm
      refine And.imp (·.trans (u.trans (arrs m c).1.symm)) ?_
      exact (arrs m c).2.carry (.named ⟨rfl, rfl, rfl⟩ (e0.trans (V_main_arg0 m c).symm) u (e3.trans (V_main_arg3 m c).symm) (e4.trans (V_main_arg4 m c).symm) rfl rfl rfl) id⟩

end Cert.AdamDownIdeal.Calls

end
-- ==== Proof.SumSmallKernel.lean ====
/- The sum over the devices of the loss and of the small gradients: what the call leaves in its array, and what the lines
   after it unpack out of that array. -/
module

public import proofs.«01_k».proof.Proof.AdamBlocks
public import proofs.«01_k».proof.Proof.Windows
public import proofs.«01_k».proof.Proof.Gen.SumSmallIdeal.Frame
public import Idealize.ShloMosaic.Lib.ValueLayout

@[expose] public section

set_option maxRecDepth 16384

noncomputable section

namespace Cert.SumSmallIdeal.Calls

open Cert.SumSmallIdeal Cert.SumSmallIdeal.Gen Cert.AdamBlocks Cert.Windows
open Idealize.ShloMosaic Idealize.ShloMosaic.TcCoe Idealize.ShloMosaic.ValueIdx Idealize.SL Idealize.SL.Sem

variable (m : (ℓ : Loc nD τ sig) → Buf (Elt Ideal) ℓ) (ρ : Dev nD → PrngReg)

/-! ## The sum -/

/-- The devices' arrays, added up entry by entry. -/
def total (x : Vec Ideal S8x80x1024 .f32) : Vec Ideal S80x1024 .f32 := fun i => ∑ k : Fin 8, x (ValueIdx.ix3 k (i 0) (i 1))

/-- One device's array out of the eight. -/
theorem slice (x : Vec Ideal S8x80x1024 .f32) (k : Fin 8) (inb : ∀ a, (![k.val, 0, 0] : Fin 3 → Nat) a + S1x80x1024.size a ≤ S8x80x1024.size a)
    (r : Fin 80) (q : Fin 1024) :
    shapeCast S80x1024 (View.ld (Val := Elt Ideal) (S := S8x80x1024) (e' := .f32) x (Rect.unit (s := S8x80x1024) ![k.val, 0, 0] S1x80x1024.size inb)) shapeCasts_S1x80x1024_S80x1024 (ValueIdx.ix2 r q)
      = x (ValueIdx.ix3 k r q) := by
  refine (shapeCast_1ab_ab_apply _ _ r q).trans (congrArg x (funext fun a => Fin.ext ?_))
  fin_cases a
  · show k.val + 1 * 0 = k.val
    omega
  · show 0 + 1 * r.val = r.val
    omega
  · show 0 + 1 * q.val = q.val
    omega

theorem stored_total (x : Vec Ideal S8x80x1024 .f32) : out0_1 (F := Ideal) x = total x := by
  refine Eq.trans (View.canon_unit_zero (Val := Elt Ideal) (S := S80x1024) (e := .f32) hz2 inb_S80x1024_S80x1024_0_0 _) (funext fun i => ?_)
  obtain ⟨r, q, rfl⟩ : ∃ (r : Fin 80) (q : Fin 1024), i = ValueIdx.ix2 r q := ⟨i 0, i 1, eq_ix2 i⟩
  have s := fun k inb => slice x k inb r q
  refine Eq.trans ?_ (Fin.sum_univ_eight fun k => x (ValueIdx.ix3 k r q)).symm
  rw [← s 0 inb_S8x80x1024_S1x80x1024_0_0_0, ← s 1 inb_S8x80x1024_S1x80x1024_1_0_0, ← s 2 inb_S8x80x1024_S1x80x1024_2_0_0,
    ← s 3 inb_S8x80x1024_S1x80x1024_3_0_0, ← s 4 inb_S8x80x1024_S1x80x1024_4_0_0, ← s 5 inb_S8x80x1024_S1x80x1024_5_0_0,
    ← s 6 inb_S8x80x1024_S1x80x1024_6_0_0, ← s 7 inb_S8x80x1024_S1x80x1024_7_0_0]
  rfl

/-- An array as launched. -/
abbrev arg (c : Dev nD) (b : Ref sig .tc) : Buf (Elt Ideal) ((c : Thread nD τ).loc b) := m ((c : Thread nD τ).loc b)

/-- The one block of each window is its whole array. -/
theorem whole_in (c : Dev nD) (t : Fin cfg0.N) : iblk m c 0 t = arg m c main_arg0 := funext fun y =>
  congrArg (arg m c main_arg0) (show (win0_0.rect t).emb y = y from funext fun a => Fin.ext (by
    fin_cases a
    · exact embAt win0_0 t 0 8 (y 0 : Nat) (j := 0) (n := (y 0 : Nat)) rfl (by omega)
    · exact embAt win0_0 t 1 80 (y 1 : Nat) (j := 0) (n := (y 1 : Nat)) rfl (by omega)
    · exact embAt win0_0 t 2 1024 (y 2 : Nat) (j := 0) (n := (y 2 : Nat)) rfl (by omega)))
theorem whole_out (G : Vec Ideal S80x1024 .f32) (t : Fin cfg0.N) : G = (win0_1.blk t).view.read (Elt Ideal) G := funext fun y =>
  congrArg G (show y = (win0_1.rect t).emb y from (funext fun a => Fin.ext (by
    fin_cases a
    · exact embAt win0_1 t 0 80 (y 0 : Nat) (j := 0) (n := (y 0 : Nat)) rfl (by omega)
    · exact embAt win0_1 t 1 1024 (y 1 : Nat) (j := 0) (n := (y 1 : Nat)) rfl (by omega))).symm)

theorem arr (c : Dev nD) : (dats m 0 c).arrAt 1 cfg0.N = total (arg m c main_arg0) :=
  held (dats m 0 c) 1 _ (fun t => (after0_1 m c t).trans ((stored_total (iblk m c 0 t)).trans (congrArg total (whole_in m c t)))) (hG := fun t => whole_out _ t)

/-! ## Unpacking it -/

section Unpack

variable (T : Vec Ideal S80x1024 .f32)

/-- Row `k`, as the host takes it out. -/
abbrev row (k : Nat) (h : S80x1024.Slices ![k, 0] S1x1024) : Vec Ideal S1x1024 .f32 :=
  broadcastInDim S1x1024 ![1] bcast_S1024_S1x1024_1 (shapeCast S1024 (extractStridedSlice S1x1024 ![k, 0] T h) shapeCasts_S1x1024_S1024)

/-- The loss. -/
abbrev loss : Vec Ideal S_ .f32 := shapeCast S_ (extractStridedSlice S1x1 ![57, 0] T slices_S80x1024_S1x1_57_0) shapeCasts_S1x1_S_
/-- The gradient of the modulation's bias: twelve rows. -/
abbrev adaB : Vec Ideal S2x6144 .f32 := shapeCast S2x6144 (concatenate S12x1024 0 [
    ⟨S1x1024, row T 3 slices_S80x1024_S1x1024_3_0⟩, ⟨S1x1024, row T 2 slices_S80x1024_S1x1024_2_0⟩, ⟨S1x1024, row T 0 slices_S80x1024_S1x1024_0_0⟩,
    ⟨S1x1024, row T 11 slices_S80x1024_S1x1024_11_0⟩, ⟨S1x1024, row T 10 slices_S80x1024_S1x1024_10_0⟩, ⟨S1x1024, row T 8 slices_S80x1024_S1x1024_8_0⟩,
    ⟨S1x1024, row T 19 slices_S80x1024_S1x1024_19_0⟩, ⟨S1x1024, row T 18 slices_S80x1024_S1x1024_18_0⟩, ⟨S1x1024, row T 16 slices_S80x1024_S1x1024_16_0⟩,
    ⟨S1x1024, row T 27 slices_S80x1024_S1x1024_27_0⟩, ⟨S1x1024, row T 26 slices_S80x1024_S1x1024_26_0⟩, ⟨S1x1024, row T 24 slices_S80x1024_S1x1024_24_0⟩]
  concatenates_S1x1024_S1x1024_S1x1024_S1x1024_S1x1024_S1x1024_S1x1024_S1x1024_S1x1024_S1x1024_S1x1024_S1x1024_S12x1024_d0) shapeCasts_S12x1024_S2x6144
/-- The gradients of the norms in front of the mixers, and of those in front of the MLPs. -/
abbrev mixNorm : Vec Ideal S2x1024 .f32 := concatenate S2x1024 0 [⟨S1x1024, row T 1 slices_S80x1024_S1x1024_1_0⟩, ⟨S1x1024, row T 17 slices_S80x1024_S1x1024_17_0⟩] concatenates_S1x1024_S1x1024_S2x1024_d0
abbrev mlpNorm : Vec Ideal S2x1024 .f32 := concatenate S2x1024 0 [⟨S1x1024, row T 9 slices_S80x1024_S1x1024_9_0⟩, ⟨S1x1024, row T 25 slices_S80x1024_S1x1024_25_0⟩] concatenates_S1x1024_S1x1024_S2x1024_d0
/-- Five rows of 3072 columns: the gradients of the filter of the state-space mixer and of its bias. -/
abbrev filter : Vec Ideal S5x3072 .f32 := shapeCast S5x3072 (extractStridedSlice S15x1024 ![32, 0] T slices_S80x1024_S15x1024_32_0) shapeCasts_S15x1024_S5x3072
abbrev convW : Vec Ideal S4x3072 .f32 := extractStridedSlice S4x3072 ![0, 0] (filter T) slices_S5x3072_S4x3072_0_0
abbrev convB : Vec Ideal S1x3072 .f32 := extractStridedSlice S1x3072 ![4, 0] (filter T) slices_S5x3072_S1x3072_4_0
/-- The gradients of the scan's three vectors. -/
abbrev dtBias : Vec Ideal S1x32 .f32 := extractStridedSlice S1x32 ![74, 0] T slices_S80x1024_S1x32_74_0
abbrev aLog : Vec Ideal S1x32 .f32 := extractStridedSlice S1x32 ![72, 0] T slices_S80x1024_S1x32_72_0
abbrev skip : Vec Ideal S1x32 .f32 := extractStridedSlice S1x32 ![73, 0] T slices_S80x1024_S1x32_73_0
/-- The gradients of the gated norm, of the short filter and of the last norm. -/
abbrev ssdNorm : Vec Ideal S1x2048 .f32 := shapeCast S1x2048 (extractStridedSlice S2x1024 ![48, 0] T slices_S80x1024_S2x1024_48_0) shapeCasts_S2x1024_S1x2048
abbrev scConv : Vec Ideal S3x1024 .f32 := extractStridedSlice S3x1024 ![64, 0] T slices_S80x1024_S3x1024_64_0
abbrev finalNorm : Vec Ideal S1024 .f32 := shapeCast S1024 (extractStridedSlice S1x1024 ![56, 0] T slices_S80x1024_S1x1024_56_0) shapeCasts_S1x1024_S1024

end Unpack

/-- What the lines after the call leave in an array. -/
abbrev last (c : Dev nD) (b : Ref sig .tc) : Buf (Elt Ideal) ((c : Thread nD τ).loc b) := Pipeline.afterTail₀ cfgs (dats m) 0 (V0 m) [hostOps1] c b

/-- What the call leaves in the array of sums. -/
theorem left (c : Dev nD) : Pipeline.withArrays spec0 c (V0 m c) (fun w => (dats m 0 c).arrAt w cfg0.N) (Proc.devRef .tc (Pipeline.arrRef spec0 1))
    = total (arg m c main_arg0) :=
  (Pipeline.withArrays_arr spec0 winFacts0.arr_inj c _ _ 1).trans (arr m c)

set_option maxHeartbeats 2000000 in
/-- The lines after the call, over any contents. -/
theorem lines (c : Dev nD) (W : (b : DevRef τ sig) → Buf (Elt Ideal) ((c, b) : Loc nD τ sig)) (T : Vec Ideal S80x1024 .f32) (h : W main_v0 = T) :
    StableHlo.after hostOps1 W main_v2 = loss T ∧ StableHlo.after hostOps1 W main_v42 = adaB T
    ∧ StableHlo.after hostOps1 W main_v49 = mixNorm T ∧ StableHlo.after hostOps1 W main_v56 = mlpNorm T
    ∧ StableHlo.after hostOps1 W main_v57 = convW T ∧ StableHlo.after hostOps1 W main_v58 = convB T
    ∧ StableHlo.after hostOps1 W main_v59 = dtBias T ∧ StableHlo.after hostOps1 W main_v60 = aLog T ∧ StableHlo.after hostOps1 W main_v61 = skip T
    ∧ StableHlo.after hostOps1 W main_v63 = ssdNorm T ∧ StableHlo.after hostOps1 W main_v64 = scConv T ∧ StableHlo.after hostOps1 W main_v66 = finalNorm T := by
  subst h
  refine ⟨?_, ?_, ?_, ?_, ?_, ?_, ?_, ?_, ?_, ?_, ?_, ?_⟩ <;> after_results_simp <;> (try dsimp only [Matrix.cons_val]) <;> (try after_results_simp) <;> rfl

/-- The run: every array as the lines after the call leave it. -/
theorem run : θ_run defs (onTc (τ := τ) (main (F := Ideal))) ⟨m, fun _ => 0, ρ⟩ (fun r => ∀ c : Dev nD,
      r.2.mem ((c : Thread nD τ).loc main_arg0) = arg m c main_arg0 ∧ ∀ b ∈ Pipeline.restRefs sig spec0, r.2.mem ((c : Thread nD τ).loc b) = last m c b) :=
  (θ_run defs _ _).mono (fun _ h c => ⟨((h c).1 0).trans (((dats m 0 c).arrAt_in 0 rfl _).trans (V_main_arg0 m c)), (h c).2⟩) (run_main m ρ)

end Cert.SumSmallIdeal.Calls

end
-- ==== Proof.SumSmallEquation.lean ====
/- The sum over the devices of the loss and of the small gradients against the plain sum. -/
module

public import proofs.«01_k».proof.Defs
public import proofs.«01_k».proof.Proof.SumSmallKernel
public import proofs.«01_k».proof.Proof.Gen.SumSmallRefIdeal.Run
public import Idealize.ShloMosaic.Lib.Pointwise.Reduce

@[expose] public section

set_option maxRecDepth 16384

noncomputable section

namespace Cert.SumSmallIdeal.Calls

open Cert.SumSmallIdeal Cert.SumSmallIdeal.Gen Cert.Windows
open Idealize.ShloMosaic Idealize.ShloMosaic.TcCoe Idealize.SL Idealize.SL.Sem

/-- The plain sum over the first axis. -/
theorem plain (x : Vec Ideal S8x80x1024 .f32) (h : S8x80x1024.ReducesTo [0] S80x1024) (hz : 0 < (⟨0, ![]⟩ : Shape).numel) :
    Host.reduceAdd x (constant (F := Ideal) ⟨0, ![]⟩ .f32 0x00000000#32) h hz = total x := funext fun i => by
  refine (Ideal.hostReduceAdd_r3_a0 h x _ i).trans ?_
  refine (congrArg (· + _) (show _ = (0 : EReal) from ?_)).trans (zero_add _)
  exact Ideal.ofBits_zero_f32

set_option maxHeartbeats 2000000 in
theorem equation : @algebraic_SumSmallIdeal_SumSmallRefIdeal Cert.SumSmallIdeal.Gen.facts Cert.SumSmallRefIdeal.Gen.facts :=
  fun m g m' g' _ hm => ⟨_, _, _, _, _, _, _, _, _, _, _, _,
    upTo (run m g) fun r c h =>
      have f := fun (b : Ref sig .tc) hs ha => h.2 b (Pipeline.mem_restRefs_of b hs ha)
      have ⟨l0, l1, l2, l3, l4, l5, l6, l7, l8, l9, l10, l11⟩ := lines c _ _ (left m c)
      ⟨(f main_v2 (by decide) (by decide)).trans l0, (f main_v42 (by decide) (by decide)).trans l1, (f main_v49 (by decide) (by decide)).trans l2,
        (f main_v56 (by decide) (by decide)).trans l3, (f main_v57 (by decide) (by decide)).trans l4, (f main_v58 (by decide) (by decide)).trans l5,
        (f main_v59 (by decide) (by decide)).trans l6, (f main_v60 (by decide) (by decide)).trans l7, (f main_v61 (by decide) (by decide)).trans l8,
        (f main_v63 (by decide) (by decide)).trans l9, (f main_v64 (by decide) (by decide)).trans l10, (f main_v66 (by decide) (by decide)).trans l11, h.1⟩,
    upTo (Cert.SumSmallRefIdeal.Value.run (F := Ideal) m' g') fun r c => by
      have s := (plain _ Cert.SumSmallRefIdeal.Gen.reducesTo_S8x80x1024_S80x1024_d0 Cert.SumSmallRefIdeal.Gen.h_S_).trans (congrArg total (hm c))
      refine And.imp (·.trans (congrArg loss s)) ?_
      refine And.imp (·.trans (Eq.trans (by unfold Cert.SumSmallRefIdeal.Value.res_main_v42; rfl) (congrArg adaB s))) ?_
      refine And.imp (·.trans (congrArg mixNorm s)) (And.imp (·.trans (congrArg mlpNorm s)) ?_)
      refine And.imp (·.trans (congrArg convW s)) (And.imp (·.trans (congrArg convB s)) ?_)
      refine And.imp (·.trans (congrArg dtBias s)) (And.imp (·.trans (congrArg aLog s)) (And.imp (·.trans (congrArg skip s)) ?_))
      exact And.imp (·.trans (congrArg ssdNorm s)) (And.imp (·.trans (congrArg scConv s)) (And.imp (·.trans (congrArg finalNorm s)) id))⟩

end Cert.SumSmallIdeal.Calls

end
-- ==== Proof.AdaDwSpec.lean ====
/- The gradient of the modulation's weight: the activation through the hyperbolic tangent and through the exponential, and a
   product over eight rows that stand above eight rows of zeros. -/
module

public import proofs.«01_k».proof.Proof.ProdSpec

@[expose] public section

noncomputable section

namespace Cert.AdaDwSpec

open Idealize.ShloMosaic Idealize.ShloMosaic.ValueIdx Cert.Rows Cert.ProdSpec
open scoped BigOperators

/-! ## The activation -/

/-- The word of one half. -/
theorem half_word : Ideal.ofBits .f32 0x3F000000#32 = ((1 / 2 : ℝ) : EReal) := by
  simp [Ideal.ofBits, Ideal.ieee, -EReal.coe_mul]
  norm_num

/-- On the reals the two forms of the logistic function agree. -/
theorem tanh_form (x : ℝ) : 1 / 2 * Real.tanh (1 / 2 * x) + 1 / 2 = (1 + Real.exp (-x))⁻¹ := by
  have hp : 0 < Real.exp (1 / 2 * x) := Real.exp_pos _
  have e : Real.exp (-x) = (Real.exp (1 / 2 * x))⁻¹ * (Real.exp (1 / 2 * x))⁻¹ := by
    rw [← Real.exp_neg, ← Real.exp_add]
    congr 1
    ring
  rw [Real.tanh_eq_sinh_div_cosh, Real.sinh_eq, Real.cosh_eq, e, Real.exp_neg]
  generalize Real.exp (1 / 2 * x) = p at hp
  field_simp
  ring

/-- The logistic function through the hyperbolic tangent, on the extended reals. -/
theorem logistic_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe x =>
    rw [← EReal.coe_mul, Ideal.tanh_coe, Ideal.logistic_coe, ← EReal.coe_mul, ← EReal.coe_add, tanh_form]

/-- The activation. -/
def act (x : EReal) : EReal := x * Ideal.logistic x

/-! ## The product -/

/-- The activation's product with `Y` over the rows of both. -/
def grad {k a b : Nat} (X : (M k a).Idx → EReal) (Y : (M k b).Idx → EReal) (r : Fin a) (q : Fin b) : EReal :=
  ∑ e : Fin k, act (X (ix2 e r)) * Y (ix2 e q)

/-- Eight rows above eight rows of zeros. -/
def padded {a : Nat} (X : (M 8 a).Idx → EReal) : (M 16 a).Idx → EReal := fun i =>
  if h : (i 0).val < 8 then X (ix2 ⟨(i 0).val, h⟩ (i 1)) else 0

theorem padded_top {a : Nat} (X : (M 8 a).Idx → EReal) (e : Fin 8) (r : Fin a) : padded X (ix2 (cl (n := 8) e) r) = X (ix2 e r) :=
  dif_pos (show (cl (n := 8) e).val < 8 from e.isLt)
theorem padded_rest {a : Nat} (X : (M 8 a).Idx → EReal) (e : Fin 8) (r : Fin a) : padded X (ix2 (cr (p := 8) e) r) = 0 :=
  dif_neg (show ¬ (cr (p := 8) e).val < 8 by show ¬ 8 + e.val < 8; omega)

/-- The rows of zeros add nothing. -/
theorem grad_padded {a b : Nat} (X : (M 8 a).Idx → EReal) (Y : (M 8 b).Idx → EReal) (r : Fin a) (q : Fin b) :
    grad (padded X) (padded Y) r q = grad X Y r q := by
  refine (sum_parts (p := 8) (n := 8) _).trans ?_
  refine (add2 (sum2 fun e => mul2 (congrArg act (padded_top X e r)) (padded_top Y e q)) (sum2 fun e => ?_)).trans
    ((congrArg (grad X Y r q + ·) Finset.sum_const_zero).trans (add_zero _))
  exact (congrArg (_ * ·) (padded_rest Y e q)).trans (mul_zero _)

/-- The host's concatenation with zeros. -/
theorem concatenate_padded {a : Nat} (X Z : (M 8 a).Idx → EReal) (hz : ∀ i, Z i = 0) (h : Shape.Concatenates [M 8 a, M 8 a] (M 16 a) 0) :
    concatenate (M 16 a) 0 [⟨M 8 a, X⟩, ⟨M 8 a, Z⟩] h = padded X := funext fun i => by
  obtain ⟨k, r, rfl⟩ : ∃ (k : Fin 16) (r : Fin a), i = ix2 k r := ⟨i 0, i 1, eq_ix2 i⟩
  rcases col_cases (p := 8) (n := 8) k with ⟨e, rfl⟩ | ⟨e, rfl⟩
  · refine (concatenate_pair_apply_left (t := M 16 a) 0 X Z h _ rfl (ix2 e r) fun d => ?_).trans (padded_top X e r).symm
    fin_cases d <;> rfl
  · refine (concatenate_pair_apply_right (t := M 16 a) 0 X Z h _ rfl rfl (ix2 e r) (fun d hd => ?_) ?_).trans ((hz _).trans (padded_rest X e r).symm)
    · fin_cases d
      · exact absurd rfl hd
      · rfl
    · exact Nat.add_comm e.val 8

end Cert.AdaDwSpec

end
-- ==== Proof.AdaDwKernel.lean ====
/- The gradient of the modulation's weight, one layer: what one block computes, and what the result holds after the run. -/
module

public import proofs.«01_k».proof.Proof.Windows
public import proofs.«01_k».proof.Proof.Gen.AdaDwIdeal.Value
public import proofs.«01_k».proof.Proof.AdaDwSpec

@[expose] public section

set_option maxRecDepth 16384

noncomputable section

namespace Cert.AdaDwIdeal.Calls

open Cert.Windows Cert.AdaDwIdeal Cert.AdaDwIdeal.Gen Cert.AdaDwSpec Cert.ProdSpec Cert.Rows Cert.Dots
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The conditioning rows. -/
abbrev aC (c : Dev nD) : (M 8 1024).Idx → EReal := m ((c : Thread nD τ).loc main_arg0)
/-- The modulation's gradient. -/
abbrev aD (c : Dev nD) : (M 8 1536).Idx → EReal := m ((c : Thread nD τ).loc main_arg1)

theorem hz2 : (![0, 0] : Fin 2 → Nat) = fun _ => 0 := funext fun a => by fin_cases a <;> rfl

/-- The conditioning rows as the call takes them. -/
theorem rows0 (c : Dev nD) : V m c main_v1 = padded (aC m c) := by
  have h : V m c main_v1 = concatenate S16x1024 0 [⟨S8x1024, aC m c⟩, ⟨S8x1024, broadcastInDim S8x1024 ![] bcast_S_S8x1024 (constant (F := Ideal) S_ .f32 0x00000000#32)⟩]
      concatenates_S8x1024_S8x1024_S16x1024_d0 := by
    show StableHlo.after hostOps0 (fun b => m (c, b)) main_v1 = _
    after_results_simp <;> rfl
  exact h.trans (concatenate_padded _ _ (zeros_apply _) _)
/-- The modulation's gradient as the call takes it. -/
theorem rows1 (c : Dev nD) : V m c main_v3 = padded (aD m c) := by
  have h : V m c main_v3 = concatenate S16x1536 0 [⟨S8x1536, aD m c⟩, ⟨S8x1536, broadcastInDim S8x1536 ![] bcast_S_S8x1536 (constant (F := Ideal) S_ .f32 0x00000000#32)⟩]
      concatenates_S8x1536_S8x1536_S16x1536_d0 := by
    show StableHlo.after hostOps0 (fun b => m (c, b)) main_v3 = _
    after_results_simp <;> rfl
  exact h.trans (concatenate_padded _ _ (zeros_apply _) _)

/-! ## The blocks -/

theorem idx0 : ∀ t : Fin cfg0.N, win0_0.index t (0 : Fin 2) = 0 ∧ win0_0.index t (1 : Fin 2) = t.val / 3
    ∧ win0_1.index t (0 : Fin 2) = 0 ∧ win0_1.index t (1 : Fin 2) = t.val % 3
    ∧ win0_2.index t (0 : Fin 2) = t.val / 3 ∧ win0_2.index t (1 : Fin 2) = t.val % 3 :=
  (by decide +kernel : ∀ t : Fin grid0.N, _)

/-- Row `r` of the block's rows, in the array. -/
def row (t : Fin cfg0.N) (r : Fin 512) : Fin 1024 := ⟨t.val / 3 * 512 + r.val, by have : t.val < 6 := lt_of_lt_of_eq t.isLt N_0; omega⟩
/-- Column `q` of the block's columns, in the array. -/
def col (t : Fin cfg0.N) (q : Fin 512) : Fin 1536 := ⟨t.val % 3 * 512 + q.val, by omega⟩

theorem blk0_0 (c : Dev nD) (t : Fin cfg0.N) (e : Fin 16) (r : Fin 512) : iblk m c 0 t (ix2 e r) = padded (aC m c) (ix2 e (row t r)) := by
  show V m c main_v1 ((win0_0.rect t).emb (ix2 e r)) = _
  rw [rows0]
  obtain ⟨h0, h1, -⟩ := idx0 t
  refine congrArg (padded (aC m c)) (ix2_of _ _ _ ?_ ?_)
  · exact embAt win0_0 t 0 16 e.val h0 (by omega)
  · exact embAt win0_0 t 1 512 r.val h1 rfl

theorem blk0_1 (c : Dev nD) (t : Fin cfg0.N) (e : Fin 16) (q : Fin 512) : iblk m c 1 t (ix2 e q) = padded (aD m c) (ix2 e (col t q)) := by
  show V m c main_v3 ((win0_1.rect t).emb (ix2 e q)) = _
  rw [rows1]
  obtain ⟨-, -, h0, h1, -⟩ := idx0 t
  refine congrArg (padded (aD m c)) (ix2_of _ _ _ ?_ ?_)
  · exact embAt win0_1 t 0 16 e.val h0 (by omega)
  · exact embAt win0_1 t 1 512 q.val h1 rfl

theorem emb1 (t : Fin cfg0.N) (r : Fin 512) (q : Fin 512) : (win0_2.rect t).emb (ix2 r q) = ix2 (row t r) (col t q) := by
  obtain ⟨-, -, -, -, h0, h1⟩ := idx0 t
  refine ix2_of _ _ _ ?_ ?_
  · exact embAt win0_2 t 0 512 r.val h0 rfl
  · exact embAt win0_2 t 1 512 q.val h1 rfl

theorem pay1_apply (x0 x1 : Vec Ideal S16x512 .f32) (r : Fin 512) (q : Fin 512) : (k0_pay1 (F := Ideal) x0 x1 (ix2 r q) : EReal) = grad x0 x1 r q := by
  have e0 : shapeCast S16x512 x0 shapeCasts_S16x512_S16x512 = x0 := shapeCast_self _ _
  have e1 : shapeCast S16x512 x1 shapeCasts_S16x512_S16x512 = x1 := shapeCast_self _ _
  unfold k0_pay1
  rw [e0, e1]
  refine Eq.trans (mm_tn (φ₁ := .bf16) (φ₂ := .bf16) 512 16 512 _ _ r q) (sum2 fun e => mul2 ?_ rfl)
  show x0 (ix2 e r) * (Ideal.ofBits .f32 0x3F000000#32 * Ideal.tanh (Ideal.ofBits .f32 0x3F000000#32 * x0 (ix2 e r)) + Ideal.ofBits .f32 0x3F000000#32) = _
  rw [half_word, logistic_tanh]
  rfl

theorem out0_2_apply (x0 x1 : Vec Ideal S16x512 .f32) : out0_2 (F := Ideal) x0 x1 = k0_pay1 x0 x1 := by
  unfold out0_2 r0_0 r0_1
  rw [View.ld_unit_zero hz2 _ x0, View.ld_unit_zero hz2 _ x1]
  exact View.canon_unit_zero (Val := Elt Ideal) (S := S512x512) (e := .f32) hz2 _ _

/-- The gradient as one array. -/
abbrev G (c : Dev nD) : Buf (Elt Ideal) ((c : Thread nD τ).loc main_v4) := fun i : S1024x1536.Idx => grad (aC m c) (aD m c) (i 0) (i 1)

theorem flushed (c : Dev nD) (t : Fin cfg0.N) : (dats m 0 c).flushed 2 t = ((cfg0.win 2).blk t).view.read (Elt Ideal) (G m c) := by
  show (cfg0.win 2).cut (grid0.coords t) ((dats m 0 c).after 2 t) = _
  rw [after0_2, out0_2_apply]
  refine funext fun y => ?_
  obtain ⟨r, q, rfl⟩ : ∃ (r : Fin 512) (q : Fin 512), y = ix2 r q := ⟨y 0, y 1, eq_ix2 y⟩
  show _ = G m c ((win0_2.rect t).emb (ix2 r q))
  rw [emb1 t r q]
  refine ((pay1_apply _ _ r q).trans ?_).trans (grad_padded (aC m c) (aD m c) (row t r) (col t q))
  exact sum2 fun e => mul2 (congrArg act (blk0_0 m c t e r)) (blk0_1 m c t e q)

/-- The block that holds an index, and its place there. -/
theorem at1 (r : Fin 1024) (q : Fin 1536) : ∃ (t : Fin cfg0.N) (r' q' : Fin 512), row t r' = r ∧ col t q' = q := by
  have ht : r.val / 512 * 3 + q.val / 512 < cfg0.N := by show _ < grid0.N; rw [N_0]; omega
  exact ⟨⟨_, ht⟩, ⟨r.val % 512, by omega⟩, ⟨q.val % 512, by omega⟩,
    Fin.ext (by show (r.val / 512 * 3 + q.val / 512) / 3 * 512 + r.val % 512 = r.val; omega),
    Fin.ext (by show (r.val / 512 * 3 + q.val / 512) % 3 * 512 + q.val % 512 = q.val; omega)⟩

theorem arr (c : Dev nD) : (dats m 0 c).arrAt 2 cfg0.N = G m c :=
  (dats m 0 c).arrAt_eq_of_cover 2 (G m c) (fun t _ => flushed m c t) fun i => by
    obtain ⟨r, q, rfl⟩ : ∃ (r : Fin 1024) (q : Fin 1536), i = ix2 r q := ⟨i 0, i 1, eq_ix2 i⟩
    obtain ⟨t, r', q', rfl, rfl⟩ := at1 r q
    refine ⟨t, flush0_2 t, ?_⟩
    rw [← emb1 t r' q']
    exact View.emb_mem_set _ _

end Cert.AdaDwIdeal.Calls

end
-- ==== Proof.AdaDwEquation.lean ====
/- The gradient of the modulation's weight, one layer, against the plain product of the activation with the gradient. -/
module

public import proofs.«01_k».proof.Defs
public import proofs.«01_k».proof.Proof.AdaDwKernel
public import proofs.«01_k».proof.Proof.Gen.AdaDwRefIdeal.Read
public import Idealize.ShloMosaic.Lib.IdealHost

@[expose] public section

set_option maxRecDepth 16384

noncomputable section

namespace Cert.AdaDwRefIdeal.RefValue

open Cert.AdaDwRefIdeal Cert.AdaDwRefIdeal.Gen Cert.AdaDwRefIdeal.Read Cert.AdaDwSpec Cert.Rows Cert.Dots
open Idealize.ShloMosaic Idealize.ShloMosaic.TcCoe Idealize.ShloMosaic.ValueIdx

variable (X : (M 8 1024).Idx → EReal) (Y : (M 8 1536).Idx → EReal)

/-- The activation through the exponential. -/
theorem v0_at (i : (M 8 1024).Idx) : (val_main_v0 (F := Ideal) X i : EReal) = act (X i) := by
  rw [val_main_v0_apply, val_main_call0_v5_apply, val_main_call0_v4_apply, val_main_call0_v3_apply, val_main_call0_v2_apply]
  show X i * Ideal.div (Ideal.ofBits .f32 0x3F800000#32) (Ideal.ofBits .f32 0x3F800000#32 + Ideal.exp (-X i)) = _
  rw [Ideal.ofBits_one_f32]
  rfl

theorem v6_eq : val_main_v6 (F := Ideal) X Y = fun i : (M 1024 1536).Idx => grad X Y (i 0) (i 1) := funext fun i => by
  obtain ⟨r, q, rfl⟩ : ∃ (r : Fin 1024) (q : Fin 1536), i = ix2 r q := ⟨i 0, i 1, eq_ix2 i⟩
  refine (dg_nn (φ₁ := .f32) (φ₂ := .f32) 1024 8 1536 (val_main_v3 (F := Ideal) X) Y r q).trans (sum2 fun e => mul2 ?_ rfl)
  exact (transpose_ix2_apply (val_main_v0 (F := Ideal) X) transposes_S8x1024_S1024x8_1_0 r e).trans (v0_at X _)

end Cert.AdaDwRefIdeal.RefValue

namespace Cert.AdaDwIdeal.Calls

open Cert.AdaDwIdeal Cert.AdaDwIdeal.Gen Cert.AdaDwSpec Cert.Windows
open Idealize.ShloMosaic Idealize.ShloMosaic.TcCoe Idealize.SL Idealize.SL.Sem

theorem equation : @algebraic_AdaDwIdeal_AdaDwRefIdeal Cert.AdaDwIdeal.Gen.facts Cert.AdaDwRefIdeal.Gen.facts :=
  fun m g m' g' _ hm => ⟨G m,
    upTo (Value.run_blocks m g) fun r c h => ⟨h.1.trans (arr m c), h.2⟩,
    upTo (Cert.AdaDwRefIdeal.Value.run (F := Ideal) m' g') fun r c h => by
      refine ⟨h.1.trans ?_, h.2⟩
      rw [Cert.AdaDwRefIdeal.Read.val_main_v6_eq, (hm c).1, (hm c).2]
      exact Cert.AdaDwRefIdeal.RefValue.v6_eq _ _⟩

end Cert.AdaDwIdeal.Calls

end
-- ==== Proof.AdamVecCalls.lean ====
/- The optimiser's calls on the vectors and the short filters: each has one block, the whole array. -/
module

public import proofs.«01_k».proof.Proof.Gen.AdamVecIdeal.Frame
public import proofs.«01_k».proof.Proof.AdamBlocks

@[expose] public section

set_option maxRecDepth 16384

noncomputable section

namespace Cert.AdamVecIdeal.Calls

open Cert.AdamVecIdeal Cert.AdamVecIdeal.Gen Cert.AdamSpec Cert.AdamBlocks
open Idealize.ShloMosaic Idealize.ShloMosaic.TcCoe

variable (V : (c : Dev nD) → (b : Ref sig .tc) → Buf (Elt Ideal) ((c : Thread nD τ).loc b))

/-- The modulation's bias. -/
theorem arr0 (c : Dev nD) : Stepped (S := S2x6144) (V c main_arg0) (V c main_arg1) (V c main_arg2) (V c main_arg3)
    ((dat0 V c).arrAt 4 cfg0.N) ((dat0 V c).arrAt 5 cfg0.N) ((dat0 V c).arrAt 6 cfg0.N) :=
  ⟨held (dat0 V c) 4 _ fun t => (after0_4 V c t).trans (stored hz2 inb_S2x6144_S2x6144_0_0 deltas _ _ _ _),
    held (dat0 V c) 5 _ fun t => (after0_5 V c t).trans (stored₂ hz2 inb_S2x6144_S2x6144_0_0 mom1s _ _),
    held (dat0 V c) 6 _ fun t => (after0_6 V c t).trans (stored₂ hz2 inb_S2x6144_S2x6144_0_0 mom2s _ _)⟩

/-- The weights of the norms. -/
theorem arr1 (c : Dev nD) : Stepped (S := S2x1024) (V c main_arg4) (V c main_arg5) (V c main_arg6) (V c main_arg7)
    ((dat1 V c).arrAt 4 cfg1.N) ((dat1 V c).arrAt 5 cfg1.N) ((dat1 V c).arrAt 6 cfg1.N) :=
  ⟨held (dat1 V c) 4 _ fun t => (after1_4 V c t).trans (stored hz2 inb_S2x1024_S2x1024_0_0 deltas _ _ _ _),
    held (dat1 V c) 5 _ fun t => (after1_5 V c t).trans (stored₂ hz2 inb_S2x1024_S2x1024_0_0 mom1s _ _),
    held (dat1 V c) 6 _ fun t => (after1_6 V c t).trans (stored₂ hz2 inb_S2x1024_S2x1024_0_0 mom2s _ _)⟩

/-- The long mixer's filter. -/
theorem arr2 (c : Dev nD) : Stepped (S := S4x768) (V c main_arg8) (V c main_arg9) (V c main_arg10) (V c main_arg11)
    ((dat2 V c).arrAt 4 cfg2.N) ((dat2 V c).arrAt 5 cfg2.N) ((dat2 V c).arrAt 6 cfg2.N) :=
  ⟨held (dat2 V c) 4 _ fun t => (after2_4 V c t).trans (stored hz2 inb_S4x768_S4x768_0_0 deltas _ _ _ _),
    held (dat2 V c) 5 _ fun t => (after2_5 V c t).trans (stored₂ hz2 inb_S4x768_S4x768_0_0 mom1s _ _),
    held (dat2 V c) 6 _ fun t => (after2_6 V c t).trans (stored₂ hz2 inb_S4x768_S4x768_0_0 mom2s _ _)⟩

/-- Its filter's bias. -/
theorem arr3 (c : Dev nD) : Stepped (S := S1x3072) (V c main_arg12) (V c main_arg13) (V c main_arg14) (V c main_arg15)
    ((dat3 V c).arrAt 4 cfg3.N) ((dat3 V c).arrAt 5 cfg3.N) ((dat3 V c).arrAt 6 cfg3.N) :=
  ⟨held (dat3 V c) 4 _ fun t => (after3_4 V c t).trans (stored hz2 inb_S1x3072_S1x3072_0_0 deltas _ _ _ _),
    held (dat3 V c) 5 _ fun t => (after3_5 V c t).trans (stored₂ hz2 inb_S1x3072_S1x3072_0_0 mom1s _ _),
    held (dat3 V c) 6 _ fun t => (after3_6 V c t).trans (stored₂ hz2 inb_S1x3072_S1x3072_0_0 mom2s _ _)⟩

/-- Its rates and skips. -/
theorem arr4 (c : Dev nD) : Stepped (S := S1x32) (V c main_arg16) (V c main_arg17) (V c main_arg18) (V c main_arg19)
    ((dat4 V c).arrAt 4 cfg4.N) ((dat4 V c).arrAt 5 cfg4.N) ((dat4 V c).arrAt 6 cfg4.N) :=
  ⟨held (dat4 V c) 4 _ fun t => (after4_4 V c t).trans (stored hz2 inb_S1x32_S1x32_0_0 deltas _ _ _ _),
    held (dat4 V c) 5 _ fun t => (after4_5 V c t).trans (stored₂ hz2 inb_S1x32_S1x32_0_0 mom1s _ _),
    held (dat4 V c) 6 _ fun t => (after4_6 V c t).trans (stored₂ hz2 inb_S1x32_S1x32_0_0 mom2s _ _)⟩

/-- The weight of its gated norm. -/
theorem arr5 (c : Dev nD) : Stepped (S := S1x2048) (V c main_arg20) (V c main_arg21) (V c main_arg22) (V c main_arg23)
    ((dat5 V c).arrAt 4 cfg5.N) ((dat5 V c).arrAt 5 cfg5.N) ((dat5 V c).arrAt 6 cfg5.N) :=
  ⟨held (dat5 V c) 4 _ fun t => (after5_4 V c t).trans (stored hz2 inb_S1x2048_S1x2048_0_0 deltas _ _ _ _),
    held (dat5 V c) 5 _ fun t => (after5_5 V c t).trans (stored₂ hz2 inb_S1x2048_S1x2048_0_0 mom1s _ _),
    held (dat5 V c) 6 _ fun t => (after5_6 V c t).trans (stored₂ hz2 inb_S1x2048_S1x2048_0_0 mom2s _ _)⟩

/-- The short mixer's filter. -/
theorem arr6 (c : Dev nD) : Stepped (S := S3x256) (V c main_arg24) (V c main_arg25) (V c main_arg26) (V c main_arg27)
    ((dat6 V c).arrAt 4 cfg6.N) ((dat6 V c).arrAt 5 cfg6.N) ((dat6 V c).arrAt 6 cfg6.N) :=
  ⟨held (dat6 V c) 4 _ fun t => (after6_4 V c t).trans (stored hz2 inb_S3x256_S3x256_0_0 deltas _ _ _ _),
    held (dat6 V c) 5 _ fun t => (after6_5 V c t).trans (stored₂ hz2 inb_S3x256_S3x256_0_0 mom1s _ _),
    held (dat6 V c) 6 _ fun t => (after6_6 V c t).trans (stored₂ hz2 inb_S3x256_S3x256_0_0 mom2s _ _)⟩

/-- The last norm's weight. -/
theorem arr7 (c : Dev nD) : Stepped (S := S1x1024) (V c main_arg28) (V c main_arg29) (V c main_arg30) (V c main_arg31)
    ((dat7 V c).arrAt 4 cfg7.N) ((dat7 V c).arrAt 5 cfg7.N) ((dat7 V c).arrAt 6 cfg7.N) :=
  ⟨held (dat7 V c) 4 _ fun t => (after7_4 V c t).trans (stored hz2 inb_S1x1024_S1x1024_0_0 deltas _ _ _ _),
    held (dat7 V c) 5 _ fun t => (after7_5 V c t).trans (stored₂ hz2 inb_S1x1024_S1x1024_0_0 mom1s _ _),
    held (dat7 V c) 6 _ fun t => (after7_6 V c t).trans (stored₂ hz2 inb_S1x1024_S1x1024_0_0 mom2s _ _)⟩

end Cert.AdamVecIdeal.Calls

end
-- ==== Proof.AdamVecKernel.lean ====
/- The optimiser's calls on the vectors and the short filters: what the results hold in the end. -/
module

public import proofs.«01_k».proof.Proof.AdamVecCalls
public import Idealize.ShloMosaic.Adequacy
public import Idealize.ShloMosaic.Init

@[expose] public section

set_option maxRecDepth 16384

noncomputable section

namespace Cert.AdamVecIdeal.Calls

open Cert.AdamVecIdeal Cert.AdamVecIdeal.Gen Cert.AdamSpec
open Idealize.ShloMosaic Idealize.ShloMosaic.TcCoe Idealize.ShloMosaic.ValueIdx Idealize.SL.Sem Idealize.SL
open Idealize.ShloMosaic.Pipeline (Dat)

variable (m : (ℓ : Loc nD τ sig) → Buf (Elt Ideal) ℓ) (ρ : Dev nD → PrngReg)

/-! ## Later calls leave a result alone -/

section Kept

variable {m ρ} {c : Dev nD} {r : Ref sig .tc}

theorem kept7 (h : ∀ w, Pipeline.arrRef spec7 w = r → (cfg7.win w).isOut = false := by decide +kernel) : W8 m ρ c r = W7 m ρ c r := W8_of m ρ c r h
theorem kept6 (e : W8 m ρ c r = W7 m ρ c r := by exact kept7) (h : ∀ w, Pipeline.arrRef spec6 w = r → (cfg6.win w).isOut = false := by decide +kernel) :
    W8 m ρ c r = W6 m ρ c r := e.trans (W7_of m ρ c r h)
theorem kept5 (e : W8 m ρ c r = W6 m ρ c r := by exact kept6) (h : ∀ w, Pipeline.arrRef spec5 w = r → (cfg5.win w).isOut = false := by decide +kernel) :
    W8 m ρ c r = W5 m ρ c r := e.trans (W6_of m ρ c r h)
theorem kept4 (e : W8 m ρ c r = W5 m ρ c r := by exact kept5) (h : ∀ w, Pipeline.arrRef spec4 w = r → (cfg4.win w).isOut = false := by decide +kernel) :
    W8 m ρ c r = W4 m ρ c r := e.trans (W5_of m ρ c r h)
theorem kept3 (e : W8 m ρ c r = W4 m ρ c r := by exact kept4) (h : ∀ w, Pipeline.arrRef spec3 w = r → (cfg3.win w).isOut = false := by decide +kernel) :
    W8 m ρ c r = W3 m ρ c r := e.trans (W4_of m ρ c r h)
theorem kept2 (e : W8 m ρ c r = W3 m ρ c r := by exact kept3) (h : ∀ w, Pipeline.arrRef spec2 w = r → (cfg2.win w).isOut = false := by decide +kernel) :
    W8 m ρ c r = W2 m ρ c r := e.trans (W3_of m ρ c r h)
theorem kept1 (e : W8 m ρ c r = W2 m ρ c r := by exact kept2) (h : ∀ w, Pipeline.arrRef spec1 w = r → (cfg1.win w).isOut = false := by decide +kernel) :
    W8 m ρ c r = W1 m ρ c r := e.trans (W2_of m ρ c r h)

end Kept

/-- An array as launched. -/
abbrev arg (c : Dev nD) (b : Ref sig .tc) : Buf (Elt Ideal) ((c : Thread nD τ).loc b) := m ((c : Thread nD τ).loc b)

/-! ## What the results hold in the end -/

theorem last0 (c : Dev nD) : Stepped (S := S2x6144) (arg m c main_arg0) (arg m c main_arg1) (arg m c main_arg2) (arg m c main_arg3)
    (W8 m ρ c main_v0_0) (W8 m ρ c main_v0_1) (W8 m ρ c main_v0_2) :=
  (arr0 (V0 m ρ) c).named rfl rfl rfl rfl (Eq.trans kept1 (W1_arr m ρ c 4)) (Eq.trans kept1 (W1_arr m ρ c 5)) (Eq.trans kept1 (W1_arr m ρ c 6))

theorem last1 (c : Dev nD) : Stepped (S := S2x1024) (arg m c main_arg4) (arg m c main_arg5) (arg m c main_arg6) (arg m c main_arg7)
    (W8 m ρ c main_v1_0) (W8 m ρ c main_v1_1) (W8 m ρ c main_v1_2) :=
  have a := W1_args m ρ c
  (arr1 (V1 m ρ) c).named (a _ (by decide)) (a _ (by decide)) (a _ (by decide)) (a _ (by decide))
    (Eq.trans kept2 (W2_arr m ρ c 4)) (Eq.trans kept2 (W2_arr m ρ c 5)) (Eq.trans kept2 (W2_arr m ρ c 6))

theorem last2 (c : Dev nD) : Stepped (S := S4x768) (arg m c main_arg8) (arg m c main_arg9) (arg m c main_arg10) (arg m c main_arg11)
    (W8 m ρ c main_v2_0) (W8 m ρ c main_v2_1) (W8 m ρ c main_v2_2) :=
  have a := W2_args m ρ c
  (arr2 (V2 m ρ) c).named (a _ (by decide)) (a _ (by decide)) (a _ (by decide)) (a _ (by decide))
    (Eq.trans kept3 (W3_arr m ρ c 4)) (Eq.trans kept3 (W3_arr m ρ c 5)) (Eq.trans kept3 (W3_arr m ρ c 6))

theorem last3 (c : Dev nD) : Stepped (S := S1x3072) (arg m c main_arg12) (arg m c main_arg13) (arg m c main_arg14) (arg m c main_arg15)
    (W8 m ρ c main_v3_0) (W8 m ρ c main_v3_1) (W8 m ρ c main_v3_2) :=
  have a := W3_args m ρ c
  (arr3 (V3 m ρ) c).named (a _ (by decide)) (a _ (by decide)) (a _ (by decide)) (a _ (by decide))
    (Eq.trans kept4 (W4_arr m ρ c 4)) (Eq.trans kept4 (W4_arr m ρ c 5)) (Eq.trans kept4 (W4_arr m ρ c 6))

theorem last4 (c : Dev nD) : Stepped (S := S1x32) (arg m c main_arg16) (arg m c main_arg17) (arg m c main_arg18) (arg m c main_arg19)
    (W8 m ρ c main_v4_0) (W8 m ρ c main_v4_1) (W8 m ρ c main_v4_2) :=
  have a := W4_args m ρ c
  (arr4 (V4 m ρ) c).named (a _ (by decide)) (a _ (by decide)) (a _ (by decide)) (a _ (by decide))
    (Eq.trans kept5 (W5_arr m ρ c 4)) (Eq.trans kept5 (W5_arr m ρ c 5)) (Eq.trans kept5 (W5_arr m ρ c 6))

theorem last5 (c : Dev nD) : Stepped (S := S1x2048) (arg m c main_arg20) (arg m c main_arg21) (arg m c main_arg22) (arg m c main_arg23)
    (W8 m ρ c main_v5_0) (W8 m ρ c main_v5_1) (W8 m ρ c main_v5_2) :=
  have a := W5_args m ρ c
  (arr5 (V5 m ρ) c).named (a _ (by decide)) (a _ (by decide)) (a _ (by decide)) (a _ (by decide))
    (Eq.trans kept6 (W6_arr m ρ c 4)) (Eq.trans kept6 (W6_arr m ρ c 5)) (Eq.trans kept6 (W6_arr m ρ c 6))

theorem last6 (c : Dev nD) : Stepped (S := S3x256) (arg m c main_arg24) (arg m c main_arg25) (arg m c main_arg26) (arg m c main_arg27)
    (W8 m ρ c main_v6_0) (W8 m ρ c main_v6_1) (W8 m ρ c main_v6_2) :=
  have a := W6_args m ρ c
  (arr6 (V6 m ρ) c).named (a _ (by decide)) (a _ (by decide)) (a _ (by decide)) (a _ (by decide))
    (Eq.trans kept7 (W7_arr m ρ c 4)) (Eq.trans kept7 (W7_arr m ρ c 5)) (Eq.trans kept7 (W7_arr m ρ c 6))

theorem last7 (c : Dev nD) : Stepped (S := S1x1024) (arg m c main_arg28) (arg m c main_arg29) (arg m c main_arg30) (arg m c main_arg31)
    (W8 m ρ c main_v7_0) (W8 m ρ c main_v7_1) (W8 m ρ c main_v7_2) :=
  have a := W7_args m ρ c
  (arr7 (V7 m ρ) c).named (a _ (by decide)) (a _ (by decide)) (a _ (by decide)) (a _ (by decide))
    (W8_arr m ρ c 4) (W8_arr m ρ c 5) (W8_arr m ρ c 6)

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run leaves every array as the last boundary has it. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.AdamVecIdeal.Calls

end
-- ==== Proof.AdamVecEquation.lean ====
/- The optimiser's calls on the vectors and the short filters against the plain update. -/
module

public import proofs.«01_k».proof.Defs
public import proofs.«01_k».proof.Proof.AdamVecKernel
public import proofs.«01_k».proof.Proof.Windows
public import proofs.«01_k».proof.Proof.Gen.AdamVecRefIdeal.Run

@[expose] public section

set_option maxRecDepth 16384

noncomputable section

namespace Cert.AdamVecIdeal.Calls

open Cert.AdamVecIdeal Cert.AdamVecIdeal.Gen Cert.AdamSpec Cert.Windows
open Idealize.ShloMosaic Idealize.ShloMosaic.TcCoe Idealize.SL Idealize.SL.Sem

set_option maxHeartbeats 2000000 in
theorem equation : @algebraic_AdamVecIdeal_AdamVecRefIdeal Cert.AdamVecIdeal.Gen.facts Cert.AdamVecRefIdeal.Gen.facts :=
  fun m g m' g' _ hm => ⟨_, _, _, _, _, _, _, _, _, _, _, _, _, _, _, _, _, _, _, _, _, _, _, _,
    upTo (run m g) fun r c h =>
      have f := fun (b : Ref sig .tc) hb => h _ (mem_uc b hb)
      have a := fun (b : Ref sig .tc) hb hb' => (f b hb).trans (W8_args m g c b hb')
      ⟨f main_v0_0 (by decide), f main_v0_1 (by decide), f main_v0_2 (by decide), f main_v1_0 (by decide), f main_v1_1 (by decide), f main_v1_2 (by decide),
        f main_v2_0 (by decide), f main_v2_1 (by decide), f main_v2_2 (by decide), f main_v3_0 (by decide), f main_v3_1 (by decide), f main_v3_2 (by decide),
        f main_v4_0 (by decide), f main_v4_1 (by decide), f main_v4_2 (by decide), f main_v5_0 (by decide), f main_v5_1 (by decide), f main_v5_2 (by decide),
        f main_v6_0 (by decide), f main_v6_1 (by decide), f main_v6_2 (by decide), f main_v7_0 (by decide), f main_v7_1 (by decide), f main_v7_2 (by decide),
        by and_intros <;> exact a _ (by decide) (by decide)⟩,
    upTo (Cert.AdamVecRefIdeal.Value.run (F := Ideal) m' g') fun r c => by
      obtain ⟨e0, e1, e2, e3, e4, e5, e6, e7, e8, e9, e10, e11, e12, e13, e14, e15, e16, e17, e18, e19, e20, e21, e22, e23, e24, e25, e26, e27, e28,
        e29, e30, e31⟩ := hm c
      exact (last0 m g c).carry (.named ⟨rfl, rfl, rfl⟩ e0 e1 e2 e3 rfl rfl rfl) <| (last1 m g c).carry (.named ⟨rfl, rfl, rfl⟩ e4 e5 e6 e7 rfl rfl rfl) <|
        (last2 m g c).carry (.named ⟨rfl, rfl, rfl⟩ e8 e9 e10 e11 rfl rfl rfl) <| (last3 m g c).carry (.named ⟨rfl, rfl, rfl⟩ e12 e13 e14 e15 rfl rfl rfl) <|
        (last4 m g c).carry (.named ⟨rfl, rfl, rfl⟩ e16 e17 e18 e19 rfl rfl rfl) <| (last5 m g c).carry (.named ⟨rfl, rfl, rfl⟩ e20 e21 e22 e23 rfl rfl rfl) <|
        (last6 m g c).carry (.named ⟨rfl, rfl, rfl⟩ e24 e25 e26 e27 rfl rfl rfl) <| (last7 m g c).carry (.named ⟨rfl, rfl, rfl⟩ e28 e29 e30 e31 rfl rfl rfl) id⟩

end Cert.AdamVecIdeal.Calls

end
-- ==== Proof.AdamMatCalls.lean ====
/- The optimiser's calls on the projections' weights, block by block. -/
module

public import proofs.«01_k».proof.Proof.Gen.AdamMatIdeal.Frame
public import proofs.«01_k».proof.Proof.AdamMatBlocks

@[expose] public section

set_option maxRecDepth 16384

noncomputable section

namespace Cert.AdamMatIdeal.Calls

open Cert.AdamMatIdeal Cert.AdamMatIdeal.Gen Cert.AdamSpec Cert.AdamBlocks
open Idealize.ShloMosaic Idealize.ShloMosaic.TcCoe Idealize.ShloMosaic.ValueIdx

variable (V : (c : Dev nD) → (b : Ref sig .tc) → Buf (Elt Ideal) ((c : Thread nD τ).loc b))

/-- The input weight of the short mixer. -/
theorem arr0 (c : Dev nD) : (dat0 V c).arrAt 4 cfg0.N = up (a := 1024) (b := 768) (V c main_arg1)
    ∧ Stepped (S := S1x1024x768) (V c main_arg0) (up (a := 1024) (b := 768) (V c main_arg1)) (V c main_arg2) (V c main_arg3)
      ((dat0 V c).arrAt 5 cfg0.N) ((dat0 V c).arrAt 6 cfg0.N) ((dat0 V c).arrAt 7 cfg0.N) :=
  have s := fun t => raised (a := 256) (b := 768) hz3 hz2 (after0_4 V c t) (after0_5 V c t) (after0_6 V c t) (after0_7 V c t)
    (g' := fun y => up (a := 1024) (b := 768) (V c main_arg1) ((win0_5.rect t).emb y))
    (funext fun _ => up_at (A := 1024) (B := 768) (V c main_arg1) _ _ (same_coord win0_1 win0_5 t 0 1) (same_coord win0_1 win0_5 t 1 2))
  ⟨held (dat0 V c) 4 _ fun t => (s t).1, held (dat0 V c) 5 _ fun t => (s t).2.1,
    held (dat0 V c) 6 _ fun t => (s t).2.2.1, held (dat0 V c) 7 _ fun t => (s t).2.2.2⟩

/-- Its output weight. -/
theorem arr1 (c : Dev nD) : (dat1 V c).arrAt 4 cfg1.N = up (a := 256) (b := 1024) (V c main_arg5)
    ∧ Stepped (S := S1x256x1024) (V c main_arg4) (up (a := 256) (b := 1024) (V c main_arg5)) (V c main_arg6) (V c main_arg7)
      ((dat1 V c).arrAt 5 cfg1.N) ((dat1 V c).arrAt 6 cfg1.N) ((dat1 V c).arrAt 7 cfg1.N) :=
  have s := fun t => raised (a := 256) (b := 1024) hz3 hz2 (after1_4 V c t) (after1_5 V c t) (after1_6 V c t) (after1_7 V c t)
    (g' := fun y => up (a := 256) (b := 1024) (V c main_arg5) ((win1_5.rect t).emb y))
    (funext fun _ => up_at (A := 256) (B := 1024) (V c main_arg5) _ _ (same_coord win1_1 win1_5 t 0 1) (same_coord win1_1 win1_5 t 1 2))
  ⟨held (dat1 V c) 4 _ fun t => (s t).1, held (dat1 V c) 5 _ fun t => (s t).2.1,
    held (dat1 V c) 6 _ fun t => (s t).2.2.1, held (dat1 V c) 7 _ fun t => (s t).2.2.2⟩

/-- The output weight of the long mixer. -/
theorem arr2 (c : Dev nD) : (dat2 V c).arrAt 4 cfg2.N = up (a := 512) (b := 1024) (V c main_arg9)
    ∧ Stepped (S := S1x512x1024) (V c main_arg8) (up (a := 512) (b := 1024) (V c main_arg9)) (V c main_arg10) (V c main_arg11)
      ((dat2 V c).arrAt 5 cfg2.N) ((dat2 V c).arrAt 6 cfg2.N) ((dat2 V c).arrAt 7 cfg2.N) :=
  have s := fun t => raised (a := 256) (b := 1024) hz3 hz2 (after2_4 V c t) (after2_5 V c t) (after2_6 V c t) (after2_7 V c t)
    (g' := fun y => up (a := 512) (b := 1024) (V c main_arg9) ((win2_5.rect t).emb y))
    (funext fun _ => up_at (A := 512) (B := 1024) (V c main_arg9) _ _ (same_coord win2_1 win2_5 t 0 1) (same_coord win2_1 win2_5 t 1 2))
  ⟨held (dat2 V c) 4 _ fun t => (s t).1, held (dat2 V c) 5 _ fun t => (s t).2.1,
    held (dat2 V c) 6 _ fun t => (s t).2.2.1, held (dat2 V c) 7 _ fun t => (s t).2.2.2⟩

end Cert.AdamMatIdeal.Calls

end
-- ==== Proof.AdamMatKernel.lean ====
/- The optimiser's calls on the projections' weights: what the results hold in the end. -/
module

public import proofs.«01_k».proof.Proof.AdamMatCalls
public import Idealize.ShloMosaic.Adequacy
public import Idealize.ShloMosaic.Init

@[expose] public section

set_option maxRecDepth 16384

noncomputable section

namespace Cert.AdamMatIdeal.Calls

open Cert.AdamMatIdeal Cert.AdamMatIdeal.Gen Cert.AdamSpec Cert.AdamBlocks
open Idealize.ShloMosaic Idealize.ShloMosaic.TcCoe Idealize.ShloMosaic.ValueIdx Idealize.SL.Sem Idealize.SL
open Idealize.ShloMosaic.Pipeline (Dat)

variable (m : (ℓ : Loc nD τ sig) → Buf (Elt Ideal) ℓ) (ρ : Dev nD → PrngReg)

/-! ## Later calls leave a result alone -/

section Kept

variable {m ρ} {c : Dev nD} {r : Ref sig .tc}

theorem kept2 (h : ∀ w, Pipeline.arrRef spec2 w = r → (cfg2.win w).isOut = false := by decide +kernel) : W3 m ρ c r = W2 m ρ c r := W3_of m ρ c r h
theorem kept1 (e : W3 m ρ c r = W2 m ρ c r := by exact kept2) (h : ∀ w, Pipeline.arrRef spec1 w = r → (cfg1.win w).isOut = false := by decide +kernel) :
    W3 m ρ c r = W1 m ρ c r := e.trans (W2_of m ρ c r h)

end Kept

/-- An array as launched. -/
abbrev arg (c : Dev nD) (b : Ref sig .tc) : Buf (Elt Ideal) ((c : Thread nD τ).loc b) := m ((c : Thread nD τ).loc b)

/-! ## What the results hold in the end -/

theorem last0 (c : Dev nD) : W3 m ρ c main_v0_0 = up (a := 1024) (b := 768) (arg m c main_arg1)
    ∧ Stepped (S := S1x1024x768) (arg m c main_arg0) (up (a := 1024) (b := 768) (arg m c main_arg1)) (arg m c main_arg2) (arg m c main_arg3)
      (W3 m ρ c main_v0_1) (W3 m ρ c main_v0_2) (W3 m ρ c main_v0_3) :=
  have s := arr0 (V0 m ρ) c
  ⟨Eq.trans kept1 ((W1_arr m ρ c 4).trans s.1),
    s.2.named rfl rfl rfl rfl (Eq.trans kept1 (W1_arr m ρ c 5)) (Eq.trans kept1 (W1_arr m ρ c 6)) (Eq.trans kept1 (W1_arr m ρ c 7))⟩

theorem last1 (c : Dev nD) : W3 m ρ c main_v1_0 = up (a := 256) (b := 1024) (arg m c main_arg5)
    ∧ Stepped (S := S1x256x1024) (arg m c main_arg4) (up (a := 256) (b := 1024) (arg m c main_arg5)) (arg m c main_arg6) (arg m c main_arg7)
      (W3 m ρ c main_v1_1) (W3 m ρ c main_v1_2) (W3 m ρ c main_v1_3) :=
  have s := arr1 (V1 m ρ) c
  have a := W1_args m ρ c
  have g := congrArg (up (a := 256) (b := 1024)) (a main_arg5 (by decide))
  ⟨Eq.trans kept2 ((W2_arr m ρ c 4).trans (s.1.trans g)), s.2.named (a _ (by decide)) g (a _ (by decide)) (a _ (by decide))
    (Eq.trans kept2 (W2_arr m ρ c 5)) (Eq.trans kept2 (W2_arr m ρ c 6)) (Eq.trans kept2 (W2_arr m ρ c 7))⟩

theorem last2 (c : Dev nD) : W3 m ρ c main_v2_0 = up (a := 512) (b := 1024) (arg m c main_arg9)
    ∧ Stepped (S := S1x512x1024) (arg m c main_arg8) (up (a := 512) (b := 1024) (arg m c main_arg9)) (arg m c main_arg10) (arg m c main_arg11)
      (W3 m ρ c main_v2_1) (W3 m ρ c main_v2_2) (W3 m ρ c main_v2_3) :=
  have s := arr2 (V2 m ρ) c
  have a := W2_args m ρ c
  have g := congrArg (up (a := 512) (b := 1024)) (a main_arg9 (by decide))
  ⟨(W3_arr m ρ c 4).trans (s.1.trans g), s.2.named (a _ (by decide)) g (a _ (by decide)) (a _ (by decide))
    (W3_arr m ρ c 5) (W3_arr m ρ c 6) (W3_arr m ρ c 7)⟩

/-! ## The run -/

open Idealize.ShloMosaic.Tactic Idealize.ShloMosaic.Rounds Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

set_option backward.isDefEq.respectTransparency.types false in
/-- The run leaves every array as the last boundary has it. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

end Cert.AdamMatIdeal.Calls

end
-- ==== Proof.AdamMatEquation.lean ====
/- The optimiser's calls on the projections' weights against the plain update. -/
module

public import proofs.«01_k».proof.Defs
public import proofs.«01_k».proof.Proof.AdamMatKernel
public import proofs.«01_k».proof.Proof.Windows
public import proofs.«01_k».proof.Proof.Gen.AdamMatRefIdeal.Run

@[expose] public section

set_option maxRecDepth 16384

noncomputable section

namespace Cert.AdamMatIdeal.Calls

open Cert.AdamMatIdeal Cert.AdamMatIdeal.Gen Cert.AdamSpec Cert.AdamBlocks Cert.Windows
open Idealize.ShloMosaic Idealize.ShloMosaic.TcCoe Idealize.SL Idealize.SL.Sem

set_option maxHeartbeats 1000000 in
theorem equation : @algebraic_AdamMatIdeal_AdamMatRefIdeal Cert.AdamMatIdeal.Gen.facts Cert.AdamMatRefIdeal.Gen.facts :=
  fun m g m' g' _ hm => ⟨_, _, _, _, _, _, _, _, _, _, _, _,
    upTo (run m g) fun r c h =>
      have f := fun (b : Ref sig .tc) hb => h _ (mem_uc b hb)
      have a := fun (b : Ref sig .tc) hb hb' => (f b hb).trans (W3_args m g c b hb')
      ⟨f main_v0_0 (by decide), f main_v0_1 (by decide), f main_v0_2 (by decide), f main_v0_3 (by decide),
        f main_v1_0 (by decide), f main_v1_1 (by decide), f main_v1_2 (by decide), f main_v1_3 (by decide),
        f main_v2_0 (by decide), f main_v2_1 (by decide), f main_v2_2 (by decide), f main_v2_3 (by decide),
        by and_intros <;> exact a _ (by decide) (by decide)⟩,
    upTo (Cert.AdamMatRefIdeal.Value.run (F := Ideal) m' g') fun r c => by
      obtain ⟨e0, e1, e2, e3, e4, e5, e6, e7, e8, e9, e10, e11⟩ := hm c
      have u0 := (broadcast_up (a := 1024) (b := 768) _ Cert.AdamMatRefIdeal.Gen.bcast_S1024x768_S1x1024x768_1_2).trans (congrArg up e1)
      have u1 := (broadcast_up (a := 256) (b := 1024) _ Cert.AdamMatRefIdeal.Gen.bcast_S256x1024_S1x256x1024_1_2).trans (congrArg up e5)
      have u2 := (broadcast_up (a := 512) (b := 1024) _ Cert.AdamMatRefIdeal.Gen.bcast_S512x1024_S1x512x1024_1_2).trans (congrArg up e9)
      refine And.imp (·.trans (u0.trans (last0 m g c).1.symm)) ((last0 m g c).2.carry (.named ⟨rfl, rfl, rfl⟩ e0 u0 e2 e3 rfl rfl rfl) ?_)
      refine And.imp (·.trans (u1.trans (last1 m g c).1.symm)) ((last1 m g c).2.carry (.named ⟨rfl, rfl, rfl⟩ e4 u1 e6 e7 rfl rfl rfl) ?_)
      exact And.imp (·.trans (u2.trans (last2 m g c).1.symm)) ((last2 m g c).2.carry (.named ⟨rfl, rfl, rfl⟩ e8 u2 e10 e11 rfl rfl rfl) id)⟩

end Cert.AdamMatIdeal.Calls

end
-- ==== Proof.lean ====
module

public import proofs.«01_k».proof.Defs
public import proofs.«01_k».proof.Proof.Windows
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdRefIdeal
public import proofs.«01_k».proof.Proof.Gen.ConvFwdIdeal.Value
public import proofs.«01_k».proof.Proof.Gen.ConvBwdIdeal.Value
public import proofs.«01_k».proof.Proof.Gen.ConvFwdRefIdeal.Run
public import proofs.«01_k».proof.Proof.Gen.ConvFwdRefIdeal.Read
public import proofs.«01_k».proof.Proof.Gen.ConvBwdRefIdeal.Run
public import proofs.«01_k».proof.Proof.Gen.ConvBwdRefIdeal.Read
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.ConvFwdKernel
public import proofs.«01_k».proof.Proof.ConvFwdReference
public import proofs.«01_k».proof.Proof.ConvBwdKernel
public import proofs.«01_k».proof.Proof.ConvBwdReference
public import proofs.«01_k».proof.Proof.MlpBwdKernel
public import proofs.«01_k».proof.Proof.MlpBwdReference
public import Idealize.ShloMosaic.Adequacy
public import Idealize.ShloMosaic.Init
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.MlpFwdKernel
public import proofs.«01_k».proof.Proof.MlpFwdReference
public import proofs.«01_k».proof.Proof.Gen.ScBwd
public import proofs.«01_k».proof.Proof.Gen.ScBwd.Skeleton
public import proofs.«01_k».proof.Proof.Gen.ScBwd.Launch
public import proofs.«01_k».proof.Proof.Gen.ScBwd.Points
public import proofs.«01_k».proof.Proof.Gen.ScBwd.Frame
public import proofs.«01_k».proof.Proof.Gen.ScBwdIdeal
public import proofs.«01_k».proof.Proof.Gen.ScBwdIdeal.Skeleton
public import proofs.«01_k».proof.Proof.Gen.ScBwdIdeal.Launch
public import proofs.«01_k».proof.Proof.Gen.ScBwdIdeal.Points
public import proofs.«01_k».proof.Proof.Gen.ScBwdIdeal.Frame
public import proofs.«01_k».proof.Proof.Gen.ScBwdRefIdeal
public import proofs.«01_k».proof.Proof.Gen.ScBwdRefIdeal.Run
public import proofs.«01_k».proof.Proof.Gen.ScBwdRefIdeal.Read
public import proofs.«01_k».proof.Proof.ScBwdKernel
public import proofs.«01_k».proof.Proof.ScBwdReference
public import proofs.«01_k».proof.Proof.Gen.SsdInBwd
public import proofs.«01_k».proof.Proof.Gen.SsdInBwd.Skeleton
public import proofs.«01_k».proof.Proof.Gen.SsdInBwd.Launch
public import proofs.«01_k».proof.Proof.Gen.SsdInBwd.Points
public import proofs.«01_k».proof.Proof.Gen.SsdInBwd.Frame
public import proofs.«01_k».proof.Proof.Gen.SsdInBwdIdeal
public import proofs.«01_k».proof.Proof.Gen.SsdInBwdIdeal.Skeleton
public import proofs.«01_k».proof.Proof.Gen.SsdInBwdIdeal.Launch
public import proofs.«01_k».proof.Proof.Gen.SsdInBwdIdeal.Points
public import proofs.«01_k».proof.Proof.Gen.SsdInBwdIdeal.Frame
public import proofs.«01_k».proof.Proof.Gen.SsdInBwdRefIdeal
public import proofs.«01_k».proof.Proof.Gen.SsdInBwdRefIdeal.Run
public import proofs.«01_k».proof.Proof.Gen.SsdInBwdRefIdeal.Read
public import proofs.«01_k».proof.Proof.SsdInBwdValue
public import proofs.«01_k».proof.Proof.SsdInBwdReference
public import proofs.«01_k».proof.Proof.Gen.SsdOutBwd
public import proofs.«01_k».proof.Proof.Gen.SsdOutBwd.Skeleton
public import proofs.«01_k».proof.Proof.Gen.SsdOutBwd.Launch
public import proofs.«01_k».proof.Proof.Gen.SsdOutBwd.Points
public import proofs.«01_k».proof.Proof.Gen.SsdOutBwd.Frame
public import proofs.«01_k».proof.Proof.Gen.SsdOutBwdIdeal
public import proofs.«01_k».proof.Proof.Gen.SsdOutBwdIdeal.Skeleton
public import proofs.«01_k».proof.Proof.Gen.SsdOutBwdIdeal.Launch
public import proofs.«01_k».proof.Proof.Gen.SsdOutBwdIdeal.Points
public import proofs.«01_k».proof.Proof.Gen.SsdOutBwdIdeal.Frame
public import proofs.«01_k».proof.Proof.Gen.SsdOutBwdRefIdeal
public import proofs.«01_k».proof.Proof.Gen.SsdOutBwdRefIdeal.Run
public import proofs.«01_k».proof.Proof.Gen.SsdOutBwdRefIdeal.Read
public import proofs.«01_k».proof.Proof.SsdOutBwdKernel
public import proofs.«01_k».proof.Proof.SsdOutBwdReference
public import proofs.«01_k».proof.Proof.Gen.ScFwd
public import proofs.«01_k».proof.Proof.Gen.ScFwd.Skeleton
public import proofs.«01_k».proof.Proof.Gen.ScFwd.Launch
public import proofs.«01_k».proof.Proof.Gen.ScFwd.Points
public import proofs.«01_k».proof.Proof.Gen.ScFwd.Frame
public import proofs.«01_k».proof.Proof.Gen.ScFwdIdeal
public import proofs.«01_k».proof.Proof.Gen.ScFwdIdeal.Skeleton
public import proofs.«01_k».proof.Proof.Gen.ScFwdIdeal.Launch
public import proofs.«01_k».proof.Proof.Gen.ScFwdIdeal.Points
public import proofs.«01_k».proof.Proof.Gen.ScFwdIdeal.Frame
public import proofs.«01_k».proof.Proof.Gen.ScFwdRefIdeal
public import proofs.«01_k».proof.Proof.Gen.ScFwdRefIdeal.Run
public import proofs.«01_k».proof.Proof.Gen.ScFwdRefIdeal.Read
public import proofs.«01_k».proof.Proof.ScFwdKernel
public import proofs.«01_k».proof.Proof.ScFwdReference
public import proofs.«01_k».proof.Proof.Gen.SsdInFwd
public import proofs.«01_k».proof.Proof.Gen.SsdInFwd.Skeleton
public import proofs.«01_k».proof.Proof.Gen.SsdInFwd.Launch
public import proofs.«01_k».proof.Proof.Gen.SsdInFwd.Points
public import proofs.«01_k».proof.Proof.Gen.SsdInFwd.Frame
public import proofs.«01_k».proof.Proof.Gen.SsdInFwdIdeal
public import proofs.«01_k».proof.Proof.Gen.SsdInFwdIdeal.Skeleton
public import proofs.«01_k».proof.Proof.Gen.SsdInFwdIdeal.Launch
public import proofs.«01_k».proof.Proof.Gen.SsdInFwdIdeal.Points
public import proofs.«01_k».proof.Proof.Gen.SsdInFwdIdeal.Frame
public import proofs.«01_k».proof.Proof.Gen.SsdInFwdRefIdeal
public import proofs.«01_k».proof.Proof.Gen.SsdInFwdRefIdeal.Run
public import proofs.«01_k».proof.Proof.Gen.SsdInFwdRefIdeal.Read
public import proofs.«01_k».proof.Proof.SsdInFwdKernel
public import proofs.«01_k».proof.Proof.SsdInFwdReference
public import proofs.«01_k».proof.Proof.Gen.SsdOutFwd
public import proofs.«01_k».proof.Proof.Gen.SsdOutFwd.Skeleton
public import proofs.«01_k».proof.Proof.Gen.SsdOutFwd.Launch
public import proofs.«01_k».proof.Proof.Gen.SsdOutFwd.Points
public import proofs.«01_k».proof.Proof.Gen.SsdOutFwd.Frame
public import proofs.«01_k».proof.Proof.Gen.SsdOutFwdIdeal
public import proofs.«01_k».proof.Proof.Gen.SsdOutFwdIdeal.Skeleton
public import proofs.«01_k».proof.Proof.Gen.SsdOutFwdIdeal.Launch
public import proofs.«01_k».proof.Proof.Gen.SsdOutFwdIdeal.Points
public import proofs.«01_k».proof.Proof.Gen.SsdOutFwdIdeal.Frame
public import proofs.«01_k».proof.Proof.Gen.SsdOutFwdIdeal.Value
public import proofs.«01_k».proof.Proof.Gen.SsdOutFwdRefIdeal
public import proofs.«01_k».proof.Proof.Gen.SsdOutFwdRefIdeal.Run
public import proofs.«01_k».proof.Proof.Gen.SsdOutFwdRefIdeal.Read
public import proofs.«01_k».proof.Proof.SsdOutFwdKernel
public import proofs.«01_k».proof.Proof.SsdOutFwdReference
public import proofs.«01_k».proof.Proof.Gen.AdamVec
public import proofs.«01_k».proof.Proof.Gen.AdamVec.Skeleton
public import proofs.«01_k».proof.Proof.Gen.AdamVec.Launch
public import proofs.«01_k».proof.Proof.Gen.AdamVec.Points
public import proofs.«01_k».proof.Proof.Gen.AdamVec.Frame
public import proofs.«01_k».proof.Proof.Gen.AdamVecIdeal
public import proofs.«01_k».proof.Proof.Gen.AdamVecIdeal.Skeleton
public import proofs.«01_k».proof.Proof.Gen.AdamVecIdeal.Launch
public import proofs.«01_k».proof.Proof.Gen.AdamVecIdeal.Points
public import proofs.«01_k».proof.Proof.Gen.AdamVecIdeal.Frame
public import proofs.«01_k».proof.Proof.Gen.AdamVecRefIdeal
public import proofs.«01_k».proof.Proof.Gen.AdamVecRefIdeal.Run
public import proofs.«01_k».proof.Proof.Gen.AdamVecRefIdeal.Read
public import proofs.«01_k».proof.Proof.Gen.AdamMat
public import proofs.«01_k».proof.Proof.Gen.AdamMat.Skeleton
public import proofs.«01_k».proof.Proof.Gen.AdamMat.Launch
public import proofs.«01_k».proof.Proof.Gen.AdamMat.Points
public import proofs.«01_k».proof.Proof.Gen.AdamMat.Frame
public import proofs.«01_k».proof.Proof.Gen.AdamMatIdeal
public import proofs.«01_k».proof.Proof.Gen.AdamMatIdeal.Skeleton
public import proofs.«01_k».proof.Proof.Gen.AdamMatIdeal.Launch
public import proofs.«01_k».proof.Proof.Gen.AdamMatIdeal.Points
public import proofs.«01_k».proof.Proof.Gen.AdamMatIdeal.Frame
public import proofs.«01_k».proof.Proof.Gen.AdamMatRefIdeal
public import proofs.«01_k».proof.Proof.Gen.AdamMatRefIdeal.Run
public import proofs.«01_k».proof.Proof.Gen.AdamMatRefIdeal.Read
public import proofs.«01_k».proof.Proof.Gen.AdamSsdIn
public import proofs.«01_k».proof.Proof.Gen.AdamSsdIn.Skeleton
public import proofs.«01_k».proof.Proof.Gen.AdamSsdIn.Launch
public import proofs.«01_k».proof.Proof.Gen.AdamSsdIn.Points
public import proofs.«01_k».proof.Proof.Gen.AdamSsdIn.Frame
public import proofs.«01_k».proof.Proof.Gen.AdamSsdInIdeal
public import proofs.«01_k».proof.Proof.Gen.AdamSsdInIdeal.Skeleton
public import proofs.«01_k».proof.Proof.Gen.AdamSsdInIdeal.Launch
public import proofs.«01_k».proof.Proof.Gen.AdamSsdInIdeal.Points
public import proofs.«01_k».proof.Proof.Gen.AdamSsdInIdeal.Frame
public import proofs.«01_k».proof.Proof.Gen.AdamSsdInRefIdeal
public import proofs.«01_k».proof.Proof.Gen.AdamSsdInRefIdeal.Run
public import proofs.«01_k».proof.Proof.Gen.AdamSsdInRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamSsdInEquation
public import proofs.«01_k».proof.Proof.AdamAdaEquation
public import proofs.«01_k».proof.Proof.AdamUpEquation
public import proofs.«01_k».proof.Proof.AdamDownEquation
public import proofs.«01_k».proof.Proof.SumSmallEquation
public import proofs.«01_k».proof.Proof.AdaDwEquation
public import proofs.«01_k».proof.Proof.AdamVecEquation
public import proofs.«01_k».proof.Proof.AdamMatEquation
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.AdaDw
public import proofs.«01_k».proof.Proof.Gen.AdaDw.Skeleton
public import proofs.«01_k».proof.Proof.Gen.AdaDw.Launch
public import proofs.«01_k».proof.Proof.Gen.AdaDw.Points
public import proofs.«01_k».proof.Proof.Gen.AdaDw.Frame
public import proofs.«01_k».proof.Proof.Gen.AdaDwIdeal
public import proofs.«01_k».proof.Proof.Gen.AdaDwIdeal.Skeleton
public import proofs.«01_k».proof.Proof.Gen.AdaDwIdeal.Launch
public import proofs.«01_k».proof.Proof.Gen.AdaDwIdeal.Points
public import proofs.«01_k».proof.Proof.Gen.AdaDwIdeal.Frame
public import proofs.«01_k».proof.Proof.Gen.AdaDwIdeal.Value
public import proofs.«01_k».proof.Proof.Gen.AdaDwRefIdeal
public import proofs.«01_k».proof.Proof.Gen.AdaDwRefIdeal.Run
public import proofs.«01_k».proof.Proof.Gen.AdaDwRefIdeal.Read

@[expose] public section

noncomputable section

namespace Cert.Proof

open Idealize.ShloMosaic Idealize.SL.Sem

open Cert.Windows

/-- The forward call computes what its reference computes. -/
theorem convFwd : @algebraic_ConvFwdIdeal_ConvFwdRefIdeal Cert.ConvFwdIdeal.Gen.facts Cert.ConvFwdRefIdeal.Gen.facts :=
  fun m g m' g' _ hm => ⟨_, _, Cert.ConvFwdIdeal.RefValue.run m g, upTo (Cert.ConvFwdRefIdeal.Value.run (F := Ideal) m' g') fun _ c =>
    And.imp (·.trans ((Cert.ConvFwdRefIdeal.Read.val_main_v27_eq _ _).trans (by rw [(hm c).1, (hm c).2]; exact Cert.ConvFwdRefIdeal.RefValue.v27_eq _ _)))
      (And.imp_left (·.trans ((Cert.ConvFwdRefIdeal.Read.val_main_v47_eq _ _).trans (by rw [(hm c).1, (hm c).2]; exact Cert.ConvFwdRefIdeal.RefValue.v47_eq _ _))))⟩

/-- The backward call computes the gradient. -/
theorem convBwd : @algebraic_ConvBwdIdeal_ConvBwdRefIdeal Cert.ConvBwdIdeal.Gen.facts Cert.ConvBwdRefIdeal.Gen.facts :=
  fun m g m' g' _ hm => ⟨_, _, Cert.ConvBwdIdeal.RefValue.run m g, upTo (Cert.ConvBwdRefIdeal.Value.run (F := Ideal) m' g') fun _ c =>
    And.imp (·.trans ((Cert.ConvBwdRefIdeal.Read.val_main_v65_eq m' c).trans (by rw [(hm c).1, (hm c).2.1, (hm c).2.2]; exact Cert.ConvBwdRefIdeal.RefValue.v65_eq _ _ _)))
      (And.imp_left (·.trans ((Cert.ConvBwdRefIdeal.Read.val_main_v66_eq _ _).trans (by rw [(hm c).1, (hm c).2.1]; exact Cert.ConvBwdRefIdeal.RefValue.v66_eq _ _))))⟩

/-- The multilayer perceptron's four backward products compute its gradient. -/
theorem mlpBwd : @algebraic_MlpBwdIdeal_MlpBwdRefIdeal Cert.MlpBwdIdeal.Gen.facts Cert.MlpBwdRefIdeal.Gen.facts :=
  fun m g m' g' _ hm => ⟨_, _, Cert.MlpBwdIdeal.RefValue.run m g, upTo (Cert.MlpBwdRefIdeal.Value.run (F := Ideal) m' g') fun _ c => by
    obtain ⟨e0, e1, e2, e3⟩ := hm c
    exact And.imp (·.trans ((Cert.MlpBwdRefIdeal.Read.val_main_v20_eq _ _ _ _).trans (by rw [e0, e1, e2, e3]; exact Cert.MlpBwdRefIdeal.RefValue.v20_eq _ _ _ _)))
      (And.imp_left (·.trans ((Cert.MlpBwdRefIdeal.Read.val_main_v25_eq _ _ _ _).trans (by rw [e0, e1, e2, e3]; exact Cert.MlpBwdRefIdeal.RefValue.v25_eq _ _ _ _))))⟩

/-- The multilayer perceptron's two forward products, with the gated residual, compute its value. -/
theorem mlpFwd : @algebraic_MlpFwdIdeal_MlpFwdRefIdeal Cert.MlpFwdIdeal.Gen.facts Cert.MlpFwdRefIdeal.Gen.facts :=
  fun m g m' g' _ hm => ⟨_, _, Cert.MlpFwdIdeal.Calls.run m g, upTo (Cert.MlpFwdRefIdeal.Value.run (F := Ideal) m' g') fun _ c => by
    obtain ⟨e0, e1, e2, e3, e4⟩ := hm c
    exact And.imp (·.trans ((Cert.MlpFwdRefIdeal.Read.val_main_v7_eq _ _ _ _ _).trans (by rw [e0, e1, e2, e3, e4]; exact Cert.MlpFwdRefIdeal.RefValue.v7_eq _ _ _ _ _)))
      (And.imp_left (·.trans ((Cert.MlpFwdRefIdeal.Read.val_main_v8_eq _ _ _).trans (by rw [e2, e3, e4]; exact Cert.MlpFwdRefIdeal.RefValue.v8_eq _ _ _))))⟩

/-- The five calls of the short-convolution mixer's backward pass compute its gradient. -/
theorem scBwd : @algebraic_ScBwdIdeal_ScBwdRefIdeal Cert.ScBwdIdeal.Gen.facts Cert.ScBwdRefIdeal.Gen.facts :=
  fun m g m' g' _ hm => ⟨_, _, _, _, Cert.ScBwdIdeal.Calls.run m g, upTo (Cert.ScBwdRefIdeal.Value.run (F := Ideal) m' g') fun _ c => by
    obtain ⟨e0, e1, e2, e3, e4⟩ := hm c
    exact And.imp (·.trans ((Cert.ScBwdRefIdeal.Read.val_main_v66_eq m' c).trans (by rw [e0, e1, e2, e3, e4]; exact Cert.ScBwdRefIdeal.RefValue.v66_eq _ _ _ _ _)))
      (And.imp (·.trans ((Cert.ScBwdRefIdeal.Read.val_main_v69_eq m' c).trans (by rw [e0, e1, e2, e3, e4]; exact Cert.ScBwdRefIdeal.RefValue.v69_eq _ _ _ _ _)))
      (And.imp (·.trans ((Cert.ScBwdRefIdeal.Read.val_main_v70_eq m' c).trans (by rw [e0, e1, e3, e4]; exact Cert.ScBwdRefIdeal.RefValue.v70_eq _ _ _ _)))
      (And.imp_left (·.trans ((Cert.ScBwdRefIdeal.Read.val_main_v72_eq _ _ _ _).trans (by rw [e0, e1, e2, e4]; exact Cert.ScBwdRefIdeal.RefValue.v72_eq _ _ _ _))))))⟩

/-- The four gradient calls of the state-space mixer's input projection compute its gradient. -/
theorem ssdInBwd : @algebraic_SsdInBwdIdeal_SsdInBwdRefIdeal Cert.SsdInBwdIdeal.Gen.facts Cert.SsdInBwdRefIdeal.Gen.facts :=
  fun m g m' g' _ hm => ⟨_, _, Cert.SsdInBwdIdeal.Calls.run m g, upTo (Cert.SsdInBwdRefIdeal.Value.run (F := Ideal) m' g') fun _ c => by
    obtain ⟨e0, e1, e2, e3⟩ := hm c
    exact And.imp (·.trans ((Cert.SsdInBwdRefIdeal.Read.val_main_v11_eq _ _ _).trans (by rw [e1, e2, e3]; exact Cert.SsdInBwdRefIdeal.RefValue.v11_eq _ _ _)))
      (And.imp_left (·.trans ((Cert.SsdInBwdRefIdeal.Read.val_main_v12_eq _ _ _).trans (by rw [e0, e2, e3]; exact Cert.SsdInBwdRefIdeal.RefValue.v12_eq _ _ _))))⟩

/-- The two gradient calls of the state-space mixer's output projection compute its gradient. -/
theorem ssdOutBwd : @algebraic_SsdOutBwdIdeal_SsdOutBwdRefIdeal Cert.SsdOutBwdIdeal.Gen.facts Cert.SsdOutBwdRefIdeal.Gen.facts :=
  fun m g m' g' _ hm => ⟨_, _, Cert.SsdOutBwdIdeal.Calls.run m g, upTo (Cert.SsdOutBwdRefIdeal.Value.run (F := Ideal) m' g') fun _ c => by
    obtain ⟨e0, e1, e2⟩ := hm c
    exact And.imp (·.trans ((Cert.SsdOutBwdRefIdeal.Read.val_main_v6_eq _ _).trans (by rw [e1, e2]; exact Cert.SsdOutBwdRefIdeal.RefValue.v6_eq _ _)))
      (And.imp_left (·.trans ((Cert.SsdOutBwdRefIdeal.Read.val_main_v8_eq _ _).trans (by rw [e0, e2]; exact Cert.SsdOutBwdRefIdeal.RefValue.v8_eq _ _))))⟩

/-- The three calls of the short-convolution mixer's forward pass compute its value, with the gated residual. -/
theorem scFwd : @algebraic_ScFwdIdeal_ScFwdRefIdeal Cert.ScFwdIdeal.Gen.facts Cert.ScFwdRefIdeal.Gen.facts :=
  fun m g m' g' _ hm => ⟨_, _, Cert.ScFwdIdeal.Calls.run m g, upTo (Cert.ScFwdRefIdeal.Value.run (F := Ideal) m' g') fun _ c => by
    obtain ⟨e0, e1, e2, e3, e4, e5⟩ := hm c
    exact And.imp (·.trans ((Cert.ScFwdRefIdeal.Read.val_main_v28_eq _ _ _ _ _ _).trans (by rw [e0, e1, e2, e3, e4, e5]; exact Cert.ScFwdRefIdeal.RefValue.v28_eq _ _ _ _ _ _)))
      (And.imp_left (·.trans ((Cert.ScFwdRefIdeal.Read.val_main_v29_eq _ _ _ _).trans (by rw [e2, e3, e4, e5]; exact Cert.ScFwdRefIdeal.RefValue.v29_eq _ _ _ _))))⟩

/-- The two calls of the state-space mixer's input projection compute its product. -/
theorem ssdInFwd : @algebraic_SsdInFwdIdeal_SsdInFwdRefIdeal Cert.SsdInFwdIdeal.Gen.facts Cert.SsdInFwdRefIdeal.Gen.facts :=
  fun m g m' g' _ hm => ⟨_, _, Cert.SsdInFwdIdeal.Calls.run m g, upTo (Cert.SsdInFwdRefIdeal.Value.run (F := Ideal) m' g') fun _ c =>
    And.imp (·.trans ((Cert.SsdInFwdRefIdeal.Read.val_main_v4_eq _ _).trans (by rw [(hm c).1, (hm c).2]; exact Cert.SsdInFwdRefIdeal.RefValue.v4_eq _ _)))
      (And.imp_left (·.trans ((Cert.SsdInFwdRefIdeal.Read.val_main_v3_eq _ _).trans (by rw [(hm c).1, (hm c).2]; exact Cert.SsdInFwdRefIdeal.RefValue.v3_eq _ _))))⟩

/-- The call of the state-space mixer's output projection computes its product, with the gated residual. -/
theorem ssdOutFwd : @algebraic_SsdOutFwdIdeal_SsdOutFwdRefIdeal Cert.SsdOutFwdIdeal.Gen.facts Cert.SsdOutFwdRefIdeal.Gen.facts :=
  fun m g m' g' _ hm => ⟨_, _, Cert.SsdOutFwdIdeal.Calls.run m g, upTo (Cert.SsdOutFwdRefIdeal.Value.run (F := Ideal) m' g') fun _ c => by
    obtain ⟨e0, e1, e2, e3⟩ := hm c
    exact And.imp (·.trans ((Cert.SsdOutFwdRefIdeal.Read.val_main_v4_eq _ _ _ _).trans (by rw [e0, e1, e2, e3]; exact Cert.SsdOutFwdRefIdeal.RefValue.v4_eq _ _ _ _)))
      (And.imp_left (·.trans ((Cert.SsdOutFwdRefIdeal.Read.val_main_v5_eq _ _).trans (by rw [e2, e3]; exact Cert.SsdOutFwdRefIdeal.RefValue.v5_eq _ _))))⟩

theorem claim : Cert.Claim := ⟨Cert.ConvFwd.Gen.facts, Cert.ConvFwdIdeal.Gen.facts, Cert.ConvFwdRefIdeal.Gen.facts,
  Cert.ConvBwd.Gen.facts, Cert.ConvBwdIdeal.Gen.facts, Cert.ConvBwdRefIdeal.Gen.facts,
  Cert.MlpBwd.Gen.facts, Cert.MlpBwdIdeal.Gen.facts, Cert.MlpBwdRefIdeal.Gen.facts,
  Cert.MlpFwd.Gen.facts, Cert.MlpFwdIdeal.Gen.facts, Cert.MlpFwdRefIdeal.Gen.facts,
  Cert.ScBwd.Gen.facts, Cert.ScBwdIdeal.Gen.facts, Cert.ScBwdRefIdeal.Gen.facts,
  Cert.SsdInBwd.Gen.facts, Cert.SsdInBwdIdeal.Gen.facts, Cert.SsdInBwdRefIdeal.Gen.facts,
  Cert.SsdOutBwd.Gen.facts, Cert.SsdOutBwdIdeal.Gen.facts, Cert.SsdOutBwdRefIdeal.Gen.facts,
  Cert.ScFwd.Gen.facts, Cert.ScFwdIdeal.Gen.facts, Cert.ScFwdRefIdeal.Gen.facts,
  Cert.SsdInFwd.Gen.facts, Cert.SsdInFwdIdeal.Gen.facts, Cert.SsdInFwdRefIdeal.Gen.facts,
  Cert.SsdOutFwd.Gen.facts, Cert.SsdOutFwdIdeal.Gen.facts, Cert.SsdOutFwdRefIdeal.Gen.facts,
  Cert.AdamVec.Gen.facts, Cert.AdamVecIdeal.Gen.facts, Cert.AdamVecRefIdeal.Gen.facts,
  Cert.AdamMat.Gen.facts, Cert.AdamMatIdeal.Gen.facts, Cert.AdamMatRefIdeal.Gen.facts,
  Cert.AdamSsdIn.Gen.facts, Cert.AdamSsdInIdeal.Gen.facts, Cert.AdamSsdInRefIdeal.Gen.facts,
  Cert.AdamAda.Gen.facts, Cert.AdamAdaIdeal.Gen.facts, Cert.AdamAdaRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.SumSmall.Gen.facts, Cert.SumSmallIdeal.Gen.facts, Cert.SumSmallRefIdeal.Gen.facts,
  Cert.AdaDw.Gen.facts, Cert.AdaDwIdeal.Gen.facts, Cert.AdaDwRefIdeal.Gen.facts,
  fun m ρ _ => Cert.ConvFwd.Gen.frame m ρ,
  fun m ρ _ => Cert.ConvFwdIdeal.Gen.frame m ρ,
  fun m ρ _ => frameOf (by decide) (Cert.ConvFwdRefIdeal.Value.run (F := Ideal) m ρ) fun _ _ h => h.2.2,
  fun m ρ _ => Cert.ConvBwd.Gen.frame m ρ,
  fun m ρ _ => Cert.ConvBwdIdeal.Gen.frame m ρ,
  fun m ρ _ => frameOf (by decide) (Cert.ConvBwdRefIdeal.Value.run (F := Ideal) m ρ) fun _ _ h => h.2.2,
  fun m ρ _ => Cert.MlpBwd.Gen.frame m ρ,
  fun m ρ _ => Cert.MlpBwdIdeal.Gen.frame m ρ,
  fun m ρ _ => frameOf (by decide) (Cert.MlpBwdRefIdeal.Value.run (F := Ideal) m ρ) fun _ _ h => h.2.2,
  fun m ρ _ => Cert.MlpFwd.Gen.frame m ρ,
  fun m ρ _ => Cert.MlpFwdIdeal.Gen.frame m ρ,
  fun m ρ _ => frameOf (by decide) (Cert.MlpFwdRefIdeal.Value.run (F := Ideal) m ρ) fun _ _ h => h.2.2,
  fun m ρ _ => Cert.ScBwd.Gen.frame m ρ,
  fun m ρ _ => Cert.ScBwdIdeal.Gen.frame m ρ,
  fun m ρ _ => frameOf (by decide) (Cert.ScBwdRefIdeal.Value.run (F := Ideal) m ρ) fun _ _ h => h.2.2.2.2,
  fun m ρ _ => Cert.SsdInBwd.Gen.frame m ρ,
  fun m ρ _ => Cert.SsdInBwdIdeal.Gen.frame m ρ,
  fun m ρ _ => frameOf (by decide) (Cert.SsdInBwdRefIdeal.Value.run (F := Ideal) m ρ) fun _ _ h => h.2.2,
  fun m ρ _ => Cert.SsdOutBwd.Gen.frame m ρ,
  fun m ρ _ => Cert.SsdOutBwdIdeal.Gen.frame m ρ,
  fun m ρ _ => frameOf (by decide) (Cert.SsdOutBwdRefIdeal.Value.run (F := Ideal) m ρ) fun _ _ h => h.2.2,
  fun m ρ _ => Cert.ScFwd.Gen.frame m ρ,
  fun m ρ _ => Cert.ScFwdIdeal.Gen.frame m ρ,
  fun m ρ _ => frameOf (by decide) (Cert.ScFwdRefIdeal.Value.run (F := Ideal) m ρ) fun _ _ h => h.2.2,
  fun m ρ _ => Cert.SsdInFwd.Gen.frame m ρ,
  fun m ρ _ => Cert.SsdInFwdIdeal.Gen.frame m ρ,
  fun m ρ _ => frameOf (by decide) (Cert.SsdInFwdRefIdeal.Value.run (F := Ideal) m ρ) fun _ _ h => h.2.2,
  fun m ρ _ => Cert.SsdOutFwd.Gen.frame m ρ,
  fun m ρ _ => Cert.SsdOutFwdIdeal.Gen.frame m ρ,
  fun m ρ _ => frameOf (by decide) (Cert.SsdOutFwdRefIdeal.Value.run (F := Ideal) m ρ) fun _ _ h => h.2.2,
  fun m ρ _ => Cert.AdamVec.Gen.frame m ρ,
  fun m ρ _ => Cert.AdamVecIdeal.Gen.frame m ρ,
  fun m ρ _ => frameOf (by decide) (Cert.AdamVecRefIdeal.Value.run (F := Ideal) m ρ) fun _ _ h => h.2.2.2.2.2.2.2.2.2.2.2.2.2.2.2.2.2.2.2.2.2.2.2.2,
  fun m ρ _ => Cert.AdamMat.Gen.frame m ρ,
  fun m ρ _ => Cert.AdamMatIdeal.Gen.frame m ρ,
  fun m ρ _ => frameOf (by decide) (Cert.AdamMatRefIdeal.Value.run (F := Ideal) m ρ) fun _ _ h => h.2.2.2.2.2.2.2.2.2.2.2.2,
  fun m ρ _ => Cert.AdamSsdIn.Gen.frame m ρ,
  fun m ρ _ => Cert.AdamSsdInIdeal.Gen.frame m ρ,
  fun m ρ _ => frameOf (by decide) (Cert.AdamSsdInRefIdeal.Value.run (F := Ideal) m ρ) fun _ _ h => h.2.2.2.2,
  fun m ρ _ => Cert.AdamAda.Gen.frame m ρ,
  fun m ρ _ => Cert.AdamAdaIdeal.Gen.frame m ρ,
  fun m ρ _ => frameOf (by decide) (Cert.AdamAdaRefIdeal.Value.run (F := Ideal) m ρ) fun _ _ h => h.2.2.2.2,
  fun m ρ _ => Cert.AdamUp.Gen.frame m ρ,
  fun m ρ _ => Cert.AdamUpIdeal.Gen.frame m ρ,
  fun m ρ _ => frameOf (by decide) (Cert.AdamUpRefIdeal.Value.run (F := Ideal) m ρ) fun _ _ h => h.2.2.2.2,
  fun m ρ _ => Cert.AdamDown.Gen.frame m ρ,
  fun m ρ _ => Cert.AdamDownIdeal.Gen.frame m ρ,
  fun m ρ _ => frameOf (by decide) (Cert.AdamDownRefIdeal.Value.run (F := Ideal) m ρ) fun _ _ h => h.2.2.2.2,
  fun m ρ _ => Cert.SumSmall.Gen.frame m ρ,
  fun m ρ _ => Cert.SumSmallIdeal.Gen.frame m ρ,
  fun m ρ _ => frameOf (by decide) (Cert.SumSmallRefIdeal.Value.run (F := Ideal) m ρ) fun _ _ h => h.2.2.2.2.2.2.2.2.2.2.2.2,
  fun m ρ _ => Cert.AdaDw.Gen.frame m ρ,
  fun m ρ _ => Cert.AdaDwIdeal.Gen.frame m ρ,
  fun m ρ _ => frameOf (by decide) (Cert.AdaDwRefIdeal.Value.run (F := Ideal) m ρ) fun _ _ h => h.2,
  trivial, convFwd, trivial, convBwd, trivial, mlpBwd, trivial, mlpFwd, trivial, scBwd, trivial, ssdInBwd, trivial, ssdOutBwd, trivial, scFwd, trivial, ssdInFwd, trivial, ssdOutFwd,
  trivial, Cert.AdamVecIdeal.Calls.equation, trivial, Cert.AdamMatIdeal.Calls.equation, trivial, Cert.AdamSsdInIdeal.Calls.equation,
  trivial, Cert.AdamAdaIdeal.Calls.equation, trivial, Cert.AdamUpIdeal.Calls.equation, trivial, Cert.AdamDownIdeal.Calls.equation,
  trivial, Cert.SumSmallIdeal.Calls.equation, trivial, Cert.AdaDwIdeal.Calls.equation⟩

end Cert.Proof

end
